-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjReferenceIdeal (m : (ℓ : Loc Cert.GdnProjReferenceIdeal.nD Cert.GdnProjReferenceIdeal.τ Cert.GdnProjReferenceIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjReferenceIdeal (m : (ℓ : Loc Cert.MlaProjReferenceIdeal.nD Cert.MlaProjReferenceIdeal.τ Cert.MlaProjReferenceIdeal.sig) → Buf (Elt Ideal) ℓ) : Prop :=
  True

def Pre_MlaUp (m : (ℓ : Loc Cert.MlaUp.nD Cert.MlaUp.τ Cert.MlaUp.sig) → Buf (Elt Bits) ℓ) : Prop :=
  True

def Pre_MlaUpIdeal (m : (ℓ : Loc Cert.MlaUpIdeal.nD Cert.MlaUpIdeal.τ Cert.MlaUpIdeal.sig) → Buf (Elt Ideal) ℓ) : Prop :=
  True

def Pre_MlaUpReferenceIdeal (m : (ℓ : Loc Cert.MlaUpReferenceIdeal.nD Cert.MlaUpReferenceIdeal.τ Cert.MlaUpReferenceIdeal.sig) → Buf (Elt Ideal) ℓ) : Prop :=
  True

def Pre_GdnConv (m : (ℓ : Loc Cert.GdnConv.nD Cert.GdnConv.τ Cert.GdnConv.sig) → Buf (Elt Bits) ℓ) : Prop :=
  True

def Pre_GdnConvIdeal (m : (ℓ : Loc Cert.GdnConvIdeal.nD Cert.GdnConvIdeal.τ Cert.GdnConvIdeal.sig) → Buf (Elt Ideal) ℓ) : Prop :=
  True

def Pre_GdnConvIdeal_finite_gdn_conv [hPre_finite_gdn_conv : Cert.Pre_finite_gdn_conv.Facts] (m : (ℓ : Loc Cert.GdnConvIdeal.nD Cert.GdnConvIdeal.τ Cert.GdnConvIdeal.sig) → Buf (Elt Ideal) ℓ) : Prop :=
  ∀ c : Dev Cert.GdnConvIdeal.nD,
    (Cert.Pre_finite_gdn_conv.fn (F := Ideal) (m ((c.tc : Thread Cert.GdnConvIdeal.nD Cert.GdnConvIdeal.τ).loc Cert.GdnConvIdeal.main_arg0)) (m ((c.tc : Thread Cert.GdnConvIdeal.nD Cert.GdnConvIdeal.τ).loc Cert.GdnConvIdeal.main_arg1)) (m ((c.tc : Thread Cert.GdnConvIdeal.nD Cert.GdnConvIdeal.τ).loc Cert.GdnConvIdeal.main_arg2)) (m ((c.tc : Thread Cert.GdnConvIdeal.nD Cert.GdnConvIdeal.τ).loc Cert.GdnConvIdeal.main_arg3)) (m ((c.tc : Thread Cert.GdnConvIdeal.nD Cert.GdnConvIdeal.τ).loc Cert.GdnConvIdeal.main_arg4))).1 = (fun _ => 1#1)
    ∧ (Cert.Pre_finite_gdn_conv.fn (F := Ideal) (m ((c.tc : Thread Cert.GdnConvIdeal.nD Cert.GdnConvIdeal.τ).loc Cert.GdnConvIdeal.main_arg0)) (m ((c.tc : Thread Cert.GdnConvIdeal.nD Cert.GdnConvIdeal.τ).loc Cert.GdnConvIdeal.main_arg1)) (m ((c.tc : Thread Cert.GdnConvIdeal.nD Cert.GdnConvIdeal.τ).loc Cert.GdnConvIdeal.main_arg2)) (m ((c.tc : Thread Cert.GdnConvIdeal.nD Cert.GdnConvIdeal.τ).loc Cert.GdnConvIdeal.main_arg3)) (m ((c.tc : Thread Cert.GdnConvIdeal.nD Cert.GdnConvIdeal.τ).loc Cert.GdnConvIdeal.main_arg4))).2.1 = (fun _ => 1#1)
    ∧ (Cert.Pre_finite_gdn_conv.fn (F := Ideal) (m ((c.tc : Thread Cert.GdnConvIdeal.nD Cert.GdnConvIdeal.τ).loc Cert.GdnConvIdeal.main_arg0)) (m ((c.tc : Thread Cert.GdnConvIdeal.nD Cert.GdnConvIdeal.τ).loc Cert.GdnConvIdeal.main_arg1)) (m ((c.tc : Thread Cert.GdnConvIdeal.nD Cert.GdnConvIdeal.τ).loc Cert.GdnConvIdeal.main_arg2)) (m ((c.tc : Thread Cert.GdnConvIdeal.nD Cert.GdnConvIdeal.τ).loc Cert.GdnConvIdeal.main_arg3)) (m ((c.tc : Thread Cert.GdnConvIdeal.nD Cert.GdnConvIdeal.τ).loc Cert.GdnConvIdeal.main_arg4))).2.2.1 = (fun _ => 1#1)
    ∧ (Cert.Pre_finite_gdn_conv.fn (F := Ideal) (m ((c.tc : Thread Cert.GdnConvIdeal.nD Cert.GdnConvIdeal.τ).loc Cert.GdnConvIdeal.main_arg0)) (m ((c.tc : Thread Cert.GdnConvIdeal.nD Cert.GdnConvIdeal.τ).loc Cert.GdnConvIdeal.main_arg1)) (m ((c.tc : Thread Cert.GdnConvIdeal.nD Cert.GdnConvIdeal.τ).loc Cert.GdnConvIdeal.main_arg2)) (m ((c.tc : Thread Cert.GdnConvIdeal.nD Cert.GdnConvIdeal.τ).loc Cert.GdnConvIdeal.main_arg3)) (m ((c.tc : Thread Cert.GdnConvIdeal.nD Cert.GdnConvIdeal.τ).loc Cert.GdnConvIdeal.main_arg4))).2.2.2.1 = (fun _ => 1#1)
    ∧ (Cert.Pre_finite_gdn_conv.fn (F := Ideal) (m ((c.tc : Thread Cert.GdnConvIdeal.nD Cert.GdnConvIdeal.τ).loc Cert.GdnConvIdeal.main_arg0)) (m ((c.tc : Thread Cert.GdnConvIdeal.nD Cert.GdnConvIdeal.τ).loc Cert.GdnConvIdeal.main_arg1)) (m ((c.tc : Thread Cert.GdnConvIdeal.nD Cert.GdnConvIdeal.τ).loc Cert.GdnConvIdeal.main_arg2)) (m ((c.tc : Thread Cert.GdnConvIdeal.nD Cert.GdnConvIdeal.τ).loc Cert.GdnConvIdeal.main_arg3)) (m ((c.tc : Thread Cert.GdnConvIdeal.nD Cert.GdnConvIdeal.τ).loc Cert.GdnConvIdeal.main_arg4))).2.2.2.2 = (fun _ => 1#1)

def Pre_GdnConvReferenceIdeal (m : (ℓ : Loc Cert.GdnConvReferenceIdeal.nD Cert.GdnConvReferenceIdeal.τ Cert.GdnConvReferenceIdeal.sig) → Buf (Elt Ideal) ℓ) : Prop :=
  True

def Pre_GdnConvReferenceIdeal_finite_gdn_conv [hPre_finite_gdn_conv : Cert.Pre_finite_gdn_conv.Facts] (m : (ℓ : Loc Cert.GdnConvReferenceIdeal.nD Cert.GdnConvReferenceIdeal.τ Cert.GdnConvReferenceIdeal.sig) → Buf (Elt Ideal) ℓ) : Prop :=
  ∀ c : Dev Cert.GdnConvReferenceIdeal.nD,
    (Cert.Pre_finite_gdn_conv.fn (F := Ideal) (m ((c.tc : Thread Cert.GdnConvReferenceIdeal.nD Cert.GdnConvReferenceIdeal.τ).loc Cert.GdnConvReferenceIdeal.main_arg0)) (m ((c.tc : Thread Cert.GdnConvReferenceIdeal.nD Cert.GdnConvReferenceIdeal.τ).loc Cert.GdnConvReferenceIdeal.main_arg1)) (m ((c.tc : Thread Cert.GdnConvReferenceIdeal.nD Cert.GdnConvReferenceIdeal.τ).loc Cert.GdnConvReferenceIdeal.main_arg2)) (m ((c.tc : Thread Cert.GdnConvReferenceIdeal.nD Cert.GdnConvReferenceIdeal.τ).loc Cert.GdnConvReferenceIdeal.main_arg3)) (m ((c.tc : Thread Cert.GdnConvReferenceIdeal.nD Cert.GdnConvReferenceIdeal.τ).loc Cert.GdnConvReferenceIdeal.main_arg4))).1 = (fun _ => 1#1)
    ∧ (Cert.Pre_finite_gdn_conv.fn (F := Ideal) (m ((c.tc : Thread Cert.GdnConvReferenceIdeal.nD Cert.GdnConvReferenceIdeal.τ).loc Cert.GdnConvReferenceIdeal.main_arg0)) (m ((c.tc : Thread Cert.GdnConvReferenceIdeal.nD Cert.GdnConvReferenceIdeal.τ).loc Cert.GdnConvReferenceIdeal.main_arg1)) (m ((c.tc : Thread Cert.GdnConvReferenceIdeal.nD Cert.GdnConvReferenceIdeal.τ).loc Cert.GdnConvReferenceIdeal.main_arg2)) (m ((c.tc : Thread Cert.GdnConvReferenceIdeal.nD Cert.GdnConvReferenceIdeal.τ).loc Cert.GdnConvReferenceIdeal.main_arg3)) (m ((c.tc : Thread Cert.GdnConvReferenceIdeal.nD Cert.GdnConvReferenceIdeal.τ).loc Cert.GdnConvReferenceIdeal.main_arg4))).2.1 = (fun _ => 1#1)
    ∧ (Cert.Pre_finite_gdn_conv.fn (F := Ideal) (m ((c.tc : Thread Cert.GdnConvReferenceIdeal.nD Cert.GdnConvReferenceIdeal.τ).loc Cert.GdnConvReferenceIdeal.main_arg0)) (m ((c.tc : Thread Cert.GdnConvReferenceIdeal.nD Cert.GdnConvReferenceIdeal.τ).loc Cert.GdnConvReferenceIdeal.main_arg1)) (m ((c.tc : Thread Cert.GdnConvReferenceIdeal.nD Cert.GdnConvReferenceIdeal.τ).loc Cert.GdnConvReferenceIdeal.main_arg2)) (m ((c.tc : Thread Cert.GdnConvReferenceIdeal.nD Cert.GdnConvReferenceIdeal.τ).loc Cert.GdnConvReferenceIdeal.main_arg3)) (m ((c.tc : Thread Cert.GdnConvReferenceIdeal.nD Cert.GdnConvReferenceIdeal.τ).loc Cert.GdnConvReferenceIdeal.main_arg4))).2.2.1 = (fun _ => 1#1)
    ∧ (Cert.Pre_finite_gdn_conv.fn (F := Ideal) (m ((c.tc : Thread Cert.GdnConvReferenceIdeal.nD Cert.GdnConvReferenceIdeal.τ).loc Cert.GdnConvReferenceIdeal.main_arg0)) (m ((c.tc : Thread Cert.GdnConvReferenceIdeal.nD Cert.GdnConvReferenceIdeal.τ).loc Cert.GdnConvReferenceIdeal.main_arg1)) (m ((c.tc : Thread Cert.GdnConvReferenceIdeal.nD Cert.GdnConvReferenceIdeal.τ).loc Cert.GdnConvReferenceIdeal.main_arg2)) (m ((c.tc : Thread Cert.GdnConvReferenceIdeal.nD Cert.GdnConvReferenceIdeal.τ).loc Cert.GdnConvReferenceIdeal.main_arg3)) (m ((c.tc : Thread Cert.GdnConvReferenceIdeal.nD Cert.GdnConvReferenceIdeal.τ).loc Cert.GdnConvReferenceIdeal.main_arg4))).2.2.2.1 = (fun _ => 1#1)
    ∧ (Cert.Pre_finite_gdn_conv.fn (F := Ideal) (m ((c.tc : Thread Cert.GdnConvReferenceIdeal.nD Cert.GdnConvReferenceIdeal.τ).loc Cert.GdnConvReferenceIdeal.main_arg0)) (m ((c.tc : Thread Cert.GdnConvReferenceIdeal.nD Cert.GdnConvReferenceIdeal.τ).loc Cert.GdnConvReferenceIdeal.main_arg1)) (m ((c.tc : Thread Cert.GdnConvReferenceIdeal.nD Cert.GdnConvReferenceIdeal.τ).loc Cert.GdnConvReferenceIdeal.main_arg2)) (m ((c.tc : Thread Cert.GdnConvReferenceIdeal.nD Cert.GdnConvReferenceIdeal.τ).loc Cert.GdnConvReferenceIdeal.main_arg3)) (m ((c.tc : Thread Cert.GdnConvReferenceIdeal.nD Cert.GdnConvReferenceIdeal.τ).loc Cert.GdnConvReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1)
      ∧ r.2.mem ((c.tc : Thread Cert.GdnProj.nD Cert.GdnProj.τ).loc Cert.GdnProj.main_arg2) = m ((c.tc : Thread Cert.GdnProj.nD Cert.GdnProj.τ).loc Cert.GdnProj.main_arg2)
      ∧ r.2.mem ((c.tc : Thread Cert.GdnProj.nD Cert.GdnProj.τ).loc Cert.GdnProj.main_arg3) = m ((c.tc : Thread Cert.GdnProj.nD Cert.GdnProj.τ).loc Cert.GdnProj.main_arg3)
      ∧ r.2.mem ((c.tc : Thread Cert.GdnProj.nD Cert.GdnProj.τ).loc Cert.GdnProj.main_arg4) = m ((c.tc : Thread Cert.GdnProj.nD Cert.GdnProj.τ).loc Cert.GdnProj.main_arg4)
      ∧ r.2.mem ((c.tc : Thread Cert.GdnProj.nD Cert.GdnProj.τ).loc Cert.GdnProj.main_arg5) = m ((c.tc : Thread Cert.GdnProj.nD Cert.GdnProj.τ).loc Cert.GdnProj.main_arg5))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
      ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2)
      ∧ r.2.mem ((c.tc : Thread Cert.GdnProjIdeal.nD Cert.GdnProjIdeal.τ).loc Cert.GdnProjIdeal.main_arg3) = m ((c.tc : Thread Cert.GdnProjIdeal.nD Cert.GdnProjIdeal.τ).loc Cert.GdnProjIdeal.main_arg3)
      ∧ r.2.mem ((c.tc : Thread Cert.GdnProjIdeal.nD Cert.GdnProjIdeal.τ).loc Cert.GdnProjIdeal.main_arg4) = m ((c.tc : Thread Cert.GdnProjIdeal.nD Cert.GdnProjIdeal.τ).loc Cert.GdnProjIdeal.main_arg4)
      ∧ r.2.mem ((c.tc : Thread Cert.GdnProjIdeal.nD Cert.GdnProjIdeal.τ).loc Cert.GdnProjIdeal.main_arg5) = m ((c.tc : Thread Cert.GdnProjIdeal.nD Cert.GdnProjIdeal.τ).loc Cert.GdnProjIdeal.main_arg5))
      ∧ r.2.sem = fun _ => 0)

def quiescent_GdnProjReferenceIdeal [hGdnProjReferenceIdeal : Cert.GdnProjReferenceIdeal.Facts] : Prop :=
  ∀ (m : (ℓ : Loc Cert.GdnProjReferenceIdeal.nD Cert.GdnProjReferenceIdeal.τ Cert.GdnProjReferenceIdeal.sig) → Buf (Elt Ideal) ℓ) (g : Dev Cert.GdnProjReferenceIdeal.nD → PrngReg), Pre_GdnProjReferenceIdeal m →
    θ_run (Cert.GdnProjReferenceIdeal.defs (F := Ideal)) (onTc (τ := Cert.GdnProjReferenceIdeal.τ) (Cert.GdnProjReferenceIdeal.main (F := Ideal))) ⟨m, fun _ => 0, g⟩ (fun r => (∀ c : Dev Cert.GdnProjReferenceIdeal.nD,
      r.2.mem ((c.tc : Thread Cert.GdnProjReferenceIdeal.nD Cert.GdnProjReferenceIdeal.τ).loc Cert.GdnProjReferenceIdeal.main_arg0) = m ((c.tc : Thread Cert.GdnProjReferenceIdeal.nD Cert.GdnProjReferenceIdeal.τ).loc Cert.GdnProjReferenceIdeal.main_arg0)
      ∧ r.2.mem ((c.tc : Thread Cert.GdnProjReferenceIdeal.nD Cert.GdnProjReferenceIdeal.τ).loc Cert.GdnProjReferenceIdeal.main_arg1) = m ((c.tc : Thread Cert.GdnProjReferenceIdeal.nD Cert.GdnProjReferenceIdeal.τ).loc Cert.GdnProjReferenceIdeal.main_arg1)
      ∧ r.2.mem ((c.tc : Thread Cert.GdnProjReferenceIdeal.nD Cert.GdnProjReferenceIdeal.τ).loc Cert.GdnProjReferenceIdeal.main_arg2) = m ((c.tc : Thread Cert.GdnProjReferenceIdeal.nD Cert.GdnProjReferenceIdeal.τ).loc Cert.GdnProjReferenceIdeal.main_arg2)
      ∧ r.2.mem ((c.tc : Thread Cert.GdnProjReferenceIdeal.nD Cert.GdnProjReferenceIdeal.τ).loc Cert.GdnProjReferenceIdeal.main_arg3) = m ((c.tc : Thread Cert.GdnProjReferenceIdeal.nD Cert.GdnProjReferenceIdeal.τ).loc Cert.GdnProjReferenceIdeal.main_arg3)
      ∧ r.2.mem ((c.tc : Thread Cert.GdnProjReferenceIdeal.nD Cert.GdnProjReferenceIdeal.τ).loc Cert.GdnProjReferenceIdeal.main_arg4) = m ((c.tc : Thread Cert.GdnProjReferenceIdeal.nD Cert.GdnProjReferenceIdeal.τ).loc Cert.GdnProjReferenceIdeal.main_arg4)
      ∧ r.2.mem ((c.tc : Thread Cert.GdnProjReferenceIdeal.nD Cert.GdnProjReferenceIdeal.τ).loc Cert.GdnProjReferenceIdeal.main_arg5) = m ((c.tc : Thread Cert.GdnProjReferenceIdeal.nD Cert.GdnProjReferenceIdeal.τ).loc Cert.GdnProjReferenceIdeal.main_arg5))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5))
      ∧ r.2.sem = fun _ => 0)

def quiescent_MlaProjReferenceIdeal [hMlaProjReferenceIdeal : Cert.MlaProjReferenceIdeal.Facts] : Prop :=
  ∀ (m : (ℓ : Loc Cert.MlaProjReferenceIdeal.nD Cert.MlaProjReferenceIdeal.τ Cert.MlaProjReferenceIdeal.sig) → Buf (Elt Ideal) ℓ) (g : Dev Cert.MlaProjReferenceIdeal.nD → PrngReg), Pre_MlaProjReferenceIdeal m →
    θ_run (Cert.MlaProjReferenceIdeal.defs (F := Ideal)) (onTc (τ := Cert.MlaProjReferenceIdeal.τ) (Cert.MlaProjReferenceIdeal.main (F := Ideal))) ⟨m, fun _ => 0, g⟩ (fun r => (∀ c : Dev Cert.MlaProjReferenceIdeal.nD,
      r.2.mem ((c.tc : Thread Cert.MlaProjReferenceIdeal.nD Cert.MlaProjReferenceIdeal.τ).loc Cert.MlaProjReferenceIdeal.main_arg0) = m ((c.tc : Thread Cert.MlaProjReferenceIdeal.nD Cert.MlaProjReferenceIdeal.τ).loc Cert.MlaProjReferenceIdeal.main_arg0)
      ∧ r.2.mem ((c.tc : Thread Cert.MlaProjReferenceIdeal.nD Cert.MlaProjReferenceIdeal.τ).loc Cert.MlaProjReferenceIdeal.main_arg1) = m ((c.tc : Thread Cert.MlaProjReferenceIdeal.nD Cert.MlaProjReferenceIdeal.τ).loc Cert.MlaProjReferenceIdeal.main_arg1)
      ∧ r.2.mem ((c.tc : Thread Cert.MlaProjReferenceIdeal.nD Cert.MlaProjReferenceIdeal.τ).loc Cert.MlaProjReferenceIdeal.main_arg2) = m ((c.tc : Thread Cert.MlaProjReferenceIdeal.nD Cert.MlaProjReferenceIdeal.τ).loc Cert.MlaProjReferenceIdeal.main_arg2)
      ∧ r.2.mem ((c.tc : Thread Cert.MlaProjReferenceIdeal.nD Cert.MlaProjReferenceIdeal.τ).loc Cert.MlaProjReferenceIdeal.main_arg3) = m ((c.tc : Thread Cert.MlaProjReferenceIdeal.nD Cert.MlaProjReferenceIdeal.τ).loc Cert.MlaProjReferenceIdeal.main_arg3)
      ∧ r.2.mem ((c.tc : Thread Cert.MlaProjReferenceIdeal.nD Cert.MlaProjReferenceIdeal.τ).loc Cert.MlaProjReferenceIdeal.main_arg4) = m ((c.tc : Thread Cert.MlaProjReferenceIdeal.nD Cert.MlaProjReferenceIdeal.τ).loc Cert.MlaProjReferenceIdeal.main_arg4)
      ∧ r.2.mem ((c.tc : Thread Cert.MlaProjReferenceIdeal.nD Cert.MlaProjReferenceIdeal.τ).loc Cert.MlaProjReferenceIdeal.main_arg5) = m ((c.tc : Thread Cert.MlaProjReferenceIdeal.nD Cert.MlaProjReferenceIdeal.τ).loc Cert.MlaProjReferenceIdeal.main_arg5))
      ∧ r.2.sem = fun _ => 0)

def quiescent_MlaUp [hMlaUp : Cert.MlaUp.Facts] : Prop :=
  ∀ (m : (ℓ : Loc Cert.MlaUp.nD Cert.MlaUp.τ Cert.MlaUp.sig) → Buf (Elt Bits) ℓ) (g : Dev Cert.MlaUp.nD → PrngReg), Pre_MlaUp m →
    θ_run (Cert.MlaUp.defs (F := Bits)) (onTc (τ := Cert.MlaUp.τ) (Cert.MlaUp.main (F := Bits))) ⟨m, fun _ => 0, g⟩ (fun r => (∀ c : Dev Cert.MlaUp.nD,
      r.2.mem ((c.tc : Thread Cert.MlaUp.nD Cert.MlaUp.τ).loc Cert.MlaUp.main_arg0) = m ((c.tc : Thread Cert.MlaUp.nD Cert.MlaUp.τ).loc Cert.MlaUp.main_arg0)
      ∧ r.2.mem ((c.tc : Thread Cert.MlaUp.nD Cert.MlaUp.τ).loc Cert.MlaUp.main_arg1) = m ((c.tc : Thread Cert.MlaUp.nD Cert.MlaUp.τ).loc Cert.MlaUp.main_arg1)
      ∧ r.2.mem ((c.tc : Thread Cert.MlaUp.nD Cert.MlaUp.τ).loc Cert.MlaUp.main_arg2) = m ((c.tc : Thread Cert.MlaUp.nD Cert.MlaUp.τ).loc Cert.MlaUp.main_arg2)
      ∧ r.2.mem ((c.tc : Thread Cert.MlaUp.nD Cert.MlaUp.τ).loc Cert.MlaUp.main_arg3) = m ((c.tc : Thread Cert.MlaUp.nD Cert.MlaUp.τ).loc Cert.MlaUp.main_arg3)
      ∧ r.2.mem ((c.tc : Thread Cert.MlaUp.nD Cert.MlaUp.τ).loc Cert.MlaUp.main_arg4) = m ((c.tc : Thread Cert.MlaUp.nD Cert.MlaUp.τ).loc Cert.MlaUp.main_arg4)
      ∧ r.2.mem ((c.tc : Thread Cert.MlaUp.nD Cert.MlaUp.τ).loc Cert.MlaUp.main_arg5) = m ((c.tc : Thread Cert.MlaUp.nD Cert.MlaUp.τ).loc Cert.MlaUp.main_arg5))
      ∧ r.2.sem = fun _ => 0)

def quiescent_MlaUpIdeal [hMlaUpIdeal : Cert.MlaUpIdeal.Facts] : Prop :=
  ∀ (m : (ℓ : Loc Cert.MlaUpIdeal.nD Cert.MlaUpIdeal.τ Cert.MlaUpIdeal.sig) → Buf (Elt Ideal) ℓ) (g : Dev Cert.MlaUpIdeal.nD → PrngReg), Pre_MlaUpIdeal m →
    θ_run (Cert.MlaUpIdeal.defs (F := Ideal)) (onTc (τ := Cert.MlaUpIdeal.τ) (Cert.MlaUpIdeal.main (F := Ideal))) ⟨m, fun _ => 0, g⟩ (fun r => (∀ c : Dev Cert.MlaUpIdeal.nD,
      r.2.mem ((c.tc : Thread Cert.MlaUpIdeal.nD Cert.MlaUpIdeal.τ).loc Cert.MlaUpIdeal.main_arg0) = m ((c.tc : Thread Cert.MlaUpIdeal.nD Cert.MlaUpIdeal.τ).loc Cert.MlaUpIdeal.main_arg0)
      ∧ r.2.mem ((c.tc : Thread Cert.MlaUpIdeal.nD Cert.MlaUpIdeal.τ).loc Cert.MlaUpIdeal.main_arg1) = m ((c.tc : Thread Cert.MlaUpIdeal.nD Cert.MlaUpIdeal.τ).loc Cert.MlaUpIdeal.main_arg1)
      ∧ r.2.mem ((c.tc : Thread Cert.MlaUpIdeal.nD Cert.MlaUpIdeal.τ).loc Cert.MlaUpIdeal.main_arg2) = m ((c.tc : Thread Cert.MlaUpIdeal.nD Cert.MlaUpIdeal.τ).loc Cert.MlaUpIdeal.main_arg2)
      ∧ r.2.mem ((c.tc : Thread Cert.MlaUpIdeal.nD Cert.MlaUpIdeal.τ).loc Cert.MlaUpIdeal.main_arg3) = m ((c.tc : Thread Cert.MlaUpIdeal.nD Cert.MlaUpIdeal.τ).loc Cert.MlaUpIdeal.main_arg3)
      ∧ r.2.mem ((c.tc : Thread Cert.MlaUpIdeal.nD Cert.MlaUpIdeal.τ).loc Cert.MlaUpIdeal.main_arg4) = m ((c.tc : Thread Cert.MlaUpIdeal.nD Cert.MlaUpIdeal.τ).loc Cert.MlaUpIdeal.main_arg4)
      ∧ r.2.mem ((c.tc : Thread Cert.MlaUpIdeal.nD Cert.MlaUpIdeal.τ).loc Cert.MlaUpIdeal.main_arg5) = m ((c.tc : Thread Cert.MlaUpIdeal.nD Cert.MlaUpIdeal.τ).loc Cert.MlaUpIdeal.main_arg5))
      ∧ r.2.sem = fun _ => 0)

def quiescent_MlaUpReferenceIdeal [hMlaUpReferenceIdeal : Cert.MlaUpReferenceIdeal.Facts] : Prop :=
  ∀ (m : (ℓ : Loc Cert.MlaUpReferenceIdeal.nD Cert.MlaUpReferenceIdeal.τ Cert.MlaUpReferenceIdeal.sig) → Buf (Elt Ideal) ℓ) (g : Dev Cert.MlaUpReferenceIdeal.nD → PrngReg), Pre_MlaUpReferenceIdeal m →
    θ_run (Cert.MlaUpReferenceIdeal.defs (F := Ideal)) (onTc (τ := Cert.MlaUpReferenceIdeal.τ) (Cert.MlaUpReferenceIdeal.main (F := Ideal))) ⟨m, fun _ => 0, g⟩ (fun r => (∀ c : Dev Cert.MlaUpReferenceIdeal.nD,
      r.2.mem ((c.tc : Thread Cert.MlaUpReferenceIdeal.nD Cert.MlaUpReferenceIdeal.τ).loc Cert.MlaUpReferenceIdeal.main_arg0) = m ((c.tc : Thread Cert.MlaUpReferenceIdeal.nD Cert.MlaUpReferenceIdeal.τ).loc Cert.MlaUpReferenceIdeal.main_arg0)
      ∧ r.2.mem ((c.tc : Thread Cert.MlaUpReferenceIdeal.nD Cert.MlaUpReferenceIdeal.τ).loc Cert.MlaUpReferenceIdeal.main_arg1) = m ((c.tc : Thread Cert.MlaUpReferenceIdeal.nD Cert.MlaUpReferenceIdeal.τ).loc Cert.MlaUpReferenceIdeal.main_arg1)
      ∧ r.2.mem ((c.tc : Thread Cert.MlaUpReferenceIdeal.nD Cert.MlaUpReferenceIdeal.τ).loc Cert.MlaUpReferenceIdeal.main_arg2) = m ((c.tc : Thread Cert.MlaUpReferenceIdeal.nD Cert.MlaUpReferenceIdeal.τ).loc Cert.MlaUpReferenceIdeal.main_arg2)
      ∧ r.2.mem ((c.tc : Thread Cert.MlaUpReferenceIdeal.nD Cert.MlaUpReferenceIdeal.τ).loc Cert.MlaUpReferenceIdeal.main_arg3) = m ((c.tc : Thread Cert.MlaUpReferenceIdeal.nD Cert.MlaUpReferenceIdeal.τ).loc Cert.MlaUpReferenceIdeal.main_arg3)
      ∧ r.2.mem ((c.tc : Thread Cert.MlaUpReferenceIdeal.nD Cert.MlaUpReferenceIdeal.τ).loc Cert.MlaUpReferenceIdeal.main_arg4) = m ((c.tc : Thread Cert.MlaUpReferenceIdeal.nD Cert.MlaUpReferenceIdeal.τ).loc Cert.MlaUpReferenceIdeal.main_arg4)
      ∧ r.2.mem ((c.tc : Thread Cert.MlaUpReferenceIdeal.nD Cert.MlaUpReferenceIdeal.τ).loc Cert.MlaUpReferenceIdeal.main_arg5) = m ((c.tc : Thread Cert.MlaUpReferenceIdeal.nD Cert.MlaUpReferenceIdeal.τ).loc Cert.MlaUpReferenceIdeal.main_arg5))
      ∧ r.2.sem = fun _ => 0)

def quiescent_GdnConv [hGdnConv : Cert.GdnConv.Facts] : Prop :=
  ∀ (m : (ℓ : Loc Cert.GdnConv.nD Cert.GdnConv.τ Cert.GdnConv.sig) → Buf (Elt Bits) ℓ) (g : Dev Cert.GdnConv.nD → PrngReg), Pre_GdnConv m →
    θ_run (Cert.GdnConv.defs (F := Bits)) (onTc (τ := Cert.GdnConv.τ) (Cert.GdnConv.main (F := Bits))) ⟨m, fun _ => 0, g⟩ (fun r => (∀ c : Dev Cert.GdnConv.nD,
      r.2.mem ((c.tc : Thread Cert.GdnConv.nD Cert.GdnConv.τ).loc Cert.GdnConv.main_arg0) = m ((c.tc : Thread Cert.GdnConv.nD Cert.GdnConv.τ).loc Cert.GdnConv.main_arg0)
      ∧ r.2.mem ((c.tc : Thread Cert.GdnConv.nD Cert.GdnConv.τ).loc Cert.GdnConv.main_arg1) = m ((c.tc : Thread Cert.GdnConv.nD Cert.GdnConv.τ).loc Cert.GdnConv.main_arg1)
      ∧ r.2.mem ((c.tc : Thread Cert.GdnConv.nD Cert.GdnConv.τ).loc Cert.GdnConv.main_arg2) = m ((c.tc : Thread Cert.GdnConv.nD Cert.GdnConv.τ).loc Cert.GdnConv.main_arg2)
      ∧ r.2.mem ((c.tc : Thread Cert.GdnConv.nD Cert.GdnConv.τ).loc Cert.GdnConv.main_arg3) = m ((c.tc : Thread Cert.GdnConv.nD Cert.GdnConv.τ).loc Cert.GdnConv.main_arg3)
      ∧ r.2.mem ((c.tc : Thread Cert.GdnConv.nD Cert.GdnConv.τ).loc Cert.GdnConv.main_arg4) = m ((c.tc : Thread Cert.GdnConv.nD Cert.GdnConv.τ).loc Cert.GdnConv.main_arg4))
      ∧ r.2.sem = fun _ => 0)

def quiescent_GdnConvIdeal [hGdnConvIdeal : Cert.GdnConvIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
      ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
      ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3)
      ∧ r.2.mem ((c.tc : Thread Cert.GdnConvIdeal.nD Cert.GdnConvIdeal.τ).loc Cert.GdnConvIdeal.main_arg4) = m ((c.tc : Thread Cert.GdnConvIdeal.nD Cert.GdnConvIdeal.τ).loc Cert.GdnConvIdeal.main_arg4))
      ∧ r.2.sem = fun _ => 0)

def quiescent_GdnConvIdeal_pre_finite_gdn_conv [hGdnConvIdeal : Cert.GdnConvIdeal.Facts] [hPre_finite_gdn_conv : Cert.Pre_finite_gdn_conv.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal_finite_gdn_conv m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
      ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
      ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3)
      ∧ r.2.mem ((c.tc : Thread Cert.GdnConvIdeal.nD Cert.GdnConvIdeal.τ).loc Cert.GdnConvIdeal.main_arg4) = m ((c.tc : Thread Cert.GdnConvIdeal.nD Cert.GdnConvIdeal.τ).loc Cert.GdnConvIdeal.main_arg4))
      ∧ r.2.sem = fun _ => 0)

def quiescent_GdnConvReferenceIdeal [hGdnConvReferenceIdeal : Cert.GdnConvReferenceIdeal.Facts] : Prop :=
  ∀ (m : (ℓ : Loc Cert.GdnConvReferenceIdeal.nD Cert.GdnConvReferenceIdeal.τ Cert.GdnConvReferenceIdeal.sig) → Buf (Elt Ideal) ℓ) (g : Dev Cert.GdnConvReferenceIdeal.nD → PrngReg), Pre_GdnConvReferenceIdeal m →
    θ_run (Cert.GdnConvReferenceIdeal.defs (F := Ideal)) (onTc (τ := Cert.GdnConvReferenceIdeal.τ) (Cert.GdnConvReferenceIdeal.main (F := Ideal))) ⟨m, fun _ => 0, g⟩ (fun r => (∀ c : Dev Cert.GdnConvReferenceIdeal.nD,
      r.2.mem ((c.tc : Thread Cert.GdnConvReferenceIdeal.nD Cert.GdnConvReferenceIdeal.τ).loc Cert.GdnConvReferenceIdeal.main_arg0) = m ((c.tc : Thread Cert.GdnConvReferenceIdeal.nD Cert.GdnConvReferenceIdeal.τ).loc Cert.GdnConvReferenceIdeal.main_arg0)
      ∧ r.2.mem ((c.tc : Thread Cert.GdnConvReferenceIdeal.nD Cert.GdnConvReferenceIdeal.τ).loc Cert.GdnConvReferenceIdeal.main_arg1) = m ((c.tc : Thread Cert.GdnConvReferenceIdeal.nD Cert.GdnConvReferenceIdeal.τ).loc Cert.GdnConvReferenceIdeal.main_arg1)
      ∧ r.2.mem ((c.tc : Thread Cert.GdnConvReferenceIdeal.nD Cert.GdnConvReferenceIdeal.τ).loc Cert.GdnConvReferenceIdeal.main_arg2) = m ((c.tc : Thread Cert.GdnConvReferenceIdeal.nD Cert.GdnConvReferenceIdeal.τ).loc Cert.GdnConvReferenceIdeal.main_arg2)
      ∧ r.2.mem ((c.tc : Thread Cert.GdnConvReferenceIdeal.nD Cert.GdnConvReferenceIdeal.τ).loc Cert.GdnConvReferenceIdeal.main_arg3) = m ((c.tc : Thread Cert.GdnConvReferenceIdeal.nD Cert.GdnConvReferenceIdeal.τ).loc Cert.GdnConvReferenceIdeal.main_arg3)
      ∧ r.2.mem ((c.tc : Thread Cert.GdnConvReferenceIdeal.nD Cert.GdnConvReferenceIdeal.τ).loc Cert.GdnConvReferenceIdeal.main_arg4) = m ((c.tc : Thread Cert.GdnConvReferenceIdeal.nD Cert.GdnConvReferenceIdeal.τ).loc Cert.GdnConvReferenceIdeal.main_arg4))
      ∧ r.2.sem = fun _ => 0)

def quiescent_GdnConvReferenceIdeal_pre_finite_gdn_conv [hGdnConvReferenceIdeal : Cert.GdnConvReferenceIdeal.Facts] [hPre_finite_gdn_conv : Cert.Pre_finite_gdn_conv.Facts] : Prop :=
  ∀ (m : (ℓ : Loc Cert.GdnConvReferenceIdeal.nD Cert.GdnConvReferenceIdeal.τ Cert.GdnConvReferenceIdeal.sig) → Buf (Elt Ideal) ℓ) (g : Dev Cert.GdnConvReferenceIdeal.nD → PrngReg), Pre_GdnConvReferenceIdeal_finite_gdn_conv m →
    θ_run (Cert.GdnConvReferenceIdeal.defs (F := Ideal)) (onTc (τ := Cert.GdnConvReferenceIdeal.τ) (Cert.GdnConvReferenceIdeal.main (F := Ideal))) ⟨m, fun _ => 0, g⟩ (fun r => (∀ c : Dev Cert.GdnConvReferenceIdeal.nD,
      r.2.mem ((c.tc : Thread Cert.GdnConvReferenceIdeal.nD Cert.GdnConvReferenceIdeal.τ).loc Cert.GdnConvReferenceIdeal.main_arg0) = m ((c.tc : Thread Cert.GdnConvReferenceIdeal.nD Cert.GdnConvReferenceIdeal.τ).loc Cert.GdnConvReferenceIdeal.main_arg0)
      ∧ r.2.mem ((c.tc : Thread Cert.GdnConvReferenceIdeal.nD Cert.GdnConvReferenceIdeal.τ).loc Cert.GdnConvReferenceIdeal.main_arg1) = m ((c.tc : Thread Cert.GdnConvReferenceIdeal.nD Cert.GdnConvReferenceIdeal.τ).loc Cert.GdnConvReferenceIdeal.main_arg1)
      ∧ r.2.mem ((c.tc : Thread Cert.GdnConvReferenceIdeal.nD Cert.GdnConvReferenceIdeal.τ).loc Cert.GdnConvReferenceIdeal.main_arg2) = m ((c.tc : Thread Cert.GdnConvReferenceIdeal.nD Cert.GdnConvReferenceIdeal.τ).loc Cert.GdnConvReferenceIdeal.main_arg2)
      ∧ r.2.mem ((c.tc : Thread Cert.GdnConvReferenceIdeal.nD Cert.GdnConvReferenceIdeal.τ).loc Cert.GdnConvReferenceIdeal.main_arg3) = m ((c.tc : Thread Cert.GdnConvReferenceIdeal.nD Cert.GdnConvReferenceIdeal.τ).loc Cert.GdnConvReferenceIdeal.main_arg3)
      ∧ r.2.mem ((c.tc : Thread Cert.GdnConvReferenceIdeal.nD Cert.GdnConvReferenceIdeal.τ).loc Cert.GdnConvReferenceIdeal.main_arg4) = m ((c.tc : Thread Cert.GdnConvReferenceIdeal.nD Cert.GdnConvReferenceIdeal.τ).loc Cert.GdnConvReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v43_3) = v3 c
          ∧ r.2.mem ((c.tc : Thread Cert.KernelIdeal.nD Cert.KernelIdeal.τ).loc Cert.KernelIdeal.main_v43_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v13)) (v1 : (c : Dev Cert.FfnIdeal.nD) → Buf (Elt Ideal) ((c.tc : Thread Cert.FfnIdeal.nD Cert.FfnIdeal.τ).loc Cert.FfnIdeal.main_v17)) (v2 : (c : Dev Cert.FfnIdeal.nD) → Buf (Elt Ideal) ((c.tc : Thread Cert.FfnIdeal.nD Cert.FfnIdeal.τ).loc Cert.FfnIdeal.main_v16_0)) (v3 : (c : Dev Cert.FfnIdeal.nD) → Buf (Elt Ideal) ((c.tc : Thread Cert.FfnIdeal.nD Cert.FfnIdeal.τ).loc Cert.FfnIdeal.main_v16_1)) (v4 : (c : Dev Cert.FfnIdeal.nD) → Buf (Elt Ideal) ((c.tc : Thread Cert.FfnIdeal.nD Cert.FfnIdeal.τ).loc Cert.FfnIdeal.main_v15)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_v17) = v1 c
          ∧ r.2.mem ((c.tc : Thread Cert.FfnIdeal.nD Cert.FfnIdeal.τ).loc Cert.FfnIdeal.main_v16_0) = v2 c
          ∧ r.2.mem ((c.tc : Thread Cert.FfnIdeal.nD Cert.FfnIdeal.τ).loc Cert.FfnIdeal.main_v16_1) = v3 c
          ∧ r.2.mem ((c.tc : Thread Cert.FfnIdeal.nD Cert.FfnIdeal.τ).loc Cert.FfnIdeal.main_v15) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_v19) = v1 c
          ∧ r.2.mem ((c.tc : Thread Cert.FfnReferenceIdeal.nD Cert.FfnReferenceIdeal.τ).loc Cert.FfnReferenceIdeal.main_v22) = v2 c
          ∧ r.2.mem ((c.tc : Thread Cert.FfnReferenceIdeal.nD Cert.FfnReferenceIdeal.τ).loc Cert.FfnReferenceIdeal.main_v25) = v3 c
          ∧ r.2.mem ((c.tc : Thread Cert.FfnReferenceIdeal.nD Cert.FfnReferenceIdeal.τ).loc Cert.FfnReferenceIdeal.main_v27) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_GdnProj_GdnProjIdeal : Prop :=
  True

def algebraic_GdnProjIdeal_GdnProjReferenceIdeal [hGdnProjIdeal : Cert.GdnProjIdeal.Facts] [hGdnProjReferenceIdeal : Cert.GdnProjReferenceIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjReferenceIdeal.nD Cert.GdnProjReferenceIdeal.τ Cert.GdnProjReferenceIdeal.sig) → Buf (Elt Ideal) ℓ) (g' : Dev Cert.GdnProjReferenceIdeal.nD → PrngReg), Pre_GdnProjIdeal m →
    (∀ c : Dev Cert.GdnProjIdeal.nD,
      m' ((c.tc : Thread Cert.GdnProjReferenceIdeal.nD Cert.GdnProjReferenceIdeal.τ).loc Cert.GdnProjReferenceIdeal.main_arg0) = m ((c.tc : Thread Cert.GdnProjIdeal.nD Cert.GdnProjIdeal.τ).loc Cert.GdnProjIdeal.main_arg0)
      ∧ m' ((c.tc : Thread Cert.GdnProjReferenceIdeal.nD Cert.GdnProjReferenceIdeal.τ).loc Cert.GdnProjReferenceIdeal.main_arg1) = m ((c.tc : Thread Cert.GdnProjIdeal.nD Cert.GdnProjIdeal.τ).loc Cert.GdnProjIdeal.main_arg1)
      ∧ m' ((c.tc : Thread Cert.GdnProjReferenceIdeal.nD Cert.GdnProjReferenceIdeal.τ).loc Cert.GdnProjReferenceIdeal.main_arg2) = m ((c.tc : Thread Cert.GdnProjIdeal.nD Cert.GdnProjIdeal.τ).loc Cert.GdnProjIdeal.main_arg2)
      ∧ m' ((c.tc : Thread Cert.GdnProjReferenceIdeal.nD Cert.GdnProjReferenceIdeal.τ).loc Cert.GdnProjReferenceIdeal.main_arg3) = m ((c.tc : Thread Cert.GdnProjIdeal.nD Cert.GdnProjIdeal.τ).loc Cert.GdnProjIdeal.main_arg3)
      ∧ m' ((c.tc : Thread Cert.GdnProjReferenceIdeal.nD Cert.GdnProjReferenceIdeal.τ).loc Cert.GdnProjReferenceIdeal.main_arg4) = m ((c.tc : Thread Cert.GdnProjIdeal.nD Cert.GdnProjIdeal.τ).loc Cert.GdnProjIdeal.main_arg4)
      ∧ m' ((c.tc : Thread Cert.GdnProjReferenceIdeal.nD Cert.GdnProjReferenceIdeal.τ).loc Cert.GdnProjReferenceIdeal.main_arg5) = m ((c.tc : Thread Cert.GdnProjIdeal.nD Cert.GdnProjIdeal.τ).loc Cert.GdnProjIdeal.main_arg5)) →
    ∃ (v0 : (c : Dev Cert.GdnProjIdeal.nD) → Buf (Elt Ideal) ((c.tc : Thread Cert.GdnProjIdeal.nD Cert.GdnProjIdeal.τ).loc Cert.GdnProjIdeal.main_v10)) (v1 : (c : Dev Cert.GdnProjIdeal.nD) → Buf (Elt Ideal) ((c.tc : Thread Cert.GdnProjIdeal.nD Cert.GdnProjIdeal.τ).loc Cert.GdnProjIdeal.main_v11)) (v2 : (c : Dev Cert.GdnProjIdeal.nD) → Buf (Elt Ideal) ((c.tc : Thread Cert.GdnProjIdeal.nD Cert.GdnProjIdeal.τ).loc Cert.GdnProjIdeal.main_v12)) (v3 : (c : Dev Cert.GdnProjIdeal.nD) → Buf (Elt Ideal) ((c.tc : Thread Cert.GdnProjIdeal.nD Cert.GdnProjIdeal.τ).loc Cert.GdnProjIdeal.main_v13)) (v4 : (c : Dev Cert.GdnProjIdeal.nD) → Buf (Elt Ideal) ((c.tc : Thread Cert.GdnProjIdeal.nD Cert.GdnProjIdeal.τ).loc Cert.GdnProjIdeal.main_v14)) (v5 : (c : Dev Cert.GdnProjIdeal.nD) → Buf (Elt Ideal) ((c.tc : Thread Cert.GdnProjIdeal.nD Cert.GdnProjIdeal.τ).loc Cert.GdnProjIdeal.main_v15)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v10) = v0 c
          ∧ r.2.mem ((c.tc : Thread Cert.GdnProjIdeal.nD Cert.GdnProjIdeal.τ).loc Cert.GdnProjIdeal.main_v11) = v1 c
          ∧ r.2.mem ((c.tc : Thread Cert.GdnProjIdeal.nD Cert.GdnProjIdeal.τ).loc Cert.GdnProjIdeal.main_v12) = v2 c
          ∧ r.2.mem ((c.tc : Thread Cert.GdnProjIdeal.nD Cert.GdnProjIdeal.τ).loc Cert.GdnProjIdeal.main_v13) = v3 c
          ∧ r.2.mem ((c.tc : Thread Cert.GdnProjIdeal.nD Cert.GdnProjIdeal.τ).loc Cert.GdnProjIdeal.main_v14) = v4 c
          ∧ r.2.mem ((c.tc : Thread Cert.GdnProjIdeal.nD Cert.GdnProjIdeal.τ).loc Cert.GdnProjIdeal.main_v15) = v5 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1)
          ∧ r.2.mem ((c.tc : Thread Cert.GdnProjIdeal.nD Cert.GdnProjIdeal.τ).loc Cert.GdnProjIdeal.main_arg2) = m ((c.tc : Thread Cert.GdnProjIdeal.nD Cert.GdnProjIdeal.τ).loc Cert.GdnProjIdeal.main_arg2)
          ∧ r.2.mem ((c.tc : Thread Cert.GdnProjIdeal.nD Cert.GdnProjIdeal.τ).loc Cert.GdnProjIdeal.main_arg3) = m ((c.tc : Thread Cert.GdnProjIdeal.nD Cert.GdnProjIdeal.τ).loc Cert.GdnProjIdeal.main_arg3)
          ∧ r.2.mem ((c.tc : Thread Cert.GdnProjIdeal.nD Cert.GdnProjIdeal.τ).loc Cert.GdnProjIdeal.main_arg4) = m ((c.tc : Thread Cert.GdnProjIdeal.nD Cert.GdnProjIdeal.τ).loc Cert.GdnProjIdeal.main_arg4)
          ∧ r.2.mem ((c.tc : Thread Cert.GdnProjIdeal.nD Cert.GdnProjIdeal.τ).loc Cert.GdnProjIdeal.main_arg5) = m ((c.tc : Thread Cert.GdnProjIdeal.nD Cert.GdnProjIdeal.τ).loc Cert.GdnProjIdeal.main_arg5))
      ∧ θ_run (Cert.GdnProjReferenceIdeal.defs (F := Ideal)) (onTc (τ := Cert.GdnProjReferenceIdeal.τ) (Cert.GdnProjReferenceIdeal.main (F := Ideal))) ⟨m', fun _ => 0, g'⟩ (fun r => ∀ c : Dev Cert.GdnProjReferenceIdeal.nD,
          r.2.mem ((c.tc : Thread Cert.GdnProjReferenceIdeal.nD Cert.GdnProjReferenceIdeal.τ).loc Cert.GdnProjReferenceIdeal.main_v4) = v0 c
          ∧ r.2.mem ((c.tc : Thread Cert.GdnProjReferenceIdeal.nD Cert.GdnProjReferenceIdeal.τ).loc Cert.GdnProjReferenceIdeal.main_v5) = v1 c
          ∧ r.2.mem ((c.tc : Thread Cert.GdnProjReferenceIdeal.nD Cert.GdnProjReferenceIdeal.τ).loc Cert.GdnProjReferenceIdeal.main_v6) = v2 c
          ∧ r.2.mem ((c.tc : Thread Cert.GdnProjReferenceIdeal.nD Cert.GdnProjReferenceIdeal.τ).loc Cert.GdnProjReferenceIdeal.main_v11) = v3 c
          ∧ r.2.mem ((c.tc : Thread Cert.GdnProjReferenceIdeal.nD Cert.GdnProjReferenceIdeal.τ).loc Cert.GdnProjReferenceIdeal.main_v12) = v4 c
          ∧ r.2.mem ((c.tc : Thread Cert.GdnProjReferenceIdeal.nD Cert.GdnProjReferenceIdeal.τ).loc Cert.GdnProjReferenceIdeal.main_v13) = v5 c
          ∧ r.2.mem ((c.tc : Thread Cert.GdnProjReferenceIdeal.nD Cert.GdnProjReferenceIdeal.τ).loc Cert.GdnProjReferenceIdeal.main_arg0) = m' ((c.tc : Thread Cert.GdnProjReferenceIdeal.nD Cert.GdnProjReferenceIdeal.τ).loc Cert.GdnProjReferenceIdeal.main_arg0)
          ∧ r.2.mem ((c.tc : Thread Cert.GdnProjReferenceIdeal.nD Cert.GdnProjReferenceIdeal.τ).loc Cert.GdnProjReferenceIdeal.main_arg1) = m' ((c.tc : Thread Cert.GdnProjReferenceIdeal.nD Cert.GdnProjReferenceIdeal.τ).loc Cert.GdnProjReferenceIdeal.main_arg1)
          ∧ r.2.mem ((c.tc : Thread Cert.GdnProjReferenceIdeal.nD Cert.GdnProjReferenceIdeal.τ).loc Cert.GdnProjReferenceIdeal.main_arg2) = m' ((c.tc : Thread Cert.GdnProjReferenceIdeal.nD Cert.GdnProjReferenceIdeal.τ).loc Cert.GdnProjReferenceIdeal.main_arg2)
          ∧ r.2.mem ((c.tc : Thread Cert.GdnProjReferenceIdeal.nD Cert.GdnProjReferenceIdeal.τ).loc Cert.GdnProjReferenceIdeal.main_arg3) = m' ((c.tc : Thread Cert.GdnProjReferenceIdeal.nD Cert.GdnProjReferenceIdeal.τ).loc Cert.GdnProjReferenceIdeal.main_arg3)
          ∧ r.2.mem ((c.tc : Thread Cert.GdnProjReferenceIdeal.nD Cert.GdnProjReferenceIdeal.τ).loc Cert.GdnProjReferenceIdeal.main_arg4) = m' ((c.tc : Thread Cert.GdnProjReferenceIdeal.nD Cert.GdnProjReferenceIdeal.τ).loc Cert.GdnProjReferenceIdeal.main_arg4)
          ∧ r.2.mem ((c.tc : Thread Cert.GdnProjReferenceIdeal.nD Cert.GdnProjReferenceIdeal.τ).loc Cert.GdnProjReferenceIdeal.main_arg5) = m' ((c.tc : Thread Cert.GdnProjReferenceIdeal.nD Cert.GdnProjReferenceIdeal.τ).loc Cert.GdnProjReferenceIdeal.main_arg5))

def preserves_MlaProj_MlaProjIdeal : Prop :=
  True

def algebraic_MlaProjIdeal_MlaProjReferenceIdeal [hMlaProjIdeal : Cert.MlaProjIdeal.Facts] [hMlaProjReferenceIdeal : Cert.MlaProjReferenceIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjReferenceIdeal.nD Cert.MlaProjReferenceIdeal.τ Cert.MlaProjReferenceIdeal.sig) → Buf (Elt Ideal) ℓ) (g' : Dev Cert.MlaProjReferenceIdeal.nD → PrngReg), Pre_MlaProjIdeal m →
    (∀ c : Dev Cert.MlaProjIdeal.nD,
      m' ((c.tc : Thread Cert.MlaProjReferenceIdeal.nD Cert.MlaProjReferenceIdeal.τ).loc Cert.MlaProjReferenceIdeal.main_arg0) = m ((c.tc : Thread Cert.MlaProjIdeal.nD Cert.MlaProjIdeal.τ).loc Cert.MlaProjIdeal.main_arg0)
      ∧ m' ((c.tc : Thread Cert.MlaProjReferenceIdeal.nD Cert.MlaProjReferenceIdeal.τ).loc Cert.MlaProjReferenceIdeal.main_arg1) = m ((c.tc : Thread Cert.MlaProjIdeal.nD Cert.MlaProjIdeal.τ).loc Cert.MlaProjIdeal.main_arg1)
      ∧ m' ((c.tc : Thread Cert.MlaProjReferenceIdeal.nD Cert.MlaProjReferenceIdeal.τ).loc Cert.MlaProjReferenceIdeal.main_arg2) = m ((c.tc : Thread Cert.MlaProjIdeal.nD Cert.MlaProjIdeal.τ).loc Cert.MlaProjIdeal.main_arg2)
      ∧ m' ((c.tc : Thread Cert.MlaProjReferenceIdeal.nD Cert.MlaProjReferenceIdeal.τ).loc Cert.MlaProjReferenceIdeal.main_arg3) = m ((c.tc : Thread Cert.MlaProjIdeal.nD Cert.MlaProjIdeal.τ).loc Cert.MlaProjIdeal.main_arg3)
      ∧ m' ((c.tc : Thread Cert.MlaProjReferenceIdeal.nD Cert.MlaProjReferenceIdeal.τ).loc Cert.MlaProjReferenceIdeal.main_arg4) = m ((c.tc : Thread Cert.MlaProjIdeal.nD Cert.MlaProjIdeal.τ).loc Cert.MlaProjIdeal.main_arg4)
      ∧ m' ((c.tc : Thread Cert.MlaProjReferenceIdeal.nD Cert.MlaProjReferenceIdeal.τ).loc Cert.MlaProjReferenceIdeal.main_arg5) = m ((c.tc : Thread Cert.MlaProjIdeal.nD Cert.MlaProjIdeal.τ).loc Cert.MlaProjIdeal.main_arg5)) →
    ∃ (v0 : (c : Dev Cert.MlaProjIdeal.nD) → Buf (Elt Ideal) ((c.tc : Thread Cert.MlaProjIdeal.nD Cert.MlaProjIdeal.τ).loc Cert.MlaProjIdeal.main_v10)) (v1 : (c : Dev Cert.MlaProjIdeal.nD) → Buf (Elt Ideal) ((c.tc : Thread Cert.MlaProjIdeal.nD Cert.MlaProjIdeal.τ).loc Cert.MlaProjIdeal.main_v11)) (v2 : (c : Dev Cert.MlaProjIdeal.nD) → Buf (Elt Ideal) ((c.tc : Thread Cert.MlaProjIdeal.nD Cert.MlaProjIdeal.τ).loc Cert.MlaProjIdeal.main_v12)) (v3 : (c : Dev Cert.MlaProjIdeal.nD) → Buf (Elt Ideal) ((c.tc : Thread Cert.MlaProjIdeal.nD Cert.MlaProjIdeal.τ).loc Cert.MlaProjIdeal.main_v13)) (v4 : (c : Dev Cert.MlaProjIdeal.nD) → Buf (Elt Ideal) ((c.tc : Thread Cert.MlaProjIdeal.nD Cert.MlaProjIdeal.τ).loc Cert.MlaProjIdeal.main_v14)) (v5 : (c : Dev Cert.MlaProjIdeal.nD) → Buf (Elt Ideal) ((c.tc : Thread Cert.MlaProjIdeal.nD Cert.MlaProjIdeal.τ).loc Cert.MlaProjIdeal.main_v15)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v10) = v0 c
          ∧ r.2.mem ((c.tc : Thread Cert.MlaProjIdeal.nD Cert.MlaProjIdeal.τ).loc Cert.MlaProjIdeal.main_v11) = v1 c
          ∧ r.2.mem ((c.tc : Thread Cert.MlaProjIdeal.nD Cert.MlaProjIdeal.τ).loc Cert.MlaProjIdeal.main_v12) = v2 c
          ∧ r.2.mem ((c.tc : Thread Cert.MlaProjIdeal.nD Cert.MlaProjIdeal.τ).loc Cert.MlaProjIdeal.main_v13) = v3 c
          ∧ r.2.mem ((c.tc : Thread Cert.MlaProjIdeal.nD Cert.MlaProjIdeal.τ).loc Cert.MlaProjIdeal.main_v14) = v4 c
          ∧ r.2.mem ((c.tc : Thread Cert.MlaProjIdeal.nD Cert.MlaProjIdeal.τ).loc Cert.MlaProjIdeal.main_v15) = v5 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5))
      ∧ θ_run (Cert.MlaProjReferenceIdeal.defs (F := Ideal)) (onTc (τ := Cert.MlaProjReferenceIdeal.τ) (Cert.MlaProjReferenceIdeal.main (F := Ideal))) ⟨m', fun _ => 0, g'⟩ (fun r => ∀ c : Dev Cert.MlaProjReferenceIdeal.nD,
          r.2.mem ((c.tc : Thread Cert.MlaProjReferenceIdeal.nD Cert.MlaProjReferenceIdeal.τ).loc Cert.MlaProjReferenceIdeal.main_v4) = v0 c
          ∧ r.2.mem ((c.tc : Thread Cert.MlaProjReferenceIdeal.nD Cert.MlaProjReferenceIdeal.τ).loc Cert.MlaProjReferenceIdeal.main_v5) = v1 c
          ∧ r.2.mem ((c.tc : Thread Cert.MlaProjReferenceIdeal.nD Cert.MlaProjReferenceIdeal.τ).loc Cert.MlaProjReferenceIdeal.main_v6) = v2 c
          ∧ r.2.mem ((c.tc : Thread Cert.MlaProjReferenceIdeal.nD Cert.MlaProjReferenceIdeal.τ).loc Cert.MlaProjReferenceIdeal.main_v11) = v3 c
          ∧ r.2.mem ((c.tc : Thread Cert.MlaProjReferenceIdeal.nD Cert.MlaProjReferenceIdeal.τ).loc Cert.MlaProjReferenceIdeal.main_v12) = v4 c
          ∧ r.2.mem ((c.tc : Thread Cert.MlaProjReferenceIdeal.nD Cert.MlaProjReferenceIdeal.τ).loc Cert.MlaProjReferenceIdeal.main_v14) = v5 c
          ∧ r.2.mem ((c.tc : Thread Cert.MlaProjReferenceIdeal.nD Cert.MlaProjReferenceIdeal.τ).loc Cert.MlaProjReferenceIdeal.main_arg0) = m' ((c.tc : Thread Cert.MlaProjReferenceIdeal.nD Cert.MlaProjReferenceIdeal.τ).loc Cert.MlaProjReferenceIdeal.main_arg0)
          ∧ r.2.mem ((c.tc : Thread Cert.MlaProjReferenceIdeal.nD Cert.MlaProjReferenceIdeal.τ).loc Cert.MlaProjReferenceIdeal.main_arg1) = m' ((c.tc : Thread Cert.MlaProjReferenceIdeal.nD Cert.MlaProjReferenceIdeal.τ).loc Cert.MlaProjReferenceIdeal.main_arg1)
          ∧ r.2.mem ((c.tc : Thread Cert.MlaProjReferenceIdeal.nD Cert.MlaProjReferenceIdeal.τ).loc Cert.MlaProjReferenceIdeal.main_arg2) = m' ((c.tc : Thread Cert.MlaProjReferenceIdeal.nD Cert.MlaProjReferenceIdeal.τ).loc Cert.MlaProjReferenceIdeal.main_arg2)
          ∧ r.2.mem ((c.tc : Thread Cert.MlaProjReferenceIdeal.nD Cert.MlaProjReferenceIdeal.τ).loc Cert.MlaProjReferenceIdeal.main_arg3) = m' ((c.tc : Thread Cert.MlaProjReferenceIdeal.nD Cert.MlaProjReferenceIdeal.τ).loc Cert.MlaProjReferenceIdeal.main_arg3)
          ∧ r.2.mem ((c.tc : Thread Cert.MlaProjReferenceIdeal.nD Cert.MlaProjReferenceIdeal.τ).loc Cert.MlaProjReferenceIdeal.main_arg4) = m' ((c.tc : Thread Cert.MlaProjReferenceIdeal.nD Cert.MlaProjReferenceIdeal.τ).loc Cert.MlaProjReferenceIdeal.main_arg4)
          ∧ r.2.mem ((c.tc : Thread Cert.MlaProjReferenceIdeal.nD Cert.MlaProjReferenceIdeal.τ).loc Cert.MlaProjReferenceIdeal.main_arg5) = m' ((c.tc : Thread Cert.MlaProjReferenceIdeal.nD Cert.MlaProjReferenceIdeal.τ).loc Cert.MlaProjReferenceIdeal.main_arg5))

def preserves_MlaUp_MlaUpIdeal : Prop :=
  True

def algebraic_MlaUpIdeal_MlaUpReferenceIdeal [hMlaUpIdeal : Cert.MlaUpIdeal.Facts] [hMlaUpReferenceIdeal : Cert.MlaUpReferenceIdeal.Facts] : Prop :=
  ∀ (m : (ℓ : Loc Cert.MlaUpIdeal.nD Cert.MlaUpIdeal.τ Cert.MlaUpIdeal.sig) → Buf (Elt Ideal) ℓ) (g : Dev Cert.MlaUpIdeal.nD → PrngReg)
    (m' : (ℓ : Loc Cert.MlaUpReferenceIdeal.nD Cert.MlaUpReferenceIdeal.τ Cert.MlaUpReferenceIdeal.sig) → Buf (Elt Ideal) ℓ) (g' : Dev Cert.MlaUpReferenceIdeal.nD → PrngReg), Pre_MlaUpIdeal m →
    (∀ c : Dev Cert.MlaUpIdeal.nD,
      m' ((c.tc : Thread Cert.MlaUpReferenceIdeal.nD Cert.MlaUpReferenceIdeal.τ).loc Cert.MlaUpReferenceIdeal.main_arg0) = m ((c.tc : Thread Cert.MlaUpIdeal.nD Cert.MlaUpIdeal.τ).loc Cert.MlaUpIdeal.main_arg0)
      ∧ m' ((c.tc : Thread Cert.MlaUpReferenceIdeal.nD Cert.MlaUpReferenceIdeal.τ).loc Cert.MlaUpReferenceIdeal.main_arg1) = m ((c.tc : Thread Cert.MlaUpIdeal.nD Cert.MlaUpIdeal.τ).loc Cert.MlaUpIdeal.main_arg1)
      ∧ m' ((c.tc : Thread Cert.MlaUpReferenceIdeal.nD Cert.MlaUpReferenceIdeal.τ).loc Cert.MlaUpReferenceIdeal.main_arg2) = m ((c.tc : Thread Cert.MlaUpIdeal.nD Cert.MlaUpIdeal.τ).loc Cert.MlaUpIdeal.main_arg2)
      ∧ m' ((c.tc : Thread Cert.MlaUpReferenceIdeal.nD Cert.MlaUpReferenceIdeal.τ).loc Cert.MlaUpReferenceIdeal.main_arg3) = m ((c.tc : Thread Cert.MlaUpIdeal.nD Cert.MlaUpIdeal.τ).loc Cert.MlaUpIdeal.main_arg3)
      ∧ m' ((c.tc : Thread Cert.MlaUpReferenceIdeal.nD Cert.MlaUpReferenceIdeal.τ).loc Cert.MlaUpReferenceIdeal.main_arg4) = m ((c.tc : Thread Cert.MlaUpIdeal.nD Cert.MlaUpIdeal.τ).loc Cert.MlaUpIdeal.main_arg4)
      ∧ m' ((c.tc : Thread Cert.MlaUpReferenceIdeal.nD Cert.MlaUpReferenceIdeal.τ).loc Cert.MlaUpReferenceIdeal.main_arg5) = m ((c.tc : Thread Cert.MlaUpIdeal.nD Cert.MlaUpIdeal.τ).loc Cert.MlaUpIdeal.main_arg5)) →
    ∃ (v0 : (c : Dev Cert.MlaUpIdeal.nD) → Buf (Elt Ideal) ((c.tc : Thread Cert.MlaUpIdeal.nD Cert.MlaUpIdeal.τ).loc Cert.MlaUpIdeal.main_v9)) (v1 : (c : Dev Cert.MlaUpIdeal.nD) → Buf (Elt Ideal) ((c.tc : Thread Cert.MlaUpIdeal.nD Cert.MlaUpIdeal.τ).loc Cert.MlaUpIdeal.main_v10)) (v2 : (c : Dev Cert.MlaUpIdeal.nD) → Buf (Elt Ideal) ((c.tc : Thread Cert.MlaUpIdeal.nD Cert.MlaUpIdeal.τ).loc Cert.MlaUpIdeal.main_v11)) (v3 : (c : Dev Cert.MlaUpIdeal.nD) → Buf (Elt Ideal) ((c.tc : Thread Cert.MlaUpIdeal.nD Cert.MlaUpIdeal.τ).loc Cert.MlaUpIdeal.main_v12)) (v4 : (c : Dev Cert.MlaUpIdeal.nD) → Buf (Elt Ideal) ((c.tc : Thread Cert.MlaUpIdeal.nD Cert.MlaUpIdeal.τ).loc Cert.MlaUpIdeal.main_v13)) (v5 : (c : Dev Cert.MlaUpIdeal.nD) → Buf (Elt Ideal) ((c.tc : Thread Cert.MlaUpIdeal.nD Cert.MlaUpIdeal.τ).loc Cert.MlaUpIdeal.main_v14)),
      θ_run (Cert.MlaUpIdeal.defs (F := Ideal)) (onTc (τ := Cert.MlaUpIdeal.τ) (Cert.MlaUpIdeal.main (F := Ideal))) ⟨m, fun _ => 0, g⟩ (fun r => ∀ c : Dev Cert.MlaUpIdeal.nD,
          r.2.mem ((c.tc : Thread Cert.MlaUpIdeal.nD Cert.MlaUpIdeal.τ).loc Cert.MlaUpIdeal.main_v9) = v0 c
          ∧ r.2.mem ((c.tc : Thread Cert.MlaUpIdeal.nD Cert.MlaUpIdeal.τ).loc Cert.MlaUpIdeal.main_v10) = v1 c
          ∧ r.2.mem ((c.tc : Thread Cert.MlaUpIdeal.nD Cert.MlaUpIdeal.τ).loc Cert.MlaUpIdeal.main_v11) = v2 c
          ∧ r.2.mem ((c.tc : Thread Cert.MlaUpIdeal.nD Cert.MlaUpIdeal.τ).loc Cert.MlaUpIdeal.main_v12) = v3 c
          ∧ r.2.mem ((c.tc : Thread Cert.MlaUpIdeal.nD Cert.MlaUpIdeal.τ).loc Cert.MlaUpIdeal.main_v13) = v4 c
          ∧ r.2.mem ((c.tc : Thread Cert.MlaUpIdeal.nD Cert.MlaUpIdeal.τ).loc Cert.MlaUpIdeal.main_v14) = v5 c
          ∧ r.2.mem ((c.tc : Thread Cert.MlaUpIdeal.nD Cert.MlaUpIdeal.τ).loc Cert.MlaUpIdeal.main_arg0) = m ((c.tc : Thread Cert.MlaUpIdeal.nD Cert.MlaUpIdeal.τ).loc Cert.MlaUpIdeal.main_arg0)
          ∧ r.2.mem ((c.tc : Thread Cert.MlaUpIdeal.nD Cert.MlaUpIdeal.τ).loc Cert.MlaUpIdeal.main_arg1) = m ((c.tc : Thread Cert.MlaUpIdeal.nD Cert.MlaUpIdeal.τ).loc Cert.MlaUpIdeal.main_arg1)
          ∧ r.2.mem ((c.tc : Thread Cert.MlaUpIdeal.nD Cert.MlaUpIdeal.τ).loc Cert.MlaUpIdeal.main_arg2) = m ((c.tc : Thread Cert.MlaUpIdeal.nD Cert.MlaUpIdeal.τ).loc Cert.MlaUpIdeal.main_arg2)
          ∧ r.2.mem ((c.tc : Thread Cert.MlaUpIdeal.nD Cert.MlaUpIdeal.τ).loc Cert.MlaUpIdeal.main_arg3) = m ((c.tc : Thread Cert.MlaUpIdeal.nD Cert.MlaUpIdeal.τ).loc Cert.MlaUpIdeal.main_arg3)
          ∧ r.2.mem ((c.tc : Thread Cert.MlaUpIdeal.nD Cert.MlaUpIdeal.τ).loc Cert.MlaUpIdeal.main_arg4) = m ((c.tc : Thread Cert.MlaUpIdeal.nD Cert.MlaUpIdeal.τ).loc Cert.MlaUpIdeal.main_arg4)
          ∧ r.2.mem ((c.tc : Thread Cert.MlaUpIdeal.nD Cert.MlaUpIdeal.τ).loc Cert.MlaUpIdeal.main_arg5) = m ((c.tc : Thread Cert.MlaUpIdeal.nD Cert.MlaUpIdeal.τ).loc Cert.MlaUpIdeal.main_arg5))
      ∧ θ_run (Cert.MlaUpReferenceIdeal.defs (F := Ideal)) (onTc (τ := Cert.MlaUpReferenceIdeal.τ) (Cert.MlaUpReferenceIdeal.main (F := Ideal))) ⟨m', fun _ => 0, g'⟩ (fun r => ∀ c : Dev Cert.MlaUpReferenceIdeal.nD,
          r.2.mem ((c.tc : Thread Cert.MlaUpReferenceIdeal.nD Cert.MlaUpReferenceIdeal.τ).loc Cert.MlaUpReferenceIdeal.main_v4) = v0 c
          ∧ r.2.mem ((c.tc : Thread Cert.MlaUpReferenceIdeal.nD Cert.MlaUpReferenceIdeal.τ).loc Cert.MlaUpReferenceIdeal.main_v5) = v1 c
          ∧ r.2.mem ((c.tc : Thread Cert.MlaUpReferenceIdeal.nD Cert.MlaUpReferenceIdeal.τ).loc Cert.MlaUpReferenceIdeal.main_v6) = v2 c
          ∧ r.2.mem ((c.tc : Thread Cert.MlaUpReferenceIdeal.nD Cert.MlaUpReferenceIdeal.τ).loc Cert.MlaUpReferenceIdeal.main_v12) = v3 c
          ∧ r.2.mem ((c.tc : Thread Cert.MlaUpReferenceIdeal.nD Cert.MlaUpReferenceIdeal.τ).loc Cert.MlaUpReferenceIdeal.main_v13) = v4 c
          ∧ r.2.mem ((c.tc : Thread Cert.MlaUpReferenceIdeal.nD Cert.MlaUpReferenceIdeal.τ).loc Cert.MlaUpReferenceIdeal.main_v14) = v5 c
          ∧ r.2.mem ((c.tc : Thread Cert.MlaUpReferenceIdeal.nD Cert.MlaUpReferenceIdeal.τ).loc Cert.MlaUpReferenceIdeal.main_arg0) = m' ((c.tc : Thread Cert.MlaUpReferenceIdeal.nD Cert.MlaUpReferenceIdeal.τ).loc Cert.MlaUpReferenceIdeal.main_arg0)
          ∧ r.2.mem ((c.tc : Thread Cert.MlaUpReferenceIdeal.nD Cert.MlaUpReferenceIdeal.τ).loc Cert.MlaUpReferenceIdeal.main_arg1) = m' ((c.tc : Thread Cert.MlaUpReferenceIdeal.nD Cert.MlaUpReferenceIdeal.τ).loc Cert.MlaUpReferenceIdeal.main_arg1)
          ∧ r.2.mem ((c.tc : Thread Cert.MlaUpReferenceIdeal.nD Cert.MlaUpReferenceIdeal.τ).loc Cert.MlaUpReferenceIdeal.main_arg2) = m' ((c.tc : Thread Cert.MlaUpReferenceIdeal.nD Cert.MlaUpReferenceIdeal.τ).loc Cert.MlaUpReferenceIdeal.main_arg2)
          ∧ r.2.mem ((c.tc : Thread Cert.MlaUpReferenceIdeal.nD Cert.MlaUpReferenceIdeal.τ).loc Cert.MlaUpReferenceIdeal.main_arg3) = m' ((c.tc : Thread Cert.MlaUpReferenceIdeal.nD Cert.MlaUpReferenceIdeal.τ).loc Cert.MlaUpReferenceIdeal.main_arg3)
          ∧ r.2.mem ((c.tc : Thread Cert.MlaUpReferenceIdeal.nD Cert.MlaUpReferenceIdeal.τ).loc Cert.MlaUpReferenceIdeal.main_arg4) = m' ((c.tc : Thread Cert.MlaUpReferenceIdeal.nD Cert.MlaUpReferenceIdeal.τ).loc Cert.MlaUpReferenceIdeal.main_arg4)
          ∧ r.2.mem ((c.tc : Thread Cert.MlaUpReferenceIdeal.nD Cert.MlaUpReferenceIdeal.τ).loc Cert.MlaUpReferenceIdeal.main_arg5) = m' ((c.tc : Thread Cert.MlaUpReferenceIdeal.nD Cert.MlaUpReferenceIdeal.τ).loc Cert.MlaUpReferenceIdeal.main_arg5))

def preserves_GdnConv_GdnConvIdeal : Prop :=
  True

def algebraic_GdnConvIdeal_GdnConvReferenceIdeal_pre_finite_gdn_conv [hGdnConvIdeal : Cert.GdnConvIdeal.Facts] [hGdnConvReferenceIdeal : Cert.GdnConvReferenceIdeal.Facts] [hPre_finite_gdn_conv : Cert.Pre_finite_gdn_conv.Facts] : Prop :=
  ∀ (m : (ℓ : Loc Cert.GdnConvIdeal.nD Cert.GdnConvIdeal.τ Cert.GdnConvIdeal.sig) → Buf (Elt Ideal) ℓ) (g : Dev Cert.GdnConvIdeal.nD → PrngReg)
    (m' : (ℓ : Loc Cert.GdnConvReferenceIdeal.nD Cert.GdnConvReferenceIdeal.τ Cert.GdnConvReferenceIdeal.sig) → Buf (Elt Ideal) ℓ) (g' : Dev Cert.GdnConvReferenceIdeal.nD → PrngReg), Pre_GdnConvIdeal_finite_gdn_conv m →
    (∀ c : Dev Cert.GdnConvIdeal.nD,
      m' ((c.tc : Thread Cert.GdnConvReferenceIdeal.nD Cert.GdnConvReferenceIdeal.τ).loc Cert.GdnConvReferenceIdeal.main_arg0) = m ((c.tc : Thread Cert.GdnConvIdeal.nD Cert.GdnConvIdeal.τ).loc Cert.GdnConvIdeal.main_arg0)
      ∧ m' ((c.tc : Thread Cert.GdnConvReferenceIdeal.nD Cert.GdnConvReferenceIdeal.τ).loc Cert.GdnConvReferenceIdeal.main_arg1) = m ((c.tc : Thread Cert.GdnConvIdeal.nD Cert.GdnConvIdeal.τ).loc Cert.GdnConvIdeal.main_arg1)
      ∧ m' ((c.tc : Thread Cert.GdnConvReferenceIdeal.nD Cert.GdnConvReferenceIdeal.τ).loc Cert.GdnConvReferenceIdeal.main_arg2) = m ((c.tc : Thread Cert.GdnConvIdeal.nD Cert.GdnConvIdeal.τ).loc Cert.GdnConvIdeal.main_arg2)
      ∧ m' ((c.tc : Thread Cert.GdnConvReferenceIdeal.nD Cert.GdnConvReferenceIdeal.τ).loc Cert.GdnConvReferenceIdeal.main_arg3) = m ((c.tc : Thread Cert.GdnConvIdeal.nD Cert.GdnConvIdeal.τ).loc Cert.GdnConvIdeal.main_arg3)
      ∧ m' ((c.tc : Thread Cert.GdnConvReferenceIdeal.nD Cert.GdnConvReferenceIdeal.τ).loc Cert.GdnConvReferenceIdeal.main_arg4) = m ((c.tc : Thread Cert.GdnConvIdeal.nD Cert.GdnConvIdeal.τ).loc Cert.GdnConvIdeal.main_arg4)) →
    ∃ (v0 : (c : Dev Cert.GdnConvIdeal.nD) → Buf (Elt Ideal) ((c.tc : Thread Cert.GdnConvIdeal.nD Cert.GdnConvIdeal.τ).loc Cert.GdnConvIdeal.main_v6_0)) (v1 : (c : Dev Cert.GdnConvIdeal.nD) → Buf (Elt Ideal) ((c.tc : Thread Cert.GdnConvIdeal.nD Cert.GdnConvIdeal.τ).loc Cert.GdnConvIdeal.main_v6_1)),
      θ_run (Cert.GdnConvIdeal.defs (F := Ideal)) (onTc (τ := Cert.GdnConvIdeal.τ) (Cert.GdnConvIdeal.main (F := Ideal))) ⟨m, fun _ => 0, g⟩ (fun r => ∀ c : Dev Cert.GdnConvIdeal.nD,
          r.2.mem ((c.tc : Thread Cert.GdnConvIdeal.nD Cert.GdnConvIdeal.τ).loc Cert.GdnConvIdeal.main_v6_0) = v0 c
          ∧ r.2.mem ((c.tc : Thread Cert.GdnConvIdeal.nD Cert.GdnConvIdeal.τ).loc Cert.GdnConvIdeal.main_v6_1) = v1 c
          ∧ r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
          ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
          ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
          ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3)
          ∧ r.2.mem ((c.tc : Thread Cert.GdnConvIdeal.nD Cert.GdnConvIdeal.τ).loc Cert.GdnConvIdeal.main_arg4) = m ((c.tc : Thread Cert.GdnConvIdeal.nD Cert.GdnConvIdeal.τ).loc Cert.GdnConvIdeal.main_arg4))
      ∧ θ_run (Cert.GdnConvReferenceIdeal.defs (F := Ideal)) (onTc (τ := Cert.GdnConvReferenceIdeal.τ) (Cert.GdnConvReferenceIdeal.main (F := Ideal))) ⟨m', fun _ => 0, g'⟩ (fun r => ∀ c : Dev Cert.GdnConvReferenceIdeal.nD,
          r.2.mem ((c.tc : Thread Cert.GdnConvReferenceIdeal.nD Cert.GdnConvReferenceIdeal.τ).loc Cert.GdnConvReferenceIdeal.main_v146) = v0 c
          ∧ r.2.mem ((c.tc : Thread Cert.GdnConvReferenceIdeal.nD Cert.GdnConvReferenceIdeal.τ).loc Cert.GdnConvReferenceIdeal.main_v147) = v1 c
          ∧ r.2.mem ((c.tc : Thread Cert.GdnConvReferenceIdeal.nD Cert.GdnConvReferenceIdeal.τ).loc Cert.GdnConvReferenceIdeal.main_arg0) = m' ((c.tc : Thread Cert.GdnConvReferenceIdeal.nD Cert.GdnConvReferenceIdeal.τ).loc Cert.GdnConvReferenceIdeal.main_arg0)
          ∧ r.2.mem ((c.tc : Thread Cert.GdnConvReferenceIdeal.nD Cert.GdnConvReferenceIdeal.τ).loc Cert.GdnConvReferenceIdeal.main_arg1) = m' ((c.tc : Thread Cert.GdnConvReferenceIdeal.nD Cert.GdnConvReferenceIdeal.τ).loc Cert.GdnConvReferenceIdeal.main_arg1)
          ∧ r.2.mem ((c.tc : Thread Cert.GdnConvReferenceIdeal.nD Cert.GdnConvReferenceIdeal.τ).loc Cert.GdnConvReferenceIdeal.main_arg2) = m' ((c.tc : Thread Cert.GdnConvReferenceIdeal.nD Cert.GdnConvReferenceIdeal.τ).loc Cert.GdnConvReferenceIdeal.main_arg2)
          ∧ r.2.mem ((c.tc : Thread Cert.GdnConvReferenceIdeal.nD Cert.GdnConvReferenceIdeal.τ).loc Cert.GdnConvReferenceIdeal.main_arg3) = m' ((c.tc : Thread Cert.GdnConvReferenceIdeal.nD Cert.GdnConvReferenceIdeal.τ).loc Cert.GdnConvReferenceIdeal.main_arg3)
          ∧ r.2.mem ((c.tc : Thread Cert.GdnConvReferenceIdeal.nD Cert.GdnConvReferenceIdeal.τ).loc Cert.GdnConvReferenceIdeal.main_arg4) = m' ((c.tc : Thread Cert.GdnConvReferenceIdeal.nD Cert.GdnConvReferenceIdeal.τ).loc Cert.GdnConvReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGdnProj : Cert.GdnProj.Facts) (hGdnProjIdeal : Cert.GdnProjIdeal.Facts) (hGdnProjReferenceIdeal : Cert.GdnProjReferenceIdeal.Facts) (hMlaProj : Cert.MlaProj.Facts) (hMlaProjIdeal : Cert.MlaProjIdeal.Facts) (hMlaProjReferenceIdeal : Cert.MlaProjReferenceIdeal.Facts) (hMlaUp : Cert.MlaUp.Facts) (hMlaUpIdeal : Cert.MlaUpIdeal.Facts) (hMlaUpReferenceIdeal : Cert.MlaUpReferenceIdeal.Facts) (hGdnConv : Cert.GdnConv.Facts) (hGdnConvIdeal : Cert.GdnConvIdeal.Facts) (hGdnConvReferenceIdeal : Cert.GdnConvReferenceIdeal.Facts) (hPre_finite : Cert.Pre_finite.Facts) (hPre_finite_ffn : Cert.Pre_finite_ffn.Facts) (hPre_finite_gdn_conv : Cert.Pre_finite_gdn_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_GdnProj (hGdnProj := hGdnProj)
    ∧ quiescent_GdnProjIdeal (hGdnProjIdeal := hGdnProjIdeal)
    ∧ quiescent_GdnProjReferenceIdeal (hGdnProjReferenceIdeal := hGdnProjReferenceIdeal)
    ∧ quiescent_MlaProj (hMlaProj := hMlaProj)
    ∧ quiescent_MlaProjIdeal (hMlaProjIdeal := hMlaProjIdeal)
    ∧ quiescent_MlaProjReferenceIdeal (hMlaProjReferenceIdeal := hMlaProjReferenceIdeal)
    ∧ quiescent_MlaUp (hMlaUp := hMlaUp)
    ∧ quiescent_MlaUpIdeal (hMlaUpIdeal := hMlaUpIdeal)
    ∧ quiescent_MlaUpReferenceIdeal (hMlaUpReferenceIdeal := hMlaUpReferenceIdeal)
    ∧ quiescent_GdnConv (hGdnConv := hGdnConv)
    ∧ quiescent_GdnConvIdeal (hGdnConvIdeal := hGdnConvIdeal)
    ∧ quiescent_GdnConvIdeal_pre_finite_gdn_conv (hGdnConvIdeal := hGdnConvIdeal) (hPre_finite_gdn_conv := hPre_finite_gdn_conv)
    ∧ quiescent_GdnConvReferenceIdeal (hGdnConvReferenceIdeal := hGdnConvReferenceIdeal)
    ∧ quiescent_GdnConvReferenceIdeal_pre_finite_gdn_conv (hGdnConvReferenceIdeal := hGdnConvReferenceIdeal) (hPre_finite_gdn_conv := hPre_finite_gdn_conv)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_GdnProj_GdnProjIdeal
    ∧ algebraic_GdnProjIdeal_GdnProjReferenceIdeal (hGdnProjIdeal := hGdnProjIdeal) (hGdnProjReferenceIdeal := hGdnProjReferenceIdeal)
    ∧ preserves_MlaProj_MlaProjIdeal
    ∧ algebraic_MlaProjIdeal_MlaProjReferenceIdeal (hMlaProjIdeal := hMlaProjIdeal) (hMlaProjReferenceIdeal := hMlaProjReferenceIdeal)
    ∧ preserves_MlaUp_MlaUpIdeal
    ∧ algebraic_MlaUpIdeal_MlaUpReferenceIdeal (hMlaUpIdeal := hMlaUpIdeal) (hMlaUpReferenceIdeal := hMlaUpReferenceIdeal)
    ∧ preserves_GdnConv_GdnConvIdeal
    ∧ algebraic_GdnConvIdeal_GdnConvReferenceIdeal_pre_finite_gdn_conv (hGdnConvIdeal := hGdnConvIdeal) (hGdnConvReferenceIdeal := hGdnConvReferenceIdeal) (hPre_finite_gdn_conv := hPre_finite_gdn_conv)
-- ==== Pre_finite.lean ====
abbrev S1x2048x8x128 : Shape := ⟨4, ![1, 2048, 8, 128]⟩
abbrev S1x2048x8x64 : Shape := ⟨4, ![1, 2048, 8, 64]⟩
abbrev S1x2048x64 : Shape := ⟨3, ![1, 2048, 64]⟩
abbrev S_ : Shape := ⟨0, ![]⟩

class Facts : Prop where
  bcast_S_S1x2048x8x128 : S_.BroadcastsInDim S1x2048x8x128 (![] : Fin 0 → Fin S1x2048x8x128.rank)
  bcast_S_S1x2048x8x64 : S_.BroadcastsInDim S1x2048x8x64 (![] : Fin 0 → Fin S1x2048x8x64.rank)
  bcast_S_S1x2048x64 : S_.BroadcastsInDim S1x2048x64 (![] : Fin 0 → Fin S1x2048x64.rank)

variable [Facts]

def fn {F : FTy → Type} [FloatOps F] (main_arg0 : FVec F S1x2048x8x128 .f32) (main_arg1 : FVec F S1x2048x8x64 .f32) (main_arg2 : FVec F S1x2048x8x128 .f32) (main_arg3 : FVec F S1x2048x64 .f32) (main_arg4 : FVec F S1x2048x8x128 .f32) (main_arg5 : FVec F S1x2048x8x128 .f32) : IVec S1x2048x8x128 1 × IVec S1x2048x8x64 1 × IVec S1x2048x8x128 1 × IVec S1x2048x64 1 × IVec S1x2048x8x128 1 × IVec S1x2048x8x128 1 :=
  let main_v0 : FVec F S1x2048x8x128 .f32 := Host.absf main_arg0
  let main_cst : FVec F S_ .f32 := constant S_ .f32 0x7F800000#32
  let main_v1 : FVec F S1x2048x8x128 .f32 := broadcastInDim S1x2048x8x128 ![] bcast_S_S1x2048x8x128 main_cst
  let main_v2 : IVec S1x2048x8x128 1 := cmpf .olt main_v0 main_v1
  let main_v3 : FVec F S1x2048x8x64 .f32 := Host.absf main_arg1
  let main_cst_0 : FVec F S_ .f32 := constant S_ .f32 0x7F800000#32
  let main_v4 : FVec F S1x2048x8x64 .f32 := broadcastInDim S1x2048x8x64 ![] bcast_S_S1x2048x8x64 main_cst_0
  let main_v5 : IVec S1x2048x8x64 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  let main_v9 : FVec F S1x2048x64 .f32 := Host.absf main_arg3
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_v12 : FVec F S1x2048x8x128 .f32 := Host.absf main_arg4
  let main_cst_3 : FVec F S_ .f32 := constant S_ .f32 0x7F800000#32
  let main_v13 : FVec F S1x2048x8x128 .f32 := broadcastInDim S1x2048x8x128 ![] bcast_S_S1x2048x8x128 main_cst_3
  let main_v14 : IVec S1x2048x8x128 1 := cmpf .olt main_v12 main_v13
  let main_v15 : FVec F S1x2048x8x128 .f32 := Host.absf main_arg5
  let main_cst_4 : FVec F S_ .f32 := constant S_ .f32 0x7F800000#32
  let main_v16 : FVec F S1x2048x8x128 .f32 := broadcastInDim S1x2048x8x128 ![] bcast_S_S1x2048x8x128 main_cst_4
  let main_v17 : IVec S1x2048x8x128 1 := cmpf .olt main_v15 main_v16
  (main_v2, main_v5, main_v8, main_v11, main_v14, main_v17)
-- ==== Pre_finite_ffn.lean ====
abbrev S1x2048x1024 : Shape := ⟨3, ![1, 2048, 1024]⟩
abbrev S1024x2816 : Shape := ⟨2, ![1024, 2816]⟩
abbrev S2816x1024 : Shape := ⟨2, ![2816, 1024]⟩
abbrev S_ : Shape := ⟨0, ![]⟩

class Facts : Prop where
  bcast_S_S1x2048x1024 : S_.BroadcastsInDim S1x2048x1024 (![] : Fin 0 → Fin S1x2048x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S1x2048x1024 .f32) (main_arg1 : FVec F S1024x2816 .f32) (main_arg2 : FVec F S1024x2816 .f32) (main_arg3 : FVec F S2816x1024 .f32) (main_arg4 : FVec F S1x2048x1024 .f32) : IVec S1x2048x1024 1 × IVec S1024x2816 1 × IVec S1024x2816 1 × IVec S2816x1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  (main_v2, main_v5, main_v8, main_v11, main_v14)
-- ==== Pre_finite_gdn_conv.lean ====
abbrev S1x2048x4352 : Shape := ⟨3, ![1, 2048, 4352]⟩
abbrev S3072x4 : Shape := ⟨2, ![3072, 4]⟩
abbrev S1x2048x8x128 : Shape := ⟨4, ![1, 2048, 8, 128]⟩
abbrev S_ : Shape := ⟨0, ![]⟩

class Facts : Prop where
  bcast_S_S1x2048x4352 : S_.BroadcastsInDim S1x2048x4352 (![] : Fin 0 → Fin S1x2048x4352.rank)
  bcast_S_S3072x4 : S_.BroadcastsInDim S3072x4 (![] : Fin 0 → Fin S3072x4.rank)
  bcast_S_S1x2048x8x128 : S_.BroadcastsInDim S1x2048x8x128 (![] : Fin 0 → Fin S1x2048x8x128.rank)

variable [Facts]

def fn {F : FTy → Type} [FloatOps F] (main_arg0 : FVec F S1x2048x4352 .f32) (main_arg1 : FVec F S3072x4 .f32) (main_arg2 : FVec F S1x2048x8x128 .f32) (main_arg3 : FVec F S1x2048x8x128 .f32) (main_arg4 : FVec F S1x2048x8x128 .f32) : IVec S1x2048x4352 1 × IVec S3072x4 1 × IVec S1x2048x8x128 1 × IVec S1x2048x8x128 1 × IVec S1x2048x8x128 1 :=
  let main_v0 : FVec F S1x2048x4352 .f32 := Host.absf main_arg0
  let main_cst : FVec F S_ .f32 := constant S_ .f32 0x7F800000#32
  let main_v1 : FVec F S1x2048x4352 .f32 := broadcastInDim S1x2048x4352 ![] bcast_S_S1x2048x4352 main_cst
  let main_v2 : IVec S1x2048x4352 1 := cmpf .olt main_v0 main_v1
  let main_v3 : FVec F S3072x4 .f32 := Host.absf main_arg1
  let main_cst_0 : FVec F S_ .f32 := constant S_ .f32 0x7F800000#32
  let main_v4 : FVec F S3072x4 .f32 := broadcastInDim S3072x4 ![] bcast_S_S3072x4 main_cst_0
  let main_v5 : IVec S3072x4 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  let main_v9 : FVec F S1x2048x8x128 .f32 := Host.absf main_arg3
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_v12 : FVec F S1x2048x8x128 .f32 := Host.absf main_arg4
  let main_cst_3 : FVec F S_ .f32 := constant S_ .f32 0x7F800000#32
  let main_v13 : FVec F S1x2048x8x128 .f32 := broadcastInDim S1x2048x8x128 ![] bcast_S_S1x2048x8x128 main_cst_3
  let main_v14 : IVec S1x2048x8x128 1 := cmpf .olt main_v12 main_v13
  (main_v2, main_v5, main_v8, main_v11, main_v14)
-- ==== Kernel.lean ====
abbrev S1x2048x8x128 : Shape := ⟨4, ![1, 2048, 8, 128]⟩
abbrev S1x2048x8x64 : Shape := ⟨4, ![1, 2048, 8, 64]⟩
abbrev S1x2048x64 : Shape := ⟨3, ![1, 2048, 64]⟩
abbrev S2048x1024 : Shape := ⟨2, ![2048, 1024]⟩
abbrev S2048x8x64 : Shape := ⟨3, ![2048, 8, 64]⟩
abbrev S_ : Shape := ⟨0, ![]⟩
abbrev S2048x8x128 : Shape := ⟨3, ![2048, 8, 128]⟩
abbrev S2048x2048 : Shape := ⟨2, ![2048, 2048]⟩
abbrev S2048x64 : Shape := ⟨2, ![2048, 64]⟩
abbrev S2048x128 : Shape := ⟨2, ![2048, 128]⟩
abbrev S1x8x2048x2048 : Shape := ⟨4, ![1, 8, 2048, 2048]⟩
abbrev S1x2048x2048x8 : Shape := ⟨4, ![1, 2048, 2048, 8]⟩
abbrev S2048 : Shape := ⟨1, ![2048]⟩
abbrev S1x2048 : Shape := ⟨2, ![1, 2048]⟩
abbrev S2048x1 : Shape := ⟨2, ![2048, 1]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S512x256 : Shape := ⟨2, ![512, 256]⟩
abbrev S256x512 : Shape := ⟨2, ![256, 512]⟩
abbrev S768x128 : Shape := ⟨2, ![768, 128]⟩
abbrev S768x256 : Shape := ⟨2, ![768, 256]⟩
abbrev S256x768 : Shape := ⟨2, ![256, 768]⟩
abbrev S1024x128 : Shape := ⟨2, ![1024, 128]⟩
abbrev S1024x256 : Shape := ⟨2, ![1024, 256]⟩
abbrev S256x1024 : Shape := ⟨2, ![256, 1024]⟩
abbrev S1280x128 : Shape := ⟨2, ![1280, 128]⟩
abbrev S1280x256 : Shape := ⟨2, ![1280, 256]⟩
abbrev S256x1280 : Shape := ⟨2, ![256, 1280]⟩
abbrev S1536x128 : Shape := ⟨2, ![1536, 128]⟩
abbrev S1536x256 : Shape := ⟨2, ![1536, 256]⟩
abbrev S256x1536 : Shape := ⟨2, ![256, 1536]⟩
abbrev S1792x128 : Shape := ⟨2, ![1792, 128]⟩
abbrev S1792x256 : Shape := ⟨2, ![1792, 256]⟩
abbrev S256x1792 : Shape := ⟨2, ![256, 1792]⟩
abbrev S2048x256 : Shape := ⟨2, ![2048, 256]⟩
abbrev S256x2048 : Shape := ⟨2, ![256, 2048]⟩

abbrev nBuf : Space → Nat
  | .hbm => 66
  | .vmem => 22
  | .smem => 0
  | _ => 0

abbrev bufTy : (tb : Table) → Fin (tcTables nBuf tb) → BufTy
  | .hbm, ⟨0, _⟩ => ⟨S1x2048x8x128, .f32⟩
  | .hbm, ⟨1, _⟩ => ⟨S1x2048x8x64, .f32⟩
  | .hbm, ⟨2, _⟩ => ⟨S1x2048x8x128, .f32⟩
  | .hbm, ⟨3, _⟩ => ⟨S1x2048x64, .f32⟩
  | .hbm, ⟨4, _⟩ => ⟨S1x2048x8x128, .f32⟩
  | .hbm, ⟨5, _⟩ => ⟨S1x2048x8x128, .f32⟩
  | .hbm, ⟨6, _⟩ => ⟨S2048x1024, .f32⟩
  | .hbm, ⟨7, _⟩ => ⟨S2048x1024, .bf16⟩
  | .hbm, ⟨8, _⟩ => ⟨S2048x8x64, .f32⟩
  | .hbm, ⟨9, _⟩ => ⟨S_, .i32⟩
  | .hbm, ⟨10, _⟩ => ⟨S_, .f32⟩
  | .hbm, ⟨11, _⟩ => ⟨S2048x8x128, .f32⟩
  | .hbm, ⟨12, _⟩ => ⟨S2048x1024, .f32⟩
  | .hbm, ⟨13, _⟩ => ⟨S2048x1024, .bf16⟩
  | .hbm, ⟨14, _⟩ => ⟨S2048x1024, .f32⟩
  | .hbm, ⟨15, _⟩ => ⟨S2048x1024, .f32⟩
  | .hbm, ⟨16, _⟩ => ⟨S2048x2048, .f32⟩
  | .hbm, ⟨17, _⟩ => ⟨S2048x2048, .bf16⟩
  | .hbm, ⟨18, _⟩ => ⟨S2048x64, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x128, .bf16⟩
  | .hbm, ⟨23, _⟩ => ⟨S2048x1024, .f32⟩
  | .hbm, ⟨24, _⟩ => ⟨S2048x1024, .bf16⟩
  | .hbm, ⟨25, _⟩ => ⟨S1x8x2048x2048, .f32⟩
  | .hbm, ⟨26, _⟩ => ⟨S1x2048x2048x8, .f32⟩
  | .hbm, ⟨27, _⟩ => ⟨S1x8x2048x2048, .f32⟩
  | .hbm, ⟨28, _⟩ => ⟨S1x8x2048x2048, .f32⟩
  | .hbm, ⟨29, _⟩ => ⟨S_, .f32⟩
  | .hbm, ⟨30, _⟩ => ⟨S1x8x2048x2048, .f32⟩
  | .hbm, ⟨31, _⟩ => ⟨S1x8x2048x2048, .f32⟩
  | .hbm, ⟨32, _⟩ => ⟨S2048, .i32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S1x8x2048x2048, .i1⟩
  | .hbm, ⟨41, _⟩ => ⟨S1x8x2048x2048, .f32⟩
  | .hbm, ⟨42, _⟩ => ⟨S1x8x2048x2048, .f32⟩
  | .hbm, ⟨43, _⟩ => ⟨S_, .f32⟩
  | .hbm, ⟨44, _⟩ => ⟨S1x8x2048, .f32⟩
  | .hbm, ⟨45, _⟩ => ⟨S_, .f32⟩
  | .hbm, ⟨46, _⟩ => ⟨S1x8x2048, .f32⟩
  | .hbm, ⟨47, _⟩ => ⟨S1x8x2048, .f32⟩
  | .hbm, ⟨48, _⟩ => ⟨S1x8x2048x1, .f32⟩
  | .hbm, ⟨49, _⟩ => ⟨S1x8x2048x2048, .f32⟩
  | .hbm, ⟨50, _⟩ => ⟨S1x8x2048x2048, .f32⟩
  | .hbm, ⟨51, _⟩ => ⟨S1x8x2048x2048, .f32⟩
  | .hbm, ⟨52, _⟩ => ⟨S_, .f32⟩
  | .hbm, ⟨53, _⟩ => ⟨S1x8x2048, .f32⟩
  | .hbm, ⟨54, _⟩ => ⟨S1x8x2048x1, .f32⟩
  | .hbm, ⟨55, _⟩ => ⟨S1x8x2048x2048, .f32⟩
  | .hbm, ⟨56, _⟩ => ⟨S1x8x2048x2048, .f32⟩
  | .hbm, ⟨57, _⟩ => ⟨S1x8x128x2048, .f32⟩
  | .hbm, ⟨58, _⟩ => ⟨S1x2048x8x128, .f32⟩
  | .hbm, ⟨59, _⟩ => ⟨S2048x1024, .f32⟩
  | .hbm, ⟨60, _⟩ => ⟨S2048x1024, .bf16⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x128, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S1x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_v43_3 : Ref sig .tc := ⟨.hbm, 64, rfl⟩
abbrev main_v43_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def k0_cond6 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def k0_cond7 (i : grid0.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_9 : BitVec 32 := 0#32
  let v22 : BitVec 1 := Scalar.cmpi .ne v21 c0_i32_9
  v22

def k0_cond8 (i : grid0.Coords) : BitVec 1 :=
  let arg1 : BitVec 32 := BitVec.ofNat 32 (i 1).val
  let c5_i32 : BitVec 32 := 5#32
  let v23 : BitVec 1 := Scalar.cmpi .eq arg1 c5_i32
  let v24 : BitVec 32 := Scalar.extui v23
  let c0_i32_10 : BitVec 32 := 0#32
  let v25 : BitVec 1 := Scalar.cmpi .ne v24 c0_i32_10
  v25

def k0_cond9 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_11 : BitVec 32 := 0#32
  let v28 : BitVec 1 := Scalar.cmpi .ne v27 c0_i32_11
  v28

def k0_cond10 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S1x2048x8x128 : Shape := ⟨4, ![1, 2048, 8, 128]⟩
abbrev S1x2048x8x64 : Shape := ⟨4, ![1, 2048, 8, 64]⟩
abbrev S1x2048x64 : Shape := ⟨3, ![1, 2048, 64]⟩
abbrev S1x8x2048x2048 : Shape := ⟨4, ![1, 8, 2048, 2048]⟩
abbrev S1x2048x2048x8 : Shape := ⟨4, ![1, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S8x2048 : Shape := ⟨2, ![8, 2048]⟩
abbrev S1x8x2048x128 : Shape := ⟨4, ![1, 8, 2048, 128]⟩
abbrev S2048x1024 : Shape := ⟨2, ![2048, 1024]⟩
abbrev S1x2048x128 : Shape := ⟨3, ![1, 2048, 128]⟩
abbrev S2048x128 : Shape := ⟨2, ![2048, 128]⟩

abbrev nBuf : Space → Nat
  | .hbm => 109
  | .vmem => 0
  | .smem => 0
  | _ => 0

abbrev bufTy : (tb : Table) → Fin (tcTables nBuf tb) → BufTy
  | .hbm, ⟨0, _⟩ => ⟨S1x2048x8x128, .f32⟩
  | .hbm, ⟨1, _⟩ => ⟨S1x2048x8x64, .f32⟩
  | .hbm, ⟨2, _⟩ => ⟨S1x2048x8x128, .f32⟩
  | .hbm, ⟨3, _⟩ => ⟨S1x2048x64, .f32⟩
  | .hbm, ⟨4, _⟩ => ⟨S1x2048x8x128, .f32⟩
  | .hbm, ⟨5, _⟩ => ⟨S1x2048x8x128, .f32⟩
  | .hbm, ⟨6, _⟩ => ⟨S1x8x2048x2048, .f32⟩
  | .hbm, ⟨7, _⟩ => ⟨S1x2048x2048x8, .f32⟩
  | .hbm, ⟨8, _⟩ => ⟨S1x8x2048x2048, .f32⟩
  | .hbm, ⟨9, _⟩ => ⟨S1x8x2048x2048, .f32⟩
  | .hbm, ⟨10, _⟩ => ⟨S_, .f32⟩
  | .hbm, ⟨11, _⟩ => ⟨S1x8x2048x2048, .f32⟩
  | .hbm, ⟨12, _⟩ => ⟨S1x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S1x8x2048x2048, .i1⟩
  | .hbm, ⟨22, _⟩ => ⟨S1x8x2048x2048, .f32⟩
  | .hbm, ⟨23, _⟩ => ⟨S1x8x2048x2048, .f32⟩
  | .hbm, ⟨24, _⟩ => ⟨S_, .f32⟩
  | .hbm, ⟨25, _⟩ => ⟨S1x8x2048x2048, .f32⟩
  | .hbm, ⟨26, _⟩ => ⟨S_, .f32⟩
  | .hbm, ⟨27, _⟩ => ⟨S1x8x2048, .f32⟩
  | .hbm, ⟨28, _⟩ => ⟨S1x8x2048x1, .f32⟩
  | .hbm, ⟨29, _⟩ => ⟨S1x8x2048x2048, .f32⟩
  | .hbm, ⟨30, _⟩ => ⟨S1x8x2048x2048, .i1⟩
  | .hbm, ⟨31, _⟩ => ⟨S1x8x2048x2048, .f32⟩
  | .hbm, ⟨32, _⟩ => ⟨S_, .f32⟩
  | .hbm, ⟨33, _⟩ => ⟨S1x8x2048, .f32⟩
  | .hbm, ⟨34, _⟩ => ⟨S_, .f32⟩
  | .hbm, ⟨35, _⟩ => ⟨S1x8x2048, .f32⟩
  | .hbm, ⟨36, _⟩ => ⟨S1x8x2048, .f32⟩
  | .hbm, ⟨37, _⟩ => ⟨S_, .f32⟩
  | .hbm, ⟨38, _⟩ => ⟨S1x8x2048, .f32⟩
  | .hbm, ⟨39, _⟩ => ⟨S1x8x2048, .i1⟩
  | .hbm, ⟨40, _⟩ => ⟨S_, .f32⟩
  | .hbm, ⟨41, _⟩ => ⟨S1x8x2048, .f32⟩
  | .hbm, ⟨42, _⟩ => ⟨S1x8x2048, .i1⟩
  | .hbm, ⟨43, _⟩ => ⟨S_, .f32⟩
  | .hbm, ⟨44, _⟩ => ⟨S1x8x2048, .f32⟩
  | .hbm, ⟨45, _⟩ => ⟨S_, .f32⟩
  | .hbm, ⟨46, _⟩ => ⟨S1x8x2048, .f32⟩
  | .hbm, ⟨47, _⟩ => ⟨S_, .f32⟩
  | .hbm, ⟨48, _⟩ => ⟨S1x8x2048, .f32⟩
  | .hbm, ⟨49, _⟩ => ⟨S1x8x2048, .f32⟩
  | .hbm, ⟨50, _⟩ => ⟨S1x8x2048, .f32⟩
  | .hbm, ⟨51, _⟩ => ⟨S1x8x2048x1, .f32⟩
  | .hbm, ⟨52, _⟩ => ⟨S1x8x2048x2048, .f32⟩
  | .hbm, ⟨53, _⟩ => ⟨S1x8x2048x2048, .f32⟩
  | .hbm, ⟨54, _⟩ => ⟨S1x8x2048x2048, .f32⟩
  | .hbm, ⟨55, _⟩ => ⟨S_, .f32⟩
  | .hbm, ⟨56, _⟩ => ⟨S1x8x2048, .f32⟩
  | .hbm, ⟨57, _⟩ => ⟨S1x8x2048x1, .f32⟩
  | .hbm, ⟨58, _⟩ => ⟨S1x8x2048x2048, .f32⟩
  | .hbm, ⟨59, _⟩ => ⟨S1x8x2048x2048, .f32⟩
  | .hbm, ⟨60, _⟩ => ⟨S1x8x2048x1, .f32⟩
  | .hbm, ⟨61, _⟩ => ⟨S_, .f32⟩
  | .hbm, ⟨62, _⟩ => ⟨S1x8x2048x1, .f32⟩
  | .hbm, ⟨63, _⟩ => ⟨S1x8x2048x1, .f32⟩
  | .hbm, ⟨64, _⟩ => ⟨S1x8x128x2048, .f32⟩
  | .hbm, ⟨65, _⟩ => ⟨S1x2048x8x128, .f32⟩
  | .hbm, ⟨66, _⟩ => ⟨S1x8x128x2048, .f32⟩
  | .hbm, ⟨67, _⟩ => ⟨S1x8x2048x2048, .f32⟩
  | .hbm, ⟨68, _⟩ => ⟨S1x8x128x2048, .f32⟩
  | .hbm, ⟨69, _⟩ => ⟨S1x2048x8x128, .f32⟩
  | .hbm, ⟨70, _⟩ => ⟨S1x8x2048x2048, .f32⟩
  | .hbm, ⟨71, _⟩ => ⟨S1x8x2048x2048, .f32⟩
  | .hbm, ⟨72, _⟩ => ⟨S1x8x2048x2048, .f32⟩
  | .hbm, ⟨73, _⟩ => ⟨S_, .f32⟩
  | .hbm, ⟨74, _⟩ => ⟨S1x8x2048, .f32⟩
  | .hbm, ⟨75, _⟩ => ⟨S1x8x2048x1, .f32⟩
  | .hbm, ⟨76, _⟩ => ⟨S1x8x2048x1, .f32⟩
  | .hbm, ⟨77, _⟩ => ⟨S1x8x2048x2048, .f32⟩
  | .hbm, ⟨78, _⟩ => ⟨S1x8x2048x2048, .f32⟩
  | .hbm, ⟨79, _⟩ => ⟨S_, .f32⟩
  | .hbm, ⟨80, _⟩ => ⟨S8x2048, .f32⟩
  | .hbm, ⟨81, _⟩ => ⟨S1x8x2048, .f32⟩
  | .hbm, ⟨82, _⟩ => ⟨S1x8x2048x2048, .f32⟩
  | .hbm, ⟨83, _⟩ => ⟨S1x8x2048x2048, .f32⟩
  | .hbm, ⟨84, _⟩ => ⟨S1x8x2048x2048, .f32⟩
  | .hbm, ⟨85, _⟩ => ⟨S_, .f32⟩
  | .hbm, ⟨86, _⟩ => ⟨S1x8x2048x2048, .f32⟩
  | .hbm, ⟨87, _⟩ => ⟨S1x8x2048x2048, .f32⟩
  | .hbm, ⟨88, _⟩ => ⟨S_, .f32⟩
  | .hbm, ⟨89, _⟩ => ⟨S1x8x2048x2048, .f32⟩
  | .hbm, ⟨90, _⟩ => ⟨S1x8x2048x2048, .f32⟩
  | .hbm, ⟨91, _⟩ => ⟨S1x2048x2048x8, .f32⟩
  | .hbm, ⟨92, _⟩ => ⟨S1x2048x8x64, .f32⟩
  | .hbm, ⟨93, _⟩ => ⟨S1x2048x64, .f32⟩
  | .hbm, ⟨94, _⟩ => ⟨S1x8x2048x128, .f32⟩
  | .hbm, ⟨95, _⟩ => ⟨S1x2048x8x128, .f32⟩
  | .hbm, ⟨96, _⟩ => ⟨S1x8x2048x128, .f32⟩
  | .hbm, ⟨97, _⟩ => ⟨S1x2048x8x128, .f32⟩
  | .hbm, ⟨98, _⟩ => ⟨S2048x1024, .f32⟩
  | .hbm, ⟨99, _⟩ => ⟨S_, .i32⟩
  | .hbm, ⟨100, _⟩ => ⟨S_, .f32⟩
  | .hbm, ⟨101, _⟩ => ⟨S1x2048x8x128, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S_, .i32⟩
  | .hbm, ⟨106, _⟩ => ⟨S_, .f32⟩
  | .hbm, ⟨107, _⟩ => ⟨S1x2048x128, .f32⟩
  | .hbm, ⟨108, _⟩ => ⟨S2048x128, .f32⟩
  | _, _ => ⟨S1x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c : Ref sig .tc := ⟨.hbm, 99, rfl⟩
abbrev main_call2_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_call3_v0 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Ffn.lean ====
abbrev S1x2048x1024 : Shape := ⟨3, ![1, 2048, 1024]⟩
abbrev S1024x2816 : Shape := ⟨2, ![1024, 2816]⟩
abbrev S2816x1024 : Shape := ⟨2, ![2816, 1024]⟩
abbrev S1024x4x704 : Shape := ⟨3, ![1024, 4, 704]⟩
abbrev S4x704x1024 : Shape := ⟨3, ![4, 704, 1024]⟩
abbrev S2048x1024 : Shape := ⟨2, ![2048, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩
abbrev S1x2048x704 : Shape := ⟨3, ![1, 2048, 704]⟩
abbrev S2048x704 : Shape := ⟨2, ![2048, 704]⟩
abbrev S2048x512 : Shape := ⟨2, ![2048, 512]⟩
abbrev S1x704x512 : Shape := ⟨3, ![1, 704, 512]⟩
abbrev S704x512 : Shape := ⟨2, ![704, 512]⟩

abbrev nBuf : Space → Nat
  | .hbm => 27
  | .vmem => 55
  | .smem => 0
  | _ => 0

abbrev bufTy : (tb : Table) → Fin (tcTables nBuf tb) → BufTy
  | .hbm, ⟨0, _⟩ => ⟨S1x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x2048x1024, .f32⟩
  | .hbm, ⟨5, _⟩ => ⟨S1024x4x704, .f32⟩
  | .hbm, ⟨6, _⟩ => ⟨S4x704x1024, .f32⟩
  | .hbm, ⟨7, _⟩ => ⟨S4x704x1024, .bf16⟩
  | .hbm, ⟨8, _⟩ => ⟨S1024x4x704, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S4x2048x704, .bf16⟩
  | .hbm, ⟨18, _⟩ => ⟨S4x2048x704, .bf16⟩
  | .hbm, ⟨19, _⟩ => ⟨S4x2048x704, .bf16⟩
  | .hbm, ⟨20, _⟩ => ⟨S2048x1024, .f32⟩
  | .hbm, ⟨21, _⟩ => ⟨S4x2048x704, .bf16⟩
  | .hbm, ⟨22, _⟩ => ⟨S4x2048x704, .bf16⟩
  | .hbm, ⟨23, _⟩ => ⟨S4x704x1024, .bf16⟩
  | .hbm, ⟨24, _⟩ => ⟨S4x704x1024, .bf16⟩
  | .hbm, ⟨25, _⟩ => ⟨S4x704x1024, .bf16⟩
  | .hbm, ⟨26, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x704x1024, .bf16⟩
  | .local _ .vmem, ⟨15, _⟩ => ⟨S1x704x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S1x1024x704, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x1024x704, .bf16⟩
  | .local _ .vmem, ⟨29, _⟩ => ⟨S1x1024x704, .bf16⟩
  | .local _ .vmem, ⟨30, _⟩ => ⟨S1x2048x704, .bf16⟩
  | .local _ .vmem, ⟨31, _⟩ => ⟨S1x2048x704, .bf16⟩
  | .local _ .vmem, ⟨32, _⟩ => ⟨S2048x1024, .bf16⟩
  | .local _ .vmem, ⟨33, _⟩ => ⟨S1x704x1024, .bf16⟩
  | .local _ .vmem, ⟨34, _⟩ => ⟨S1x704x1024, .bf16⟩
  | .local _ .vmem, ⟨35, _⟩ => ⟨S2048x512, .bf16⟩
  | .local _ .vmem, ⟨36, _⟩ => ⟨S2048x512, .bf16⟩
  | .local _ .vmem, ⟨37, _⟩ => ⟨S1x2048x704, .bf16⟩
  | .local _ .vmem, ⟨38, _⟩ => ⟨S1x2048x704, .bf16⟩
  | .local _ .vmem, ⟨39, _⟩ => ⟨S1x2048x704, .bf16⟩
  | .local _ .vmem, ⟨40, _⟩ => ⟨S1x2048x704, .bf16⟩
  | .local _ .vmem, ⟨41, _⟩ => ⟨S1x704x512, .bf16⟩
  | .local _ .vmem, ⟨42, _⟩ => ⟨S1x704x512, .bf16⟩
  | .local _ .vmem, ⟨43, _⟩ => ⟨S1x704x512, .bf16⟩
  | .local _ .vmem, ⟨44, _⟩ => ⟨S1x704x512, .bf16⟩
  | .local _ .vmem, ⟨45, _⟩ => ⟨S1x1024x704, .bf16⟩
  | .local _ .vmem, ⟨46, _⟩ => ⟨S1x1024x704, .bf16⟩
  | .local _ .vmem, ⟨47, _⟩ => ⟨S1x1024x704, .bf16⟩
  | .local _ .vmem, ⟨48, _⟩ => ⟨S1x1024x704, .bf16⟩
  | .local _ .vmem, ⟨49, _⟩ => ⟨S1x704x1024, .bf16⟩
  | .local _ .vmem, ⟨50, _⟩ => ⟨S1x704x1024, .bf16⟩
  | .local _ .vmem, ⟨51, _⟩ => ⟨S1x704x1024, .bf16⟩
  | .local _ .vmem, ⟨52, _⟩ => ⟨S1x704x1024, .bf16⟩
  | .local _ .vmem, ⟨53, _⟩ => ⟨S1024x1024, .f32⟩
  | .local _ .vmem, ⟨54, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem3_1 : DmaSem sig := 52
abbrev cc5_sem4_0 : DmaSem sig := 53
abbrev cc5_sem4_1 : DmaSem sig := 54

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x704x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x704x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x2048x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x704x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x704x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![2, 4], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x1024x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1024x704 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x704x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1x704x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]
-- ==== FfnReferenceIdeal.lean ====
abbrev S1x2048x1024 : Shape := ⟨3, ![1, 2048, 1024]⟩
abbrev S1024x2816 : Shape := ⟨2, ![1024, 2816]⟩
abbrev S2816x1024 : Shape := ⟨2, ![2816, 1024]⟩
abbrev S1x2048x2816 : Shape := ⟨3, ![1, 2048, 2816]⟩
abbrev S_ : Shape := ⟨0, ![]⟩
abbrev S2048x1024 : Shape := ⟨2, ![2048, 1024]⟩
abbrev S1024x4x704 : Shape := ⟨3, ![1024, 4, 704]⟩
abbrev S4x704x1024 : Shape := ⟨3, ![4, 704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x2048x1024, .f32⟩
  | .hbm, ⟨5, _⟩ => ⟨S1x2048x2816, .f32⟩
  | .hbm, ⟨6, _⟩ => ⟨S1x2048x2816, .f32⟩
  | .hbm, ⟨7, _⟩ => ⟨S1x2048x2816, .f32⟩
  | .hbm, ⟨8, _⟩ => ⟨S_, .f32⟩
  | .hbm, ⟨9, _⟩ => ⟨S1x2048x2816, .f32⟩
  | .hbm, ⟨10, _⟩ => ⟨S1x2048x2816, .f32⟩
  | .hbm, ⟨11, _⟩ => ⟨S_, .f32⟩
  | .hbm, ⟨12, _⟩ => ⟨S1x2048x2816, .f32⟩
  | .hbm, ⟨13, _⟩ => ⟨S1x2048x2816, .f32⟩
  | .hbm, ⟨14, _⟩ => ⟨S_, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S1x2048x2816, .f32⟩
  | .hbm, ⟨19, _⟩ => ⟨S1x2048x2816, .f32⟩
  | .hbm, ⟨20, _⟩ => ⟨S1x2048x2816, .f32⟩
  | .hbm, ⟨21, _⟩ => ⟨S1x2048x1024, .f32⟩
  | .hbm, ⟨22, _⟩ => ⟨S1024x2816, .f32⟩
  | .hbm, ⟨23, _⟩ => ⟨S2816x1024, .f32⟩
  | .hbm, ⟨24, _⟩ => ⟨S1x2048x2816, .f32⟩
  | .hbm, ⟨25, _⟩ => ⟨S1x2048x2816, .f32⟩
  | .hbm, ⟨26, _⟩ => ⟨S1x2048x2816, .f32⟩
  | .hbm, ⟨27, _⟩ => ⟨S2816x1024, .f32⟩
  | .hbm, ⟨28, _⟩ => ⟨S1024x2816, .f32⟩
  | .hbm, ⟨29, _⟩ => ⟨S1x2048x1024, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S2816x1024, .f32⟩
  | .hbm, ⟨35, _⟩ => ⟨S1024x2816, .f32⟩
  | .hbm, ⟨36, _⟩ => ⟨S1x2048x1024, .f32⟩
  | .hbm, ⟨37, _⟩ => ⟨S1x2048x1024, .f32⟩
  | .hbm, ⟨38, _⟩ => ⟨S2048x1024, .f32⟩
  | .hbm, ⟨39, _⟩ => ⟨S2048x1024, .f32⟩
  | .hbm, ⟨40, _⟩ => ⟨S1024x4x704, .f32⟩
  | .hbm, ⟨41, _⟩ => ⟨S4x704x1024, .f32⟩
  | .hbm, ⟨42, _⟩ => ⟨S4x704x1024, .bf16⟩
  | .hbm, ⟨43, _⟩ => ⟨S1024x4x704, .f32⟩
  | .hbm, ⟨44, _⟩ => ⟨S4x704x1024, .f32⟩
  | .hbm, ⟨45, _⟩ => ⟨S4x704x1024, .bf16⟩
  | .hbm, ⟨46, _⟩ => ⟨S4x704x1024, .f32⟩
  | .hbm, ⟨47, _⟩ => ⟨S4x704x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== GdnProj.lean ====
abbrev S1x2048x1024 : Shape := ⟨3, ![1, 2048, 1024]⟩
abbrev S1024x4352 : Shape := ⟨2, ![1024, 4352]⟩
abbrev S1x2048x4352 : Shape := ⟨3, ![1, 2048, 4352]⟩
abbrev S1024x1024 : Shape := ⟨2, ![1024, 1024]⟩
abbrev S2048x1024 : Shape := ⟨2, ![2048, 1024]⟩
abbrev S2048x4352 : Shape := ⟨2, ![2048, 4352]⟩
abbrev S512x1024 : Shape := ⟨2, ![512, 1024]⟩
abbrev S1024x2176 : Shape := ⟨2, ![1024, 2176]⟩
abbrev S512x2176 : Shape := ⟨2, ![512, 2176]⟩
abbrev S2048x512 : Shape := ⟨2, ![2048, 512]⟩
abbrev S2048x2176 : Shape := ⟨2, ![2048, 2176]⟩
abbrev S512x4352 : Shape := ⟨2, ![512, 4352]⟩

abbrev nBuf : Space → Nat
  | .hbm => 22
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1024x4352, .f32⟩
  | .hbm, ⟨2, _⟩ => ⟨S1x2048x4352, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S1024x4352, .bf16⟩
  | .hbm, ⟨9, _⟩ => ⟨S2048x4352, .f32⟩
  | .hbm, ⟨10, _⟩ => ⟨S2048x4352, .bf16⟩
  | .hbm, ⟨11, _⟩ => ⟨S2048x1024, .f32⟩
  | .hbm, ⟨12, _⟩ => ⟨S2048x1024, .bf16⟩
  | .hbm, ⟨13, _⟩ => ⟨S1024x1024, .bf16⟩
  | .hbm, ⟨14, _⟩ => ⟨S2048x1024, .f32⟩
  | .hbm, ⟨15, _⟩ => ⟨S2048x1024, .bf16⟩
  | .hbm, ⟨16, _⟩ => ⟨S2048x4352, .f32⟩
  | .hbm, ⟨17, _⟩ => ⟨S1024x4352, .bf16⟩
  | .hbm, ⟨18, _⟩ => ⟨S2048x1024, .f32⟩
  | .hbm, ⟨19, _⟩ => ⟨S2048x1024, .f32⟩
  | .hbm, ⟨20, _⟩ => ⟨S1024x1024, .bf16⟩
  | .hbm, ⟨21, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2176, .bf16⟩
  | .local _ .vmem, ⟨3, _⟩ => ⟨S1024x2176, .bf16⟩
  | .local _ .vmem, ⟨4, _⟩ => ⟨S512x2176, .f32⟩
  | .local _ .vmem, ⟨5, _⟩ => ⟨S512x2176, .f32⟩
  | .local _ .vmem, ⟨6, _⟩ => ⟨S2048x512, .bf16⟩
  | .local _ .vmem, ⟨7, _⟩ => ⟨S2048x512, .bf16⟩
  | .local _ .vmem, ⟨8, _⟩ => ⟨S2048x2176, .bf16⟩
  | .local _ .vmem, ⟨9, _⟩ => ⟨S2048x2176, .bf16⟩
  | .local _ .vmem, ⟨10, _⟩ => ⟨S512x2176, .bf16⟩
  | .local _ .vmem, ⟨11, _⟩ => ⟨S512x2176, .bf16⟩
  | .local _ .vmem, ⟨12, _⟩ => ⟨S512x4352, .bf16⟩
  | .local _ .vmem, ⟨13, _⟩ => ⟨S512x4352, .bf16⟩
  | .local _ .vmem, ⟨14, _⟩ => ⟨S1024x4352, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S2048x512, .bf16⟩
  | .local _ .vmem, ⟨23, _⟩ => ⟨S2048x512, .bf16⟩
  | .local _ .vmem, ⟨24, _⟩ => ⟨S2048x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S512x1024, .f32⟩
  | .local _ .vmem, ⟨31, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x2176 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2176 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4352 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x4352 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== GdnProjReferenceIdeal.lean ====
abbrev S1x2048x1024 : Shape := ⟨3, ![1, 2048, 1024]⟩
abbrev S1024x4352 : Shape := ⟨2, ![1024, 4352]⟩
abbrev S1x2048x4352 : Shape := ⟨3, ![1, 2048, 4352]⟩
abbrev S1024x1024 : Shape := ⟨2, ![1024, 1024]⟩
abbrev S4352x1024 : Shape := ⟨2, ![4352, 1024]⟩
abbrev S2048x4352 : Shape := ⟨2, ![2048, 4352]⟩
abbrev S2048x1024 : Shape := ⟨2, ![2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4352, .f32⟩
  | .hbm, ⟨2, _⟩ => ⟨S1x2048x4352, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S1x2048x4352, .f32⟩
  | .hbm, ⟨7, _⟩ => ⟨S4352x1024, .f32⟩
  | .hbm, ⟨8, _⟩ => ⟨S1024x4352, .f32⟩
  | .hbm, ⟨9, _⟩ => ⟨S1x2048x1024, .f32⟩
  | .hbm, ⟨10, _⟩ => ⟨S2048x4352, .f32⟩
  | .hbm, ⟨11, _⟩ => ⟨S1024x4352, .bf16⟩
  | .hbm, ⟨12, _⟩ => ⟨S2048x1024, .f32⟩
  | .hbm, ⟨13, _⟩ => ⟨S1x2048x1024, .f32⟩
  | .hbm, ⟨14, _⟩ => ⟨S1024x1024, .f32⟩
  | .hbm, ⟨15, _⟩ => ⟨S1024x1024, .f32⟩
  | .hbm, ⟨16, _⟩ => ⟨S1x2048x1024, .f32⟩
  | .hbm, ⟨17, _⟩ => ⟨S2048x1024, .f32⟩
  | .hbm, ⟨18, _⟩ => ⟨S1024x1024, .bf16⟩
  | .hbm, ⟨19, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MlaProj.lean ====
abbrev S1x2048x1024 : Shape := ⟨3, ![1, 2048, 1024]⟩
abbrev S1024x768 : Shape := ⟨2, ![1024, 768]⟩
abbrev S1x2048x768 : Shape := ⟨3, ![1, 2048, 768]⟩
abbrev S1024x1024 : Shape := ⟨2, ![1024, 1024]⟩
abbrev S2048x1024 : Shape := ⟨2, ![2048, 1024]⟩
abbrev S2048x768 : Shape := ⟨2, ![2048, 768]⟩
abbrev S512x1024 : Shape := ⟨2, ![512, 1024]⟩
abbrev S512x768 : Shape := ⟨2, ![512, 768]⟩
abbrev S2048x512 : Shape := ⟨2, ![2048, 512]⟩

abbrev nBuf : Space → Nat
  | .hbm => 22
  | .vmem => 30
  | .smem => 0
  | _ => 0

abbrev bufTy : (tb : Table) → Fin (tcTables nBuf tb) → BufTy
  | .hbm, ⟨0, _⟩ => ⟨S1x2048x1024, .f32⟩
  | .hbm, ⟨1, _⟩ => ⟨S1024x768, .f32⟩
  | .hbm, ⟨2, _⟩ => ⟨S1x2048x768, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S1024x768, .bf16⟩
  | .hbm, ⟨9, _⟩ => ⟨S2048x768, .f32⟩
  | .hbm, ⟨10, _⟩ => ⟨S2048x768, .bf16⟩
  | .hbm, ⟨11, _⟩ => ⟨S2048x1024, .f32⟩
  | .hbm, ⟨12, _⟩ => ⟨S2048x1024, .bf16⟩
  | .hbm, ⟨13, _⟩ => ⟨S1024x1024, .bf16⟩
  | .hbm, ⟨14, _⟩ => ⟨S2048x1024, .f32⟩
  | .hbm, ⟨15, _⟩ => ⟨S2048x1024, .bf16⟩
  | .hbm, ⟨16, _⟩ => ⟨S2048x768, .f32⟩
  | .hbm, ⟨17, _⟩ => ⟨S1024x768, .bf16⟩
  | .hbm, ⟨18, _⟩ => ⟨S2048x1024, .f32⟩
  | .hbm, ⟨19, _⟩ => ⟨S2048x1024, .f32⟩
  | .hbm, ⟨20, _⟩ => ⟨S1024x1024, .bf16⟩
  | .hbm, ⟨21, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x768, .f32⟩
  | .local _ .vmem, ⟨4, _⟩ => ⟨S512x768, .f32⟩
  | .local _ .vmem, ⟨5, _⟩ => ⟨S2048x512, .bf16⟩
  | .local _ .vmem, ⟨6, _⟩ => ⟨S2048x512, .bf16⟩
  | .local _ .vmem, ⟨7, _⟩ => ⟨S2048x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S1024x768, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S2048x512, .bf16⟩
  | .local _ .vmem, ⟨21, _⟩ => ⟨S2048x512, .bf16⟩
  | .local _ .vmem, ⟨22, _⟩ => ⟨S2048x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S512x1024, .bf16⟩
  | .local _ .vmem, ⟨29, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== MlaProjReferenceIdeal.lean ====
abbrev S1x2048x1024 : Shape := ⟨3, ![1, 2048, 1024]⟩
abbrev S1024x768 : Shape := ⟨2, ![1024, 768]⟩
abbrev S1x2048x768 : Shape := ⟨3, ![1, 2048, 768]⟩
abbrev S1024x1024 : Shape := ⟨2, ![1024, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x768, .f32⟩
  | .hbm, ⟨2, _⟩ => ⟨S1x2048x768, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S1x2048x768, .f32⟩
  | .hbm, ⟨7, _⟩ => ⟨S768x1024, .f32⟩
  | .hbm, ⟨8, _⟩ => ⟨S1024x768, .f32⟩
  | .hbm, ⟨9, _⟩ => ⟨S1x2048x1024, .f32⟩
  | .hbm, ⟨10, _⟩ => ⟨S2048x768, .f32⟩
  | .hbm, ⟨11, _⟩ => ⟨S1024x768, .bf16⟩
  | .hbm, ⟨12, _⟩ => ⟨S2048x1024, .f32⟩
  | .hbm, ⟨13, _⟩ => ⟨S1x2048x1024, .f32⟩
  | .hbm, ⟨14, _⟩ => ⟨S1024x1024, .f32⟩
  | .hbm, ⟨15, _⟩ => ⟨S1024x1024, .f32⟩
  | .hbm, ⟨16, _⟩ => ⟨S1x2048x1024, .f32⟩
  | .hbm, ⟨17, _⟩ => ⟨S2048x1024, .f32⟩
  | .hbm, ⟨18, _⟩ => ⟨S1024x1024, .bf16⟩
  | .hbm, ⟨19, _⟩ => ⟨S2048x1024, .f32⟩
  | .hbm, ⟨20, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MlaUp.lean ====
abbrev S1x2048x384 : Shape := ⟨3, ![1, 2048, 384]⟩
abbrev S384x2048 : Shape := ⟨2, ![384, 2048]⟩
abbrev S1x2048x2048 : Shape := ⟨3, ![1, 2048, 2048]⟩
abbrev S1x2048x256 : Shape := ⟨3, ![1, 2048, 256]⟩
abbrev S256x2048 : Shape := ⟨2, ![256, 2048]⟩
abbrev S2048x384 : Shape := ⟨2, ![2048, 384]⟩
abbrev S2048x2048 : Shape := ⟨2, ![2048, 2048]⟩
abbrev S2048x256 : Shape := ⟨2, ![2048, 256]⟩
abbrev S512x384 : Shape := ⟨2, ![512, 384]⟩
abbrev S384x1024 : Shape := ⟨2, ![384, 1024]⟩
abbrev S512x1024 : Shape := ⟨2, ![512, 1024]⟩
abbrev S2048x1024 : Shape := ⟨2, ![2048, 1024]⟩
abbrev S512x2048 : Shape := ⟨2, ![512, 2048]⟩
abbrev S512x256 : Shape := ⟨2, ![512, 256]⟩
abbrev S256x1024 : Shape := ⟨2, ![256, 1024]⟩

abbrev nBuf : Space → Nat
  | .hbm => 21
  | .vmem => 32
  | .smem => 0
  | _ => 0

abbrev bufTy : (tb : Table) → Fin (tcTables nBuf tb) → BufTy
  | .hbm, ⟨0, _⟩ => ⟨S1x2048x384, .f32⟩
  | .hbm, ⟨1, _⟩ => ⟨S384x2048, .f32⟩
  | .hbm, ⟨2, _⟩ => ⟨S1x2048x2048, .f32⟩
  | .hbm, ⟨3, _⟩ => ⟨S1x2048x256, .f32⟩
  | .hbm, ⟨4, _⟩ => ⟨S256x2048, .f32⟩
  | .hbm, ⟨5, _⟩ => ⟨S1x2048x2048, .f32⟩
  | .hbm, ⟨6, _⟩ => ⟨S2048x384, .f32⟩
  | .hbm, ⟨7, _⟩ => ⟨S2048x384, .bf16⟩
  | .hbm, ⟨8, _⟩ => ⟨S384x2048, .bf16⟩
  | .hbm, ⟨9, _⟩ => ⟨S2048x2048, .f32⟩
  | .hbm, ⟨10, _⟩ => ⟨S2048x2048, .bf16⟩
  | .hbm, ⟨11, _⟩ => ⟨S2048x256, .f32⟩
  | .hbm, ⟨12, _⟩ => ⟨S2048x256, .bf16⟩
  | .hbm, ⟨13, _⟩ => ⟨S256x2048, .bf16⟩
  | .hbm, ⟨14, _⟩ => ⟨S2048x2048, .f32⟩
  | .hbm, ⟨15, _⟩ => ⟨S2048x2048, .f32⟩
  | .hbm, ⟨16, _⟩ => ⟨S384x2048, .bf16⟩
  | .hbm, ⟨17, _⟩ => ⟨S2048x384, .f32⟩
  | .hbm, ⟨18, _⟩ => ⟨S2048x2048, .bf16⟩
  | .hbm, ⟨19, _⟩ => ⟨S256x2048, .bf16⟩
  | .hbm, ⟨20, _⟩ => ⟨S2048x256, .f32⟩
  | .local _ .vmem, ⟨0, _⟩ => ⟨S512x384, .bf16⟩
  | .local _ .vmem, ⟨1, _⟩ => ⟨S512x384, .bf16⟩
  | .local _ .vmem, ⟨2, _⟩ => ⟨S384x1024, .bf16⟩
  | .local _ .vmem, ⟨3, _⟩ => ⟨S384x1024, .bf16⟩
  | .local _ .vmem, ⟨4, _⟩ => ⟨S512x1024, .f32⟩
  | .local _ .vmem, ⟨5, _⟩ => ⟨S512x1024, .f32⟩
  | .local _ .vmem, ⟨6, _⟩ => ⟨S2048x384, .bf16⟩
  | .local _ .vmem, ⟨7, _⟩ => ⟨S2048x1024, .bf16⟩
  | .local _ .vmem, ⟨8, _⟩ => ⟨S2048x1024, .bf16⟩
  | .local _ .vmem, ⟨9, _⟩ => ⟨S384x1024, .bf16⟩
  | .local _ .vmem, ⟨10, _⟩ => ⟨S384x1024, .bf16⟩
  | .local _ .vmem, ⟨11, _⟩ => ⟨S512x2048, .bf16⟩
  | .local _ .vmem, ⟨12, _⟩ => ⟨S512x2048, .bf16⟩
  | .local _ .vmem, ⟨13, _⟩ => ⟨S384x2048, .bf16⟩
  | .local _ .vmem, ⟨14, _⟩ => ⟨S512x384, .f32⟩
  | .local _ .vmem, ⟨15, _⟩ => ⟨S512x384, .f32⟩
  | .local _ .vmem, ⟨16, _⟩ => ⟨S512x256, .bf16⟩
  | .local _ .vmem, ⟨17, _⟩ => ⟨S512x256, .bf16⟩
  | .local _ .vmem, ⟨18, _⟩ => ⟨S256x1024, .bf16⟩
  | .local _ .vmem, ⟨19, _⟩ => ⟨S256x1024, .bf16⟩
  | .local _ .vmem, ⟨20, _⟩ => ⟨S512x1024, .bf16⟩
  | .local _ .vmem, ⟨21, _⟩ => ⟨S512x1024, .bf16⟩
  | .local _ .vmem, ⟨22, _⟩ => ⟨S2048x256, .bf16⟩
  | .local _ .vmem, ⟨23, _⟩ => ⟨S2048x1024, .f32⟩
  | .local _ .vmem, ⟨24, _⟩ => ⟨S2048x1024, .f32⟩
  | .local _ .vmem, ⟨25, _⟩ => ⟨S256x1024, .bf16⟩
  | .local _ .vmem, ⟨26, _⟩ => ⟨S256x1024, .bf16⟩
  | .local _ .vmem, ⟨27, _⟩ => ⟨S512x2048, .f32⟩
  | .local _ .vmem, ⟨28, _⟩ => ⟨S512x2048, .f32⟩
  | .local _ .vmem, ⟨29, _⟩ => ⟨S256x2048, .bf16⟩
  | .local _ .vmem, ⟨30, _⟩ => ⟨S512x256, .f32⟩
  | .local _ .vmem, ⟨31, _⟩ => ⟨S512x256, .f32⟩
  | _, _ => ⟨S1x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S384x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S384x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x256 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S256x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== MlaUpReferenceIdeal.lean ====
abbrev S1x2048x384 : Shape := ⟨3, ![1, 2048, 384]⟩
abbrev S384x2048 : Shape := ⟨2, ![384, 2048]⟩
abbrev S1x2048x2048 : Shape := ⟨3, ![1, 2048, 2048]⟩
abbrev S1x2048x256 : Shape := ⟨3, ![1, 2048, 256]⟩
abbrev S256x2048 : Shape := ⟨2, ![256, 2048]⟩
abbrev S2048x384 : Shape := ⟨2, ![2048, 384]⟩
abbrev S2048x2048 : Shape := ⟨2, ![2048, 2048]⟩
abbrev S2048x256 : Shape := ⟨2, ![2048, 256]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x384, .f32⟩
  | .hbm, ⟨1, _⟩ => ⟨S384x2048, .f32⟩
  | .hbm, ⟨2, _⟩ => ⟨S1x2048x2048, .f32⟩
  | .hbm, ⟨3, _⟩ => ⟨S1x2048x256, .f32⟩
  | .hbm, ⟨4, _⟩ => ⟨S256x2048, .f32⟩
  | .hbm, ⟨5, _⟩ => ⟨S1x2048x2048, .f32⟩
  | .hbm, ⟨6, _⟩ => ⟨S1x2048x2048, .f32⟩
  | .hbm, ⟨7, _⟩ => ⟨S2048x384, .f32⟩
  | .hbm, ⟨8, _⟩ => ⟨S384x2048, .f32⟩
  | .hbm, ⟨9, _⟩ => ⟨S1x2048x384, .f32⟩
  | .hbm, ⟨10, _⟩ => ⟨S2048x2048, .f32⟩
  | .hbm, ⟨11, _⟩ => ⟨S384x2048, .bf16⟩
  | .hbm, ⟨12, _⟩ => ⟨S2048x384, .f32⟩
  | .hbm, ⟨13, _⟩ => ⟨S1x2048x2048, .f32⟩
  | .hbm, ⟨14, _⟩ => ⟨S2048x256, .f32⟩
  | .hbm, ⟨15, _⟩ => ⟨S256x2048, .f32⟩
  | .hbm, ⟨16, _⟩ => ⟨S1x2048x256, .f32⟩
  | .hbm, ⟨17, _⟩ => ⟨S2048x2048, .f32⟩
  | .hbm, ⟨18, _⟩ => ⟨S2048x2048, .bf16⟩
  | .hbm, ⟨19, _⟩ => ⟨S256x2048, .bf16⟩
  | .hbm, ⟨20, _⟩ => ⟨S2048x256, .f32⟩
  | _, _ => ⟨S1x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GdnConv.lean ====
abbrev S1x2048x4352 : Shape := ⟨3, ![1, 2048, 4352]⟩
abbrev S3072x4 : Shape := ⟨2, ![3072, 4]⟩
abbrev S1x2048x8x128 : Shape := ⟨4, ![1, 2048, 8, 128]⟩
abbrev S2048x1024 : Shape := ⟨2, ![2048, 1024]⟩
abbrev S2048x3072 : Shape := ⟨2, ![2048, 3072]⟩
abbrev S2048x4352 : Shape := ⟨2, ![2048, 4352]⟩
abbrev S4x3072 : Shape := ⟨2, ![4, 3072]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 13
  | .vmem => 10
  | .smem => 0
  | _ => 0

abbrev bufTy : (tb : Table) → Fin (tcTables nBuf tb) → BufTy
  | .hbm, ⟨0, _⟩ => ⟨S1x2048x4352, .f32⟩
  | .hbm, ⟨1, _⟩ => ⟨S3072x4, .f32⟩
  | .hbm, ⟨2, _⟩ => ⟨S1x2048x8x128, .f32⟩
  | .hbm, ⟨3, _⟩ => ⟨S1x2048x8x128, .f32⟩
  | .hbm, ⟨4, _⟩ => ⟨S1x2048x8x128, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x3072, .f32⟩
  | .hbm, ⟨9, _⟩ => ⟨S2048x4352, .f32⟩
  | .hbm, ⟨10, _⟩ => ⟨S4x3072, .f32⟩
  | .hbm, ⟨11, _⟩ => ⟨S2048x3072, .bf16⟩
  | .hbm, ⟨12, _⟩ => ⟨S4x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S1x2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnConvReferenceIdeal.lean ====
abbrev S1x2048x4352 : Shape := ⟨3, ![1, 2048, 4352]⟩
abbrev S3072x4 : Shape := ⟨2, ![3072, 4]⟩
abbrev S1x2048x8x128 : Shape := ⟨4, ![1, 2048, 8, 128]⟩
abbrev S1x2048x3072 : Shape := ⟨3, ![1, 2048, 3072]⟩
abbrev S_ : Shape := ⟨0, ![]⟩
abbrev S1x3x3072 : Shape := ⟨3, ![1, 3, 3072]⟩
abbrev S1x2051x3072 : Shape := ⟨3, ![1, 2051, 3072]⟩
abbrev S3072x1 : Shape := ⟨2, ![3072, 1]⟩
abbrev S3072 : Shape := ⟨1, ![3072]⟩
abbrev S1x1x3072 : Shape := ⟨3, ![1, 1, 3072]⟩
abbrev S1x2048x1024 : Shape := ⟨3, ![1, 2048, 1024]⟩
abbrev S1x2048x8 : Shape := ⟨3, ![1, 2048, 8]⟩
abbrev S1x2048x8x1 : Shape := ⟨4, ![1, 2048, 8, 1]⟩
abbrev S2048x8 : Shape := ⟨2, ![2048, 8]⟩
abbrev S1x3072 : Shape := ⟨2, ![1, 3072]⟩
abbrev S2048x3072 : Shape := ⟨2, ![2048, 3072]⟩
abbrev S4x3072 : Shape := ⟨2, ![4, 3072]⟩

abbrev nBuf : Space → Nat
  | .hbm => 202
  | .vmem => 0
  | .smem => 0
  | _ => 0

abbrev hbmTy0_0 (i : Nat) : BufTy := match i % 128 with
  | 0 => ⟨S1x2048x4352, .f32⟩
  | 1 => ⟨S3072x4, .f32⟩
  | 2 => ⟨S1x2048x8x128, .f32⟩
  | 3 => ⟨S1x2048x8x128, .f32⟩
  | 4 => ⟨S1x2048x8x128, .f32⟩
  | 5 => ⟨S1x2048x3072, .f32⟩
  | 6 => ⟨S_, .f32⟩
  | 7 => ⟨S1x3x3072, .f32⟩
  | 8 => ⟨S1x2051x3072, .f32⟩
  | 9 => ⟨S_, .f32⟩
  | 10 => ⟨S1x3x3072, .f32⟩
  | 11 => ⟨S3072x1, .f32⟩
  | 12 => ⟨S3072, .f32⟩
  | 13 => ⟨S1x2048x3072, .f32⟩
  | 14 => ⟨S1x1x3072, .f32⟩
  | 15 => ⟨S1x2048x3072, .f32⟩
  | 16 => ⟨S1x2048x3072, .f32⟩
  | 17 => ⟨S_, .f32⟩
  | 18 => ⟨S1x2048x3072, .f32⟩
  | 19 => ⟨S1x2048x3072, .f32⟩
  | 20 => ⟨S3072x1, .f32⟩
  | 21 => ⟨S3072, .f32⟩
  | 22 => ⟨S1x2048x3072, .f32⟩
  | 23 => ⟨S1x1x3072, .f32⟩
  | 24 => ⟨S1x2048x3072, .f32⟩
  | 25 => ⟨S1x2048x3072, .f32⟩
  | 26 => ⟨S1x2048x3072, .f32⟩
  | 27 => ⟨S3072x1, .f32⟩
  | 28 => ⟨S3072, .f32⟩
  | 29 => ⟨S1x2048x3072, .f32⟩
  | 30 => ⟨S1x1x3072, .f32⟩
  | 31 => ⟨S1x2048x3072, .f32⟩
  | 32 => ⟨S1x2048x3072, .f32⟩
  | 33 => ⟨S1x2048x3072, .f32⟩
  | 34 => ⟨S3072x1, .f32⟩
  | 35 => ⟨S3072, .f32⟩
  | 36 => ⟨S1x2048x3072, .f32⟩
  | 37 => ⟨S1x1x3072, .f32⟩
  | 38 => ⟨S1x2048x3072, .f32⟩
  | 39 => ⟨S1x2048x3072, .f32⟩
  | 40 => ⟨S1x2048x3072, .f32⟩
  | 41 => ⟨S1x2048x3072, .f32⟩
  | 42 => ⟨S1x2048x3072, .f32⟩
  | 43 => ⟨S_, .f32⟩
  | 44 => ⟨S1x2048x3072, .f32⟩
  | 45 => ⟨S1x2048x3072, .f32⟩
  | 46 => ⟨S_, .f32⟩
  | 47 => ⟨S1x2048x3072, .f32⟩
  | 48 => ⟨S1x2048x3072, .f32⟩
  | 49 => ⟨S_, .f32⟩
  | 50 => ⟨S1x2048x3072, .f32⟩
  | 51 => ⟨S1x2048x3072, .f32⟩
  | 52 => ⟨S1x2048x3072, .f32⟩
  | 53 => ⟨S1x2048x3072, .f32⟩
  | 54 => ⟨S1x2048x1024, .f32⟩
  | 55 => ⟨S1x2048x8x128, .f32⟩
  | 56 => ⟨S1x2048x1024, .f32⟩
  | 57 => ⟨S1x2048x8x128, .f32⟩
  | 58 => ⟨S1x2048x1024, .f32⟩
  | 59 => ⟨S1x2048x8x128, .f32⟩
  | 60 => ⟨S1x2048x8x128, .f32⟩
  | 61 => ⟨S_, .f32⟩
  | 62 => ⟨S1x2048x8, .f32⟩
  | 63 => ⟨S1x2048x8x1, .f32⟩
  | 64 => ⟨S_, .f32⟩
  | 65 => ⟨S1x2048x8x1, .f32⟩
  | 66 => ⟨S1x2048x8x1, .f32⟩
  | 67 => ⟨S1x2048x8x1, .f32⟩
  | 68 => ⟨S1x2048x8x1, .f32⟩
  | 69 => ⟨S_, .f32⟩
  | 70 => ⟨S1x2048x8x1, .f32⟩
  | 71 => ⟨S1x2048x8x1, .f32⟩
  | 72 => ⟨S1x2048x8x128, .f32⟩
  | 73 => ⟨S1x2048x8x128, .f32⟩
  | 74 => ⟨S_, .f32⟩
  | 75 => ⟨S1x2048x8x128, .f32⟩
  | 76 => ⟨S1x2048x8x128, .f32⟩
  | 77 => ⟨S1x2048x8x128, .f32⟩
  | 78 => ⟨S_, .f32⟩
  | 79 => ⟨S1x2048x8, .f32⟩
  | 80 => ⟨S1x2048x8x1, .f32⟩
  | 81 => ⟨S_, .f32⟩
  | 82 => ⟨S1x2048x8x1, .f32⟩
  | 83 => ⟨S1x2048x8x1, .f32⟩
  | 84 => ⟨S1x2048x8x1, .f32⟩
  | 85 => ⟨S1x2048x8x1, .f32⟩
  | 86 => ⟨S_, .f32⟩
  | 87 => ⟨S1x2048x8x1, .f32⟩
  | 88 => ⟨S1x2048x8x1, .f32⟩
  | 89 => ⟨S1x2048x8x128, .f32⟩
  | 90 => ⟨S1x2048x8x128, .f32⟩
  | 91 => ⟨S1x2048x8x128, .f32⟩
  | 92 => ⟨S_, .f32⟩
  | 93 => ⟨S1x2048x8, .f32⟩
  | 94 => ⟨S1x2048x8x1, .f32⟩
  | 95 => ⟨S1x2048x8x128, .f32⟩
  | 96 => ⟨S1x2048x8x128, .f32⟩
  | 97 => ⟨S1x2048x8x1, .f32⟩
  | 98 => ⟨S_, .f32⟩
  | 99 => ⟨S2048x8, .f32⟩
  | 100 => ⟨S1x2048x8, .f32⟩
  | 101 => ⟨S1x2048x8x128, .f32⟩
  | 102 => ⟨S1x2048x8x128, .f32⟩
  | 103 => ⟨S1x2048x8x128, .f32⟩
  | 104 => ⟨S1x2048x8x128, .f32⟩
  | 105 => ⟨S1x2048x8x128, .f32⟩
  | 106 => ⟨S_, .f32⟩
  | 107 => ⟨S1x2048x8x128, .f32⟩
  | 108 => ⟨S1x2048x8x128, .f32⟩
  | 109 => ⟨S1x2048x8x128, .f32⟩
  | 110 => ⟨S_, .f32⟩
  | 111 => ⟨S1x2048x8, .f32⟩
  | 112 => ⟨S1x2048x8x1, .f32⟩
  | 113 => ⟨S1x2048x8x128, .f32⟩
  | 114 => ⟨S1x2048x8x128, .f32⟩
  | 115 => ⟨S1x2048x8x1, .f32⟩
  | 116 => ⟨S_, .f32⟩
  | 117 => ⟨S2048x8, .f32⟩
  | 118 => ⟨S1x2048x8, .f32⟩
  | 119 => ⟨S1x2048x8x128, .f32⟩
  | 120 => ⟨S1x2048x8x128, .f32⟩
  | 121 => ⟨S1x2048x8x128, .f32⟩
  | 122 => ⟨S1x2048x8x128, .f32⟩
  | 123 => ⟨S1x2048x8x128, .f32⟩
  | 124 => ⟨S1x2048x1024, .f32⟩
  | 125 => ⟨S_, .f32⟩
  | 126 => ⟨S1x2048x3072, .f32⟩
  | 127 => ⟨S1x2048x1024, .f32⟩
  | _ => ⟨S1x2048x4352, .f32⟩

abbrev hbmTy0_1 (i : Nat) : BufTy := match i % 128 with
  | 0 => ⟨S_, .f32⟩
  | 1 => ⟨S1x2048x3072, .f32⟩
  | 2 => ⟨S1x2048x3072, .f32⟩
  | 3 => ⟨S1x2048x1024, .f32⟩
  | 4 => ⟨S_, .f32⟩
  | 5 => ⟨S1x2048x3072, .f32⟩
  | 6 => ⟨S1x2048x3072, .f32⟩
  | 7 => ⟨S1x2048x3072, .f32⟩
  | 8 => ⟨S1x2048x3072, .f32⟩
  | 9 => ⟨S1x2048x3072, .f32⟩
  | 10 => ⟨S1x2048x3072, .f32⟩
  | 11 => ⟨S1x2048x3072, .f32⟩
  | 12 => ⟨S1x2048x3072, .f32⟩
  | 13 => ⟨S1x2048x3072, .f32⟩
  | 14 => ⟨S_, .f32⟩
  | 15 => ⟨S1x3072, .f32⟩
  | 16 => ⟨S1x1x3072, .f32⟩
  | 17 => ⟨S_, .f32⟩
  | 18 => ⟨S3072, .f32⟩
  | 19 => ⟨S_, .f32⟩
  | 20 => ⟨S1x2051x3072, .f32⟩
  | 21 => ⟨S3072x1, .f32⟩
  | 22 => ⟨S_, .f32⟩
  | 23 => ⟨S3072x4, .f32⟩
  | 24 => ⟨S1x2048x3072, .f32⟩
  | 25 => ⟨S1x2048x3072, .f32⟩
  | 26 => ⟨S1x2048x3072, .f32⟩
  | 27 => ⟨S_, .f32⟩
  | 28 => ⟨S1x3072, .f32⟩
  | 29 => ⟨S1x1x3072, .f32⟩
  | 30 => ⟨S_, .f32⟩
  | 31 => ⟨S3072, .f32⟩
  | 32 => ⟨S_, .f32⟩
  | 33 => ⟨S1x2051x3072, .f32⟩
  | 34 => ⟨S1x2051x3072, .f32⟩
  | 35 => ⟨S3072x1, .f32⟩
  | 36 => ⟨S_, .f32⟩
  | 37 => ⟨S3072x4, .f32⟩
  | 38 => ⟨S3072x4, .f32⟩
  | 39 => ⟨S1x2048x3072, .f32⟩
  | 40 => ⟨S1x2048x3072, .f32⟩
  | 41 => ⟨S1x2048x3072, .f32⟩
  | 42 => ⟨S_, .f32⟩
  | 43 => ⟨S1x3072, .f32⟩
  | 44 => ⟨S1x1x3072, .f32⟩
  | 45 => ⟨S_, .f32⟩
  | 46 => ⟨S3072, .f32⟩
  | 47 => ⟨S_, .f32⟩
  | 48 => ⟨S1x2051x3072, .f32⟩
  | 49 => ⟨S1x2051x3072, .f32⟩
  | 50 => ⟨S3072x1, .f32⟩
  | 51 => ⟨S_, .f32⟩
  | 52 => ⟨S3072x4, .f32⟩
  | 53 => ⟨S3072x4, .f32⟩
  | 54 => ⟨S1x2048x3072, .f32⟩
  | 55 => ⟨S1x2048x3072, .f32⟩
  | 56 => ⟨S1x2048x3072, .f32⟩
  | 57 => ⟨S_, .f32⟩
  | 58 => ⟨S1x3072, .f32⟩
  | 59 => ⟨S1x1x3072, .f32⟩
  | 60 => ⟨S_, .f32⟩
  | 61 => ⟨S3072, .f32⟩
  | 62 => ⟨S_, .f32⟩
  | 63 => ⟨S1x2051x3072, .f32⟩
  | 64 => ⟨S1x2051x3072, .f32⟩
  | 65 => ⟨S3072x1, .f32⟩
  | 66 => ⟨S_, .f32⟩
  | 67 => ⟨S3072x4, .f32⟩
  | 68 => ⟨S3072x4, .f32⟩
  | 69 => ⟨S1x3x3072, .f32⟩
  | 70 => ⟨S1x2048x3072, .f32⟩
  | 71 => ⟨S2048x3072, .f32⟩
  | 72 => ⟨S2048x3072, .bf16⟩
  | 73 => ⟨S4x3072, .f32⟩
  | _ => ⟨S1x2048x4352, .f32⟩

abbrev hbmTy (i : Nat) : BufTy := match i / 128 with
  | 0 => hbmTy0_0 i
  | 1 => hbmTy0_1 i
  | _ => ⟨S1x2048x4352, .f32⟩

abbrev bufTy : (tb : Table) → Fin (tcTables nBuf tb) → BufTy
  | .hbm, ⟨i, _⟩ => hbmTy i
  | _, _ => ⟨S1x2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v33_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v33_1 : Ref sig .tc := ⟨.hbm, 52, rfl⟩
abbrev main_v33_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_9 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_11 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_14 : Ref sig .tc := ⟨.hbm, 125, rfl⟩
abbrev main_v93 : Ref sig .tc := ⟨.hbm, 126, rfl⟩
abbrev main_v94 : Ref sig .tc := ⟨.hbm, 127, rfl⟩
abbrev main_cst_15 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_17 : Ref sig .tc := ⟨.hbm, 142, rfl⟩
abbrev main_v104 : Ref sig .tc := ⟨.hbm, 143, rfl⟩
abbrev main_v105 : Ref sig .tc := ⟨.hbm, 144, rfl⟩
abbrev main_cst_18 : Ref sig .tc := ⟨.hbm, 145, rfl⟩
abbrev main_v106 : Ref sig .tc := ⟨.hbm, 146, rfl⟩
abbrev main_cst_19 : Ref sig .tc := ⟨.hbm, 147, rfl⟩
abbrev main_v107 : Ref sig .tc := ⟨.hbm, 148, rfl⟩
abbrev main_v108 : Ref sig .tc := ⟨.hbm, 149, rfl⟩
abbrev main_cst_20 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_21 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_cst_23 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_24 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_25 : Ref sig .tc := ⟨.hbm, 170, rfl⟩
abbrev main_v124 : Ref sig .tc := ⟨.hbm, 171, rfl⟩
abbrev main_v125 : Ref sig .tc := ⟨.hbm, 172, rfl⟩
abbrev main_cst_26 : Ref sig .tc := ⟨.hbm, 173, rfl⟩
abbrev main_v126 : Ref sig .tc := ⟨.hbm, 174, rfl⟩
abbrev main_cst_27 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_28 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_29 : Ref sig .tc := ⟨.hbm, 185, rfl⟩
abbrev main_v135 : Ref sig .tc := ⟨.hbm, 186, rfl⟩
abbrev main_v136 : Ref sig .tc := ⟨.hbm, 187, rfl⟩
abbrev main_cst_30 : Ref sig .tc := ⟨.hbm, 188, rfl⟩
abbrev main_v137 : Ref sig .tc := ⟨.hbm, 189, rfl⟩
abbrev main_cst_31 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_32 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩

abbrev nD : Nat := 1
abbrev τ : Topo := Topo.v7x

variable {F : FTy → Type} [FloatOps F]
-- ==== Proof.AttnSpec.lean ====
module

public import Mathlib.Analysis.SpecialFunctions.Exp
public import Mathlib.Algebra.BigOperators.Group.Finset.Basic
public import Mathlib.Algebra.BigOperators.Field
public import Mathlib.Tactic.Ring
public import Mathlib.Tactic.FieldSimp
public import Mathlib.Tactic.Positivity
public import Mathlib.Tactic.Linarith

/-! # Causal attention and its gradients over the reals

    One attention head, with 2048 rows and every array a real function of its row and column.  A score has two parts, the one of the
    plain columns and the one of the rotary columns; the keys after the query are left out.  The gradients are stated
    as sums over all the rows, and the sums over the first rows only are the ones an accumulator holds on the way. -/

@[expose] public section

noncomputable section

namespace Cert.Attn

open scoped BigOperators
open Finset (range)

/-- One head: queries, rotary queries, keys, rotary keys, values and the incoming gradient, row by column; `cs` scales
    the scores. -/
structure Head where
  cs : ℝ
  qn : ℕ → ℕ → ℝ
  qr : ℕ → ℕ → ℝ
  kn : ℕ → ℕ → ℝ
  kr : ℕ → ℕ → ℝ
  v : ℕ → ℕ → ℝ
  g : ℕ → ℕ → ℝ

namespace Head

variable (H : Head)

/-- The scaled score of query `q` against key `k`. -/
def sc (q k : ℕ) : ℝ := ((∑ c ∈ range 128, H.qn q c * H.kn k c) + ∑ c ∈ range 128, H.qr q c * H.kr k c) * H.cs
/-- The largest score of query `q` over the keys up to it. -/
def mx (q : ℕ) : ℝ := (range (q + 1)).sup' ⟨0, by simp⟩ (H.sc q)
/-- The exponential of the score above the largest, zero for a later key. -/
def E (q k : ℕ) : ℝ := if k ≤ q then Real.exp (H.sc q k - H.mx q) else 0
/-- The normaliser of a query. -/
def L (q : ℕ) : ℝ := ∑ k ∈ range 2048, H.E q k
/-- The incoming gradient against the value of key `k`. -/
def dp (q k : ℕ) : ℝ := ∑ c ∈ range 128, H.g q c * H.v k c
/-- The attention's output. -/
def O (q c : ℕ) : ℝ := ∑ k ∈ range 2048, H.E q k / H.L q * H.v k c
/-- The incoming gradient against the output. -/
def del (q : ℕ) : ℝ := ∑ c ∈ range 128, H.g q c * H.O q c
/-- The gradient of the unscaled score. -/
def ds (q k : ℕ) : ℝ := H.E q k * ((H.dp q k - H.del q) * (1 / H.L q * H.cs))
/-- The gradient of the queries. -/
def dqn (q c : ℕ) : ℝ := ∑ k ∈ range 2048, H.ds q k * H.kn k c
/-- The gradient of the rotary queries. -/
def dqr (q c : ℕ) : ℝ := ∑ k ∈ range 2048, H.ds q k * H.kr k c
/-- The gradient of the keys, over the first `Q` queries. -/
def dkn (Q k c : ℕ) : ℝ := ∑ q ∈ range Q, H.ds q k * H.qn q c
/-- The gradient of the rotary keys, over the first `Q` queries. -/
def dkr (Q k c : ℕ) : ℝ := ∑ q ∈ range Q, H.ds q k * H.qr q c
/-- The gradient of the values, over the first `Q` queries. -/
def dv (Q k c : ℕ) : ℝ := ∑ q ∈ range Q, H.E q k * (H.g q c * (1 / H.L q))

/-- A later key has weight zero. -/
theorem E_later {q k : ℕ} (h : q < k) : H.E q k = 0 := by rw [E, if_neg (by omega)]
/-- A later key's score has gradient zero. -/
theorem ds_later {q k : ℕ} (h : q < k) : H.ds q k = 0 := by rw [ds, H.E_later h, zero_mul]
/-- No weight is negative. -/
theorem E_nonneg (q k : ℕ) : 0 ≤ H.E q k := by unfold E; split <;> positivity
/-- The normaliser is positive. -/
theorem L_pos {q : ℕ} (h : q < 2048) : 0 < H.L q := by
  refine Finset.sum_pos' (fun k _ => H.E_nonneg q k) ⟨0, by simp, ?_⟩
  rw [E, if_pos (Nat.zero_le _)]; positivity
/-- The normaliser is not zero. -/
theorem L_ne {q : ℕ} (h : q < 2048) : H.L q ≠ 0 := (H.L_pos h).ne'

/-- A sum whose terms vanish past the query is the sum over any longer prefix of the keys. -/
theorem sum_prefix {f : ℕ → ℝ} {q n : ℕ} (hq : q < n) (hn : n ≤ 2048) (hf : ∀ k, q < k → f k = 0) :
    ∑ k ∈ range n, f k = ∑ k ∈ range 2048, f k := by
  refine Finset.sum_subset (fun k hk => ?_) (fun k _ hk => hf k ?_)
  · simp only [Finset.mem_range] at hk ⊢; omega
  · simp only [Finset.mem_range] at hk; omega

/-- The normaliser over a longer prefix. -/
theorem L_prefix {q n : ℕ} (hq : q < n) (hn : n ≤ 2048) : ∑ k ∈ range n, H.E q k = H.L q :=
  sum_prefix hq hn fun _ h => H.E_later h
/-- The query's gradient over a longer prefix. -/
theorem dqn_prefix {q n : ℕ} (hq : q < n) (hn : n ≤ 2048) (c : ℕ) : ∑ k ∈ range n, H.ds q k * H.kn k c = H.dqn q c :=
  sum_prefix hq hn fun _ h => by rw [H.ds_later h, zero_mul]
/-- The rotary query's gradient over a longer prefix. -/
theorem dqr_prefix {q n : ℕ} (hq : q < n) (hn : n ≤ 2048) (c : ℕ) : ∑ k ∈ range n, H.ds q k * H.kr k c = H.dqr q c :=
  sum_prefix hq hn fun _ h => by rw [H.ds_later h, zero_mul]

/-- The incoming gradient against the output is the weighted mean of it against the values. -/
theorem del_eq (q : ℕ) : H.del q = ∑ k ∈ range 2048, H.dp q k * (H.E q k / H.L q) := by
  unfold del O dp
  simp only [Finset.mul_sum, Finset.sum_mul]
  rw [Finset.sum_comm]
  exact Finset.sum_congr rfl fun k _ => Finset.sum_congr rfl fun c _ => by ring

/-- The gradient of the score as differentiating the quotient gives it. -/
theorem ds_eq {q : ℕ} (h : q < 2048) (k : ℕ) :
    (-(∑ j ∈ range 2048, H.dp q j / (H.L q * H.L q) * H.E q j) + H.dp q k / H.L q) * H.E q k * H.cs = H.ds q k := by
  have hL := H.L_ne h
  unfold ds
  rw [H.del_eq]
  have e : ∑ j ∈ range 2048, H.dp q j / (H.L q * H.L q) * H.E q j = (∑ j ∈ range 2048, H.dp q j * (H.E q j / H.L q)) / H.L q := by
    rw [Finset.sum_div]
    exact Finset.sum_congr rfl fun j _ => by field_simp
  rw [e]
  field_simp
  ring

end Head

end Cert.Attn
-- ==== Proof.AttnReal.lean ====
module

public import Idealize.ShloMosaic.Lib.Pipeline.Value
public import Idealize.ShloMosaic.Lib.ValueIdx
public import Idealize.ShloMosaic.Lib.ValueIdxCore
public import Idealize.ShloMosaic.Lib.MatmulPlain
public import Idealize.ShloMosaic.Lib.WordCmp
public import Mathlib.Algebra.BigOperators.Fin

/-! # Arrays of real numbers

    At the exact reading an element is an extended real.  `Rep A f` says that a two-dimensional array holds the real
    function `f` of its row and column; each operation of an attention block then acts on real functions.  The masked
    exponential is the one place where an infinity appears, and it leaves a real number again. -/

@[expose] public section

set_option maxRecDepth 16384

noncomputable section

namespace Cert.Attn

open Idealize.ShloMosaic Idealize.ShloMosaic.ValueIdx
open scoped BigOperators
open Finset (range)

/-- The array holds the real function of its row and column. -/
def Rep {m n : ℕ} {φ : FTy} (A : FVec Ideal ⟨2, ![m, n]⟩ φ) (f : ℕ → ℕ → ℝ) : Prop :=
  ∀ (r : Fin m) (c : Fin n), A (ix2 r c) = ((f r.val c.val : ℝ) : EReal)

/-- A sum of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of reals over the positions below `n`. -/
theorem coe_sum_fin (n : ℕ) (f : ℕ → ℝ) : ∑ i : Fin n, ((f i.val : ℝ) : EReal) = ((∑ i ∈ range n, f i : ℝ) : EReal) := by
  rw [coe_sum, Finset.sum_range]

/-- The quotient of a real by a real other than zero. -/
theorem div_coe_coe {x y : ℝ} (h : y ≠ 0) : Ideal.div (x : EReal) (y : EReal) = ((x / y : ℝ) : EReal) := by
  rw [Ideal.div, if_neg (by exact_mod_cast h), ← EReal.coe_inv, ← EReal.coe_mul, div_eq_mul_inv]

namespace Rep

variable {m n p : ℕ} {φ φ₁ φ₂ : FTy}

/-- Equal entries in range. -/
theorem congr {A : FVec Ideal ⟨2, ![m, n]⟩ φ} {f g : ℕ → ℕ → ℝ} (h : Rep A f)
    (e : ∀ r c, r < m → c < n → f r c = g r c) : Rep A g := fun r c => by rw [h r c, e _ _ r.isLt c.isLt]

/-- Products by entry. -/
theorem mul {A B : FVec Ideal ⟨2, ![m, n]⟩ φ} {f g : ℕ → ℕ → ℝ} (hA : Rep A f) (hB : Rep B g) :
    Rep (mulf A B) (fun r c => f r c * g r c) := fun r c => by
  show A (ix2 r c) * B (ix2 r c) = _
  rw [hA, hB, ← EReal.coe_mul]
/-- Sums by entry. -/
theorem add {A B : FVec Ideal ⟨2, ![m, n]⟩ φ} {f g : ℕ → ℕ → ℝ} (hA : Rep A f) (hB : Rep B g) :
    Rep (addf A B) (fun r c => f r c + g r c) := fun r c => by
  show A (ix2 r c) + B (ix2 r c) = _
  rw [hA, hB, ← EReal.coe_add]
/-- Differences by entry. -/
theorem sub {A B : FVec Ideal ⟨2, ![m, n]⟩ φ} {f g : ℕ → ℕ → ℝ} (hA : Rep A f) (hB : Rep B g) :
    Rep (subf A B) (fun r c => f r c - g r c) := fun r c => by
  show A (ix2 r c) - B (ix2 r c) = _
  rw [hA, hB, ← EReal.coe_sub]
/-- Quotients by entry, the divisor never zero. -/
theorem div {A B : FVec Ideal ⟨2, ![m, n]⟩ φ} {f g : ℕ → ℕ → ℝ} (hA : Rep A f) (hB : Rep B g)
    (h0 : ∀ r c, r < m → c < n → g r c ≠ 0) : Rep (divf A B) (fun r c => f r c / g r c) := fun r c => by
  show Ideal.div (A (ix2 r c)) (B (ix2 r c)) = _
  rw [hA, hB, div_coe_coe (h0 _ _ r.isLt c.isLt)]
/-- A splat scalar. -/
theorem splat (x : Ideal φ) (a : ℝ) (h : x = (a : EReal)) :
    Rep (m := m) (n := n) (φ := φ) (broadcast ⟨2, ![m, n]⟩ x) (fun _ _ => a) := fun _ _ => h
/-- A narrower type keeps the numbers. -/
theorem cut (h : FTy.bits φ₂ < FTy.bits φ₁) {A : FVec Ideal ⟨2, ![m, n]⟩ φ₁} {f : ℕ → ℕ → ℝ} (hA : Rep A f) :
    Rep (truncf φ₂ A h) f := fun r c => hA r c
/-- A wider type keeps the numbers. -/
theorem ext (h : FTy.bits φ₁ < FTy.bits φ₂) {A : FVec Ideal ⟨2, ![m, n]⟩ φ₁} {f : ℕ → ℕ → ℝ} (hA : Rep A f) :
    Rep (extf φ₂ A h) f := fun r c => hA r c
/-- A reshape to the same shape. -/
theorem same (h : Shape.ShapeCasts ⟨2, ![m, n]⟩ ⟨2, ![m, n]⟩) {A : FVec Ideal ⟨2, ![m, n]⟩ φ} {f : ℕ → ℕ → ℝ} (hA : Rep A f) :
    Rep (m := m) (n := n) (φ := φ) (shapeCast ⟨2, ![m, n]⟩ A h) f := fun r c => by
  rw [shapeCast_apply A h (ix2 r c) (ix2 r c) rfl]; exact hA r c

/-- Two arrays side by side. -/
theorem cat (h : Shape.Concatenates [(⟨2, ![m, n]⟩ : Shape), ⟨2, ![m, p]⟩] ⟨2, ![m, n + p]⟩ 1)
    {A : FVec Ideal ⟨2, ![m, n]⟩ φ} {B : FVec Ideal ⟨2, ![m, p]⟩ φ} {f g : ℕ → ℕ → ℝ} (hA : Rep A f) (hB : Rep B g) :
    Rep (m := m) (n := n + p) (φ := φ) (concatenate ⟨2, ![m, n + p]⟩ 1 [⟨⟨2, ![m, n]⟩, A⟩, ⟨⟨2, ![m, p]⟩, B⟩] h)
      (fun r c => if c < n then f r c else g r (c - n)) := fun r c => by
  by_cases hc : c.val < n
  · rw [concatenate_pair_apply_left 1 A B h (ix2 r c) rfl (ix2 r ⟨c.val, hc⟩)
      (fun b => by match b with
        | ⟨0, _⟩ => rfl
        | ⟨1, _⟩ => rfl)]
    rw [hA]; simp only [if_pos hc]
  · have h2 := c.isLt
    rw [concatenate_pair_apply_right 1 A B h (ix2 r c) rfl rfl (ix2 r ⟨c.val - n, by omega⟩)
      (fun b hb => by match b with
        | ⟨0, _⟩ => rfl
        | ⟨1, _⟩ => exact absurd rfl hb)
      (by show c.val - n + n = c.val; omega)]
    rw [hB]; simp only [if_neg hc]

/-- Columns `o` and on. -/
theorem slice (o : ℕ) (h : Shape.Slices ⟨2, ![m, n]⟩ ![0, o] ⟨2, ![m, p]⟩)
    {A : FVec Ideal ⟨2, ![m, n]⟩ φ} {f : ℕ → ℕ → ℝ} (hA : Rep A f) (ho : o + p ≤ n) :
    Rep (m := m) (n := p) (φ := φ) (extractStridedSlice ⟨2, ![m, p]⟩ ![0, o] A h) (fun r c => f r (o + c)) := fun r c => by
  have := c.isLt
  rw [extractStridedSlice_apply ![0, o] A h (ix2 r c) (ix2 r ⟨o + c.val, by omega⟩)
    (fun a => by match a with
      | ⟨0, _⟩ => exact (Nat.zero_add _).symm
      | ⟨1, _⟩ => rfl)]
  exact hA _ _

/-- A column repeated along the rows. -/
theorem spread (h : Shape.Broadcasts ⟨2, ![m, 1]⟩ ⟨2, ![m, n]⟩) (hm : m ≠ 1)
    {A : FVec Ideal ⟨2, ![m, 1]⟩ φ} {f : ℕ → ℕ → ℝ} (hA : Rep A f) :
    Rep (m := m) (n := n) (φ := φ) (broadcastTo ⟨2, ![m, n]⟩ A h) (fun r _ => f r 0) := fun r c => by
  rw [broadcastTo_apply A h (ix2 r c) (ix2 r 0)
    (fun a => by match a with
      | ⟨0, _⟩ => show r.val = if m = 1 then 0 else r.val; rw [if_neg hm]
      | ⟨1, _⟩ => rfl)]
  exact hA _ _

/-- The sums along the rows, as a column. -/
theorem rowSum (h : Shape.Reduces ⟨2, ![m, n]⟩ [1] ⟨1, ![m]⟩) (hs : Shape.ShapeCasts ⟨1, ![m]⟩ ⟨2, ![m, 1]⟩)
    (hφ : FKind.Formats .f32) (hz : (0x00000000#32 : BitVec 32) = FKind.add.neutral .f32 hφ)
    {A : FVec Ideal ⟨2, ![m, n]⟩ .f32} {f : ℕ → ℕ → ℝ} (hA : Rep A f) :
    Rep (m := m) (n := 1) (φ := .f32) (shapeCast ⟨2, ![m, 1]⟩ (multiReduction (F := Ideal) .add [1] ⟨1, ![m]⟩ A 0x00000000#32 h hφ hz) hs)
      (fun r _ => ∑ k ∈ range n, f r k) := fun r c => by
  rw [shapeCast_apply _ hs (ix2 r c) (ix1 r) (by
    have : c.val = 0 := by omega
    rw [Shape.rowMajor_val_one, Shape.rowMajor_val_two]
    show r.val = r.val * 1 + c.val
    omega)]
  rw [Ideal.multiReduction_add_single]
  show ∑ k : Fin n, A (h.lift (ix1 r) k) = _
  rw [← coe_sum_fin]
  refine Finset.sum_congr rfl fun k _ => ?_
  rw [← hA r k]
  congr 1
  funext a
  refine Fin.ext ?_
  match a with
  | ⟨0, _⟩ => rfl
  | ⟨1, _⟩ => rfl

/-- The product of `A` with the transpose of `B`. -/
theorem nt (wf) (prec : Option ContractPrecision) {A : FVec Ideal ⟨2, ![m, n]⟩ φ₁} {B : FVec Ideal ⟨2, ![p, n]⟩ φ₂}
    {f g : ℕ → ℕ → ℝ} (hA : Rep A f) (hB : Rep B g) :
    Rep (m := m) (n := p) (φ := .f32)
      (matmul (F := Ideal) (⟨[1], [1], [0], [0], [], [], wf⟩ : DotDims ⟨2, ![m, n]⟩ ⟨2, ![p, n]⟩ ⟨2, ![m, p]⟩) prec A B
        (constant ⟨2, ![m, p]⟩ .f32 0x00000000#32))
      (fun r c => ∑ k ∈ range n, f r k * g c k) := fun r c => by
  refine (Ideal.matmul_transposedRhs_apply prec A B (constant ⟨2, ![m, p]⟩ .f32 0x00000000#32) r c).trans ?_
  rw [show (constant (F := Ideal) ⟨2, ![m, p]⟩ .f32 0x00000000#32) (ix2 r c) = 0 from Ideal.ofBits_zero_f32, zero_add,
    ← coe_sum_fin]
  exact Finset.sum_congr rfl fun k _ => by rw [hA, hB, ← EReal.coe_mul]

/-- The product of `A` with `B`. -/
theorem nn (wf) (prec : Option ContractPrecision) {A : FVec Ideal ⟨2, ![m, n]⟩ φ₁} {B : FVec Ideal ⟨2, ![n, p]⟩ φ₂}
    {f g : ℕ → ℕ → ℝ} (hA : Rep A f) (hB : Rep B g) :
    Rep (m := m) (n := p) (φ := .f32)
      (matmul (F := Ideal) (⟨[1], [0], [0], [1], [], [], wf⟩ : DotDims ⟨2, ![m, n]⟩ ⟨2, ![n, p]⟩ ⟨2, ![m, p]⟩) prec A B
        (constant ⟨2, ![m, p]⟩ .f32 0x00000000#32))
      (fun r c => ∑ k ∈ range n, f r k * g k c) := fun r c => by
  refine (Ideal.matmul_plain_apply prec A B (constant ⟨2, ![m, p]⟩ .f32 0x00000000#32) r c).trans ?_
  rw [show (constant (F := Ideal) ⟨2, ![m, p]⟩ .f32 0x00000000#32) (ix2 r c) = 0 from Ideal.ofBits_zero_f32, zero_add,
    ← coe_sum_fin]
  exact Finset.sum_congr rfl fun k _ => by rw [hA, hB, ← EReal.coe_mul]

/-- The product of the transpose of `A` with `B`. -/
theorem tn (wf) (prec : Option ContractPrecision) {A : FVec Ideal ⟨2, ![n, m]⟩ φ₁} {B : FVec Ideal ⟨2, ![n, p]⟩ φ₂}
    {f g : ℕ → ℕ → ℝ} (hA : Rep A f) (hB : Rep B g) :
    Rep (m := m) (n := p) (φ := .f32)
      (matmul (F := Ideal) (⟨[0], [0], [1], [1], [], [], wf⟩ : DotDims ⟨2, ![n, m]⟩ ⟨2, ![n, p]⟩ ⟨2, ![m, p]⟩) prec A B
        (constant ⟨2, ![m, p]⟩ .f32 0x00000000#32))
      (fun r c => ∑ k ∈ range n, f k r * g k c) := fun r c => by
  let D : DotDims ⟨2, ![n, m]⟩ ⟨2, ![n, p]⟩ ⟨2, ![m, p]⟩ := ⟨[0], [0], [1], [1], [], [], wf⟩
  have hr : D.contr.rank = 1 := rfl
  have hs : D.contr.size ⟨0, by rw [hr]; exact Nat.one_pos⟩ = n := rfl
  show FloatOps.matmul D prec A B (constant ⟨2, ![m, p]⟩ .f32 0x00000000#32) (ix2 r c) = _
  rw [Ideal.matmul_apply, ← Equiv.sum_comp (contrEquiv1 D n hr hs).symm,
    show (constant (F := Ideal) ⟨2, ![m, p]⟩ .f32 0x00000000#32) (ix2 r c) = 0 from Ideal.ofBits_zero_f32, zero_add,
    ← coe_sum_fin]
  refine Finset.sum_congr rfl fun k _ => ?_
  have hk := contrEquiv1_symm_val D n hr hs k
  have el : D.lhsIdx (ix2 r c) ((contrEquiv1 D n hr hs).symm k) = ix2 k r := by
    funext a; apply Fin.ext
    match a with
    | ⟨0, _⟩ => exact hk
    | ⟨1, _⟩ => rfl
  have er : D.rhsIdx (ix2 r c) ((contrEquiv1 D n hr hs).symm k) = ix2 k c := by
    funext a; apply Fin.ext
    match a with
    | ⟨0, _⟩ => exact hk
    | ⟨1, _⟩ => rfl
  rw [el, er, hA, hB, ← EReal.coe_mul]

end Rep

/-! ## The masked exponential -/

/-- The largest of a row whose later entries are minus infinity. -/
theorem fold_max_prefix (n q : ℕ) (hq : q < n) (s : ℕ → ℝ) :
    (Finset.univ : Finset (Fin n)).fold max (⊥ : EReal) (fun k => if k.val ≤ q then ((s k.val : ℝ) : EReal) else ⊥)
      = (((range (q + 1)).sup' ⟨0, by simp⟩ s : ℝ) : EReal) := by
  apply le_antisymm
  · rw [Finset.fold_max_le]
    refine ⟨bot_le, fun k _ => ?_⟩
    split
    · next h => exact EReal.coe_le_coe_iff.mpr (Finset.le_sup' s (Finset.mem_range.mpr (by omega)))
    · exact bot_le
  · obtain ⟨k, hk, e⟩ := Finset.exists_mem_eq_sup' (⟨0, by simp⟩ : (range (q + 1)).Nonempty) s
    rw [e, Finset.le_fold_max]
    have hk' := Finset.mem_range.mp hk
    refine .inr ⟨⟨k, by omega⟩, Finset.mem_univ _, ?_⟩
    rw [if_pos (show k ≤ q by omega)]

/-- The pattern of minus infinity. -/
theorem ofBits_neg_inf : Ideal.ofBits .f32 0xFF800000#32 = ⊥ := by simp [Ideal.ofBits, Ideal.ieee]

/-- The exponential above the largest of a row whose later entries are minus infinity. -/
theorem exp_masked (s M : ℝ) (b : Prop) [Decidable b] :
    Ideal.exp ((if b then ((s : ℝ) : EReal) else ⊥) - ((M : ℝ) : EReal)) = ((if b then Real.exp (s - M) else 0 : ℝ) : EReal) := by
  split
  · rw [← EReal.coe_sub, Ideal.exp_coe]
  · rw [EReal.bot_sub, Ideal.exp_bot, EReal.coe_zero]

/-- The exponential of the scores above the row's largest, with the keys after query `o + r` left out. -/
theorem Rep.masked {n : ℕ} (o : ℕ) (hon : o + 256 ≤ n) (hn : n ≤ 2048) (M : Ideal .f32) (hM : M = ⊥)
    (h0 : Shape.Iotas ⟨2, ![256, n]⟩ .tc 32 [0]) (h1 : Shape.Iotas ⟨2, ![256, n]⟩ .tc 32 [1])
    (hr : Shape.Reduces ⟨2, ![256, n]⟩ [1] ⟨1, ![256]⟩) (hs : Shape.ShapeCasts ⟨1, ![256]⟩ ⟨2, ![256, 1]⟩)
    (hb : Shape.Broadcasts ⟨2, ![256, 1]⟩ ⟨2, ![256, n]⟩) (hφ : FKind.Formats .f32)
    (hz : (0xFF800000#32 : BitVec 32) = FKind.maximumf.neutral .f32 hφ)
    {A : FVec Ideal ⟨2, ![256, n]⟩ .f32} {s : ℕ → ℕ → ℝ} (hA : Rep A s) (C : FVec Ideal ⟨2, ![256, n]⟩ .f32)
    (hC : C = select (cmpi .sle (iota .tc ⟨2, ![256, n]⟩ 32 [1] h1) (addi (broadcast _ (BitVec.ofNat 32 o)) (iota .tc ⟨2, ![256, n]⟩ 32 [0] h0)))
      A (broadcast ⟨2, ![256, n]⟩ M)) :
    Rep (m := 256) (n := n) (φ := .f32)
      (exp (subf C (broadcastTo ⟨2, ![256, n]⟩ (shapeCast ⟨2, ![256, 1]⟩
        (multiReduction (F := Ideal) .maximumf [1] ⟨1, ![256]⟩ C 0xFF800000#32 hr hφ hz) hs) hb)))
      (fun r k => if k ≤ o + r then Real.exp (s r k - (range (o + r + 1)).sup' ⟨0, by simp⟩ (s r)) else 0) := by
  have hCv : ∀ (r : Fin 256) (k : Fin n), C (ix2 r k) = if k.val ≤ o + r.val then ((s r.val k.val : ℝ) : EReal) else ⊥ := by
    intro r k
    have hrl := r.isLt
    have hkl := k.isLt
    rw [hC]
    show (if IntOp.cmpi .sle (BitVec.ofNat 32 (0 * n + k.val)) (BitVec.ofNat 32 o + BitVec.ofNat 32 (0 * 256 + r.val)) = 1
      then A (ix2 r k) else M) = _
    rw [← BitVec.ofNat_add, hM, hA]
    rw [Nat.zero_mul, Nat.zero_mul, Nat.zero_add, Nat.zero_add]
    exact if_congr (WordCmp.cmpi_sle_ofNat_eq_one_iff (w := 32) (a := k.val) (b := o + r.val) (by omega) (by omega)) rfl rfl
  intro r k
  have hmax : broadcastTo (⟨2, ![256, n]⟩ : Shape) (shapeCast ⟨2, ![256, 1]⟩
        (multiReduction (F := Ideal) .maximumf [1] ⟨1, ![256]⟩ C 0xFF800000#32 hr hφ hz) hs) hb (ix2 r k)
      = (((range (o + r.val + 1)).sup' ⟨0, by simp⟩ (s r.val) : ℝ) : EReal) := by
    rw [broadcastTo_apply _ hb (ix2 r k) (ix2 r 0)
      (fun a => by match a with
        | ⟨0, _⟩ => rfl
        | ⟨1, _⟩ => rfl)]
    rw [shapeCast_apply _ hs (ix2 r 0) (ix1 r) (by
      rw [Shape.rowMajor_val_one, Shape.rowMajor_val_two]
      show r.val = r.val * 1 + 0
      omega)]
    rw [Ideal.multiReduction_maximumf_single, ← fold_max_prefix n (o + r.val) (by have := r.isLt; omega) (s r.val)]
    show Finset.fold max (Ideal.ofBits .f32 0xFF800000#32) (fun k : Fin n => C (hr.lift (ix1 r) k)) Finset.univ = _
    rw [ofBits_neg_inf]
    congr 1
    funext k
    rw [← hCv r k]
    congr 1
    funext a
    refine Fin.ext ?_
    match a with
    | ⟨0, _⟩ => rfl
    | ⟨1, _⟩ => rfl
  show Ideal.exp (C (ix2 r k) - broadcastTo (⟨2, ![256, n]⟩ : Shape) _ hb (ix2 r k)) = _
  rw [hmax, hCv r k, exp_masked]

end Cert.Attn
-- ==== Proof.AttnArgs.lean ====
module

public import proofs.«01_k».proof.Proof.AttnSpec
public import proofs.«01_k».proof.Proof.AttnReal

/-! # The arguments as real functions, head by head

    The program's six arrays, all finite, give one `Head` for each of the eight heads.  A column past an array's last
    reads zero, so a rotary array of 64 columns and the same array padded to 128 give the same head. -/

@[expose] public section

set_option maxRecDepth 16384

noncomputable section

namespace Cert.Attn

open Idealize.ShloMosaic Idealize.ShloMosaic.ValueIdx
open scoped BigOperators
open Finset (range)

/-- Every element is a real number. -/
def Finite {S : Shape} {φ : FTy} (x : FVec Ideal S φ) : Prop := ∀ i, ∃ a : ℝ, x i = (a : EReal)

/-- A finite entry is its real number. -/
theorem Finite.eq {S : Shape} {φ : FTy} {x : FVec Ideal S φ} (h : Finite x) (i : S.Idx) : x i = ((EReal.toReal (x i) : ℝ) : EReal) := by
  obtain ⟨a, ha⟩ := h i
  rw [ha, EReal.toReal_coe]

/-- An array of 2048 rows, eight heads and `d` columns. -/
abbrev X4 (d : ℕ) := FVec Ideal ⟨4, ![1, 2048, 8, d]⟩ .f32
/-- An array of 2048 rows and 64 columns. -/
abbrev X3 := FVec Ideal ⟨3, ![1, 2048, 64]⟩ .f32

/-- The real number at a head's row and column, zero outside. -/
def at4 {d : ℕ} (x : X4 d) (h r c : ℕ) : ℝ :=
  if hh : r < 2048 ∧ h < 8 ∧ c < d then EReal.toReal (x (ix4 0 ⟨r, hh.1⟩ ⟨h, hh.2.1⟩ ⟨c, hh.2.2⟩)) else 0
/-- The real number at a row and column, zero outside. -/
def at3 (x : X3) (r c : ℕ) : ℝ := if hh : r < 2048 ∧ c < 64 then EReal.toReal (x (ix3 0 ⟨r, hh.1⟩ ⟨c, hh.2⟩)) else 0

/-- An entry of a finite array, in range. -/
theorem at4_in {d : ℕ} {x : X4 d} (hx : Finite x) (a : Fin 1) (r : Fin 2048) (h : Fin 8) (c : Fin d) :
    x (ix4 a r h c) = ((at4 x h.val r.val c.val : ℝ) : EReal) := by
  obtain rfl : a = 0 := Subsingleton.elim _ _
  rw [at4, dif_pos ⟨r.isLt, h.isLt, c.isLt⟩]
  exact hx.eq _
/-- An entry of a finite array, in range. -/
theorem at3_in {x : X3} (hx : Finite x) (a : Fin 1) (r : Fin 2048) (c : Fin 64) :
    x (ix3 a r c) = ((at3 x r.val c.val : ℝ) : EReal) := by
  obtain rfl : a = 0 := Subsingleton.elim _ _
  rw [at3, dif_pos ⟨r.isLt, c.isLt⟩]
  exact hx.eq _
/-- Zero past the last column. -/
theorem at4_out {d : ℕ} (x : X4 d) (h r c : ℕ) (hc : d ≤ c) : at4 x h r c = 0 := by
  rw [at4, dif_neg (by omega)]
/-- Zero past the last column. -/
theorem at3_out (x : X3) (r c : ℕ) (hc : 64 ≤ c) : at3 x r c = 0 := by
  rw [at3, dif_neg (by omega)]

/-- The six arrays: queries, rotary queries, keys, rotary keys, values and the incoming gradient. -/
structure Args where
  x0 : X4 128
  x1 : X4 64
  x2 : X4 128
  x3 : X3
  x4 : X4 128
  x5 : X4 128

/-- All six hold real numbers only. -/
structure Args.Reals (a : Args) : Prop where
  h0 : Finite a.x0
  h1 : Finite a.x1
  h2 : Finite a.x2
  h3 : Finite a.x3
  h4 : Finite a.x4
  h5 : Finite a.x5

/-- The scale of the scores, as the extended real its word stands for. -/
theorem scale_real : Ideal.ofBits .f32 0x3D93CD3A#32 = ((EReal.toReal (Ideal.ofBits .f32 0x3D93CD3A#32) : ℝ) : EReal) := by
  have h : ∃ a : ℝ, Ideal.ofBits .f32 0x3D93CD3A#32 = (a : EReal) := by
    simp only [Ideal.ofBits, Ideal.ieee]
    rw [if_neg (by decide)]
    exact ⟨_, rfl⟩
  obtain ⟨a, ha⟩ := h
  rw [ha, EReal.toReal_coe]

/-- Head `h`. -/
def Args.head (a : Args) (h : ℕ) : Head where
  cs := EReal.toReal (Ideal.ofBits .f32 0x3D93CD3A#32)
  qn := at4 a.x0 h
  qr := at4 a.x1 h
  kn := at4 a.x2 h
  kr := at3 a.x3
  v := at4 a.x4 h
  g := at4 a.x5 h

/-- A sum over 128 columns of terms that vanish from column 64 on. -/
theorem sum_half (f : ℕ → ℝ) (hf : ∀ c, 64 ≤ c → f c = 0) : ∑ c ∈ range 128, f c = ∑ c ∈ range 64, f c := by
  refine (Finset.sum_subset (Finset.range_subset_range.2 (by omega)) fun c _ hc => hf c ?_).symm
  simpa using hc

end Cert.Attn
-- ==== Proof.AttnForward.lean ====
module

public import proofs.«01_k».proof.Proof.AttnArgs
public import proofs.«01_k».proof.Proof.Gen.ReferenceIdeal.Read
public import Idealize.ShloMosaic.Lib.KernelVsHost

/-! # The attention on the host

    The forward part of the reference, read element by element: scores, mask, largest score, exponentials, normaliser,
    weights and the output, each the head's real function.  The kernel's program computes the output by the same lines. -/

@[expose] public section

set_option maxRecDepth 16384

noncomputable section

namespace Cert.Attn

open Idealize.ShloMosaic Idealize.ShloMosaic.TcCoe Idealize.ShloMosaic.ValueIdx
open Cert.ReferenceIdeal Cert.ReferenceIdeal.Gen Cert.ReferenceIdeal.Read
open scoped BigOperators
open Finset (range)

variable {a : Args} (ha : a.Reals) (z : Fin 1) (h : Fin 8) (q k : Fin 2048)
include ha

/-- The scores. -/
theorem f_sc : val_main_v5 (F := Ideal) a.x0 a.x1 a.x2 a.x3 (ix4 z h q k) = (((a.head h.val).sc q.val k.val : ℝ) : EReal) := by
  have e0 : val_main_v0 (F := Ideal) a.x0 a.x2 (ix4 z h q k)
      = ((∑ c ∈ range 128, at4 a.x0 h.val q.val c * at4 a.x2 h.val k.val c : ℝ) : EReal) := by
    rw [val_main_v0_apply, ← coe_sum_fin]
    refine Finset.sum_congr rfl fun c _ => ?_
    have hl : lidx_main_v0 (ix4 z h q k) c = ix4 z q h c := eq_ix4 _
    have hr : ridx_main_v0 (ix4 z h q k) c = ix4 z k h c := eq_ix4 _
    rw [hl, hr, at4_in ha.h0, at4_in ha.h2, ← EReal.coe_mul]
  have e2 : val_main_v2 (F := Ideal) a.x1 a.x3 (ix4 z h q k)
      = ((∑ c ∈ range 128, at4 a.x1 h.val q.val c * at3 a.x3 k.val c : ℝ) : EReal) := by
    rw [val_main_v2_apply, val_main_v1_apply, sum_half _ (fun c hc => by rw [at3_out _ _ _ hc, mul_zero]), ← coe_sum_fin]
    refine Finset.sum_congr rfl fun c _ => ?_
    have hl : lidx_main_v1 (idx_main_v2 (ix4 z h q k)) c = ix3 z k c := eq_ix3 _
    have hr : ridx_main_v1 (idx_main_v2 (ix4 z h q k)) c = ix4 z q h c := eq_ix4 _
    rw [hl, hr, at4_in ha.h1, at3_in ha.h3, ← EReal.coe_mul, mul_comm]
  show (val_main_v0 (F := Ideal) a.x0 a.x2 (ix4 z h q k) + val_main_v2 (F := Ideal) a.x1 a.x3 (ix4 z h q k))
    * Ideal.ofBits .f32 0x3D93CD3A#32 = _
  rw [e0, e2, scale_real, ← EReal.coe_add, ← EReal.coe_mul]
  rfl

omit ha in
/-- The mask's bit is the causal one. -/
theorem f_mask {α : Type} (x y : α) : Scalar.select (val_main_v12_1 (F := Ideal) (ix4 z h q k)) x y = if k.val ≤ q.val then x else y := by
  have hq := q.isLt
  have hk := k.isLt
  rw [val_main_v12_1_apply, val_main_v11_apply, val_main_v9_apply, val_main_v10_apply, val_main_v7_apply, val_main_v8_apply,
    val_main_v6_apply, val_main_v6_apply]
  exact if_congr (WordCmp.cmpi_sle_ofNat_eq_one_iff (w := 32) (a := k.val) (b := q.val) (by omega) (by omega)) rfl rfl

/-- The masked scores. -/
theorem f_masked : val_main_v12_0 (F := Ideal) a.x0 a.x1 a.x2 a.x3 (ix4 z h q k)
    = if k.val ≤ q.val then (((a.head h.val).sc q.val k.val : ℝ) : EReal) else ⊥ := by
  rw [val_main_v12_0_apply, f_mask, f_sc ha]
  exact if_congr Iff.rfl rfl ofBits_neg_inf

/-- The largest score. -/
theorem f_max : val_main_v13 (F := Ideal) a.x0 a.x1 a.x2 a.x3 (ix3 z h q) = (((a.head h.val).mx q.val : ℝ) : EReal) := by
  have hr : Shape.Reduces S1x8x2048x2048 [3] S1x8x2048 := by decide
  have e := hostReduce_maximumf_eq_multiReduction (F := Ideal) (φ := .f32) (val_main_v12_0 (F := Ideal) a.x0 a.x1 a.x2 a.x3) 0xFF800000#32
    reducesTo_S1x8x2048x2048_S1x8x2048_d3 h_S_ hr (.inl rfl) rfl
  refine ((congrFun e _).trans (Ideal.multiReduction_maximumf_single ..)).trans ?_
  refine Eq.trans ?_ (fold_max_prefix 2048 q.val q.isLt ((a.head h.val).sc q.val))
  show Finset.fold max (Ideal.ofBits .f32 0xFF800000#32)
    (fun k : Fin 2048 => val_main_v12_0 (F := Ideal) a.x0 a.x1 a.x2 a.x3 (hr.lift (ix3 z h q) k)) Finset.univ = _
  rw [ofBits_neg_inf]
  congr 1
  funext k
  rw [← f_masked ha z h q k]
  congr 1
  funext b
  refine Fin.ext ?_
  match b with
  | ⟨0, _⟩ => rfl
  | ⟨1, _⟩ => rfl
  | ⟨2, _⟩ => rfl
  | ⟨3, _⟩ => rfl

/-- The exponentials. -/
theorem f_exp : val_main_v33 (F := Ideal) a.x0 a.x1 a.x2 a.x3 (ix4 z h q k) = (((a.head h.val).E q.val k.val : ℝ) : EReal) := by
  have e : val_main_v31 (F := Ideal) a.x0 a.x1 a.x2 a.x3 (ix4 z h q k) = (((a.head h.val).mx q.val : ℝ) : EReal) := by
    rw [val_main_v31_apply, val_main_v30_apply, val_main_v20_apply]
    have hi : idx_main_v30 (idx_main_v31 (ix4 z h q k)) = ix3 z h q := by
      obtain rfl : z = 0 := Subsingleton.elim _ _
      exact eq_ix3 _
    rw [hi, f_max ha]
    show max (Ideal.ofBits .f32 0xFF800000#32) _ = _
    rw [ofBits_neg_inf, max_eq_right bot_le]
  rw [val_main_v33_apply, val_main_v32_apply, e, f_masked ha]
  exact exp_masked _ _ _

/-- The normaliser. -/
theorem f_sum : val_main_v34 (F := Ideal) a.x0 a.x1 a.x2 a.x3 (ix3 z h q) = (((a.head h.val).L q.val : ℝ) : EReal) := by
  rw [val_main_v34_apply]
  show Ideal.ofBits .f32 0x00000000#32 + _ = _
  rw [Ideal.ofBits_zero_f32, zero_add]
  refine Eq.trans (Finset.sum_congr rfl fun k _ => ?_) (coe_sum_fin 2048 ((a.head h.val).E q.val))
  have hi : idx_main_v34 (ix3 z h q) k = ix4 z h q k := eq_ix4 _
  rw [hi, f_exp ha]

/-- The normaliser, a column of its own. -/
theorem f_sum_col (y : Fin 1) : val_main_v35 (F := Ideal) a.x0 a.x1 a.x2 a.x3 (ix4 z h q y) = (((a.head h.val).L q.val : ℝ) : EReal) := by
  rw [val_main_v35_apply]
  have hi : idx_main_v35 (ix4 z h q y) = ix3 z h q := by
    obtain rfl : z = 0 := Subsingleton.elim _ _
    exact eq_ix3 _
  rw [hi, f_sum ha]

/-- The weights. -/
theorem f_weight : val_main_v37 (F := Ideal) a.x0 a.x1 a.x2 a.x3 (ix4 z h q k)
    = (((a.head h.val).E q.val k.val / (a.head h.val).L q.val : ℝ) : EReal) := by
  have e : val_main_v36 (F := Ideal) a.x0 a.x1 a.x2 a.x3 (ix4 z h q k) = (((a.head h.val).L q.val : ℝ) : EReal) := by
    rw [val_main_v36_apply]
    have hi : idx_main_v36 (ix4 z h q k) = ix4 z h q 0 := by
      obtain rfl : z = 0 := Subsingleton.elim _ _
      exact eq_ix4 _
    rw [hi, f_sum_col ha]
  rw [val_main_v37_apply, e, f_exp ha]
  exact div_coe_coe ((a.head h.val).L_ne q.isLt)

/-- The output. -/
theorem f_out (c : Fin 128) : val_main_v42 (F := Ideal) a.x0 a.x1 a.x2 a.x3 a.x4 (ix4 z q h c) = (((a.head h.val).O q.val c.val : ℝ) : EReal) := by
  rw [val_main_v42_apply, val_main_v41_apply]
  refine Eq.trans (Finset.sum_congr rfl fun k _ => ?_)
    (coe_sum_fin 2048 fun k => (a.head h.val).E q.val k / (a.head h.val).L q.val * (a.head h.val).v k c.val)
  have hl : lidx_main_v41 (idx_main_v42 (ix4 z q h c)) k = ix4 z k h c := eq_ix4 _
  have hr : ridx_main_v41 (idx_main_v42 (ix4 z q h c)) k = ix4 z h q k := eq_ix4 _
  rw [hl, hr, f_weight ha, at4_in ha.h4, ← EReal.coe_mul, mul_comm]
  rfl

end Cert.Attn
-- ==== Proof.AttnPoints.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

/-! # The grid points of the attention's backward kernel

    The grid has eight heads of eight query blocks; point `t` is head `t / 8`, block `t % 8`.  This module says which
    branch of the body each point takes, names the staging buffers, and says where an output starts afresh. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

/-- The zeroing of a head's accumulators, `t % 8 = 0`. -/
abbrev cond0 (i : grid0.Coords) : Prop := k0_cond1 i = 1#1
/-- The points at which `cond0` holds. -/
theorem hcond0 : ∀ t : Fin cfg0.N, cond0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0, k0_cond1, e0, e1]
    word_cmp
   : ∀ t : Fin grid0.N, cond0 (grid0.coords t) ↔ t.val % 8 = 0)

/-- The zeroing of the sum over the heads, at the first point. -/
abbrev cond1 (i : grid0.Coords) : Prop := k0_cond2 i = 1#1
/-- The points at which `cond1` holds. -/
theorem hcond1 : ∀ t : Fin cfg0.N, cond1 (grid0.coords t) ↔ t.val % 64 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond1, k0_cond2, e0, e1]
    word_cmp
   : ∀ t : Fin grid0.N, cond1 (grid0.coords t) ↔ t.val % 64 = 0)

/-- The branch of query block 0. -/
abbrev cond2 (i : grid0.Coords) : Prop := k0_cond3 i = 1#1
/-- The points at which `cond2` holds. -/
theorem hcond2 : ∀ t : Fin cfg0.N, cond2 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond2, k0_cond3, e0, e1]
    word_cmp
   : ∀ t : Fin grid0.N, cond2 (grid0.coords t) ↔ t.val % 8 = 0)

/-- The branch of query block 1. -/
abbrev cond3 (i : grid0.Coords) : Prop := k0_cond4 i = 1#1
/-- The points at which `cond3` holds. -/
theorem hcond3 : ∀ t : Fin cfg0.N, cond3 (grid0.coords t) ↔ t.val % 8 = 1 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond3, k0_cond4, e0, e1]
    word_cmp
   : ∀ t : Fin grid0.N, cond3 (grid0.coords t) ↔ t.val % 8 = 1)

/-- The branch of query block 2. -/
abbrev cond4 (i : grid0.Coords) : Prop := k0_cond5 i = 1#1
/-- The points at which `cond4` holds. -/
theorem hcond4 : ∀ t : Fin cfg0.N, cond4 (grid0.coords t) ↔ t.val % 8 = 2 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond4, k0_cond5, e0, e1]
    word_cmp
   : ∀ t : Fin grid0.N, cond4 (grid0.coords t) ↔ t.val % 8 = 2)

/-- The branch of query block 3. -/
abbrev cond5 (i : grid0.Coords) : Prop := k0_cond6 i = 1#1
/-- The points at which `cond5` holds. -/
theorem hcond5 : ∀ t : Fin cfg0.N, cond5 (grid0.coords t) ↔ t.val % 8 = 3 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond5, k0_cond6, e0, e1]
    word_cmp
   : ∀ t : Fin grid0.N, cond5 (grid0.coords t) ↔ t.val % 8 = 3)

/-- The branch of query block 4. -/
abbrev cond6 (i : grid0.Coords) : Prop := k0_cond7 i = 1#1
/-- The points at which `cond6` holds. -/
theorem hcond6 : ∀ t : Fin cfg0.N, cond6 (grid0.coords t) ↔ t.val % 8 = 4 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond6, k0_cond7, e0, e1]
    word_cmp
   : ∀ t : Fin grid0.N, cond6 (grid0.coords t) ↔ t.val % 8 = 4)

/-- The branch of query block 5. -/
abbrev cond7 (i : grid0.Coords) : Prop := k0_cond8 i = 1#1
/-- The points at which `cond7` holds. -/
theorem hcond7 : ∀ t : Fin cfg0.N, cond7 (grid0.coords t) ↔ t.val % 8 = 5 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond7, k0_cond8, e0, e1]
    word_cmp
   : ∀ t : Fin grid0.N, cond7 (grid0.coords t) ↔ t.val % 8 = 5)

/-- The branch of query block 6. -/
abbrev cond8 (i : grid0.Coords) : Prop := k0_cond9 i = 1#1
/-- The points at which `cond8` holds. -/
theorem hcond8 : ∀ t : Fin cfg0.N, cond8 (grid0.coords t) ↔ t.val % 8 = 6 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond8, k0_cond9, e0, e1]
    word_cmp
   : ∀ t : Fin grid0.N, cond8 (grid0.coords t) ↔ t.val % 8 = 6)

/-- The branch of query block 7. -/
abbrev cond9 (i : grid0.Coords) : Prop := k0_cond10 i = 1#1
/-- The points at which `cond9` holds. -/
theorem hcond9 : ∀ t : Fin cfg0.N, cond9 (grid0.coords t) ↔ t.val % 8 = 7 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond9, k0_cond10, e0, e1]
    word_cmp
   : ∀ t : Fin grid0.N, cond9 (grid0.coords t) ↔ t.val % 8 = 7)

/-- Window 0 (an input) is never idle. -/
theorem live0 : ∀ t : Fin cfg0.N, cfg0.idle 0 (grid0.coords t) = false := fun _ => rfl
/-- Window 1 (an input) is never idle. -/
theorem live1 : ∀ t : Fin cfg0.N, cfg0.idle 1 (grid0.coords t) = false := fun _ => rfl
/-- Window 2 (an input) is never idle. -/
theorem live2 : ∀ t : Fin cfg0.N, cfg0.idle 2 (grid0.coords t) = false := fun _ => rfl
/-- Window 3 (an input) is never idle. -/
theorem live3 : ∀ t : Fin cfg0.N, cfg0.idle 3 (grid0.coords t) = false := fun _ => rfl
/-- Window 4 (an input) is never idle. -/
theorem live4 : ∀ t : Fin cfg0.N, cfg0.idle 4 (grid0.coords t) = false := fun _ => rfl
/-- Window 5 (an input) is never idle. -/
theorem live5 : ∀ t : Fin cfg0.N, cfg0.idle 5 (grid0.coords t) = false := fun _ => rfl
/-- Window 6 (an input) is never idle. -/
theorem live6 : ∀ t : Fin cfg0.N, cfg0.idle 6 (grid0.coords t) = false := fun _ => rfl
/-- Window 7 (an output) is written at every point. -/
theorem live7 : ∀ t : Fin cfg0.N, cfg0.idle 7 (grid0.coords t) = false :=
  (by decide +kernel : ∀ t : Fin grid0.N, cfg0.idle 7 (grid0.coords t) = false)
/-- Window 8 (an output) is written at every point. -/
theorem live8 : ∀ t : Fin cfg0.N, cfg0.idle 8 (grid0.coords t) = false :=
  (by decide +kernel : ∀ t : Fin grid0.N, cfg0.idle 8 (grid0.coords t) = false)
/-- Window 9 (an output) is written at every point. -/
theorem live9 : ∀ t : Fin cfg0.N, cfg0.idle 9 (grid0.coords t) = false :=
  (by decide +kernel : ∀ t : Fin grid0.N, cfg0.idle 9 (grid0.coords t) = false)
/-- Window 10 (an output) is written at every point. -/
theorem live10 : ∀ t : Fin cfg0.N, cfg0.idle 10 (grid0.coords t) = false :=
  (by decide +kernel : ∀ t : Fin grid0.N, cfg0.idle 10 (grid0.coords t) = false)
/-- Window 11 (an output) is written at every point. -/
theorem live11 : ∀ t : Fin cfg0.N, cfg0.idle 11 (grid0.coords t) = false :=
  (by decide +kernel : ∀ t : Fin grid0.N, cfg0.idle 11 (grid0.coords t) = false)

/-! ## The staging buffers at a point, and that each is a whole buffer -/

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x128 .f32 := win0_11.stage (cfg0.slots t 11)
abbrev hs11 (t : Fin cfg0.N) : (ms11 t).IsWhole := hstage0_11 ((cfg0.slots t 11).cast nbuf0_11)

end Cert.KernelIdeal.Attn

end
-- ==== Proof.AttnBlock.lean ====
module

public import proofs.«01_k».proof.Proof.AttnPoints
public import Idealize.ShloMosaic.Lib.Pipeline.Value
public import Idealize.ShloMosaic.Lib.WritesUnit
public import Idealize.ShloMosaic.Lib.WholeRead
public import Idealize.ShloMosaic.Lib.ValueIdxCore

/-! # What one query block computes

    For query block `b` the body reads the first `256 * (b + 1)` keys.  Each output of the block is named here as a
    function of the seven input blocks: the two query gradients, and what is stored over the leading rows of the three
    accumulators. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

/-- An accumulator after its first `n` rows have been overwritten by `p`. -/
def upd (n : ℕ) (p : Vec F ⟨2, ![n, 128]⟩ .f32) (d : Vec F S2048x128 .f32) : Vec F S2048x128 .f32 :=
  fun y => if h : (y 0).val < n then p (ix2 ⟨(y 0).val, h⟩ (y 1)) else d y

/-- A store of `n` rows at the origin leaves `upd`. -/
theorem read_upd {κ : Kind} {sp : Space} (v : View sig κ sp S2048x128 .f32) (f : v.ty.Contents (Elt F)) (n : ℕ)
    (inb : ∀ a : Fin 2, (![0, 0] : Fin 2 → ℕ) a + (![n, 128] : Fin 2 → ℕ) a ≤ S2048x128.size a)
    (p : Vec F ⟨2, ![n, 128]⟩ .f32) (L : List (View.Piece (Elt F) S2048x128 .f32)) :
    v.read (Elt F) (v.writes (Elt F) f (⟨Rect.unit (s := S2048x128) ![0, 0] ![n, 128] inb, p⟩ :: L))
      = upd n p (v.read (Elt F) (v.writes (Elt F) f L)) := by
  funext y
  refine (View.read_writes_cons_rows (d := ![2048, 128]) (o := 0) (W := n) v f inb p L y rfl rfl rfl).trans ?_
  unfold upd
  by_cases h : (y 0).val < n
  · rw [dif_pos h, dif_pos ⟨Nat.zero_le _, by omega⟩]
    congr 1
    funext a
    refine Fin.ext ?_
    rw [Rect.unitLocal_val]
    match a with
    | 0 => rfl
    | 1 => rfl
  · rw [dif_neg h, dif_neg (by omega)]

/-- A store through the whole buffer leaves its payload. -/
theorem read_full {S : Shape} {e : EltTy} {κ : Kind} {sp : Space} (v : View sig κ sp S e)
    (f : v.ty.Contents (Elt F)) {off : Fin S.rank → ℕ} (h : off = fun _ => 0) (inb : ∀ a, off a + S.size a ≤ S.size a)
    (p : S.Idx → Elt F e) (L : List (View.Piece (Elt F) S e)) :
    v.read (Elt F) (v.writes (Elt F) f (⟨Rect.unit off S.size inb, p⟩ :: L)) = p := by
  subst h
  funext y
  have e := View.read_writes_cons_emb v f (Rect.whole S) p L y
  rw [Rect.emb_whole_apply] at e
  exact e

/-- A load of a whole buffer holding `X` reads `X` over the load's rectangle. -/
theorem load_whole {S : Shape} {e : EltTy} {κ : Kind} {sp : Space} {m : Memref sig κ sp S e} (h : m.IsWhole)
    (X : S.Idx → Elt F e) (r : Rect S) :
    View.readAt (Elt F) m.view r.toLoadRect (h.unread X) = View.ld X r :=
  funext fun x => h.readAt_unread X r.toLoadRect x

/-- A load after stores reads what the buffer then holds. -/
theorem load_of_read {S : Shape} {e : EltTy} {κ : Kind} {sp : Space} (v : View sig κ sp S e)
    (f : v.ty.Contents (Elt F)) (X : S.Idx → Elt F e) (h : v.read (Elt F) f = X) (r : Rect S) :
    View.readAt (Elt F) v r.toLoadRect f = View.ld X r := by
  subst h; rfl

/-- Offset zero on both axes. -/
theorem zero_off : (![0, 0] : Fin 2 → ℕ) = fun _ => 0 := by
  funext a; match a with
  | 0 => rfl
  | 1 => rfl

/-- The load of all of a query block. -/
theorem ld_block {e : EltTy} (X : S256x128.Idx → Elt F e) :
    View.ld X (Rect.unit (s := S256x128) ![0, 0] ![256, 128] inb_S256x128_S256x128_0_0) = X :=
  View.ld_unit_zero (S := S256x128) zero_off _ X

/-- A store of all of an accumulator leaves its payload. -/
theorem read_acc {κ : Kind} {sp : Space} (v : View sig κ sp S2048x128 .f32) (f : v.ty.Contents (Elt F))
    (p : Vec F S2048x128 .f32) :
    v.read (Elt F) (v.writes (Elt F) f [⟨Rect.unit (s := S2048x128) ![0, 0] ![2048, 128] inb_S2048x128_S2048x128_0_0, p⟩]) = p :=
  read_full (S := S2048x128) v f zero_off _ p []

/-! ## Query block 0: the first 256 keys -/

/-- The first 256 rows. -/
abbrev top0 {e : EltTy} (x : Vec F S2048x128 e) : Vec F S256x128 e :=
  View.ld x (Rect.unit (s := S2048x128) ![0, 0] S256x128.size inb_S2048x128_S256x128_0_0)

/-- The gradient of the block's queries (without rotary part). -/
def dqn0 (x0 x1 : Vec F S256x128 .bf16) (x2 x3 x4 : Vec F S2048x128 .bf16) (x5 x6 : Vec F S256x128 .bf16) : Vec F S256x128 .f32 :=
  k0_pay11 (k0_pay3 (top0 x2) (top0 x4)) (k0_pay4 x0 x1 (top0 x2) (top0 x4)) (k0_pay5 x0 x1 (top0 x2) (top0 x4))
    (k0_pay6 x5 (top0 x3)) (k0_pay7 x5) (k0_pay8 x6)
/-- The gradient of the block's rotary queries. -/
def dqr0 (x0 x1 : Vec F S256x128 .bf16) (x2 x3 x4 : Vec F S2048x128 .bf16) (x5 x6 : Vec F S256x128 .bf16) : Vec F S256x128 .f32 :=
  k0_pay12 (k0_pay3 (top0 x2) (top0 x4)) (k0_pay4 x0 x1 (top0 x2) (top0 x4)) (k0_pay5 x0 x1 (top0 x2) (top0 x4))
    (k0_pay6 x5 (top0 x3)) (k0_pay7 x5) (k0_pay8 x6)
/-- The key gradient's leading rows after the block, from the accumulator `d` before it. -/
def dkn0 (x0 x1 : Vec F S256x128 .bf16) (x2 x3 x4 : Vec F S2048x128 .bf16) (x5 x6 : Vec F S256x128 .bf16) (d : Vec F S2048x128 .f32) : Vec F S256x128 .f32 :=
  k0_pay14 (k0_pay2 x0 x1) (k0_pay4 x0 x1 (top0 x2) (top0 x4)) (k0_pay5 x0 x1 (top0 x2) (top0 x4))
    (k0_pay6 x5 (top0 x3)) (k0_pay7 x5) (k0_pay8 x6) (top0 d)
/-- The rotary key gradient's leading rows after the block, from the accumulator `d` before it. -/
def dkr0 (x0 x1 : Vec F S256x128 .bf16) (x2 x3 x4 : Vec F S2048x128 .bf16) (x5 x6 : Vec F S256x128 .bf16) (d : Vec F S2048x128 .f32) : Vec F S256x128 .f32 :=
  k0_pay15 (k0_pay2 x0 x1) (k0_pay4 x0 x1 (top0 x2) (top0 x4)) (k0_pay5 x0 x1 (top0 x2) (top0 x4))
    (k0_pay6 x5 (top0 x3)) (k0_pay7 x5) (k0_pay8 x6) (top0 d)
/-- The value gradient's leading rows after the block, from the accumulator `d` before it. -/
def dv0 (x0 x1 : Vec F S256x128 .bf16) (x2 x3 x4 : Vec F S2048x128 .bf16) (x5 x6 : Vec F S256x128 .bf16) (d : Vec F S2048x128 .f32) : Vec F S256x128 .f32 :=
  k0_pay16 (k0_pay1 x5) (k0_pay4 x0 x1 (top0 x2) (top0 x4)) (k0_pay5 x0 x1 (top0 x2) (top0 x4)) (top0 d)

/-! ## Query block 1: the first 512 keys -/

/-- The first 512 rows. -/
abbrev top1 {e : EltTy} (x : Vec F S2048x128 e) : Vec F S512x128 e :=
  View.ld x (Rect.unit (s := S2048x128) ![0, 0] S512x128.size inb_S2048x128_S512x128_0_0)

/-- The gradient of the block's queries (without rotary part). -/
def dqn1 (x0 x1 : Vec F S256x128 .bf16) (x2 x3 x4 : Vec F S2048x128 .bf16) (x5 x6 : Vec F S256x128 .bf16) : Vec F S256x128 .f32 :=
  k0_pay27 (k0_pay19 (top1 x2) (top1 x4)) (k0_pay20 x0 x1 (top1 x2) (top1 x4)) (k0_pay21 x0 x1 (top1 x2) (top1 x4))
    (k0_pay22 x5 (top1 x3)) (k0_pay23 x5) (k0_pay24 x6)
/-- The gradient of the block's rotary queries. -/
def dqr1 (x0 x1 : Vec F S256x128 .bf16) (x2 x3 x4 : Vec F S2048x128 .bf16) (x5 x6 : Vec F S256x128 .bf16) : Vec F S256x128 .f32 :=
  k0_pay28 (k0_pay19 (top1 x2) (top1 x4)) (k0_pay20 x0 x1 (top1 x2) (top1 x4)) (k0_pay21 x0 x1 (top1 x2) (top1 x4))
    (k0_pay22 x5 (top1 x3)) (k0_pay23 x5) (k0_pay24 x6)
/-- The key gradient's leading rows after the block, from the accumulator `d` before it. -/
def dkn1 (x0 x1 : Vec F S256x128 .bf16) (x2 x3 x4 : Vec F S2048x128 .bf16) (x5 x6 : Vec F S256x128 .bf16) (d : Vec F S2048x128 .f32) : Vec F S512x128 .f32 :=
  k0_pay30 (k0_pay18 x0 x1) (k0_pay20 x0 x1 (top1 x2) (top1 x4)) (k0_pay21 x0 x1 (top1 x2) (top1 x4))
    (k0_pay22 x5 (top1 x3)) (k0_pay23 x5) (k0_pay24 x6) (top1 d)
/-- The rotary key gradient's leading rows after the block, from the accumulator `d` before it. -/
def dkr1 (x0 x1 : Vec F S256x128 .bf16) (x2 x3 x4 : Vec F S2048x128 .bf16) (x5 x6 : Vec F S256x128 .bf16) (d : Vec F S2048x128 .f32) : Vec F S512x128 .f32 :=
  k0_pay31 (k0_pay18 x0 x1) (k0_pay20 x0 x1 (top1 x2) (top1 x4)) (k0_pay21 x0 x1 (top1 x2) (top1 x4))
    (k0_pay22 x5 (top1 x3)) (k0_pay23 x5) (k0_pay24 x6) (top1 d)
/-- The value gradient's leading rows after the block, from the accumulator `d` before it. -/
def dv1 (x0 x1 : Vec F S256x128 .bf16) (x2 x3 x4 : Vec F S2048x128 .bf16) (x5 x6 : Vec F S256x128 .bf16) (d : Vec F S2048x128 .f32) : Vec F S512x128 .f32 :=
  k0_pay32 (k0_pay17 x5) (k0_pay20 x0 x1 (top1 x2) (top1 x4)) (k0_pay21 x0 x1 (top1 x2) (top1 x4)) (top1 d)

/-! ## Query block 2: the first 768 keys -/

/-- The first 768 rows. -/
abbrev top2 {e : EltTy} (x : Vec F S2048x128 e) : Vec F S768x128 e :=
  View.ld x (Rect.unit (s := S2048x128) ![0, 0] S768x128.size inb_S2048x128_S768x128_0_0)

/-- The gradient of the block's queries (without rotary part). -/
def dqn2 (x0 x1 : Vec F S256x128 .bf16) (x2 x3 x4 : Vec F S2048x128 .bf16) (x5 x6 : Vec F S256x128 .bf16) : Vec F S256x128 .f32 :=
  k0_pay43 (k0_pay35 (top2 x2) (top2 x4)) (k0_pay36 x0 x1 (top2 x2) (top2 x4)) (k0_pay37 x0 x1 (top2 x2) (top2 x4))
    (k0_pay38 x5 (top2 x3)) (k0_pay39 x5) (k0_pay40 x6)
/-- The gradient of the block's rotary queries. -/
def dqr2 (x0 x1 : Vec F S256x128 .bf16) (x2 x3 x4 : Vec F S2048x128 .bf16) (x5 x6 : Vec F S256x128 .bf16) : Vec F S256x128 .f32 :=
  k0_pay44 (k0_pay35 (top2 x2) (top2 x4)) (k0_pay36 x0 x1 (top2 x2) (top2 x4)) (k0_pay37 x0 x1 (top2 x2) (top2 x4))
    (k0_pay38 x5 (top2 x3)) (k0_pay39 x5) (k0_pay40 x6)
/-- The key gradient's leading rows after the block, from the accumulator `d` before it. -/
def dkn2 (x0 x1 : Vec F S256x128 .bf16) (x2 x3 x4 : Vec F S2048x128 .bf16) (x5 x6 : Vec F S256x128 .bf16) (d : Vec F S2048x128 .f32) : Vec F S768x128 .f32 :=
  k0_pay46 (k0_pay34 x0 x1) (k0_pay36 x0 x1 (top2 x2) (top2 x4)) (k0_pay37 x0 x1 (top2 x2) (top2 x4))
    (k0_pay38 x5 (top2 x3)) (k0_pay39 x5) (k0_pay40 x6) (top2 d)
/-- The rotary key gradient's leading rows after the block, from the accumulator `d` before it. -/
def dkr2 (x0 x1 : Vec F S256x128 .bf16) (x2 x3 x4 : Vec F S2048x128 .bf16) (x5 x6 : Vec F S256x128 .bf16) (d : Vec F S2048x128 .f32) : Vec F S768x128 .f32 :=
  k0_pay47 (k0_pay34 x0 x1) (k0_pay36 x0 x1 (top2 x2) (top2 x4)) (k0_pay37 x0 x1 (top2 x2) (top2 x4))
    (k0_pay38 x5 (top2 x3)) (k0_pay39 x5) (k0_pay40 x6) (top2 d)
/-- The value gradient's leading rows after the block, from the accumulator `d` before it. -/
def dv2 (x0 x1 : Vec F S256x128 .bf16) (x2 x3 x4 : Vec F S2048x128 .bf16) (x5 x6 : Vec F S256x128 .bf16) (d : Vec F S2048x128 .f32) : Vec F S768x128 .f32 :=
  k0_pay48 (k0_pay33 x5) (k0_pay36 x0 x1 (top2 x2) (top2 x4)) (k0_pay37 x0 x1 (top2 x2) (top2 x4)) (top2 d)

/-! ## Query block 3: the first 1024 keys -/

/-- The first 1024 rows. -/
abbrev top3 {e : EltTy} (x : Vec F S2048x128 e) : Vec F S1024x128 e :=
  View.ld x (Rect.unit (s := S2048x128) ![0, 0] S1024x128.size inb_S2048x128_S1024x128_0_0)

/-- The gradient of the block's queries (without rotary part). -/
def dqn3 (x0 x1 : Vec F S256x128 .bf16) (x2 x3 x4 : Vec F S2048x128 .bf16) (x5 x6 : Vec F S256x128 .bf16) : Vec F S256x128 .f32 :=
  k0_pay59 (k0_pay51 (top3 x2) (top3 x4)) (k0_pay52 x0 x1 (top3 x2) (top3 x4)) (k0_pay53 x0 x1 (top3 x2) (top3 x4))
    (k0_pay54 x5 (top3 x3)) (k0_pay55 x5) (k0_pay56 x6)
/-- The gradient of the block's rotary queries. -/
def dqr3 (x0 x1 : Vec F S256x128 .bf16) (x2 x3 x4 : Vec F S2048x128 .bf16) (x5 x6 : Vec F S256x128 .bf16) : Vec F S256x128 .f32 :=
  k0_pay60 (k0_pay51 (top3 x2) (top3 x4)) (k0_pay52 x0 x1 (top3 x2) (top3 x4)) (k0_pay53 x0 x1 (top3 x2) (top3 x4))
    (k0_pay54 x5 (top3 x3)) (k0_pay55 x5) (k0_pay56 x6)
/-- The key gradient's leading rows after the block, from the accumulator `d` before it. -/
def dkn3 (x0 x1 : Vec F S256x128 .bf16) (x2 x3 x4 : Vec F S2048x128 .bf16) (x5 x6 : Vec F S256x128 .bf16) (d : Vec F S2048x128 .f32) : Vec F S1024x128 .f32 :=
  k0_pay62 (k0_pay50 x0 x1) (k0_pay52 x0 x1 (top3 x2) (top3 x4)) (k0_pay53 x0 x1 (top3 x2) (top3 x4))
    (k0_pay54 x5 (top3 x3)) (k0_pay55 x5) (k0_pay56 x6) (top3 d)
/-- The rotary key gradient's leading rows after the block, from the accumulator `d` before it. -/
def dkr3 (x0 x1 : Vec F S256x128 .bf16) (x2 x3 x4 : Vec F S2048x128 .bf16) (x5 x6 : Vec F S256x128 .bf16) (d : Vec F S2048x128 .f32) : Vec F S1024x128 .f32 :=
  k0_pay63 (k0_pay50 x0 x1) (k0_pay52 x0 x1 (top3 x2) (top3 x4)) (k0_pay53 x0 x1 (top3 x2) (top3 x4))
    (k0_pay54 x5 (top3 x3)) (k0_pay55 x5) (k0_pay56 x6) (top3 d)
/-- The value gradient's leading rows after the block, from the accumulator `d` before it. -/
def dv3 (x0 x1 : Vec F S256x128 .bf16) (x2 x3 x4 : Vec F S2048x128 .bf16) (x5 x6 : Vec F S256x128 .bf16) (d : Vec F S2048x128 .f32) : Vec F S1024x128 .f32 :=
  k0_pay64 (k0_pay49 x5) (k0_pay52 x0 x1 (top3 x2) (top3 x4)) (k0_pay53 x0 x1 (top3 x2) (top3 x4)) (top3 d)

/-! ## Query block 4: the first 1280 keys -/

/-- The first 1280 rows. -/
abbrev top4 {e : EltTy} (x : Vec F S2048x128 e) : Vec F S1280x128 e :=
  View.ld x (Rect.unit (s := S2048x128) ![0, 0] S1280x128.size inb_S2048x128_S1280x128_0_0)

/-- The gradient of the block's queries (without rotary part). -/
def dqn4 (x0 x1 : Vec F S256x128 .bf16) (x2 x3 x4 : Vec F S2048x128 .bf16) (x5 x6 : Vec F S256x128 .bf16) : Vec F S256x128 .f32 :=
  k0_pay75 (k0_pay67 (top4 x2) (top4 x4)) (k0_pay68 x0 x1 (top4 x2) (top4 x4)) (k0_pay69 x0 x1 (top4 x2) (top4 x4))
    (k0_pay70 x5 (top4 x3)) (k0_pay71 x5) (k0_pay72 x6)
/-- The gradient of the block's rotary queries. -/
def dqr4 (x0 x1 : Vec F S256x128 .bf16) (x2 x3 x4 : Vec F S2048x128 .bf16) (x5 x6 : Vec F S256x128 .bf16) : Vec F S256x128 .f32 :=
  k0_pay76 (k0_pay67 (top4 x2) (top4 x4)) (k0_pay68 x0 x1 (top4 x2) (top4 x4)) (k0_pay69 x0 x1 (top4 x2) (top4 x4))
    (k0_pay70 x5 (top4 x3)) (k0_pay71 x5) (k0_pay72 x6)
/-- The key gradient's leading rows after the block, from the accumulator `d` before it. -/
def dkn4 (x0 x1 : Vec F S256x128 .bf16) (x2 x3 x4 : Vec F S2048x128 .bf16) (x5 x6 : Vec F S256x128 .bf16) (d : Vec F S2048x128 .f32) : Vec F S1280x128 .f32 :=
  k0_pay78 (k0_pay66 x0 x1) (k0_pay68 x0 x1 (top4 x2) (top4 x4)) (k0_pay69 x0 x1 (top4 x2) (top4 x4))
    (k0_pay70 x5 (top4 x3)) (k0_pay71 x5) (k0_pay72 x6) (top4 d)
/-- The rotary key gradient's leading rows after the block, from the accumulator `d` before it. -/
def dkr4 (x0 x1 : Vec F S256x128 .bf16) (x2 x3 x4 : Vec F S2048x128 .bf16) (x5 x6 : Vec F S256x128 .bf16) (d : Vec F S2048x128 .f32) : Vec F S1280x128 .f32 :=
  k0_pay79 (k0_pay66 x0 x1) (k0_pay68 x0 x1 (top4 x2) (top4 x4)) (k0_pay69 x0 x1 (top4 x2) (top4 x4))
    (k0_pay70 x5 (top4 x3)) (k0_pay71 x5) (k0_pay72 x6) (top4 d)
/-- The value gradient's leading rows after the block, from the accumulator `d` before it. -/
def dv4 (x0 x1 : Vec F S256x128 .bf16) (x2 x3 x4 : Vec F S2048x128 .bf16) (x5 x6 : Vec F S256x128 .bf16) (d : Vec F S2048x128 .f32) : Vec F S1280x128 .f32 :=
  k0_pay80 (k0_pay65 x5) (k0_pay68 x0 x1 (top4 x2) (top4 x4)) (k0_pay69 x0 x1 (top4 x2) (top4 x4)) (top4 d)

/-! ## Query block 5: the first 1536 keys -/

/-- The first 1536 rows. -/
abbrev top5 {e : EltTy} (x : Vec F S2048x128 e) : Vec F S1536x128 e :=
  View.ld x (Rect.unit (s := S2048x128) ![0, 0] S1536x128.size inb_S2048x128_S1536x128_0_0)

/-- The gradient of the block's queries (without rotary part). -/
def dqn5 (x0 x1 : Vec F S256x128 .bf16) (x2 x3 x4 : Vec F S2048x128 .bf16) (x5 x6 : Vec F S256x128 .bf16) : Vec F S256x128 .f32 :=
  k0_pay91 (k0_pay83 (top5 x2) (top5 x4)) (k0_pay84 x0 x1 (top5 x2) (top5 x4)) (k0_pay85 x0 x1 (top5 x2) (top5 x4))
    (k0_pay86 x5 (top5 x3)) (k0_pay87 x5) (k0_pay88 x6)
/-- The gradient of the block's rotary queries. -/
def dqr5 (x0 x1 : Vec F S256x128 .bf16) (x2 x3 x4 : Vec F S2048x128 .bf16) (x5 x6 : Vec F S256x128 .bf16) : Vec F S256x128 .f32 :=
  k0_pay92 (k0_pay83 (top5 x2) (top5 x4)) (k0_pay84 x0 x1 (top5 x2) (top5 x4)) (k0_pay85 x0 x1 (top5 x2) (top5 x4))
    (k0_pay86 x5 (top5 x3)) (k0_pay87 x5) (k0_pay88 x6)
/-- The key gradient's leading rows after the block, from the accumulator `d` before it. -/
def dkn5 (x0 x1 : Vec F S256x128 .bf16) (x2 x3 x4 : Vec F S2048x128 .bf16) (x5 x6 : Vec F S256x128 .bf16) (d : Vec F S2048x128 .f32) : Vec F S1536x128 .f32 :=
  k0_pay94 (k0_pay82 x0 x1) (k0_pay84 x0 x1 (top5 x2) (top5 x4)) (k0_pay85 x0 x1 (top5 x2) (top5 x4))
    (k0_pay86 x5 (top5 x3)) (k0_pay87 x5) (k0_pay88 x6) (top5 d)
/-- The rotary key gradient's leading rows after the block, from the accumulator `d` before it. -/
def dkr5 (x0 x1 : Vec F S256x128 .bf16) (x2 x3 x4 : Vec F S2048x128 .bf16) (x5 x6 : Vec F S256x128 .bf16) (d : Vec F S2048x128 .f32) : Vec F S1536x128 .f32 :=
  k0_pay95 (k0_pay82 x0 x1) (k0_pay84 x0 x1 (top5 x2) (top5 x4)) (k0_pay85 x0 x1 (top5 x2) (top5 x4))
    (k0_pay86 x5 (top5 x3)) (k0_pay87 x5) (k0_pay88 x6) (top5 d)
/-- The value gradient's leading rows after the block, from the accumulator `d` before it. -/
def dv5 (x0 x1 : Vec F S256x128 .bf16) (x2 x3 x4 : Vec F S2048x128 .bf16) (x5 x6 : Vec F S256x128 .bf16) (d : Vec F S2048x128 .f32) : Vec F S1536x128 .f32 :=
  k0_pay96 (k0_pay81 x5) (k0_pay84 x0 x1 (top5 x2) (top5 x4)) (k0_pay85 x0 x1 (top5 x2) (top5 x4)) (top5 d)

/-! ## Query block 6: the first 1792 keys -/

/-- The first 1792 rows. -/
abbrev top6 {e : EltTy} (x : Vec F S2048x128 e) : Vec F S1792x128 e :=
  View.ld x (Rect.unit (s := S2048x128) ![0, 0] S1792x128.size inb_S2048x128_S1792x128_0_0)

/-- The gradient of the block's queries (without rotary part). -/
def dqn6 (x0 x1 : Vec F S256x128 .bf16) (x2 x3 x4 : Vec F S2048x128 .bf16) (x5 x6 : Vec F S256x128 .bf16) : Vec F S256x128 .f32 :=
  k0_pay107 (k0_pay99 (top6 x2) (top6 x4)) (k0_pay100 x0 x1 (top6 x2) (top6 x4)) (k0_pay101 x0 x1 (top6 x2) (top6 x4))
    (k0_pay102 x5 (top6 x3)) (k0_pay103 x5) (k0_pay104 x6)
/-- The gradient of the block's rotary queries. -/
def dqr6 (x0 x1 : Vec F S256x128 .bf16) (x2 x3 x4 : Vec F S2048x128 .bf16) (x5 x6 : Vec F S256x128 .bf16) : Vec F S256x128 .f32 :=
  k0_pay108 (k0_pay99 (top6 x2) (top6 x4)) (k0_pay100 x0 x1 (top6 x2) (top6 x4)) (k0_pay101 x0 x1 (top6 x2) (top6 x4))
    (k0_pay102 x5 (top6 x3)) (k0_pay103 x5) (k0_pay104 x6)
/-- The key gradient's leading rows after the block, from the accumulator `d` before it. -/
def dkn6 (x0 x1 : Vec F S256x128 .bf16) (x2 x3 x4 : Vec F S2048x128 .bf16) (x5 x6 : Vec F S256x128 .bf16) (d : Vec F S2048x128 .f32) : Vec F S1792x128 .f32 :=
  k0_pay110 (k0_pay98 x0 x1) (k0_pay100 x0 x1 (top6 x2) (top6 x4)) (k0_pay101 x0 x1 (top6 x2) (top6 x4))
    (k0_pay102 x5 (top6 x3)) (k0_pay103 x5) (k0_pay104 x6) (top6 d)
/-- The rotary key gradient's leading rows after the block, from the accumulator `d` before it. -/
def dkr6 (x0 x1 : Vec F S256x128 .bf16) (x2 x3 x4 : Vec F S2048x128 .bf16) (x5 x6 : Vec F S256x128 .bf16) (d : Vec F S2048x128 .f32) : Vec F S1792x128 .f32 :=
  k0_pay111 (k0_pay98 x0 x1) (k0_pay100 x0 x1 (top6 x2) (top6 x4)) (k0_pay101 x0 x1 (top6 x2) (top6 x4))
    (k0_pay102 x5 (top6 x3)) (k0_pay103 x5) (k0_pay104 x6) (top6 d)
/-- The value gradient's leading rows after the block, from the accumulator `d` before it. -/
def dv6 (x0 x1 : Vec F S256x128 .bf16) (x2 x3 x4 : Vec F S2048x128 .bf16) (x5 x6 : Vec F S256x128 .bf16) (d : Vec F S2048x128 .f32) : Vec F S1792x128 .f32 :=
  k0_pay112 (k0_pay97 x5) (k0_pay100 x0 x1 (top6 x2) (top6 x4)) (k0_pay101 x0 x1 (top6 x2) (top6 x4)) (top6 d)

/-! ## Query block 7: the first 2048 keys -/

/-- The first 2048 rows. -/
abbrev top7 {e : EltTy} (x : Vec F S2048x128 e) : Vec F S2048x128 e :=
  View.ld x (Rect.unit (s := S2048x128) ![0, 0] S2048x128.size inb_S2048x128_S2048x128_0_0)

/-- The gradient of the block's queries (without rotary part). -/
def dqn7 (x0 x1 : Vec F S256x128 .bf16) (x2 x3 x4 : Vec F S2048x128 .bf16) (x5 x6 : Vec F S256x128 .bf16) : Vec F S256x128 .f32 :=
  k0_pay123 (k0_pay115 (top7 x2) (top7 x4)) (k0_pay116 x0 x1 (top7 x2) (top7 x4)) (k0_pay117 x0 x1 (top7 x2) (top7 x4))
    (k0_pay118 x5 (top7 x3)) (k0_pay119 x5) (k0_pay120 x6)
/-- The gradient of the block's rotary queries. -/
def dqr7 (x0 x1 : Vec F S256x128 .bf16) (x2 x3 x4 : Vec F S2048x128 .bf16) (x5 x6 : Vec F S256x128 .bf16) : Vec F S256x128 .f32 :=
  k0_pay124 (k0_pay115 (top7 x2) (top7 x4)) (k0_pay116 x0 x1 (top7 x2) (top7 x4)) (k0_pay117 x0 x1 (top7 x2) (top7 x4))
    (k0_pay118 x5 (top7 x3)) (k0_pay119 x5) (k0_pay120 x6)
/-- The key gradient's leading rows after the block, from the accumulator `d` before it. -/
def dkn7 (x0 x1 : Vec F S256x128 .bf16) (x2 x3 x4 : Vec F S2048x128 .bf16) (x5 x6 : Vec F S256x128 .bf16) (d : Vec F S2048x128 .f32) : Vec F S2048x128 .f32 :=
  k0_pay126 (k0_pay114 x0 x1) (k0_pay116 x0 x1 (top7 x2) (top7 x4)) (k0_pay117 x0 x1 (top7 x2) (top7 x4))
    (k0_pay118 x5 (top7 x3)) (k0_pay119 x5) (k0_pay120 x6) (top7 d)
/-- The rotary key gradient's leading rows after the block, from the accumulator `d` before it. -/
def dkr7 (x0 x1 : Vec F S256x128 .bf16) (x2 x3 x4 : Vec F S2048x128 .bf16) (x5 x6 : Vec F S256x128 .bf16) (d : Vec F S2048x128 .f32) : Vec F S2048x128 .f32 :=
  k0_pay127 (k0_pay114 x0 x1) (k0_pay116 x0 x1 (top7 x2) (top7 x4)) (k0_pay117 x0 x1 (top7 x2) (top7 x4))
    (k0_pay118 x5 (top7 x3)) (k0_pay119 x5) (k0_pay120 x6) (top7 d)
/-- The value gradient's leading rows after the block, from the accumulator `d` before it. -/
def dv7 (x0 x1 : Vec F S256x128 .bf16) (x2 x3 x4 : Vec F S2048x128 .bf16) (x5 x6 : Vec F S256x128 .bf16) (d : Vec F S2048x128 .f32) : Vec F S2048x128 .f32 :=
  k0_pay128 (k0_pay113 x5) (k0_pay116 x0 x1 (top7 x2) (top7 x4)) (k0_pay117 x0 x1 (top7 x2) (top7 x4)) (top7 d)

/-- An accumulator of zeros. -/
def zeros : Vec F S2048x128 .f32 := k0_pay129

/-- The body's triple: from the input blocks and the accumulators at their contents to the two query gradients and the
    accumulators that it leaves. -/
def Triple (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole)
    (x0 : Vec F S256x128 .bf16) (x1 : Vec F S256x128 .bf16) (x2 : Vec F S2048x128 .bf16) (x3 : Vec F S2048x128 .bf16) (x4 : Vec F S2048x128 .bf16) (x5 : Vec F S256x128 .bf16) (x6 : Vec F S256x128 .bf16) (d9 d10 d11 : Vec F S2048x128 .f32) (y7 y8 : Vec F S256x128 .f32) (y9 y10 y11 : Vec F S2048x128 .f32) (E : Set ℕ) : Prop :=
  ∀ K : PUnit → sProp 𝕄,
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare d9 ∗ owns (c : Thread nD τ) arg12 fullShare d10 ∗ owns (c : Thread nD τ) arg13 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11) -∗ K ⟨⟩))
      ⊢ wp frame (wpE (defs₀ (F := F)) Variants.none c none) E (cc0_mla_attn_b0 i arg2 harg2 arg3 harg3 arg4 harg4 arg5 harg5 arg6 harg6 arg7 harg7 arg8 harg8 arg9 harg9 arg10 harg10 arg11 harg11 arg12 harg12 arg13 harg13) K

end Cert.KernelIdeal.Attn

end
-- ==== Proof.AttnRunA.lean ====
module

public import proofs.«01_k».proof.Proof.AttnBlock

/-! # The body run at the first point: all three accumulators are zeroed, then block 0 -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at the first point: all three accumulators are zeroed, then block 0: from the input blocks at their contents to the two query gradients and the
    accumulators with their first 256 rows overwritten. -/
theorem runA (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole)
    (hc0 : cond0 i) (hc1 : cond1 i) (hc2 : cond2 i) (hc3 : ¬ cond3 i) (hc4 : ¬ cond4 i) (hc5 : ¬ cond5 i) (hc6 : ¬ cond6 i) (hc7 : ¬ cond7 i) (hc8 : ¬ cond8 i) (hc9 : ¬ cond9 i)
    (x0 : Vec F S256x128 .bf16) (x1 : Vec F S256x128 .bf16) (x2 : Vec F S2048x128 .bf16) (x3 : Vec F S2048x128 .bf16) (x4 : Vec F S2048x128 .bf16) (x5 : Vec F S256x128 .bf16) (x6 : Vec F S256x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqn0 x0 x1 x2 x3 x4 x5 x6) ∗ owns (c : Thread nD τ) arg10 fullShare (dqr0 x0 x1 x2 x3 x4 x5 x6) ∗ owns (c : Thread nD τ) arg11 fullShare (upd 256 (dkn0 x0 x1 x2 x3 x4 x5 x6 zeros) zeros) ∗ owns (c : Thread nD τ) arg12 fullShare (upd 256 (dv0 x0 x1 x2 x3 x4 x5 x6 zeros) zeros) ∗ owns (c : Thread nD τ) arg13 fullShare (upd 256 (dkr0 x0 x1 x2 x3 x4 x5 x6 zeros) zeros)) -∗ K ⟨⟩))
      ⊢ wp frame (wpE (defs₀ (F := F)) Variants.none c none) E (cc0_mla_attn_b0 i arg2 harg2 arg3 harg3 arg4 harg4 arg5 harg5 arg6 harg6 arg7 harg7 arg8 harg8 arg9 harg9 arg10 harg10 arg11 harg11 arg12 harg12 arg13 harg13) K := by
    rw [cc0_mla_attn_b0_eq_skeleton]; unfold cc0_mla_attn_b0_skel
    rw [k0_part17_eq_skeleton]
    unfold k0_part17_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (read_full _ _ zero_off _ _ _).trans ?_
      sl_unfold_words
      simp only [load_whole, ld_block]
      rfl
    isplitl [H8]
    · iexists _; isplitr; swap; · iexact H8
      ipureintro
      refine (read_full _ _ zero_off _ _ _).trans ?_
      sl_unfold_words
      simp only [load_whole, ld_block]
      rfl
    isplitl [H9]
    · iexists _; isplitr; swap; · iexact H9
      ipureintro
      refine (read_upd _ _ 256 _ _ _).trans ?_
      sl_unfold_words
      simp only [View.readCov, read_acc, load_of_read _ _ _ (read_acc _ _ _), load_whole, ld_block]
      rfl
    isplitl [H10]
    · iexists _; isplitr; swap; · iexact H10
      ipureintro
      refine (read_upd _ _ 256 _ _ _).trans ?_
      sl_unfold_words
      simp only [View.readCov, read_acc, load_of_read _ _ _ (read_acc _ _ _), load_whole, ld_block]
      rfl
    · iexists _; isplitr; swap; · iexact H11
      ipureintro
      refine (read_upd _ _ 256 _ _ _).trans ?_
      sl_unfold_words
      simp only [View.readCov, read_acc, load_of_read _ _ _ (read_acc _ _ _), load_whole, ld_block]
      rfl

end Cert.KernelIdeal.Attn

end
-- ==== Proof.AttnRunI.lean ====
module

public import proofs.«01_k».proof.Proof.AttnBlock

/-! # The body run at a later head's first block: the two accumulators of the head are zeroed, then block 0 -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at a later head's first block: the two accumulators of the head are zeroed, then block 0: from the input blocks at their contents to the two query gradients and the
    accumulators with their first 256 rows overwritten. -/
theorem runI (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole)
    (hc0 : cond0 i) (hc1 : ¬ cond1 i) (hc2 : cond2 i) (hc3 : ¬ cond3 i) (hc4 : ¬ cond4 i) (hc5 : ¬ cond5 i) (hc6 : ¬ cond6 i) (hc7 : ¬ cond7 i) (hc8 : ¬ cond8 i) (hc9 : ¬ cond9 i)
    (x0 : Vec F S256x128 .bf16) (x1 : Vec F S256x128 .bf16) (x2 : Vec F S2048x128 .bf16) (x3 : Vec F S2048x128 .bf16) (x4 : Vec F S2048x128 .bf16) (x5 : Vec F S256x128 .bf16) (x6 : Vec F S256x128 .bf16) (d11 : Vec F S2048x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqn0 x0 x1 x2 x3 x4 x5 x6) ∗ owns (c : Thread nD τ) arg10 fullShare (dqr0 x0 x1 x2 x3 x4 x5 x6) ∗ owns (c : Thread nD τ) arg11 fullShare (upd 256 (dkn0 x0 x1 x2 x3 x4 x5 x6 zeros) zeros) ∗ owns (c : Thread nD τ) arg12 fullShare (upd 256 (dv0 x0 x1 x2 x3 x4 x5 x6 zeros) zeros) ∗ owns (c : Thread nD τ) arg13 fullShare (upd 256 (dkr0 x0 x1 x2 x3 x4 x5 x6 d11) d11)) -∗ K ⟨⟩))
      ⊢ wp frame (wpE (defs₀ (F := F)) Variants.none c none) E (cc0_mla_attn_b0 i arg2 harg2 arg3 harg3 arg4 harg4 arg5 harg5 arg6 harg6 arg7 harg7 arg8 harg8 arg9 harg9 arg10 harg10 arg11 harg11 arg12 harg12 arg13 harg13) K := by
    rw [cc0_mla_attn_b0_eq_skeleton]; unfold cc0_mla_attn_b0_skel
    rw [k0_part17_eq_skeleton]
    unfold k0_part17_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine (read_full _ _ zero_off _ _ _).trans ?_
      sl_unfold_words
      simp only [load_whole, ld_block]
      rfl
    isplitl [H8]
    · iexists _; isplitr; swap; · iexact H8
      ipureintro
      refine (read_full _ _ zero_off _ _ _).trans ?_
      sl_unfold_words
      simp only [load_whole, ld_block]
      rfl
    isplitl [H9]
    · iexists _; isplitr; swap; · iexact H9
      ipureintro
      refine (read_upd _ _ 256 _ _ _).trans ?_
      sl_unfold_words
      simp only [View.readCov, read_acc, load_of_read _ _ _ (read_acc _ _ _), load_whole, ld_block]
      rfl
    isplitl [H10]
    · iexists _; isplitr; swap; · iexact H10
      ipureintro
      refine (read_upd _ _ 256 _ _ _).trans ?_
      sl_unfold_words
      simp only [View.readCov, read_acc, load_of_read _ _ _ (read_acc _ _ _), load_whole, ld_block]
      rfl
    · iexists _; isplitr; swap; · iexact H11
      ipureintro
      refine (read_upd _ _ 256 _ _ _).trans ?_
      rw [View.writes_nil, harg13.read_unread]
      sl_unfold_words
      simp only [load_whole, ld_block]
      rfl

end Cert.KernelIdeal.Attn

end
-- ==== Proof.AttnRun1.lean ====
module

public import proofs.«01_k».proof.Proof.AttnBlock

/-! # The body run at blocks 1, 2 and 3 -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole)
  (x0 : Vec F S256x128 .bf16) (x1 : Vec F S256x128 .bf16) (x2 : Vec F S2048x128 .bf16) (x3 : Vec F S2048x128 .bf16) (x4 : Vec F S2048x128 .bf16) (x5 : Vec F S256x128 .bf16) (x6 : Vec F S256x128 .bf16) (d9 d10 d11 : Vec F S2048x128 .f32)
  (E : Set ℕ)

set_option maxHeartbeats 1000000 in
/-- The body's triple at block 1: the accumulators end with their first 512 rows overwritten. -/
theorem run1 (hc0 : ¬ cond0 i) (hc1 : ¬ cond1 i) (hc2 : ¬ cond2 i) (hc3 : cond3 i) (hc4 : ¬ cond4 i) (hc5 : ¬ cond5 i) (hc6 : ¬ cond6 i) (hc7 : ¬ cond7 i) (hc8 : ¬ cond8 i) (hc9 : ¬ cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn1 x0 x1 x2 x3 x4 x5 x6) (dqr1 x0 x1 x2 x3 x4 x5 x6)
      (upd 512 (dkn1 x0 x1 x2 x3 x4 x5 x6 d9) d9) (upd 512 (dv1 x0 x1 x2 x3 x4 x5 x6 d10) d10) (upd 512 (dkr1 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 512 _ _ _).trans ?_
    rw [View.writes_nil, harg11.read_unread]
    sl_unfold_words
    simp only [load_whole, ld_block]
    rfl
  isplitl [H10]
  · iexists _; isplitr; swap; · iexact H10
    ipureintro
    refine (read_upd _ _ 512 _ _ _).trans ?_
    rw [View.writes_nil, harg12.read_unread]
    sl_unfold_words
    simp only [load_whole, ld_block]
    rfl
  · iexists _; isplitr; swap; · iexact H11
    ipureintro
    refine (read_upd _ _ 512 _ _ _).trans ?_
    rw [View.writes_nil, harg13.read_unread]
    sl_unfold_words
    simp only [load_whole, ld_block]
    rfl

set_option maxHeartbeats 1000000 in
/-- The body's triple at block 2: the accumulators end with their first 768 rows overwritten. -/
theorem run2 (hc0 : ¬ cond0 i) (hc1 : ¬ cond1 i) (hc2 : ¬ cond2 i) (hc3 : ¬ cond3 i) (hc4 : cond4 i) (hc5 : ¬ cond5 i) (hc6 : ¬ cond6 i) (hc7 : ¬ cond7 i) (hc8 : ¬ cond8 i) (hc9 : ¬ cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn2 x0 x1 x2 x3 x4 x5 x6) (dqr2 x0 x1 x2 x3 x4 x5 x6)
      (upd 768 (dkn2 x0 x1 x2 x3 x4 x5 x6 d9) d9) (upd 768 (dv2 x0 x1 x2 x3 x4 x5 x6 d10) d10) (upd 768 (dkr2 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 768 _ _ _).trans ?_
    rw [View.writes_nil, harg11.read_unread]
    sl_unfold_words
    simp only [load_whole, ld_block]
    rfl
  isplitl [H10]
  · iexists _; isplitr; swap; · iexact H10
    ipureintro
    refine (read_upd _ _ 768 _ _ _).trans ?_
    rw [View.writes_nil, harg12.read_unread]
    sl_unfold_words
    simp only [load_whole, ld_block]
    rfl
  · iexists _; isplitr; swap; · iexact H11
    ipureintro
    refine (read_upd _ _ 768 _ _ _).trans ?_
    rw [View.writes_nil, harg13.read_unread]
    sl_unfold_words
    simp only [load_whole, ld_block]
    rfl

set_option maxHeartbeats 1000000 in
/-- The body's triple at block 3: the accumulators end with their first 1024 rows overwritten. -/
theorem run3 (hc0 : ¬ cond0 i) (hc1 : ¬ cond1 i) (hc2 : ¬ cond2 i) (hc3 : ¬ cond3 i) (hc4 : ¬ cond4 i) (hc5 : cond5 i) (hc6 : ¬ cond6 i) (hc7 : ¬ cond7 i) (hc8 : ¬ cond8 i) (hc9 : ¬ cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn3 x0 x1 x2 x3 x4 x5 x6) (dqr3 x0 x1 x2 x3 x4 x5 x6)
      (upd 1024 (dkn3 x0 x1 x2 x3 x4 x5 x6 d9) d9) (upd 1024 (dv3 x0 x1 x2 x3 x4 x5 x6 d10) d10) (upd 1024 (dkr3 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 1024 _ _ _).trans ?_
    rw [View.writes_nil, harg11.read_unread]
    sl_unfold_words
    simp only [load_whole, ld_block]
    rfl
  isplitl [H10]
  · iexists _; isplitr; swap; · iexact H10
    ipureintro
    refine (read_upd _ _ 1024 _ _ _).trans ?_
    rw [View.writes_nil, harg12.read_unread]
    sl_unfold_words
    simp only [load_whole, ld_block]
    rfl
  · iexists _; isplitr; swap; · iexact H11
    ipureintro
    refine (read_upd _ _ 1024 _ _ _).trans ?_
    rw [View.writes_nil, harg13.read_unread]
    sl_unfold_words
    simp only [load_whole, ld_block]
    rfl

end Cert.KernelIdeal.Attn

end
-- ==== Proof.AttnRun2.lean ====
module

public import proofs.«01_k».proof.Proof.AttnBlock

/-! # The body run at blocks 4 and 5 -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole)
  (x0 : Vec F S256x128 .bf16) (x1 : Vec F S256x128 .bf16) (x2 : Vec F S2048x128 .bf16) (x3 : Vec F S2048x128 .bf16) (x4 : Vec F S2048x128 .bf16) (x5 : Vec F S256x128 .bf16) (x6 : Vec F S256x128 .bf16) (d9 d10 d11 : Vec F S2048x128 .f32)
  (E : Set ℕ)

set_option maxHeartbeats 1000000 in
/-- The body's triple at block 4: the accumulators end with their first 1280 rows overwritten. -/
theorem run4 (hc0 : ¬ cond0 i) (hc1 : ¬ cond1 i) (hc2 : ¬ cond2 i) (hc3 : ¬ cond3 i) (hc4 : ¬ cond4 i) (hc5 : ¬ cond5 i) (hc6 : cond6 i) (hc7 : ¬ cond7 i) (hc8 : ¬ cond8 i) (hc9 : ¬ cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn4 x0 x1 x2 x3 x4 x5 x6) (dqr4 x0 x1 x2 x3 x4 x5 x6)
      (upd 1280 (dkn4 x0 x1 x2 x3 x4 x5 x6 d9) d9) (upd 1280 (dv4 x0 x1 x2 x3 x4 x5 x6 d10) d10) (upd 1280 (dkr4 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 1280 _ _ _).trans ?_
    rw [View.writes_nil, harg11.read_unread]
    sl_unfold_words
    simp only [load_whole, ld_block]
    rfl
  isplitl [H10]
  · iexists _; isplitr; swap; · iexact H10
    ipureintro
    refine (read_upd _ _ 1280 _ _ _).trans ?_
    rw [View.writes_nil, harg12.read_unread]
    sl_unfold_words
    simp only [load_whole, ld_block]
    rfl
  · iexists _; isplitr; swap; · iexact H11
    ipureintro
    refine (read_upd _ _ 1280 _ _ _).trans ?_
    rw [View.writes_nil, harg13.read_unread]
    sl_unfold_words
    simp only [load_whole, ld_block]
    rfl

set_option maxHeartbeats 1000000 in
/-- The body's triple at block 5: the accumulators end with their first 1536 rows overwritten. -/
theorem run5 (hc0 : ¬ cond0 i) (hc1 : ¬ cond1 i) (hc2 : ¬ cond2 i) (hc3 : ¬ cond3 i) (hc4 : ¬ cond4 i) (hc5 : ¬ cond5 i) (hc6 : ¬ cond6 i) (hc7 : cond7 i) (hc8 : ¬ cond8 i) (hc9 : ¬ cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn5 x0 x1 x2 x3 x4 x5 x6) (dqr5 x0 x1 x2 x3 x4 x5 x6)
      (upd 1536 (dkn5 x0 x1 x2 x3 x4 x5 x6 d9) d9) (upd 1536 (dv5 x0 x1 x2 x3 x4 x5 x6 d10) d10) (upd 1536 (dkr5 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 1536 _ _ _).trans ?_
    rw [View.writes_nil, harg11.read_unread]
    sl_unfold_words
    simp only [load_whole, ld_block]
    rfl
  isplitl [H10]
  · iexists _; isplitr; swap; · iexact H10
    ipureintro
    refine (read_upd _ _ 1536 _ _ _).trans ?_
    rw [View.writes_nil, harg12.read_unread]
    sl_unfold_words
    simp only [load_whole, ld_block]
    rfl
  · iexists _; isplitr; swap; · iexact H11
    ipureintro
    refine (read_upd _ _ 1536 _ _ _).trans ?_
    rw [View.writes_nil, harg13.read_unread]
    sl_unfold_words
    simp only [load_whole, ld_block]
    rfl

end Cert.KernelIdeal.Attn

end
-- ==== Proof.AttnRun3.lean ====
module

public import proofs.«01_k».proof.Proof.AttnBlock

/-! # The body run at blocks 6 and 7 -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole)
  (x0 : Vec F S256x128 .bf16) (x1 : Vec F S256x128 .bf16) (x2 : Vec F S2048x128 .bf16) (x3 : Vec F S2048x128 .bf16) (x4 : Vec F S2048x128 .bf16) (x5 : Vec F S256x128 .bf16) (x6 : Vec F S256x128 .bf16) (d9 d10 d11 : Vec F S2048x128 .f32)
  (E : Set ℕ)

set_option maxHeartbeats 1000000 in
/-- The body's triple at block 6: the accumulators end with their first 1792 rows overwritten. -/
theorem run6 (hc0 : ¬ cond0 i) (hc1 : ¬ cond1 i) (hc2 : ¬ cond2 i) (hc3 : ¬ cond3 i) (hc4 : ¬ cond4 i) (hc5 : ¬ cond5 i) (hc6 : ¬ cond6 i) (hc7 : ¬ cond7 i) (hc8 : cond8 i) (hc9 : ¬ cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn6 x0 x1 x2 x3 x4 x5 x6) (dqr6 x0 x1 x2 x3 x4 x5 x6)
      (upd 1792 (dkn6 x0 x1 x2 x3 x4 x5 x6 d9) d9) (upd 1792 (dv6 x0 x1 x2 x3 x4 x5 x6 d10) d10) (upd 1792 (dkr6 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 1792 _ _ _).trans ?_
    rw [View.writes_nil, harg11.read_unread]
    sl_unfold_words
    simp only [load_whole, ld_block]
    rfl
  isplitl [H10]
  · iexists _; isplitr; swap; · iexact H10
    ipureintro
    refine (read_upd _ _ 1792 _ _ _).trans ?_
    rw [View.writes_nil, harg12.read_unread]
    sl_unfold_words
    simp only [load_whole, ld_block]
    rfl
  · iexists _; isplitr; swap; · iexact H11
    ipureintro
    refine (read_upd _ _ 1792 _ _ _).trans ?_
    rw [View.writes_nil, harg13.read_unread]
    sl_unfold_words
    simp only [load_whole, ld_block]
    rfl

set_option maxHeartbeats 1000000 in
/-- The body's triple at block 7: the accumulators end with their first 2048 rows overwritten. -/
theorem run7 (hc0 : ¬ cond0 i) (hc1 : ¬ cond1 i) (hc2 : ¬ cond2 i) (hc3 : ¬ cond3 i) (hc4 : ¬ cond4 i) (hc5 : ¬ cond5 i) (hc6 : ¬ cond6 i) (hc7 : ¬ cond7 i) (hc8 : ¬ cond8 i) (hc9 : cond9 i) :
    Triple c i arg2 harg2 arg3 harg3 arg4 harg4 arg5 harg5 arg6 harg6 arg7 harg7 arg8 harg8 arg9 harg9 arg10 harg10 arg11 harg11 arg12 harg12 arg13 harg13 x0 x1 x2 x3 x4 x5 x6 d9 d10 d11 (dqn7 x0 x1 x2 x3 x4 x5 x6) (dqr7 x0 x1 x2 x3 x4 x5 x6)
      (upd 2048 (dkn7 x0 x1 x2 x3 x4 x5 x6 d9) d9) (upd 2048 (dv7 x0 x1 x2 x3 x4 x5 x6 d10) d10) (upd 2048 (dkr7 x0 x1 x2 x3 x4 x5 x6 d11) d11) E := by
  unfold Triple
  intro K
  rw [cc0_mla_attn_b0_eq_skeleton]; unfold cc0_mla_attn_b0_skel
  rw [k0_part17_eq_skeleton]
  unfold k0_part17_skel
  simp only [k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hf11
  sl_exec (disch := first | sl_exact hc0 | sl_exact hc1 | sl_exact hc2 | sl_exact hc3 | sl_exact hc4 | sl_exact hc5 | sl_exact hc6 | sl_exact hc7 | sl_exact hc8 | sl_exact hc9)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_full _ _ zero_off _ _ _).trans ?_
    sl_unfold_words
    simp only [load_whole, ld_block]
    rfl
  isplitl [H8]
  · iexists _; isplitr; swap; · iexact H8
    ipureintro
    refine (read_full _ _ zero_off _ _ _).trans ?_
    sl_unfold_words
    simp only [load_whole, ld_block]
    rfl
  isplitl [H9]
  · iexists _; isplitr; swap; · iexact H9
    ipureintro
    refine (read_upd _ _ 2048 _ _ _).trans ?_
    rw [View.writes_nil, harg11.read_unread]
    sl_unfold_words
    simp only [load_whole, ld_block]
    rfl
  isplitl [H10]
  · iexists _; isplitr; swap; · iexact H10
    ipureintro
    refine (read_upd _ _ 2048 _ _ _).trans ?_
    rw [View.writes_nil, harg12.read_unread]
    sl_unfold_words
    simp only [load_whole, ld_block]
    rfl
  · iexists _; isplitr; swap; · iexact H11
    ipureintro
    refine (read_upd _ _ 2048 _ _ _).trans ?_
    rw [View.writes_nil, harg13.read_unread]
    sl_unfold_words
    simp only [load_whole, ld_block]
    rfl

end Cert.KernelIdeal.Attn

end
-- ==== Proof.AttnState.lean ====
module

public import proofs.«01_k».proof.Proof.AttnRunA
public import proofs.«01_k».proof.Proof.AttnRunI
public import proofs.«01_k».proof.Proof.AttnRun1
public import proofs.«01_k».proof.Proof.AttnRun2
public import proofs.«01_k».proof.Proof.AttnRun3
public import Idealize.ShloMosaic.Lib.Claim

/-! # The kernel's run

    The buffers' contents point by point, the body's obligation at every point, and the run of the whole program. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

variable {F : FTy → Type} [FloatOps F] [Named F]

local notation "𝕄" => MT nD τ sig Unit (Elt F) ℕ (UR sig nD τ) ℕ

/-- The gradient of the queries of query block `b`. -/
def dqnAt (b : ℕ) (x0 x1 : Vec F S256x128 .bf16) (x2 x3 x4 : Vec F S2048x128 .bf16) (x5 x6 : Vec F S256x128 .bf16) : Vec F S256x128 .f32 :=
  match b with
  | 0 => dqn0 x0 x1 x2 x3 x4 x5 x6
  | 1 => dqn1 x0 x1 x2 x3 x4 x5 x6
  | 2 => dqn2 x0 x1 x2 x3 x4 x5 x6
  | 3 => dqn3 x0 x1 x2 x3 x4 x5 x6
  | 4 => dqn4 x0 x1 x2 x3 x4 x5 x6
  | 5 => dqn5 x0 x1 x2 x3 x4 x5 x6
  | 6 => dqn6 x0 x1 x2 x3 x4 x5 x6
  | _ => dqn7 x0 x1 x2 x3 x4 x5 x6

/-- The gradient of the rotary queries of query block `b`. -/
def dqrAt (b : ℕ) (x0 x1 : Vec F S256x128 .bf16) (x2 x3 x4 : Vec F S2048x128 .bf16) (x5 x6 : Vec F S256x128 .bf16) : Vec F S256x128 .f32 :=
  match b with
  | 0 => dqr0 x0 x1 x2 x3 x4 x5 x6
  | 1 => dqr1 x0 x1 x2 x3 x4 x5 x6
  | 2 => dqr2 x0 x1 x2 x3 x4 x5 x6
  | 3 => dqr3 x0 x1 x2 x3 x4 x5 x6
  | 4 => dqr4 x0 x1 x2 x3 x4 x5 x6
  | 5 => dqr5 x0 x1 x2 x3 x4 x5 x6
  | 6 => dqr6 x0 x1 x2 x3 x4 x5 x6
  | _ => dqr7 x0 x1 x2 x3 x4 x5 x6

/-- The key-gradient accumulator after query block `b`, from `d` before it. -/
def dknAt (b : ℕ) (x0 x1 : Vec F S256x128 .bf16) (x2 x3 x4 : Vec F S2048x128 .bf16) (x5 x6 : Vec F S256x128 .bf16) (d : Vec F S2048x128 .f32) : Vec F S2048x128 .f32 :=
  match b with
  | 0 => upd 256 (dkn0 x0 x1 x2 x3 x4 x5 x6 d) d
  | 1 => upd 512 (dkn1 x0 x1 x2 x3 x4 x5 x6 d) d
  | 2 => upd 768 (dkn2 x0 x1 x2 x3 x4 x5 x6 d) d
  | 3 => upd 1024 (dkn3 x0 x1 x2 x3 x4 x5 x6 d) d
  | 4 => upd 1280 (dkn4 x0 x1 x2 x3 x4 x5 x6 d) d
  | 5 => upd 1536 (dkn5 x0 x1 x2 x3 x4 x5 x6 d) d
  | 6 => upd 1792 (dkn6 x0 x1 x2 x3 x4 x5 x6 d) d
  | _ => upd 2048 (dkn7 x0 x1 x2 x3 x4 x5 x6 d) d

/-- The value-gradient accumulator after query block `b`, from `d` before it. -/
def dvAt (b : ℕ) (x0 x1 : Vec F S256x128 .bf16) (x2 x3 x4 : Vec F S2048x128 .bf16) (x5 x6 : Vec F S256x128 .bf16) (d : Vec F S2048x128 .f32) : Vec F S2048x128 .f32 :=
  match b with
  | 0 => upd 256 (dv0 x0 x1 x2 x3 x4 x5 x6 d) d
  | 1 => upd 512 (dv1 x0 x1 x2 x3 x4 x5 x6 d) d
  | 2 => upd 768 (dv2 x0 x1 x2 x3 x4 x5 x6 d) d
  | 3 => upd 1024 (dv3 x0 x1 x2 x3 x4 x5 x6 d) d
  | 4 => upd 1280 (dv4 x0 x1 x2 x3 x4 x5 x6 d) d
  | 5 => upd 1536 (dv5 x0 x1 x2 x3 x4 x5 x6 d) d
  | 6 => upd 1792 (dv6 x0 x1 x2 x3 x4 x5 x6 d) d
  | _ => upd 2048 (dv7 x0 x1 x2 x3 x4 x5 x6 d) d

/-- The rotary key-gradient accumulator after query block `b`, from `d` before it. -/
def dkrAt (b : ℕ) (x0 x1 : Vec F S256x128 .bf16) (x2 x3 x4 : Vec F S2048x128 .bf16) (x5 x6 : Vec F S256x128 .bf16) (d : Vec F S2048x128 .f32) : Vec F S2048x128 .f32 :=
  match b with
  | 0 => upd 256 (dkr0 x0 x1 x2 x3 x4 x5 x6 d) d
  | 1 => upd 512 (dkr1 x0 x1 x2 x3 x4 x5 x6 d) d
  | 2 => upd 768 (dkr2 x0 x1 x2 x3 x4 x5 x6 d) d
  | 3 => upd 1024 (dkr3 x0 x1 x2 x3 x4 x5 x6 d) d
  | 4 => upd 1280 (dkr4 x0 x1 x2 x3 x4 x5 x6 d) d
  | 5 => upd 1536 (dkr5 x0 x1 x2 x3 x4 x5 x6 d) d
  | 6 => upd 1792 (dkr6 x0 x1 x2 x3 x4 x5 x6 d) d
  | _ => upd 2048 (dkr7 x0 x1 x2 x3 x4 x5 x6 d) d

variable (m : (ℓ : Loc nD τ sig) → Buf (Elt F) ℓ) (ρ : Dev nD → PrngReg)

/-- The seven input blocks at point `t`. -/
abbrev b0 (c : Dev nD) (t : Fin cfg0.N) : Vec F S256x128 .bf16 := iblk m c 0 t
abbrev b1 (c : Dev nD) (t : Fin cfg0.N) : Vec F S256x128 .bf16 := iblk m c 1 t
abbrev b2 (c : Dev nD) (t : Fin cfg0.N) : Vec F S2048x128 .bf16 := iblk m c 2 t
abbrev b3 (c : Dev nD) (t : Fin cfg0.N) : Vec F S2048x128 .bf16 := iblk m c 3 t
abbrev b4 (c : Dev nD) (t : Fin cfg0.N) : Vec F S2048x128 .bf16 := iblk m c 4 t
abbrev b5 (c : Dev nD) (t : Fin cfg0.N) : Vec F S256x128 .bf16 := iblk m c 5 t
abbrev b6 (c : Dev nD) (t : Fin cfg0.N) : Vec F S256x128 .bf16 := iblk m c 6 t

/-- Accumulator 9 after point `n`: zeroed at the points ≡ 0 (mod 8), else carried on. -/
def acc9 (c : Dev nD) : (n : ℕ) → n < cfg0.N → Vec F S2048x128 .f32
  | 0, h => dknAt 0 (b0 m c ⟨0, h⟩) (b1 m c ⟨0, h⟩) (b2 m c ⟨0, h⟩) (b3 m c ⟨0, h⟩) (b4 m c ⟨0, h⟩) (b5 m c ⟨0, h⟩) (b6 m c ⟨0, h⟩) zeros
  | n + 1, h => dknAt ((n + 1) % 8) (b0 m c ⟨n + 1, h⟩) (b1 m c ⟨n + 1, h⟩) (b2 m c ⟨n + 1, h⟩) (b3 m c ⟨n + 1, h⟩) (b4 m c ⟨n + 1, h⟩) (b5 m c ⟨n + 1, h⟩) (b6 m c ⟨n + 1, h⟩)
      (if (n + 1) % 8 = 0 then zeros else acc9 c n (Nat.lt_of_succ_lt h))

/-- What accumulator 9 holds before the point, once zeroed where it is zeroed. -/
def pre9 (c : Dev nD) (t : Fin cfg0.N) : Vec F S2048x128 .f32 :=
  if t.val % 8 = 0 then zeros else acc9 m c (t.val - 1) (Nat.lt_of_le_of_lt (Nat.sub_le _ _) t.isLt)

/-- Accumulator 9 after a point, from before it. -/
theorem acc9_eq (c : Dev nD) (t : Fin cfg0.N) :
    acc9 m c t.val t.isLt = dknAt (t.val % 8) (b0 m c t) (b1 m c t) (b2 m c t) (b3 m c t) (b4 m c t) (b5 m c t) (b6 m c t) (pre9 m c t) := by
  obtain ⟨n, h⟩ := t
  cases n with
  | zero => rfl
  | succ n => rfl

/-- Accumulator 10 after point `n`: zeroed at the points ≡ 0 (mod 8), else carried on. -/
def acc10 (c : Dev nD) : (n : ℕ) → n < cfg0.N → Vec F S2048x128 .f32
  | 0, h => dvAt 0 (b0 m c ⟨0, h⟩) (b1 m c ⟨0, h⟩) (b2 m c ⟨0, h⟩) (b3 m c ⟨0, h⟩) (b4 m c ⟨0, h⟩) (b5 m c ⟨0, h⟩) (b6 m c ⟨0, h⟩) zeros
  | n + 1, h => dvAt ((n + 1) % 8) (b0 m c ⟨n + 1, h⟩) (b1 m c ⟨n + 1, h⟩) (b2 m c ⟨n + 1, h⟩) (b3 m c ⟨n + 1, h⟩) (b4 m c ⟨n + 1, h⟩) (b5 m c ⟨n + 1, h⟩) (b6 m c ⟨n + 1, h⟩)
      (if (n + 1) % 8 = 0 then zeros else acc10 c n (Nat.lt_of_succ_lt h))

/-- What accumulator 10 holds before the point, once zeroed where it is zeroed. -/
def pre10 (c : Dev nD) (t : Fin cfg0.N) : Vec F S2048x128 .f32 :=
  if t.val % 8 = 0 then zeros else acc10 m c (t.val - 1) (Nat.lt_of_le_of_lt (Nat.sub_le _ _) t.isLt)

/-- Accumulator 10 after a point, from before it. -/
theorem acc10_eq (c : Dev nD) (t : Fin cfg0.N) :
    acc10 m c t.val t.isLt = dvAt (t.val % 8) (b0 m c t) (b1 m c t) (b2 m c t) (b3 m c t) (b4 m c t) (b5 m c t) (b6 m c t) (pre10 m c t) := by
  obtain ⟨n, h⟩ := t
  cases n with
  | zero => rfl
  | succ n => rfl

/-- Accumulator 11 after point `n`: zeroed at the points ≡ 0 (mod 64), else carried on. -/
def acc11 (c : Dev nD) : (n : ℕ) → n < cfg0.N → Vec F S2048x128 .f32
  | 0, h => dkrAt 0 (b0 m c ⟨0, h⟩) (b1 m c ⟨0, h⟩) (b2 m c ⟨0, h⟩) (b3 m c ⟨0, h⟩) (b4 m c ⟨0, h⟩) (b5 m c ⟨0, h⟩) (b6 m c ⟨0, h⟩) zeros
  | n + 1, h => dkrAt ((n + 1) % 8) (b0 m c ⟨n + 1, h⟩) (b1 m c ⟨n + 1, h⟩) (b2 m c ⟨n + 1, h⟩) (b3 m c ⟨n + 1, h⟩) (b4 m c ⟨n + 1, h⟩) (b5 m c ⟨n + 1, h⟩) (b6 m c ⟨n + 1, h⟩)
      (if (n + 1) % 64 = 0 then zeros else acc11 c n (Nat.lt_of_succ_lt h))

/-- What accumulator 11 holds before the point, once zeroed where it is zeroed. -/
def pre11 (c : Dev nD) (t : Fin cfg0.N) : Vec F S2048x128 .f32 :=
  if t.val % 64 = 0 then zeros else acc11 m c (t.val - 1) (Nat.lt_of_le_of_lt (Nat.sub_le _ _) t.isLt)

/-- Accumulator 11 after a point, from before it. -/
theorem acc11_eq (c : Dev nD) (t : Fin cfg0.N) :
    acc11 m c t.val t.isLt = dkrAt (t.val % 8) (b0 m c t) (b1 m c t) (b2 m c t) (b3 m c t) (b4 m c t) (b5 m c t) (b6 m c t) (pre11 m c t) := by
  obtain ⟨n, h⟩ := t
  cases n with
  | zero => rfl
  | succ n => rfl

/-- The pipeline's proof data: the inputs keep their blocks, the outputs hold what the block computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqnAt (t.val % 8) (b0 m c t) (b1 m c t) (b2 m c t) (b3 m c t) (b4 m c t) (b5 m c t) (b6 m c t)
    | ⟨8, _⟩ => dqrAt (t.val % 8) (b0 m c t) (b1 m c t) (b2 m c t) (b3 m c t) (b4 m c t) (b5 m c t) (b6 m c t)
    | ⟨9, _⟩ => acc9 m c t.val t.isLt
    | ⟨10, _⟩ => acc10 m c t.val t.isLt
    | ⟨11, _⟩ => acc11 m c t.val t.isLt
  Φ _ := Pipeline.ΦA spec0 c
  q w := Pipeline.shareOf spec0 w
  owed _ := 0

/-- An array as the call finds it. -/
theorem A_eq (c : Dev nD) (w : Fin cfg0.W) : (dats m 0 c).A w = V m c (Pipeline.arrRef spec0 w) := by
  dsimp only [dats]

/-- Window 0 after the body. -/
theorem after0 (c : Dev nD) (t : Fin cfg0.N) : (dats m 0 c).after 0 t = iblk m c 0 t := by dsimp only [dats]
/-- Window 1 after the body. -/
theorem after1 (c : Dev nD) (t : Fin cfg0.N) : (dats m 0 c).after 1 t = iblk m c 1 t := by dsimp only [dats]
/-- Window 2 after the body. -/
theorem after2 (c : Dev nD) (t : Fin cfg0.N) : (dats m 0 c).after 2 t = iblk m c 2 t := by dsimp only [dats]
/-- Window 3 after the body. -/
theorem after3 (c : Dev nD) (t : Fin cfg0.N) : (dats m 0 c).after 3 t = iblk m c 3 t := by dsimp only [dats]
/-- Window 4 after the body. -/
theorem after4 (c : Dev nD) (t : Fin cfg0.N) : (dats m 0 c).after 4 t = iblk m c 4 t := by dsimp only [dats]
/-- Window 5 after the body. -/
theorem after5 (c : Dev nD) (t : Fin cfg0.N) : (dats m 0 c).after 5 t = iblk m c 5 t := by dsimp only [dats]
/-- Window 6 after the body. -/
theorem after6 (c : Dev nD) (t : Fin cfg0.N) : (dats m 0 c).after 6 t = iblk m c 6 t := by dsimp only [dats]
/-- Window 7 after the body. -/
theorem after7 (c : Dev nD) (t : Fin cfg0.N) : (dats m 0 c).after 7 t = dqnAt (t.val % 8) (b0 m c t) (b1 m c t) (b2 m c t) (b3 m c t) (b4 m c t) (b5 m c t) (b6 m c t) := by dsimp only [dats]
/-- Window 8 after the body. -/
theorem after8 (c : Dev nD) (t : Fin cfg0.N) : (dats m 0 c).after 8 t = dqrAt (t.val % 8) (b0 m c t) (b1 m c t) (b2 m c t) (b3 m c t) (b4 m c t) (b5 m c t) (b6 m c t) := by dsimp only [dats]
/-- Window 9 after the body. -/
theorem after9 (c : Dev nD) (t : Fin cfg0.N) : (dats m 0 c).after 9 t = dknAt (t.val % 8) (b0 m c t) (b1 m c t) (b2 m c t) (b3 m c t) (b4 m c t) (b5 m c t) (b6 m c t) (pre9 m c t) :=
  (show (dats m 0 c).after 9 t = acc9 m c t.val t.isLt by dsimp only [dats]).trans (acc9_eq m c t)
/-- Window 10 after the body. -/
theorem after10 (c : Dev nD) (t : Fin cfg0.N) : (dats m 0 c).after 10 t = dvAt (t.val % 8) (b0 m c t) (b1 m c t) (b2 m c t) (b3 m c t) (b4 m c t) (b5 m c t) (b6 m c t) (pre10 m c t) :=
  (show (dats m 0 c).after 10 t = acc10 m c t.val t.isLt by dsimp only [dats]).trans (acc10_eq m c t)
/-- Window 11 after the body. -/
theorem after11 (c : Dev nD) (t : Fin cfg0.N) : (dats m 0 c).after 11 t = dkrAt (t.val % 8) (b0 m c t) (b1 m c t) (b2 m c t) (b3 m c t) (b4 m c t) (b5 m c t) (b6 m c t) (pre11 m c t) :=
  (show (dats m 0 c).after 11 t = acc11 m c t.val t.isLt by dsimp only [dats]).trans (acc11_eq m c t)

/-- Window 0 before the body. -/
theorem before0 (c : Dev nD) (t : Fin cfg0.N) (d) : (dats m 0 c).before 0 t d = iblk m c 0 t :=
  before0_0_of m (dats m 0 c) (A_eq m c 0) (after0 m c) t d
/-- Window 1 before the body. -/
theorem before1 (c : Dev nD) (t : Fin cfg0.N) (d) : (dats m 0 c).before 1 t d = iblk m c 1 t :=
  before0_1_of m (dats m 0 c) (A_eq m c 1) (after1 m c) t d
/-- Window 2 before the body. -/
theorem before2 (c : Dev nD) (t : Fin cfg0.N) (d) : (dats m 0 c).before 2 t d = iblk m c 2 t :=
  before0_2_of m (dats m 0 c) (A_eq m c 2) (after2 m c) t d
/-- Window 3 before the body. -/
theorem before3 (c : Dev nD) (t : Fin cfg0.N) (d) : (dats m 0 c).before 3 t d = iblk m c 3 t :=
  before0_3_of m (dats m 0 c) (A_eq m c 3) (after3 m c) t d
/-- Window 4 before the body. -/
theorem before4 (c : Dev nD) (t : Fin cfg0.N) (d) : (dats m 0 c).before 4 t d = iblk m c 4 t :=
  before0_4_of m (dats m 0 c) (A_eq m c 4) (after4 m c) t d
/-- Window 5 before the body. -/
theorem before5 (c : Dev nD) (t : Fin cfg0.N) (d) : (dats m 0 c).before 5 t d = iblk m c 5 t :=
  before0_5_of m (dats m 0 c) (A_eq m c 5) (after5 m c) t d
/-- Window 6 before the body. -/
theorem before6 (c : Dev nD) (t : Fin cfg0.N) (d) : (dats m 0 c).before 6 t d = iblk m c 6 t :=
  before0_6_of m (dats m 0 c) (A_eq m c 6) (after6 m c) t d

/-- Where accumulator 9 is not zeroed its buffer holds what the point before left. -/
theorem before9 (c : Dev nD) (t : Fin cfg0.N) (h : ¬ t.val % 8 = 0) (d) :
    (dats m 0 c).before 9 t d = pre9 m c t := by
  have ht : t.val < 64 := Nat.lt_of_lt_of_eq t.isLt N_0
  rw [Dat.before_out_kept _ 9 rfl t (by omega)
    (Bool.eq_false_iff.mpr fun hf => by have := (flush0_9 _).mp hf; dsimp only at this; omega)
    (by decide +kernel : ∀ i : grid0.Coords, cfg0.idle 9 i = false) (fun _ _ => rfl) d]
  unfold pre9
  rw [if_neg h]
  dsimp only [dats]

/-- Where accumulator 10 is not zeroed its buffer holds what the point before left. -/
theorem before10 (c : Dev nD) (t : Fin cfg0.N) (h : ¬ t.val % 8 = 0) (d) :
    (dats m 0 c).before 10 t d = pre10 m c t := by
  have ht : t.val < 64 := Nat.lt_of_lt_of_eq t.isLt N_0
  rw [Dat.before_out_kept _ 10 rfl t (by omega)
    (Bool.eq_false_iff.mpr fun hf => by have := (flush0_10 _).mp hf; dsimp only at this; omega)
    (by decide +kernel : ∀ i : grid0.Coords, cfg0.idle 10 i = false) (fun _ _ => rfl) d]
  unfold pre10
  rw [if_neg h]
  dsimp only [dats]

/-- Where accumulator 11 is not zeroed its buffer holds what the point before left. -/
theorem before11 (c : Dev nD) (t : Fin cfg0.N) (h : ¬ t.val % 64 = 0) (d) :
    (dats m 0 c).before 11 t d = pre11 m c t := by
  have ht : t.val < 64 := Nat.lt_of_lt_of_eq t.isLt N_0
  rw [Dat.before_out_kept _ 11 rfl t (by omega)
    (Bool.eq_false_iff.mpr fun hf => by have := (flush0_11 _).mp hf; dsimp only at this; omega)
    (by decide +kernel : ∀ i : grid0.Coords, cfg0.idle 11 i = false) (fun _ _ => rfl) d]
  unfold pre11
  rw [if_neg h]
  dsimp only [dats]

/-! ## The body's obligation -/

/-- What the body is called on at point `t`: the invariant, what the core owes, every staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- Window 0 as the body leaves it. -/
theorem leaves0 (c : Dev nD) (t : Fin cfg0.N) : (dats m 0 c).leavesExact 0 t = owns (c : Thread nD τ) (ms0 t) fullShare ((dats m 0 c).after 0 t) := by
  unfold Dat.leavesExact; rw [live0 t]
/-- Window 1 as the body leaves it. -/
theorem leaves1 (c : Dev nD) (t : Fin cfg0.N) : (dats m 0 c).leavesExact 1 t = owns (c : Thread nD τ) (ms1 t) fullShare ((dats m 0 c).after 1 t) := by
  unfold Dat.leavesExact; rw [live1 t]
/-- Window 2 as the body leaves it. -/
theorem leaves2 (c : Dev nD) (t : Fin cfg0.N) : (dats m 0 c).leavesExact 2 t = owns (c : Thread nD τ) (ms2 t) fullShare ((dats m 0 c).after 2 t) := by
  unfold Dat.leavesExact; rw [live2 t]
/-- Window 3 as the body leaves it. -/
theorem leaves3 (c : Dev nD) (t : Fin cfg0.N) : (dats m 0 c).leavesExact 3 t = owns (c : Thread nD τ) (ms3 t) fullShare ((dats m 0 c).after 3 t) := by
  unfold Dat.leavesExact; rw [live3 t]
/-- Window 4 as the body leaves it. -/
theorem leaves4 (c : Dev nD) (t : Fin cfg0.N) : (dats m 0 c).leavesExact 4 t = owns (c : Thread nD τ) (ms4 t) fullShare ((dats m 0 c).after 4 t) := by
  unfold Dat.leavesExact; rw [live4 t]
/-- Window 5 as the body leaves it. -/
theorem leaves5 (c : Dev nD) (t : Fin cfg0.N) : (dats m 0 c).leavesExact 5 t = owns (c : Thread nD τ) (ms5 t) fullShare ((dats m 0 c).after 5 t) := by
  unfold Dat.leavesExact; rw [live5 t]
/-- Window 6 as the body leaves it. -/
theorem leaves6 (c : Dev nD) (t : Fin cfg0.N) : (dats m 0 c).leavesExact 6 t = owns (c : Thread nD τ) (ms6 t) fullShare ((dats m 0 c).after 6 t) := by
  unfold Dat.leavesExact; rw [live6 t]
/-- Window 7 as the body leaves it. -/
theorem leaves7 (c : Dev nD) (t : Fin cfg0.N) : (dats m 0 c).leavesExact 7 t = owns (c : Thread nD τ) (ms7 t) fullShare ((dats m 0 c).after 7 t) := by
  unfold Dat.leavesExact; rw [live7 t]
/-- Window 8 as the body leaves it. -/
theorem leaves8 (c : Dev nD) (t : Fin cfg0.N) : (dats m 0 c).leavesExact 8 t = owns (c : Thread nD τ) (ms8 t) fullShare ((dats m 0 c).after 8 t) := by
  unfold Dat.leavesExact; rw [live8 t]
/-- Window 9 as the body leaves it. -/
theorem leaves9 (c : Dev nD) (t : Fin cfg0.N) : (dats m 0 c).leavesExact 9 t = owns (c : Thread nD τ) (ms9 t) fullShare ((dats m 0 c).after 9 t) := by
  unfold Dat.leavesExact; rw [live9 t]
/-- Window 10 as the body leaves it. -/
theorem leaves10 (c : Dev nD) (t : Fin cfg0.N) : (dats m 0 c).leavesExact 10 t = owns (c : Thread nD τ) (ms10 t) fullShare ((dats m 0 c).after 10 t) := by
  unfold Dat.leavesExact; rw [live10 t]
/-- Window 11 as the body leaves it. -/
theorem leaves11 (c : Dev nD) (t : Fin cfg0.N) : (dats m 0 c).leavesExact 11 t = owns (c : Thread nD τ) (ms11 t) fullShare ((dats m 0 c).after 11 t) := by
  unfold Dat.leavesExact; rw [live11 t]

set_option maxHeartbeats 1000000 in
/-- The body at the first point of the grid. -/
theorem soundA (c : Dev nD) (t : Fin cfg0.N) (h : t.val % 64 = 0) :
    bodyPre m c t ⊢ wp frame (wpE (defs₀ (F := F)) Variants.none c none) Set.univ (bodyAt0 t) (fun _ => bodyPost m c t) := by
  have ht : t.val < 64 := Nat.lt_of_lt_of_eq t.isLt N_0
  have h8 : t.val % 8 = 0 := by omega
  have e9 : pre9 m c t = zeros := by unfold pre9; exact if_pos (by omega)
  have e10 : pre10 m c t = zeros := by unfold pre10; exact if_pos (by omega)
  have e11 : pre11 m c t = zeros := by unfold pre11; exact if_pos (by omega)
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  simp only [leaves0, leaves1, leaves2, leaves3, leaves4, leaves5, leaves6, leaves7, leaves8, leaves9, leaves10, leaves11, after0, after1, after2, after3, after4, after5, after6, after7, after8, after9, after10, after11]
  rw [h8, e9, e10, e11]
  simp only [dqnAt, dqrAt, dknAt, dvAt, dkrAt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runA c (grid0.coords t) _ _ _ _ _ _ _ _ _ _ _ _ _ _ _ _ _ _ _ _ _ _ _ _
    ((hcond0 t).mpr (by omega)) ((hcond1 t).mpr (by omega)) ((hcond2 t).mpr (by omega)) (mt (hcond3 t).mp (by omega)) (mt (hcond4 t).mp (by omega)) (mt (hcond5 t).mp (by omega)) (mt (hcond6 t).mp (by omega)) (mt (hcond7 t).mp (by omega)) (mt (hcond8 t).mp (by omega)) (mt (hcond9 t).mp (by omega))
    (b0 m c t) (b1 m c t) (b2 m c t) (b3 m c t) (b4 m c t) (b5 m c t) (b6 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at the first point of a later head. -/
theorem soundI (c : Dev nD) (t : Fin cfg0.N) (h : t.val % 8 = 0) (h' : ¬ t.val % 64 = 0) :
    bodyPre m c t ⊢ wp frame (wpE (defs₀ (F := F)) Variants.none c none) Set.univ (bodyAt0 t) (fun _ => bodyPost m c t) := by
  have ht : t.val < 64 := Nat.lt_of_lt_of_eq t.isLt N_0
  have h8 : t.val % 8 = 0 := by omega
  have e9 : pre9 m c t = zeros := by unfold pre9; exact if_pos (by omega)
  have e10 : pre10 m c t = zeros := by unfold pre10; exact if_pos (by omega)
  unfold bodyPre bodyPost bodyAt0
  simp only [before0, before1, before2, before3, before4, before5, before6, before11 m c t (by omega)]
  rw [show (dats m 0 c).Φ t.succ = (dats m 0 c).Φ t.castSucc from rfl,
    show (dats m 0 c).owesAt () t.succ = (dats m 0 c).owesAt () t.castSucc from rfl]
  simp only [leaves0, leaves1, leaves2, leaves3, leaves4, leaves5, leaves6, leaves7, leaves8, leaves9, leaves10, leaves11, after0, after1, after2, after3, after4, after5, after6, after7, after8, after9, after10, after11]
  rw [h8, e9, e10]
  simp only [dqnAt, dqrAt, dknAt, dvAt, dkrAt]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runI c (grid0.coords t) _ _ _ _ _ _ _ _ _ _ _ _ _ _ _ _ _ _ _ _ _ _ _ _
    ((hcond0 t).mpr (by omega)) (mt (hcond1 t).mp (by omega)) ((hcond2 t).mpr (by omega)) (mt (hcond3 t).mp (by omega)) (mt (hcond4 t).mp (by omega)) (mt (hcond5 t).mp (by omega)) (mt (hcond6 t).mp (by omega)) (mt (hcond7 t).mp (by omega)) (mt (hcond8 t).mp (by omega)) (mt (hcond9 t).mp (by omega))
    (b0 m c t) (b1 m c t) (b2 m c t) (b3 m c t) (b4 m c t) (b5 m c t) (b6 m c t) (pre11 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at a point where no accumulator of the head starts afresh, from its triple there. -/
theorem sound_step (c : Dev nD) (t : Fin cfg0.N) (h : ¬ t.val % 8 = 0)
    (hrun : Triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
      (b0 m c t) (b1 m c t) (b2 m c t) (b3 m c t) (b4 m c t) (b5 m c t) (b6 m c t) (pre9 m c t) (pre10 m c t) (pre11 m c t)
      (dqnAt (t.val % 8) (b0 m c t) (b1 m c t) (b2 m c t) (b3 m c t) (b4 m c t) (b5 m c t) (b6 m c t)) (dqrAt (t.val % 8) (b0 m c t) (b1 m c t) (b2 m c t) (b3 m c t) (b4 m c t) (b5 m c t) (b6 m c t))
      (dknAt (t.val % 8) (b0 m c t) (b1 m c t) (b2 m c t) (b3 m c t) (b4 m c t) (b5 m c t) (b6 m c t) (pre9 m c t))
      (dvAt (t.val % 8) (b0 m c t) (b1 m c t) (b2 m c t) (b3 m c t) (b4 m c t) (b5 m c t) (b6 m c t) (pre10 m c t))
      (dkrAt (t.val % 8) (b0 m c t) (b1 m c t) (b2 m c t) (b3 m c t) (b4 m c t) (b5 m c t) (b6 m c t) (pre11 m c t)) Set.univ) :
    bodyPre m c t ⊢ wp frame (wpE (defs₀ (F := F)) Variants.none c none) Set.univ (bodyAt0 t) (fun _ => bodyPost m c t) := by
  have ht : t.val < 64 := Nat.lt_of_lt_of_eq t.isLt N_0
  unfold Triple at hrun
  unfold bodyPre bodyPost bodyAt0
  simp only [before0, before1, before2, before3, before4, before5, before6, before9 m c t h, before10 m c t h, before11 m c t (by omega)]
  rw [show (dats m 0 c).Φ t.succ = (dats m 0 c).Φ t.castSucc from rfl,
    show (dats m 0 c).owesAt () t.succ = (dats m 0 c).owesAt () t.castSucc from rfl]
  simp only [leaves0, leaves1, leaves2, leaves3, leaves4, leaves5, leaves6, leaves7, leaves8, leaves9, leaves10, leaves11, after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at a point of query block 1. -/
theorem sound1 (c : Dev nD) (t : Fin cfg0.N) (h : t.val % 8 = 1) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run1 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) ((hcond3 t).mpr (by omega)) (mt (hcond4 t).mp (by omega)) (mt (hcond5 t).mp (by omega)) (mt (hcond6 t).mp (by omega)) (mt (hcond7 t).mp (by omega)) (mt (hcond8 t).mp (by omega)) (mt (hcond9 t).mp (by omega)))

/-- The body at a point of query block 2. -/
theorem sound2 (c : Dev nD) (t : Fin cfg0.N) (h : t.val % 8 = 2) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run2 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) (mt (hcond3 t).mp (by omega)) ((hcond4 t).mpr (by omega)) (mt (hcond5 t).mp (by omega)) (mt (hcond6 t).mp (by omega)) (mt (hcond7 t).mp (by omega)) (mt (hcond8 t).mp (by omega)) (mt (hcond9 t).mp (by omega)))

/-- The body at a point of query block 3. -/
theorem sound3 (c : Dev nD) (t : Fin cfg0.N) (h : t.val % 8 = 3) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run3 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) (mt (hcond3 t).mp (by omega)) (mt (hcond4 t).mp (by omega)) ((hcond5 t).mpr (by omega)) (mt (hcond6 t).mp (by omega)) (mt (hcond7 t).mp (by omega)) (mt (hcond8 t).mp (by omega)) (mt (hcond9 t).mp (by omega)))

/-- The body at a point of query block 4. -/
theorem sound4 (c : Dev nD) (t : Fin cfg0.N) (h : t.val % 8 = 4) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run4 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) (mt (hcond3 t).mp (by omega)) (mt (hcond4 t).mp (by omega)) (mt (hcond5 t).mp (by omega)) ((hcond6 t).mpr (by omega)) (mt (hcond7 t).mp (by omega)) (mt (hcond8 t).mp (by omega)) (mt (hcond9 t).mp (by omega)))

/-- The body at a point of query block 5. -/
theorem sound5 (c : Dev nD) (t : Fin cfg0.N) (h : t.val % 8 = 5) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run5 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) (mt (hcond3 t).mp (by omega)) (mt (hcond4 t).mp (by omega)) (mt (hcond5 t).mp (by omega)) (mt (hcond6 t).mp (by omega)) ((hcond7 t).mpr (by omega)) (mt (hcond8 t).mp (by omega)) (mt (hcond9 t).mp (by omega)))

/-- The body at a point of query block 6. -/
theorem sound6 (c : Dev nD) (t : Fin cfg0.N) (h : t.val % 8 = 6) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run6 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) (mt (hcond3 t).mp (by omega)) (mt (hcond4 t).mp (by omega)) (mt (hcond5 t).mp (by omega)) (mt (hcond6 t).mp (by omega)) (mt (hcond7 t).mp (by omega)) ((hcond8 t).mpr (by omega)) (mt (hcond9 t).mp (by omega)))

/-- The body at a point of query block 7. -/
theorem sound7 (c : Dev nD) (t : Fin cfg0.N) (h : t.val % 8 = 7) :
    bodyPre m c t ⊢ wp frame (wpE (defs₀ (F := F)) Variants.none c none) Set.univ (bodyAt0 t) (fun _ => bodyPost m c t) :=
  sound_step m c t (by omega) (by
    have ht : t.val < 64 := Nat.lt_of_lt_of_eq t.isLt N_0
    rw [h]
    exact run7 c (grid0.coords t) _ _ _ _ _ _ _ _ _ _ _ _ _ _ _ _ _ _ _ _ _ _ _ _
      (b0 m c t) (b1 m c t) (b2 m c t) (b3 m c t) (b4 m c t) (b5 m c t) (b6 m c t) (pre9 m c t) (pre10 m c t) (pre11 m c t) Set.univ
      (mt (hcond0 t).mp (by omega)) (mt (hcond1 t).mp (by omega)) (mt (hcond2 t).mp (by omega)) (mt (hcond3 t).mp (by omega)) (mt (hcond4 t).mp (by omega)) (mt (hcond5 t).mp (by omega)) (mt (hcond6 t).mp (by omega)) (mt (hcond7 t).mp (by omega)) (mt (hcond8 t).mp (by omega)) ((hcond9 t).mpr (by omega)))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 64 = 0
  · exact soundA m c t h
  by_cases h0 : t.val % 8 = 0
  · exact soundI m c t h0 h
  by_cases h1 : t.val % 8 = 1
  · exact sound1 m c t h1
  by_cases h2 : t.val % 8 = 2
  · exact sound2 m c t h2
  by_cases h3 : t.val % 8 = 3
  · exact sound3 m c t h3
  by_cases h4 : t.val % 8 = 4
  · exact sound4 m c t h4
  by_cases h5 : t.val % 8 = 5
  · exact sound5 m c t h5
  by_cases h6 : t.val % 8 = 6
  · exact sound6 m c t h6
  exact sound7 m c t (by omega)

/-- The body at a point. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs: its arrays end as the proof data say, and every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_main_quiescent m ρ))

end Cert.KernelIdeal.Attn

end
-- ==== Proof.AttnValue.lean ====
module

public import proofs.«01_k».proof.Proof.AttnBlock
public import proofs.«01_k».proof.Proof.AttnReal
public import proofs.«01_k».proof.Proof.AttnSpec

/-! # The value of one query block

    When the seven input blocks hold a head's queries `256 * i` and on, its keys, values and rotary keys, and the
    incoming gradient and the attention's output at those queries, the block's two query gradients are the head's, and
    each accumulator moves on by the block's queries. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)
open Idealize.ShloMosaic.Pipeline (Dat Cfg Window BodyObligation cellOf)

open Cert.Attn (Head Rep coe_sum_fin)
open Finset (range)

/-- The seven input blocks of query block `i` of a head. -/
structure Blk (H : Head) (i : ℕ) (x0 x1 : Vec Ideal S256x128 .bf16) (x2 x3 x4 : Vec Ideal S2048x128 .bf16)
    (x5 x6 : Vec Ideal S256x128 .bf16) : Prop where
  cs : Ideal.ofBits .f32 0x3D93CD3A#32 = ((H.cs : ℝ) : EReal)
  h0 : Rep (φ := .bf16) x0 (fun r c => H.qn (256 * i + r) c)
  h1 : Rep (φ := .bf16) x1 (fun r c => H.qr (256 * i + r) c)
  h2 : Rep (φ := .bf16) x2 H.kn
  h3 : Rep (φ := .bf16) x3 H.v
  h4 : Rep (φ := .bf16) x4 H.kr
  h5 : Rep (φ := .bf16) x5 (fun r c => H.g (256 * i + r) c)
  h6 : Rep (φ := .bf16) x6 (fun r c => H.O (256 * i + r) c)

/-- The leading rows of an array. -/
theorem rep_top {n : ℕ} {φ : FTy} (hn : n ≤ 2048) (inb : ∀ a : Fin 2, (![0, 0] : Fin 2 → ℕ) a + (![n, 128] : Fin 2 → ℕ) a ≤ S2048x128.size a)
    {x : FVec Ideal S2048x128 φ} {f : ℕ → ℕ → ℝ} (h : Rep (φ := φ) x f) :
    Rep (m := n) (n := 128) (φ := φ) (fun y => x ((Rect.unit (s := S2048x128) ![0, 0] ![n, 128] inb).emb y)) f := fun r c => by
  rw [← h ⟨r.val, by omega⟩ c]
  show x ((Rect.unit (s := S2048x128) ![0, 0] ![n, 128] inb).emb (ix2 r c)) = _
  congr 1
  funext a
  refine Fin.ext ?_
  match a with
  | ⟨0, _⟩ => show 0 + 1 * r.val = r.val; omega
  | ⟨1, _⟩ => show 0 + 1 * c.val = c.val; omega

/-- The pattern of one. -/
theorem ofBits_one : Ideal.ofBits .f32 0x3F800000#32 = ((1 : ℝ) : EReal) := by
  simp [Ideal.ofBits, Ideal.ieee, -EReal.coe_mul]
  norm_num

/-- The named mask is minus infinity. -/
theorem mask_bot : (Named.named κ "mask" (0xF149F2CA#32 : BitVec (FTy.bits .f32)) : Ideal .f32) = ⊥ :=
  IdealRules.named_const.ideal_named_scalar κ "mask" (φ := .f32) 0xF149F2CA#32 ⊥ rfl

/-- A product over two parts of 128 columns each is the sum of the two products. -/
theorem sum_parts (f g f' g' : ℕ → ℝ) :
    ∑ c ∈ range 256, (if c < 128 then f c else g (c - 128)) * (if c < 128 then f' c else g' (c - 128))
      = (∑ c ∈ range 128, f c * f' c) + ∑ c ∈ range 128, g c * g' c := by
  rw [show (256 : ℕ) = 128 + 128 from rfl, Finset.sum_range_add]
  refine congrArg₂ (· + ·) ?_ ?_
  · exact Finset.sum_congr rfl fun c hc => by rw [if_pos (Finset.mem_range.mp hc), if_pos (Finset.mem_range.mp hc)]
  · exact Finset.sum_congr rfl fun c _ => by
      rw [if_neg (by omega), if_neg (by omega), Nat.add_sub_cancel_left]

/-- An accumulator of a sum over queries, moved on by the block of queries from `o`: the keys past the block's last query
    gain nothing. -/
theorem rep_upd {n o : ℕ} (hn : n = o + 256) (hn' : n ≤ 2048) {d : Vec Ideal S2048x128 .f32} {p : Vec Ideal ⟨2, ![n, 128]⟩ .f32}
    {B : ℕ → ℕ → ℝ} {f : ℕ → ℕ → ℕ → ℝ} (hd : Rep (φ := .f32) d (fun j c => B j c + ∑ q ∈ range o, f q j c))
    (hp : Rep (φ := .f32) p (fun j c => (B j c + ∑ q ∈ range o, f q j c) + ∑ r ∈ range 256, f (o + r) j c))
    (hz : ∀ q j c, q < j → f q j c = 0) :
    Rep (φ := .f32) (upd n p d) (fun j c => B j c + ∑ q ∈ range (o + 256), f q j c) := fun j c => by
  show (if h : j.val < n then p (ix2 ⟨j.val, h⟩ c) else d (ix2 j c)) = _
  simp only [Finset.sum_range_add, ← add_assoc]
  split
  · exact hp _ _
  · next h =>
    rw [hd j c]
    simp only [Finset.sum_eq_zero (s := range 256) (f := fun r => f (o + r) j.val c.val) fun r hr =>
      hz _ _ _ (by have := Finset.mem_range.mp hr; omega), add_zero]

variable {H : Head} {x0 x1 : Vec Ideal S256x128 .bf16} {x2 x3 x4 : Vec Ideal S2048x128 .bf16} {x5 x6 : Vec Ideal S256x128 .bf16}

/-! ## Query block 0 -/

/-- Queries with their rotary part. -/
theorem q2_0 (h : Blk H 0 x0 x1 x2 x3 x4 x5 x6) :
    Rep (m := 256) (n := 256) (φ := .bf16) (k0_pay2 x0 x1) (fun r c => if c < 128 then H.qn (0 + r) c else H.qr (0 + r) (c - 128)) :=
  Rep.cat (m := 256) (n := 128) (p := 128) concatenates_S256x128_S256x128_S256x256_d1 (h.h0.same _) (h.h1.same _)
/-- Keys with their rotary part. -/
theorem k2_0 (h : Blk H 0 x0 x1 x2 x3 x4 x5 x6) :
    Rep (m := 256) (n := 256) (φ := .bf16) (k0_pay3 (top0 x2) (top0 x4)) (fun k c => if c < 128 then H.kn k c else H.kr k (c - 128)) :=
  Rep.cat (m := 256) (n := 128) (p := 128) concatenates_S256x128_S256x128_S256x256_d1
    ((rep_top (by omega) _ h.h2).same _) ((rep_top (by omega) _ h.h4).same _)
/-- The scores' exponentials. -/
theorem e_0 (h : Blk H 0 x0 x1 x2 x3 x4 x5 x6) :
    Rep (m := 256) (n := 256) (φ := .f32) (k0_pay4 x0 x1 (top0 x2) (top0 x4)) (fun r k => H.E (0 + r) k) :=
  Rep.masked 0 (by omega) (by omega) _ mask_bot iota_S256x256_d0_w32 iota_S256x256_d1_w32 reduces_S256x256_S256 shapeCasts_S256_S256x1
    broadcasts_S256x1_S256x256 (.inl rfl) rfl
    ((((q2_0 h).nt dot_S256x256_S256x256_S256x256_1_1_0_0_n_n.wf none (k2_0 h)).mul (Rep.splat _ _ h.cs)).congr
      (g := fun r k => H.sc (0 + r) k)
      fun r k _ _ => by rw [sum_parts]; rfl) _ rfl
/-- One over the normalisers. -/
theorem inv_0 (h : Blk H 0 x0 x1 x2 x3 x4 x5 x6) :
    Rep (m := 256) (n := 1) (φ := .f32) (k0_pay5 x0 x1 (top0 x2) (top0 x4)) (fun r _ => 1 / H.L (0 + r)) :=
  ((Rep.splat _ _ ofBits_one).div ((e_0 h).rowSum reduces_S256x256_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_0 (h : Blk H 0 x0 x1 x2 x3 x4 x5 x6) :
    Rep (m := 256) (n := 128) (φ := .bf16) (k0_pay1 x5) (fun r c => H.g (0 + r) c) := h.h5.same _
/-- The scores' gradients. -/
theorem ds_0 (h : Blk H 0 x0 x1 x2 x3 x4 x5 x6) :
    Rep (m := 256) (n := 256) (φ := .bf16) (k0_pay9 (k0_pay4 x0 x1 (top0 x2) (top0 x4)) (k0_pay5 x0 x1 (top0 x2) (top0 x4))
      (k0_pay6 x5 (top0 x3)) (k0_pay7 x5) (k0_pay8 x6)) (fun r k => H.ds (0 + r) k) :=
  (((e_0 h).mul
    ((((g_0 h).nt dot_S256x128_S256x128_S256x256_1_1_0_0_n_n.wf none ((rep_top (by omega) _ h.h3).same _)).sub
      (((((g_0 h).ext bitsLt_bf16_f32).mul ((h.h6.same _).ext bitsLt_bf16_f32)).rowSum reduces_S256x128_S256 shapeCasts_S256_S256x1 (.inl rfl) rfl).spread
        broadcasts_S256x1_S256x256 (by omega))).mul
      (((inv_0 h).mul (Rep.splat _ _ h.cs)).spread broadcasts_S256x1_S256x256 (by omega)))).cut bitsLt_bf16_f32)
/-- The gradient of the block's queries. -/
theorem dqn_0 (h : Blk H 0 x0 x1 x2 x3 x4 x5 x6) :
    Rep (m := 256) (n := 128) (φ := .f32) (dqn0 x0 x1 x2 x3 x4 x5 x6) (fun r c => H.dqn (0 + r) c) :=
  (((ds_0 h).nn dot_S256x256_S256x256_S256x256_1_0_0_1_n_n.wf none (k2_0 h)).slice 0 slices_S256x256_o0_0_S256x128 (by omega)).congr
    fun r c _ hc => by
      rw [← H.dqn_prefix (n := 256) (by omega) (by omega) c]
      exact Finset.sum_congr rfl fun k _ => by simp only [Nat.zero_add, if_pos hc]
/-- The gradient of the block's rotary queries. -/
theorem dqr_0 (h : Blk H 0 x0 x1 x2 x3 x4 x5 x6) :
    Rep (m := 256) (n := 128) (φ := .f32) (dqr0 x0 x1 x2 x3 x4 x5 x6) (fun r c => H.dqr (0 + r) c) :=
  (((ds_0 h).nn dot_S256x256_S256x256_S256x256_1_0_0_1_n_n.wf none (k2_0 h)).slice 128 slices_S256x256_o0_128_S256x128 (by omega)).congr
    fun r c _ hc => by
      rw [← H.dqr_prefix (n := 256) (by omega) (by omega) c]
      exact Finset.sum_congr rfl fun k _ => by rw [if_neg (by omega), Nat.add_sub_cancel_left]
/-- The key gradient's accumulator. -/
theorem dkn_0 (h : Blk H 0 x0 x1 x2 x3 x4 x5 x6) {d : Vec Ideal S2048x128 .f32} {B : ℕ → ℕ → ℝ}
    (hd : Rep (φ := .f32) d (fun j c => B j c + H.dkn 0 j c)) :
    Rep (φ := .f32) (upd 256 (dkn0 x0 x1 x2 x3 x4 x5 x6 d) d) (fun j c => B j c + H.dkn (0 + 256) j c) :=
  rep_upd (f := fun q j c => H.ds q j * H.qn q c) (by omega) (by omega) hd
    ((((rep_top (by omega) _ hd).same _).add (((ds_0 h).tn dot_S256x256_S256x256_S256x256_0_0_1_1_n_n.wf none (q2_0 h)).slice 0
      slices_S256x256_o0_0_S256x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_0 (h : Blk H 0 x0 x1 x2 x3 x4 x5 x6) {d : Vec Ideal S2048x128 .f32} {B : ℕ → ℕ → ℝ}
    (hd : Rep (φ := .f32) d (fun j c => B j c + H.dkr 0 j c)) :
    Rep (φ := .f32) (upd 256 (dkr0 x0 x1 x2 x3 x4 x5 x6 d) d) (fun j c => B j c + H.dkr (0 + 256) j c) :=
  rep_upd (f := fun q j c => H.ds q j * H.qr q c) (by omega) (by omega) hd
    ((((rep_top (by omega) _ hd).same _).add (((ds_0 h).tn dot_S256x256_S256x256_S256x256_0_0_1_1_n_n.wf none (q2_0 h)).slice 128
      slices_S256x256_o0_128_S256x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_0 (h : Blk H 0 x0 x1 x2 x3 x4 x5 x6) {d : Vec Ideal S2048x128 .f32} {B : ℕ → ℕ → ℝ}
    (hd : Rep (φ := .f32) d (fun j c => B j c + H.dv 0 j c)) :
    Rep (φ := .f32) (upd 256 (dv0 x0 x1 x2 x3 x4 x5 x6 d) d) (fun j c => B j c + H.dv (0 + 256) j c) :=
  rep_upd (f := fun q j c => H.E q j * (H.g q c * (1 / H.L q))) (by omega) (by omega) hd
    (((rep_top (by omega) _ hd).same _).add (((e_0 h).cut bitsLt_bf16_f32).tn dot_S256x256_S256x128_S256x128_0_0_1_1_n_n.wf none
      ((((g_0 h).ext bitsLt_bf16_f32).mul ((inv_0 h).spread broadcasts_S256x1_S256x128 (by omega))).cut bitsLt_bf16_f32)))
    (fun q j c hq => by rw [H.E_later hq, zero_mul])

/-! ## Query block 1 -/

/-- Queries with their rotary part. -/
theorem q2_1 (h : Blk H 1 x0 x1 x2 x3 x4 x5 x6) :
    Rep (m := 256) (n := 256) (φ := .bf16) (k0_pay18 x0 x1) (fun r c => if c < 128 then H.qn (256 + r) c else H.qr (256 + r) (c - 128)) :=
  Rep.cat (m := 256) (n := 128) (p := 128) concatenates_S256x128_S256x128_S256x256_d1 (h.h0.same _) (h.h1.same _)
/-- Keys with their rotary part. -/
theorem k2_1 (h : Blk H 1 x0 x1 x2 x3 x4 x5 x6) :
    Rep (m := 512) (n := 256) (φ := .bf16) (k0_pay19 (top1 x2) (top1 x4)) (fun k c => if c < 128 then H.kn k c else H.kr k (c - 128)) :=
  Rep.cat (m := 512) (n := 128) (p := 128) concatenates_S512x128_S512x128_S512x256_d1
    ((rep_top (by omega) _ h.h2).same _) ((rep_top (by omega) _ h.h4).same _)
/-- The scores' exponentials. -/
theorem e_1 (h : Blk H 1 x0 x1 x2 x3 x4 x5 x6) :
    Rep (m := 256) (n := 512) (φ := .f32) (k0_pay20 x0 x1 (top1 x2) (top1 x4)) (fun r k => H.E (256 + r) k) :=
  Rep.masked 256 (by omega) (by omega) _ mask_bot iota_S256x512_d0_w32 iota_S256x512_d1_w32 reduces_S256x512_S256 shapeCasts_S256_S256x1
    broadcasts_S256x1_S256x512 (.inl rfl) rfl
    ((((q2_1 h).nt dot_S256x256_S512x256_S256x512_1_1_0_0_n_n.wf none (k2_1 h)).mul (Rep.splat _ _ h.cs)).congr
      (g := fun r k => H.sc (256 + r) k)
      fun r k _ _ => by rw [sum_parts]; rfl) _ rfl
/-- One over the normalisers. -/
theorem inv_1 (h : Blk H 1 x0 x1 x2 x3 x4 x5 x6) :
    Rep (m := 256) (n := 1) (φ := .f32) (k0_pay21 x0 x1 (top1 x2) (top1 x4)) (fun r _ => 1 / H.L (256 + r)) :=
  ((Rep.splat _ _ ofBits_one).div ((e_1 h).rowSum reduces_S256x512_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_1 (h : Blk H 1 x0 x1 x2 x3 x4 x5 x6) :
    Rep (m := 256) (n := 128) (φ := .bf16) (k0_pay17 x5) (fun r c => H.g (256 + r) c) := h.h5.same _
/-- The scores' gradients. -/
theorem ds_1 (h : Blk H 1 x0 x1 x2 x3 x4 x5 x6) :
    Rep (m := 256) (n := 512) (φ := .bf16) (k0_pay25 (k0_pay20 x0 x1 (top1 x2) (top1 x4)) (k0_pay21 x0 x1 (top1 x2) (top1 x4))
      (k0_pay22 x5 (top1 x3)) (k0_pay23 x5) (k0_pay24 x6)) (fun r k => H.ds (256 + r) k) :=
  (((e_1 h).mul
    ((((g_1 h).nt dot_S256x128_S512x128_S256x512_1_1_0_0_n_n.wf none ((rep_top (by omega) _ h.h3).same _)).sub
      (((((g_1 h).ext bitsLt_bf16_f32).mul ((h.h6.same _).ext bitsLt_bf16_f32)).rowSum reduces_S256x128_S256 shapeCasts_S256_S256x1 (.inl rfl) rfl).spread
        broadcasts_S256x1_S256x512 (by omega))).mul
      (((inv_1 h).mul (Rep.splat _ _ h.cs)).spread broadcasts_S256x1_S256x512 (by omega)))).cut bitsLt_bf16_f32)
/-- The gradient of the block's queries. -/
theorem dqn_1 (h : Blk H 1 x0 x1 x2 x3 x4 x5 x6) :
    Rep (m := 256) (n := 128) (φ := .f32) (dqn1 x0 x1 x2 x3 x4 x5 x6) (fun r c => H.dqn (256 + r) c) :=
  (((ds_1 h).nn dot_S256x512_S512x256_S256x256_1_0_0_1_n_n.wf none (k2_1 h)).slice 0 slices_S256x256_o0_0_S256x128 (by omega)).congr
    fun r c _ hc => by
      rw [← H.dqn_prefix (n := 512) (by omega) (by omega) c]
      exact Finset.sum_congr rfl fun k _ => by simp only [Nat.zero_add, if_pos hc]
/-- The gradient of the block's rotary queries. -/
theorem dqr_1 (h : Blk H 1 x0 x1 x2 x3 x4 x5 x6) :
    Rep (m := 256) (n := 128) (φ := .f32) (dqr1 x0 x1 x2 x3 x4 x5 x6) (fun r c => H.dqr (256 + r) c) :=
  (((ds_1 h).nn dot_S256x512_S512x256_S256x256_1_0_0_1_n_n.wf none (k2_1 h)).slice 128 slices_S256x256_o0_128_S256x128 (by omega)).congr
    fun r c _ hc => by
      rw [← H.dqr_prefix (n := 512) (by omega) (by omega) c]
      exact Finset.sum_congr rfl fun k _ => by rw [if_neg (by omega), Nat.add_sub_cancel_left]
/-- The key gradient's accumulator. -/
theorem dkn_1 (h : Blk H 1 x0 x1 x2 x3 x4 x5 x6) {d : Vec Ideal S2048x128 .f32} {B : ℕ → ℕ → ℝ}
    (hd : Rep (φ := .f32) d (fun j c => B j c + H.dkn 256 j c)) :
    Rep (φ := .f32) (upd 512 (dkn1 x0 x1 x2 x3 x4 x5 x6 d) d) (fun j c => B j c + H.dkn (256 + 256) j c) :=
  rep_upd (f := fun q j c => H.ds q j * H.qn q c) (by omega) (by omega) hd
    ((((rep_top (by omega) _ hd).same _).add (((ds_1 h).tn dot_S256x512_S256x256_S512x256_0_0_1_1_n_n.wf none (q2_1 h)).slice 0
      slices_S512x256_o0_0_S512x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_1 (h : Blk H 1 x0 x1 x2 x3 x4 x5 x6) {d : Vec Ideal S2048x128 .f32} {B : ℕ → ℕ → ℝ}
    (hd : Rep (φ := .f32) d (fun j c => B j c + H.dkr 256 j c)) :
    Rep (φ := .f32) (upd 512 (dkr1 x0 x1 x2 x3 x4 x5 x6 d) d) (fun j c => B j c + H.dkr (256 + 256) j c) :=
  rep_upd (f := fun q j c => H.ds q j * H.qr q c) (by omega) (by omega) hd
    ((((rep_top (by omega) _ hd).same _).add (((ds_1 h).tn dot_S256x512_S256x256_S512x256_0_0_1_1_n_n.wf none (q2_1 h)).slice 128
      slices_S512x256_o0_128_S512x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_1 (h : Blk H 1 x0 x1 x2 x3 x4 x5 x6) {d : Vec Ideal S2048x128 .f32} {B : ℕ → ℕ → ℝ}
    (hd : Rep (φ := .f32) d (fun j c => B j c + H.dv 256 j c)) :
    Rep (φ := .f32) (upd 512 (dv1 x0 x1 x2 x3 x4 x5 x6 d) d) (fun j c => B j c + H.dv (256 + 256) j c) :=
  rep_upd (f := fun q j c => H.E q j * (H.g q c * (1 / H.L q))) (by omega) (by omega) hd
    (((rep_top (by omega) _ hd).same _).add (((e_1 h).cut bitsLt_bf16_f32).tn dot_S256x512_S256x128_S512x128_0_0_1_1_n_n.wf none
      ((((g_1 h).ext bitsLt_bf16_f32).mul ((inv_1 h).spread broadcasts_S256x1_S256x128 (by omega))).cut bitsLt_bf16_f32)))
    (fun q j c hq => by rw [H.E_later hq, zero_mul])

/-! ## Query block 2 -/

/-- Queries with their rotary part. -/
theorem q2_2 (h : Blk H 2 x0 x1 x2 x3 x4 x5 x6) :
    Rep (m := 256) (n := 256) (φ := .bf16) (k0_pay34 x0 x1) (fun r c => if c < 128 then H.qn (512 + r) c else H.qr (512 + r) (c - 128)) :=
  Rep.cat (m := 256) (n := 128) (p := 128) concatenates_S256x128_S256x128_S256x256_d1 (h.h0.same _) (h.h1.same _)
/-- Keys with their rotary part. -/
theorem k2_2 (h : Blk H 2 x0 x1 x2 x3 x4 x5 x6) :
    Rep (m := 768) (n := 256) (φ := .bf16) (k0_pay35 (top2 x2) (top2 x4)) (fun k c => if c < 128 then H.kn k c else H.kr k (c - 128)) :=
  Rep.cat (m := 768) (n := 128) (p := 128) concatenates_S768x128_S768x128_S768x256_d1
    ((rep_top (by omega) _ h.h2).same _) ((rep_top (by omega) _ h.h4).same _)
/-- The scores' exponentials. -/
theorem e_2 (h : Blk H 2 x0 x1 x2 x3 x4 x5 x6) :
    Rep (m := 256) (n := 768) (φ := .f32) (k0_pay36 x0 x1 (top2 x2) (top2 x4)) (fun r k => H.E (512 + r) k) :=
  Rep.masked 512 (by omega) (by omega) _ mask_bot iota_S256x768_d0_w32 iota_S256x768_d1_w32 reduces_S256x768_S256 shapeCasts_S256_S256x1
    broadcasts_S256x1_S256x768 (.inl rfl) rfl
    ((((q2_2 h).nt dot_S256x256_S768x256_S256x768_1_1_0_0_n_n.wf none (k2_2 h)).mul (Rep.splat _ _ h.cs)).congr
      (g := fun r k => H.sc (512 + r) k)
      fun r k _ _ => by rw [sum_parts]; rfl) _ rfl
/-- One over the normalisers. -/
theorem inv_2 (h : Blk H 2 x0 x1 x2 x3 x4 x5 x6) :
    Rep (m := 256) (n := 1) (φ := .f32) (k0_pay37 x0 x1 (top2 x2) (top2 x4)) (fun r _ => 1 / H.L (512 + r)) :=
  ((Rep.splat _ _ ofBits_one).div ((e_2 h).rowSum reduces_S256x768_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_2 (h : Blk H 2 x0 x1 x2 x3 x4 x5 x6) :
    Rep (m := 256) (n := 128) (φ := .bf16) (k0_pay33 x5) (fun r c => H.g (512 + r) c) := h.h5.same _
/-- The scores' gradients. -/
theorem ds_2 (h : Blk H 2 x0 x1 x2 x3 x4 x5 x6) :
    Rep (m := 256) (n := 768) (φ := .bf16) (k0_pay41 (k0_pay36 x0 x1 (top2 x2) (top2 x4)) (k0_pay37 x0 x1 (top2 x2) (top2 x4))
      (k0_pay38 x5 (top2 x3)) (k0_pay39 x5) (k0_pay40 x6)) (fun r k => H.ds (512 + r) k) :=
  (((e_2 h).mul
    ((((g_2 h).nt dot_S256x128_S768x128_S256x768_1_1_0_0_n_n.wf none ((rep_top (by omega) _ h.h3).same _)).sub
      (((((g_2 h).ext bitsLt_bf16_f32).mul ((h.h6.same _).ext bitsLt_bf16_f32)).rowSum reduces_S256x128_S256 shapeCasts_S256_S256x1 (.inl rfl) rfl).spread
        broadcasts_S256x1_S256x768 (by omega))).mul
      (((inv_2 h).mul (Rep.splat _ _ h.cs)).spread broadcasts_S256x1_S256x768 (by omega)))).cut bitsLt_bf16_f32)
/-- The gradient of the block's queries. -/
theorem dqn_2 (h : Blk H 2 x0 x1 x2 x3 x4 x5 x6) :
    Rep (m := 256) (n := 128) (φ := .f32) (dqn2 x0 x1 x2 x3 x4 x5 x6) (fun r c => H.dqn (512 + r) c) :=
  (((ds_2 h).nn dot_S256x768_S768x256_S256x256_1_0_0_1_n_n.wf none (k2_2 h)).slice 0 slices_S256x256_o0_0_S256x128 (by omega)).congr
    fun r c _ hc => by
      rw [← H.dqn_prefix (n := 768) (by omega) (by omega) c]
      exact Finset.sum_congr rfl fun k _ => by simp only [Nat.zero_add, if_pos hc]
/-- The gradient of the block's rotary queries. -/
theorem dqr_2 (h : Blk H 2 x0 x1 x2 x3 x4 x5 x6) :
    Rep (m := 256) (n := 128) (φ := .f32) (dqr2 x0 x1 x2 x3 x4 x5 x6) (fun r c => H.dqr (512 + r) c) :=
  (((ds_2 h).nn dot_S256x768_S768x256_S256x256_1_0_0_1_n_n.wf none (k2_2 h)).slice 128 slices_S256x256_o0_128_S256x128 (by omega)).congr
    fun r c _ hc => by
      rw [← H.dqr_prefix (n := 768) (by omega) (by omega) c]
      exact Finset.sum_congr rfl fun k _ => by rw [if_neg (by omega), Nat.add_sub_cancel_left]
/-- The key gradient's accumulator. -/
theorem dkn_2 (h : Blk H 2 x0 x1 x2 x3 x4 x5 x6) {d : Vec Ideal S2048x128 .f32} {B : ℕ → ℕ → ℝ}
    (hd : Rep (φ := .f32) d (fun j c => B j c + H.dkn 512 j c)) :
    Rep (φ := .f32) (upd 768 (dkn2 x0 x1 x2 x3 x4 x5 x6 d) d) (fun j c => B j c + H.dkn (512 + 256) j c) :=
  rep_upd (f := fun q j c => H.ds q j * H.qn q c) (by omega) (by omega) hd
    ((((rep_top (by omega) _ hd).same _).add (((ds_2 h).tn dot_S256x768_S256x256_S768x256_0_0_1_1_n_n.wf none (q2_2 h)).slice 0
      slices_S768x256_o0_0_S768x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_2 (h : Blk H 2 x0 x1 x2 x3 x4 x5 x6) {d : Vec Ideal S2048x128 .f32} {B : ℕ → ℕ → ℝ}
    (hd : Rep (φ := .f32) d (fun j c => B j c + H.dkr 512 j c)) :
    Rep (φ := .f32) (upd 768 (dkr2 x0 x1 x2 x3 x4 x5 x6 d) d) (fun j c => B j c + H.dkr (512 + 256) j c) :=
  rep_upd (f := fun q j c => H.ds q j * H.qr q c) (by omega) (by omega) hd
    ((((rep_top (by omega) _ hd).same _).add (((ds_2 h).tn dot_S256x768_S256x256_S768x256_0_0_1_1_n_n.wf none (q2_2 h)).slice 128
      slices_S768x256_o0_128_S768x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_2 (h : Blk H 2 x0 x1 x2 x3 x4 x5 x6) {d : Vec Ideal S2048x128 .f32} {B : ℕ → ℕ → ℝ}
    (hd : Rep (φ := .f32) d (fun j c => B j c + H.dv 512 j c)) :
    Rep (φ := .f32) (upd 768 (dv2 x0 x1 x2 x3 x4 x5 x6 d) d) (fun j c => B j c + H.dv (512 + 256) j c) :=
  rep_upd (f := fun q j c => H.E q j * (H.g q c * (1 / H.L q))) (by omega) (by omega) hd
    (((rep_top (by omega) _ hd).same _).add (((e_2 h).cut bitsLt_bf16_f32).tn dot_S256x768_S256x128_S768x128_0_0_1_1_n_n.wf none
      ((((g_2 h).ext bitsLt_bf16_f32).mul ((inv_2 h).spread broadcasts_S256x1_S256x128 (by omega))).cut bitsLt_bf16_f32)))
    (fun q j c hq => by rw [H.E_later hq, zero_mul])

/-! ## Query block 3 -/

/-- Queries with their rotary part. -/
theorem q2_3 (h : Blk H 3 x0 x1 x2 x3 x4 x5 x6) :
    Rep (m := 256) (n := 256) (φ := .bf16) (k0_pay50 x0 x1) (fun r c => if c < 128 then H.qn (768 + r) c else H.qr (768 + r) (c - 128)) :=
  Rep.cat (m := 256) (n := 128) (p := 128) concatenates_S256x128_S256x128_S256x256_d1 (h.h0.same _) (h.h1.same _)
/-- Keys with their rotary part. -/
theorem k2_3 (h : Blk H 3 x0 x1 x2 x3 x4 x5 x6) :
    Rep (m := 1024) (n := 256) (φ := .bf16) (k0_pay51 (top3 x2) (top3 x4)) (fun k c => if c < 128 then H.kn k c else H.kr k (c - 128)) :=
  Rep.cat (m := 1024) (n := 128) (p := 128) concatenates_S1024x128_S1024x128_S1024x256_d1
    ((rep_top (by omega) _ h.h2).same _) ((rep_top (by omega) _ h.h4).same _)
/-- The scores' exponentials. -/
theorem e_3 (h : Blk H 3 x0 x1 x2 x3 x4 x5 x6) :
    Rep (m := 256) (n := 1024) (φ := .f32) (k0_pay52 x0 x1 (top3 x2) (top3 x4)) (fun r k => H.E (768 + r) k) :=
  Rep.masked 768 (by omega) (by omega) _ mask_bot iota_S256x1024_d0_w32 iota_S256x1024_d1_w32 reduces_S256x1024_S256 shapeCasts_S256_S256x1
    broadcasts_S256x1_S256x1024 (.inl rfl) rfl
    ((((q2_3 h).nt dot_S256x256_S1024x256_S256x1024_1_1_0_0_n_n.wf none (k2_3 h)).mul (Rep.splat _ _ h.cs)).congr
      (g := fun r k => H.sc (768 + r) k)
      fun r k _ _ => by rw [sum_parts]; rfl) _ rfl
/-- One over the normalisers. -/
theorem inv_3 (h : Blk H 3 x0 x1 x2 x3 x4 x5 x6) :
    Rep (m := 256) (n := 1) (φ := .f32) (k0_pay53 x0 x1 (top3 x2) (top3 x4)) (fun r _ => 1 / H.L (768 + r)) :=
  ((Rep.splat _ _ ofBits_one).div ((e_3 h).rowSum reduces_S256x1024_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_3 (h : Blk H 3 x0 x1 x2 x3 x4 x5 x6) :
    Rep (m := 256) (n := 128) (φ := .bf16) (k0_pay49 x5) (fun r c => H.g (768 + r) c) := h.h5.same _
/-- The scores' gradients. -/
theorem ds_3 (h : Blk H 3 x0 x1 x2 x3 x4 x5 x6) :
    Rep (m := 256) (n := 1024) (φ := .bf16) (k0_pay57 (k0_pay52 x0 x1 (top3 x2) (top3 x4)) (k0_pay53 x0 x1 (top3 x2) (top3 x4))
      (k0_pay54 x5 (top3 x3)) (k0_pay55 x5) (k0_pay56 x6)) (fun r k => H.ds (768 + r) k) :=
  (((e_3 h).mul
    ((((g_3 h).nt dot_S256x128_S1024x128_S256x1024_1_1_0_0_n_n.wf none ((rep_top (by omega) _ h.h3).same _)).sub
      (((((g_3 h).ext bitsLt_bf16_f32).mul ((h.h6.same _).ext bitsLt_bf16_f32)).rowSum reduces_S256x128_S256 shapeCasts_S256_S256x1 (.inl rfl) rfl).spread
        broadcasts_S256x1_S256x1024 (by omega))).mul
      (((inv_3 h).mul (Rep.splat _ _ h.cs)).spread broadcasts_S256x1_S256x1024 (by omega)))).cut bitsLt_bf16_f32)
/-- The gradient of the block's queries. -/
theorem dqn_3 (h : Blk H 3 x0 x1 x2 x3 x4 x5 x6) :
    Rep (m := 256) (n := 128) (φ := .f32) (dqn3 x0 x1 x2 x3 x4 x5 x6) (fun r c => H.dqn (768 + r) c) :=
  (((ds_3 h).nn dot_S256x1024_S1024x256_S256x256_1_0_0_1_n_n.wf none (k2_3 h)).slice 0 slices_S256x256_o0_0_S256x128 (by omega)).congr
    fun r c _ hc => by
      rw [← H.dqn_prefix (n := 1024) (by omega) (by omega) c]
      exact Finset.sum_congr rfl fun k _ => by simp only [Nat.zero_add, if_pos hc]
/-- The gradient of the block's rotary queries. -/
theorem dqr_3 (h : Blk H 3 x0 x1 x2 x3 x4 x5 x6) :
    Rep (m := 256) (n := 128) (φ := .f32) (dqr3 x0 x1 x2 x3 x4 x5 x6) (fun r c => H.dqr (768 + r) c) :=
  (((ds_3 h).nn dot_S256x1024_S1024x256_S256x256_1_0_0_1_n_n.wf none (k2_3 h)).slice 128 slices_S256x256_o0_128_S256x128 (by omega)).congr
    fun r c _ hc => by
      rw [← H.dqr_prefix (n := 1024) (by omega) (by omega) c]
      exact Finset.sum_congr rfl fun k _ => by rw [if_neg (by omega), Nat.add_sub_cancel_left]
/-- The key gradient's accumulator. -/
theorem dkn_3 (h : Blk H 3 x0 x1 x2 x3 x4 x5 x6) {d : Vec Ideal S2048x128 .f32} {B : ℕ → ℕ → ℝ}
    (hd : Rep (φ := .f32) d (fun j c => B j c + H.dkn 768 j c)) :
    Rep (φ := .f32) (upd 1024 (dkn3 x0 x1 x2 x3 x4 x5 x6 d) d) (fun j c => B j c + H.dkn (768 + 256) j c) :=
  rep_upd (f := fun q j c => H.ds q j * H.qn q c) (by omega) (by omega) hd
    ((((rep_top (by omega) _ hd).same _).add (((ds_3 h).tn dot_S256x1024_S256x256_S1024x256_0_0_1_1_n_n.wf none (q2_3 h)).slice 0
      slices_S1024x256_o0_0_S1024x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_3 (h : Blk H 3 x0 x1 x2 x3 x4 x5 x6) {d : Vec Ideal S2048x128 .f32} {B : ℕ → ℕ → ℝ}
    (hd : Rep (φ := .f32) d (fun j c => B j c + H.dkr 768 j c)) :
    Rep (φ := .f32) (upd 1024 (dkr3 x0 x1 x2 x3 x4 x5 x6 d) d) (fun j c => B j c + H.dkr (768 + 256) j c) :=
  rep_upd (f := fun q j c => H.ds q j * H.qr q c) (by omega) (by omega) hd
    ((((rep_top (by omega) _ hd).same _).add (((ds_3 h).tn dot_S256x1024_S256x256_S1024x256_0_0_1_1_n_n.wf none (q2_3 h)).slice 128
      slices_S1024x256_o0_128_S1024x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_3 (h : Blk H 3 x0 x1 x2 x3 x4 x5 x6) {d : Vec Ideal S2048x128 .f32} {B : ℕ → ℕ → ℝ}
    (hd : Rep (φ := .f32) d (fun j c => B j c + H.dv 768 j c)) :
    Rep (φ := .f32) (upd 1024 (dv3 x0 x1 x2 x3 x4 x5 x6 d) d) (fun j c => B j c + H.dv (768 + 256) j c) :=
  rep_upd (f := fun q j c => H.E q j * (H.g q c * (1 / H.L q))) (by omega) (by omega) hd
    (((rep_top (by omega) _ hd).same _).add (((e_3 h).cut bitsLt_bf16_f32).tn dot_S256x1024_S256x128_S1024x128_0_0_1_1_n_n.wf none
      ((((g_3 h).ext bitsLt_bf16_f32).mul ((inv_3 h).spread broadcasts_S256x1_S256x128 (by omega))).cut bitsLt_bf16_f32)))
    (fun q j c hq => by rw [H.E_later hq, zero_mul])

/-! ## Query block 4 -/

/-- Queries with their rotary part. -/
theorem q2_4 (h : Blk H 4 x0 x1 x2 x3 x4 x5 x6) :
    Rep (m := 256) (n := 256) (φ := .bf16) (k0_pay66 x0 x1) (fun r c => if c < 128 then H.qn (1024 + r) c else H.qr (1024 + r) (c - 128)) :=
  Rep.cat (m := 256) (n := 128) (p := 128) concatenates_S256x128_S256x128_S256x256_d1 (h.h0.same _) (h.h1.same _)
/-- Keys with their rotary part. -/
theorem k2_4 (h : Blk H 4 x0 x1 x2 x3 x4 x5 x6) :
    Rep (m := 1280) (n := 256) (φ := .bf16) (k0_pay67 (top4 x2) (top4 x4)) (fun k c => if c < 128 then H.kn k c else H.kr k (c - 128)) :=
  Rep.cat (m := 1280) (n := 128) (p := 128) concatenates_S1280x128_S1280x128_S1280x256_d1
    ((rep_top (by omega) _ h.h2).same _) ((rep_top (by omega) _ h.h4).same _)
/-- The scores' exponentials. -/
theorem e_4 (h : Blk H 4 x0 x1 x2 x3 x4 x5 x6) :
    Rep (m := 256) (n := 1280) (φ := .f32) (k0_pay68 x0 x1 (top4 x2) (top4 x4)) (fun r k => H.E (1024 + r) k) :=
  Rep.masked 1024 (by omega) (by omega) _ mask_bot iota_S256x1280_d0_w32 iota_S256x1280_d1_w32 reduces_S256x1280_S256 shapeCasts_S256_S256x1
    broadcasts_S256x1_S256x1280 (.inl rfl) rfl
    ((((q2_4 h).nt dot_S256x256_S1280x256_S256x1280_1_1_0_0_n_n.wf none (k2_4 h)).mul (Rep.splat _ _ h.cs)).congr
      (g := fun r k => H.sc (1024 + r) k)
      fun r k _ _ => by rw [sum_parts]; rfl) _ rfl
/-- One over the normalisers. -/
theorem inv_4 (h : Blk H 4 x0 x1 x2 x3 x4 x5 x6) :
    Rep (m := 256) (n := 1) (φ := .f32) (k0_pay69 x0 x1 (top4 x2) (top4 x4)) (fun r _ => 1 / H.L (1024 + r)) :=
  ((Rep.splat _ _ ofBits_one).div ((e_4 h).rowSum reduces_S256x1280_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_4 (h : Blk H 4 x0 x1 x2 x3 x4 x5 x6) :
    Rep (m := 256) (n := 128) (φ := .bf16) (k0_pay65 x5) (fun r c => H.g (1024 + r) c) := h.h5.same _
/-- The scores' gradients. -/
theorem ds_4 (h : Blk H 4 x0 x1 x2 x3 x4 x5 x6) :
    Rep (m := 256) (n := 1280) (φ := .bf16) (k0_pay73 (k0_pay68 x0 x1 (top4 x2) (top4 x4)) (k0_pay69 x0 x1 (top4 x2) (top4 x4))
      (k0_pay70 x5 (top4 x3)) (k0_pay71 x5) (k0_pay72 x6)) (fun r k => H.ds (1024 + r) k) :=
  (((e_4 h).mul
    ((((g_4 h).nt dot_S256x128_S1280x128_S256x1280_1_1_0_0_n_n.wf none ((rep_top (by omega) _ h.h3).same _)).sub
      (((((g_4 h).ext bitsLt_bf16_f32).mul ((h.h6.same _).ext bitsLt_bf16_f32)).rowSum reduces_S256x128_S256 shapeCasts_S256_S256x1 (.inl rfl) rfl).spread
        broadcasts_S256x1_S256x1280 (by omega))).mul
      (((inv_4 h).mul (Rep.splat _ _ h.cs)).spread broadcasts_S256x1_S256x1280 (by omega)))).cut bitsLt_bf16_f32)
/-- The gradient of the block's queries. -/
theorem dqn_4 (h : Blk H 4 x0 x1 x2 x3 x4 x5 x6) :
    Rep (m := 256) (n := 128) (φ := .f32) (dqn4 x0 x1 x2 x3 x4 x5 x6) (fun r c => H.dqn (1024 + r) c) :=
  (((ds_4 h).nn dot_S256x1280_S1280x256_S256x256_1_0_0_1_n_n.wf none (k2_4 h)).slice 0 slices_S256x256_o0_0_S256x128 (by omega)).congr
    fun r c _ hc => by
      rw [← H.dqn_prefix (n := 1280) (by omega) (by omega) c]
      exact Finset.sum_congr rfl fun k _ => by simp only [Nat.zero_add, if_pos hc]
/-- The gradient of the block's rotary queries. -/
theorem dqr_4 (h : Blk H 4 x0 x1 x2 x3 x4 x5 x6) :
    Rep (m := 256) (n := 128) (φ := .f32) (dqr4 x0 x1 x2 x3 x4 x5 x6) (fun r c => H.dqr (1024 + r) c) :=
  (((ds_4 h).nn dot_S256x1280_S1280x256_S256x256_1_0_0_1_n_n.wf none (k2_4 h)).slice 128 slices_S256x256_o0_128_S256x128 (by omega)).congr
    fun r c _ hc => by
      rw [← H.dqr_prefix (n := 1280) (by omega) (by omega) c]
      exact Finset.sum_congr rfl fun k _ => by rw [if_neg (by omega), Nat.add_sub_cancel_left]
/-- The key gradient's accumulator. -/
theorem dkn_4 (h : Blk H 4 x0 x1 x2 x3 x4 x5 x6) {d : Vec Ideal S2048x128 .f32} {B : ℕ → ℕ → ℝ}
    (hd : Rep (φ := .f32) d (fun j c => B j c + H.dkn 1024 j c)) :
    Rep (φ := .f32) (upd 1280 (dkn4 x0 x1 x2 x3 x4 x5 x6 d) d) (fun j c => B j c + H.dkn (1024 + 256) j c) :=
  rep_upd (f := fun q j c => H.ds q j * H.qn q c) (by omega) (by omega) hd
    ((((rep_top (by omega) _ hd).same _).add (((ds_4 h).tn dot_S256x1280_S256x256_S1280x256_0_0_1_1_n_n.wf none (q2_4 h)).slice 0
      slices_S1280x256_o0_0_S1280x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_4 (h : Blk H 4 x0 x1 x2 x3 x4 x5 x6) {d : Vec Ideal S2048x128 .f32} {B : ℕ → ℕ → ℝ}
    (hd : Rep (φ := .f32) d (fun j c => B j c + H.dkr 1024 j c)) :
    Rep (φ := .f32) (upd 1280 (dkr4 x0 x1 x2 x3 x4 x5 x6 d) d) (fun j c => B j c + H.dkr (1024 + 256) j c) :=
  rep_upd (f := fun q j c => H.ds q j * H.qr q c) (by omega) (by omega) hd
    ((((rep_top (by omega) _ hd).same _).add (((ds_4 h).tn dot_S256x1280_S256x256_S1280x256_0_0_1_1_n_n.wf none (q2_4 h)).slice 128
      slices_S1280x256_o0_128_S1280x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_4 (h : Blk H 4 x0 x1 x2 x3 x4 x5 x6) {d : Vec Ideal S2048x128 .f32} {B : ℕ → ℕ → ℝ}
    (hd : Rep (φ := .f32) d (fun j c => B j c + H.dv 1024 j c)) :
    Rep (φ := .f32) (upd 1280 (dv4 x0 x1 x2 x3 x4 x5 x6 d) d) (fun j c => B j c + H.dv (1024 + 256) j c) :=
  rep_upd (f := fun q j c => H.E q j * (H.g q c * (1 / H.L q))) (by omega) (by omega) hd
    (((rep_top (by omega) _ hd).same _).add (((e_4 h).cut bitsLt_bf16_f32).tn dot_S256x1280_S256x128_S1280x128_0_0_1_1_n_n.wf none
      ((((g_4 h).ext bitsLt_bf16_f32).mul ((inv_4 h).spread broadcasts_S256x1_S256x128 (by omega))).cut bitsLt_bf16_f32)))
    (fun q j c hq => by rw [H.E_later hq, zero_mul])

/-! ## Query block 5 -/

/-- Queries with their rotary part. -/
theorem q2_5 (h : Blk H 5 x0 x1 x2 x3 x4 x5 x6) :
    Rep (m := 256) (n := 256) (φ := .bf16) (k0_pay82 x0 x1) (fun r c => if c < 128 then H.qn (1280 + r) c else H.qr (1280 + r) (c - 128)) :=
  Rep.cat (m := 256) (n := 128) (p := 128) concatenates_S256x128_S256x128_S256x256_d1 (h.h0.same _) (h.h1.same _)
/-- Keys with their rotary part. -/
theorem k2_5 (h : Blk H 5 x0 x1 x2 x3 x4 x5 x6) :
    Rep (m := 1536) (n := 256) (φ := .bf16) (k0_pay83 (top5 x2) (top5 x4)) (fun k c => if c < 128 then H.kn k c else H.kr k (c - 128)) :=
  Rep.cat (m := 1536) (n := 128) (p := 128) concatenates_S1536x128_S1536x128_S1536x256_d1
    ((rep_top (by omega) _ h.h2).same _) ((rep_top (by omega) _ h.h4).same _)
/-- The scores' exponentials. -/
theorem e_5 (h : Blk H 5 x0 x1 x2 x3 x4 x5 x6) :
    Rep (m := 256) (n := 1536) (φ := .f32) (k0_pay84 x0 x1 (top5 x2) (top5 x4)) (fun r k => H.E (1280 + r) k) :=
  Rep.masked 1280 (by omega) (by omega) _ mask_bot iota_S256x1536_d0_w32 iota_S256x1536_d1_w32 reduces_S256x1536_S256 shapeCasts_S256_S256x1
    broadcasts_S256x1_S256x1536 (.inl rfl) rfl
    ((((q2_5 h).nt dot_S256x256_S1536x256_S256x1536_1_1_0_0_n_n.wf none (k2_5 h)).mul (Rep.splat _ _ h.cs)).congr
      (g := fun r k => H.sc (1280 + r) k)
      fun r k _ _ => by rw [sum_parts]; rfl) _ rfl
/-- One over the normalisers. -/
theorem inv_5 (h : Blk H 5 x0 x1 x2 x3 x4 x5 x6) :
    Rep (m := 256) (n := 1) (φ := .f32) (k0_pay85 x0 x1 (top5 x2) (top5 x4)) (fun r _ => 1 / H.L (1280 + r)) :=
  ((Rep.splat _ _ ofBits_one).div ((e_5 h).rowSum reduces_S256x1536_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_5 (h : Blk H 5 x0 x1 x2 x3 x4 x5 x6) :
    Rep (m := 256) (n := 128) (φ := .bf16) (k0_pay81 x5) (fun r c => H.g (1280 + r) c) := h.h5.same _
/-- The scores' gradients. -/
theorem ds_5 (h : Blk H 5 x0 x1 x2 x3 x4 x5 x6) :
    Rep (m := 256) (n := 1536) (φ := .bf16) (k0_pay89 (k0_pay84 x0 x1 (top5 x2) (top5 x4)) (k0_pay85 x0 x1 (top5 x2) (top5 x4))
      (k0_pay86 x5 (top5 x3)) (k0_pay87 x5) (k0_pay88 x6)) (fun r k => H.ds (1280 + r) k) :=
  (((e_5 h).mul
    ((((g_5 h).nt dot_S256x128_S1536x128_S256x1536_1_1_0_0_n_n.wf none ((rep_top (by omega) _ h.h3).same _)).sub
      (((((g_5 h).ext bitsLt_bf16_f32).mul ((h.h6.same _).ext bitsLt_bf16_f32)).rowSum reduces_S256x128_S256 shapeCasts_S256_S256x1 (.inl rfl) rfl).spread
        broadcasts_S256x1_S256x1536 (by omega))).mul
      (((inv_5 h).mul (Rep.splat _ _ h.cs)).spread broadcasts_S256x1_S256x1536 (by omega)))).cut bitsLt_bf16_f32)
/-- The gradient of the block's queries. -/
theorem dqn_5 (h : Blk H 5 x0 x1 x2 x3 x4 x5 x6) :
    Rep (m := 256) (n := 128) (φ := .f32) (dqn5 x0 x1 x2 x3 x4 x5 x6) (fun r c => H.dqn (1280 + r) c) :=
  (((ds_5 h).nn dot_S256x1536_S1536x256_S256x256_1_0_0_1_n_n.wf none (k2_5 h)).slice 0 slices_S256x256_o0_0_S256x128 (by omega)).congr
    fun r c _ hc => by
      rw [← H.dqn_prefix (n := 1536) (by omega) (by omega) c]
      exact Finset.sum_congr rfl fun k _ => by simp only [Nat.zero_add, if_pos hc]
/-- The gradient of the block's rotary queries. -/
theorem dqr_5 (h : Blk H 5 x0 x1 x2 x3 x4 x5 x6) :
    Rep (m := 256) (n := 128) (φ := .f32) (dqr5 x0 x1 x2 x3 x4 x5 x6) (fun r c => H.dqr (1280 + r) c) :=
  (((ds_5 h).nn dot_S256x1536_S1536x256_S256x256_1_0_0_1_n_n.wf none (k2_5 h)).slice 128 slices_S256x256_o0_128_S256x128 (by omega)).congr
    fun r c _ hc => by
      rw [← H.dqr_prefix (n := 1536) (by omega) (by omega) c]
      exact Finset.sum_congr rfl fun k _ => by rw [if_neg (by omega), Nat.add_sub_cancel_left]
/-- The key gradient's accumulator. -/
theorem dkn_5 (h : Blk H 5 x0 x1 x2 x3 x4 x5 x6) {d : Vec Ideal S2048x128 .f32} {B : ℕ → ℕ → ℝ}
    (hd : Rep (φ := .f32) d (fun j c => B j c + H.dkn 1280 j c)) :
    Rep (φ := .f32) (upd 1536 (dkn5 x0 x1 x2 x3 x4 x5 x6 d) d) (fun j c => B j c + H.dkn (1280 + 256) j c) :=
  rep_upd (f := fun q j c => H.ds q j * H.qn q c) (by omega) (by omega) hd
    ((((rep_top (by omega) _ hd).same _).add (((ds_5 h).tn dot_S256x1536_S256x256_S1536x256_0_0_1_1_n_n.wf none (q2_5 h)).slice 0
      slices_S1536x256_o0_0_S1536x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_5 (h : Blk H 5 x0 x1 x2 x3 x4 x5 x6) {d : Vec Ideal S2048x128 .f32} {B : ℕ → ℕ → ℝ}
    (hd : Rep (φ := .f32) d (fun j c => B j c + H.dkr 1280 j c)) :
    Rep (φ := .f32) (upd 1536 (dkr5 x0 x1 x2 x3 x4 x5 x6 d) d) (fun j c => B j c + H.dkr (1280 + 256) j c) :=
  rep_upd (f := fun q j c => H.ds q j * H.qr q c) (by omega) (by omega) hd
    ((((rep_top (by omega) _ hd).same _).add (((ds_5 h).tn dot_S256x1536_S256x256_S1536x256_0_0_1_1_n_n.wf none (q2_5 h)).slice 128
      slices_S1536x256_o0_128_S1536x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_5 (h : Blk H 5 x0 x1 x2 x3 x4 x5 x6) {d : Vec Ideal S2048x128 .f32} {B : ℕ → ℕ → ℝ}
    (hd : Rep (φ := .f32) d (fun j c => B j c + H.dv 1280 j c)) :
    Rep (φ := .f32) (upd 1536 (dv5 x0 x1 x2 x3 x4 x5 x6 d) d) (fun j c => B j c + H.dv (1280 + 256) j c) :=
  rep_upd (f := fun q j c => H.E q j * (H.g q c * (1 / H.L q))) (by omega) (by omega) hd
    (((rep_top (by omega) _ hd).same _).add (((e_5 h).cut bitsLt_bf16_f32).tn dot_S256x1536_S256x128_S1536x128_0_0_1_1_n_n.wf none
      ((((g_5 h).ext bitsLt_bf16_f32).mul ((inv_5 h).spread broadcasts_S256x1_S256x128 (by omega))).cut bitsLt_bf16_f32)))
    (fun q j c hq => by rw [H.E_later hq, zero_mul])

/-! ## Query block 6 -/

/-- Queries with their rotary part. -/
theorem q2_6 (h : Blk H 6 x0 x1 x2 x3 x4 x5 x6) :
    Rep (m := 256) (n := 256) (φ := .bf16) (k0_pay98 x0 x1) (fun r c => if c < 128 then H.qn (1536 + r) c else H.qr (1536 + r) (c - 128)) :=
  Rep.cat (m := 256) (n := 128) (p := 128) concatenates_S256x128_S256x128_S256x256_d1 (h.h0.same _) (h.h1.same _)
/-- Keys with their rotary part. -/
theorem k2_6 (h : Blk H 6 x0 x1 x2 x3 x4 x5 x6) :
    Rep (m := 1792) (n := 256) (φ := .bf16) (k0_pay99 (top6 x2) (top6 x4)) (fun k c => if c < 128 then H.kn k c else H.kr k (c - 128)) :=
  Rep.cat (m := 1792) (n := 128) (p := 128) concatenates_S1792x128_S1792x128_S1792x256_d1
    ((rep_top (by omega) _ h.h2).same _) ((rep_top (by omega) _ h.h4).same _)
/-- The scores' exponentials. -/
theorem e_6 (h : Blk H 6 x0 x1 x2 x3 x4 x5 x6) :
    Rep (m := 256) (n := 1792) (φ := .f32) (k0_pay100 x0 x1 (top6 x2) (top6 x4)) (fun r k => H.E (1536 + r) k) :=
  Rep.masked 1536 (by omega) (by omega) _ mask_bot iota_S256x1792_d0_w32 iota_S256x1792_d1_w32 reduces_S256x1792_S256 shapeCasts_S256_S256x1
    broadcasts_S256x1_S256x1792 (.inl rfl) rfl
    ((((q2_6 h).nt dot_S256x256_S1792x256_S256x1792_1_1_0_0_n_n.wf none (k2_6 h)).mul (Rep.splat _ _ h.cs)).congr
      (g := fun r k => H.sc (1536 + r) k)
      fun r k _ _ => by rw [sum_parts]; rfl) _ rfl
/-- One over the normalisers. -/
theorem inv_6 (h : Blk H 6 x0 x1 x2 x3 x4 x5 x6) :
    Rep (m := 256) (n := 1) (φ := .f32) (k0_pay101 x0 x1 (top6 x2) (top6 x4)) (fun r _ => 1 / H.L (1536 + r)) :=
  ((Rep.splat _ _ ofBits_one).div ((e_6 h).rowSum reduces_S256x1792_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_6 (h : Blk H 6 x0 x1 x2 x3 x4 x5 x6) :
    Rep (m := 256) (n := 128) (φ := .bf16) (k0_pay97 x5) (fun r c => H.g (1536 + r) c) := h.h5.same _
/-- The scores' gradients. -/
theorem ds_6 (h : Blk H 6 x0 x1 x2 x3 x4 x5 x6) :
    Rep (m := 256) (n := 1792) (φ := .bf16) (k0_pay105 (k0_pay100 x0 x1 (top6 x2) (top6 x4)) (k0_pay101 x0 x1 (top6 x2) (top6 x4))
      (k0_pay102 x5 (top6 x3)) (k0_pay103 x5) (k0_pay104 x6)) (fun r k => H.ds (1536 + r) k) :=
  (((e_6 h).mul
    ((((g_6 h).nt dot_S256x128_S1792x128_S256x1792_1_1_0_0_n_n.wf none ((rep_top (by omega) _ h.h3).same _)).sub
      (((((g_6 h).ext bitsLt_bf16_f32).mul ((h.h6.same _).ext bitsLt_bf16_f32)).rowSum reduces_S256x128_S256 shapeCasts_S256_S256x1 (.inl rfl) rfl).spread
        broadcasts_S256x1_S256x1792 (by omega))).mul
      (((inv_6 h).mul (Rep.splat _ _ h.cs)).spread broadcasts_S256x1_S256x1792 (by omega)))).cut bitsLt_bf16_f32)
/-- The gradient of the block's queries. -/
theorem dqn_6 (h : Blk H 6 x0 x1 x2 x3 x4 x5 x6) :
    Rep (m := 256) (n := 128) (φ := .f32) (dqn6 x0 x1 x2 x3 x4 x5 x6) (fun r c => H.dqn (1536 + r) c) :=
  (((ds_6 h).nn dot_S256x1792_S1792x256_S256x256_1_0_0_1_n_n.wf none (k2_6 h)).slice 0 slices_S256x256_o0_0_S256x128 (by omega)).congr
    fun r c _ hc => by
      rw [← H.dqn_prefix (n := 1792) (by omega) (by omega) c]
      exact Finset.sum_congr rfl fun k _ => by simp only [Nat.zero_add, if_pos hc]
/-- The gradient of the block's rotary queries. -/
theorem dqr_6 (h : Blk H 6 x0 x1 x2 x3 x4 x5 x6) :
    Rep (m := 256) (n := 128) (φ := .f32) (dqr6 x0 x1 x2 x3 x4 x5 x6) (fun r c => H.dqr (1536 + r) c) :=
  (((ds_6 h).nn dot_S256x1792_S1792x256_S256x256_1_0_0_1_n_n.wf none (k2_6 h)).slice 128 slices_S256x256_o0_128_S256x128 (by omega)).congr
    fun r c _ hc => by
      rw [← H.dqr_prefix (n := 1792) (by omega) (by omega) c]
      exact Finset.sum_congr rfl fun k _ => by rw [if_neg (by omega), Nat.add_sub_cancel_left]
/-- The key gradient's accumulator. -/
theorem dkn_6 (h : Blk H 6 x0 x1 x2 x3 x4 x5 x6) {d : Vec Ideal S2048x128 .f32} {B : ℕ → ℕ → ℝ}
    (hd : Rep (φ := .f32) d (fun j c => B j c + H.dkn 1536 j c)) :
    Rep (φ := .f32) (upd 1792 (dkn6 x0 x1 x2 x3 x4 x5 x6 d) d) (fun j c => B j c + H.dkn (1536 + 256) j c) :=
  rep_upd (f := fun q j c => H.ds q j * H.qn q c) (by omega) (by omega) hd
    ((((rep_top (by omega) _ hd).same _).add (((ds_6 h).tn dot_S256x1792_S256x256_S1792x256_0_0_1_1_n_n.wf none (q2_6 h)).slice 0
      slices_S1792x256_o0_0_S1792x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_6 (h : Blk H 6 x0 x1 x2 x3 x4 x5 x6) {d : Vec Ideal S2048x128 .f32} {B : ℕ → ℕ → ℝ}
    (hd : Rep (φ := .f32) d (fun j c => B j c + H.dkr 1536 j c)) :
    Rep (φ := .f32) (upd 1792 (dkr6 x0 x1 x2 x3 x4 x5 x6 d) d) (fun j c => B j c + H.dkr (1536 + 256) j c) :=
  rep_upd (f := fun q j c => H.ds q j * H.qr q c) (by omega) (by omega) hd
    ((((rep_top (by omega) _ hd).same _).add (((ds_6 h).tn dot_S256x1792_S256x256_S1792x256_0_0_1_1_n_n.wf none (q2_6 h)).slice 128
      slices_S1792x256_o0_128_S1792x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_6 (h : Blk H 6 x0 x1 x2 x3 x4 x5 x6) {d : Vec Ideal S2048x128 .f32} {B : ℕ → ℕ → ℝ}
    (hd : Rep (φ := .f32) d (fun j c => B j c + H.dv 1536 j c)) :
    Rep (φ := .f32) (upd 1792 (dv6 x0 x1 x2 x3 x4 x5 x6 d) d) (fun j c => B j c + H.dv (1536 + 256) j c) :=
  rep_upd (f := fun q j c => H.E q j * (H.g q c * (1 / H.L q))) (by omega) (by omega) hd
    (((rep_top (by omega) _ hd).same _).add (((e_6 h).cut bitsLt_bf16_f32).tn dot_S256x1792_S256x128_S1792x128_0_0_1_1_n_n.wf none
      ((((g_6 h).ext bitsLt_bf16_f32).mul ((inv_6 h).spread broadcasts_S256x1_S256x128 (by omega))).cut bitsLt_bf16_f32)))
    (fun q j c hq => by rw [H.E_later hq, zero_mul])

/-! ## Query block 7 -/

/-- Queries with their rotary part. -/
theorem q2_7 (h : Blk H 7 x0 x1 x2 x3 x4 x5 x6) :
    Rep (m := 256) (n := 256) (φ := .bf16) (k0_pay114 x0 x1) (fun r c => if c < 128 then H.qn (1792 + r) c else H.qr (1792 + r) (c - 128)) :=
  Rep.cat (m := 256) (n := 128) (p := 128) concatenates_S256x128_S256x128_S256x256_d1 (h.h0.same _) (h.h1.same _)
/-- Keys with their rotary part. -/
theorem k2_7 (h : Blk H 7 x0 x1 x2 x3 x4 x5 x6) :
    Rep (m := 2048) (n := 256) (φ := .bf16) (k0_pay115 (top7 x2) (top7 x4)) (fun k c => if c < 128 then H.kn k c else H.kr k (c - 128)) :=
  Rep.cat (m := 2048) (n := 128) (p := 128) concatenates_S2048x128_S2048x128_S2048x256_d1
    ((rep_top (by omega) _ h.h2).same _) ((rep_top (by omega) _ h.h4).same _)
/-- The scores' exponentials. -/
theorem e_7 (h : Blk H 7 x0 x1 x2 x3 x4 x5 x6) :
    Rep (m := 256) (n := 2048) (φ := .f32) (k0_pay116 x0 x1 (top7 x2) (top7 x4)) (fun r k => H.E (1792 + r) k) :=
  Rep.masked 1792 (by omega) (by omega) _ mask_bot iota_S256x2048_d0_w32 iota_S256x2048_d1_w32 reduces_S256x2048_S256 shapeCasts_S256_S256x1
    broadcasts_S256x1_S256x2048 (.inl rfl) rfl
    ((((q2_7 h).nt dot_S256x256_S2048x256_S256x2048_1_1_0_0_n_n.wf none (k2_7 h)).mul (Rep.splat _ _ h.cs)).congr
      (g := fun r k => H.sc (1792 + r) k)
      fun r k _ _ => by rw [sum_parts]; rfl) _ rfl
/-- One over the normalisers. -/
theorem inv_7 (h : Blk H 7 x0 x1 x2 x3 x4 x5 x6) :
    Rep (m := 256) (n := 1) (φ := .f32) (k0_pay117 x0 x1 (top7 x2) (top7 x4)) (fun r _ => 1 / H.L (1792 + r)) :=
  ((Rep.splat _ _ ofBits_one).div ((e_7 h).rowSum reduces_S256x2048_S256 shapeCasts_S256_S256x1 (.inl rfl) rfl)
    (fun r c hr _ => by rw [H.L_prefix (by omega) (by omega)]; exact H.L_ne (by omega))).congr
    fun r c hr _ => by rw [H.L_prefix (by omega) (by omega)]
/-- The incoming gradient. -/
theorem g_7 (h : Blk H 7 x0 x1 x2 x3 x4 x5 x6) :
    Rep (m := 256) (n := 128) (φ := .bf16) (k0_pay113 x5) (fun r c => H.g (1792 + r) c) := h.h5.same _
/-- The scores' gradients. -/
theorem ds_7 (h : Blk H 7 x0 x1 x2 x3 x4 x5 x6) :
    Rep (m := 256) (n := 2048) (φ := .bf16) (k0_pay121 (k0_pay116 x0 x1 (top7 x2) (top7 x4)) (k0_pay117 x0 x1 (top7 x2) (top7 x4))
      (k0_pay118 x5 (top7 x3)) (k0_pay119 x5) (k0_pay120 x6)) (fun r k => H.ds (1792 + r) k) :=
  (((e_7 h).mul
    ((((g_7 h).nt dot_S256x128_S2048x128_S256x2048_1_1_0_0_n_n.wf none ((rep_top (by omega) _ h.h3).same _)).sub
      (((((g_7 h).ext bitsLt_bf16_f32).mul ((h.h6.same _).ext bitsLt_bf16_f32)).rowSum reduces_S256x128_S256 shapeCasts_S256_S256x1 (.inl rfl) rfl).spread
        broadcasts_S256x1_S256x2048 (by omega))).mul
      (((inv_7 h).mul (Rep.splat _ _ h.cs)).spread broadcasts_S256x1_S256x2048 (by omega)))).cut bitsLt_bf16_f32)
/-- The gradient of the block's queries. -/
theorem dqn_7 (h : Blk H 7 x0 x1 x2 x3 x4 x5 x6) :
    Rep (m := 256) (n := 128) (φ := .f32) (dqn7 x0 x1 x2 x3 x4 x5 x6) (fun r c => H.dqn (1792 + r) c) :=
  (((ds_7 h).nn dot_S256x2048_S2048x256_S256x256_1_0_0_1_n_n.wf none (k2_7 h)).slice 0 slices_S256x256_o0_0_S256x128 (by omega)).congr
    fun r c _ hc => by
      rw [← H.dqn_prefix (n := 2048) (by omega) (by omega) c]
      exact Finset.sum_congr rfl fun k _ => by simp only [Nat.zero_add, if_pos hc]
/-- The gradient of the block's rotary queries. -/
theorem dqr_7 (h : Blk H 7 x0 x1 x2 x3 x4 x5 x6) :
    Rep (m := 256) (n := 128) (φ := .f32) (dqr7 x0 x1 x2 x3 x4 x5 x6) (fun r c => H.dqr (1792 + r) c) :=
  (((ds_7 h).nn dot_S256x2048_S2048x256_S256x256_1_0_0_1_n_n.wf none (k2_7 h)).slice 128 slices_S256x256_o0_128_S256x128 (by omega)).congr
    fun r c _ hc => by
      rw [← H.dqr_prefix (n := 2048) (by omega) (by omega) c]
      exact Finset.sum_congr rfl fun k _ => by rw [if_neg (by omega), Nat.add_sub_cancel_left]
/-- The key gradient's accumulator. -/
theorem dkn_7 (h : Blk H 7 x0 x1 x2 x3 x4 x5 x6) {d : Vec Ideal S2048x128 .f32} {B : ℕ → ℕ → ℝ}
    (hd : Rep (φ := .f32) d (fun j c => B j c + H.dkn 1792 j c)) :
    Rep (φ := .f32) (upd 2048 (dkn7 x0 x1 x2 x3 x4 x5 x6 d) d) (fun j c => B j c + H.dkn (1792 + 256) j c) :=
  rep_upd (f := fun q j c => H.ds q j * H.qn q c) (by omega) (by omega) hd
    ((((rep_top (by omega) _ hd).same _).add (((ds_7 h).tn dot_S256x2048_S256x256_S2048x256_0_0_1_1_n_n.wf none (q2_7 h)).slice 0
      slices_S2048x256_o0_0_S2048x128 (by omega))).congr fun j c _ hc => by
        show _ + _ = _ + _
        congr 1
        exact Finset.sum_congr rfl fun k _ => by simp only [Nat.zero_add, if_pos hc])
    (fun q j c hq => by rw [H.ds_later hq, zero_mul])
/-- The rotary key gradient's accumulator. -/
theorem dkr_7 (h : Blk H 7 x0 x1 x2 x3 x4 x5 x6) {d : Vec Ideal S2048x128 .f32} {B : ℕ → ℕ → ℝ}
    (hd : Rep (φ := .f32) d (fun j c => B j c + H.dkr 1792 j c)) :
    Rep (φ := .f32) (upd 2048 (dkr7 x0 x1 x2 x3 x4 x5 x6 d) d) (fun j c => B j c + H.dkr (1792 + 256) j c) :=
  rep_upd (f := fun q j c => H.ds q j * H.qr q c) (by omega) (by omega) hd
    ((((rep_top (by omega) _ hd).same _).add (((ds_7 h).tn dot_S256x2048_S256x256_S2048x256_0_0_1_1_n_n.wf none (q2_7 h)).slice 128
      slices_S2048x256_o0_128_S2048x128 (by omega))).congr fun j c _ hc => by
        show _ + _ = _ + _
        congr 1
        exact Finset.sum_congr rfl fun k _ => by rw [if_neg (by omega), Nat.add_sub_cancel_left])
    (fun q j c hq => by rw [H.ds_later hq, zero_mul])
/-- The value gradient's accumulator. -/
theorem dv_7 (h : Blk H 7 x0 x1 x2 x3 x4 x5 x6) {d : Vec Ideal S2048x128 .f32} {B : ℕ → ℕ → ℝ}
    (hd : Rep (φ := .f32) d (fun j c => B j c + H.dv 1792 j c)) :
    Rep (φ := .f32) (upd 2048 (dv7 x0 x1 x2 x3 x4 x5 x6 d) d) (fun j c => B j c + H.dv (1792 + 256) j c) :=
  rep_upd (f := fun q j c => H.E q j * (H.g q c * (1 / H.L q))) (by omega) (by omega) hd
    (((rep_top (by omega) _ hd).same _).add (((e_7 h).cut bitsLt_bf16_f32).tn dot_S256x2048_S256x128_S2048x128_0_0_1_1_n_n.wf none
      ((((g_7 h).ext bitsLt_bf16_f32).mul ((inv_7 h).spread broadcasts_S256x1_S256x128 (by omega))).cut bitsLt_bf16_f32)))
    (fun q j c hq => by rw [H.E_later hq, zero_mul])

end Cert.KernelIdeal.Attn
-- ==== Proof.AttnAcc.lean ====
module

public import proofs.«01_k».proof.Proof.AttnState
public import proofs.«01_k».proof.Proof.AttnValue

/-! # What the outputs hold after each grid point

    Point `t` is query block `t % 8` of head `t / 8`.  When every point's input blocks hold that head's arrays, the
    query gradients are the head's, the key and value accumulators hold the sums over the head's queries so far, and the
    rotary key accumulator adds to them the sums of the heads before. -/

@[expose] public section

set_option maxRecDepth 16384

noncomputable section

namespace Cert.KernelIdeal.Attn

open Cert.KernelIdeal Cert.KernelIdeal.Gen
open Idealize.ShloMosaic Idealize.ShloMosaic.TcCoe
open Idealize.ShloMosaic.ValueIdx (ix2 ix3 eq_ix2)
open Cert.Attn (Head Rep coe_sum_fin)
open Finset (range)

section Block
variable {H : Head} {i : ℕ} {x0 x1 : Vec Ideal S256x128 .bf16} {x2 x3 x4 : Vec Ideal S2048x128 .bf16} {x5 x6 : Vec Ideal S256x128 .bf16}

/-- The gradient of the queries of block `i`. -/
theorem dqnAt_rep (hi : i < 8) (h : Blk H i x0 x1 x2 x3 x4 x5 x6) :
    Rep (m := 256) (n := 128) (φ := .f32) (dqnAt i x0 x1 x2 x3 x4 x5 x6) (fun r c => H.dqn (256 * i + r) c) := by
  match i, hi with
  | 0, _ => exact dqn_0 h
  | 1, _ => exact dqn_1 h
  | 2, _ => exact dqn_2 h
  | 3, _ => exact dqn_3 h
  | 4, _ => exact dqn_4 h
  | 5, _ => exact dqn_5 h
  | 6, _ => exact dqn_6 h
  | 7, _ => exact dqn_7 h

/-- The gradient of the rotary queries of block `i`. -/
theorem dqrAt_rep (hi : i < 8) (h : Blk H i x0 x1 x2 x3 x4 x5 x6) :
    Rep (m := 256) (n := 128) (φ := .f32) (dqrAt i x0 x1 x2 x3 x4 x5 x6) (fun r c => H.dqr (256 * i + r) c) := by
  match i, hi with
  | 0, _ => exact dqr_0 h
  | 1, _ => exact dqr_1 h
  | 2, _ => exact dqr_2 h
  | 3, _ => exact dqr_3 h
  | 4, _ => exact dqr_4 h
  | 5, _ => exact dqr_5 h
  | 6, _ => exact dqr_6 h
  | 7, _ => exact dqr_7 h

variable {d : Vec Ideal S2048x128 .f32} {B : ℕ → ℕ → ℝ}

/-- The key accumulator moves on by block `i`. -/
theorem dknAt_rep (hi : i < 8) (h : Blk H i x0 x1 x2 x3 x4 x5 x6) (hd : Rep (φ := .f32) d (fun j c => B j c + H.dkn (256 * i) j c)) :
    Rep (φ := .f32) (dknAt i x0 x1 x2 x3 x4 x5 x6 d) (fun j c => B j c + H.dkn (256 * i + 256) j c) := by
  match i, hi with
  | 0, _ => exact dkn_0 h hd
  | 1, _ => exact dkn_1 h hd
  | 2, _ => exact dkn_2 h hd
  | 3, _ => exact dkn_3 h hd
  | 4, _ => exact dkn_4 h hd
  | 5, _ => exact dkn_5 h hd
  | 6, _ => exact dkn_6 h hd
  | 7, _ => exact dkn_7 h hd

/-- The rotary key accumulator moves on by block `i`. -/
theorem dkrAt_rep (hi : i < 8) (h : Blk H i x0 x1 x2 x3 x4 x5 x6) (hd : Rep (φ := .f32) d (fun j c => B j c + H.dkr (256 * i) j c)) :
    Rep (φ := .f32) (dkrAt i x0 x1 x2 x3 x4 x5 x6 d) (fun j c => B j c + H.dkr (256 * i + 256) j c) := by
  match i, hi with
  | 0, _ => exact dkr_0 h hd
  | 1, _ => exact dkr_1 h hd
  | 2, _ => exact dkr_2 h hd
  | 3, _ => exact dkr_3 h hd
  | 4, _ => exact dkr_4 h hd
  | 5, _ => exact dkr_5 h hd
  | 6, _ => exact dkr_6 h hd
  | 7, _ => exact dkr_7 h hd

/-- The value accumulator moves on by block `i`. -/
theorem dvAt_rep (hi : i < 8) (h : Blk H i x0 x1 x2 x3 x4 x5 x6) (hd : Rep (φ := .f32) d (fun j c => B j c + H.dv (256 * i) j c)) :
    Rep (φ := .f32) (dvAt i x0 x1 x2 x3 x4 x5 x6 d) (fun j c => B j c + H.dv (256 * i + 256) j c) := by
  match i, hi with
  | 0, _ => exact dv_0 h hd
  | 1, _ => exact dv_1 h hd
  | 2, _ => exact dv_2 h hd
  | 3, _ => exact dv_3 h hd
  | 4, _ => exact dv_4 h hd
  | 5, _ => exact dv_5 h hd
  | 6, _ => exact dv_6 h hd
  | 7, _ => exact dv_7 h hd

end Block

/-- A zeroed accumulator. -/
theorem rep_zeros : Rep (φ := .f32) (zeros (F := Ideal)) (fun _ _ => 0) := fun r c => by
  rw [EReal.coe_zero]
  exact Ideal.ofBits_zero_f32

variable (m : (ℓ : Loc nD τ sig) → Buf (Elt Ideal) ℓ) (c : Dev nD) (Hd : ℕ → Head)

/-- Every point's input blocks hold its head's arrays. -/
def Blocks : Prop := ∀ t : Fin cfg0.N, Blk (Hd (t.val / 8)) (t.val % 8) (b0 m c t) (b1 m c t) (b2 m c t) (b3 m c t) (b4 m c t) (b5 m c t) (b6 m c t)

variable {m c Hd}

/-- The key gradient so far. -/
theorem acc9_rep (hB : Blocks m c Hd) : ∀ (n : ℕ) (hn : n < cfg0.N),
    Rep (φ := .f32) (acc9 m c n hn) (fun j k => (Hd (n / 8)).dkn (256 * (n % 8) + 256) j k) := by
  intro n
  induction n with
  | zero =>
    intro hn
    rw [acc9_eq m c ⟨0, hn⟩]
    exact (dknAt_rep (B := fun _ _ => 0) (by omega) (hB ⟨0, hn⟩) (rep_zeros.congr fun _ _ _ _ => by simp [Head.dkn])).congr
      fun _ _ _ _ => zero_add _
  | succ n ih =>
    intro hn
    rw [acc9_eq m c ⟨n + 1, hn⟩]
    refine (dknAt_rep (B := fun _ _ => 0) (Nat.mod_lt _ (by omega)) (hB ⟨n + 1, hn⟩) ?_).congr fun _ _ _ _ => zero_add _
    unfold pre9
    by_cases h : (n + 1) % 8 = 0
    · rw [if_pos h]
      exact rep_zeros.congr fun _ _ _ _ => by simp [Head.dkn, h]
    · rw [if_neg h]
      refine (ih (by omega)).congr fun j k _ _ => ?_
      show _ = 0 + (Hd ((n + 1) / 8)).dkn (256 * ((n + 1) % 8)) j k
      rw [zero_add, show (n + 1) / 8 = n / 8 by omega, show 256 * ((n + 1) % 8) = 256 * (n % 8) + 256 by omega]

/-- The value gradient so far. -/
theorem acc10_rep (hB : Blocks m c Hd) : ∀ (n : ℕ) (hn : n < cfg0.N),
    Rep (φ := .f32) (acc10 m c n hn) (fun j k => (Hd (n / 8)).dv (256 * (n % 8) + 256) j k) := by
  intro n
  induction n with
  | zero =>
    intro hn
    rw [acc10_eq m c ⟨0, hn⟩]
    exact (dvAt_rep (B := fun _ _ => 0) (by omega) (hB ⟨0, hn⟩) (rep_zeros.congr fun _ _ _ _ => by simp [Head.dv])).congr
      fun _ _ _ _ => zero_add _
  | succ n ih =>
    intro hn
    rw [acc10_eq m c ⟨n + 1, hn⟩]
    refine (dvAt_rep (B := fun _ _ => 0) (Nat.mod_lt _ (by omega)) (hB ⟨n + 1, hn⟩) ?_).congr fun _ _ _ _ => zero_add _
    unfold pre10
    by_cases h : (n + 1) % 8 = 0
    · rw [if_pos h]
      exact rep_zeros.congr fun _ _ _ _ => by simp [Head.dv, h]
    · rw [if_neg h]
      refine (ih (by omega)).congr fun j k _ _ => ?_
      show _ = 0 + (Hd ((n + 1) / 8)).dv (256 * ((n + 1) % 8)) j k
      rw [zero_add, show (n + 1) / 8 = n / 8 by omega, show 256 * ((n + 1) % 8) = 256 * (n % 8) + 256 by omega]

/-- The rotary key gradient so far: the heads before, and this head's queries so far. -/
theorem acc11_rep (hB : Blocks m c Hd) : ∀ (n : ℕ) (hn : n < cfg0.N),
    Rep (φ := .f32) (acc11 m c n hn)
      (fun j k => (∑ h ∈ range (n / 8), (Hd h).dkr 2048 j k) + (Hd (n / 8)).dkr (256 * (n % 8) + 256) j k) := by
  intro n
  induction n with
  | zero =>
    intro hn
    rw [acc11_eq m c ⟨0, hn⟩]
    exact (dkrAt_rep (B := fun _ _ => 0) (by omega) (hB ⟨0, hn⟩) (rep_zeros.congr fun _ _ _ _ => by simp [Head.dkr])).congr
      fun _ _ _ _ => by simp
  | succ n ih =>
    intro hn
    have hN : n + 1 < 64 := hn
    rw [acc11_eq m c ⟨n + 1, hn⟩]
    refine dkrAt_rep (B := fun j k => ∑ h ∈ range ((n + 1) / 8), (Hd h).dkr 2048 j k) (Nat.mod_lt _ (by omega)) (hB ⟨n + 1, hn⟩) ?_
    unfold pre11
    rw [if_neg (show ¬ (n + 1) % 64 = 0 by omega)]
    refine (ih (by omega)).congr fun j k _ _ => ?_
    show _ = (∑ h ∈ range ((n + 1) / 8), (Hd h).dkr 2048 j k) + (Hd ((n + 1) / 8)).dkr (256 * ((n + 1) % 8)) j k
    by_cases h : (n + 1) % 8 = 0
    · rw [show (n + 1) / 8 = n / 8 + 1 by omega, Finset.sum_range_succ, show 256 * (n % 8) + 256 = 2048 by omega, h]
      simp [Head.dkr]
    · rw [show (n + 1) / 8 = n / 8 by omega, show 256 * ((n + 1) % 8) = 256 * (n % 8) + 256 by omega]

end Cert.KernelIdeal.Attn
-- ==== Proof.AttnHost.lean ====
module

public import proofs.«01_k».proof.Proof.AttnForward
public import proofs.«01_k».proof.Proof.AttnAcc
public import Idealize.ShloMosaic.Lib.StableHlo.RunRead

/-! # What the host hands the kernel

    The lines before the kernel: each array folded to rows by columns (the heads side by side), the rotary ones padded
    with zeros to 128 columns, keys and values side by side in one array, and the attention's output. -/

@[expose] public section

set_option maxRecDepth 16384

noncomputable section

namespace Cert.KernelIdeal.Attn

open Cert.KernelIdeal Cert.KernelIdeal.Gen
open Idealize.ShloMosaic Idealize.ShloMosaic.TcCoe Idealize.ShloMosaic.StableHlo
open Idealize.ShloMosaic.ValueIdx
open Cert.Attn (Args X3 X4 at3 at4 Rep at4_in at3_in at4_out at3_out)

variable (m : (ℓ : Loc nD τ sig) → Buf (Elt Ideal) ℓ) (c : Dev nD)

/-- The program's six arrays. -/
def args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)

/-- The zero the arrays are padded with. -/
def padding : FVec Ideal S_ .f32 := sitofp .f32 (constantI S_ 32 0#32)

/-- An array of rows, heads and 128 columns folded to rows by columns. -/
def fold4 (x : X4 128) : FVec Ideal S2048x1024 .f32 := shapeCast S2048x1024 x shapeCasts_S1x2048x8x128_S2048x1024
/-- A rotary query array padded and folded. -/
def foldPad4 (x : X4 64) : FVec Ideal S2048x1024 .f32 :=
  shapeCast S2048x1024 (pad S2048x8x128 ![0, 0, 0] ![0, 0, 64] ![0, 0, 0] (shapeCast S2048x8x64 x shapeCasts_S1x2048x8x64_S2048x8x64) padding
    pads_S2048x8x64_S2048x8x128_000_000_0640 h_S_) shapeCasts_S2048x8x128_S2048x1024
/-- The rotary key array padded. -/
def pad3 (x : X3) : FVec Ideal S2048x128 .f32 :=
  pad S2048x128 ![0, 0] ![0, 64] ![0, 0] (shapeCast S2048x64 x shapeCasts_S1x2048x64_S2048x64) padding pads_S2048x64_S2048x128_000_0640 h_S_
/-- Two folded arrays side by side. -/
def beside (x y : FVec Ideal S2048x1024 .f32) : FVec Ideal S2048x2048 .f32 :=
  concatenate S2048x2048 1 [⟨S2048x1024, x⟩, ⟨S2048x1024, y⟩] concatenates_S2048x1024_S2048x1024_S2048x2048_d1

/-- The queries that the call finds. -/
theorem V_v1 : V m c main_v1 = truncf .bf16 (fold4 (args m c).x0) bitsLt_bf16_f32 := by
  unfold V
  after_reads_simp
  rfl
/-- The queries' rotary part. -/
theorem V_v5 : V m c main_v5 = truncf .bf16 (foldPad4 (args m c).x1) bitsLt_bf16_f32 := by
  unfold V
  after_reads_simp
  rfl
/-- Keys and values side by side. -/
theorem V_v9 : V m c main_v9 = truncf .bf16 (beside (fold4 (args m c).x2) (fold4 (args m c).x4)) bitsLt_bf16_f32 := by
  unfold V
  after_reads_simp
  rfl
/-- The keys' rotary part. -/
theorem V_v12 : V m c main_v12 = truncf .bf16 (pad3 (args m c).x3) bitsLt_bf16_f32 := by
  unfold V
  after_reads_simp
  rfl
/-- The incoming gradient. -/
theorem V_v14 : V m c main_v14 = truncf .bf16 (fold4 (args m c).x5) bitsLt_bf16_f32 := by
  unfold V
  after_reads_simp
  rfl
/-- The saved output. -/
theorem V_v42 : V m c main_v42 = truncf .bf16 (fold4 (Cert.ReferenceIdeal.Read.val_main_v42 (F := Ideal) (args m c).x0 (args m c).x1 (args m c).x2
    (args m c).x3 (args m c).x4)) bitsLt_bf16_f32 := by
  unfold V
  after_reads_simp
  rfl

/-! ## The arrays at a row and column -/

/-- A folded array, head `h`'s columns from `128 h` on. -/
theorem fold4_apply (x : X4 128) (r : Fin 2048) (h : Fin 8) (k : Fin 128) (j : Fin 1024) (hj : j.val = 128 * h.val + k.val) :
    fold4 x (ix2 r j) = x (ix4 0 r h k) := by
  unfold fold4
  refine shapeCast_apply x _ (ix2 r j) (ix4 0 r h k) ?_
  rw [Shape.rowMajor_val_four, Shape.rowMajor_val_two]
  show ((0 * 2048 + r.val) * 8 + h.val) * 128 + k.val = r.val * 1024 + j.val
  omega

/-- Padding is zero. -/
theorem padding_zero (i : S_.Idx) : padding i = ((0 : ℝ) : EReal) := by
  show (((0#32 : BitVec 32).toInt : ℝ) : EReal) = _
  simp

/-- A padded folded array. -/
theorem foldPad4_apply {x : X4 64} (hx : Cert.Attn.Finite x) (r : Fin 2048) (h : Fin 8) (k : Fin 128) (j : Fin 1024)
    (hj : j.val = 128 * h.val + k.val) : foldPad4 x (ix2 r j) = ((at4 x h.val r.val k.val : ℝ) : EReal) := by
  unfold foldPad4
  refine (shapeCast_apply _ _ (ix2 r j) (ix3 r h k) ?_).trans ?_
  · rw [Shape.rowMajor_val_three, Shape.rowMajor_val_two]
    show (r.val * 8 + h.val) * 128 + k.val = r.val * 1024 + j.val
    omega
  · by_cases hk : k.val < 64
    · refine (pad_apply_of_inside _ _ _ _ _ _ _ _ (ix3 r h (⟨k.val, hk⟩ : Fin 64)) fun b => ?_).trans ?_
      · match b with
        | ⟨0, _⟩ => show r.val = 0 + r.val * (0 + 1); omega
        | ⟨1, _⟩ => show h.val = 0 + h.val * (0 + 1); omega
        | ⟨2, _⟩ => show k.val = 0 + k.val * (0 + 1); omega
      · refine (shapeCast_apply x _ _ (ix4 0 r h (⟨k.val, hk⟩ : Fin 64)) ?_).trans (at4_in hx 0 r h ⟨k.val, hk⟩)
        rw [Shape.rowMajor_val_four, Shape.rowMajor_val_three]
        show ((0 * 2048 + r.val) * 8 + h.val) * 64 + k.val = (r.val * 8 + h.val) * 64 + k.val
        omega
    · rw [at4_out _ _ _ _ (by omega)]
      refine (pad_apply_of_not_inside _ _ _ _ _ _ _ _ (2 : Fin 3) ?_).trans (padding_zero _)
      show ¬ (0 ≤ k.val ∧ (k.val - 0) % (0 + 1) = 0 ∧ (k.val - 0) / (0 + 1) < 64)
      omega

/-- A padded array. -/
theorem pad3_apply {x : X3} (hx : Cert.Attn.Finite x) (r : Fin 2048) (k : Fin 128) :
    pad3 x (ix2 r k) = ((at3 x r.val k.val : ℝ) : EReal) := by
  unfold pad3
  by_cases hk : k.val < 64
  · refine (pad_apply_of_inside _ _ _ _ _ _ _ _ (ix2 r (⟨k.val, hk⟩ : Fin 64)) fun b => ?_).trans ?_
    · match b with
      | ⟨0, _⟩ => show r.val = 0 + r.val * (0 + 1); omega
      | ⟨1, _⟩ => show k.val = 0 + k.val * (0 + 1); omega
    · refine (shapeCast_apply x _ _ (ix3 0 r (⟨k.val, hk⟩ : Fin 64)) ?_).trans (at3_in hx 0 r ⟨k.val, hk⟩)
      rw [Shape.rowMajor_val_three, Shape.rowMajor_val_two]
      show (0 * 2048 + r.val) * 64 + k.val = r.val * 64 + k.val
      omega
  · rw [at3_out _ _ _ (by omega)]
    refine (pad_apply_of_not_inside _ _ _ _ _ _ _ _ (1 : Fin 2) ?_).trans (padding_zero _)
    show ¬ (0 ≤ k.val ∧ (k.val - 0) % (0 + 1) = 0 ∧ (k.val - 0) / (0 + 1) < 64)
    omega

/-- Two arrays side by side: the left one's columns. -/
theorem beside_left (x y : FVec Ideal S2048x1024 .f32) (r : Fin 2048) (j : Fin 2048) (i : Fin 1024) (hj : j.val = i.val) :
    beside x y (ix2 r j) = x (ix2 r i) := by
  unfold beside
  exact concatenate_pair_apply_left 1 x y _ (ix2 r j) rfl (ix2 r i) fun b => by
    match b with
    | ⟨0, _⟩ => rfl
    | ⟨1, _⟩ => exact hj.symm

/-- Two arrays side by side: the right one's columns. -/
theorem beside_right (x y : FVec Ideal S2048x1024 .f32) (r : Fin 2048) (j : Fin 2048) (i : Fin 1024) (hj : j.val = 1024 + i.val) :
    beside x y (ix2 r j) = y (ix2 r i) := by
  unfold beside
  exact concatenate_pair_apply_right 1 x y _ (ix2 r j) rfl rfl (ix2 r i)
    (fun b hb => by
      match b with
      | ⟨0, _⟩ => rfl
      | ⟨1, _⟩ => exact absurd rfl hb)
    (by show i.val + 1024 = j.val; omega)

/-! ## The blocks at a point of the grid -/

/-- The block of each input at a point of the grid. -/
theorem block_index : ∀ t : Fin grid0.N,
    (win0_0.index t 0 = t.val % 8 ∧ win0_0.index t 1 = t.val / 8) ∧ (win0_1.index t 0 = t.val % 8 ∧ win0_1.index t 1 = t.val / 8)
    ∧ (win0_2.index t 0 = 0 ∧ win0_2.index t 1 = t.val / 8) ∧ (win0_3.index t 0 = 0 ∧ win0_3.index t 1 = 8 + t.val / 8)
    ∧ (win0_4.index t 0 = 0 ∧ win0_4.index t 1 = 0) ∧ (win0_5.index t 0 = t.val % 8 ∧ win0_5.index t 1 = t.val / 8)
    ∧ (win0_6.index t 0 = t.val % 8 ∧ win0_6.index t 1 = t.val / 8) := by
  decide +kernel

variable (t : Fin cfg0.N)

/-- There are 64 points. -/
theorem lt_N : t.val < 64 := t.isLt
/-- The point's head. -/
def hd : Fin 8 := ⟨t.val / 8, by have := lt_N t; omega⟩
/-- A row of the point's query block. -/
def row (r : Fin 256) : Fin 2048 := ⟨256 * (t.val % 8) + r.val, by omega⟩
/-- A column of the point's head. -/
def col (k : Fin 128) : Fin 1024 := ⟨128 * (t.val / 8) + k.val, by have := lt_N t; omega⟩

/-- The queries' block. -/
theorem b0_apply (r : Fin 256) (k : Fin 128) : b0 m c t (ix2 r k) = V m c main_v1 (ix2 (row t r) (col t k)) := by
  have hi := block_index t
  show iblk m c 0 t (ix2 r k) = _
  unfold iblk
  rw [View.read_apply]
  show V m c main_v1 _ = _
  congr 1
  funext a
  refine Fin.ext ?_
  match a with
  | ⟨0, _⟩ => show win0_0.index t 0 * 256 + 1 * r.val = 256 * (t.val % 8) + r.val; rw [hi.1.1]; omega
  | ⟨1, _⟩ => show win0_0.index t 1 * 128 + 1 * k.val = 128 * (t.val / 8) + k.val; rw [hi.1.2]; omega
/-- The rotary queries' block. -/
theorem b1_apply (r : Fin 256) (k : Fin 128) : b1 m c t (ix2 r k) = V m c main_v5 (ix2 (row t r) (col t k)) := by
  have hi := block_index t
  show iblk m c 1 t (ix2 r k) = _
  unfold iblk
  rw [View.read_apply]
  show V m c main_v5 _ = _
  congr 1
  funext a
  refine Fin.ext ?_
  match a with
  | ⟨0, _⟩ => show win0_1.index t 0 * 256 + 1 * r.val = 256 * (t.val % 8) + r.val; rw [hi.2.1.1]; omega
  | ⟨1, _⟩ => show win0_1.index t 1 * 128 + 1 * k.val = 128 * (t.val / 8) + k.val; rw [hi.2.1.2]; omega
/-- The head's keys. -/
theorem b2_apply (r : Fin 2048) (k : Fin 128) :
    b2 m c t (ix2 r k) = V m c main_v9 (ix2 r ⟨128 * (t.val / 8) + k.val, by have := lt_N t; omega⟩) := by
  have hi := block_index t
  show iblk m c 2 t (ix2 r k) = _
  unfold iblk
  rw [View.read_apply]
  show V m c main_v9 _ = _
  congr 1
  funext a
  refine Fin.ext ?_
  match a with
  | ⟨0, _⟩ => show win0_2.index t 0 * 2048 + 1 * r.val = r.val; rw [hi.2.2.1.1]; omega
  | ⟨1, _⟩ => show win0_2.index t 1 * 128 + 1 * k.val = 128 * (t.val / 8) + k.val; rw [hi.2.2.1.2]; omega
/-- The head's values. -/
theorem b3_apply (r : Fin 2048) (k : Fin 128) :
    b3 m c t (ix2 r k) = V m c main_v9 (ix2 r ⟨1024 + (128 * (t.val / 8) + k.val), by have := lt_N t; omega⟩) := by
  have hi := block_index t
  show iblk m c 3 t (ix2 r k) = _
  unfold iblk
  rw [View.read_apply]
  show V m c main_v9 _ = _
  congr 1
  funext a
  refine Fin.ext ?_
  match a with
  | ⟨0, _⟩ => show win0_3.index t 0 * 2048 + 1 * r.val = r.val; rw [hi.2.2.2.1.1]; omega
  | ⟨1, _⟩ => show win0_3.index t 1 * 128 + 1 * k.val = 1024 + (128 * (t.val / 8) + k.val); rw [hi.2.2.2.1.2]; omega
/-- The rotary keys, whole. -/
theorem b4_apply (r : Fin 2048) (k : Fin 128) :
    b4 m c t (ix2 r k) = V m c main_v12 (ix2 r k) := by
  have hi := block_index t
  show iblk m c 4 t (ix2 r k) = _
  unfold iblk
  rw [View.read_apply]
  show V m c main_v12 _ = _
  congr 1
  funext a
  refine Fin.ext ?_
  match a with
  | ⟨0, _⟩ => show win0_4.index t 0 * 2048 + 1 * r.val = r.val; rw [hi.2.2.2.2.1.1]; omega
  | ⟨1, _⟩ => show win0_4.index t 1 * 128 + 1 * k.val = k.val; rw [hi.2.2.2.2.1.2]; omega
/-- The incoming gradient's block. -/
theorem b5_apply (r : Fin 256) (k : Fin 128) : b5 m c t (ix2 r k) = V m c main_v14 (ix2 (row t r) (col t k)) := by
  have hi := block_index t
  show iblk m c 5 t (ix2 r k) = _
  unfold iblk
  rw [View.read_apply]
  show V m c main_v14 _ = _
  congr 1
  funext a
  refine Fin.ext ?_
  match a with
  | ⟨0, _⟩ => show win0_5.index t 0 * 256 + 1 * r.val = 256 * (t.val % 8) + r.val; rw [hi.2.2.2.2.2.1.1]; omega
  | ⟨1, _⟩ => show win0_5.index t 1 * 128 + 1 * k.val = 128 * (t.val / 8) + k.val; rw [hi.2.2.2.2.2.1.2]; omega
/-- The saved output's block. -/
theorem b6_apply (r : Fin 256) (k : Fin 128) : b6 m c t (ix2 r k) = V m c main_v42 (ix2 (row t r) (col t k)) := by
  have hi := block_index t
  show iblk m c 6 t (ix2 r k) = _
  unfold iblk
  rw [View.read_apply]
  show V m c main_v42 _ = _
  congr 1
  funext a
  refine Fin.ext ?_
  match a with
  | ⟨0, _⟩ => show win0_6.index t 0 * 256 + 1 * r.val = 256 * (t.val % 8) + r.val; rw [hi.2.2.2.2.2.2.1]; omega
  | ⟨1, _⟩ => show win0_6.index t 1 * 128 + 1 * k.val = 128 * (t.val / 8) + k.val; rw [hi.2.2.2.2.2.2.2]; omega

/-- With real arguments every point's input blocks hold its head's arrays. -/
theorem blocks (ha : (args m c).Reals) : Blocks m c (args m c).head := fun t => by
  refine ⟨Cert.Attn.scale_real, fun r k => ?_, fun r k => ?_, fun r k => ?_, fun r k => ?_, fun r k => ?_, fun r k => ?_, fun r k => ?_⟩
  · rw [b0_apply, V_v1]
    exact (fold4_apply _ (row t r) (hd t) k (col t k) rfl).trans (at4_in ha.h0 0 (row t r) (hd t) k)
  · rw [b1_apply, V_v5]
    exact foldPad4_apply ha.h1 (row t r) (hd t) k (col t k) rfl
  · rw [b2_apply, V_v9]
    exact ((beside_left _ _ r _ (col t k) rfl).trans (fold4_apply _ r (hd t) k (col t k) rfl)).trans (at4_in ha.h2 0 r (hd t) k)
  · rw [b3_apply, V_v9]
    exact ((beside_right _ _ r _ (col t k) rfl).trans (fold4_apply _ r (hd t) k (col t k) rfl)).trans (at4_in ha.h4 0 r (hd t) k)
  · rw [b4_apply, V_v12]
    exact pad3_apply ha.h3 r k
  · rw [b5_apply, V_v14]
    exact (fold4_apply _ (row t r) (hd t) k (col t k) rfl).trans (at4_in ha.h5 0 (row t r) (hd t) k)
  · rw [b6_apply, V_v42]
    exact (fold4_apply _ (row t r) (hd t) k (col t k) rfl).trans (Cert.Attn.f_out ha 0 (hd t) (row t r) k)

end Cert.KernelIdeal.Attn
-- ==== Proof.AttnBackward.lean ====
module

public import proofs.«01_k».proof.Proof.AttnForward

/-! # The reference's gradients

    The backward part of the reference, read element by element.  The derivative of the softmax comes out as the
    weights times the distance of the incoming gradient from its mean; the five gradients are sums over all rows. -/

@[expose] public section

set_option maxRecDepth 16384

noncomputable section

namespace Cert.Attn

open Idealize.ShloMosaic Idealize.ShloMosaic.TcCoe Idealize.ShloMosaic.ValueIdx
open Cert.ReferenceIdeal Cert.ReferenceIdeal.Gen Cert.ReferenceIdeal.Read
open scoped BigOperators
open Finset (range)

/-- The word of one. -/
theorem word_one : Ideal.ofBits .f32 0x3F800000#32 = ((1 : ℝ) : EReal) := by
  simp [Ideal.ofBits, Ideal.ieee, -EReal.coe_mul]
  norm_num

variable {a : Args} (ha : a.Reals) (z : Fin 1) (h : Fin 8) (q k : Fin 2048)
include ha

/-- The incoming gradient, turned. -/
theorem g_in (c : Fin 128) : val_main_v43 (F := Ideal) a.x5 (ix4 z h c q) = (((a.head h.val).g q.val c.val : ℝ) : EReal) := by
  rw [val_main_v43_apply]
  have hi : idx_main_v43 (ix4 z h c q) = ix4 z q h c := eq_ix4 _
  rw [hi, at4_in ha.h5]
  rfl

/-- The gradient of the weights. -/
theorem g_dp : val_main_v44 (F := Ideal) a.x4 a.x5 (ix4 z h q k) = (((a.head h.val).dp q.val k.val : ℝ) : EReal) := by
  rw [val_main_v44_apply]
  refine Eq.trans (Finset.sum_congr rfl fun c _ => ?_)
    (coe_sum_fin 128 fun c => (a.head h.val).g q.val c * (a.head h.val).v k.val c)
  have hl : lidx_main_v44 (ix4 z h q k) c = ix4 z h c q := eq_ix4 _
  have hr : ridx_main_v44 (ix4 z h q k) c = ix4 z k h c := eq_ix4 _
  rw [hl, hr, g_in ha, at4_in ha.h4, ← EReal.coe_mul]
  rfl

/-- The gradient of the values. -/
theorem g_dv (c : Fin 128) : val_main_v46 (F := Ideal) a.x0 a.x1 a.x2 a.x3 a.x5 (ix4 z k h c)
    = (((a.head h.val).dv 2048 k.val c.val : ℝ) : EReal) := by
  rw [val_main_v46_apply, val_main_v45_apply]
  refine Eq.trans (Finset.sum_congr rfl fun q _ => ?_)
    (coe_sum_fin 2048 fun q => (a.head h.val).E q k.val * ((a.head h.val).g q c.val * (1 / (a.head h.val).L q)))
  have hl : lidx_main_v45 (idx_main_v46 (ix4 z k h c)) q = ix4 z h c q := eq_ix4 _
  have hr : ridx_main_v45 (idx_main_v46 (ix4 z k h c)) q = ix4 z h q k := eq_ix4 _
  rw [hl, hr, g_in ha, f_weight ha, ← EReal.coe_mul]
  congr 1
  ring

/-- The gradient through the normaliser, summed over the keys. -/
theorem g_norm (y : Fin 1) : val_main_v52 (F := Ideal) a.x0 a.x1 a.x2 a.x3 a.x4 a.x5 (ix4 z h q y)
    = ((-(∑ k ∈ range 2048, (a.head h.val).dp q.val k * (1 / ((a.head h.val).L q.val * (a.head h.val).L q.val)) * (a.head h.val).E q.val k) : ℝ) : EReal) := by
  have hL := (a.head h.val).L_ne q.isLt
  have e40 : ∀ y : Fin 1, val_main_v40 (F := Ideal) a.x0 a.x1 a.x2 a.x3 (ix4 z h q y)
      = ((1 / ((a.head h.val).L q.val * (a.head h.val).L q.val) : ℝ) : EReal) := fun y => by
    rw [val_main_v40_apply, val_main_v38_apply, f_sum_col ha]
    show Ideal.div (Ideal.ofBits .f32 0x3F800000#32) (_ * _) = _
    rw [word_one, ← EReal.coe_mul]
    exact div_coe_coe (mul_ne_zero hL hL)
  rw [val_main_v52_apply, val_main_v51_apply]
  have hi : idx_main_v51 (ix4 z h q y) = ix3 z h q := by
    have hh := h.isLt
    have hq := q.isLt
    obtain rfl : z = 0 := Subsingleton.elim _ _
    obtain rfl : y = 0 := Subsingleton.elim _ _
    funext b
    refine Fin.ext ?_
    match b with
    | ⟨0, _⟩ => rfl
    | ⟨1, _⟩ => show (((0 * 8 + h.val) * 2048 + q.val) * 1 + 0) / 2048 % 8 = h.val; omega
    | ⟨2, _⟩ => show (((0 * 8 + h.val) * 2048 + q.val) * 1 + 0) % 2048 = q.val; omega
  rw [hi, val_main_v50_apply]
  show -(Ideal.ofBits .f32 0x00000000#32 + _) = _
  rw [Ideal.ofBits_zero_f32, zero_add, EReal.coe_neg]
  congr 1
  refine Eq.trans (Finset.sum_congr rfl fun k _ => ?_) (coe_sum_fin 2048 fun k =>
    (a.head h.val).dp q.val k * (1 / ((a.head h.val).L q.val * (a.head h.val).L q.val)) * (a.head h.val).E q.val k)
  have hk : idx_main_v50 (ix3 z h q) k = ix4 z h q k := eq_ix4 _
  rw [hk, val_main_v49_apply, val_main_v48_apply, f_exp ha, g_dp ha, val_main_v47_apply]
  have hj : idx_main_v47 (ix4 z h q k) = ix4 z h q 0 := by
    obtain rfl : z = 0 := Subsingleton.elim _ _
    exact eq_ix4 _
  rw [hj, e40]
  show _ * _ * _ = _
  rw [← EReal.coe_mul, ← EReal.coe_mul]

/-- The sum over axes of one entry each. -/
theorem g_norm_one : val_main_v55 (F := Ideal) a.x0 a.x1 a.x2 a.x3 a.x4 a.x5 (ix2 h q)
    = ((-(∑ k ∈ range 2048, (a.head h.val).dp q.val k * (1 / ((a.head h.val).L q.val * (a.head h.val).L q.val)) * (a.head h.val).E q.val k) : ℝ) : EReal) := by
  unfold val_main_v55
  simp only [Host.reduceAdd, Ideal.hostReduceAdd_def]
  unfold Ideal.hostReduceAdd
  show Ideal.ofBits .f32 0x00000000#32 + _ = _
  rw [Ideal.ofBits_zero_f32, zero_add, ← g_norm ha 0 h q 0]
  refine Finset.sum_eq_single_of_mem (ix4 0 h q 0) ?_ ?_
  · refine Finset.mem_filter.2 ⟨Finset.mem_univ _, ?_⟩
    funext b
    match b with
    | ⟨0, _⟩ => rfl
    | ⟨1, _⟩ => rfl
  · intro i hi hne
    refine absurd ?_ hne
    have hd := (Finset.mem_filter.1 hi).2
    have h0 : i 1 = h := Fin.ext ((Shape.ReducesTo.drop_apply_val_of_eq reducesTo_S1x8x2048x1_S8x2048_d0_3 i 0 1).symm.trans (congrArg Fin.val (congrFun hd 0)))
    have h1 : i 2 = q := Fin.ext ((Shape.ReducesTo.drop_apply_val_of_eq reducesTo_S1x8x2048x1_S8x2048_d0_3 i 1 2).symm.trans (congrArg Fin.val (congrFun hd 1)))
    rw [eq_ix4 i, h0, h1]
    congr 1
    · exact Subsingleton.elim (α := Fin 1) _ _
    · exact Subsingleton.elim (α := Fin 1) _ _

/-- The gradient of the unscaled scores. -/
theorem g_ds : val_main_v62 (F := Ideal) a.x0 a.x1 a.x2 a.x3 a.x4 a.x5 (ix4 z h q k) = (((a.head h.val).ds q.val k.val : ℝ) : EReal) := by
  have hL := (a.head h.val).L_ne q.isLt
  have e54 : val_main_v54 (F := Ideal) a.x0 a.x1 a.x2 a.x3 a.x4 a.x5 (ix4 z h q k)
      = (((a.head h.val).dp q.val k.val / (a.head h.val).L q.val : ℝ) : EReal) := by
    rw [val_main_v54_apply, g_dp ha, val_main_v53_apply]
    have hi : idx_main_v53 (ix4 z h q k) = ix4 z h q 0 := by
      obtain rfl : z = 0 := Subsingleton.elim _ _
      exact eq_ix4 _
    rw [hi, f_sum_col ha]
    exact div_coe_coe hL
  have e57 : val_main_v57 (F := Ideal) a.x0 a.x1 a.x2 a.x3 a.x4 a.x5 (ix4 z h q k)
      = ((-(∑ k ∈ range 2048, (a.head h.val).dp q.val k * (1 / ((a.head h.val).L q.val * (a.head h.val).L q.val)) * (a.head h.val).E q.val k) : ℝ) : EReal) := by
    rw [val_main_v57_apply, val_main_v56_apply]
    have hi : idx_main_v56 (idx_main_v57 (ix4 z h q k)) = ix2 h q := eq_ix2 _
    rw [hi, g_norm_one ha]
  have e59 : val_main_v59 (F := Ideal) a.x0 a.x1 a.x2 a.x3 a.x4 a.x5 (ix4 z h q k)
      = (((-(∑ j ∈ range 2048, (a.head h.val).dp q.val j / ((a.head h.val).L q.val * (a.head h.val).L q.val) * (a.head h.val).E q.val j)
        + (a.head h.val).dp q.val k.val / (a.head h.val).L q.val) * (a.head h.val).E q.val k.val : ℝ) : EReal) := by
    rw [val_main_v59_apply, val_main_v58_apply, e54, e57, f_exp ha]
    show (_ + _) * _ = _
    rw [← EReal.coe_add, ← EReal.coe_mul]
    congr 2
    rw [add_comm]
    congr 2
    exact Finset.sum_congr rfl fun _ _ => by rw [mul_one_div]
  have e60 : val_main_v60 (F := Ideal) a.x0 a.x1 a.x2 a.x3 a.x4 a.x5 (ix4 z h q k)
      = val_main_v59 (F := Ideal) a.x0 a.x1 a.x2 a.x3 a.x4 a.x5 (ix4 z h q k) := by
    rw [val_main_v60_apply, f_mask]
    split
    · rfl
    · rename_i hk
      rw [e59, (a.head h.val).E_later (by omega), mul_zero, EReal.coe_zero]
      exact Ideal.ofBits_zero_f32
  rw [val_main_v62_apply, e60, e59]
  show _ * Ideal.ofBits .f32 0x3D93CD3A#32 = _
  rw [scale_real, ← EReal.coe_mul, ← (a.head h.val).ds_eq q.isLt k.val]
  rfl

/-- The same with the heads last. -/
theorem g_ds_last : val_main_v63 (F := Ideal) a.x0 a.x1 a.x2 a.x3 a.x4 a.x5 (ix4 z k q h) = (((a.head h.val).ds q.val k.val : ℝ) : EReal) := by
  rw [val_main_v63_apply]
  have hi : idx_main_v63 (ix4 z k q h) = ix4 z h q k := eq_ix4 _
  rw [hi, g_ds ha]

/-- The gradient of the queries. -/
theorem g_dqn (c : Fin 128) : val_main_v69 (F := Ideal) a.x0 a.x1 a.x2 a.x3 a.x4 a.x5 (ix4 z q h c)
    = (((a.head h.val).dqn q.val c.val : ℝ) : EReal) := by
  rw [val_main_v69_apply, val_main_v68_apply]
  refine Eq.trans (Finset.sum_congr rfl fun k _ => ?_)
    (coe_sum_fin 2048 fun k => (a.head h.val).ds q.val k * (a.head h.val).kn k c.val)
  have hl : lidx_main_v68 (idx_main_v69 (ix4 z q h c)) k = ix4 z h q k := eq_ix4 _
  have hr : ridx_main_v68 (idx_main_v69 (ix4 z q h c)) k = ix4 z k h c := eq_ix4 _
  rw [hl, hr, g_ds ha, at4_in ha.h2, ← EReal.coe_mul]
  rfl

/-- The gradient of the keys. -/
theorem g_dkn (c : Fin 128) : val_main_v67 (F := Ideal) a.x0 a.x1 a.x2 a.x3 a.x4 a.x5 (ix4 z k h c)
    = (((a.head h.val).dkn 2048 k.val c.val : ℝ) : EReal) := by
  rw [val_main_v67_apply, val_main_v66_apply]
  refine Eq.trans (Finset.sum_congr rfl fun q _ => ?_)
    (coe_sum_fin 2048 fun q => (a.head h.val).ds q k.val * (a.head h.val).qn q c.val)
  have hl : lidx_main_v66 (idx_main_v67 (ix4 z k h c)) q = ix4 z h q k := eq_ix4 _
  have hr : ridx_main_v66 (idx_main_v67 (ix4 z k h c)) q = ix4 z q h c := eq_ix4 _
  rw [hl, hr, g_ds ha, at4_in ha.h0, ← EReal.coe_mul]
  rfl

/-- The gradient of the rotary queries. -/
theorem g_dqr (c : Fin 64) : val_main_v64 (F := Ideal) a.x0 a.x1 a.x2 a.x3 a.x4 a.x5 (ix4 z q h c)
    = (((a.head h.val).dqr q.val c.val : ℝ) : EReal) := by
  rw [val_main_v64_apply]
  refine Eq.trans (Finset.sum_congr rfl fun k _ => ?_)
    (coe_sum_fin 2048 fun k => (a.head h.val).ds q.val k * (a.head h.val).kr k c.val)
  have hl : lidx_main_v64 (ix4 z q h c) k = ix4 z k q h := eq_ix4 _
  have hr : ridx_main_v64 (ix4 z q h c) k = ix3 z k c := eq_ix3 _
  rw [hl, hr, g_ds_last ha, at3_in ha.h3, ← EReal.coe_mul]
  rfl

omit ha in
/-- A product over two axes, queries and heads. -/
theorem two_axes (A : FVec Ideal S1x2048x2048x8 .f32) (B : FVec Ideal S1x2048x8x64 .f32) (k : Fin 2048) (c : Fin 64) :
    Host.dotGeneral (F := Ideal) dot_S1x2048x2048x8_S1x2048x8x64_S1x2048x64_23_12_1_3_0_0 none A B (ix3 0 k c)
      = ∑ q : Fin 2048, ∑ h : Fin 8, A (ix4 0 k q h) * B (ix4 0 q h c) := by
  let D := dot_S1x2048x2048x8_S1x2048x8x64_S1x2048x64_23_12_1_3_0_0
  let e : Fin 2048 × Fin 8 ≃ D.contr.Idx :=
    { toFun := fun p b => match b with
        | ⟨0, _⟩ => p.1
        | ⟨1, _⟩ => p.2
      invFun := fun i => (i ⟨0, by decide⟩, i ⟨1, by decide⟩)
      left_inv := fun p => rfl
      right_inv := fun i => by
        funext b
        match b with
        | ⟨0, _⟩ => rfl
        | ⟨1, _⟩ => rfl }
  simp only [Host.dotGeneral]
  rw [Ideal.dotGeneral_apply, ← Fintype.sum_prod_type', ← e.sum_comp]
  refine Finset.sum_congr rfl fun p _ => ?_
  have hl : D.lhsIdx (ix3 0 k c) (e p) = ix4 0 k p.1 p.2 := by
    funext b
    refine Fin.ext ?_
    match b with
    | ⟨0, _⟩ => rfl
    | ⟨1, _⟩ => rfl
    | ⟨2, _⟩ => rfl
    | ⟨3, _⟩ => rfl
  have hr : D.rhsIdx (ix3 0 k c) (e p) = ix4 0 p.1 p.2 c := by
    funext b
    refine Fin.ext ?_
    match b with
    | ⟨0, _⟩ => rfl
    | ⟨1, _⟩ => rfl
    | ⟨2, _⟩ => rfl
    | ⟨3, _⟩ => rfl
  show A (D.lhsIdx (ix3 0 k c) (e p)) * B (D.rhsIdx (ix3 0 k c) (e p)) = _
  rw [hl, hr]

/-- The gradient of the rotary keys, every head's. -/
theorem g_dkr (c : Fin 64) : val_main_v65 (F := Ideal) a.x0 a.x1 a.x2 a.x3 a.x4 a.x5 (ix3 z k c)
    = ((∑ h ∈ range 8, (a.head h).dkr 2048 k.val c.val : ℝ) : EReal) := by
  obtain rfl : z = 0 := Subsingleton.elim _ _
  unfold val_main_v65
  rw [two_axes, Finset.sum_comm]
  refine Eq.trans (Finset.sum_congr rfl fun h _ => ?_) (coe_sum_fin 8 fun h => (a.head h).dkr 2048 k.val c.val)
  refine Eq.trans (Finset.sum_congr rfl fun q _ => ?_)
    (coe_sum_fin 2048 fun q => (a.head h.val).ds q k.val * (a.head h.val).qr q c.val)
  rw [g_ds_last ha, at4_in ha.h1, ← EReal.coe_mul]
  rfl

end Cert.Attn
-- ==== Proof.AttnOut.lean ====
module

public import proofs.«01_k».proof.Proof.AttnBackward

/-! # The reference's five results

    Each result, folded to rows by columns and the rotary ones padded with zeros, at a row and a column. -/

@[expose] public section

set_option maxRecDepth 16384

noncomputable section

namespace Cert.Attn

open Cert.ReferenceIdeal Cert.ReferenceIdeal.Read
open Idealize.ShloMosaic Idealize.ShloMosaic.ValueIdx
open scoped BigOperators
open Finset (range)

variable {a : Args}

/-- The zero the results are padded with. -/
theorem zero_word (i : S_.Idx) : val_main_call2_v0 (F := Ideal) i = ((0 : ℝ) : EReal) := by
  show (((0#32 : BitVec 32).toInt : ℝ) : EReal) = _
  simp
/-- The word zero is the real zero. -/
theorem zero_word' (i : S_.Idx) : val_main_call3_v0 (F := Ideal) i = ((0 : ℝ) : EReal) := by
  show (((0#32 : BitVec 32).toInt : ℝ) : EReal) = _
  simp

/-- Past the rotary columns the gradient of the rotary queries is zero. -/
theorem dqr_out (h q k : ℕ) (hk : 64 ≤ k) : (a.head h).dqr q k = 0 := by
  unfold Head.dqr
  refine Finset.sum_eq_zero fun j _ => ?_
  rw [show (a.head h).kr j k = 0 from at3_out _ _ _ hk, mul_zero]
/-- Past the rotary columns the gradient of the rotary keys is zero. -/
theorem dkr_out (h Q r k : ℕ) (hk : 64 ≤ k) : (a.head h).dkr Q r k = 0 := by
  unfold Head.dkr
  refine Finset.sum_eq_zero fun j _ => ?_
  rw [show (a.head h).qr j k = 0 from at4_out _ _ _ _ hk, mul_zero]

/-- The gradient of the queries. -/
theorem out_dqn (ha : a.Reals) : Rep (m := 2048) (n := 1024) (φ := .f32) (val_main_v70 (F := Ideal) a.x0 a.x1 a.x2 a.x3 a.x4 a.x5)
    (fun r j => (a.head (j / 128)).dqn r (j % 128)) := fun r j => by
  rw [val_main_v70_apply]
  have e : idx_main_v70 (ix2 r j) = ix4 0 r (⟨j.val / 128, by omega⟩ : Fin 8) (⟨j.val % 128, by omega⟩ : Fin 128) := by
    funext b
    refine Fin.ext ?_
    match b with
    | ⟨0, _⟩ => rfl
    | ⟨1, _⟩ => show (r.val * 1024 + j.val) / 1024 % 2048 = r.val; omega
    | ⟨2, _⟩ => show (r.val * 1024 + j.val) / 128 % 8 = j.val / 128; omega
    | ⟨3, _⟩ => show (r.val * 1024 + j.val) % 128 = j.val % 128; omega
  rw [e, g_dqn ha]
/-- The gradient of the keys. -/
theorem out_dkn (ha : a.Reals) : Rep (m := 2048) (n := 1024) (φ := .f32) (val_main_v73 (F := Ideal) a.x0 a.x1 a.x2 a.x3 a.x4 a.x5)
    (fun r j => (a.head (j / 128)).dkn 2048 r (j % 128)) := fun r j => by
  rw [val_main_v73_apply]
  have e : idx_main_v73 (ix2 r j) = ix4 0 r (⟨j.val / 128, by omega⟩ : Fin 8) (⟨j.val % 128, by omega⟩ : Fin 128) := by
    funext b
    refine Fin.ext ?_
    match b with
    | ⟨0, _⟩ => rfl
    | ⟨1, _⟩ => show (r.val * 1024 + j.val) / 1024 % 2048 = r.val; omega
    | ⟨2, _⟩ => show (r.val * 1024 + j.val) / 128 % 8 = j.val / 128; omega
    | ⟨3, _⟩ => show (r.val * 1024 + j.val) % 128 = j.val % 128; omega
  rw [e, g_dkn ha]
/-- The gradient of the values. -/
theorem out_dv (ha : a.Reals) : Rep (m := 2048) (n := 1024) (φ := .f32) (val_main_v74 (F := Ideal) a.x0 a.x1 a.x2 a.x3 a.x5)
    (fun r j => (a.head (j / 128)).dv 2048 r (j % 128)) := fun r j => by
  rw [val_main_v74_apply]
  have e : idx_main_v74 (ix2 r j) = ix4 0 r (⟨j.val / 128, by omega⟩ : Fin 8) (⟨j.val % 128, by omega⟩ : Fin 128) := by
    funext b
    refine Fin.ext ?_
    match b with
    | ⟨0, _⟩ => rfl
    | ⟨1, _⟩ => show (r.val * 1024 + j.val) / 1024 % 2048 = r.val; omega
    | ⟨2, _⟩ => show (r.val * 1024 + j.val) / 128 % 8 = j.val / 128; omega
    | ⟨3, _⟩ => show (r.val * 1024 + j.val) % 128 = j.val % 128; omega
  rw [e, g_dv ha]
/-- The gradient of the rotary queries, padded. -/
theorem out_dqr (ha : a.Reals) : Rep (m := 2048) (n := 1024) (φ := .f32) (val_main_v72 (F := Ideal) a.x0 a.x1 a.x2 a.x3 a.x4 a.x5)
    (fun r j => (a.head (j / 128)).dqr r (j % 128)) := fun r j => by
  rw [val_main_v72_apply]
  have e : idx_main_v72 (ix2 r j) = ix4 0 r (⟨j.val / 128, by omega⟩ : Fin 8) (⟨j.val % 128, by omega⟩ : Fin 128) := by
    funext b
    refine Fin.ext ?_
    match b with
    | ⟨0, _⟩ => rfl
    | ⟨1, _⟩ => show (r.val * 1024 + j.val) / 1024 % 2048 = r.val; omega
    | ⟨2, _⟩ => show (r.val * 1024 + j.val) / 128 % 8 = j.val / 128; omega
    | ⟨3, _⟩ => show (r.val * 1024 + j.val) % 128 = j.val % 128; omega
  rw [e]
  unfold val_main_v71
  by_cases hk : j.val % 128 < 64
  · refine (pad_apply_of_inside _ _ _ _ _ _ _ _ (ix4 0 r (⟨j.val / 128, by omega⟩ : Fin 8) (⟨j.val % 128, hk⟩ : Fin 64)) fun b => ?_).trans ?_
    · match b with
      | ⟨0, _⟩ => rfl
      | ⟨1, _⟩ => show r.val = 0 + r.val * (0 + 1); omega
      | ⟨2, _⟩ => show j.val / 128 = 0 + j.val / 128 * (0 + 1); omega
      | ⟨3, _⟩ => show j.val % 128 = 0 + j.val % 128 * (0 + 1); omega
    · rw [g_dqr ha]
  · refine (pad_apply_of_not_inside _ _ _ _ _ _ _ _ (3 : Fin 4) ?_).trans ((zero_word _).trans (congrArg (fun x : ℝ => (x : EReal)) (dqr_out _ _ _ (by omega)).symm))
    show ¬ (0 ≤ j.val % 128 ∧ (j.val % 128 - 0) % (0 + 1) = 0 ∧ (j.val % 128 - 0) / (0 + 1) < 64)
    omega
/-- The gradient of the rotary keys, every head's, padded. -/
theorem out_dkr (ha : a.Reals) : Rep (m := 2048) (n := 128) (φ := .f32) (val_main_v76 (F := Ideal) a.x0 a.x1 a.x2 a.x3 a.x4 a.x5)
    (fun r j => ∑ h ∈ range 8, (a.head h).dkr 2048 r j) := fun r j => by
  rw [val_main_v76_apply]
  have e : idx_main_v76 (ix2 r j) = ix3 0 r j := by
    funext b
    refine Fin.ext ?_
    match b with
    | ⟨0, _⟩ => rfl
    | ⟨1, _⟩ => show (r.val * 128 + j.val) / 128 % 2048 = r.val; omega
    | ⟨2, _⟩ => show (r.val * 128 + j.val) % 128 = j.val; omega
  rw [e]
  unfold val_main_v75
  by_cases hk : j.val < 64
  · refine (pad_apply_of_inside _ _ _ _ _ _ _ _ (ix3 0 r (⟨j.val, hk⟩ : Fin 64)) fun b => ?_).trans ?_
    · match b with
      | ⟨0, _⟩ => rfl
      | ⟨1, _⟩ => show r.val = 0 + r.val * (0 + 1); omega
      | ⟨2, _⟩ => show j.val = 0 + j.val * (0 + 1); omega
    · rw [g_dkr ha]
  · refine (pad_apply_of_not_inside _ _ _ _ _ _ _ _ (2 : Fin 3) ?_).trans
      ((zero_word' _).trans (congrArg (fun x : ℝ => (x : EReal)) (Finset.sum_eq_zero fun h _ => dkr_out h _ _ _ (by omega)).symm))
    show ¬ (0 ≤ j.val ∧ (j.val - 0) % (0 + 1) = 0 ∧ (j.val - 0) / (0 + 1) < 64)
    omega

end Cert.Attn
-- ==== Proof.AttnFinal.lean ====
module

public import proofs.«01_k».proof.Proof.AttnHost
public import proofs.«01_k».proof.Proof.AttnOut
public import Idealize.ShloMosaic.Lib.Pipeline.ValueKit

/-! # The kernel's five arrays

    After the run each result array holds the reference's result of the same arguments. -/

@[expose] public section

set_option maxRecDepth 16384

noncomputable section

namespace Cert.KernelIdeal.Attn

open Cert.KernelIdeal Cert.KernelIdeal.Gen
open Idealize.ShloMosaic hiding ix2 eq_ix2
open Idealize.ShloMosaic.TcCoe
open Idealize.SL.Sem
open Idealize.ShloMosaic.ValueIdx
open Idealize.ShloMosaic.Pipeline (Dat)
open Cert.ReferenceIdeal.Read (val_main_v70 val_main_v72 val_main_v73 val_main_v74 val_main_v76)
open Cert.Attn (Args Head Rep)
open scoped BigOperators
open Finset (range)

variable (m : (ℓ : Loc nD τ sig) → Buf (Elt Ideal) ℓ) (c : Dev nD)

/-- The block of each output at a point of the grid. -/
theorem block_index_out : ∀ t : Fin grid0.N,
    (win0_7.index t 0 = t.val % 8 ∧ win0_7.index t 1 = t.val / 8) ∧ (win0_8.index t 0 = t.val % 8 ∧ win0_8.index t 1 = t.val / 8)
    ∧ (win0_9.index t 0 = 0 ∧ win0_9.index t 1 = t.val / 8) ∧ (win0_10.index t 0 = 0 ∧ win0_10.index t 1 = t.val / 8)
    ∧ (win0_11.index t 0 = 0 ∧ win0_11.index t 1 = 0) := by
  decide +kernel

variable (ha : (args m c).Reals)
include ha

/-- What a point leaves of result 0 is the reference's block. -/
theorem left7 (t : Fin cfg0.N) (r : Fin 256) (k : Fin 128) :
    (show Vec Ideal S256x128 .f32 from (dats m 0 c).after 7 t) (ix2 r k)
      = val_main_v70 (F := Ideal) (args m c).x0 (args m c).x1 (args m c).x2 (args m c).x3 (args m c).x4 (args m c).x5 (ix2 (row t r) (col t k)) := by
  rw [Cert.Attn.out_dqn ha, after7]
  refine (dqnAt_rep (Nat.mod_lt _ (by omega)) (blocks m c ha t) r k).trans ?_
  have h1 : (col t k).val / 128 = t.val / 8 := by show (128 * (t.val / 8) + k.val) / 128 = t.val / 8; omega
  have h2 : (col t k).val % 128 = k.val := by show (128 * (t.val / 8) + k.val) % 128 = k.val; omega
  simp only [h1, h2]
  rfl
/-- Result 0 after the run. -/
theorem final7 : (dats m 0 c).arrAt 7 cfg0.N = val_main_v70 (F := Ideal) (args m c).x0 (args m c).x1 (args m c).x2 (args m c).x3 (args m c).x4 (args m c).x5 := by
  refine (dats m 0 c).arrAt_eq_of_covers 7 _ (by decide +kernel) fun t hf y => ?_
  have hi := block_index_out t
  obtain ⟨r, k, rfl⟩ : ∃ (r : Fin 256) (k : Fin 128), y = ix2 r k := ⟨_, _, eq_ix2 y⟩
  refine (left7 m c ha t r k).trans ?_
  congr 1
  funext a
  refine Fin.ext ?_
  match a with
  | ⟨0, _⟩ => show 256 * (t.val % 8) + r.val = win0_7.index t 0 * 256 + 1 * r.val; rw [hi.1.1]; omega
  | ⟨1, _⟩ => show 128 * (t.val / 8) + k.val = win0_7.index t 1 * 128 + 1 * k.val; rw [hi.1.2]; omega

/-- What a point leaves of result 1 is the reference's block. -/
theorem left8 (t : Fin cfg0.N) (r : Fin 256) (k : Fin 128) :
    (show Vec Ideal S256x128 .f32 from (dats m 0 c).after 8 t) (ix2 r k)
      = val_main_v72 (F := Ideal) (args m c).x0 (args m c).x1 (args m c).x2 (args m c).x3 (args m c).x4 (args m c).x5 (ix2 (row t r) (col t k)) := by
  rw [Cert.Attn.out_dqr ha, after8]
  refine (dqrAt_rep (Nat.mod_lt _ (by omega)) (blocks m c ha t) r k).trans ?_
  have h1 : (col t k).val / 128 = t.val / 8 := by show (128 * (t.val / 8) + k.val) / 128 = t.val / 8; omega
  have h2 : (col t k).val % 128 = k.val := by show (128 * (t.val / 8) + k.val) % 128 = k.val; omega
  simp only [h1, h2]
  rfl
/-- Result 1 after the run. -/
theorem final8 : (dats m 0 c).arrAt 8 cfg0.N = val_main_v72 (F := Ideal) (args m c).x0 (args m c).x1 (args m c).x2 (args m c).x3 (args m c).x4 (args m c).x5 := by
  refine (dats m 0 c).arrAt_eq_of_covers 8 _ (by decide +kernel) fun t hf y => ?_
  have hi := block_index_out t
  obtain ⟨r, k, rfl⟩ : ∃ (r : Fin 256) (k : Fin 128), y = ix2 r k := ⟨_, _, eq_ix2 y⟩
  refine (left8 m c ha t r k).trans ?_
  congr 1
  funext a
  refine Fin.ext ?_
  match a with
  | ⟨0, _⟩ => show 256 * (t.val % 8) + r.val = win0_8.index t 0 * 256 + 1 * r.val; rw [hi.2.1.1]; omega
  | ⟨1, _⟩ => show 128 * (t.val / 8) + k.val = win0_8.index t 1 * 128 + 1 * k.val; rw [hi.2.1.2]; omega

/-- What a head's last point leaves of result 2 is the reference's block. -/
theorem left9 (t : Fin cfg0.N) (ht : t.val % 8 = 7) (r : Fin 2048) (k : Fin 128) :
    (show Vec Ideal S2048x128 .f32 from (dats m 0 c).after 9 t) (ix2 r k)
      = val_main_v73 (F := Ideal) (args m c).x0 (args m c).x1 (args m c).x2 (args m c).x3 (args m c).x4 (args m c).x5 (ix2 r (col t k)) := by
  rw [Cert.Attn.out_dkn ha, after9, ← acc9_eq]
  refine (acc9_rep (blocks m c ha) t.val t.isLt r k).trans ?_
  have h1 : (col t k).val / 128 = t.val / 8 := by show (128 * (t.val / 8) + k.val) / 128 = t.val / 8; omega
  have h2 : (col t k).val % 128 = k.val := by show (128 * (t.val / 8) + k.val) % 128 = k.val; omega
  simp only [h1, h2, ht]
/-- Result 2 after the run. -/
theorem final9 : (dats m 0 c).arrAt 9 cfg0.N = val_main_v73 (F := Ideal) (args m c).x0 (args m c).x1 (args m c).x2 (args m c).x3 (args m c).x4 (args m c).x5 := by
  refine (dats m 0 c).arrAt_eq_of_covers 9 _ (by decide +kernel) fun t hf y => ?_
  have hi := block_index_out t
  have ht := (flush0_9 t).1 hf
  obtain ⟨r, k, rfl⟩ : ∃ (r : Fin 2048) (k : Fin 128), y = ix2 r k := ⟨_, _, eq_ix2 y⟩
  refine (left9 m c ha t ht r k).trans ?_
  congr 1
  funext a
  refine Fin.ext ?_
  match a with
  | ⟨0, _⟩ => show r.val = win0_9.index t 0 * 2048 + 1 * r.val; rw [hi.2.2.1.1]; omega
  | ⟨1, _⟩ => show 128 * (t.val / 8) + k.val = win0_9.index t 1 * 128 + 1 * k.val; rw [hi.2.2.1.2]; omega

/-- What a head's last point leaves of result 3 is the reference's block. -/
theorem left10 (t : Fin cfg0.N) (ht : t.val % 8 = 7) (r : Fin 2048) (k : Fin 128) :
    (show Vec Ideal S2048x128 .f32 from (dats m 0 c).after 10 t) (ix2 r k)
      = val_main_v74 (F := Ideal) (args m c).x0 (args m c).x1 (args m c).x2 (args m c).x3 (args m c).x5 (ix2 r (col t k)) := by
  rw [Cert.Attn.out_dv ha, after10, ← acc10_eq]
  refine (acc10_rep (blocks m c ha) t.val t.isLt r k).trans ?_
  have h1 : (col t k).val / 128 = t.val / 8 := by show (128 * (t.val / 8) + k.val) / 128 = t.val / 8; omega
  have h2 : (col t k).val % 128 = k.val := by show (128 * (t.val / 8) + k.val) % 128 = k.val; omega
  simp only [h1, h2, ht]
/-- Result 3 after the run. -/
theorem final10 : (dats m 0 c).arrAt 10 cfg0.N = val_main_v74 (F := Ideal) (args m c).x0 (args m c).x1 (args m c).x2 (args m c).x3 (args m c).x5 := by
  refine (dats m 0 c).arrAt_eq_of_covers 10 _ (by decide +kernel) fun t hf y => ?_
  have hi := block_index_out t
  have ht := (flush0_10 t).1 hf
  obtain ⟨r, k, rfl⟩ : ∃ (r : Fin 2048) (k : Fin 128), y = ix2 r k := ⟨_, _, eq_ix2 y⟩
  refine (left10 m c ha t ht r k).trans ?_
  congr 1
  funext a
  refine Fin.ext ?_
  match a with
  | ⟨0, _⟩ => show r.val = win0_10.index t 0 * 2048 + 1 * r.val; rw [hi.2.2.2.1.1]; omega
  | ⟨1, _⟩ => show 128 * (t.val / 8) + k.val = win0_10.index t 1 * 128 + 1 * k.val; rw [hi.2.2.2.1.2]; omega

/-- What the last point leaves of result 4 is the reference's. -/
theorem left11 (t : Fin cfg0.N) (ht : t.val % 64 = 63) (r : Fin 2048) (k : Fin 128) :
    (show Vec Ideal S2048x128 .f32 from (dats m 0 c).after 11 t) (ix2 r k)
      = val_main_v76 (F := Ideal) (args m c).x0 (args m c).x1 (args m c).x2 (args m c).x3 (args m c).x4 (args m c).x5 (ix2 r k) := by
  rw [Cert.Attn.out_dkr ha, after11, ← acc11_eq]
  refine (acc11_rep (blocks m c ha) t.val t.isLt r k).trans ?_
  have h := lt_N t
  have h1 : t.val / 8 = 7 := by omega
  have h2 : t.val % 8 = 7 := by omega
  simp only [h1, h2, Finset.sum_range_succ _ 7]
/-- Result 4 after the run. -/
theorem final11 : (dats m 0 c).arrAt 11 cfg0.N = val_main_v76 (F := Ideal) (args m c).x0 (args m c).x1 (args m c).x2 (args m c).x3 (args m c).x4 (args m c).x5 := by
  refine (dats m 0 c).arrAt_eq_of_covers 11 _ (by decide +kernel) fun t hf y => ?_
  have hi := block_index_out t
  have ht := (flush0_11 t).1 hf
  obtain ⟨r, k, rfl⟩ : ∃ (r : Fin 2048) (k : Fin 128), y = ix2 r k := ⟨_, _, eq_ix2 y⟩
  refine (left11 m c ha t ht r k).trans ?_
  congr 1
  funext a
  refine Fin.ext ?_
  match a with
  | ⟨0, _⟩ => show r.val = win0_11.index t 0 * 2048 + 1 * r.val; rw [hi.2.2.2.2.1]; omega
  | ⟨1, _⟩ => show k.val = win0_11.index t 1 * 128 + 1 * k.val; rw [hi.2.2.2.2.2]; omega

end Cert.KernelIdeal.Attn
-- ==== Proof.AttnPre.lean ====
module

public import proofs.«01_k».proof.Proof.AttnArgs
public import proofs.«01_k».proof.Proof.Gen.Pre_finite

/-! # The precondition read

    A magnitude below infinity is a real number's. -/

@[expose] public section

noncomputable section

namespace Cert.Attn

open Idealize.ShloMosaic

/-- The word of infinity. -/
theorem inf_word : Ideal.ofBits .f32 0x7F800000#32 = ⊤ := by
  simp [Ideal.ofBits, Ideal.ieee]

/-- An extended real whose magnitude is below infinity is a real number. -/
theorem real_of_lt (x : EReal) (h : Ideal.cmp .olt (max x (-x)) (Ideal.ofBits .f32 0x7F800000#32) = 1#1) : ∃ a : ℝ, x = (a : EReal) := by
  rw [inf_word] at h
  have hl : max x (-x) < ⊤ := by
    by_contra hn
    have : Ideal.cmp .olt (max x (-x)) ⊤ = 0#1 := by
      unfold Ideal.cmp
      simp only [decide_eq_false hn]
      rfl
    rw [this] at h
    exact absurd h (by decide)
  obtain ⟨h1, h2⟩ := max_lt_iff.1 hl
  induction x with
  | bot => simp at h2
  | coe a => exact ⟨a, rfl⟩
  | top => simp at h1

/-- All ones of an array says that it holds real numbers only. -/
theorem finite_of_ones {S : Shape} {x : FVec Ideal S .f32} (hb : (⟨0, ![]⟩ : Shape).BroadcastsInDim S (![] : Fin 0 → Fin S.rank))
    (h : cmpf (F := Ideal) .olt (Host.absf x) (broadcastInDim S ![] hb (constant ⟨0, ![]⟩ .f32 0x7F800000#32)) = fun _ => 1#1) : Finite x := fun i =>
  real_of_lt (x i) (congrFun h i)

end Cert.Attn
-- ==== Proof.AttnWords.lean ====
module

public import proofs.«01_k».proof.Defs
public import proofs.«01_k».proof.Proof.Gen.Kernel
public import proofs.«01_k».proof.Proof.AttnState

/-! # The kernel's frame, over words

    The idealized program differs from the kernel in one named constant only.  Read over words, with a named constant as
    its own word, it is the kernel's program, so its run gives the kernel's frame. -/

@[expose] public section

set_option maxRecDepth 16384

noncomputable section

namespace Cert.Attn

open Idealize.ShloMosaic Idealize.SL.Sem
open Idealize.ShloMosaic.TcCoe

attribute [local instance] Cert.Kernel.Gen.facts Cert.KernelIdeal.Gen.facts

/-- Over words a named constant is its own word. -/
@[reducible] def namedBits : Named Bits := ⟨fun _ _ _ b => Scalar.ofBits _ b⟩

attribute [local instance] namedBits

set_option maxHeartbeats 4000000 in
/-- The two programs have one body. -/
theorem bodies_eq : Cert.Kernel.defs₀ (F := Bits) = Cert.KernelIdeal.defs₀ (F := Bits) := by
  refine congrArg Defs.onTc (funext fun l => funext fun a => ?_)
  match l, a with
  | 0, (t, s) => rfl

set_option maxHeartbeats 4000000 in
/-- The two programs have one table of bodies and pipelines. -/
theorem defs_eq : Cert.Kernel.defs (F := Bits) = Cert.KernelIdeal.defs (F := Bits) :=
  congrArg (Pipeline.defs (Cert.Kernel.pcfgs (F := Bits))) bodies_eq

set_option maxHeartbeats 4000000 in
/-- The two programs have the same lines on the host. -/
theorem main_eq : Cert.Kernel.main (F := Bits) = Cert.KernelIdeal.main (F := Bits) := by
  unfold Cert.Kernel.main Cert.KernelIdeal.main
  rfl

set_option maxHeartbeats 4000000 in
/-- The kernel terminates without fault, leaves its arguments unchanged and every semaphore at zero. -/
theorem kernel_frame : Cert.quiescent_Kernel := fun m ρ _ => by
  have h := Cert.KernelIdeal.Attn.frame (F := Bits) m ρ
  rw [defs_eq, main_eq]
  exact h

end Cert.Attn

end
-- ==== Proof.FfnRun.lean ====
module

public import proofs.«01_k».proof.Proof.Gen.FfnIdeal.Frame

/-! # The six calls run

    What the five result arrays hold when the program ends: their contents at the last boundary. -/

@[expose] public section

set_option maxRecDepth 16384

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with its five result arrays at the last boundary's contents. -/
theorem results : θ_run defs (onTc (τ := τ) (main (F := F))) ⟨m, fun _ => 0, ρ⟩ (fun r => ∀ c : Dev nD,
      r.2.mem ((c.tc : Thread nD τ).loc main_v13) = W7 m ρ c (Proc.devRef .tc main_v13)
      ∧ r.2.mem ((c.tc : Thread nD τ).loc main_v17) = W7 m ρ c (Proc.devRef .tc main_v17)
      ∧ r.2.mem ((c.tc : Thread nD τ).loc main_v16_0) = W7 m ρ c (Proc.devRef .tc main_v16_0)
      ∧ r.2.mem ((c.tc : Thread nD τ).loc main_v16_1) = W7 m ρ c (Proc.devRef .tc main_v16_1)
      ∧ r.2.mem ((c.tc : Thread nD τ).loc main_v15) = W7 m ρ c (Proc.devRef .tc main_v15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v13 (by decide)), h c _ (mem_uc main_v17 (by decide)), h c _ (mem_uc main_v16_0 (by decide)),
       h c _ (mem_uc main_v16_1 (by decide)), h c _ (mem_uc main_v15 (by decide))⟩)

end Cert.FfnIdeal.Run
-- ==== Proof.FfnReal.lean ====
module

public import proofs.«01_k».proof.Proof.AttnReal

/-! # A gated feed-forward layer over the reals

    The layer's weights are held in four shards of 704 hidden columns each.  `Layer` collects the real functions a layer
    is made of, from its input and incoming gradient by rows, and its three weights by shard. -/

@[expose] public section

set_option maxRecDepth 16384

noncomputable section

namespace Cert.FfnMath

open Idealize.ShloMosaic Idealize.ShloMosaic.ValueIdx
open Cert.Attn (Rep)
open scoped BigOperators
open Finset (range)

/-- The logistic function. -/
def sg (x : ℝ) : ℝ := 1 / (1 + Real.exp (0 - x))

/-- The denominator is not zero. -/
theorem one_add_exp_ne (x : ℝ) : 1 + Real.exp x ≠ 0 := by positivity

/-- A layer's input and incoming gradient by row and column, and its weights by shard, hidden column and column. -/
structure Layer where
  /-- the input -/
  H : ℕ → ℕ → ℝ
  /-- the gate weight -/
  G : ℕ → ℕ → ℕ → ℝ
  /-- the up weight -/
  U : ℕ → ℕ → ℕ → ℝ
  /-- the down weight -/
  D : ℕ → ℕ → ℕ → ℝ
  /-- the incoming gradient -/
  Y : ℕ → ℕ → ℝ

namespace Layer

variable (L : Layer)

/-- The gate before its activation. -/
def a (q r f : ℕ) : ℝ := ∑ k ∈ range 1024, L.H r k * L.G q f k
/-- The up projection. -/
def b (q r f : ℕ) : ℝ := ∑ k ∈ range 1024, L.H r k * L.U q f k
/-- The gated hidden values. -/
def s (q r f : ℕ) : ℝ := L.a q r f * sg (L.a q r f) * L.b q r f
/-- The output. -/
def y (r d : ℕ) : ℝ := ∑ q ∈ range 4, ∑ f ∈ range 704, L.s q r f * L.D q f d
/-- The gradient of the hidden values. -/
def ds (q r f : ℕ) : ℝ := ∑ k ∈ range 1024, L.Y r k * L.D q f k
/-- The gradient of the gate before its activation. -/
def da (q r f : ℕ) : ℝ := L.ds q r f * L.b q r f * (sg (L.a q r f) * (1 + L.a q r f * (1 - sg (L.a q r f))))
/-- The gradient of the up projection. -/
def db (q r f : ℕ) : ℝ := L.ds q r f * (L.a q r f * sg (L.a q r f))
/-- The gradient of the down weight. -/
def gD (q f d : ℕ) : ℝ := ∑ r ∈ range 2048, L.s q r f * L.Y r d
/-- The gradient of the gate weight. -/
def gG (q f d : ℕ) : ℝ := ∑ r ∈ range 2048, L.da q r f * L.H r d
/-- The gradient of the up weight. -/
def gU (q f d : ℕ) : ℝ := ∑ r ∈ range 2048, L.db q r f * L.H r d
/-- The gradient of the input. -/
def dh (r d : ℕ) : ℝ :=
  ∑ q ∈ range 4, ((∑ f ∈ range 704, L.da q r f * L.G q f d) + ∑ f ∈ range 704, L.db q r f * L.U q f d)

end Layer

/-! ## Arrays that hold a real function -/

/-- The two-dimensional array of a real function. -/
def of2 {m n : ℕ} {φ : FTy} (f : ℕ → ℕ → ℝ) : FVec Ideal ⟨2, ![m, n]⟩ φ := fun i => ((f (i 0).val (i 1).val : ℝ) : EReal)
/-- The three-dimensional array of a real function. -/
def of3 {p m n : ℕ} {φ : FTy} (f : ℕ → ℕ → ℕ → ℝ) : FVec Ideal ⟨3, ![p, m, n]⟩ φ :=
  fun i => ((f (i 0).val (i 1).val (i 2).val : ℝ) : EReal)

variable {m n p : ℕ} {φ φ₁ φ₂ : FTy}

/-- An array made of a real function holds it. -/
theorem rep_of2 (f : ℕ → ℕ → ℝ) : Rep (of2 (m := m) (n := n) (φ := φ) f) f := fun _ _ => rfl

/-- An array that holds a real function is made of it. -/
theorem eq_of2 {A : FVec Ideal ⟨2, ![m, n]⟩ φ} {f : ℕ → ℕ → ℝ} (h : Rep A f) : A = of2 f := by
  funext i
  obtain ⟨r, c, rfl⟩ : ∃ (r : Fin m) (c : Fin n), i = ix2 r c := ⟨_, _, eq_ix2 i⟩
  exact h r c

/-- An array of one layer of rows and columns holds the real function. -/
def Rep1 (A : FVec Ideal ⟨3, ![1, m, n]⟩ φ) (f : ℕ → ℕ → ℝ) : Prop :=
  ∀ (r : Fin m) (c : Fin n), A (ix3 0 r c) = ((f r.val c.val : ℝ) : EReal)

/-- The leading axis of extent one left out. -/
theorem Rep1.drop (h : Shape.ShapeCasts ⟨3, ![1, m, n]⟩ ⟨2, ![m, n]⟩) {A : FVec Ideal ⟨3, ![1, m, n]⟩ φ} {f : ℕ → ℕ → ℝ}
    (hA : Rep1 A f) : Rep (m := m) (n := n) (φ := φ) (shapeCast ⟨2, ![m, n]⟩ A h) f := fun r c => by
  rw [shapeCast_apply A h (ix2 r c) (ix3 0 r c) (by
    rw [Shape.rowMajor_val_two, Shape.rowMajor_val_three]
    show (0 * m + r.val) * n + c.val = r.val * n + c.val
    rw [Nat.zero_mul, Nat.zero_add])]
  exact hA r c

/-- A leading axis of extent one put in front. -/
theorem lift1 (h : Shape.ShapeCasts ⟨2, ![m, n]⟩ ⟨3, ![1, m, n]⟩) {A : FVec Ideal ⟨2, ![m, n]⟩ φ} {f : ℕ → ℕ → ℝ}
    (hA : Rep A f) : Rep1 (m := m) (n := n) (φ := φ) (shapeCast ⟨3, ![1, m, n]⟩ A h) f := fun r c => by
  rw [shapeCast_apply A h (ix3 0 r c) (ix2 r c) (by
    rw [Shape.rowMajor_val_two, Shape.rowMajor_val_three]
    show r.val * n + c.val = (0 * m + r.val) * n + c.val
    rw [Nat.zero_mul, Nat.zero_add])]
  exact hA r c

/-- The exponential of an array. -/
theorem rep_exp {A : FVec Ideal ⟨2, ![m, n]⟩ φ} {f : ℕ → ℕ → ℝ} (hA : Rep A f) :
    Rep (m := m) (n := n) (φ := φ) (exp A) (fun r c => Real.exp (f r c)) := fun r c => by
  show Ideal.exp (A (ix2 r c)) = _
  rw [hA, Ideal.exp_coe]

/-- The pattern of one is the number. -/
theorem word_one : Ideal.ofBits .f32 0x3F800000#32 = ((1 : ℝ) : EReal) := by
  simp [Ideal.ofBits, Ideal.ieee, -EReal.coe_mul]
  norm_num

/-- The logistic function of an array, as one over one plus the exponential of its negative. -/
theorem rep_sg {A : FVec Ideal ⟨2, ![m, n]⟩ .f32} {f : ℕ → ℕ → ℝ} (hA : Rep A f) :
    Rep (m := m) (n := n) (φ := .f32)
      (divf (broadcast ⟨2, ![m, n]⟩ (Scalar.ofBits (F := Ideal) .f32 0x3F800000#32))
        (addf (broadcast ⟨2, ![m, n]⟩ (Scalar.ofBits (F := Ideal) .f32 0x3F800000#32))
          (exp (subf (broadcast ⟨2, ![m, n]⟩ (Scalar.ofBits (F := Ideal) .f32 0x00000000#32)) A))))
      (fun r c => sg (f r c)) := by
  have one : Rep (m := m) (n := n) (φ := .f32) (broadcast ⟨2, ![m, n]⟩ (Scalar.ofBits (F := Ideal) .f32 0x3F800000#32)) (fun _ _ => 1) :=
    Rep.splat _ 1 word_one
  have zero : Rep (m := m) (n := n) (φ := .f32) (broadcast ⟨2, ![m, n]⟩ (Scalar.ofBits (F := Ideal) .f32 0x00000000#32)) (fun _ _ => 0) :=
    Rep.splat _ 0 (Ideal.ofBits_zero_f32.trans EReal.coe_zero.symm)
  exact one.div (one.add (rep_exp (zero.sub hA))) fun r c _ _ => one_add_exp_ne _

/-! ## Sums in four shards -/

/-- A sum over 2816 columns, shard by shard. -/
theorem sum_shards (f : ℕ → ℝ) : ∑ i ∈ range 2816, f i = ∑ q ∈ range 4, ∑ j ∈ range 704, f (704 * q + j) := by
  have h : ∀ n, ∑ i ∈ range (704 * n), f i = ∑ q ∈ range n, ∑ j ∈ range 704, f (704 * q + j) := by
    intro n
    induction n with
    | zero => simp
    | succ n ih => rw [Nat.mul_succ, Finset.sum_range_add, ih,
      Finset.sum_range_succ (fun q => ∑ j ∈ range 704, f (704 * q + j)) n]
  exact h 4

end Cert.FfnMath
-- ==== Proof.FfnLayer.lean ====
module

public import proofs.«01_k».proof.Proof.FfnReal
public import proofs.«01_k».proof.Proof.AttnArgs

/-! # The layer of five arrays

    The real functions of an input, three weights and an incoming gradient that hold real numbers only; and the
    weights cut into four shards of 704 hidden columns. -/

@[expose] public section

set_option maxRecDepth 16384

noncomputable section

namespace Cert.FfnMath

open Idealize.ShloMosaic Idealize.ShloMosaic.ValueIdx
open Cert.Attn (Rep Finite)
open scoped BigOperators
open Finset (range)

variable {m n p : ℕ} {φ φ₁ φ₂ : FTy}

/-- The real function of a two-dimensional array, zero outside it. -/
def re2 (A : FVec Ideal ⟨2, ![m, n]⟩ φ) (r c : ℕ) : ℝ := if h : r < m ∧ c < n then (A (ix2 ⟨r, h.1⟩ ⟨c, h.2⟩)).toReal else 0
/-- The real function of an array of one layer of rows and columns, zero outside it. -/
def re1 (A : FVec Ideal ⟨3, ![1, m, n]⟩ φ) (r c : ℕ) : ℝ := if h : r < m ∧ c < n then (A (ix3 0 ⟨r, h.1⟩ ⟨c, h.2⟩)).toReal else 0

/-- An array of real numbers holds its real function. -/
theorem rep_re2 {A : FVec Ideal ⟨2, ![m, n]⟩ φ} (h : Finite A) : Rep A (re2 A) := fun r c => by
  unfold re2
  rw [dif_pos ⟨r.isLt, c.isLt⟩]
  exact h.eq _

/-- A one-layer array of real numbers holds its real function. -/
theorem rep_re1 {A : FVec Ideal ⟨3, ![1, m, n]⟩ φ} (h : Finite A) : Rep1 A (re1 A) := fun r c => by
  unfold re1
  rw [dif_pos ⟨r.isLt, c.isLt⟩]
  exact h.eq _

/-- An entry of an array that holds a real function. -/
theorem at2 {A : FVec Ideal ⟨2, ![m, n]⟩ φ} {f : ℕ → ℕ → ℝ} (h : Rep A f) (i : (⟨2, ![m, n]⟩ : Shape).Idx) :
    A i = ((f (i 0).val (i 1).val : ℝ) : EReal) := congrFun (eq_of2 h) i

/-- An entry of a one-layer array that holds a real function. -/
theorem Rep1.entry {A : FVec Ideal ⟨3, ![1, m, n]⟩ φ} {f : ℕ → ℕ → ℝ} (h : Rep1 A f) (i : (⟨3, ![1, m, n]⟩ : Shape).Idx) :
    A i = ((f (i 1).val (i 2).val : ℝ) : EReal) := by
  have e : i = ix3 0 (i 1) (i 2) := by
    funext a
    match a with
    | ⟨0, _⟩ => exact Subsingleton.elim (α := Fin 1) _ _
    | ⟨1, _⟩ => rfl
    | ⟨2, _⟩ => rfl
  exact (congrArg A e).trans (h (i 1) (i 2))

/-- The layer of an input, a gate weight, an up weight, a down weight and an incoming gradient: hidden column `f` of
    shard `q` is column `704 q + f`. -/
def layer (x0 : FVec Ideal ⟨3, ![1, 2048, 1024]⟩ .f32) (x1 x2 : FVec Ideal ⟨2, ![1024, 2816]⟩ .f32)
    (x3 : FVec Ideal ⟨2, ![2816, 1024]⟩ .f32) (x4 : FVec Ideal ⟨3, ![1, 2048, 1024]⟩ .f32) : Layer where
  H := re1 x0
  G := fun q f d => re2 x1 d (704 * q + f)
  U := fun q f d => re2 x2 d (704 * q + f)
  D := fun q f d => re2 x3 (704 * q + f) d
  Y := re1 x4

/-! ## Shards of a weight -/

/-- A weight by columns, cut into shards of hidden columns: the rows of a shard are the columns of the weight. -/
theorem shards_of_cols (hc : Shape.ShapeCasts ⟨2, ![1024, 2816]⟩ ⟨3, ![1024, 4, 704]⟩)
    (ht : Shape.Transposes ⟨3, ![1024, 4, 704]⟩ [1, 2, 0] ⟨3, ![4, 704, 1024]⟩)
    {A : FVec Ideal ⟨2, ![1024, 2816]⟩ φ} {f : ℕ → ℕ → ℝ} (hA : Rep A f) :
    transpose ⟨3, ![4, 704, 1024]⟩ [1, 2, 0] (shapeCast ⟨3, ![1024, 4, 704]⟩ A hc) ht
      = of3 (p := 4) (m := 704) (n := 1024) (φ := φ) (fun q j d => f d (704 * q + j)) := by
  funext i
  rw [transpose_apply [1, 2, 0] (shapeCast ⟨3, ![1024, 4, 704]⟩ A hc) ht i (ix3 (i 2) (i 0) (i 1)) (fun b => match b with
    | ⟨0, _⟩ => rfl
    | ⟨1, _⟩ => rfl
    | ⟨2, _⟩ => rfl)]
  have h0 : (i 0).val < 4 := (i 0).isLt
  have h1 : (i 1).val < 704 := (i 1).isLt
  have h2 : (i 2).val < 1024 := (i 2).isLt
  rw [shapeCast_apply A hc (ix3 (i 2) (i 0) (i 1)) (ix2 (i 2) (⟨704 * (i 0).val + (i 1).val, by omega⟩ : Fin 2816)) (by
    rw [Shape.rowMajor_val_two, Shape.rowMajor_val_three]
    show (i 2).val * 2816 + (704 * (i 0).val + (i 1).val) = ((i 2).val * 4 + (i 0).val) * 704 + (i 1).val
    omega)]
  exact hA _ _

/-- A weight by rows, cut into shards of rows. -/
theorem shards_of_rows (hc : Shape.ShapeCasts ⟨2, ![2816, 1024]⟩ ⟨3, ![4, 704, 1024]⟩)
    {A : FVec Ideal ⟨2, ![2816, 1024]⟩ φ} {f : ℕ → ℕ → ℝ} (hA : Rep A f) :
    shapeCast ⟨3, ![4, 704, 1024]⟩ A hc = of3 (p := 4) (m := 704) (n := 1024) (φ := φ) (fun q j d => f (704 * q + j) d) := by
  funext i
  have h0 : (i 0).val < 4 := (i 0).isLt
  have h1 : (i 1).val < 704 := (i 1).isLt
  have h2 : (i 2).val < 1024 := (i 2).isLt
  rw [shapeCast_apply A hc i (ix2 (⟨704 * (i 0).val + (i 1).val, by omega⟩ : Fin 2816) (i 2)) (by
    rw [Shape.rowMajor_val_two, Shape.rowMajor_val_three]
    show (704 * (i 0).val + (i 1).val) * 1024 + (i 2).val = ((i 0).val * 704 + (i 1).val) * 1024 + (i 2).val
    omega)]
  exact hA _ _

end Cert.FfnMath
-- ==== Proof.FfnHost.lean ====
module

public import proofs.«01_k».proof.Proof.Gen.FfnIdeal.Frame
public import proofs.«01_k».proof.Proof.FfnLayer
public import Idealize.ShloMosaic.Lib.StableHlo.RunRead

/-! # What the host hands the six calls

    The lines before the first call: the three weights cut into shards, and the input and the incoming gradient by rows
    and columns. -/

@[expose] public section

set_option maxRecDepth 16384

noncomputable section

namespace Cert.FfnIdeal.Result

open Cert.FfnIdeal Cert.FfnIdeal.Gen
open Idealize.ShloMosaic Idealize.ShloMosaic.TcCoe Idealize.ShloMosaic.StableHlo
open Cert.Attn (Finite Rep)
open Cert.FfnMath

variable (m : (ℓ : Loc nD τ sig) → Buf (Elt Ideal) ℓ) (ρ : Dev nD → PrngReg) (c : Dev nD)

/-- The program's input. -/
def x0 : FVec Ideal S1x2048x1024 .f32 := m ((c : Thread nD τ).loc main_arg0)
/-- The program's gate weight. -/
def x1 : FVec Ideal S1024x2816 .f32 := m ((c : Thread nD τ).loc main_arg1)
/-- The program's up weight. -/
def x2 : FVec Ideal S1024x2816 .f32 := m ((c : Thread nD τ).loc main_arg2)
/-- The program's down weight. -/
def x3 : FVec Ideal S2816x1024 .f32 := m ((c : Thread nD τ).loc main_arg3)
/-- The program's incoming gradient. -/
def x4 : FVec Ideal S1x2048x1024 .f32 := m ((c : Thread nD τ).loc main_arg4)

/-- The five arrays hold real numbers only. -/
structure Reals : Prop where
  h0 : Finite (x0 m c)
  h1 : Finite (x1 m c)
  h2 : Finite (x2 m c)
  h3 : Finite (x3 m c)
  h4 : Finite (x4 m c)

/-- The layer of the program's five arrays. -/
abbrev lay : Layer := layer (x0 m c) (x1 m c) (x2 m c) (x3 m c) (x4 m c)

/-- The gate weight as the first call finds it. -/
theorem read_v2 : V1 m ρ c main_v2 = truncf .bf16 (transpose S4x704x1024 [1, 2, 0]
    (shapeCast S1024x4x704 (x1 m c) shapeCasts_S1024x2816_S1024x4x704) transposes_S1024x4x704_S4x704x1024_1_2_0) bitsLt_bf16_f32 := by
  unfold V1 W1
  after_reads_simp
  rfl
/-- The up weight as the first call finds it. -/
theorem read_v5 : V1 m ρ c main_v5 = truncf .bf16 (transpose S4x704x1024 [1, 2, 0]
    (shapeCast S1024x4x704 (x2 m c) shapeCasts_S1024x2816_S1024x4x704) transposes_S1024x4x704_S4x704x1024_1_2_0) bitsLt_bf16_f32 := by
  unfold V1 W1
  after_reads_simp
  rfl
/-- The down weight as the first call finds it. -/
theorem read_v7 : V1 m ρ c main_v7 = truncf .bf16 (shapeCast S4x704x1024 (x3 m c) shapeCasts_S2816x1024_S4x704x1024) bitsLt_bf16_f32 := by
  unfold V1 W1
  after_reads_simp
  rfl
/-- The input as the first call finds it. -/
theorem read_v9 : V1 m ρ c main_v9 = truncf .bf16 (shapeCast S2048x1024 (x0 m c) shapeCasts_S1x2048x1024_S2048x1024) bitsLt_bf16_f32 := by
  unfold V1 W1
  after_reads_simp
  rfl
/-- The incoming gradient as the first call finds it. -/
theorem read_v11 : V1 m ρ c main_v11 = truncf .bf16 (shapeCast S2048x1024 (x4 m c) shapeCasts_S1x2048x1024_S2048x1024) bitsLt_bf16_f32 := by
  unfold V1 W1
  after_reads_simp
  rfl

variable {m} {c}

/-- The gate weight's shards. -/
theorem in_gate (h : Reals m c) : V1 m ρ c main_v2 = of3 (p := 4) (m := 704) (n := 1024) (φ := .bf16) (lay m c).G :=
  (read_v2 m ρ c).trans (shards_of_cols shapeCasts_S1024x2816_S1024x4x704 transposes_S1024x4x704_S4x704x1024_1_2_0 (rep_re2 h.h1))
/-- The up weight's shards. -/
theorem in_up (h : Reals m c) : V1 m ρ c main_v5 = of3 (p := 4) (m := 704) (n := 1024) (φ := .bf16) (lay m c).U :=
  (read_v5 m ρ c).trans (shards_of_cols shapeCasts_S1024x2816_S1024x4x704 transposes_S1024x4x704_S4x704x1024_1_2_0 (rep_re2 h.h2))
/-- The down weight's shards. -/
theorem in_down (h : Reals m c) : V1 m ρ c main_v7 = of3 (p := 4) (m := 704) (n := 1024) (φ := .bf16) (lay m c).D :=
  (read_v7 m ρ c).trans (shards_of_rows shapeCasts_S2816x1024_S4x704x1024 (rep_re2 h.h3))
/-- The input by rows and columns. -/
theorem in_h (h : Reals m c) : V1 m ρ c main_v9 = of2 (m := 2048) (n := 1024) (φ := .bf16) (lay m c).H :=
  (read_v9 m ρ c).trans (eq_of2 ((rep_re1 h.h0).drop shapeCasts_S1x2048x1024_S2048x1024))
/-- The incoming gradient by rows and columns. -/
theorem in_ct (h : Reals m c) : V1 m ρ c main_v11 = of2 (m := 2048) (n := 1024) (φ := .bf16) (lay m c).Y :=
  (read_v11 m ρ c).trans (eq_of2 ((rep_re1 h.h4).drop shapeCasts_S1x2048x1024_S2048x1024))

end Cert.FfnIdeal.Result
-- ==== Proof.FfnBody.lean ====
module

public import proofs.«01_k».proof.Proof.Gen.FfnIdeal.Skeleton
public import proofs.«01_k».proof.Proof.FfnReal

/-! # What one point of each call computes

    From blocks that hold real functions, the values each body stores, as real functions. -/

@[expose] public section

set_option maxRecDepth 16384

noncomputable section

namespace Cert.FfnIdeal.Body

open Cert.FfnIdeal Cert.FfnIdeal.Gen
open Idealize.ShloMosaic Idealize.ShloMosaic.ValueIdx
open Cert.Attn (Rep)
open Cert.FfnMath
open scoped BigOperators
open Finset (range)

/-! ## The up projections -/

section Up
variable {x0 : Vec Ideal S1024x1024 .bf16} {x1 x2 : Vec Ideal S1x704x1024 .bf16} {h g u : ℕ → ℕ → ℝ}

/-- The gate. -/
theorem up_a (h0 : Rep (φ := .bf16) x0 h) (h1 : Rep1 (φ := .bf16) x1 g) :
    Rep (φ := .f32) (k0_pay2 x0 x1) (fun r f => ∑ k ∈ range 1024, h r k * g f k) :=
  Rep.nt _ _ (h0.same _) (h1.drop _)
/-- The up projection. -/
theorem up_b (h0 : Rep (φ := .bf16) x0 h) (h2 : Rep1 (φ := .bf16) x2 u) :
    Rep (φ := .f32) (k0_pay3 x0 x2) (fun r f => ∑ k ∈ range 1024, h r k * u f k) :=
  Rep.nt _ _ (h0.same _) (h2.drop _)
/-- The gate as stored. -/
theorem pay0_4 (h0 : Rep (φ := .bf16) x0 h) (h1 : Rep1 (φ := .bf16) x1 g) :
    Rep1 (φ := .bf16) (k0_pay4 x0 x1) (fun r f => ∑ k ∈ range 1024, h r k * g f k) :=
  lift1 _ ((up_a h0 h1).cut _)
/-- The up projection as stored. -/
theorem pay0_5 (h0 : Rep (φ := .bf16) x0 h) (h2 : Rep1 (φ := .bf16) x2 u) :
    Rep1 (φ := .bf16) (k0_pay5 x0 x2) (fun r f => ∑ k ∈ range 1024, h r k * u f k) :=
  lift1 _ ((up_b h0 h2).cut _)
/-- The gated hidden values as stored. -/
theorem pay0_6 (a b : ℕ → ℕ → ℝ) (ha : ∀ r f, ∑ k ∈ range 1024, h r k * g f k = a r f) (hb : ∀ r f, ∑ k ∈ range 1024, h r k * u f k = b r f)
    (h0 : Rep (φ := .bf16) x0 h) (h1 : Rep1 (φ := .bf16) x1 g) (h2 : Rep1 (φ := .bf16) x2 u) :
    Rep1 (φ := .bf16) (k0_pay6 x0 x1 x2) (fun r f => a r f * sg (a r f) * b r f) := by
  have va : Rep (φ := .f32) (k0_pay2 x0 x1) a := (up_a h0 h1).congr fun r f _ _ => ha r f
  have vb : Rep (φ := .f32) (k0_pay3 x0 x2) b := (up_b h0 h2).congr fun r f _ _ => hb r f
  exact lift1 _ (((va.mul (rep_sg va)).mul vb).cut _)
end Up

/-! ## The down projection -/

/-- The accumulator starts at zero. -/
theorem pay1_1 : Rep (φ := .f32) (k1_pay1 (F := Ideal)) (fun _ _ => 0) :=
  Rep.splat _ 0 (Ideal.ofBits_zero_f32.trans EReal.coe_zero.symm)
/-- One shard's part is added. -/
theorem pay1_2 {acc : Vec Ideal S1024x1024 .f32} {x0 : Vec Ideal S1x1024x704 .bf16} {x1 : Vec Ideal S1x704x1024 .bf16}
    {z s d : ℕ → ℕ → ℝ} (ha : Rep (φ := .f32) acc z) (h0 : Rep1 (φ := .bf16) x0 s) (h1 : Rep1 (φ := .bf16) x1 d) :
    Rep (φ := .f32) (k1_pay2 acc x0 x1) (fun r k => z r k + ∑ f ∈ range 704, s r f * d f k) :=
  (ha.same _).add (Rep.nn _ _ (h0.drop _) (h1.drop _))

/-! ## The gradients of the hidden values -/

section Down
variable {x0 : Vec Ideal S1024x1024 .bf16} {x1 : Vec Ideal S1x704x1024 .bf16} {x2 x3 : Vec Ideal S1x1024x704 .bf16} {y d a b : ℕ → ℕ → ℝ}

/-- The gated hidden values' gradient. -/
theorem down_ds (h0 : Rep (φ := .bf16) x0 y) (h1 : Rep1 (φ := .bf16) x1 d) :
    Rep (φ := .f32) (k2_pay2 x0 x1) (fun r f => ∑ k ∈ range 1024, y r k * d f k) :=
  Rep.nt _ _ (h0.same _) (h1.drop _)
/-- The gate, widened. -/
theorem down_a (h2 : Rep1 (φ := .bf16) x2 a) : Rep (φ := .f32) (k2_pay3 x2) a := (h2.drop _).ext _
/-- The gate's sigmoid. -/
theorem down_sg (h2 : Rep1 (φ := .bf16) x2 a) : Rep (φ := .f32) (k2_pay4 x2) (fun r f => sg (a r f)) := rep_sg (down_a h2)
/-- The gate's gradient. -/
theorem pay2_5 (ds : ℕ → ℕ → ℝ) (hd : ∀ r f, ∑ k ∈ range 1024, y r k * d f k = ds r f) (h0 : Rep (φ := .bf16) x0 y) (h1 : Rep1 (φ := .bf16) x1 d) (h2 : Rep1 (φ := .bf16) x2 a) (h3 : Rep1 (φ := .bf16) x3 b) :
    Rep1 (φ := .bf16) (k2_pay5 x0 x1 x2 x3) (fun r f => ds r f * b r f
      * (sg (a r f) * (1 + a r f * (1 - sg (a r f))))) := by
  have one : Rep (m := 1024) (n := 704) (φ := .f32) (broadcast S1024x704 (Scalar.ofBits (F := Ideal) .f32 0x3F800000#32)) (fun _ _ => 1) :=
    Rep.splat _ 1 word_one
  have vd : Rep (φ := .f32) (k2_pay2 x0 x1) ds := (down_ds h0 h1).congr fun r f _ _ => hd r f
  exact lift1 _ (((vd.mul ((h3.drop _).ext _)).mul
    ((down_sg h2).mul (one.add ((down_a h2).mul (one.sub (down_sg h2)))))).cut _)
/-- The up projection's gradient. -/
theorem pay2_6 (ds : ℕ → ℕ → ℝ) (hd : ∀ r f, ∑ k ∈ range 1024, y r k * d f k = ds r f) (h0 : Rep (φ := .bf16) x0 y) (h1 : Rep1 (φ := .bf16) x1 d) (h2 : Rep1 (φ := .bf16) x2 a) :
    Rep1 (φ := .bf16) (k2_pay1 (k2_pay6 x0 x1 x2)) (fun r f => ds r f * (a r f * sg (a r f))) :=
  lift1 _ ((((down_ds h0 h1).congr fun r f _ _ => hd r f).mul ((down_a h2).mul (down_sg h2))).cut _)
end Down

/-! ## The gradients of the weights -/

/-- The down weight's gradient. -/
theorem pay3_1 {x0 : Vec Ideal S1x2048x704 .bf16} {x1 : Vec Ideal S2048x1024 .bf16} {s y : ℕ → ℕ → ℝ}
    (h0 : Rep1 (φ := .bf16) x0 s) (h1 : Rep (φ := .bf16) x1 y) :
    Rep1 (φ := .bf16) (k3_pay1 x0 x1) (fun f d => ∑ r ∈ range 2048, s r f * y r d) :=
  lift1 _ ((Rep.tn _ _ (h0.drop _) (h1.same _)).cut _)

section DUp
variable {x0 : Vec Ideal S2048x512 .bf16} {x1 : Vec Ideal S1x2048x704 .bf16} {h a : ℕ → ℕ → ℝ}
/-- The gate weight's gradient. -/
theorem pay4_2 (h0 : Rep (φ := .bf16) x0 h) (h1 : Rep1 (φ := .bf16) x1 a) :
    Rep1 (φ := .bf16) (k4_pay2 x0 x1) (fun f d => ∑ r ∈ range 2048, a r f * h r d) :=
  lift1 _ ((Rep.tn _ _ (h1.drop _) (h0.same _)).cut _)
/-- The up weight's gradient. -/
theorem pay4_3 (h0 : Rep (φ := .bf16) x0 h) (h1 : Rep1 (φ := .bf16) x1 a) :
    Rep1 (φ := .bf16) (k4_pay3 x0 x1) (fun f d => ∑ r ∈ range 2048, a r f * h r d) :=
  lift1 _ ((Rep.tn _ _ (h1.drop _) (h0.same _)).cut _)
end DUp

/-! ## The gradient of the input -/

/-- The accumulator starts at zero. -/
theorem pay5_1 : Rep (φ := .f32) (k5_pay1 (F := Ideal)) (fun _ _ => 0) :=
  Rep.splat _ 0 (Ideal.ofBits_zero_f32.trans EReal.coe_zero.symm)
/-- One shard's part is added. -/
theorem pay5_2 {acc : Vec Ideal S1024x1024 .f32} {x0 x1 : Vec Ideal S1x1024x704 .bf16} {x2 x3 : Vec Ideal S1x704x1024 .bf16}
    {z a b g u : ℕ → ℕ → ℝ} (ha : Rep (φ := .f32) acc z) (h0 : Rep1 (φ := .bf16) x0 a) (h1 : Rep1 (φ := .bf16) x1 b)
    (h2 : Rep1 (φ := .bf16) x2 g) (h3 : Rep1 (φ := .bf16) x3 u) :
    Rep (φ := .f32) (k5_pay2 acc x0 x2 x1 x3)
      (fun r k => z r k + ((∑ f ∈ range 704, a r f * g f k) + ∑ f ∈ range 704, b r f * u f k)) :=
  (ha.same _).add ((Rep.nn _ _ (h0.drop _) (h2.drop _)).add (Rep.nn _ _ (h1.drop _) (h3.drop _)))

end Cert.FfnIdeal.Body
-- ==== Proof.FfnRegion0.lean ====
module

public import proofs.«01_k».proof.Proof.Gen.FfnIdeal.Frame
public import proofs.«01_k».proof.Proof.FfnBody
public import Idealize.ShloMosaic.Lib.Pipeline.ValueKit

/-! # The first call: the up projections

    The gate, the up projection and the gated hidden values of all rows, shard by shard. -/

@[expose] public section

set_option maxRecDepth 16384

noncomputable section

namespace Cert.FfnIdeal.Region0

open Cert.FfnIdeal Cert.FfnIdeal.Gen Cert.FfnIdeal.Body
open Idealize.ShloMosaic hiding ix2 eq_ix2 ix3 eq_ix3
open Idealize.ShloMosaic.TcCoe
open Idealize.SL.Sem
open Idealize.ShloMosaic.ValueIdx
open Idealize.ShloMosaic.Pipeline (Dat)
open Cert.Attn (Rep)
open Cert.FfnMath
open scoped BigOperators
open Finset (range)

variable (V : (c : Dev nD) → (b : Ref sig .tc) → Buf (Elt Ideal) ((c : Thread nD τ).loc b)) (c : Dev nD) (L : Layer)

/-- The blocks at a point of the grid. -/
theorem block_index : ∀ t : Fin grid0.N,
    (win0_0.index t 0 = t.val % 2 ∧ win0_0.index t 1 = 0)
    ∧ (win0_1.index t 0 = t.val / 2 ∧ win0_1.index t 1 = 0 ∧ win0_1.index t 2 = 0)
    ∧ (win0_2.index t 0 = t.val / 2 ∧ win0_2.index t 1 = 0 ∧ win0_2.index t 2 = 0)
    ∧ (win0_3.index t 0 = t.val / 2 ∧ win0_3.index t 1 = t.val % 2 ∧ win0_3.index t 2 = 0)
    ∧ (win0_4.index t 0 = t.val / 2 ∧ win0_4.index t 1 = t.val % 2 ∧ win0_4.index t 2 = 0)
    ∧ (win0_5.index t 0 = t.val / 2 ∧ win0_5.index t 1 = t.val % 2 ∧ win0_5.index t 2 = 0) := by
  decide +kernel

variable {V} {c} {L}

/-- The block of the input. -/
theorem blk0 (hv : V c main_v9 = of2 (m := 2048) (n := 1024) (φ := .bf16) L.H) (t : Fin cfg0.N) :
    Rep (m := 1024) (n := 1024) (φ := .bf16) (iblk0 V c 0 t) (fun r k => L.H (1024 * (t.val % 2) + r) k) := fun r k => by
  obtain ⟨⟨i0, i1⟩, -⟩ := block_index t
  unfold iblk0
  rw [View.read_apply]
  show V c main_v9 _ = _
  rw [hv]
  show ((L.H (win0_0.index t 0 * 1024 + 1 * r.val) (win0_0.index t 1 * 1024 + 1 * k.val) : ℝ) : EReal) = _
  rw [i0, i1]
  congr 2 <;> omega

/-- The block of the gate weight. -/
theorem blk1 (hv : V c main_v2 = of3 (p := 4) (m := 704) (n := 1024) (φ := .bf16) L.G) (t : Fin cfg0.N) :
    Rep1 (m := 704) (n := 1024) (φ := .bf16) (iblk0 V c 1 t) (fun r k => L.G (t.val / 2) r k) := fun r k => by
  obtain ⟨-, ⟨i0, i1, i2⟩, -⟩ := block_index t
  unfold iblk0
  rw [View.read_apply]
  show V c main_v2 _ = _
  rw [hv]
  show ((L.G (win0_1.index t 0 * 1 + 1 * 0) (win0_1.index t 1 * 704 + 1 * r.val) (win0_1.index t 2 * 1024 + 1 * k.val) : ℝ) : EReal) = _
  rw [i0, i1, i2]
  congr 2 <;> omega

/-- The block of the up weight. -/
theorem blk2 (hv : V c main_v5 = of3 (p := 4) (m := 704) (n := 1024) (φ := .bf16) L.U) (t : Fin cfg0.N) :
    Rep1 (m := 704) (n := 1024) (φ := .bf16) (iblk0 V c 2 t) (fun r k => L.U (t.val / 2) r k) := fun r k => by
  obtain ⟨-, -, ⟨i0, i1, i2⟩, -⟩ := block_index t
  unfold iblk0
  rw [View.read_apply]
  show V c main_v5 _ = _
  rw [hv]
  show ((L.U (win0_2.index t 0 * 1 + 1 * 0) (win0_2.index t 1 * 704 + 1 * r.val) (win0_2.index t 2 * 1024 + 1 * k.val) : ℝ) : EReal) = _
  rw [i0, i1, i2]
  congr 2 <;> omega

/-- The gate before its activation. -/
theorem final3 (h0 : V c main_v9 = of2 (m := 2048) (n := 1024) (φ := .bf16) L.H)
    (h1 : V c main_v2 = of3 (p := 4) (m := 704) (n := 1024) (φ := .bf16) L.G) :
    (dat0 V c).arrAt 3 cfg0.N = of3 (p := 4) (m := 2048) (n := 704) (φ := .bf16) L.a := by
  refine (dat0 V c).arrAt_eq_of_covers 3 _ (by decide +kernel) fun t hf y => ?_
  obtain ⟨-, -, -, ⟨i0, i1, i2⟩, -⟩ := block_index t
  obtain ⟨z, r, k, rfl⟩ : ∃ (z : Fin 1) (r : Fin 1024) (k : Fin 704), y = ix3 z r k := ⟨_, _, _, eq_ix3 y⟩
  obtain rfl : z = 0 := Subsingleton.elim _ _
  have e : (dat0 V c).after 3 t = k0_pay4 (iblk0 V c 0 t) (iblk0 V c 1 t) := by
    rw [after0_3]
    unfold out0_3
    rw [View.ld_unit_zero (S := S1024x1024) (by decide), View.ld_unit_zero (S := S1x704x1024) (by decide)]
    exact View.canon_unit_zero (S := S1x1024x704) (by decide) _ _
  refine (congrFun e (ix3 0 r k)).trans ?_
  refine (pay0_4 (blk0 h0 t) (blk1 h1 t) r k).trans ?_
  show _ = ((L.a (win0_3.index t 0 * 1 + 1 * 0) (win0_3.index t 1 * 1024 + 1 * r.val) (win0_3.index t 2 * 704 + 1 * k.val) : ℝ) : EReal)
  rw [i0, i1, i2, show t.val / 2 * 1 + 1 * 0 = t.val / 2 by omega,
    show t.val % 2 * 1024 + 1 * r.val = 1024 * (t.val % 2) + r.val by omega, show 0 * 704 + 1 * k.val = k.val by omega]
  rfl

/-- The up projection. -/
theorem final4 (h0 : V c main_v9 = of2 (m := 2048) (n := 1024) (φ := .bf16) L.H)
    (h2 : V c main_v5 = of3 (p := 4) (m := 704) (n := 1024) (φ := .bf16) L.U) :
    (dat0 V c).arrAt 4 cfg0.N = of3 (p := 4) (m := 2048) (n := 704) (φ := .bf16) L.b := by
  refine (dat0 V c).arrAt_eq_of_covers 4 _ (by decide +kernel) fun t hf y => ?_
  obtain ⟨-, -, -, -, ⟨i0, i1, i2⟩, -⟩ := block_index t
  obtain ⟨z, r, k, rfl⟩ : ∃ (z : Fin 1) (r : Fin 1024) (k : Fin 704), y = ix3 z r k := ⟨_, _, _, eq_ix3 y⟩
  obtain rfl : z = 0 := Subsingleton.elim _ _
  have e : (dat0 V c).after 4 t = k0_pay5 (iblk0 V c 0 t) (iblk0 V c 2 t) := by
    rw [after0_4]
    unfold out0_4
    rw [View.ld_unit_zero (S := S1024x1024) (by decide), View.ld_unit_zero (S := S1x704x1024) (by decide)]
    exact View.canon_unit_zero (S := S1x1024x704) (by decide) _ _
  refine (congrFun e (ix3 0 r k)).trans ?_
  refine (pay0_5 (blk0 h0 t) (blk2 h2 t) r k).trans ?_
  show _ = ((L.b (win0_4.index t 0 * 1 + 1 * 0) (win0_4.index t 1 * 1024 + 1 * r.val) (win0_4.index t 2 * 704 + 1 * k.val) : ℝ) : EReal)
  rw [i0, i1, i2, show t.val / 2 * 1 + 1 * 0 = t.val / 2 by omega,
    show t.val % 2 * 1024 + 1 * r.val = 1024 * (t.val % 2) + r.val by omega, show 0 * 704 + 1 * k.val = k.val by omega]
  rfl

/-- The gated hidden values. -/
theorem final5 (h0 : V c main_v9 = of2 (m := 2048) (n := 1024) (φ := .bf16) L.H)
    (h1 : V c main_v2 = of3 (p := 4) (m := 704) (n := 1024) (φ := .bf16) L.G)
    (h2 : V c main_v5 = of3 (p := 4) (m := 704) (n := 1024) (φ := .bf16) L.U) :
    (dat0 V c).arrAt 5 cfg0.N = of3 (p := 4) (m := 2048) (n := 704) (φ := .bf16) L.s := by
  refine (dat0 V c).arrAt_eq_of_covers 5 _ (by decide +kernel) fun t hf y => ?_
  obtain ⟨-, -, -, -, -, ⟨i0, i1, i2⟩⟩ := block_index t
  obtain ⟨z, r, k, rfl⟩ : ∃ (z : Fin 1) (r : Fin 1024) (k : Fin 704), y = ix3 z r k := ⟨_, _, _, eq_ix3 y⟩
  obtain rfl : z = 0 := Subsingleton.elim _ _
  have e : (dat0 V c).after 5 t = k0_pay6 (iblk0 V c 0 t) (iblk0 V c 1 t) (iblk0 V c 2 t) := by
    rw [after0_5]
    unfold out0_5
    rw [View.ld_unit_zero (S := S1024x1024) (by decide), View.ld_unit_zero (S := S1x704x1024) (by decide), View.ld_unit_zero (S := S1x704x1024) (by decide)]
    exact View.canon_unit_zero (S := S1x1024x704) (by decide) _ _
  refine (congrFun e (ix3 0 r k)).trans ?_
  refine (pay0_6 (fun r f => L.a (t.val / 2) (1024 * (t.val % 2) + r) f) (fun r f => L.b (t.val / 2) (1024 * (t.val % 2) + r) f) (fun _ _ => rfl) (fun _ _ => rfl) (blk0 h0 t) (blk1 h1 t) (blk2 h2 t) r k).trans ?_
  show _ = ((L.s (win0_5.index t 0 * 1 + 1 * 0) (win0_5.index t 1 * 1024 + 1 * r.val) (win0_5.index t 2 * 704 + 1 * k.val) : ℝ) : EReal)
  rw [i0, i1, i2, show t.val / 2 * 1 + 1 * 0 = t.val / 2 by omega,
    show t.val % 2 * 1024 + 1 * r.val = 1024 * (t.val % 2) + r.val by omega, show 0 * 704 + 1 * k.val = k.val by omega]
  rfl

end Cert.FfnIdeal.Region0
-- ==== Proof.FfnRegion1.lean ====
module

public import proofs.«01_k».proof.Proof.Gen.FfnIdeal.Frame
public import proofs.«01_k».proof.Proof.FfnBody
public import Idealize.ShloMosaic.Lib.Pipeline.ValueKit

/-! # The second call: the down projection

    The output of all rows: each row block's sum grows shard by shard. -/

@[expose] public section

set_option maxRecDepth 16384

noncomputable section

namespace Cert.FfnIdeal.Region1

open Cert.FfnIdeal Cert.FfnIdeal.Gen Cert.FfnIdeal.Body
open Idealize.ShloMosaic hiding ix2 eq_ix2 ix3 eq_ix3
open Idealize.ShloMosaic.TcCoe
open Idealize.SL.Sem
open Idealize.ShloMosaic.ValueIdx
open Idealize.ShloMosaic.Pipeline (Dat)
open Cert.Attn (Rep)
open Cert.FfnMath
open scoped BigOperators
open Finset (range)

variable (V : (c : Dev nD) → (b : Ref sig .tc) → Buf (Elt Ideal) ((c : Thread nD τ).loc b)) (c : Dev nD) (L : Layer)

/-- The blocks at a point of the grid. -/
theorem block_index : ∀ t : Fin grid1.N,
    (win1_0.index t 0 = t.val % 4 ∧ win1_0.index t 1 = t.val / 4 ∧ win1_0.index t 2 = 0)
    ∧ (win1_1.index t 0 = t.val % 4 ∧ win1_1.index t 1 = 0 ∧ win1_1.index t 2 = 0)
    ∧ (win1_2.index t 0 = t.val / 4 ∧ win1_2.index t 1 = 0) := by
  decide +kernel

variable {V} {c} {L}

/-- The block of the gated hidden values. -/
theorem blk0 (hv : V c main_v12_2 = of3 (p := 4) (m := 2048) (n := 704) (φ := .bf16) L.s) (t : Fin cfg1.N) :
    Rep1 (m := 1024) (n := 704) (φ := .bf16) (iblk1 V c 0 t) (fun r k => L.s (t.val % 4) (1024 * (t.val / 4) + r) k) := fun r k => by
  obtain ⟨⟨i0, i1, i2⟩, -⟩ := block_index t
  unfold iblk1
  rw [View.read_apply]
  show V c main_v12_2 _ = _
  rw [hv]
  show ((L.s (win1_0.index t 0 * 1 + 1 * 0) (win1_0.index t 1 * 1024 + 1 * r.val) (win1_0.index t 2 * 704 + 1 * k.val) : ℝ) : EReal) = _
  rw [i0, i1, i2]
  congr 2 <;> omega

/-- The block of the down weight. -/
theorem blk1 (hv : V c main_v7 = of3 (p := 4) (m := 704) (n := 1024) (φ := .bf16) L.D) (t : Fin cfg1.N) :
    Rep1 (m := 704) (n := 1024) (φ := .bf16) (iblk1 V c 1 t) (fun r k => L.D (t.val % 4) r k) := fun r k => by
  obtain ⟨-, ⟨i0, i1, i2⟩, -⟩ := block_index t
  unfold iblk1
  rw [View.read_apply]
  show V c main_v7 _ = _
  rw [hv]
  show ((L.D (win1_1.index t 0 * 1 + 1 * 0) (win1_1.index t 1 * 704 + 1 * r.val) (win1_1.index t 2 * 1024 + 1 * k.val) : ℝ) : EReal) = _
  rw [i0, i1, i2]
  congr 2 <;> omega

/-- A point that adds to what the point before left. -/
theorem left_B (i : grid1.Coords) (a0 : Memref sig .tc .vmem S1x1024x704 .bf16) (g0 : a0.IsWhole)
    (a1 : Memref sig .tc .vmem S1x704x1024 .bf16) (g1 : a1.IsWhole)
    (ao : Memref sig .tc .vmem S1024x1024 .f32) (go : ao.IsWhole) (hc : ¬cond1_0 i)
    (x0 : Vec Ideal S1x1024x704 .bf16) (x1 : Vec Ideal S1x704x1024 .bf16) (xo : Vec Ideal S1024x1024 .f32) :
    out1_B_2 (F := Ideal) c i a0 g0 a1 g1 ao go hc x0 x1 xo = k1_pay2 xo x0 x1 := by
  unfold out1_B_2
  rw [View.read_writes_eq_canon _ _ _ (cover1_B_2 c i a0 g0 a1 g1 ao go hc x0 x1 xo)]
  unfold kernelRun1_B
  dsimp only
  rw [View.canon_unit_zero (S := S1024x1024) (by decide)]
  simp only [View.readAt_eq_ld, g0.read_unread, g1.read_unread, go.read_unread]
  simp only [View.ld_unit_zero (S := S1024x1024) (show (![0, 0] : Fin 2 → ℕ) = fun _ => 0 by decide),
    View.ld_unit_zero (S := S1x1024x704) (show (![0, 0, 0] : Fin 3 → ℕ) = fun _ => 0 by decide), View.ld_unit_zero (S := S1x704x1024) (show (![0, 0, 0] : Fin 3 → ℕ) = fun _ => 0 by decide)]

/-- A point that starts from zero. -/
theorem left_A (i : grid1.Coords) (a0 : Memref sig .tc .vmem S1x1024x704 .bf16) (g0 : a0.IsWhole)
    (a1 : Memref sig .tc .vmem S1x704x1024 .bf16) (g1 : a1.IsWhole)
    (ao : Memref sig .tc .vmem S1024x1024 .f32) (go : ao.IsWhole) (hc : cond1_0 i)
    (x0 : Vec Ideal S1x1024x704 .bf16) (x1 : Vec Ideal S1x704x1024 .bf16) :
    out1_A_2 (F := Ideal) c i a0 g0 a1 g1 ao go hc x0 x1 = k1_pay2 k1_pay1 x0 x1 := by
  unfold out1_A_2
  rw [View.read_writes_eq_canon _ _ _ (cover1_A_2 c i a0 g0 a1 g1 ao go hc x0 x1)]
  unfold kernelRun1_A
  dsimp only
  sl_unfold_words
  rw [View.canon_cons_unit_zero (S := S1024x1024) (by decide), View.readCov_unit_zero (S := S1024x1024) _ (by decide)]
  simp only [View.readAt_eq_ld, g0.read_unread, g1.read_unread]
  simp only [View.ld_unit_zero (S := S1x1024x704) (show (![0, 0, 0] : Fin 3 → ℕ) = fun _ => 0 by decide), View.ld_unit_zero (S := S1x704x1024) (show (![0, 0, 0] : Fin 3 → ℕ) = fun _ => 0 by decide)]

/-- What a point leaves: the sum over the shards so far. -/
theorem left (h0 : V c main_v12_2 = of3 (p := 4) (m := 2048) (n := 704) (φ := .bf16) L.s)
    (h1 : V c main_v7 = of3 (p := 4) (m := 704) (n := 1024) (φ := .bf16) L.D) :
    ∀ (n : ℕ) (hn : n < cfg1.N), Rep (m := 1024) (n := 1024) (φ := .f32) (outsAt1 V c n hn)
      (fun r k => ∑ q ∈ range (n % 4 + 1), ∑ f ∈ range 704, L.s q (1024 * (n / 4) + r) f * L.D q f k) := by
  intro n
  induction n with
  | zero =>
    intro hn
    let t : Fin cfg1.N := ⟨0, hn⟩
    have e := (outsAt1_A V c t rfl).trans (left_A ..)
    have v := pay1_2 pay1_1 (blk0 h0 t) (blk1 h1 t)
    refine (show Rep (m := 1024) (n := 1024) (φ := .f32) (outsAt1 V c t.val t.isLt) _ from e ▸ v).congr fun r k _ _ => ?_
    rw [show 0 % 4 + 1 = 1 from rfl, Finset.sum_range_one]
    exact zero_add _
  | succ n ih =>
    intro hn
    let t : Fin cfg1.N := ⟨n + 1, hn⟩
    by_cases h : (n + 1) % 4 = 0
    · have e := (outsAt1_A V c t h).trans (left_A ..)
      have v := pay1_2 pay1_1 (blk0 h0 t) (blk1 h1 t)
      refine (show Rep (m := 1024) (n := 1024) (φ := .f32) (outsAt1 V c t.val t.isLt) _ from e ▸ v).congr fun r k _ _ => ?_
      show 0 + _ = _
      rw [h, Finset.sum_range_one, zero_add]
    · have e := (outsAt1_B V c t h).trans (left_B ..)
      have v := pay1_2 (ih (by omega)) (blk0 h0 t) (blk1 h1 t)
      refine (show Rep (m := 1024) (n := 1024) (φ := .f32) (outsAt1 V c t.val t.isLt) _ from e ▸ v).congr fun r k _ _ => ?_
      have hq : (n + 1) % 4 = n % 4 + 1 := by omega
      have hi : (n + 1) / 4 = n / 4 := by omega
      rw [hi, hq, Finset.sum_range_succ _ (n % 4 + 1)]

/-- The output. -/
theorem final2 (h0 : V c main_v12_2 = of3 (p := 4) (m := 2048) (n := 704) (φ := .bf16) L.s)
    (h1 : V c main_v7 = of3 (p := 4) (m := 704) (n := 1024) (φ := .bf16) L.D) :
    (dat1 V c).arrAt 2 cfg1.N = of2 (m := 2048) (n := 1024) (φ := .f32) L.y := by
  refine (dat1 V c).arrAt_eq_of_covers 2 _ (by decide +kernel) fun t hf y => ?_
  have he : t.val % 4 = 3 := (flush1_2 t).mp hf
  obtain ⟨-, -, ⟨i0, i1⟩⟩ := block_index t
  obtain ⟨r, k, rfl⟩ : ∃ (r : Fin 1024) (k : Fin 1024), y = ix2 r k := ⟨_, _, eq_ix2 y⟩
  refine (congrFun (after1_2 V c t) (ix2 r k)).trans ?_
  refine (left h0 h1 t.val t.isLt r k).trans ?_
  show _ = ((L.y (win1_2.index t 0 * 1024 + 1 * r.val) (win1_2.index t 1 * 1024 + 1 * k.val) : ℝ) : EReal)
  rw [i0, i1, he, show t.val / 4 * 1024 + 1 * r.val = 1024 * (t.val / 4) + r.val by omega, show 0 * 1024 + 1 * k.val = k.val by omega]
  rfl

end Cert.FfnIdeal.Region1
-- ==== Proof.FfnRegion2.lean ====
module

public import proofs.«01_k».proof.Proof.Gen.FfnIdeal.Frame
public import proofs.«01_k».proof.Proof.FfnBody
public import Idealize.ShloMosaic.Lib.Pipeline.ValueKit

/-! # The third call: the gradients of the hidden values

    The gradients of the gate and of the up projection of all rows, shard by shard. -/

@[expose] public section

set_option maxRecDepth 16384

noncomputable section

namespace Cert.FfnIdeal.Region2

open Cert.FfnIdeal Cert.FfnIdeal.Gen Cert.FfnIdeal.Body
open Idealize.ShloMosaic hiding ix2 eq_ix2 ix3 eq_ix3
open Idealize.ShloMosaic.TcCoe
open Idealize.SL.Sem
open Idealize.ShloMosaic.ValueIdx
open Idealize.ShloMosaic.Pipeline (Dat)
open Cert.Attn (Rep)
open Cert.FfnMath
open scoped BigOperators
open Finset (range)

variable (V : (c : Dev nD) → (b : Ref sig .tc) → Buf (Elt Ideal) ((c : Thread nD τ).loc b)) (c : Dev nD) (L : Layer)

/-- The blocks at a point of the grid. -/
theorem block_index : ∀ t : Fin grid2.N,
    (win2_0.index t 0 = t.val % 2 ∧ win2_0.index t 1 = 0)
    ∧ (win2_1.index t 0 = t.val / 2 ∧ win2_1.index t 1 = 0 ∧ win2_1.index t 2 = 0)
    ∧ (win2_2.index t 0 = t.val / 2 ∧ win2_2.index t 1 = t.val % 2 ∧ win2_2.index t 2 = 0)
    ∧ (win2_3.index t 0 = t.val / 2 ∧ win2_3.index t 1 = t.val % 2 ∧ win2_3.index t 2 = 0)
    ∧ (win2_4.index t 0 = t.val / 2 ∧ win2_4.index t 1 = t.val % 2 ∧ win2_4.index t 2 = 0)
    ∧ (win2_5.index t 0 = t.val / 2 ∧ win2_5.index t 1 = t.val % 2 ∧ win2_5.index t 2 = 0) := by
  decide +kernel

variable {V} {c} {L}

/-- The block of the incoming gradient. -/
theorem blk0 (hv : V c main_v11 = of2 (m := 2048) (n := 1024) (φ := .bf16) L.Y) (t : Fin cfg2.N) :
    Rep (m := 1024) (n := 1024) (φ := .bf16) (iblk2 V c 0 t) (fun r k => L.Y (1024 * (t.val % 2) + r) k) := fun r k => by
  obtain ⟨⟨i0, i1⟩, -⟩ := block_index t
  unfold iblk2
  rw [View.read_apply]
  show V c main_v11 _ = _
  rw [hv]
  show ((L.Y (win2_0.index t 0 * 1024 + 1 * r.val) (win2_0.index t 1 * 1024 + 1 * k.val) : ℝ) : EReal) = _
  rw [i0, i1]
  congr 2 <;> omega

/-- The block of the down weight. -/
theorem blk1 (hv : V c main_v7 = of3 (p := 4) (m := 704) (n := 1024) (φ := .bf16) L.D) (t : Fin cfg2.N) :
    Rep1 (m := 704) (n := 1024) (φ := .bf16) (iblk2 V c 1 t) (fun r k => L.D (t.val / 2) r k) := fun r k => by
  obtain ⟨-, ⟨i0, i1, i2⟩, -⟩ := block_index t
  unfold iblk2
  rw [View.read_apply]
  show V c main_v7 _ = _
  rw [hv]
  show ((L.D (win2_1.index t 0 * 1 + 1 * 0) (win2_1.index t 1 * 704 + 1 * r.val) (win2_1.index t 2 * 1024 + 1 * k.val) : ℝ) : EReal) = _
  rw [i0, i1, i2]
  congr 2 <;> omega

/-- The block of the gate. -/
theorem blk2 (hv : V c main_v12_0 = of3 (p := 4) (m := 2048) (n := 704) (φ := .bf16) L.a) (t : Fin cfg2.N) :
    Rep1 (m := 1024) (n := 704) (φ := .bf16) (iblk2 V c 2 t) (fun r k => L.a (t.val / 2) (1024 * (t.val % 2) + r) k) := fun r k => by
  obtain ⟨-, -, ⟨i0, i1, i2⟩, -⟩ := block_index t
  unfold iblk2
  rw [View.read_apply]
  show V c main_v12_0 _ = _
  rw [hv]
  show ((L.a (win2_2.index t 0 * 1 + 1 * 0) (win2_2.index t 1 * 1024 + 1 * r.val) (win2_2.index t 2 * 704 + 1 * k.val) : ℝ) : EReal) = _
  rw [i0, i1, i2]
  congr 2 <;> omega

/-- The block of the up projection. -/
theorem blk3 (hv : V c main_v12_1 = of3 (p := 4) (m := 2048) (n := 704) (φ := .bf16) L.b) (t : Fin cfg2.N) :
    Rep1 (m := 1024) (n := 704) (φ := .bf16) (iblk2 V c 3 t) (fun r k => L.b (t.val / 2) (1024 * (t.val % 2) + r) k) := fun r k => by
  obtain ⟨-, -, -, ⟨i0, i1, i2⟩, -⟩ := block_index t
  unfold iblk2
  rw [View.read_apply]
  show V c main_v12_1 _ = _
  rw [hv]
  show ((L.b (win2_3.index t 0 * 1 + 1 * 0) (win2_3.index t 1 * 1024 + 1 * r.val) (win2_3.index t 2 * 704 + 1 * k.val) : ℝ) : EReal) = _
  rw [i0, i1, i2]
  congr 2 <;> omega

/-- The gradient of the gate. -/
theorem final4 (h0 : V c main_v11 = of2 (m := 2048) (n := 1024) (φ := .bf16) L.Y)
    (h1 : V c main_v7 = of3 (p := 4) (m := 704) (n := 1024) (φ := .bf16) L.D)
    (h2 : V c main_v12_0 = of3 (p := 4) (m := 2048) (n := 704) (φ := .bf16) L.a)
    (h3 : V c main_v12_1 = of3 (p := 4) (m := 2048) (n := 704) (φ := .bf16) L.b) :
    (dat2 V c).arrAt 4 cfg2.N = of3 (p := 4) (m := 2048) (n := 704) (φ := .bf16) L.da := by
  refine (dat2 V c).arrAt_eq_of_covers 4 _ (by decide +kernel) fun t hf y => ?_
  obtain ⟨-, -, -, -, ⟨i0, i1, i2⟩, -⟩ := block_index t
  obtain ⟨z, r, k, rfl⟩ : ∃ (z : Fin 1) (r : Fin 1024) (k : Fin 704), y = ix3 z r k := ⟨_, _, _, eq_ix3 y⟩
  obtain rfl : z = 0 := Subsingleton.elim _ _
  have e : (dat2 V c).after 4 t = k2_pay5 (iblk2 V c 0 t) (iblk2 V c 1 t) (iblk2 V c 2 t) (iblk2 V c 3 t) := by
    rw [after2_4]
    unfold out2_4
    rw [View.ld_unit_zero (S := S1024x1024) (by decide), View.ld_unit_zero (S := S1x704x1024) (by decide), View.ld_unit_zero (S := S1x1024x704) (by decide), View.ld_unit_zero (S := S1x1024x704) (by decide)]
    exact View.canon_unit_zero (S := S1x1024x704) (by decide) _ _
  refine (congrFun e (ix3 0 r k)).trans ?_
  refine (pay2_5 (fun r f => L.ds (t.val / 2) (1024 * (t.val % 2) + r) f) (fun _ _ => rfl) (blk0 h0 t) (blk1 h1 t) (blk2 h2 t) (blk3 h3 t) r k).trans ?_
  show _ = ((L.da (win2_4.index t 0 * 1 + 1 * 0) (win2_4.index t 1 * 1024 + 1 * r.val) (win2_4.index t 2 * 704 + 1 * k.val) : ℝ) : EReal)
  rw [i0, i1, i2, show t.val / 2 * 1 + 1 * 0 = t.val / 2 by omega,
    show t.val % 2 * 1024 + 1 * r.val = 1024 * (t.val % 2) + r.val by omega, show 0 * 704 + 1 * k.val = k.val by omega]
  rfl

/-- The gradient of the up projection. -/
theorem final5 (h0 : V c main_v11 = of2 (m := 2048) (n := 1024) (φ := .bf16) L.Y)
    (h1 : V c main_v7 = of3 (p := 4) (m := 704) (n := 1024) (φ := .bf16) L.D)
    (h2 : V c main_v12_0 = of3 (p := 4) (m := 2048) (n := 704) (φ := .bf16) L.a) :
    (dat2 V c).arrAt 5 cfg2.N = of3 (p := 4) (m := 2048) (n := 704) (φ := .bf16) L.db := by
  refine (dat2 V c).arrAt_eq_of_covers 5 _ (by decide +kernel) fun t hf y => ?_
  obtain ⟨-, -, -, -, -, ⟨i0, i1, i2⟩⟩ := block_index t
  obtain ⟨z, r, k, rfl⟩ : ∃ (z : Fin 1) (r : Fin 1024) (k : Fin 704), y = ix3 z r k := ⟨_, _, _, eq_ix3 y⟩
  obtain rfl : z = 0 := Subsingleton.elim _ _
  have e : (dat2 V c).after 5 t = k2_pay1 (k2_pay6 (iblk2 V c 0 t) (iblk2 V c 1 t) (iblk2 V c 2 t)) := by
    rw [after2_5]
    unfold out2_5
    rw [View.ld_unit_zero (S := S1024x1024) (by decide), View.ld_unit_zero (S := S1x704x1024) (by decide), View.ld_unit_zero (S := S1x1024x704) (by decide)]
    exact View.canon_unit_zero (S := S1x1024x704) (by decide) _ _
  refine (congrFun e (ix3 0 r k)).trans ?_
  refine (pay2_6 (fun r f => L.ds (t.val / 2) (1024 * (t.val % 2) + r) f) (fun _ _ => rfl) (blk0 h0 t) (blk1 h1 t) (blk2 h2 t) r k).trans ?_
  show _ = ((L.db (win2_5.index t 0 * 1 + 1 * 0) (win2_5.index t 1 * 1024 + 1 * r.val) (win2_5.index t 2 * 704 + 1 * k.val) : ℝ) : EReal)
  rw [i0, i1, i2, show t.val / 2 * 1 + 1 * 0 = t.val / 2 by omega,
    show t.val % 2 * 1024 + 1 * r.val = 1024 * (t.val % 2) + r.val by omega, show 0 * 704 + 1 * k.val = k.val by omega]
  rfl

end Cert.FfnIdeal.Region2
-- ==== Proof.FfnRegion3.lean ====
module

public import proofs.«01_k».proof.Proof.Gen.FfnIdeal.Frame
public import proofs.«01_k».proof.Proof.FfnBody
public import Idealize.ShloMosaic.Lib.Pipeline.ValueKit

/-! # The fourth call: the gradient of the down weight

    A sum over all rows, shard by shard. -/

@[expose] public section

set_option maxRecDepth 16384

noncomputable section

namespace Cert.FfnIdeal.Region3

open Cert.FfnIdeal Cert.FfnIdeal.Gen Cert.FfnIdeal.Body
open Idealize.ShloMosaic hiding ix2 eq_ix2 ix3 eq_ix3
open Idealize.ShloMosaic.TcCoe
open Idealize.SL.Sem
open Idealize.ShloMosaic.ValueIdx
open Idealize.ShloMosaic.Pipeline (Dat)
open Cert.Attn (Rep)
open Cert.FfnMath
open scoped BigOperators
open Finset (range)

variable (V : (c : Dev nD) → (b : Ref sig .tc) → Buf (Elt Ideal) ((c : Thread nD τ).loc b)) (c : Dev nD) (L : Layer)

/-- The blocks at a point of the grid. -/
theorem block_index : ∀ t : Fin grid3.N,
    (win3_0.index t 0 = t.val ∧ win3_0.index t 1 = 0 ∧ win3_0.index t 2 = 0)
    ∧ (win3_1.index t 0 = 0 ∧ win3_1.index t 1 = 0)
    ∧ (win3_2.index t 0 = t.val ∧ win3_2.index t 1 = 0 ∧ win3_2.index t 2 = 0) := by
  decide +kernel

variable {V} {c} {L}

/-- The block of the gated hidden values. -/
theorem blk0 (hv : V c main_v12_2 = of3 (p := 4) (m := 2048) (n := 704) (φ := .bf16) L.s) (t : Fin cfg3.N) :
    Rep1 (m := 2048) (n := 704) (φ := .bf16) (iblk3 V c 0 t) (fun r k => L.s t.val r k) := fun r k => by
  obtain ⟨⟨i0, i1, i2⟩, -⟩ := block_index t
  unfold iblk3
  rw [View.read_apply]
  show V c main_v12_2 _ = _
  rw [hv]
  show ((L.s (win3_0.index t 0 * 1 + 1 * 0) (win3_0.index t 1 * 2048 + 1 * r.val) (win3_0.index t 2 * 704 + 1 * k.val) : ℝ) : EReal) = _
  rw [i0, i1, i2]
  congr 2 <;> omega

/-- The block of the incoming gradient. -/
theorem blk1 (hv : V c main_v11 = of2 (m := 2048) (n := 1024) (φ := .bf16) L.Y) (t : Fin cfg3.N) :
    Rep (m := 2048) (n := 1024) (φ := .bf16) (iblk3 V c 1 t) (fun r k => L.Y r k) := fun r k => by
  obtain ⟨-, ⟨i0, i1⟩, -⟩ := block_index t
  unfold iblk3
  rw [View.read_apply]
  show V c main_v11 _ = _
  rw [hv]
  show ((L.Y (win3_1.index t 0 * 2048 + 1 * r.val) (win3_1.index t 1 * 1024 + 1 * k.val) : ℝ) : EReal) = _
  rw [i0, i1]
  congr 2 <;> omega

/-- The gradient of the down weight. -/
theorem final2 (h0 : V c main_v12_2 = of3 (p := 4) (m := 2048) (n := 704) (φ := .bf16) L.s)
    (h1 : V c main_v11 = of2 (m := 2048) (n := 1024) (φ := .bf16) L.Y) :
    (dat3 V c).arrAt 2 cfg3.N = of3 (p := 4) (m := 704) (n := 1024) (φ := .bf16) L.gD := by
  refine (dat3 V c).arrAt_eq_of_covers 2 _ (by decide +kernel) fun t hf y => ?_
  obtain ⟨-, -, ⟨i0, i1, i2⟩⟩ := block_index t
  obtain ⟨z, r, k, rfl⟩ : ∃ (z : Fin 1) (r : Fin 704) (k : Fin 1024), y = ix3 z r k := ⟨_, _, _, eq_ix3 y⟩
  obtain rfl : z = 0 := Subsingleton.elim _ _
  have e : (dat3 V c).after 2 t = k3_pay1 (iblk3 V c 0 t) (iblk3 V c 1 t) := by
    rw [after3_2]
    unfold out3_2
    rw [View.ld_unit_zero (S := S1x2048x704) (by decide), View.ld_unit_zero (S := S2048x1024) (by decide)]
    exact View.canon_unit_zero (S := S1x704x1024) (by decide) _ _
  refine (congrFun e (ix3 0 r k)).trans ?_
  refine (pay3_1 (blk0 h0 t) (blk1 h1 t) r k).trans ?_
  show _ = ((L.gD (win3_2.index t 0 * 1 + 1 * 0) (win3_2.index t 1 * 704 + 1 * r.val) (win3_2.index t 2 * 1024 + 1 * k.val) : ℝ) : EReal)
  rw [i0, i1, i2, show t.val * 1 + 1 * 0 = t.val by omega,
    show 0 * 704 + 1 * r.val = r.val by omega, show 0 * 1024 + 1 * k.val = k.val by omega]
  rfl

end Cert.FfnIdeal.Region3
-- ==== Proof.FfnRegion4.lean ====
module

public import proofs.«01_k».proof.Proof.Gen.FfnIdeal.Frame
public import proofs.«01_k».proof.Proof.FfnBody
public import Idealize.ShloMosaic.Lib.Pipeline.ValueKit

/-! # The fifth call: the gradients of the gate and up weights

    Sums over all rows, shard by shard, half of the columns at a time. -/

@[expose] public section

set_option maxRecDepth 16384

noncomputable section

namespace Cert.FfnIdeal.Region4

open Cert.FfnIdeal Cert.FfnIdeal.Gen Cert.FfnIdeal.Body
open Idealize.ShloMosaic hiding ix2 eq_ix2 ix3 eq_ix3
open Idealize.ShloMosaic.TcCoe
open Idealize.SL.Sem
open Idealize.ShloMosaic.ValueIdx
open Idealize.ShloMosaic.Pipeline (Dat)
open Cert.Attn (Rep)
open Cert.FfnMath
open scoped BigOperators
open Finset (range)

variable (V : (c : Dev nD) → (b : Ref sig .tc) → Buf (Elt Ideal) ((c : Thread nD τ).loc b)) (c : Dev nD) (L : Layer)

/-- The blocks at a point of the grid. -/
theorem block_index : ∀ t : Fin grid4.N,
    (win4_0.index t 0 = 0 ∧ win4_0.index t 1 = t.val % 2)
    ∧ (win4_1.index t 0 = t.val / 2 ∧ win4_1.index t 1 = 0 ∧ win4_1.index t 2 = 0)
    ∧ (win4_2.index t 0 = t.val / 2 ∧ win4_2.index t 1 = 0 ∧ win4_2.index t 2 = 0)
    ∧ (win4_3.index t 0 = t.val / 2 ∧ win4_3.index t 1 = 0 ∧ win4_3.index t 2 = t.val % 2)
    ∧ (win4_4.index t 0 = t.val / 2 ∧ win4_4.index t 1 = 0 ∧ win4_4.index t 2 = t.val % 2) := by
  decide +kernel

variable {V} {c} {L}

/-- The block of the input. -/
theorem blk0 (hv : V c main_v9 = of2 (m := 2048) (n := 1024) (φ := .bf16) L.H) (t : Fin cfg4.N) :
    Rep (m := 2048) (n := 512) (φ := .bf16) (iblk4 V c 0 t) (fun r k => L.H r (512 * (t.val % 2) + k)) := fun r k => by
  obtain ⟨⟨i0, i1⟩, -⟩ := block_index t
  unfold iblk4
  rw [View.read_apply]
  show V c main_v9 _ = _
  rw [hv]
  show ((L.H (win4_0.index t 0 * 2048 + 1 * r.val) (win4_0.index t 1 * 512 + 1 * k.val) : ℝ) : EReal) = _
  rw [i0, i1]
  congr 2 <;> omega

/-- The block of the gate's gradient. -/
theorem blk1 (hv : V c main_v14_0 = of3 (p := 4) (m := 2048) (n := 704) (φ := .bf16) L.da) (t : Fin cfg4.N) :
    Rep1 (m := 2048) (n := 704) (φ := .bf16) (iblk4 V c 1 t) (fun r k => L.da (t.val / 2) r k) := fun r k => by
  obtain ⟨-, ⟨i0, i1, i2⟩, -⟩ := block_index t
  unfold iblk4
  rw [View.read_apply]
  show V c main_v14_0 _ = _
  rw [hv]
  show ((L.da (win4_1.index t 0 * 1 + 1 * 0) (win4_1.index t 1 * 2048 + 1 * r.val) (win4_1.index t 2 * 704 + 1 * k.val) : ℝ) : EReal) = _
  rw [i0, i1, i2]
  congr 2 <;> omega

/-- The block of the up projection's gradient. -/
theorem blk2 (hv : V c main_v14_1 = of3 (p := 4) (m := 2048) (n := 704) (φ := .bf16) L.db) (t : Fin cfg4.N) :
    Rep1 (m := 2048) (n := 704) (φ := .bf16) (iblk4 V c 2 t) (fun r k => L.db (t.val / 2) r k) := fun r k => by
  obtain ⟨-, -, ⟨i0, i1, i2⟩, -⟩ := block_index t
  unfold iblk4
  rw [View.read_apply]
  show V c main_v14_1 _ = _
  rw [hv]
  show ((L.db (win4_2.index t 0 * 1 + 1 * 0) (win4_2.index t 1 * 2048 + 1 * r.val) (win4_2.index t 2 * 704 + 1 * k.val) : ℝ) : EReal) = _
  rw [i0, i1, i2]
  congr 2 <;> omega

/-- The gradient of the gate weight. -/
theorem final3 (h0 : V c main_v9 = of2 (m := 2048) (n := 1024) (φ := .bf16) L.H)
    (h1 : V c main_v14_0 = of3 (p := 4) (m := 2048) (n := 704) (φ := .bf16) L.da) :
    (dat4 V c).arrAt 3 cfg4.N = of3 (p := 4) (m := 704) (n := 1024) (φ := .bf16) L.gG := by
  refine (dat4 V c).arrAt_eq_of_covers 3 _ (by decide +kernel) fun t hf y => ?_
  obtain ⟨-, -, -, ⟨i0, i1, i2⟩, -⟩ := block_index t
  obtain ⟨z, r, k, rfl⟩ : ∃ (z : Fin 1) (r : Fin 704) (k : Fin 512), y = ix3 z r k := ⟨_, _, _, eq_ix3 y⟩
  obtain rfl : z = 0 := Subsingleton.elim _ _
  have e : (dat4 V c).after 3 t = k4_pay2 (iblk4 V c 0 t) (iblk4 V c 1 t) := by
    rw [after4_3]
    unfold out4_3
    rw [View.ld_unit_zero (S := S2048x512) (by decide), View.ld_unit_zero (S := S1x2048x704) (by decide)]
    exact View.canon_unit_zero (S := S1x704x512) (by decide) _ _
  refine (congrFun e (ix3 0 r k)).trans ?_
  refine (pay4_2 (blk0 h0 t) (blk1 h1 t) r k).trans ?_
  show _ = ((L.gG (win4_3.index t 0 * 1 + 1 * 0) (win4_3.index t 1 * 704 + 1 * r.val) (win4_3.index t 2 * 512 + 1 * k.val) : ℝ) : EReal)
  rw [i0, i1, i2, show t.val / 2 * 1 + 1 * 0 = t.val / 2 by omega,
    show 0 * 704 + 1 * r.val = r.val by omega, show t.val % 2 * 512 + 1 * k.val = 512 * (t.val % 2) + k.val by omega]
  rfl

/-- The gradient of the up weight. -/
theorem final4 (h0 : V c main_v9 = of2 (m := 2048) (n := 1024) (φ := .bf16) L.H)
    (h2 : V c main_v14_1 = of3 (p := 4) (m := 2048) (n := 704) (φ := .bf16) L.db) :
    (dat4 V c).arrAt 4 cfg4.N = of3 (p := 4) (m := 704) (n := 1024) (φ := .bf16) L.gU := by
  refine (dat4 V c).arrAt_eq_of_covers 4 _ (by decide +kernel) fun t hf y => ?_
  obtain ⟨-, -, -, -, ⟨i0, i1, i2⟩⟩ := block_index t
  obtain ⟨z, r, k, rfl⟩ : ∃ (z : Fin 1) (r : Fin 704) (k : Fin 512), y = ix3 z r k := ⟨_, _, _, eq_ix3 y⟩
  obtain rfl : z = 0 := Subsingleton.elim _ _
  have e : (dat4 V c).after 4 t = k4_pay3 (iblk4 V c 0 t) (iblk4 V c 2 t) := by
    rw [after4_4]
    unfold out4_4
    rw [View.ld_unit_zero (S := S2048x512) (by decide), View.ld_unit_zero (S := S1x2048x704) (by decide)]
    exact View.canon_unit_zero (S := S1x704x512) (by decide) _ _
  refine (congrFun e (ix3 0 r k)).trans ?_
  refine (pay4_3 (blk0 h0 t) (blk2 h2 t) r k).trans ?_
  show _ = ((L.gU (win4_4.index t 0 * 1 + 1 * 0) (win4_4.index t 1 * 704 + 1 * r.val) (win4_4.index t 2 * 512 + 1 * k.val) : ℝ) : EReal)
  rw [i0, i1, i2, show t.val / 2 * 1 + 1 * 0 = t.val / 2 by omega,
    show 0 * 704 + 1 * r.val = r.val by omega, show t.val % 2 * 512 + 1 * k.val = 512 * (t.val % 2) + k.val by omega]
  rfl

end Cert.FfnIdeal.Region4
-- ==== Proof.FfnRegion5.lean ====
module

public import proofs.«01_k».proof.Proof.Gen.FfnIdeal.Frame
public import proofs.«01_k».proof.Proof.FfnBody
public import Idealize.ShloMosaic.Lib.Pipeline.ValueKit

/-! # The sixth call: the gradient of the input

    The gradient of all rows: each row block's sum grows shard by shard. -/

@[expose] public section

set_option maxRecDepth 16384

noncomputable section

namespace Cert.FfnIdeal.Region5

open Cert.FfnIdeal Cert.FfnIdeal.Gen Cert.FfnIdeal.Body
open Idealize.ShloMosaic hiding ix2 eq_ix2 ix3 eq_ix3
open Idealize.ShloMosaic.TcCoe
open Idealize.SL.Sem
open Idealize.ShloMosaic.ValueIdx
open Idealize.ShloMosaic.Pipeline (Dat)
open Cert.Attn (Rep)
open Cert.FfnMath
open scoped BigOperators
open Finset (range)

variable (V : (c : Dev nD) → (b : Ref sig .tc) → Buf (Elt Ideal) ((c : Thread nD τ).loc b)) (c : Dev nD) (L : Layer)

/-- The blocks at a point of the grid. -/
theorem block_index : ∀ t : Fin grid5.N,
    (win5_0.index t 0 = t.val % 4 ∧ win5_0.index t 1 = t.val / 4 ∧ win5_0.index t 2 = 0)
    ∧ (win5_1.index t 0 = t.val % 4 ∧ win5_1.index t 1 = t.val / 4 ∧ win5_1.index t 2 = 0)
    ∧ (win5_2.index t 0 = t.val % 4 ∧ win5_2.index t 1 = 0 ∧ win5_2.index t 2 = 0)
    ∧ (win5_3.index t 0 = t.val % 4 ∧ win5_3.index t 1 = 0 ∧ win5_3.index t 2 = 0)
    ∧ (win5_4.index t 0 = t.val / 4 ∧ win5_4.index t 1 = 0) := by
  decide +kernel

variable {V} {c} {L}

/-- The block of the gate's gradient. -/
theorem blk0 (hv : V c main_v14_0 = of3 (p := 4) (m := 2048) (n := 704) (φ := .bf16) L.da) (t : Fin cfg5.N) :
    Rep1 (m := 1024) (n := 704) (φ := .bf16) (iblk5 V c 0 t) (fun r k => L.da (t.val % 4) (1024 * (t.val / 4) + r) k) := fun r k => by
  obtain ⟨⟨i0, i1, i2⟩, -⟩ := block_index t
  unfold iblk5
  rw [View.read_apply]
  show V c main_v14_0 _ = _
  rw [hv]
  show ((L.da (win5_0.index t 0 * 1 + 1 * 0) (win5_0.index t 1 * 1024 + 1 * r.val) (win5_0.index t 2 * 704 + 1 * k.val) : ℝ) : EReal) = _
  rw [i0, i1, i2]
  congr 2 <;> omega

/-- The block of the up projection's gradient. -/
theorem blk1 (hv : V c main_v14_1 = of3 (p := 4) (m := 2048) (n := 704) (φ := .bf16) L.db) (t : Fin cfg5.N) :
    Rep1 (m := 1024) (n := 704) (φ := .bf16) (iblk5 V c 1 t) (fun r k => L.db (t.val % 4) (1024 * (t.val / 4) + r) k) := fun r k => by
  obtain ⟨-, ⟨i0, i1, i2⟩, -⟩ := block_index t
  unfold iblk5
  rw [View.read_apply]
  show V c main_v14_1 _ = _
  rw [hv]
  show ((L.db (win5_1.index t 0 * 1 + 1 * 0) (win5_1.index t 1 * 1024 + 1 * r.val) (win5_1.index t 2 * 704 + 1 * k.val) : ℝ) : EReal) = _
  rw [i0, i1, i2]
  congr 2 <;> omega

/-- The block of the gate weight. -/
theorem blk2 (hv : V c main_v2 = of3 (p := 4) (m := 704) (n := 1024) (φ := .bf16) L.G) (t : Fin cfg5.N) :
    Rep1 (m := 704) (n := 1024) (φ := .bf16) (iblk5 V c 2 t) (fun r k => L.G (t.val % 4) r k) := fun r k => by
  obtain ⟨-, -, ⟨i0, i1, i2⟩, -⟩ := block_index t
  unfold iblk5
  rw [View.read_apply]
  show V c main_v2 _ = _
  rw [hv]
  show ((L.G (win5_2.index t 0 * 1 + 1 * 0) (win5_2.index t 1 * 704 + 1 * r.val) (win5_2.index t 2 * 1024 + 1 * k.val) : ℝ) : EReal) = _
  rw [i0, i1, i2]
  congr 2 <;> omega

/-- The block of the up weight. -/
theorem blk3 (hv : V c main_v5 = of3 (p := 4) (m := 704) (n := 1024) (φ := .bf16) L.U) (t : Fin cfg5.N) :
    Rep1 (m := 704) (n := 1024) (φ := .bf16) (iblk5 V c 3 t) (fun r k => L.U (t.val % 4) r k) := fun r k => by
  obtain ⟨-, -, -, ⟨i0, i1, i2⟩, -⟩ := block_index t
  unfold iblk5
  rw [View.read_apply]
  show V c main_v5 _ = _
  rw [hv]
  show ((L.U (win5_3.index t 0 * 1 + 1 * 0) (win5_3.index t 1 * 704 + 1 * r.val) (win5_3.index t 2 * 1024 + 1 * k.val) : ℝ) : EReal) = _
  rw [i0, i1, i2]
  congr 2 <;> omega

/-- A point that adds to what the point before left. -/
theorem left_B (i : grid5.Coords) (a0 : Memref sig .tc .vmem S1x1024x704 .bf16) (g0 : a0.IsWhole)
    (a1 : Memref sig .tc .vmem S1x1024x704 .bf16) (g1 : a1.IsWhole)
    (a2 : Memref sig .tc .vmem S1x704x1024 .bf16) (g2 : a2.IsWhole)
    (a3 : Memref sig .tc .vmem S1x704x1024 .bf16) (g3 : a3.IsWhole)
    (ao : Memref sig .tc .vmem S1024x1024 .f32) (go : ao.IsWhole) (hc : ¬cond5_0 i)
    (x0 : Vec Ideal S1x1024x704 .bf16) (x1 : Vec Ideal S1x1024x704 .bf16) (x2 : Vec Ideal S1x704x1024 .bf16) (x3 : Vec Ideal S1x704x1024 .bf16) (xo : Vec Ideal S1024x1024 .f32) :
    out5_B_4 (F := Ideal) c i a0 g0 a1 g1 a2 g2 a3 g3 ao go hc x0 x1 x2 x3 xo = k5_pay2 xo x0 x2 x1 x3 := by
  unfold out5_B_4
  rw [View.read_writes_eq_canon _ _ _ (cover5_B_4 c i a0 g0 a1 g1 a2 g2 a3 g3 ao go hc x0 x1 x2 x3 xo)]
  unfold kernelRun5_B
  dsimp only
  rw [View.canon_unit_zero (S := S1024x1024) (by decide)]
  simp only [View.readAt_eq_ld, g0.read_unread, g1.read_unread, g2.read_unread, g3.read_unread, go.read_unread]
  simp only [View.ld_unit_zero (S := S1024x1024) (show (![0, 0] : Fin 2 → ℕ) = fun _ => 0 by decide),
    View.ld_unit_zero (S := S1x1024x704) (show (![0, 0, 0] : Fin 3 → ℕ) = fun _ => 0 by decide), View.ld_unit_zero (S := S1x704x1024) (show (![0, 0, 0] : Fin 3 → ℕ) = fun _ => 0 by decide)]

/-- A point that starts from zero. -/
theorem left_A (i : grid5.Coords) (a0 : Memref sig .tc .vmem S1x1024x704 .bf16) (g0 : a0.IsWhole)
    (a1 : Memref sig .tc .vmem S1x1024x704 .bf16) (g1 : a1.IsWhole)
    (a2 : Memref sig .tc .vmem S1x704x1024 .bf16) (g2 : a2.IsWhole)
    (a3 : Memref sig .tc .vmem S1x704x1024 .bf16) (g3 : a3.IsWhole)
    (ao : Memref sig .tc .vmem S1024x1024 .f32) (go : ao.IsWhole) (hc : cond5_0 i)
    (x0 : Vec Ideal S1x1024x704 .bf16) (x1 : Vec Ideal S1x1024x704 .bf16) (x2 : Vec Ideal S1x704x1024 .bf16) (x3 : Vec Ideal S1x704x1024 .bf16) :
    out5_A_4 (F := Ideal) c i a0 g0 a1 g1 a2 g2 a3 g3 ao go hc x0 x1 x2 x3 = k5_pay2 k5_pay1 x0 x2 x1 x3 := by
  unfold out5_A_4
  rw [View.read_writes_eq_canon _ _ _ (cover5_A_4 c i a0 g0 a1 g1 a2 g2 a3 g3 ao go hc x0 x1 x2 x3)]
  unfold kernelRun5_A
  dsimp only
  sl_unfold_words
  rw [View.canon_cons_unit_zero (S := S1024x1024) (by decide), View.readCov_unit_zero (S := S1024x1024) _ (by decide)]
  simp only [View.readAt_eq_ld, g0.read_unread, g1.read_unread, g2.read_unread, g3.read_unread]
  simp only [View.ld_unit_zero (S := S1x1024x704) (show (![0, 0, 0] : Fin 3 → ℕ) = fun _ => 0 by decide), View.ld_unit_zero (S := S1x704x1024) (show (![0, 0, 0] : Fin 3 → ℕ) = fun _ => 0 by decide)]

/-- What a point leaves: the sum over the shards so far. -/
theorem left (h0 : V c main_v14_0 = of3 (p := 4) (m := 2048) (n := 704) (φ := .bf16) L.da)
    (h1 : V c main_v14_1 = of3 (p := 4) (m := 2048) (n := 704) (φ := .bf16) L.db)
    (h2 : V c main_v2 = of3 (p := 4) (m := 704) (n := 1024) (φ := .bf16) L.G)
    (h3 : V c main_v5 = of3 (p := 4) (m := 704) (n := 1024) (φ := .bf16) L.U) :
    ∀ (n : ℕ) (hn : n < cfg5.N), Rep (m := 1024) (n := 1024) (φ := .f32) (outsAt5 V c n hn)
      (fun r k => ∑ q ∈ range (n % 4 + 1), ((∑ f ∈ range 704, L.da q (1024 * (n / 4) + r) f * L.G q f k) + ∑ f ∈ range 704, L.db q (1024 * (n / 4) + r) f * L.U q f k)) := by
  intro n
  induction n with
  | zero =>
    intro hn
    let t : Fin cfg5.N := ⟨0, hn⟩
    have e := (outsAt5_A V c t rfl).trans (left_A ..)
    have v := pay5_2 pay5_1 (blk0 h0 t) (blk1 h1 t) (blk2 h2 t) (blk3 h3 t)
    refine (show Rep (m := 1024) (n := 1024) (φ := .f32) (outsAt5 V c t.val t.isLt) _ from e ▸ v).congr fun r k _ _ => ?_
    rw [show 0 % 4 + 1 = 1 from rfl, Finset.sum_range_one]
    exact zero_add _
  | succ n ih =>
    intro hn
    let t : Fin cfg5.N := ⟨n + 1, hn⟩
    by_cases h : (n + 1) % 4 = 0
    · have e := (outsAt5_A V c t h).trans (left_A ..)
      have v := pay5_2 pay5_1 (blk0 h0 t) (blk1 h1 t) (blk2 h2 t) (blk3 h3 t)
      refine (show Rep (m := 1024) (n := 1024) (φ := .f32) (outsAt5 V c t.val t.isLt) _ from e ▸ v).congr fun r k _ _ => ?_
      show 0 + _ = _
      rw [h, Finset.sum_range_one, zero_add]
    · have e := (outsAt5_B V c t h).trans (left_B ..)
      have v := pay5_2 (ih (by omega)) (blk0 h0 t) (blk1 h1 t) (blk2 h2 t) (blk3 h3 t)
      refine (show Rep (m := 1024) (n := 1024) (φ := .f32) (outsAt5 V c t.val t.isLt) _ from e ▸ v).congr fun r k _ _ => ?_
      have hq : (n + 1) % 4 = n % 4 + 1 := by omega
      have hi : (n + 1) / 4 = n / 4 := by omega
      rw [hi, hq, Finset.sum_range_succ _ (n % 4 + 1)]

/-- The gradient of the input. -/
theorem final4 (h0 : V c main_v14_0 = of3 (p := 4) (m := 2048) (n := 704) (φ := .bf16) L.da)
    (h1 : V c main_v14_1 = of3 (p := 4) (m := 2048) (n := 704) (φ := .bf16) L.db)
    (h2 : V c main_v2 = of3 (p := 4) (m := 704) (n := 1024) (φ := .bf16) L.G)
    (h3 : V c main_v5 = of3 (p := 4) (m := 704) (n := 1024) (φ := .bf16) L.U) :
    (dat5 V c).arrAt 4 cfg5.N = of2 (m := 2048) (n := 1024) (φ := .f32) L.dh := by
  refine (dat5 V c).arrAt_eq_of_covers 4 _ (by decide +kernel) fun t hf y => ?_
  have he : t.val % 4 = 3 := (flush5_4 t).mp hf
  obtain ⟨-, -, -, -, ⟨i0, i1⟩⟩ := block_index t
  obtain ⟨r, k, rfl⟩ : ∃ (r : Fin 1024) (k : Fin 1024), y = ix2 r k := ⟨_, _, eq_ix2 y⟩
  refine (congrFun (after5_4 V c t) (ix2 r k)).trans ?_
  refine (left h0 h1 h2 h3 t.val t.isLt r k).trans ?_
  show _ = ((L.dh (win5_4.index t 0 * 1024 + 1 * r.val) (win5_4.index t 1 * 1024 + 1 * k.val) : ℝ) : EReal)
  rw [i0, i1, he, show t.val / 4 * 1024 + 1 * r.val = 1024 * (t.val / 4) + r.val by omega, show 0 * 1024 + 1 * k.val = k.val by omega]
  rfl

end Cert.FfnIdeal.Region5
-- ==== Proof.FfnResult.lean ====
module

public import proofs.«01_k».proof.Proof.FfnHost
public import proofs.«01_k».proof.Proof.FfnRegion0
public import proofs.«01_k».proof.Proof.FfnRegion1
public import proofs.«01_k».proof.Proof.FfnRegion2
public import proofs.«01_k».proof.Proof.FfnRegion3
public import proofs.«01_k».proof.Proof.FfnRegion4
public import proofs.«01_k».proof.Proof.FfnRegion5

/-! # The six calls in a row

    What each array holds after each call, from the contents the host lines leave: a call's outputs by its own theorem,
    every other array as the call found it.  The arrays are the layer's real functions: after the first call the gate,
    the up projection and the gated hidden values; then the output; the gradients of the gate and of the up projection;
    the down weight's gradient; the gate's and the up weight's; the input's. -/

@[expose] public section

set_option maxRecDepth 16384

noncomputable section

namespace Cert.FfnIdeal.Result

open Cert.FfnIdeal Cert.FfnIdeal.Gen
open Idealize.ShloMosaic Idealize.ShloMosaic.TcCoe
open Cert.FfnMath

variable {m : (ℓ : Loc nD τ sig) → Buf (Elt Ideal) ℓ} (ρ : Dev nD → PrngReg) {c : Dev nD}

/-! ## Arrays that a call does not write -/

/-- The first call does not write the array. -/
abbrev Kept0 (r : Ref sig .tc) : Prop := ∀ w : Fin cfg0.W, Pipeline.arrRef spec0 w = r → (cfg0.win w).isOut = false
/-- The second call does not write the array. -/
abbrev Kept1 (r : Ref sig .tc) : Prop := ∀ w : Fin cfg1.W, Pipeline.arrRef spec1 w = r → (cfg1.win w).isOut = false
/-- The third call does not write the array. -/
abbrev Kept2 (r : Ref sig .tc) : Prop := ∀ w : Fin cfg2.W, Pipeline.arrRef spec2 w = r → (cfg2.win w).isOut = false
/-- The fourth call does not write the array. -/
abbrev Kept3 (r : Ref sig .tc) : Prop := ∀ w : Fin cfg3.W, Pipeline.arrRef spec3 w = r → (cfg3.win w).isOut = false
/-- The fifth call does not write the array. -/
abbrev Kept4 (r : Ref sig .tc) : Prop := ∀ w : Fin cfg4.W, Pipeline.arrRef spec4 w = r → (cfg4.win w).isOut = false
/-- The sixth call does not write the array. -/
abbrev Kept5 (r : Ref sig .tc) : Prop := ∀ w : Fin cfg5.W, Pipeline.arrRef spec5 w = r → (cfg5.win w).isOut = false

variable (r : Ref sig .tc)

/-- An array that the first call does not write, after it. -/
theorem to2 (h0 : Kept0 r := by decide) : W2 m ρ c (Proc.devRef .tc r) = W1 m ρ c (Proc.devRef .tc r) :=
  W2_of m ρ c r h0
/-- An array that the first two calls do not write, after them. -/
theorem to3 (h0 : Kept0 r := by decide) (h1 : Kept1 r := by decide) : W3 m ρ c (Proc.devRef .tc r) = W1 m ρ c (Proc.devRef .tc r) :=
  (W3_of m ρ c r h1).trans (to2 ρ r h0)
/-- An array that the first three calls do not write, after them. -/
theorem to4 (h0 : Kept0 r := by decide) (h1 : Kept1 r := by decide) (h2 : Kept2 r := by decide) : W4 m ρ c (Proc.devRef .tc r) = W1 m ρ c (Proc.devRef .tc r) :=
  (W4_of m ρ c r h2).trans (to3 ρ r h0 h1)
/-- An array that the first four calls do not write, after them. -/
theorem to5 (h0 : Kept0 r := by decide) (h1 : Kept1 r := by decide) (h2 : Kept2 r := by decide) (h3 : Kept3 r := by decide) : W5 m ρ c (Proc.devRef .tc r) = W1 m ρ c (Proc.devRef .tc r) :=
  (W5_of m ρ c r h3).trans (to4 ρ r h0 h1 h2)
/-- An array that the first five calls do not write, after them. -/
theorem to6 (h0 : Kept0 r := by decide) (h1 : Kept1 r := by decide) (h2 : Kept2 r := by decide) (h3 : Kept3 r := by decide) (h4 : Kept4 r := by decide) : W6 m ρ c (Proc.devRef .tc r) = W1 m ρ c (Proc.devRef .tc r) :=
  (W6_of m ρ c r h4).trans (to5 ρ r h0 h1 h2 h3)
/-- An array that the sixth call does not write, after it. -/
theorem from6 (h5 : Kept5 r := by decide) : W7 m ρ c (Proc.devRef .tc r) = W6 m ρ c (Proc.devRef .tc r) :=
  W7_of m ρ c r h5
/-- An array that the calls after the fourth do not write, after the last. -/
theorem from5 (h4 : Kept4 r := by decide) (h5 : Kept5 r := by decide) : W7 m ρ c (Proc.devRef .tc r) = W5 m ρ c (Proc.devRef .tc r) :=
  (from6 ρ r h5).trans (W6_of m ρ c r h4)
/-- An array that the calls after the third do not write, after the last. -/
theorem from4 (h3 : Kept3 r := by decide) (h4 : Kept4 r := by decide) (h5 : Kept5 r := by decide) : W7 m ρ c (Proc.devRef .tc r) = W4 m ρ c (Proc.devRef .tc r) :=
  (from5 ρ r h4 h5).trans (W5_of m ρ c r h3)
/-- An array that the calls after the second do not write, after the last. -/
theorem from3 (h2 : Kept2 r := by decide) (h3 : Kept3 r := by decide) (h4 : Kept4 r := by decide) (h5 : Kept5 r := by decide) : W7 m ρ c (Proc.devRef .tc r) = W3 m ρ c (Proc.devRef .tc r) :=
  (from4 ρ r h3 h4 h5).trans (W4_of m ρ c r h2)
/-- An array that the calls after the first do not write, after the last. -/
theorem from2 (h1 : Kept1 r := by decide) (h2 : Kept2 r := by decide) (h3 : Kept3 r := by decide) (h4 : Kept4 r := by decide) (h5 : Kept5 r := by decide) : W7 m ρ c (Proc.devRef .tc r) = W2 m ρ c (Proc.devRef .tc r) :=
  (from3 ρ r h2 h3 h4 h5).trans (W3_of m ρ c r h1)

/-! ## The results -/

/-- After the first call: the gate. -/
theorem at2_v12_0 (h : Reals m c) : W2 m ρ c (Proc.devRef .tc main_v12_0) = of3 (p := 4) (m := 2048) (n := 704) (φ := .bf16) (lay m c).a :=
  (W2_arr m ρ c 3).trans (Region0.final3 (in_h ρ h) (in_gate ρ h))
/-- After the first call: the up projection. -/
theorem at2_v12_1 (h : Reals m c) : W2 m ρ c (Proc.devRef .tc main_v12_1) = of3 (p := 4) (m := 2048) (n := 704) (φ := .bf16) (lay m c).b :=
  (W2_arr m ρ c 4).trans (Region0.final4 (in_h ρ h) (in_up ρ h))
/-- After the first call: the gated hidden values. -/
theorem at2_v12_2 (h : Reals m c) : W2 m ρ c (Proc.devRef .tc main_v12_2) = of3 (p := 4) (m := 2048) (n := 704) (φ := .bf16) (lay m c).s :=
  (W2_arr m ρ c 5).trans (Region0.final5 (in_h ρ h) (in_gate ρ h) (in_up ρ h))
/-- After the second call: the output. -/
theorem at3_v13 (h : Reals m c) : W3 m ρ c (Proc.devRef .tc main_v13) = of2 (m := 2048) (n := 1024) (φ := .f32) (lay m c).y :=
  (W3_arr m ρ c 2).trans (Region1.final2 (at2_v12_2 ρ h) ((to2 ρ main_v7).trans (in_down ρ h)))
/-- After the third call: the gate's gradient. -/
theorem at4_v14_0 (h : Reals m c) : W4 m ρ c (Proc.devRef .tc main_v14_0) = of3 (p := 4) (m := 2048) (n := 704) (φ := .bf16) (lay m c).da :=
  (W4_arr m ρ c 4).trans (Region2.final4 ((to3 ρ main_v11).trans (in_ct ρ h)) ((to3 ρ main_v7).trans (in_down ρ h)) ((W3_of m ρ c main_v12_0 (by decide)).trans (at2_v12_0 ρ h)) ((W3_of m ρ c main_v12_1 (by decide)).trans (at2_v12_1 ρ h)))
/-- After the third call: the up projection's gradient. -/
theorem at4_v14_1 (h : Reals m c) : W4 m ρ c (Proc.devRef .tc main_v14_1) = of3 (p := 4) (m := 2048) (n := 704) (φ := .bf16) (lay m c).db :=
  (W4_arr m ρ c 5).trans (Region2.final5 ((to3 ρ main_v11).trans (in_ct ρ h)) ((to3 ρ main_v7).trans (in_down ρ h)) ((W3_of m ρ c main_v12_0 (by decide)).trans (at2_v12_0 ρ h)))
/-- After the fourth call: the down weight's gradient. -/
theorem at5_v15 (h : Reals m c) : W5 m ρ c (Proc.devRef .tc main_v15) = of3 (p := 4) (m := 704) (n := 1024) (φ := .bf16) (lay m c).gD :=
  (W5_arr m ρ c 2).trans (Region3.final2 ((W4_of m ρ c main_v12_2 (by decide)).trans ((W3_of m ρ c main_v12_2 (by decide)).trans (at2_v12_2 ρ h))) ((to4 ρ main_v11).trans (in_ct ρ h)))
/-- After the fifth call: the gate weight's gradient. -/
theorem at6_v16_0 (h : Reals m c) : W6 m ρ c (Proc.devRef .tc main_v16_0) = of3 (p := 4) (m := 704) (n := 1024) (φ := .bf16) (lay m c).gG :=
  (W6_arr m ρ c 3).trans (Region4.final3 ((to5 ρ main_v9).trans (in_h ρ h)) ((W5_of m ρ c main_v14_0 (by decide)).trans (at4_v14_0 ρ h)))
/-- After the fifth call: the up weight's gradient. -/
theorem at6_v16_1 (h : Reals m c) : W6 m ρ c (Proc.devRef .tc main_v16_1) = of3 (p := 4) (m := 704) (n := 1024) (φ := .bf16) (lay m c).gU :=
  (W6_arr m ρ c 4).trans (Region4.final4 ((to5 ρ main_v9).trans (in_h ρ h)) ((W5_of m ρ c main_v14_1 (by decide)).trans (at4_v14_1 ρ h)))
/-- After the sixth call: the input's gradient. -/
theorem at7_v17 (h : Reals m c) : W7 m ρ c (Proc.devRef .tc main_v17) = of2 (m := 2048) (n := 1024) (φ := .f32) (lay m c).dh :=
  (W7_arr m ρ c 4).trans (Region5.final4 ((W6_of m ρ c main_v14_0 (by decide)).trans ((W5_of m ρ c main_v14_0 (by decide)).trans (at4_v14_0 ρ h))) ((W6_of m ρ c main_v14_1 (by decide)).trans ((W5_of m ρ c main_v14_1 (by decide)).trans (at4_v14_1 ρ h))) ((to6 ρ main_v2).trans (in_gate ρ h)) ((to6 ρ main_v5).trans (in_up ρ h)))
/-- After the last call: the output. -/
theorem at7_v13 (h : Reals m c) : W7 m ρ c (Proc.devRef .tc main_v13) = of2 (m := 2048) (n := 1024) (φ := .f32) (lay m c).y :=
  (from3 ρ main_v13).trans (at3_v13 ρ h)
/-- After the last call: the down weight's gradient. -/
theorem at7_v15 (h : Reals m c) : W7 m ρ c (Proc.devRef .tc main_v15) = of3 (p := 4) (m := 704) (n := 1024) (φ := .bf16) (lay m c).gD :=
  (from5 ρ main_v15).trans (at5_v15 ρ h)
/-- After the last call: the gate weight's gradient. -/
theorem at7_v16_0 (h : Reals m c) : W7 m ρ c (Proc.devRef .tc main_v16_0) = of3 (p := 4) (m := 704) (n := 1024) (φ := .bf16) (lay m c).gG :=
  (from6 ρ main_v16_0).trans (at6_v16_0 ρ h)
/-- After the last call: the up weight's gradient. -/
theorem at7_v16_1 (h : Reals m c) : W7 m ρ c (Proc.devRef .tc main_v16_1) = of3 (p := 4) (m := 704) (n := 1024) (φ := .bf16) (lay m c).gU :=
  (from6 ρ main_v16_1).trans (at6_v16_1 ρ h)

end Cert.FfnIdeal.Result
-- ==== Proof.FfnReference.lean ====
module

public import proofs.«01_k».proof.Proof.FfnLayer
public import proofs.«01_k».proof.Proof.Gen.FfnReferenceIdeal.Read

/-! # The reference over the reals

    The stages of the layer's plain formulation and of its differentiation, as real functions.  Hidden column `n` is
    column `n % 704` of shard `n / 704`. -/

@[expose] public section

set_option maxRecDepth 16384

noncomputable section

namespace Cert.FfnReferenceIdeal.Stages

open Cert.FfnReferenceIdeal Cert.FfnReferenceIdeal.Gen Cert.FfnReferenceIdeal.Read
open Idealize.ShloMosaic Idealize.ShloMosaic.ValueIdx
open Cert.Attn (Rep Finite coe_sum_fin div_coe_coe)
open Cert.FfnMath
open scoped BigOperators
open Finset (range)

/-! ## Sums -/

/-- A contraction of both leading axes, of extents one and 2048: a sum over the rows. -/
theorem rows_contracted {p q : ℕ}
    (wf : DotDims.WF ⟨3, ![1, 2048, p]⟩ ⟨3, ![1, 2048, q]⟩ ⟨2, ![p, q]⟩ [0, 1] [0, 1] [2] [2] [] [])
    {A : FVec Ideal ⟨3, ![1, 2048, p]⟩ .f32} {B : FVec Ideal ⟨3, ![1, 2048, q]⟩ .f32} {f g : ℕ → ℕ → ℝ} (hA : Rep1 A f) (hB : Rep1 B g) :
    Rep (m := p) (n := q) (φ := .f32) (Host.dotGeneral ⟨[0, 1], [0, 1], [2], [2], [], [], wf⟩ none A B)
      (fun a b => ∑ r ∈ range 2048, f r a * g r b) := fun a b => by
  set D : DotDims ⟨3, ![1, 2048, p]⟩ ⟨3, ![1, 2048, q]⟩ ⟨2, ![p, q]⟩ := ⟨[0, 1], [0, 1], [2], [2], [], [], wf⟩
  simp only [Host.dotGeneral]
  have hr : D.contr.rank = 2 := rfl
  have c0 : D.contr.size ⟨0, by rw [hr]; omega⟩ = 1 := rfl
  have c1 : D.contr.size ⟨1, by rw [hr]; omega⟩ = 2048 := rfl
  rw [Ideal.dotGeneral_apply, ← Equiv.sum_comp (contrEquiv2 D 1 2048 hr c0 c1).symm, Fintype.sum_prod_type, Fin.sum_univ_one]
  refine (Finset.sum_congr rfl fun k _ => ?_).trans (coe_sum_fin 2048 (fun r => f r a.val * g r b.val))
  have h1 := contrEquiv2_symm_val1 D 1 2048 hr c0 c1 (0, k)
  have el : A (D.lhsIdx (ix2 a b) ((contrEquiv2 D 1 2048 hr c0 c1).symm (0, k))) = ((f k.val a.val : ℝ) : EReal) := by
    refine (hA.entry _).trans ?_
    rw [show (D.lhsIdx (ix2 a b) ((contrEquiv2 D 1 2048 hr c0 c1).symm (0, k)) 1).val = k.val from h1,
      show (D.lhsIdx (ix2 a b) ((contrEquiv2 D 1 2048 hr c0 c1).symm (0, k)) 2).val = a.val from rfl]
  have er : B (D.rhsIdx (ix2 a b) ((contrEquiv2 D 1 2048 hr c0 c1).symm (0, k))) = ((g k.val b.val : ℝ) : EReal) := by
    refine (hB.entry _).trans ?_
    rw [show (D.rhsIdx (ix2 a b) ((contrEquiv2 D 1 2048 hr c0 c1).symm (0, k)) 1).val = k.val from h1,
      show (D.rhsIdx (ix2 a b) ((contrEquiv2 D 1 2048 hr c0 c1).symm (0, k)) 2).val = b.val from rfl]
  rw [el, er, ← EReal.coe_mul]

/-- The shard of a hidden column. -/
theorem shard_of {q j : ℕ} (hj : j < 704) : (704 * q + j) / 704 = q := by omega
/-- A hidden column within its shard. -/
theorem column_of {q j : ℕ} (hj : j < 704) : (704 * q + j) % 704 = j := by omega
/-- A hidden column from its shard and its place there. -/
theorem of_shard (n : ℕ) : 704 * (n / 704) + n % 704 = n := Nat.div_add_mod n 704

/-- A sum over the hidden columns of a function of shard and column. -/
theorem sum_hidden (f : ℕ → ℕ → ℝ) : ∑ n ∈ range 2816, f (n / 704) (n % 704) = ∑ q ∈ range 4, ∑ j ∈ range 704, f q j := by
  rw [sum_shards]
  refine Finset.sum_congr rfl fun q _ => Finset.sum_congr rfl fun j hj => ?_
  rw [shard_of (Finset.mem_range.1 hj), column_of (Finset.mem_range.1 hj)]

/-! ## The stages -/

variable {x0 : FVec Ideal S1x2048x1024 .f32} {x1 x2 : FVec Ideal S1024x2816 .f32} {x3 : FVec Ideal S2816x1024 .f32} {x4 : FVec Ideal S1x2048x1024 .f32}

/-- The five arrays hold real numbers only. -/
structure Reals (x0 : FVec Ideal S1x2048x1024 .f32) (x1 x2 : FVec Ideal S1024x2816 .f32) (x3 : FVec Ideal S2816x1024 .f32)
    (x4 : FVec Ideal S1x2048x1024 .f32) : Prop where
  h0 : Finite x0
  h1 : Finite x1
  h2 : Finite x2
  h3 : Finite x3
  h4 : Finite x4

/-- A function of shard, row and column as one of row and hidden column. -/
def flat (f : ℕ → ℕ → ℕ → ℝ) (r n : ℕ) : ℝ := f (n / 704) r (n % 704)

/-- The axes of a two-dimensional array exchanged. -/
theorem exchanged {m n : ℕ} (h : Shape.Transposes ⟨2, ![m, n]⟩ [1, 0] ⟨2, ![n, m]⟩) {A : FVec Ideal ⟨2, ![m, n]⟩ .f32} {f : ℕ → ℕ → ℝ}
    (hA : Rep A f) : Rep (m := n) (n := m) (φ := .f32) (transpose ⟨2, ![n, m]⟩ [1, 0] A h) (fun c r => f r c) := fun c r =>
  (transpose_apply [1, 0] A h (ix2 c r) (ix2 r c) (fun b => match b with
    | ⟨0, _⟩ => rfl
    | ⟨1, _⟩ => rfl)).trans (hA r c)

/-- The gradient of a weight by columns, in shards. -/
theorem in_shards_cols {f : ℕ → ℕ → ℕ → ℝ} {g : ℕ → ℕ → ℝ} {A : FVec Ideal S1024x2816 .f32}
    (h : Rep (m := 1024) (n := 2816) (φ := .f32) A (fun d n => ∑ r ∈ range 2048, flat f r n * g r d)) :
    transpose S4x704x1024 [1, 2, 0] (shapeCast S1024x4x704 A shapeCasts_S1024x2816_S1024x4x704) transposes_S1024x4x704_S4x704x1024_1_2_0
      = of3 (p := 4) (m := 704) (n := 1024) (φ := .f32) (fun q j d => ∑ r ∈ range 2048, f q r j * g r d) := by
  refine (shards_of_cols shapeCasts_S1024x2816_S1024x4x704 transposes_S1024x4x704_S4x704x1024_1_2_0 h).trans (funext fun i => ?_)
  have hj : (i 1).val < 704 := (i 1).isLt
  refine congrArg _ (Finset.sum_congr rfl fun r _ => ?_)
  unfold flat
  rw [shard_of hj, column_of hj]

/-- The gradient of a weight by rows, in shards. -/
theorem in_shards_rows {f : ℕ → ℕ → ℕ → ℝ} {g : ℕ → ℕ → ℝ} {A : FVec Ideal S2816x1024 .f32}
    (h : Rep (m := 2816) (n := 1024) (φ := .f32) A (fun n d => ∑ r ∈ range 2048, g r d * flat f r n)) :
    shapeCast S4x704x1024 A shapeCasts_S2816x1024_S4x704x1024
      = of3 (p := 4) (m := 704) (n := 1024) (φ := .f32) (fun q j d => ∑ r ∈ range 2048, f q r j * g r d) := by
  refine (shards_of_rows shapeCasts_S2816x1024_S4x704x1024 h).trans (funext fun i => ?_)
  have hj : (i 1).val < 704 := (i 1).isLt
  refine congrArg _ (Finset.sum_congr rfl fun r _ => ?_)
  unfold flat
  rw [shard_of hj, column_of hj, mul_comm]

variable (R : Reals x0 x1 x2 x3 x4)
include R

/-- The gate before its activation. -/
theorem s0 : Rep1 (m := 2048) (n := 2816) (φ := .f32) (val_main_v0 (F := Ideal) x0 x1) (flat (layer x0 x1 x2 x3 x4).a) := fun r n => by
  rw [val_main_v0_apply]
  refine (Finset.sum_congr rfl fun k _ => ?_).trans (coe_sum_fin 1024 (fun k => re1 x0 r.val k * re2 x1 k (704 * (n.val / 704) + n.val % 704)))
  rw [(rep_re1 R.h0).entry, at2 (rep_re2 R.h1), ← EReal.coe_mul, of_shard]

/-- The up projection. -/
theorem s2 : Rep1 (m := 2048) (n := 2816) (φ := .f32) (val_main_v2 (F := Ideal) x0 x2) (flat (layer x0 x1 x2 x3 x4).b) := fun r n => by
  rw [val_main_v2_apply]
  refine (Finset.sum_congr rfl fun k _ => ?_).trans (coe_sum_fin 1024 (fun k => re1 x0 r.val k * re2 x2 k (704 * (n.val / 704) + n.val % 704)))
  rw [(rep_re1 R.h0).entry, at2 (rep_re2 R.h2), ← EReal.coe_mul, of_shard]

/-- The logistic function of the gate. -/
theorem s1_2 : Rep1 (m := 2048) (n := 2816) (φ := .f32) (val_main_v1_2 (F := Ideal) x0 x1) (fun r n => sg (flat (layer x0 x1 x2 x3 x4).a r n)) := fun r n => by
  rw [val_main_v1_2_apply, val_main_call0_v4_apply, val_main_call0_cst_0_apply, val_main_call0_v3_apply, val_main_call0_v2_apply, val_main_call0_cst_apply,
    val_main_call0_v1_apply, val_main_call0_v0_apply, s0 R]
  show Ideal.div (Ideal.ofBits .f32 0x3F800000#32) (Ideal.ofBits .f32 0x3F800000#32 + Ideal.exp (-((flat (layer x0 x1 x2 x3 x4).a r.val n.val : ℝ) : EReal))) = _
  rw [word_one, ← EReal.coe_neg, Ideal.exp_coe, ← EReal.coe_add, div_coe_coe (one_add_exp_ne _)]
  simp only [sg, zero_sub]

/-- The derivative's second factor. -/
theorem s1_1 : Rep1 (m := 2048) (n := 2816) (φ := .f32) (val_main_v1_1 (F := Ideal) x0 x1)
    (fun r n => sg (flat (layer x0 x1 x2 x3 x4).a r n) * (1 - sg (flat (layer x0 x1 x2 x3 x4).a r n))) := fun r n => by
  rw [val_main_v1_1_apply, val_main_call0_v7_apply, val_main_call0_v6_apply, val_main_call0_cst_1_apply, s1_2 R]
  show _ * (Ideal.ofBits .f32 0x3F800000#32 - _) = _
  rw [word_one, ← EReal.coe_sub, ← EReal.coe_mul]

/-- The activated gate. -/
theorem s1_0 : Rep1 (m := 2048) (n := 2816) (φ := .f32) (val_main_v1_0 (F := Ideal) x0 x1)
    (fun r n => flat (layer x0 x1 x2 x3 x4).a r n * sg (flat (layer x0 x1 x2 x3 x4).a r n)) := fun r n => by
  rw [val_main_v1_0_apply, s0 R, s1_2 R]
  exact (EReal.coe_mul _ _).symm

/-- The gated hidden values. -/
theorem s3 : Rep1 (m := 2048) (n := 2816) (φ := .f32) (val_main_v3 (F := Ideal) x0 x1 x2) (flat (layer x0 x1 x2 x3 x4).s) := fun r n => by
  rw [val_main_v3_apply, s1_0 R, s2 R]
  exact (EReal.coe_mul _ _).symm

/-- The output. -/
theorem s4 : Rep1 (m := 2048) (n := 1024) (φ := .f32) (val_main_v4 (F := Ideal) x0 x1 x2 x3) (layer x0 x1 x2 x3 x4).y := fun r d => by
  rw [val_main_v4_apply]
  refine (Finset.sum_congr rfl fun k _ => ?_).trans ((coe_sum_fin 2816 (fun n => flat (layer x0 x1 x2 x3 x4).s r.val n * (layer x0 x1 x2 x3 x4).D (n / 704) (n % 704) d.val)).trans
    (congrArg _ (sum_hidden fun q f => (layer x0 x1 x2 x3 x4).s q r.val f * (layer x0 x1 x2 x3 x4).D q f d.val)))
  rw [(s3 R).entry, at2 (rep_re2 R.h3), ← EReal.coe_mul]
  show _ = ((_ * re2 x3 (704 * (k.val / 704) + k.val % 704) d.val : ℝ) : EReal)
  rw [of_shard]

/-- The gradient of the hidden values. -/
theorem s7 : Rep1 (m := 2048) (n := 2816) (φ := .f32) (val_main_v7 (F := Ideal) x3 x4) (flat (layer x0 x1 x2 x3 x4).ds) := fun r n => by
  rw [val_main_v7_apply]
  refine (Finset.sum_congr rfl fun k _ => ?_).trans (coe_sum_fin 1024 (fun k => re1 x4 r.val k * re2 x3 (704 * (n.val / 704) + n.val % 704) k))
  rw [(rep_re1 R.h4).entry, at2 (rep_re2 R.h3), ← EReal.coe_mul, of_shard]

/-- The gradient of the up projection. -/
theorem s8 : Rep1 (m := 2048) (n := 2816) (φ := .f32) (val_main_v8 (F := Ideal) x0 x1 x3 x4) (flat (layer x0 x1 x2 x3 x4).db) := fun r n => by
  rw [val_main_v8_apply, s1_0 R, s7 R]
  refine (EReal.coe_mul _ _).symm.trans ?_
  rw [mul_comm]
  rfl

/-- The gradient of the gate before its activation. -/
theorem s13 : Rep1 (m := 2048) (n := 2816) (φ := .f32) (val_main_v13 (F := Ideal) x0 x1 x2 x3 x4) (flat (layer x0 x1 x2 x3 x4).da) := fun r n => by
  rw [val_main_v13_apply, val_main_call1_v1_apply, val_main_call1_v2_apply, val_main_call1_v0_apply, val_main_v9_apply, s0 R, s1_2 R, s1_1 R, s7 R, s2 R]
  show _ * _ * _ + _ * (_ * _) * _ = _
  simp only [← EReal.coe_mul, ← EReal.coe_add]
  refine congrArg _ ?_
  unfold flat Layer.da
  ring

/-- The gradient of the input. -/
theorem s17 : Rep1 (m := 2048) (n := 1024) (φ := .f32) (val_main_v17 (F := Ideal) x0 x1 x2 x3 x4) (layer x0 x1 x2 x3 x4).dh := fun r d => by
  have hb : val_main_v12 (F := Ideal) x0 x1 x2 x3 x4 (ix3 0 r d)
      = ((∑ q ∈ range 4, ∑ f ∈ range 704, (layer x0 x1 x2 x3 x4).db q r.val f * (layer x0 x1 x2 x3 x4).U q f d.val : ℝ) : EReal) := by
    rw [val_main_v12_apply]
    refine (Finset.sum_congr rfl fun k _ => ?_).trans ((coe_sum_fin 2816 (fun n => flat (layer x0 x1 x2 x3 x4).db r.val n * (layer x0 x1 x2 x3 x4).U (n / 704) (n % 704) d.val)).trans
      (congrArg _ (sum_hidden fun q f => (layer x0 x1 x2 x3 x4).db q r.val f * (layer x0 x1 x2 x3 x4).U q f d.val)))
    rw [(s8 R).entry, at2 (rep_re2 R.h2), ← EReal.coe_mul]
    show _ = ((_ * re2 x2 d.val (704 * (k.val / 704) + k.val % 704) : ℝ) : EReal)
    rw [of_shard]
  have ha : val_main_v16 (F := Ideal) x0 x1 x2 x3 x4 (ix3 0 r d)
      = ((∑ q ∈ range 4, ∑ f ∈ range 704, (layer x0 x1 x2 x3 x4).da q r.val f * (layer x0 x1 x2 x3 x4).G q f d.val : ℝ) : EReal) := by
    rw [val_main_v16_apply]
    refine (Finset.sum_congr rfl fun k _ => ?_).trans ((coe_sum_fin 2816 (fun n => flat (layer x0 x1 x2 x3 x4).da r.val n * (layer x0 x1 x2 x3 x4).G (n / 704) (n % 704) d.val)).trans
      (congrArg _ (sum_hidden fun q f => (layer x0 x1 x2 x3 x4).da q r.val f * (layer x0 x1 x2 x3 x4).G q f d.val)))
    rw [(s13 R).entry, at2 (rep_re2 R.h1), ← EReal.coe_mul]
    show _ = ((_ * re2 x1 d.val (704 * (k.val / 704) + k.val % 704) : ℝ) : EReal)
    rw [of_shard]
  rw [val_main_v17_apply, ha, hb]
  refine (EReal.coe_add _ _).symm.trans ?_
  unfold Layer.dh
  rw [Finset.sum_add_distrib, add_comm]

/-- The down weight's gradient before its axes are exchanged. -/
theorem r5 : Rep (m := 1024) (n := 2816) (φ := .f32) (val_main_v5 (F := Ideal) x0 x1 x2 x4)
    (fun d n => ∑ r ∈ range 2048, re1 x4 r d * flat (layer x0 x1 x2 x3 x4).s r n) := by
  unfold val_main_v5
  exact rows_contracted _ (rep_re1 R.h4) (s3 R)

/-- The up weight's gradient before its axes are exchanged. -/
theorem r10 : Rep (m := 2816) (n := 1024) (φ := .f32) (val_main_v10 (F := Ideal) x0 x1 x3 x4)
    (fun n d => ∑ r ∈ range 2048, flat (layer x0 x1 x2 x3 x4).db r n * re1 x0 r d) := by
  unfold val_main_v10
  exact rows_contracted _ (s8 R) (rep_re1 R.h0)

/-- The gate weight's gradient before its axes are exchanged. -/
theorem r14 : Rep (m := 2816) (n := 1024) (φ := .f32) (val_main_v14 (F := Ideal) x0 x1 x2 x3 x4)
    (fun n d => ∑ r ∈ range 2048, flat (layer x0 x1 x2 x3 x4).da r n * re1 x0 r d) := by
  unfold val_main_v14
  exact rows_contracted _ (s13 R) (rep_re1 R.h0)

/-! ## The five results -/

/-- The output. -/
theorem out_y : val_main_v18 (F := Ideal) x0 x1 x2 x3 = of2 (m := 2048) (n := 1024) (φ := .f32) (layer x0 x1 x2 x3 x4).y :=
  eq_of2 ((s4 R).drop shapeCasts_S1x2048x1024_S2048x1024)

/-- The gradient of the input. -/
theorem out_dh : val_main_v19 (F := Ideal) x0 x1 x2 x3 x4 = of2 (m := 2048) (n := 1024) (φ := .f32) (layer x0 x1 x2 x3 x4).dh :=
  eq_of2 ((s17 R).drop shapeCasts_S1x2048x1024_S2048x1024)

/-- The gradient of the gate weight. -/
theorem out_gate : val_main_v22 (F := Ideal) x0 x1 x2 x3 x4 = of3 (p := 4) (m := 704) (n := 1024) (φ := .bf16) (layer x0 x1 x2 x3 x4).gG := by
  have h := in_shards_cols (exchanged transposes_S2816x1024_S1024x2816_1_0 (r14 R))
  unfold val_main_v22 val_main_v21 val_main_v20 val_main_v15
  exact h

/-- The gradient of the up weight. -/
theorem out_up : val_main_v25 (F := Ideal) x0 x1 x3 x4 = of3 (p := 4) (m := 704) (n := 1024) (φ := .bf16) (layer x0 x1 x2 x3 x4).gU := by
  have h := in_shards_cols (exchanged transposes_S2816x1024_S1024x2816_1_0 (r10 R))
  unfold val_main_v25 val_main_v24 val_main_v23 val_main_v11
  exact h

/-- The gradient of the down weight. -/
theorem out_down : val_main_v27 (F := Ideal) x0 x1 x2 x4 = of3 (p := 4) (m := 704) (n := 1024) (φ := .bf16) (layer x0 x1 x2 x3 x4).gD := by
  have h := in_shards_rows (exchanged transposes_S1024x2816_S2816x1024_1_0 (r5 R))
  unfold val_main_v27 val_main_v26 val_main_v6
  exact h

end Cert.FfnReferenceIdeal.Stages
-- ==== Proof.GdnProjRun.lean ====
module

public import proofs.«01_k».proof.Proof.Gen.GdnProjIdeal.Frame

/-! # The six calls of the delta layer's projections run

    What the six result arrays hold when the program ends: their contents at the last boundary. -/

@[expose] public section

set_option maxRecDepth 16384

noncomputable section

namespace Cert.GdnProjIdeal.Run

open Cert.GdnProjIdeal Cert.GdnProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with its six result arrays at the last boundary's contents. -/
theorem results : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v12) = W7 m ρ c (Proc.devRef .tc main_v12)
      ∧ r.2.mem ((c.tc : Thread nD τ).loc main_v13) = W7 m ρ c (Proc.devRef .tc main_v13)
      ∧ r.2.mem ((c.tc : Thread nD τ).loc main_v14) = W7 m ρ c (Proc.devRef .tc main_v14)
      ∧ r.2.mem ((c.tc : Thread nD τ).loc main_v15) = W7 m ρ c (Proc.devRef .tc main_v15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v10 (by decide)),
       h c _ (mem_uc main_v11 (by decide)),
       h c _ (mem_uc main_v12 (by decide)),
       h c _ (mem_uc main_v13 (by decide)),
       h c _ (mem_uc main_v14 (by decide)),
       h c _ (mem_uc main_v15 (by decide))⟩)

end Cert.GdnProjIdeal.Run
-- ==== Proof.LinReal.lean ====
module

public import proofs.«01_k».proof.Proof.AttnReal
public import Idealize.ShloMosaic.Lib.TwoAxisContraction
public import Idealize.ShloMosaic.PureOps.Ideal.Laws

/-! # Linear layers over the extended reals

    The three products of a linear layer and of its differentiation, term by term over the extended reals: no entry
    need be finite.  An array is described by a function of row and column numbers. -/

@[expose] public section

set_option maxRecDepth 16384

noncomputable section

namespace Cert.Lin

open Idealize.ShloMosaic Idealize.ShloMosaic.ValueIdx
open scoped BigOperators
open Finset (range)

/-! ## The three products -/

/-- The layer's output: the input's rows times the weight's columns, over `K` inner places. -/
def out (K : ℕ) (a w : ℕ → ℕ → EReal) (r c : ℕ) : EReal := ∑ k ∈ range K, a r k * w k c
/-- The weight's gradient: over the 2048 rows, the input's column times the incoming gradient's. -/
def gradW (a t : ℕ → ℕ → EReal) (k c : ℕ) : EReal := ∑ r ∈ range 2048, a r k * t r c
/-- The input's gradient: the incoming gradient's rows times the weight's rows, over `N` columns. -/
def gradA (N : ℕ) (t w : ℕ → ℕ → EReal) (r k : ℕ) : EReal := ∑ c ∈ range N, t r c * w k c

/-! ## Arrays described by a function -/

variable {m n p : ℕ} {φ φ₁ φ₂ : FTy}

/-- The array of a function of row and column. -/
def ofFn (f : ℕ → ℕ → EReal) : FVec Ideal ⟨2, ![m, n]⟩ φ := fun i => f (i 0).val (i 1).val

/-- The array's entries are the function's values. -/
def Is (A : FVec Ideal ⟨2, ![m, n]⟩ φ) (f : ℕ → ℕ → EReal) : Prop := ∀ (r : Fin m) (c : Fin n), A (ix2 r c) = f r.val c.val

/-- The entries of an array of one layer are the function's values. -/
def Is1 (A : FVec Ideal ⟨3, ![1, m, n]⟩ φ) (f : ℕ → ℕ → EReal) : Prop := ∀ (r : Fin m) (c : Fin n), A (ix3 0 r c) = f r.val c.val

/-- The function of an array: its entries, and zero outside. -/
def fn2 (A : FVec Ideal ⟨2, ![m, n]⟩ φ) (r c : ℕ) : EReal := if h : r < m ∧ c < n then A (ix2 ⟨r, h.1⟩ ⟨c, h.2⟩) else 0
/-- The function of an array of one layer: its entries, and zero outside. -/
def fn1 (A : FVec Ideal ⟨3, ![1, m, n]⟩ φ) (r c : ℕ) : EReal := if h : r < m ∧ c < n then A (ix3 0 ⟨r, h.1⟩ ⟨c, h.2⟩) else 0

/-- An array holds its own entries. -/
theorem is_fn2 (A : FVec Ideal ⟨2, ![m, n]⟩ φ) : Is A (fn2 A) := fun r c => by
  unfold fn2; rw [dif_pos ⟨r.isLt, c.isLt⟩]
/-- The same with a unit axis in front. -/
theorem is_fn1 (A : FVec Ideal ⟨3, ![1, m, n]⟩ φ) : Is1 A (fn1 A) := fun r c => by
  unfold fn1; rw [dif_pos ⟨r.isLt, c.isLt⟩]

/-- An array is that of the function that describes it. -/
theorem Is.eq {A : FVec Ideal ⟨2, ![m, n]⟩ φ} {f : ℕ → ℕ → EReal} (h : Is A f) : A = ofFn f := by
  funext i
  obtain ⟨r, c, rfl⟩ : ∃ (r : Fin m) (c : Fin n), i = ix2 r c := ⟨_, _, eq_ix2 i⟩
  exact h r c

/-- An entry at any index. -/
theorem Is.at {A : FVec Ideal ⟨2, ![m, n]⟩ φ} {f : ℕ → ℕ → EReal} (h : Is A f) (i : (⟨2, ![m, n]⟩ : Shape).Idx) :
    A i = f (i 0).val (i 1).val := congrFun h.eq i

/-- An entry of an array of one layer at any index. -/
theorem Is1.at {A : FVec Ideal ⟨3, ![1, m, n]⟩ φ} {f : ℕ → ℕ → EReal} (h : Is1 A f) (i : (⟨3, ![1, m, n]⟩ : Shape).Idx) :
    A i = f (i 1).val (i 2).val := by
  have e : i = ix3 0 (i 1) (i 2) := by
    funext a
    match a with
    | ⟨0, _⟩ => exact Subsingleton.elim (α := Fin 1) _ _
    | ⟨1, _⟩ => rfl
    | ⟨2, _⟩ => rfl
  rw [e]
  exact h _ _

/-- A sum over a finite type as one over a range. -/
theorem sum_fin (K : ℕ) (f : ℕ → EReal) : ∑ k : Fin K, f k.val = ∑ k ∈ range K, f k := Fin.sum_univ_eq_sum_range f K

/-! ## Casts and changes of shape -/

/-- A narrower type keeps the entries. -/
theorem Is.cut (h : FTy.bits φ₂ < FTy.bits φ₁) {A : FVec Ideal ⟨2, ![m, n]⟩ φ₁} {f : ℕ → ℕ → EReal} (hA : Is A f) :
    Is (truncf φ₂ A h) f := fun r c => hA r c

/-- A reshape to the same shape. -/
theorem Is.same (h : Shape.ShapeCasts ⟨2, ![m, n]⟩ ⟨2, ![m, n]⟩) {A : FVec Ideal ⟨2, ![m, n]⟩ φ} {f : ℕ → ℕ → EReal} (hA : Is A f) :
    Is (m := m) (n := n) (φ := φ) (shapeCast ⟨2, ![m, n]⟩ A h) f := fun r c => by
  rw [shapeCast_apply A h (ix2 r c) (ix2 r c) rfl]; exact hA r c

/-- The leading axis of extent one left out. -/
theorem Is1.drop (h : Shape.ShapeCasts ⟨3, ![1, m, n]⟩ ⟨2, ![m, n]⟩) {A : FVec Ideal ⟨3, ![1, m, n]⟩ φ} {f : ℕ → ℕ → EReal}
    (hA : Is1 A f) : Is (m := m) (n := n) (φ := φ) (shapeCast ⟨2, ![m, n]⟩ A h) f := fun r c => by
  rw [shapeCast_apply A h (ix2 r c) (ix3 0 r c) (by
    rw [Shape.rowMajor_val_two, Shape.rowMajor_val_three]
    show (0 * m + r.val) * n + c.val = r.val * n + c.val
    rw [Nat.zero_mul, Nat.zero_add])]
  exact hA r c

/-- The two axes exchanged. -/
theorem Is.exchanged (h : Shape.Transposes ⟨2, ![m, n]⟩ [1, 0] ⟨2, ![n, m]⟩) {A : FVec Ideal ⟨2, ![m, n]⟩ φ} {f : ℕ → ℕ → EReal}
    (hA : Is A f) : Is (m := n) (n := m) (φ := φ) (transpose ⟨2, ![n, m]⟩ [1, 0] A h) (fun c r => f r c) := fun c r =>
  (transpose_apply [1, 0] A h (ix2 c r) (ix2 r c) (fun b => match b with
    | ⟨0, _⟩ => rfl
    | ⟨1, _⟩ => rfl)).trans (hA r c)

/-! ## Products of a block -/

/-- The product of `A` with the transpose of `B`. -/
theorem nt (wf) (prec : Option ContractPrecision) {A : FVec Ideal ⟨2, ![m, n]⟩ φ₁} {B : FVec Ideal ⟨2, ![p, n]⟩ φ₂}
    {f g : ℕ → ℕ → EReal} (hA : Is A f) (hB : Is B g) :
    Is (m := m) (n := p) (φ := .f32)
      (matmul (F := Ideal) (⟨[1], [1], [0], [0], [], [], wf⟩ : DotDims ⟨2, ![m, n]⟩ ⟨2, ![p, n]⟩ ⟨2, ![m, p]⟩) prec A B
        (constant ⟨2, ![m, p]⟩ .f32 0x00000000#32))
      (gradA n f g) := fun r c => by
  refine (Ideal.matmul_transposedRhs_apply prec A B (constant ⟨2, ![m, p]⟩ .f32 0x00000000#32) r c).trans ?_
  rw [show (constant (F := Ideal) ⟨2, ![m, p]⟩ .f32 0x00000000#32) (ix2 r c) = 0 from Ideal.ofBits_zero_f32, zero_add]
  exact (Finset.sum_congr rfl fun k _ => by rw [hA, hB]).trans (sum_fin n fun k => f r.val k * g c.val k)

/-- The product of `A` with `B`. -/
theorem nn (wf) (prec : Option ContractPrecision) {A : FVec Ideal ⟨2, ![m, n]⟩ φ₁} {B : FVec Ideal ⟨2, ![n, p]⟩ φ₂}
    {f g : ℕ → ℕ → EReal} (hA : Is A f) (hB : Is B g) :
    Is (m := m) (n := p) (φ := .f32)
      (matmul (F := Ideal) (⟨[1], [0], [0], [1], [], [], wf⟩ : DotDims ⟨2, ![m, n]⟩ ⟨2, ![n, p]⟩ ⟨2, ![m, p]⟩) prec A B
        (constant ⟨2, ![m, p]⟩ .f32 0x00000000#32))
      (out n f g) := fun r c => by
  refine (Ideal.matmul_plain_apply prec A B (constant ⟨2, ![m, p]⟩ .f32 0x00000000#32) r c).trans ?_
  rw [show (constant (F := Ideal) ⟨2, ![m, p]⟩ .f32 0x00000000#32) (ix2 r c) = 0 from Ideal.ofBits_zero_f32, zero_add]
  exact (Finset.sum_congr rfl fun k _ => by rw [hA, hB]).trans (sum_fin n fun k => f r.val k * g k c.val)

/-- The product of the transpose of `A` with `B`, over 2048 rows. -/
theorem tn (wf) (prec : Option ContractPrecision) {A : FVec Ideal ⟨2, ![2048, m]⟩ φ₁} {B : FVec Ideal ⟨2, ![2048, p]⟩ φ₂}
    {f g : ℕ → ℕ → EReal} (hA : Is A f) (hB : Is B g) :
    Is (m := m) (n := p) (φ := .f32)
      (matmul (F := Ideal) (⟨[0], [0], [1], [1], [], [], wf⟩ : DotDims ⟨2, ![2048, m]⟩ ⟨2, ![2048, p]⟩ ⟨2, ![m, p]⟩) prec A B
        (constant ⟨2, ![m, p]⟩ .f32 0x00000000#32))
      (gradW f g) := fun r c => by
  let D : DotDims ⟨2, ![2048, m]⟩ ⟨2, ![2048, p]⟩ ⟨2, ![m, p]⟩ := ⟨[0], [0], [1], [1], [], [], wf⟩
  have hr : D.contr.rank = 1 := rfl
  have hs : D.contr.size ⟨0, by rw [hr]; exact Nat.one_pos⟩ = 2048 := rfl
  show FloatOps.matmul D prec A B (constant ⟨2, ![m, p]⟩ .f32 0x00000000#32) (ix2 r c) = _
  rw [Ideal.matmul_apply, ← Equiv.sum_comp (contrEquiv1 D 2048 hr hs).symm,
    show (constant (F := Ideal) ⟨2, ![m, p]⟩ .f32 0x00000000#32) (ix2 r c) = 0 from Ideal.ofBits_zero_f32, zero_add]
  refine (Finset.sum_congr rfl fun k _ => ?_).trans (sum_fin 2048 fun k => f k r.val * g k c.val)
  have hk := contrEquiv1_symm_val D 2048 hr hs k
  have el : D.lhsIdx (ix2 r c) ((contrEquiv1 D 2048 hr hs).symm k) = ix2 k r := by
    funext a; apply Fin.ext
    match a with
    | ⟨0, _⟩ => exact hk
    | ⟨1, _⟩ => rfl
  have er : D.rhsIdx (ix2 r c) ((contrEquiv1 D 2048 hr hs).symm k) = ix2 k c := by
    funext a; apply Fin.ext
    match a with
    | ⟨0, _⟩ => exact hk
    | ⟨1, _⟩ => rfl
  rw [el, er, hA, hB]

/-! ## Products of whole arrays of one layer -/

/-- A contraction of both leading axes, of extents one and 2048, with the factors in the other order. -/
theorem over_rows {p q : ℕ}
    (wf : DotDims.WF ⟨3, ![1, 2048, p]⟩ ⟨3, ![1, 2048, q]⟩ ⟨2, ![p, q]⟩ [0, 1] [0, 1] [2] [2] [] [])
    {A : FVec Ideal ⟨3, ![1, 2048, p]⟩ .f32} {B : FVec Ideal ⟨3, ![1, 2048, q]⟩ .f32} {f g : ℕ → ℕ → EReal} (hA : Is1 A f) (hB : Is1 B g) :
    Is (m := p) (n := q) (φ := .f32) (Host.dotGeneral ⟨[0, 1], [0, 1], [2], [2], [], [], wf⟩ none A B)
      (fun a b => gradW g f b a) := fun a b => by
  set D : DotDims ⟨3, ![1, 2048, p]⟩ ⟨3, ![1, 2048, q]⟩ ⟨2, ![p, q]⟩ := ⟨[0, 1], [0, 1], [2], [2], [], [], wf⟩
  simp only [Host.dotGeneral]
  have hr : D.contr.rank = 2 := rfl
  have c0 : D.contr.size ⟨0, by rw [hr]; omega⟩ = 1 := rfl
  have c1 : D.contr.size ⟨1, by rw [hr]; omega⟩ = 2048 := rfl
  rw [Ideal.dotGeneral_apply, ← Equiv.sum_comp (contrEquiv2 D 1 2048 hr c0 c1).symm, Fintype.sum_prod_type, Fin.sum_univ_one]
  refine (Finset.sum_congr rfl fun k _ => ?_).trans (sum_fin 2048 (fun r => g r b.val * f r a.val))
  have h1 := contrEquiv2_symm_val1 D 1 2048 hr c0 c1 (0, k)
  have el : A (D.lhsIdx (ix2 a b) ((contrEquiv2 D 1 2048 hr c0 c1).symm (0, k))) = f k.val a.val := by
    refine (hA.at _).trans ?_
    rw [show (D.lhsIdx (ix2 a b) ((contrEquiv2 D 1 2048 hr c0 c1).symm (0, k)) 1).val = k.val from h1,
      show (D.lhsIdx (ix2 a b) ((contrEquiv2 D 1 2048 hr c0 c1).symm (0, k)) 2).val = a.val from rfl]
  have er : B (D.rhsIdx (ix2 a b) ((contrEquiv2 D 1 2048 hr c0 c1).symm (0, k))) = g k.val b.val := by
    refine (hB.at _).trans ?_
    rw [show (D.rhsIdx (ix2 a b) ((contrEquiv2 D 1 2048 hr c0 c1).symm (0, k)) 1).val = k.val from h1,
      show (D.rhsIdx (ix2 a b) ((contrEquiv2 D 1 2048 hr c0 c1).symm (0, k)) 2).val = b.val from rfl]
  rw [el, er, mul_comm]

/-- An array of one layer times a weight. -/
theorem times {K q : ℕ} (wf : DotDims.WF ⟨3, ![1, 2048, K]⟩ ⟨2, ![K, q]⟩ ⟨3, ![1, 2048, q]⟩ [2] [0] [0, 1] [1] [] [])
    {A : FVec Ideal ⟨3, ![1, 2048, K]⟩ .f32} {B : FVec Ideal ⟨2, ![K, q]⟩ .f32} {f g : ℕ → ℕ → EReal} (hA : Is1 A f) (hB : Is B g) :
    Is1 (m := 2048) (n := q) (φ := .f32) (Host.dotGeneral ⟨[2], [0], [0, 1], [1], [], [], wf⟩ none A B) (out K f g) := fun r b => by
  set D : DotDims ⟨3, ![1, 2048, K]⟩ ⟨2, ![K, q]⟩ ⟨3, ![1, 2048, q]⟩ := ⟨[2], [0], [0, 1], [1], [], [], wf⟩
  simp only [Host.dotGeneral]
  have hr : D.contr.rank = 1 := rfl
  have hs : D.contr.size ⟨0, by rw [hr]; exact Nat.one_pos⟩ = K := rfl
  rw [Ideal.dotGeneral_apply, ← Equiv.sum_comp (contrEquiv1 D K hr hs).symm]
  refine (Finset.sum_congr rfl fun k _ => ?_).trans (sum_fin K (fun k => f r.val k * g k b.val))
  have hk := contrEquiv1_symm_val D K hr hs k
  have el : A (D.lhsIdx (ix3 0 r b) ((contrEquiv1 D K hr hs).symm k)) = f r.val k.val := by
    refine (hA.at _).trans ?_
    rw [show (D.lhsIdx (ix3 0 r b) ((contrEquiv1 D K hr hs).symm k) 1).val = r.val from rfl,
      show (D.lhsIdx (ix3 0 r b) ((contrEquiv1 D K hr hs).symm k) 2).val = k.val from hk]
  have er : B (D.rhsIdx (ix3 0 r b) ((contrEquiv1 D K hr hs).symm k)) = g k.val b.val := by
    refine (hB.at _).trans ?_
    rw [show (D.rhsIdx (ix3 0 r b) ((contrEquiv1 D K hr hs).symm k) 0).val = k.val from hk,
      show (D.rhsIdx (ix3 0 r b) ((contrEquiv1 D K hr hs).symm k) 1).val = b.val from rfl]
  rw [el, er]

/-- An array of one layer times the transpose of a weight. -/
theorem timesT {K q : ℕ} (wf : DotDims.WF ⟨3, ![1, 2048, q]⟩ ⟨2, ![K, q]⟩ ⟨3, ![1, 2048, K]⟩ [2] [1] [0, 1] [0] [] [])
    {A : FVec Ideal ⟨3, ![1, 2048, q]⟩ .f32} {B : FVec Ideal ⟨2, ![K, q]⟩ .f32} {f g : ℕ → ℕ → EReal} (hA : Is1 A f) (hB : Is B g) :
    Is1 (m := 2048) (n := K) (φ := .f32) (Host.dotGeneral ⟨[2], [1], [0, 1], [0], [], [], wf⟩ none A B) (gradA q f g) := fun r b => by
  set D : DotDims ⟨3, ![1, 2048, q]⟩ ⟨2, ![K, q]⟩ ⟨3, ![1, 2048, K]⟩ := ⟨[2], [1], [0, 1], [0], [], [], wf⟩
  simp only [Host.dotGeneral]
  have hr : D.contr.rank = 1 := rfl
  have hs : D.contr.size ⟨0, by rw [hr]; exact Nat.one_pos⟩ = q := rfl
  rw [Ideal.dotGeneral_apply, ← Equiv.sum_comp (contrEquiv1 D q hr hs).symm]
  refine (Finset.sum_congr rfl fun k _ => ?_).trans (sum_fin q (fun k => f r.val k * g b.val k))
  have hk := contrEquiv1_symm_val D q hr hs k
  have el : A (D.lhsIdx (ix3 0 r b) ((contrEquiv1 D q hr hs).symm k)) = f r.val k.val := by
    refine (hA.at _).trans ?_
    rw [show (D.lhsIdx (ix3 0 r b) ((contrEquiv1 D q hr hs).symm k) 1).val = r.val from rfl,
      show (D.lhsIdx (ix3 0 r b) ((contrEquiv1 D q hr hs).symm k) 2).val = k.val from hk]
  have er : B (D.rhsIdx (ix3 0 r b) ((contrEquiv1 D q hr hs).symm k)) = g b.val k.val := by
    refine (hB.at _).trans ?_
    rw [show (D.rhsIdx (ix3 0 r b) ((contrEquiv1 D q hr hs).symm k) 0).val = b.val from rfl,
      show (D.rhsIdx (ix3 0 r b) ((contrEquiv1 D q hr hs).symm k) 1).val = k.val from hk]
  rw [el, er]

end Cert.Lin
-- ==== Proof.GdnProjHost.lean ====
module

public import proofs.«01_k».proof.Proof.Gen.GdnProjIdeal.Frame
public import proofs.«01_k».proof.Proof.LinReal
public import Idealize.ShloMosaic.Lib.StableHlo.RunRead

/-! # What the host hands the six calls of the delta layer's projections

    The lines before the first call: each array by rows and columns. -/

@[expose] public section

set_option maxRecDepth 16384

noncomputable section

namespace Cert.GdnProjIdeal.Result

open Cert.GdnProjIdeal Cert.GdnProjIdeal.Gen
open Idealize.ShloMosaic Idealize.ShloMosaic.TcCoe Idealize.ShloMosaic.StableHlo
open Cert.Lin

variable (m : (ℓ : Loc nD τ sig) → Buf (Elt Ideal) ℓ) (ρ : Dev nD → PrngReg) (c : Dev nD)

/-- The input projection's input. -/
def x0 : FVec Ideal S1x2048x1024 .f32 := m ((c : Thread nD τ).loc main_arg0)
/-- The input projection's weight. -/
def x1 : FVec Ideal S1024x4352 .f32 := m ((c : Thread nD τ).loc main_arg1)
/-- The input projection's incoming gradient. -/
def x2 : FVec Ideal S1x2048x4352 .f32 := m ((c : Thread nD τ).loc main_arg2)
/-- The output projection's input. -/
def x3 : FVec Ideal S1x2048x1024 .f32 := m ((c : Thread nD τ).loc main_arg3)
/-- The output projection's weight. -/
def x4 : FVec Ideal S1024x1024 .f32 := m ((c : Thread nD τ).loc main_arg4)
/-- The output projection's incoming gradient. -/
def x5 : FVec Ideal S1x2048x1024 .f32 := m ((c : Thread nD τ).loc main_arg5)

/-- The input projection's input as the first call finds it. -/
theorem read0 : V1 m ρ c main_v1 = truncf .bf16 (shapeCast S2048x1024 (x0 m c) shapeCasts_S1x2048x1024_S2048x1024) bitsLt_bf16_f32 := by
  unfold V1 W1
  after_reads_simp
  rfl
/-- The input projection's weight as the first call finds it. -/
theorem read1 : V1 m ρ c main_v2 = truncf .bf16 (x1 m c) bitsLt_bf16_f32 := by
  unfold V1 W1
  after_reads_simp
  rfl
/-- The input projection's incoming gradient as the first call finds it. -/
theorem read2 : V1 m ρ c main_v4 = truncf .bf16 (shapeCast S2048x4352 (x2 m c) shapeCasts_S1x2048x4352_S2048x4352) bitsLt_bf16_f32 := by
  unfold V1 W1
  after_reads_simp
  rfl
/-- The output projection's input as the first call finds it. -/
theorem read3 : V1 m ρ c main_v6 = truncf .bf16 (shapeCast S2048x1024 (x3 m c) shapeCasts_S1x2048x1024_S2048x1024) bitsLt_bf16_f32 := by
  unfold V1 W1
  after_reads_simp
  rfl
/-- The output projection's weight as the first call finds it. -/
theorem read4 : V1 m ρ c main_v7 = truncf .bf16 (x4 m c) bitsLt_bf16_f32 := by
  unfold V1 W1
  after_reads_simp
  rfl
/-- The output projection's incoming gradient as the first call finds it. -/
theorem read5 : V1 m ρ c main_v9 = truncf .bf16 (shapeCast S2048x1024 (x5 m c) shapeCasts_S1x2048x1024_S2048x1024) bitsLt_bf16_f32 := by
  unfold V1 W1
  after_reads_simp
  rfl

/-- The input projection's input by rows and columns. -/
theorem in0 : V1 m ρ c main_v1 = ofFn (m := 2048) (n := 1024) (φ := .bf16) (fn1 (x0 m c)) :=
  (read0 m ρ c).trans (Is.cut bitsLt_bf16_f32 ((is_fn1 (x0 m c)).drop shapeCasts_S1x2048x1024_S2048x1024)).eq
/-- The input projection's weight by rows and columns. -/
theorem in1 : V1 m ρ c main_v2 = ofFn (m := 1024) (n := 4352) (φ := .bf16) (fn2 (x1 m c)) :=
  (read1 m ρ c).trans (Is.cut bitsLt_bf16_f32 (is_fn2 (x1 m c))).eq
/-- The input projection's incoming gradient by rows and columns. -/
theorem in2 : V1 m ρ c main_v4 = ofFn (m := 2048) (n := 4352) (φ := .bf16) (fn1 (x2 m c)) :=
  (read2 m ρ c).trans (Is.cut bitsLt_bf16_f32 ((is_fn1 (x2 m c)).drop shapeCasts_S1x2048x4352_S2048x4352)).eq
/-- The output projection's input by rows and columns. -/
theorem in3 : V1 m ρ c main_v6 = ofFn (m := 2048) (n := 1024) (φ := .bf16) (fn1 (x3 m c)) :=
  (read3 m ρ c).trans (Is.cut bitsLt_bf16_f32 ((is_fn1 (x3 m c)).drop shapeCasts_S1x2048x1024_S2048x1024)).eq
/-- The output projection's weight by rows and columns. -/
theorem in4 : V1 m ρ c main_v7 = ofFn (m := 1024) (n := 1024) (φ := .bf16) (fn2 (x4 m c)) :=
  (read4 m ρ c).trans (Is.cut bitsLt_bf16_f32 (is_fn2 (x4 m c))).eq
/-- The output projection's incoming gradient by rows and columns. -/
theorem in5 : V1 m ρ c main_v9 = ofFn (m := 2048) (n := 1024) (φ := .bf16) (fn1 (x5 m c)) :=
  (read5 m ρ c).trans (Is.cut bitsLt_bf16_f32 ((is_fn1 (x5 m c)).drop shapeCasts_S1x2048x1024_S2048x1024)).eq

end Cert.GdnProjIdeal.Result
-- ==== Proof.GdnProjRegion0.lean ====
module

public import proofs.«01_k».proof.Proof.Gen.GdnProjIdeal.Frame
public import proofs.«01_k».proof.Proof.LinReal
public import Idealize.ShloMosaic.Lib.Pipeline.ValueKit

/-! # The first call: the input projection's output -/

@[expose] public section

set_option maxRecDepth 16384

noncomputable section

namespace Cert.GdnProjIdeal.Region0

open Cert.GdnProjIdeal Cert.GdnProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid0.N,
    (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) := by
  decide +kernel

/-- What the body stores, from the blocks it loads. -/
theorem pay {x0 : FVec Ideal S512x1024 .bf16} {x1 : FVec Ideal S1024x2176 .bf16} {a b : ℕ → ℕ → EReal}
    (h0 : Is (m := 512) (n := 1024) (φ := .bf16) x0 a) (h1 : Is (m := 1024) (n := 2176) (φ := .bf16) x1 b) :
    Is (m := 512) (n := 2176) (φ := .f32) (k0_pay1 (F := Ideal) x0 x1) (out 1024 a b) :=
  nn _ _ (h0.same shapeCasts_S512x1024_S512x1024) (h1.same shapeCasts_S1024x2176_S1024x2176)

variable {V} {c} {f g : ℕ → ℕ → EReal}

/-- The first factor's block at a point of the grid. -/
theorem blk0 (hv : V c main_v1 = ofFn (m := 2048) (n := 1024) (φ := .bf16) f) (t : Fin cfg0.N) :
    Is (m := 512) (n := 1024) (φ := .bf16) (iblk0 V c 0 t) (fun r k => f (512 * (t.val / 2) + r) k) := fun r k => by
  obtain ⟨⟨i0, i1⟩, -⟩ := block_index t
  unfold iblk0
  rw [View.read_apply]
  show V c main_v1 _ = _
  rw [hv]
  show f (win0_0.index t 0 * 512 + 1 * r.val) (win0_0.index t 1 * 1024 + 1 * k.val) = _
  rw [i0, i1]
  refine congrArg₂ f ?_ ?_ <;> omega

/-- The second factor's block at a point of the grid. -/
theorem blk1 (hv : V c main_v2 = ofFn (m := 1024) (n := 4352) (φ := .bf16) g) (t : Fin cfg0.N) :
    Is (m := 1024) (n := 2176) (φ := .bf16) (iblk0 V c 1 t) (fun k c => g k (2176 * (t.val % 2) + c)) := fun r k => by
  obtain ⟨-, ⟨i0, i1⟩, -⟩ := block_index t
  unfold iblk0
  rw [View.read_apply]
  show V c main_v2 _ = _
  rw [hv]
  show g (win0_1.index t 0 * 1024 + 1 * r.val) (win0_1.index t 1 * 2176 + 1 * k.val) = _
  rw [i0, i1]
  refine congrArg₂ g ?_ ?_ <;> omega

/-- The input projection's output. -/
theorem final (h0 : V c main_v1 = ofFn (m := 2048) (n := 1024) (φ := .bf16) f)
    (h1 : V c main_v2 = ofFn (m := 1024) (n := 4352) (φ := .bf16) g) :
    (dat0 V c).arrAt 2 cfg0.N = ofFn (m := 2048) (n := 4352) (φ := .f32) (out 1024 f g) := by
  refine (dat0 V c).arrAt_eq_of_covers 2 _ (by decide +kernel) fun t hf y => ?_
  obtain ⟨-, -, ⟨i0, i1⟩⟩ := block_index t
  obtain ⟨r, k, rfl⟩ : ∃ (r : Fin 512) (k : Fin 2176), y = ix2 r k := ⟨_, _, eq_ix2 y⟩
  have e : (dat0 V c).after 2 t = k0_pay1 (iblk0 V c 0 t) (iblk0 V c 1 t) := by
    rw [after0_2]
    unfold out0_2
    rw [View.ld_unit_zero (S := S512x1024) (by decide), View.ld_unit_zero (S := S1024x2176) (by decide)]
    exact View.canon_unit_zero (S := S512x2176) (by decide) _ _
  refine (congrFun e (ix2 r k)).trans ?_
  refine (pay (blk0 h0 t) (blk1 h1 t) r k).trans ?_
  show _ = out 1024 f g (win0_2.index t 0 * 512 + 1 * r.val) (win0_2.index t 1 * 2176 + 1 * k.val)
  rw [i0, i1, show t.val / 2 * 512 + 1 * r.val = 512 * (t.val / 2) + r.val by omega,
    show t.val % 2 * 2176 + 1 * k.val = 2176 * (t.val % 2) + k.val by omega]
  rfl

end Cert.GdnProjIdeal.Region0
-- ==== Proof.GdnProjRegion1.lean ====
module

public import proofs.«01_k».proof.Proof.Gen.GdnProjIdeal.Frame
public import proofs.«01_k».proof.Proof.LinReal
public import Idealize.ShloMosaic.Lib.Pipeline.ValueKit

/-! # The second call: the input projection's weight's gradient -/

@[expose] public section

set_option maxRecDepth 16384

noncomputable section

namespace Cert.GdnProjIdeal.Region1

open Cert.GdnProjIdeal Cert.GdnProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid1.N,
    (win1_0.index t 0 = 0 ∧ win1_0.index t 1 = t.val / 2)
    ∧ (win1_1.index t 0 = 0 ∧ win1_1.index t 1 = t.val % 2)
    ∧ (win1_2.index t 0 = t.val / 2 ∧ win1_2.index t 1 = t.val % 2) := by
  decide +kernel

/-- What the body stores, from the blocks it loads. -/
theorem pay {x0 : FVec Ideal S2048x512 .bf16} {x1 : FVec Ideal S2048x2176 .bf16} {a b : ℕ → ℕ → EReal}
    (h0 : Is (m := 2048) (n := 512) (φ := .bf16) x0 a) (h1 : Is (m := 2048) (n := 2176) (φ := .bf16) x1 b) :
    Is (m := 512) (n := 2176) (φ := .bf16) (k1_pay1 (F := Ideal) x0 x1) (gradW a b) :=
  (tn _ _ (h0.same shapeCasts_S2048x512_S2048x512) (h1.same shapeCasts_S2048x2176_S2048x2176)).cut bitsLt_bf16_f32

variable {V} {c} {f g : ℕ → ℕ → EReal}

/-- The first factor's block at a point of the grid. -/
theorem blk0 (hv : V c main_v1 = ofFn (m := 2048) (n := 1024) (φ := .bf16) f) (t : Fin cfg1.N) :
    Is (m := 2048) (n := 512) (φ := .bf16) (iblk1 V c 0 t) (fun r k => f r (512 * (t.val / 2) + k)) := fun r k => by
  obtain ⟨⟨i0, i1⟩, -⟩ := block_index t
  unfold iblk1
  rw [View.read_apply]
  show V c main_v1 _ = _
  rw [hv]
  show f (win1_0.index t 0 * 2048 + 1 * r.val) (win1_0.index t 1 * 512 + 1 * k.val) = _
  rw [i0, i1]
  refine congrArg₂ f ?_ ?_ <;> omega

/-- The second factor's block at a point of the grid. -/
theorem blk1 (hv : V c main_v4 = ofFn (m := 2048) (n := 4352) (φ := .bf16) g) (t : Fin cfg1.N) :
    Is (m := 2048) (n := 2176) (φ := .bf16) (iblk1 V c 1 t) (fun r c => g r (2176 * (t.val % 2) + c)) := fun r k => by
  obtain ⟨-, ⟨i0, i1⟩, -⟩ := block_index t
  unfold iblk1
  rw [View.read_apply]
  show V c main_v4 _ = _
  rw [hv]
  show g (win1_1.index t 0 * 2048 + 1 * r.val) (win1_1.index t 1 * 2176 + 1 * k.val) = _
  rw [i0, i1]
  refine congrArg₂ g ?_ ?_ <;> omega

/-- The input projection's weight's gradient. -/
theorem final (h0 : V c main_v1 = ofFn (m := 2048) (n := 1024) (φ := .bf16) f)
    (h1 : V c main_v4 = ofFn (m := 2048) (n := 4352) (φ := .bf16) g) :
    (dat1 V c).arrAt 2 cfg1.N = ofFn (m := 1024) (n := 4352) (φ := .bf16) (gradW f g) := by
  refine (dat1 V c).arrAt_eq_of_covers 2 _ (by decide +kernel) fun t hf y => ?_
  obtain ⟨-, -, ⟨i0, i1⟩⟩ := block_index t
  obtain ⟨r, k, rfl⟩ : ∃ (r : Fin 512) (k : Fin 2176), y = ix2 r k := ⟨_, _, eq_ix2 y⟩
  have e : (dat1 V c).after 2 t = k1_pay1 (iblk1 V c 0 t) (iblk1 V c 1 t) := by
    rw [after1_2]
    unfold out1_2
    rw [View.ld_unit_zero (S := S2048x512) (by decide), View.ld_unit_zero (S := S2048x2176) (by decide)]
    exact View.canon_unit_zero (S := S512x2176) (by decide) _ _
  refine (congrFun e (ix2 r k)).trans ?_
  refine (pay (blk0 h0 t) (blk1 h1 t) r k).trans ?_
  show _ = gradW f g (win1_2.index t 0 * 512 + 1 * r.val) (win1_2.index t 1 * 2176 + 1 * k.val)
  rw [i0, i1, show t.val / 2 * 512 + 1 * r.val = 512 * (t.val / 2) + r.val by omega,
    show t.val % 2 * 2176 + 1 * k.val = 2176 * (t.val % 2) + k.val by omega]
  rfl

end Cert.GdnProjIdeal.Region1
-- ==== Proof.GdnProjRegion2.lean ====
module

public import proofs.«01_k».proof.Proof.Gen.GdnProjIdeal.Frame
public import proofs.«01_k».proof.Proof.LinReal
public import Idealize.ShloMosaic.Lib.Pipeline.ValueKit

/-! # The third call: the input projection's input's gradient -/

@[expose] public section

set_option maxRecDepth 16384

noncomputable section

namespace Cert.GdnProjIdeal.Region2

open Cert.GdnProjIdeal Cert.GdnProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid2.N,
    (win2_0.index t 0 = t.val ∧ win2_0.index t 1 = 0)
    ∧ (win2_1.index t 0 = 0 ∧ win2_1.index t 1 = 0)
    ∧ (win2_2.index t 0 = t.val ∧ win2_2.index t 1 = 0) := by
  decide +kernel

/-- What the body stores, from the blocks it loads. -/
theorem pay {x0 : FVec Ideal S512x4352 .bf16} {x1 : FVec Ideal S1024x4352 .bf16} {a b : ℕ → ℕ → EReal}
    (h0 : Is (m := 512) (n := 4352) (φ := .bf16) x0 a) (h1 : Is (m := 1024) (n := 4352) (φ := .bf16) x1 b) :
    Is (m := 512) (n := 1024) (φ := .f32) (k2_pay1 (F := Ideal) x0 x1) (gradA 4352 a b) :=
  nt _ _ (h0.same shapeCasts_S512x4352_S512x4352) (h1.same shapeCasts_S1024x4352_S1024x4352)

variable {V} {c} {f g : ℕ → ℕ → EReal}

/-- The first factor's block at a point of the grid. -/
theorem blk0 (hv : V c main_v4 = ofFn (m := 2048) (n := 4352) (φ := .bf16) f) (t : Fin cfg2.N) :
    Is (m := 512) (n := 4352) (φ := .bf16) (iblk2 V c 0 t) (fun r c => f (512 * t.val + r) c) := fun r k => by
  obtain ⟨⟨i0, i1⟩, -⟩ := block_index t
  unfold iblk2
  rw [View.read_apply]
  show V c main_v4 _ = _
  rw [hv]
  show f (win2_0.index t 0 * 512 + 1 * r.val) (win2_0.index t 1 * 4352 + 1 * k.val) = _
  rw [i0, i1]
  refine congrArg₂ f ?_ ?_ <;> omega

/-- The second factor's block at a point of the grid. -/
theorem blk1 (hv : V c main_v2 = ofFn (m := 1024) (n := 4352) (φ := .bf16) g) (t : Fin cfg2.N) :
    Is (m := 1024) (n := 4352) (φ := .bf16) (iblk2 V c 1 t) (fun k c => g (1024 * 0 + k) c) := fun r k => by
  obtain ⟨-, ⟨i0, i1⟩, -⟩ := block_index t
  unfold iblk2
  rw [View.read_apply]
  show V c main_v2 _ = _
  rw [hv]
  show g (win2_1.index t 0 * 1024 + 1 * r.val) (win2_1.index t 1 * 4352 + 1 * k.val) = _
  rw [i0, i1]
  refine congrArg₂ g ?_ ?_ <;> omega

/-- The input projection's input's gradient. -/
theorem final (h0 : V c main_v4 = ofFn (m := 2048) (n := 4352) (φ := .bf16) f)
    (h1 : V c main_v2 = ofFn (m := 1024) (n := 4352) (φ := .bf16) g) :
    (dat2 V c).arrAt 2 cfg2.N = ofFn (m := 2048) (n := 1024) (φ := .f32) (gradA 4352 f g) := by
  refine (dat2 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat2 V c).after 2 t = k2_pay1 (iblk2 V c 0 t) (iblk2 V c 1 t) := by
    rw [after2_2]
    unfold out2_2
    rw [View.ld_unit_zero (S := S512x4352) (by decide), View.ld_unit_zero (S := S1024x4352) (by decide)]
    exact View.canon_unit_zero (S := S512x1024) (by decide) _ _
  refine (congrFun e (ix2 r k)).trans ?_
  refine (pay (blk0 h0 t) (blk1 h1 t) r k).trans ?_
  show _ = gradA 4352 f g (win2_2.index t 0 * 512 + 1 * r.val) (win2_2.index t 1 * 1024 + 1 * k.val)
  rw [i0, i1, show t.val * 512 + 1 * r.val = 512 * t.val + r.val by omega,
    show 0 * 1024 + 1 * k.val = 1024 * 0 + k.val by omega]
  rfl

end Cert.GdnProjIdeal.Region2
-- ==== Proof.GdnProjRegion3.lean ====
module

public import proofs.«01_k».proof.Proof.Gen.GdnProjIdeal.Frame
public import proofs.«01_k».proof.Proof.LinReal
public import Idealize.ShloMosaic.Lib.Pipeline.ValueKit

/-! # The fourth call: the output projection's output -/

@[expose] public section

set_option maxRecDepth 16384

noncomputable section

namespace Cert.GdnProjIdeal.Region3

open Cert.GdnProjIdeal Cert.GdnProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid3.N,
    (win3_0.index t 0 = t.val ∧ win3_0.index t 1 = 0)
    ∧ (win3_1.index t 0 = 0 ∧ win3_1.index t 1 = 0)
    ∧ (win3_2.index t 0 = t.val ∧ win3_2.index t 1 = 0) := by
  decide +kernel

/-- What the body stores, from the blocks it loads. -/
theorem pay {x0 : FVec Ideal S512x1024 .bf16} {x1 : FVec Ideal S1024x1024 .bf16} {a b : ℕ → ℕ → EReal}
    (h0 : Is (m := 512) (n := 1024) (φ := .bf16) x0 a) (h1 : Is (m := 1024) (n := 1024) (φ := .bf16) x1 b) :
    Is (m := 512) (n := 1024) (φ := .f32) (k3_pay1 (F := Ideal) x0 x1) (out 1024 a b) :=
  nn _ _ (h0.same shapeCasts_S512x1024_S512x1024) (h1.same shapeCasts_S1024x1024_S1024x1024)

variable {V} {c} {f g : ℕ → ℕ → EReal}

/-- The first factor's block at a point of the grid. -/
theorem blk0 (hv : V c main_v6 = ofFn (m := 2048) (n := 1024) (φ := .bf16) f) (t : Fin cfg3.N) :
    Is (m := 512) (n := 1024) (φ := .bf16) (iblk3 V c 0 t) (fun r k => f (512 * t.val + r) k) := fun r k => by
  obtain ⟨⟨i0, i1⟩, -⟩ := block_index t
  unfold iblk3
  rw [View.read_apply]
  show V c main_v6 _ = _
  rw [hv]
  show f (win3_0.index t 0 * 512 + 1 * r.val) (win3_0.index t 1 * 1024 + 1 * k.val) = _
  rw [i0, i1]
  refine congrArg₂ f ?_ ?_ <;> omega

/-- The second factor's block at a point of the grid. -/
theorem blk1 (hv : V c main_v7 = ofFn (m := 1024) (n := 1024) (φ := .bf16) g) (t : Fin cfg3.N) :
    Is (m := 1024) (n := 1024) (φ := .bf16) (iblk3 V c 1 t) (fun k c => g k (1024 * 0 + c)) := fun r k => by
  obtain ⟨-, ⟨i0, i1⟩, -⟩ := block_index t
  unfold iblk3
  rw [View.read_apply]
  show V c main_v7 _ = _
  rw [hv]
  show g (win3_1.index t 0 * 1024 + 1 * r.val) (win3_1.index t 1 * 1024 + 1 * k.val) = _
  rw [i0, i1]
  refine congrArg₂ g ?_ ?_ <;> omega

/-- The output projection's output. -/
theorem final (h0 : V c main_v6 = ofFn (m := 2048) (n := 1024) (φ := .bf16) f)
    (h1 : V c main_v7 = ofFn (m := 1024) (n := 1024) (φ := .bf16) g) :
    (dat3 V c).arrAt 2 cfg3.N = ofFn (m := 2048) (n := 1024) (φ := .f32) (out 1024 f g) := by
  refine (dat3 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat3 V c).after 2 t = k3_pay1 (iblk3 V c 0 t) (iblk3 V c 1 t) := by
    rw [after3_2]
    unfold out3_2
    rw [View.ld_unit_zero (S := S512x1024) (by decide), View.ld_unit_zero (S := S1024x1024) (by decide)]
    exact View.canon_unit_zero (S := S512x1024) (by decide) _ _
  refine (congrFun e (ix2 r k)).trans ?_
  refine (pay (blk0 h0 t) (blk1 h1 t) r k).trans ?_
  show _ = out 1024 f g (win3_2.index t 0 * 512 + 1 * r.val) (win3_2.index t 1 * 1024 + 1 * k.val)
  rw [i0, i1, show t.val * 512 + 1 * r.val = 512 * t.val + r.val by omega,
    show 0 * 1024 + 1 * k.val = 1024 * 0 + k.val by omega]
  rfl

end Cert.GdnProjIdeal.Region3
-- ==== Proof.GdnProjRegion4.lean ====
module

public import proofs.«01_k».proof.Proof.Gen.GdnProjIdeal.Frame
public import proofs.«01_k».proof.Proof.LinReal
public import Idealize.ShloMosaic.Lib.Pipeline.ValueKit

/-! # The fifth call: the output projection's weight's gradient -/

@[expose] public section

set_option maxRecDepth 16384

noncomputable section

namespace Cert.GdnProjIdeal.Region4

open Cert.GdnProjIdeal Cert.GdnProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid4.N,
    (win4_0.index t 0 = 0 ∧ win4_0.index t 1 = t.val)
    ∧ (win4_1.index t 0 = 0 ∧ win4_1.index t 1 = 0)
    ∧ (win4_2.index t 0 = t.val ∧ win4_2.index t 1 = 0) := by
  decide +kernel

/-- What the body stores, from the blocks it loads. -/
theorem pay {x0 : FVec Ideal S2048x512 .bf16} {x1 : FVec Ideal S2048x1024 .bf16} {a b : ℕ → ℕ → EReal}
    (h0 : Is (m := 2048) (n := 512) (φ := .bf16) x0 a) (h1 : Is (m := 2048) (n := 1024) (φ := .bf16) x1 b) :
    Is (m := 512) (n := 1024) (φ := .bf16) (k4_pay1 (F := Ideal) x0 x1) (gradW a b) :=
  (tn _ _ (h0.same shapeCasts_S2048x512_S2048x512) (h1.same shapeCasts_S2048x1024_S2048x1024)).cut bitsLt_bf16_f32

variable {V} {c} {f g : ℕ → ℕ → EReal}

/-- The first factor's block at a point of the grid. -/
theorem blk0 (hv : V c main_v6 = ofFn (m := 2048) (n := 1024) (φ := .bf16) f) (t : Fin cfg4.N) :
    Is (m := 2048) (n := 512) (φ := .bf16) (iblk4 V c 0 t) (fun r k => f r (512 * t.val + k)) := fun r k => by
  obtain ⟨⟨i0, i1⟩, -⟩ := block_index t
  unfold iblk4
  rw [View.read_apply]
  show V c main_v6 _ = _
  rw [hv]
  show f (win4_0.index t 0 * 2048 + 1 * r.val) (win4_0.index t 1 * 512 + 1 * k.val) = _
  rw [i0, i1]
  refine congrArg₂ f ?_ ?_ <;> omega

/-- The second factor's block at a point of the grid. -/
theorem blk1 (hv : V c main_v9 = ofFn (m := 2048) (n := 1024) (φ := .bf16) g) (t : Fin cfg4.N) :
    Is (m := 2048) (n := 1024) (φ := .bf16) (iblk4 V c 1 t) (fun r c => g r (1024 * 0 + c)) := fun r k => by
  obtain ⟨-, ⟨i0, i1⟩, -⟩ := block_index t
  unfold iblk4
  rw [View.read_apply]
  show V c main_v9 _ = _
  rw [hv]
  show g (win4_1.index t 0 * 2048 + 1 * r.val) (win4_1.index t 1 * 1024 + 1 * k.val) = _
  rw [i0, i1]
  refine congrArg₂ g ?_ ?_ <;> omega

/-- The output projection's weight's gradient. -/
theorem final (h0 : V c main_v6 = ofFn (m := 2048) (n := 1024) (φ := .bf16) f)
    (h1 : V c main_v9 = ofFn (m := 2048) (n := 1024) (φ := .bf16) g) :
    (dat4 V c).arrAt 2 cfg4.N = ofFn (m := 1024) (n := 1024) (φ := .bf16) (gradW f g) := by
  refine (dat4 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat4 V c).after 2 t = k4_pay1 (iblk4 V c 0 t) (iblk4 V c 1 t) := by
    rw [after4_2]
    unfold out4_2
    rw [View.ld_unit_zero (S := S2048x512) (by decide), View.ld_unit_zero (S := S2048x1024) (by decide)]
    exact View.canon_unit_zero (S := S512x1024) (by decide) _ _
  refine (congrFun e (ix2 r k)).trans ?_
  refine (pay (blk0 h0 t) (blk1 h1 t) r k).trans ?_
  show _ = gradW f g (win4_2.index t 0 * 512 + 1 * r.val) (win4_2.index t 1 * 1024 + 1 * k.val)
  rw [i0, i1, show t.val * 512 + 1 * r.val = 512 * t.val + r.val by omega,
    show 0 * 1024 + 1 * k.val = 1024 * 0 + k.val by omega]
  rfl

end Cert.GdnProjIdeal.Region4
-- ==== Proof.GdnProjRegion5.lean ====
module

public import proofs.«01_k».proof.Proof.Gen.GdnProjIdeal.Frame
public import proofs.«01_k».proof.Proof.LinReal
public import Idealize.ShloMosaic.Lib.Pipeline.ValueKit

/-! # The sixth call: the output projection's input's gradient -/

@[expose] public section

set_option maxRecDepth 16384

noncomputable section

namespace Cert.GdnProjIdeal.Region5

open Cert.GdnProjIdeal Cert.GdnProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid5.N,
    (win5_0.index t 0 = t.val ∧ win5_0.index t 1 = 0)
    ∧ (win5_1.index t 0 = 0 ∧ win5_1.index t 1 = 0)
    ∧ (win5_2.index t 0 = t.val ∧ win5_2.index t 1 = 0) := by
  decide +kernel

/-- What the body stores, from the blocks it loads. -/
theorem pay {x0 : FVec Ideal S512x1024 .bf16} {x1 : FVec Ideal S1024x1024 .bf16} {a b : ℕ → ℕ → EReal}
    (h0 : Is (m := 512) (n := 1024) (φ := .bf16) x0 a) (h1 : Is (m := 1024) (n := 1024) (φ := .bf16) x1 b) :
    Is (m := 512) (n := 1024) (φ := .f32) (k5_pay1 (F := Ideal) x0 x1) (gradA 1024 a b) :=
  nt _ _ (h0.same shapeCasts_S512x1024_S512x1024) (h1.same shapeCasts_S1024x1024_S1024x1024)

variable {V} {c} {f g : ℕ → ℕ → EReal}

/-- The first factor's block at a point of the grid. -/
theorem blk0 (hv : V c main_v9 = ofFn (m := 2048) (n := 1024) (φ := .bf16) f) (t : Fin cfg5.N) :
    Is (m := 512) (n := 1024) (φ := .bf16) (iblk5 V c 0 t) (fun r c => f (512 * t.val + r) c) := fun r k => by
  obtain ⟨⟨i0, i1⟩, -⟩ := block_index t
  unfold iblk5
  rw [View.read_apply]
  show V c main_v9 _ = _
  rw [hv]
  show f (win5_0.index t 0 * 512 + 1 * r.val) (win5_0.index t 1 * 1024 + 1 * k.val) = _
  rw [i0, i1]
  refine congrArg₂ f ?_ ?_ <;> omega

/-- The second factor's block at a point of the grid. -/
theorem blk1 (hv : V c main_v7 = ofFn (m := 1024) (n := 1024) (φ := .bf16) g) (t : Fin cfg5.N) :
    Is (m := 1024) (n := 1024) (φ := .bf16) (iblk5 V c 1 t) (fun k c => g (1024 * 0 + k) c) := fun r k => by
  obtain ⟨-, ⟨i0, i1⟩, -⟩ := block_index t
  unfold iblk5
  rw [View.read_apply]
  show V c main_v7 _ = _
  rw [hv]
  show g (win5_1.index t 0 * 1024 + 1 * r.val) (win5_1.index t 1 * 1024 + 1 * k.val) = _
  rw [i0, i1]
  refine congrArg₂ g ?_ ?_ <;> omega

/-- The output projection's input's gradient. -/
theorem final (h0 : V c main_v9 = ofFn (m := 2048) (n := 1024) (φ := .bf16) f)
    (h1 : V c main_v7 = ofFn (m := 1024) (n := 1024) (φ := .bf16) g) :
    (dat5 V c).arrAt 2 cfg5.N = ofFn (m := 2048) (n := 1024) (φ := .f32) (gradA 1024 f g) := by
  refine (dat5 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat5 V c).after 2 t = k5_pay1 (iblk5 V c 0 t) (iblk5 V c 1 t) := by
    rw [after5_2]
    unfold out5_2
    rw [View.ld_unit_zero (S := S512x1024) (by decide), View.ld_unit_zero (S := S1024x1024) (by decide)]
    exact View.canon_unit_zero (S := S512x1024) (by decide) _ _
  refine (congrFun e (ix2 r k)).trans ?_
  refine (pay (blk0 h0 t) (blk1 h1 t) r k).trans ?_
  show _ = gradA 1024 f g (win5_2.index t 0 * 512 + 1 * r.val) (win5_2.index t 1 * 1024 + 1 * k.val)
  rw [i0, i1, show t.val * 512 + 1 * r.val = 512 * t.val + r.val by omega,
    show 0 * 1024 + 1 * k.val = 1024 * 0 + k.val by omega]
  rfl

end Cert.GdnProjIdeal.Region5
-- ==== Proof.GdnProjResult.lean ====
module

public import proofs.«01_k».proof.Proof.GdnProjHost
public import proofs.«01_k».proof.Proof.GdnProjRegion0
public import proofs.«01_k».proof.Proof.GdnProjRegion1
public import proofs.«01_k».proof.Proof.GdnProjRegion2
public import proofs.«01_k».proof.Proof.GdnProjRegion3
public import proofs.«01_k».proof.Proof.GdnProjRegion4
public import proofs.«01_k».proof.Proof.GdnProjRegion5

/-! # The six calls of the delta layer's projections in a row

    What each array holds after each call, from the contents the host lines leave: a call's output by its own theorem,
    every other array as the call found it. -/

@[expose] public section

set_option maxRecDepth 16384

noncomputable section

namespace Cert.GdnProjIdeal.Result

open Cert.GdnProjIdeal Cert.GdnProjIdeal.Gen
open Idealize.ShloMosaic Idealize.ShloMosaic.TcCoe
open Cert.Lin

variable (m : (ℓ : Loc nD τ sig) → Buf (Elt Ideal) ℓ) (ρ : Dev nD → PrngReg) (c : Dev nD)

/-! ## Arrays that a call does not write -/

/-- The first call does not write the array. -/
abbrev Kept0 (r : Ref sig .tc) : Prop := ∀ w : Fin cfg0.W, Pipeline.arrRef spec0 w = r → (cfg0.win w).isOut = false
/-- The second call does not write the array. -/
abbrev Kept1 (r : Ref sig .tc) : Prop := ∀ w : Fin cfg1.W, Pipeline.arrRef spec1 w = r → (cfg1.win w).isOut = false
/-- The third call does not write the array. -/
abbrev Kept2 (r : Ref sig .tc) : Prop := ∀ w : Fin cfg2.W, Pipeline.arrRef spec2 w = r → (cfg2.win w).isOut = false
/-- The fourth call does not write the array. -/
abbrev Kept3 (r : Ref sig .tc) : Prop := ∀ w : Fin cfg3.W, Pipeline.arrRef spec3 w = r → (cfg3.win w).isOut = false
/-- The fifth call does not write the array. -/
abbrev Kept4 (r : Ref sig .tc) : Prop := ∀ w : Fin cfg4.W, Pipeline.arrRef spec4 w = r → (cfg4.win w).isOut = false
/-- The sixth call does not write the array. -/
abbrev Kept5 (r : Ref sig .tc) : Prop := ∀ w : Fin cfg5.W, Pipeline.arrRef spec5 w = r → (cfg5.win w).isOut = false

variable (r : Ref sig .tc)

/-- An array that the first call does not write, after it. -/
theorem to2 (h0 : Kept0 r := by decide) : W2 m ρ c (Proc.devRef .tc r) = W1 m ρ c (Proc.devRef .tc r) :=
  W2_of m ρ c r h0
/-- An array that the first two calls do not write, after them. -/
theorem to3 (h0 : Kept0 r := by decide) (h1 : Kept1 r := by decide) : W3 m ρ c (Proc.devRef .tc r) = W1 m ρ c (Proc.devRef .tc r) :=
  (W3_of m ρ c r h1).trans (to2 m ρ c r h0)
/-- An array that the first three calls do not write, after them. -/
theorem to4 (h0 : Kept0 r := by decide) (h1 : Kept1 r := by decide) (h2 : Kept2 r := by decide) : W4 m ρ c (Proc.devRef .tc r) = W1 m ρ c (Proc.devRef .tc r) :=
  (W4_of m ρ c r h2).trans (to3 m ρ c r h0 h1)
/-- An array that the first four calls do not write, after them. -/
theorem to5 (h0 : Kept0 r := by decide) (h1 : Kept1 r := by decide) (h2 : Kept2 r := by decide) (h3 : Kept3 r := by decide) : W5 m ρ c (Proc.devRef .tc r) = W1 m ρ c (Proc.devRef .tc r) :=
  (W5_of m ρ c r h3).trans (to4 m ρ c r h0 h1 h2)
/-- An array that the first five calls do not write, after them. -/
theorem to6 (h0 : Kept0 r := by decide) (h1 : Kept1 r := by decide) (h2 : Kept2 r := by decide) (h3 : Kept3 r := by decide) (h4 : Kept4 r := by decide) : W6 m ρ c (Proc.devRef .tc r) = W1 m ρ c (Proc.devRef .tc r) :=
  (W6_of m ρ c r h4).trans (to5 m ρ c r h0 h1 h2 h3)
/-- An array that the sixth call does not write, after it. -/
theorem from6 (h5 : Kept5 r := by decide) : W7 m ρ c (Proc.devRef .tc r) = W6 m ρ c (Proc.devRef .tc r) :=
  W7_of m ρ c r h5
/-- An array that the calls after the fourth do not write, after the last. -/
theorem from5 (h4 : Kept4 r := by decide) (h5 : Kept5 r := by decide) : W7 m ρ c (Proc.devRef .tc r) = W5 m ρ c (Proc.devRef .tc r) :=
  (from6 m ρ c r h5).trans (W6_of m ρ c r h4)
/-- An array that the calls after the third do not write, after the last. -/
theorem from4 (h3 : Kept3 r := by decide) (h4 : Kept4 r := by decide) (h5 : Kept5 r := by decide) : W7 m ρ c (Proc.devRef .tc r) = W4 m ρ c (Proc.devRef .tc r) :=
  (from5 m ρ c r h4 h5).trans (W5_of m ρ c r h3)
/-- An array that the calls after the second do not write, after the last. -/
theorem from3 (h2 : Kept2 r := by decide) (h3 : Kept3 r := by decide) (h4 : Kept4 r := by decide) (h5 : Kept5 r := by decide) : W7 m ρ c (Proc.devRef .tc r) = W3 m ρ c (Proc.devRef .tc r) :=
  (from4 m ρ c r h3 h4 h5).trans (W4_of m ρ c r h2)
/-- An array that the calls after the first do not write, after the last. -/
theorem from2 (h1 : Kept1 r := by decide) (h2 : Kept2 r := by decide) (h3 : Kept3 r := by decide) (h4 : Kept4 r := by decide) (h5 : Kept5 r := by decide) : W7 m ρ c (Proc.devRef .tc r) = W2 m ρ c (Proc.devRef .tc r) :=
  (from3 m ρ c r h2 h3 h4 h5).trans (W3_of m ρ c r h1)

/-! ## The results -/

/-- After the first call: the input projection's output. -/
theorem at2_r0 : W2 m ρ c (Proc.devRef .tc main_v10) = ofFn (m := 2048) (n := 4352) (φ := .f32) (out 1024 (fn1 (x0 m c)) (fn2 (x1 m c))) :=
  (W2_arr m ρ c 2).trans (Region0.final (in0 m ρ c) (in1 m ρ c))
/-- After the second call: the input projection's weight's gradient. -/
theorem at3_r1 : W3 m ρ c (Proc.devRef .tc main_v11) = ofFn (m := 1024) (n := 4352) (φ := .bf16) (gradW (fn1 (x0 m c)) (fn1 (x2 m c))) :=
  (W3_arr m ρ c 2).trans (Region1.final ((to2 m ρ c main_v1).trans (in0 m ρ c)) ((to2 m ρ c main_v4).trans (in2 m ρ c)))
/-- After the third call: the input projection's input's gradient. -/
theorem at4_r2 : W4 m ρ c (Proc.devRef .tc main_v12) = ofFn (m := 2048) (n := 1024) (φ := .f32) (gradA 4352 (fn1 (x2 m c)) (fn2 (x1 m c))) :=
  (W4_arr m ρ c 2).trans (Region2.final ((to3 m ρ c main_v4).trans (in2 m ρ c)) ((to3 m ρ c main_v2).trans (in1 m ρ c)))
/-- After the fourth call: the output projection's output. -/
theorem at5_r3 : W5 m ρ c (Proc.devRef .tc main_v13) = ofFn (m := 2048) (n := 1024) (φ := .f32) (out 1024 (fn1 (x3 m c)) (fn2 (x4 m c))) :=
  (W5_arr m ρ c 2).trans (Region3.final ((to4 m ρ c main_v6).trans (in3 m ρ c)) ((to4 m ρ c main_v7).trans (in4 m ρ c)))
/-- After the fifth call: the output projection's weight's gradient. -/
theorem at6_r4 : W6 m ρ c (Proc.devRef .tc main_v14) = ofFn (m := 1024) (n := 1024) (φ := .bf16) (gradW (fn1 (x3 m c)) (fn1 (x5 m c))) :=
  (W6_arr m ρ c 2).trans (Region4.final ((to5 m ρ c main_v6).trans (in3 m ρ c)) ((to5 m ρ c main_v9).trans (in5 m ρ c)))
/-- After the sixth call: the output projection's input's gradient. -/
theorem at7_r5 : W7 m ρ c (Proc.devRef .tc main_v15) = ofFn (m := 2048) (n := 1024) (φ := .f32) (gradA 1024 (fn1 (x5 m c)) (fn2 (x4 m c))) :=
  (W7_arr m ρ c 2).trans (Region5.final ((to6 m ρ c main_v9).trans (in5 m ρ c)) ((to6 m ρ c main_v7).trans (in4 m ρ c)))
/-- After the last call: the input projection's output. -/
theorem at7_r0 : W7 m ρ c (Proc.devRef .tc main_v10) = ofFn (m := 2048) (n := 4352) (φ := .f32) (out 1024 (fn1 (x0 m c)) (fn2 (x1 m c))) :=
  (from2 m ρ c main_v10).trans (at2_r0 m ρ c)
/-- After the last call: the input projection's weight's gradient. -/
theorem at7_r1 : W7 m ρ c (Proc.devRef .tc main_v11) = ofFn (m := 1024) (n := 4352) (φ := .bf16) (gradW (fn1 (x0 m c)) (fn1 (x2 m c))) :=
  (from3 m ρ c main_v11).trans (at3_r1 m ρ c)
/-- After the last call: the input projection's input's gradient. -/
theorem at7_r2 : W7 m ρ c (Proc.devRef .tc main_v12) = ofFn (m := 2048) (n := 1024) (φ := .f32) (gradA 4352 (fn1 (x2 m c)) (fn2 (x1 m c))) :=
  (from4 m ρ c main_v12).trans (at4_r2 m ρ c)
/-- After the last call: the output projection's output. -/
theorem at7_r3 : W7 m ρ c (Proc.devRef .tc main_v13) = ofFn (m := 2048) (n := 1024) (φ := .f32) (out 1024 (fn1 (x3 m c)) (fn2 (x4 m c))) :=
  (from5 m ρ c main_v13).trans (at5_r3 m ρ c)
/-- After the last call: the output projection's weight's gradient. -/
theorem at7_r4 : W7 m ρ c (Proc.devRef .tc main_v14) = ofFn (m := 1024) (n := 1024) (φ := .bf16) (gradW (fn1 (x3 m c)) (fn1 (x5 m c))) :=
  (from6 m ρ c main_v14).trans (at6_r4 m ρ c)

end Cert.GdnProjIdeal.Result
-- ==== Proof.GdnProjReference.lean ====
module

public import proofs.«01_k».proof.Proof.LinReal
public import proofs.«01_k».proof.Proof.Gen.GdnProjReferenceIdeal.Read

/-! # The reference of the delta layer's projections

    The two layers' plain formulation and its differentiation, as sums of products. -/

@[expose] public section

set_option maxRecDepth 16384

noncomputable section

namespace Cert.GdnProjReferenceIdeal.Stages

open Cert.GdnProjReferenceIdeal Cert.GdnProjReferenceIdeal.Gen Cert.GdnProjReferenceIdeal.Read
open Idealize.ShloMosaic Idealize.ShloMosaic.ValueIdx
open Cert.Lin

variable {x0 : FVec Ideal S1x2048x1024 .f32} {x1 : FVec Ideal S1024x4352 .f32} {x2 : FVec Ideal S1x2048x4352 .f32}
  {x3 : FVec Ideal S1x2048x1024 .f32} {x4 : FVec Ideal S1024x1024 .f32} {x5 : FVec Ideal S1x2048x1024 .f32}

/-- The input projection's output. -/
theorem res0 : val_main_v4 (F := Ideal) x0 x1 = ofFn (m := 2048) (n := 4352) (φ := .f32) (out 1024 (fn1 x0) (fn2 x1)) := by
  have h : Is (m := 2048) (n := 4352) (φ := .f32) (val_main_v4 (F := Ideal) x0 x1) (out 1024 (fn1 x0) (fn2 x1)) := by
    unfold val_main_v4 val_main_v0
    exact (times _ (is_fn1 x0) (is_fn2 x1)).drop shapeCasts_S1x2048x4352_S2048x4352
  exact h.eq

/-- The input projection's weight's gradient. -/
theorem res1 : val_main_v5 (F := Ideal) x0 x2 = ofFn (m := 1024) (n := 4352) (φ := .bf16) (gradW (fn1 x0) (fn1 x2)) := by
  have h : Is (m := 1024) (n := 4352) (φ := .bf16) (val_main_v5 (F := Ideal) x0 x2) (gradW (fn1 x0) (fn1 x2)) := by
    unfold val_main_v5 val_main_v2 val_main_v1
    exact Is.cut bitsLt_bf16_f32 (Is.exchanged transposes_S4352x1024_S1024x4352_1_0 (over_rows _ (is_fn1 x2) (is_fn1 x0)))
  exact h.eq

/-- The input projection's input's gradient. -/
theorem res2 : val_main_v6 (F := Ideal) x1 x2 = ofFn (m := 2048) (n := 1024) (φ := .f32) (gradA 4352 (fn1 x2) (fn2 x1)) := by
  have h : Is (m := 2048) (n := 1024) (φ := .f32) (val_main_v6 (F := Ideal) x1 x2) (gradA 4352 (fn1 x2) (fn2 x1)) := by
    unfold val_main_v6 val_main_v3
    exact (timesT _ (is_fn1 x2) (is_fn2 x1)).drop shapeCasts_S1x2048x1024_S2048x1024
  exact h.eq

/-- The output projection's output. -/
theorem res3 : val_main_v11 (F := Ideal) x3 x4 = ofFn (m := 2048) (n := 1024) (φ := .f32) (out 1024 (fn1 x3) (fn2 x4)) := by
  have h : Is (m := 2048) (n := 1024) (φ := .f32) (val_main_v11 (F := Ideal) x3 x4) (out 1024 (fn1 x3) (fn2 x4)) := by
    unfold val_main_v11 val_main_v7
    exact (times _ (is_fn1 x3) (is_fn2 x4)).drop shapeCasts_S1x2048x1024_S2048x1024
  exact h.eq

/-- The output projection's weight's gradient. -/
theorem res4 : val_main_v12 (F := Ideal) x3 x5 = ofFn (m := 1024) (n := 1024) (φ := .bf16) (gradW (fn1 x3) (fn1 x5)) := by
  have h : Is (m := 1024) (n := 1024) (φ := .bf16) (val_main_v12 (F := Ideal) x3 x5) (gradW (fn1 x3) (fn1 x5)) := by
    unfold val_main_v12 val_main_v9 val_main_v8
    exact Is.cut bitsLt_bf16_f32 (Is.exchanged transposes_S1024x1024_S1024x1024_1_0 (over_rows _ (is_fn1 x5) (is_fn1 x3)))
  exact h.eq

/-- The output projection's input's gradient. -/
theorem res5 : val_main_v13 (F := Ideal) x4 x5 = ofFn (m := 2048) (n := 1024) (φ := .f32) (gradA 1024 (fn1 x5) (fn2 x4)) := by
  have h : Is (m := 2048) (n := 1024) (φ := .f32) (val_main_v13 (F := Ideal) x4 x5) (gradA 1024 (fn1 x5) (fn2 x4)) := by
    unfold val_main_v13 val_main_v10
    exact (timesT _ (is_fn1 x5) (is_fn2 x4)).drop shapeCasts_S1x2048x1024_S2048x1024
  exact h.eq

end Cert.GdnProjReferenceIdeal.Stages
-- ==== Proof.MlaProjRun.lean ====
module

public import proofs.«01_k».proof.Proof.Gen.MlaProjIdeal.Frame

/-! # The six calls of the attention layer's projections run

    What the six result arrays hold when the program ends: their contents at the last boundary. -/

@[expose] public section

set_option maxRecDepth 16384

noncomputable section

namespace Cert.MlaProjIdeal.Run

open Cert.MlaProjIdeal Cert.MlaProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with its six result arrays at the last boundary's contents. -/
theorem results : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v12) = W7 m ρ c (Proc.devRef .tc main_v12)
      ∧ r.2.mem ((c.tc : Thread nD τ).loc main_v13) = W7 m ρ c (Proc.devRef .tc main_v13)
      ∧ r.2.mem ((c.tc : Thread nD τ).loc main_v14) = W7 m ρ c (Proc.devRef .tc main_v14)
      ∧ r.2.mem ((c.tc : Thread nD τ).loc main_v15) = W7 m ρ c (Proc.devRef .tc main_v15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v10 (by decide)),
       h c _ (mem_uc main_v11 (by decide)),
       h c _ (mem_uc main_v12 (by decide)),
       h c _ (mem_uc main_v13 (by decide)),
       h c _ (mem_uc main_v14 (by decide)),
       h c _ (mem_uc main_v15 (by decide))⟩)

end Cert.MlaProjIdeal.Run
-- ==== Proof.MlaProjHost.lean ====
module

public import proofs.«01_k».proof.Proof.Gen.MlaProjIdeal.Frame
public import proofs.«01_k».proof.Proof.LinReal
public import Idealize.ShloMosaic.Lib.StableHlo.RunRead

/-! # What the host hands the six calls of the attention layer's projections

    The lines before the first call: each array by rows and columns. -/

@[expose] public section

set_option maxRecDepth 16384

noncomputable section

namespace Cert.MlaProjIdeal.Result

open Cert.MlaProjIdeal Cert.MlaProjIdeal.Gen
open Idealize.ShloMosaic Idealize.ShloMosaic.TcCoe Idealize.ShloMosaic.StableHlo
open Cert.Lin

variable (m : (ℓ : Loc nD τ sig) → Buf (Elt Ideal) ℓ) (ρ : Dev nD → PrngReg) (c : Dev nD)

/-- The input projection's input. -/
def x0 : FVec Ideal S1x2048x1024 .f32 := m ((c : Thread nD τ).loc main_arg0)
/-- The input projection's weight. -/
def x1 : FVec Ideal S1024x768 .f32 := m ((c : Thread nD τ).loc main_arg1)
/-- The input projection's incoming gradient. -/
def x2 : FVec Ideal S1x2048x768 .f32 := m ((c : Thread nD τ).loc main_arg2)
/-- The output projection's input. -/
def x3 : FVec Ideal S1x2048x1024 .f32 := m ((c : Thread nD τ).loc main_arg3)
/-- The output projection's weight. -/
def x4 : FVec Ideal S1024x1024 .f32 := m ((c : Thread nD τ).loc main_arg4)
/-- The output projection's incoming gradient. -/
def x5 : FVec Ideal S1x2048x1024 .f32 := m ((c : Thread nD τ).loc main_arg5)

/-- The input projection's input as the first call finds it. -/
theorem read0 : V1 m ρ c main_v1 = truncf .bf16 (shapeCast S2048x1024 (x0 m c) shapeCasts_S1x2048x1024_S2048x1024) bitsLt_bf16_f32 := by
  unfold V1 W1
  after_reads_simp
  rfl
/-- The input projection's weight as the first call finds it. -/
theorem read1 : V1 m ρ c main_v2 = truncf .bf16 (x1 m c) bitsLt_bf16_f32 := by
  unfold V1 W1
  after_reads_simp
  rfl
/-- The input projection's incoming gradient as the first call finds it. -/
theorem read2 : V1 m ρ c main_v4 = truncf .bf16 (shapeCast S2048x768 (x2 m c) shapeCasts_S1x2048x768_S2048x768) bitsLt_bf16_f32 := by
  unfold V1 W1
  after_reads_simp
  rfl
/-- The output projection's input as the first call finds it. -/
theorem read3 : V1 m ρ c main_v6 = truncf .bf16 (shapeCast S2048x1024 (x3 m c) shapeCasts_S1x2048x1024_S2048x1024) bitsLt_bf16_f32 := by
  unfold V1 W1
  after_reads_simp
  rfl
/-- The output projection's weight as the first call finds it. -/
theorem read4 : V1 m ρ c main_v7 = truncf .bf16 (x4 m c) bitsLt_bf16_f32 := by
  unfold V1 W1
  after_reads_simp
  rfl
/-- The output projection's incoming gradient as the first call finds it. -/
theorem read5 : V1 m ρ c main_v9 = truncf .bf16 (shapeCast S2048x1024 (x5 m c) shapeCasts_S1x2048x1024_S2048x1024) bitsLt_bf16_f32 := by
  unfold V1 W1
  after_reads_simp
  rfl

/-- The input projection's input by rows and columns. -/
theorem in0 : V1 m ρ c main_v1 = ofFn (m := 2048) (n := 1024) (φ := .bf16) (fn1 (x0 m c)) :=
  (read0 m ρ c).trans (Is.cut bitsLt_bf16_f32 ((is_fn1 (x0 m c)).drop shapeCasts_S1x2048x1024_S2048x1024)).eq
/-- The input projection's weight by rows and columns. -/
theorem in1 : V1 m ρ c main_v2 = ofFn (m := 1024) (n := 768) (φ := .bf16) (fn2 (x1 m c)) :=
  (read1 m ρ c).trans (Is.cut bitsLt_bf16_f32 (is_fn2 (x1 m c))).eq
/-- The input projection's incoming gradient by rows and columns. -/
theorem in2 : V1 m ρ c main_v4 = ofFn (m := 2048) (n := 768) (φ := .bf16) (fn1 (x2 m c)) :=
  (read2 m ρ c).trans (Is.cut bitsLt_bf16_f32 ((is_fn1 (x2 m c)).drop shapeCasts_S1x2048x768_S2048x768)).eq
/-- The output projection's input by rows and columns. -/
theorem in3 : V1 m ρ c main_v6 = ofFn (m := 2048) (n := 1024) (φ := .bf16) (fn1 (x3 m c)) :=
  (read3 m ρ c).trans (Is.cut bitsLt_bf16_f32 ((is_fn1 (x3 m c)).drop shapeCasts_S1x2048x1024_S2048x1024)).eq
/-- The output projection's weight by rows and columns. -/
theorem in4 : V1 m ρ c main_v7 = ofFn (m := 1024) (n := 1024) (φ := .bf16) (fn2 (x4 m c)) :=
  (read4 m ρ c).trans (Is.cut bitsLt_bf16_f32 (is_fn2 (x4 m c))).eq
/-- The output projection's incoming gradient by rows and columns. -/
theorem in5 : V1 m ρ c main_v9 = ofFn (m := 2048) (n := 1024) (φ := .bf16) (fn1 (x5 m c)) :=
  (read5 m ρ c).trans (Is.cut bitsLt_bf16_f32 ((is_fn1 (x5 m c)).drop shapeCasts_S1x2048x1024_S2048x1024)).eq

end Cert.MlaProjIdeal.Result
-- ==== Proof.MlaProjRegion0.lean ====
module

public import proofs.«01_k».proof.Proof.Gen.MlaProjIdeal.Frame
public import proofs.«01_k».proof.Proof.LinReal
public import Idealize.ShloMosaic.Lib.Pipeline.ValueKit

/-! # The first call: the input projection's output -/

@[expose] public section

set_option maxRecDepth 16384

noncomputable section

namespace Cert.MlaProjIdeal.Region0

open Cert.MlaProjIdeal Cert.MlaProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by
  decide +kernel

/-- What the body stores, from the blocks it loads. -/
theorem pay {x0 : FVec Ideal S512x1024 .bf16} {x1 : FVec Ideal S1024x768 .bf16} {a b : ℕ → ℕ → EReal}
    (h0 : Is (m := 512) (n := 1024) (φ := .bf16) x0 a) (h1 : Is (m := 1024) (n := 768) (φ := .bf16) x1 b) :
    Is (m := 512) (n := 768) (φ := .f32) (k0_pay1 (F := Ideal) x0 x1) (out 1024 a b) :=
  nn _ _ (h0.same shapeCasts_S512x1024_S512x1024) (h1.same shapeCasts_S1024x768_S1024x768)

variable {V} {c} {f g : ℕ → ℕ → EReal}

/-- The first factor's block at a point of the grid. -/
theorem blk0 (hv : V c main_v1 = ofFn (m := 2048) (n := 1024) (φ := .bf16) f) (t : Fin cfg0.N) :
    Is (m := 512) (n := 1024) (φ := .bf16) (iblk0 V c 0 t) (fun r k => f (512 * t.val + r) k) := fun r k => by
  obtain ⟨⟨i0, i1⟩, -⟩ := block_index t
  unfold iblk0
  rw [View.read_apply]
  show V c main_v1 _ = _
  rw [hv]
  show f (win0_0.index t 0 * 512 + 1 * r.val) (win0_0.index t 1 * 1024 + 1 * k.val) = _
  rw [i0, i1]
  refine congrArg₂ f ?_ ?_ <;> omega

/-- The second factor's block at a point of the grid. -/
theorem blk1 (hv : V c main_v2 = ofFn (m := 1024) (n := 768) (φ := .bf16) g) (t : Fin cfg0.N) :
    Is (m := 1024) (n := 768) (φ := .bf16) (iblk0 V c 1 t) (fun k c => g k (768 * 0 + c)) := fun r k => by
  obtain ⟨-, ⟨i0, i1⟩, -⟩ := block_index t
  unfold iblk0
  rw [View.read_apply]
  show V c main_v2 _ = _
  rw [hv]
  show g (win0_1.index t 0 * 1024 + 1 * r.val) (win0_1.index t 1 * 768 + 1 * k.val) = _
  rw [i0, i1]
  refine congrArg₂ g ?_ ?_ <;> omega

/-- The input projection's output. -/
theorem final (h0 : V c main_v1 = ofFn (m := 2048) (n := 1024) (φ := .bf16) f)
    (h1 : V c main_v2 = ofFn (m := 1024) (n := 768) (φ := .bf16) g) :
    (dat0 V c).arrAt 2 cfg0.N = ofFn (m := 2048) (n := 768) (φ := .f32) (out 1024 f g) := by
  refine (dat0 V c).arrAt_eq_of_covers 2 _ (by decide +kernel) fun t hf y => ?_
  obtain ⟨-, -, ⟨i0, i1⟩⟩ := block_index t
  obtain ⟨r, k, rfl⟩ : ∃ (r : Fin 512) (k : Fin 768), y = ix2 r k := ⟨_, _, eq_ix2 y⟩
  have e : (dat0 V c).after 2 t = k0_pay1 (iblk0 V c 0 t) (iblk0 V c 1 t) := by
    rw [after0_2]
    unfold out0_2
    rw [View.ld_unit_zero (S := S512x1024) (by decide), View.ld_unit_zero (S := S1024x768) (by decide)]
    exact View.canon_unit_zero (S := S512x768) (by decide) _ _
  refine (congrFun e (ix2 r k)).trans ?_
  refine (pay (blk0 h0 t) (blk1 h1 t) r k).trans ?_
  show _ = out 1024 f g (win0_2.index t 0 * 512 + 1 * r.val) (win0_2.index t 1 * 768 + 1 * k.val)
  rw [i0, i1, show t.val * 512 + 1 * r.val = 512 * t.val + r.val by omega,
    show 0 * 768 + 1 * k.val = 768 * 0 + k.val by omega]
  rfl

end Cert.MlaProjIdeal.Region0
-- ==== Proof.MlaProjRegion1.lean ====
module

public import proofs.«01_k».proof.Proof.Gen.MlaProjIdeal.Frame
public import proofs.«01_k».proof.Proof.LinReal
public import Idealize.ShloMosaic.Lib.Pipeline.ValueKit

/-! # The second call: the input projection's weight's gradient -/

@[expose] public section

set_option maxRecDepth 16384

noncomputable section

namespace Cert.MlaProjIdeal.Region1

open Cert.MlaProjIdeal Cert.MlaProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid1.N,
    (win1_0.index t 0 = 0 ∧ win1_0.index t 1 = t.val)
    ∧ (win1_1.index t 0 = 0 ∧ win1_1.index t 1 = 0)
    ∧ (win1_2.index t 0 = t.val ∧ win1_2.index t 1 = 0) := by
  decide +kernel

/-- What the body stores, from the blocks it loads. -/
theorem pay {x0 : FVec Ideal S2048x512 .bf16} {x1 : FVec Ideal S2048x768 .bf16} {a b : ℕ → ℕ → EReal}
    (h0 : Is (m := 2048) (n := 512) (φ := .bf16) x0 a) (h1 : Is (m := 2048) (n := 768) (φ := .bf16) x1 b) :
    Is (m := 512) (n := 768) (φ := .bf16) (k1_pay1 (F := Ideal) x0 x1) (gradW a b) :=
  (tn _ _ (h0.same shapeCasts_S2048x512_S2048x512) (h1.same shapeCasts_S2048x768_S2048x768)).cut bitsLt_bf16_f32

variable {V} {c} {f g : ℕ → ℕ → EReal}

/-- The first factor's block at a point of the grid. -/
theorem blk0 (hv : V c main_v1 = ofFn (m := 2048) (n := 1024) (φ := .bf16) f) (t : Fin cfg1.N) :
    Is (m := 2048) (n := 512) (φ := .bf16) (iblk1 V c 0 t) (fun r k => f r (512 * t.val + k)) := fun r k => by
  obtain ⟨⟨i0, i1⟩, -⟩ := block_index t
  unfold iblk1
  rw [View.read_apply]
  show V c main_v1 _ = _
  rw [hv]
  show f (win1_0.index t 0 * 2048 + 1 * r.val) (win1_0.index t 1 * 512 + 1 * k.val) = _
  rw [i0, i1]
  refine congrArg₂ f ?_ ?_ <;> omega

/-- The second factor's block at a point of the grid. -/
theorem blk1 (hv : V c main_v4 = ofFn (m := 2048) (n := 768) (φ := .bf16) g) (t : Fin cfg1.N) :
    Is (m := 2048) (n := 768) (φ := .bf16) (iblk1 V c 1 t) (fun r c => g r (768 * 0 + c)) := fun r k => by
  obtain ⟨-, ⟨i0, i1⟩, -⟩ := block_index t
  unfold iblk1
  rw [View.read_apply]
  show V c main_v4 _ = _
  rw [hv]
  show g (win1_1.index t 0 * 2048 + 1 * r.val) (win1_1.index t 1 * 768 + 1 * k.val) = _
  rw [i0, i1]
  refine congrArg₂ g ?_ ?_ <;> omega

/-- The input projection's weight's gradient. -/
theorem final (h0 : V c main_v1 = ofFn (m := 2048) (n := 1024) (φ := .bf16) f)
    (h1 : V c main_v4 = ofFn (m := 2048) (n := 768) (φ := .bf16) g) :
    (dat1 V c).arrAt 2 cfg1.N = ofFn (m := 1024) (n := 768) (φ := .bf16) (gradW f g) := by
  refine (dat1 V c).arrAt_eq_of_covers 2 _ (by decide +kernel) fun t hf y => ?_
  obtain ⟨-, -, ⟨i0, i1⟩⟩ := block_index t
  obtain ⟨r, k, rfl⟩ : ∃ (r : Fin 512) (k : Fin 768), y = ix2 r k := ⟨_, _, eq_ix2 y⟩
  have e : (dat1 V c).after 2 t = k1_pay1 (iblk1 V c 0 t) (iblk1 V c 1 t) := by
    rw [after1_2]
    unfold out1_2
    rw [View.ld_unit_zero (S := S2048x512) (by decide), View.ld_unit_zero (S := S2048x768) (by decide)]
    exact View.canon_unit_zero (S := S512x768) (by decide) _ _
  refine (congrFun e (ix2 r k)).trans ?_
  refine (pay (blk0 h0 t) (blk1 h1 t) r k).trans ?_
  show _ = gradW f g (win1_2.index t 0 * 512 + 1 * r.val) (win1_2.index t 1 * 768 + 1 * k.val)
  rw [i0, i1, show t.val * 512 + 1 * r.val = 512 * t.val + r.val by omega,
    show 0 * 768 + 1 * k.val = 768 * 0 + k.val by omega]
  rfl

end Cert.MlaProjIdeal.Region1
-- ==== Proof.MlaProjRegion2.lean ====
module

public import proofs.«01_k».proof.Proof.Gen.MlaProjIdeal.Frame
public import proofs.«01_k».proof.Proof.LinReal
public import Idealize.ShloMosaic.Lib.Pipeline.ValueKit

/-! # The third call: the input projection's input's gradient -/

@[expose] public section

set_option maxRecDepth 16384

noncomputable section

namespace Cert.MlaProjIdeal.Region2

open Cert.MlaProjIdeal Cert.MlaProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid2.N,
    (win2_0.index t 0 = t.val ∧ win2_0.index t 1 = 0)
    ∧ (win2_1.index t 0 = 0 ∧ win2_1.index t 1 = 0)
    ∧ (win2_2.index t 0 = t.val ∧ win2_2.index t 1 = 0) := by
  decide +kernel

/-- What the body stores, from the blocks it loads. -/
theorem pay {x0 : FVec Ideal S512x768 .bf16} {x1 : FVec Ideal S1024x768 .bf16} {a b : ℕ → ℕ → EReal}
    (h0 : Is (m := 512) (n := 768) (φ := .bf16) x0 a) (h1 : Is (m := 1024) (n := 768) (φ := .bf16) x1 b) :
    Is (m := 512) (n := 1024) (φ := .f32) (k2_pay1 (F := Ideal) x0 x1) (gradA 768 a b) :=
  nt _ _ (h0.same shapeCasts_S512x768_S512x768) (h1.same shapeCasts_S1024x768_S1024x768)

variable {V} {c} {f g : ℕ → ℕ → EReal}

/-- The first factor's block at a point of the grid. -/
theorem blk0 (hv : V c main_v4 = ofFn (m := 2048) (n := 768) (φ := .bf16) f) (t : Fin cfg2.N) :
    Is (m := 512) (n := 768) (φ := .bf16) (iblk2 V c 0 t) (fun r c => f (512 * t.val + r) c) := fun r k => by
  obtain ⟨⟨i0, i1⟩, -⟩ := block_index t
  unfold iblk2
  rw [View.read_apply]
  show V c main_v4 _ = _
  rw [hv]
  show f (win2_0.index t 0 * 512 + 1 * r.val) (win2_0.index t 1 * 768 + 1 * k.val) = _
  rw [i0, i1]
  refine congrArg₂ f ?_ ?_ <;> omega

/-- The second factor's block at a point of the grid. -/
theorem blk1 (hv : V c main_v2 = ofFn (m := 1024) (n := 768) (φ := .bf16) g) (t : Fin cfg2.N) :
    Is (m := 1024) (n := 768) (φ := .bf16) (iblk2 V c 1 t) (fun k c => g (1024 * 0 + k) c) := fun r k => by
  obtain ⟨-, ⟨i0, i1⟩, -⟩ := block_index t
  unfold iblk2
  rw [View.read_apply]
  show V c main_v2 _ = _
  rw [hv]
  show g (win2_1.index t 0 * 1024 + 1 * r.val) (win2_1.index t 1 * 768 + 1 * k.val) = _
  rw [i0, i1]
  refine congrArg₂ g ?_ ?_ <;> omega

/-- The input projection's input's gradient. -/
theorem final (h0 : V c main_v4 = ofFn (m := 2048) (n := 768) (φ := .bf16) f)
    (h1 : V c main_v2 = ofFn (m := 1024) (n := 768) (φ := .bf16) g) :
    (dat2 V c).arrAt 2 cfg2.N = ofFn (m := 2048) (n := 1024) (φ := .f32) (gradA 768 f g) := by
  refine (dat2 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat2 V c).after 2 t = k2_pay1 (iblk2 V c 0 t) (iblk2 V c 1 t) := by
    rw [after2_2]
    unfold out2_2
    rw [View.ld_unit_zero (S := S512x768) (by decide), View.ld_unit_zero (S := S1024x768) (by decide)]
    exact View.canon_unit_zero (S := S512x1024) (by decide) _ _
  refine (congrFun e (ix2 r k)).trans ?_
  refine (pay (blk0 h0 t) (blk1 h1 t) r k).trans ?_
  show _ = gradA 768 f g (win2_2.index t 0 * 512 + 1 * r.val) (win2_2.index t 1 * 1024 + 1 * k.val)
  rw [i0, i1, show t.val * 512 + 1 * r.val = 512 * t.val + r.val by omega,
    show 0 * 1024 + 1 * k.val = 1024 * 0 + k.val by omega]
  rfl

end Cert.MlaProjIdeal.Region2
-- ==== Proof.MlaProjRegion3.lean ====
module

public import proofs.«01_k».proof.Proof.Gen.MlaProjIdeal.Frame
public import proofs.«01_k».proof.Proof.LinReal
public import Idealize.ShloMosaic.Lib.Pipeline.ValueKit

/-! # The fourth call: the output projection's output -/

@[expose] public section

set_option maxRecDepth 16384

noncomputable section

namespace Cert.MlaProjIdeal.Region3

open Cert.MlaProjIdeal Cert.MlaProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid3.N,
    (win3_0.index t 0 = t.val ∧ win3_0.index t 1 = 0)
    ∧ (win3_1.index t 0 = 0 ∧ win3_1.index t 1 = 0)
    ∧ (win3_2.index t 0 = t.val ∧ win3_2.index t 1 = 0) := by
  decide +kernel

/-- What the body stores, from the blocks it loads. -/
theorem pay {x0 : FVec Ideal S512x1024 .bf16} {x1 : FVec Ideal S1024x1024 .bf16} {a b : ℕ → ℕ → EReal}
    (h0 : Is (m := 512) (n := 1024) (φ := .bf16) x0 a) (h1 : Is (m := 1024) (n := 1024) (φ := .bf16) x1 b) :
    Is (m := 512) (n := 1024) (φ := .f32) (k3_pay1 (F := Ideal) x0 x1) (out 1024 a b) :=
  nn _ _ (h0.same shapeCasts_S512x1024_S512x1024) (h1.same shapeCasts_S1024x1024_S1024x1024)

variable {V} {c} {f g : ℕ → ℕ → EReal}

/-- The first factor's block at a point of the grid. -/
theorem blk0 (hv : V c main_v6 = ofFn (m := 2048) (n := 1024) (φ := .bf16) f) (t : Fin cfg3.N) :
    Is (m := 512) (n := 1024) (φ := .bf16) (iblk3 V c 0 t) (fun r k => f (512 * t.val + r) k) := fun r k => by
  obtain ⟨⟨i0, i1⟩, -⟩ := block_index t
  unfold iblk3
  rw [View.read_apply]
  show V c main_v6 _ = _
  rw [hv]
  show f (win3_0.index t 0 * 512 + 1 * r.val) (win3_0.index t 1 * 1024 + 1 * k.val) = _
  rw [i0, i1]
  refine congrArg₂ f ?_ ?_ <;> omega

/-- The second factor's block at a point of the grid. -/
theorem blk1 (hv : V c main_v7 = ofFn (m := 1024) (n := 1024) (φ := .bf16) g) (t : Fin cfg3.N) :
    Is (m := 1024) (n := 1024) (φ := .bf16) (iblk3 V c 1 t) (fun k c => g k (1024 * 0 + c)) := fun r k => by
  obtain ⟨-, ⟨i0, i1⟩, -⟩ := block_index t
  unfold iblk3
  rw [View.read_apply]
  show V c main_v7 _ = _
  rw [hv]
  show g (win3_1.index t 0 * 1024 + 1 * r.val) (win3_1.index t 1 * 1024 + 1 * k.val) = _
  rw [i0, i1]
  refine congrArg₂ g ?_ ?_ <;> omega

/-- The output projection's output. -/
theorem final (h0 : V c main_v6 = ofFn (m := 2048) (n := 1024) (φ := .bf16) f)
    (h1 : V c main_v7 = ofFn (m := 1024) (n := 1024) (φ := .bf16) g) :
    (dat3 V c).arrAt 2 cfg3.N = ofFn (m := 2048) (n := 1024) (φ := .f32) (out 1024 f g) := by
  refine (dat3 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat3 V c).after 2 t = k3_pay1 (iblk3 V c 0 t) (iblk3 V c 1 t) := by
    rw [after3_2]
    unfold out3_2
    rw [View.ld_unit_zero (S := S512x1024) (by decide), View.ld_unit_zero (S := S1024x1024) (by decide)]
    exact View.canon_unit_zero (S := S512x1024) (by decide) _ _
  refine (congrFun e (ix2 r k)).trans ?_
  refine (pay (blk0 h0 t) (blk1 h1 t) r k).trans ?_
  show _ = out 1024 f g (win3_2.index t 0 * 512 + 1 * r.val) (win3_2.index t 1 * 1024 + 1 * k.val)
  rw [i0, i1, show t.val * 512 + 1 * r.val = 512 * t.val + r.val by omega,
    show 0 * 1024 + 1 * k.val = 1024 * 0 + k.val by omega]
  rfl

end Cert.MlaProjIdeal.Region3
-- ==== Proof.MlaProjRegion4.lean ====
module

public import proofs.«01_k».proof.Proof.Gen.MlaProjIdeal.Frame
public import proofs.«01_k».proof.Proof.LinReal
public import Idealize.ShloMosaic.Lib.Pipeline.ValueKit

/-! # The fifth call: the output projection's weight's gradient -/

@[expose] public section

set_option maxRecDepth 16384

noncomputable section

namespace Cert.MlaProjIdeal.Region4

open Cert.MlaProjIdeal Cert.MlaProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid4.N,
    (win4_0.index t 0 = 0 ∧ win4_0.index t 1 = t.val)
    ∧ (win4_1.index t 0 = 0 ∧ win4_1.index t 1 = 0)
    ∧ (win4_2.index t 0 = t.val ∧ win4_2.index t 1 = 0) := by
  decide +kernel

/-- What the body stores, from the blocks it loads. -/
theorem pay {x0 : FVec Ideal S2048x512 .bf16} {x1 : FVec Ideal S2048x1024 .bf16} {a b : ℕ → ℕ → EReal}
    (h0 : Is (m := 2048) (n := 512) (φ := .bf16) x0 a) (h1 : Is (m := 2048) (n := 1024) (φ := .bf16) x1 b) :
    Is (m := 512) (n := 1024) (φ := .bf16) (k4_pay1 (F := Ideal) x0 x1) (gradW a b) :=
  (tn _ _ (h0.same shapeCasts_S2048x512_S2048x512) (h1.same shapeCasts_S2048x1024_S2048x1024)).cut bitsLt_bf16_f32

variable {V} {c} {f g : ℕ → ℕ → EReal}

/-- The first factor's block at a point of the grid. -/
theorem blk0 (hv : V c main_v6 = ofFn (m := 2048) (n := 1024) (φ := .bf16) f) (t : Fin cfg4.N) :
    Is (m := 2048) (n := 512) (φ := .bf16) (iblk4 V c 0 t) (fun r k => f r (512 * t.val + k)) := fun r k => by
  obtain ⟨⟨i0, i1⟩, -⟩ := block_index t
  unfold iblk4
  rw [View.read_apply]
  show V c main_v6 _ = _
  rw [hv]
  show f (win4_0.index t 0 * 2048 + 1 * r.val) (win4_0.index t 1 * 512 + 1 * k.val) = _
  rw [i0, i1]
  refine congrArg₂ f ?_ ?_ <;> omega

/-- The second factor's block at a point of the grid. -/
theorem blk1 (hv : V c main_v9 = ofFn (m := 2048) (n := 1024) (φ := .bf16) g) (t : Fin cfg4.N) :
    Is (m := 2048) (n := 1024) (φ := .bf16) (iblk4 V c 1 t) (fun r c => g r (1024 * 0 + c)) := fun r k => by
  obtain ⟨-, ⟨i0, i1⟩, -⟩ := block_index t
  unfold iblk4
  rw [View.read_apply]
  show V c main_v9 _ = _
  rw [hv]
  show g (win4_1.index t 0 * 2048 + 1 * r.val) (win4_1.index t 1 * 1024 + 1 * k.val) = _
  rw [i0, i1]
  refine congrArg₂ g ?_ ?_ <;> omega

/-- The output projection's weight's gradient. -/
theorem final (h0 : V c main_v6 = ofFn (m := 2048) (n := 1024) (φ := .bf16) f)
    (h1 : V c main_v9 = ofFn (m := 2048) (n := 1024) (φ := .bf16) g) :
    (dat4 V c).arrAt 2 cfg4.N = ofFn (m := 1024) (n := 1024) (φ := .bf16) (gradW f g) := by
  refine (dat4 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat4 V c).after 2 t = k4_pay1 (iblk4 V c 0 t) (iblk4 V c 1 t) := by
    rw [after4_2]
    unfold out4_2
    rw [View.ld_unit_zero (S := S2048x512) (by decide), View.ld_unit_zero (S := S2048x1024) (by decide)]
    exact View.canon_unit_zero (S := S512x1024) (by decide) _ _
  refine (congrFun e (ix2 r k)).trans ?_
  refine (pay (blk0 h0 t) (blk1 h1 t) r k).trans ?_
  show _ = gradW f g (win4_2.index t 0 * 512 + 1 * r.val) (win4_2.index t 1 * 1024 + 1 * k.val)
  rw [i0, i1, show t.val * 512 + 1 * r.val = 512 * t.val + r.val by omega,
    show 0 * 1024 + 1 * k.val = 1024 * 0 + k.val by omega]
  rfl

end Cert.MlaProjIdeal.Region4
-- ==== Proof.MlaProjRegion5.lean ====
module

public import proofs.«01_k».proof.Proof.Gen.MlaProjIdeal.Frame
public import proofs.«01_k».proof.Proof.LinReal
public import Idealize.ShloMosaic.Lib.Pipeline.ValueKit

/-! # The sixth call: the output projection's input's gradient -/

@[expose] public section

set_option maxRecDepth 16384

noncomputable section

namespace Cert.MlaProjIdeal.Region5

open Cert.MlaProjIdeal Cert.MlaProjIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid5.N,
    (win5_0.index t 0 = t.val ∧ win5_0.index t 1 = 0)
    ∧ (win5_1.index t 0 = 0 ∧ win5_1.index t 1 = 0)
    ∧ (win5_2.index t 0 = t.val ∧ win5_2.index t 1 = 0) := by
  decide +kernel

/-- What the body stores, from the blocks it loads. -/
theorem pay {x0 : FVec Ideal S512x1024 .bf16} {x1 : FVec Ideal S1024x1024 .bf16} {a b : ℕ → ℕ → EReal}
    (h0 : Is (m := 512) (n := 1024) (φ := .bf16) x0 a) (h1 : Is (m := 1024) (n := 1024) (φ := .bf16) x1 b) :
    Is (m := 512) (n := 1024) (φ := .bf16) (k5_pay1 (F := Ideal) x0 x1) (gradA 1024 a b) :=
  (nt _ _ (h0.same shapeCasts_S512x1024_S512x1024) (h1.same shapeCasts_S1024x1024_S1024x1024)).cut bitsLt_bf16_f32

variable {V} {c} {f g : ℕ → ℕ → EReal}

/-- The first factor's block at a point of the grid. -/
theorem blk0 (hv : V c main_v9 = ofFn (m := 2048) (n := 1024) (φ := .bf16) f) (t : Fin cfg5.N) :
    Is (m := 512) (n := 1024) (φ := .bf16) (iblk5 V c 0 t) (fun r c => f (512 * t.val + r) c) := fun r k => by
  obtain ⟨⟨i0, i1⟩, -⟩ := block_index t
  unfold iblk5
  rw [View.read_apply]
  show V c main_v9 _ = _
  rw [hv]
  show f (win5_0.index t 0 * 512 + 1 * r.val) (win5_0.index t 1 * 1024 + 1 * k.val) = _
  rw [i0, i1]
  refine congrArg₂ f ?_ ?_ <;> omega

/-- The second factor's block at a point of the grid. -/
theorem blk1 (hv : V c main_v7 = ofFn (m := 1024) (n := 1024) (φ := .bf16) g) (t : Fin cfg5.N) :
    Is (m := 1024) (n := 1024) (φ := .bf16) (iblk5 V c 1 t) (fun k c => g (1024 * 0 + k) c) := fun r k => by
  obtain ⟨-, ⟨i0, i1⟩, -⟩ := block_index t
  unfold iblk5
  rw [View.read_apply]
  show V c main_v7 _ = _
  rw [hv]
  show g (win5_1.index t 0 * 1024 + 1 * r.val) (win5_1.index t 1 * 1024 + 1 * k.val) = _
  rw [i0, i1]
  refine congrArg₂ g ?_ ?_ <;> omega

/-- The output projection's input's gradient. -/
theorem final (h0 : V c main_v9 = ofFn (m := 2048) (n := 1024) (φ := .bf16) f)
    (h1 : V c main_v7 = ofFn (m := 1024) (n := 1024) (φ := .bf16) g) :
    (dat5 V c).arrAt 2 cfg5.N = ofFn (m := 2048) (n := 1024) (φ := .bf16) (gradA 1024 f g) := by
  refine (dat5 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat5 V c).after 2 t = k5_pay1 (iblk5 V c 0 t) (iblk5 V c 1 t) := by
    rw [after5_2]
    unfold out5_2
    rw [View.ld_unit_zero (S := S512x1024) (by decide), View.ld_unit_zero (S := S1024x1024) (by decide)]
    exact View.canon_unit_zero (S := S512x1024) (by decide) _ _
  refine (congrFun e (ix2 r k)).trans ?_
  refine (pay (blk0 h0 t) (blk1 h1 t) r k).trans ?_
  show _ = gradA 1024 f g (win5_2.index t 0 * 512 + 1 * r.val) (win5_2.index t 1 * 1024 + 1 * k.val)
  rw [i0, i1, show t.val * 512 + 1 * r.val = 512 * t.val + r.val by omega,
    show 0 * 1024 + 1 * k.val = 1024 * 0 + k.val by omega]
  rfl

end Cert.MlaProjIdeal.Region5
-- ==== Proof.MlaProjResult.lean ====
module

public import proofs.«01_k».proof.Proof.MlaProjHost
public import proofs.«01_k».proof.Proof.MlaProjRegion0
public import proofs.«01_k».proof.Proof.MlaProjRegion1
public import proofs.«01_k».proof.Proof.MlaProjRegion2
public import proofs.«01_k».proof.Proof.MlaProjRegion3
public import proofs.«01_k».proof.Proof.MlaProjRegion4
public import proofs.«01_k».proof.Proof.MlaProjRegion5

/-! # The six calls of the attention layer's projections in a row

    What each array holds after each call, from the contents the host lines leave: a call's output by its own theorem,
    every other array as the call found it. -/

@[expose] public section

set_option maxRecDepth 16384

noncomputable section

namespace Cert.MlaProjIdeal.Result

open Cert.MlaProjIdeal Cert.MlaProjIdeal.Gen
open Idealize.ShloMosaic Idealize.ShloMosaic.TcCoe
open Cert.Lin

variable (m : (ℓ : Loc nD τ sig) → Buf (Elt Ideal) ℓ) (ρ : Dev nD → PrngReg) (c : Dev nD)

/-! ## Arrays that a call does not write -/

/-- The first call does not write the array. -/
abbrev Kept0 (r : Ref sig .tc) : Prop := ∀ w : Fin cfg0.W, Pipeline.arrRef spec0 w = r → (cfg0.win w).isOut = false
/-- The second call does not write the array. -/
abbrev Kept1 (r : Ref sig .tc) : Prop := ∀ w : Fin cfg1.W, Pipeline.arrRef spec1 w = r → (cfg1.win w).isOut = false
/-- The third call does not write the array. -/
abbrev Kept2 (r : Ref sig .tc) : Prop := ∀ w : Fin cfg2.W, Pipeline.arrRef spec2 w = r → (cfg2.win w).isOut = false
/-- The fourth call does not write the array. -/
abbrev Kept3 (r : Ref sig .tc) : Prop := ∀ w : Fin cfg3.W, Pipeline.arrRef spec3 w = r → (cfg3.win w).isOut = false
/-- The fifth call does not write the array. -/
abbrev Kept4 (r : Ref sig .tc) : Prop := ∀ w : Fin cfg4.W, Pipeline.arrRef spec4 w = r → (cfg4.win w).isOut = false
/-- The sixth call does not write the array. -/
abbrev Kept5 (r : Ref sig .tc) : Prop := ∀ w : Fin cfg5.W, Pipeline.arrRef spec5 w = r → (cfg5.win w).isOut = false

variable (r : Ref sig .tc)

/-- An array that the first call does not write, after it. -/
theorem to2 (h0 : Kept0 r := by decide) : W2 m ρ c (Proc.devRef .tc r) = W1 m ρ c (Proc.devRef .tc r) :=
  W2_of m ρ c r h0
/-- An array that the first two calls do not write, after them. -/
theorem to3 (h0 : Kept0 r := by decide) (h1 : Kept1 r := by decide) : W3 m ρ c (Proc.devRef .tc r) = W1 m ρ c (Proc.devRef .tc r) :=
  (W3_of m ρ c r h1).trans (to2 m ρ c r h0)
/-- An array that the first three calls do not write, after them. -/
theorem to4 (h0 : Kept0 r := by decide) (h1 : Kept1 r := by decide) (h2 : Kept2 r := by decide) : W4 m ρ c (Proc.devRef .tc r) = W1 m ρ c (Proc.devRef .tc r) :=
  (W4_of m ρ c r h2).trans (to3 m ρ c r h0 h1)
/-- An array that the first four calls do not write, after them. -/
theorem to5 (h0 : Kept0 r := by decide) (h1 : Kept1 r := by decide) (h2 : Kept2 r := by decide) (h3 : Kept3 r := by decide) : W5 m ρ c (Proc.devRef .tc r) = W1 m ρ c (Proc.devRef .tc r) :=
  (W5_of m ρ c r h3).trans (to4 m ρ c r h0 h1 h2)
/-- An array that the first five calls do not write, after them. -/
theorem to6 (h0 : Kept0 r := by decide) (h1 : Kept1 r := by decide) (h2 : Kept2 r := by decide) (h3 : Kept3 r := by decide) (h4 : Kept4 r := by decide) : W6 m ρ c (Proc.devRef .tc r) = W1 m ρ c (Proc.devRef .tc r) :=
  (W6_of m ρ c r h4).trans (to5 m ρ c r h0 h1 h2 h3)
/-- An array that the sixth call does not write, after it. -/
theorem from6 (h5 : Kept5 r := by decide) : W7 m ρ c (Proc.devRef .tc r) = W6 m ρ c (Proc.devRef .tc r) :=
  W7_of m ρ c r h5
/-- An array that the calls after the fourth do not write, after the last. -/
theorem from5 (h4 : Kept4 r := by decide) (h5 : Kept5 r := by decide) : W7 m ρ c (Proc.devRef .tc r) = W5 m ρ c (Proc.devRef .tc r) :=
  (from6 m ρ c r h5).trans (W6_of m ρ c r h4)
/-- An array that the calls after the third do not write, after the last. -/
theorem from4 (h3 : Kept3 r := by decide) (h4 : Kept4 r := by decide) (h5 : Kept5 r := by decide) : W7 m ρ c (Proc.devRef .tc r) = W4 m ρ c (Proc.devRef .tc r) :=
  (from5 m ρ c r h4 h5).trans (W5_of m ρ c r h3)
/-- An array that the calls after the second do not write, after the last. -/
theorem from3 (h2 : Kept2 r := by decide) (h3 : Kept3 r := by decide) (h4 : Kept4 r := by decide) (h5 : Kept5 r := by decide) : W7 m ρ c (Proc.devRef .tc r) = W3 m ρ c (Proc.devRef .tc r) :=
  (from4 m ρ c r h3 h4 h5).trans (W4_of m ρ c r h2)
/-- An array that the calls after the first do not write, after the last. -/
theorem from2 (h1 : Kept1 r := by decide) (h2 : Kept2 r := by decide) (h3 : Kept3 r := by decide) (h4 : Kept4 r := by decide) (h5 : Kept5 r := by decide) : W7 m ρ c (Proc.devRef .tc r) = W2 m ρ c (Proc.devRef .tc r) :=
  (from3 m ρ c r h2 h3 h4 h5).trans (W3_of m ρ c r h1)

/-! ## The results -/

/-- After the first call: the input projection's output. -/
theorem at2_r0 : W2 m ρ c (Proc.devRef .tc main_v10) = ofFn (m := 2048) (n := 768) (φ := .f32) (out 1024 (fn1 (x0 m c)) (fn2 (x1 m c))) :=
  (W2_arr m ρ c 2).trans (Region0.final (in0 m ρ c) (in1 m ρ c))
/-- After the second call: the input projection's weight's gradient. -/
theorem at3_r1 : W3 m ρ c (Proc.devRef .tc main_v11) = ofFn (m := 1024) (n := 768) (φ := .bf16) (gradW (fn1 (x0 m c)) (fn1 (x2 m c))) :=
  (W3_arr m ρ c 2).trans (Region1.final ((to2 m ρ c main_v1).trans (in0 m ρ c)) ((to2 m ρ c main_v4).trans (in2 m ρ c)))
/-- After the third call: the input projection's input's gradient. -/
theorem at4_r2 : W4 m ρ c (Proc.devRef .tc main_v12) = ofFn (m := 2048) (n := 1024) (φ := .f32) (gradA 768 (fn1 (x2 m c)) (fn2 (x1 m c))) :=
  (W4_arr m ρ c 2).trans (Region2.final ((to3 m ρ c main_v4).trans (in2 m ρ c)) ((to3 m ρ c main_v2).trans (in1 m ρ c)))
/-- After the fourth call: the output projection's output. -/
theorem at5_r3 : W5 m ρ c (Proc.devRef .tc main_v13) = ofFn (m := 2048) (n := 1024) (φ := .f32) (out 1024 (fn1 (x3 m c)) (fn2 (x4 m c))) :=
  (W5_arr m ρ c 2).trans (Region3.final ((to4 m ρ c main_v6).trans (in3 m ρ c)) ((to4 m ρ c main_v7).trans (in4 m ρ c)))
/-- After the fifth call: the output projection's weight's gradient. -/
theorem at6_r4 : W6 m ρ c (Proc.devRef .tc main_v14) = ofFn (m := 1024) (n := 1024) (φ := .bf16) (gradW (fn1 (x3 m c)) (fn1 (x5 m c))) :=
  (W6_arr m ρ c 2).trans (Region4.final ((to5 m ρ c main_v6).trans (in3 m ρ c)) ((to5 m ρ c main_v9).trans (in5 m ρ c)))
/-- After the sixth call: the output projection's input's gradient. -/
theorem at7_r5 : W7 m ρ c (Proc.devRef .tc main_v15) = ofFn (m := 2048) (n := 1024) (φ := .bf16) (gradA 1024 (fn1 (x5 m c)) (fn2 (x4 m c))) :=
  (W7_arr m ρ c 2).trans (Region5.final ((to6 m ρ c main_v9).trans (in5 m ρ c)) ((to6 m ρ c main_v7).trans (in4 m ρ c)))
/-- After the last call: the input projection's output. -/
theorem at7_r0 : W7 m ρ c (Proc.devRef .tc main_v10) = ofFn (m := 2048) (n := 768) (φ := .f32) (out 1024 (fn1 (x0 m c)) (fn2 (x1 m c))) :=
  (from2 m ρ c main_v10).trans (at2_r0 m ρ c)
/-- After the last call: the input projection's weight's gradient. -/
theorem at7_r1 : W7 m ρ c (Proc.devRef .tc main_v11) = ofFn (m := 1024) (n := 768) (φ := .bf16) (gradW (fn1 (x0 m c)) (fn1 (x2 m c))) :=
  (from3 m ρ c main_v11).trans (at3_r1 m ρ c)
/-- After the last call: the input projection's input's gradient. -/
theorem at7_r2 : W7 m ρ c (Proc.devRef .tc main_v12) = ofFn (m := 2048) (n := 1024) (φ := .f32) (gradA 768 (fn1 (x2 m c)) (fn2 (x1 m c))) :=
  (from4 m ρ c main_v12).trans (at4_r2 m ρ c)
/-- After the last call: the output projection's output. -/
theorem at7_r3 : W7 m ρ c (Proc.devRef .tc main_v13) = ofFn (m := 2048) (n := 1024) (φ := .f32) (out 1024 (fn1 (x3 m c)) (fn2 (x4 m c))) :=
  (from5 m ρ c main_v13).trans (at5_r3 m ρ c)
/-- After the last call: the output projection's weight's gradient. -/
theorem at7_r4 : W7 m ρ c (Proc.devRef .tc main_v14) = ofFn (m := 1024) (n := 1024) (φ := .bf16) (gradW (fn1 (x3 m c)) (fn1 (x5 m c))) :=
  (from6 m ρ c main_v14).trans (at6_r4 m ρ c)

end Cert.MlaProjIdeal.Result
-- ==== Proof.MlaProjReference.lean ====
module

public import proofs.«01_k».proof.Proof.LinReal
public import proofs.«01_k».proof.Proof.Gen.MlaProjReferenceIdeal.Read

/-! # The reference of the attention layer's projections

    The two layers' plain formulation and its differentiation, as sums of products. -/

@[expose] public section

set_option maxRecDepth 16384

noncomputable section

namespace Cert.MlaProjReferenceIdeal.Stages

open Cert.MlaProjReferenceIdeal Cert.MlaProjReferenceIdeal.Gen Cert.MlaProjReferenceIdeal.Read
open Idealize.ShloMosaic Idealize.ShloMosaic.ValueIdx
open Cert.Lin

variable {x0 : FVec Ideal S1x2048x1024 .f32} {x1 : FVec Ideal S1024x768 .f32} {x2 : FVec Ideal S1x2048x768 .f32}
  {x3 : FVec Ideal S1x2048x1024 .f32} {x4 : FVec Ideal S1024x1024 .f32} {x5 : FVec Ideal S1x2048x1024 .f32}

/-- The input projection's output. -/
theorem res0 : val_main_v4 (F := Ideal) x0 x1 = ofFn (m := 2048) (n := 768) (φ := .f32) (out 1024 (fn1 x0) (fn2 x1)) := by
  have h : Is (m := 2048) (n := 768) (φ := .f32) (val_main_v4 (F := Ideal) x0 x1) (out 1024 (fn1 x0) (fn2 x1)) := by
    unfold val_main_v4 val_main_v0
    exact (times _ (is_fn1 x0) (is_fn2 x1)).drop shapeCasts_S1x2048x768_S2048x768
  exact h.eq

/-- The input projection's weight's gradient. -/
theorem res1 : val_main_v5 (F := Ideal) x0 x2 = ofFn (m := 1024) (n := 768) (φ := .bf16) (gradW (fn1 x0) (fn1 x2)) := by
  have h : Is (m := 1024) (n := 768) (φ := .bf16) (val_main_v5 (F := Ideal) x0 x2) (gradW (fn1 x0) (fn1 x2)) := by
    unfold val_main_v5 val_main_v2 val_main_v1
    exact Is.cut bitsLt_bf16_f32 (Is.exchanged transposes_S768x1024_S1024x768_1_0 (over_rows _ (is_fn1 x2) (is_fn1 x0)))
  exact h.eq

/-- The input projection's input's gradient. -/
theorem res2 : val_main_v6 (F := Ideal) x1 x2 = ofFn (m := 2048) (n := 1024) (φ := .f32) (gradA 768 (fn1 x2) (fn2 x1)) := by
  have h : Is (m := 2048) (n := 1024) (φ := .f32) (val_main_v6 (F := Ideal) x1 x2) (gradA 768 (fn1 x2) (fn2 x1)) := by
    unfold val_main_v6 val_main_v3
    exact (timesT _ (is_fn1 x2) (is_fn2 x1)).drop shapeCasts_S1x2048x1024_S2048x1024
  exact h.eq

/-- The output projection's output. -/
theorem res3 : val_main_v11 (F := Ideal) x3 x4 = ofFn (m := 2048) (n := 1024) (φ := .f32) (out 1024 (fn1 x3) (fn2 x4)) := by
  have h : Is (m := 2048) (n := 1024) (φ := .f32) (val_main_v11 (F := Ideal) x3 x4) (out 1024 (fn1 x3) (fn2 x4)) := by
    unfold val_main_v11 val_main_v7
    exact (times _ (is_fn1 x3) (is_fn2 x4)).drop shapeCasts_S1x2048x1024_S2048x1024
  exact h.eq

/-- The output projection's weight's gradient. -/
theorem res4 : val_main_v12 (F := Ideal) x3 x5 = ofFn (m := 1024) (n := 1024) (φ := .bf16) (gradW (fn1 x3) (fn1 x5)) := by
  have h : Is (m := 1024) (n := 1024) (φ := .bf16) (val_main_v12 (F := Ideal) x3 x5) (gradW (fn1 x3) (fn1 x5)) := by
    unfold val_main_v12 val_main_v9 val_main_v8
    exact Is.cut bitsLt_bf16_f32 (Is.exchanged transposes_S1024x1024_S1024x1024_1_0 (over_rows _ (is_fn1 x5) (is_fn1 x3)))
  exact h.eq

/-- The output projection's input's gradient. -/
theorem res5 : val_main_v14 (F := Ideal) x4 x5 = ofFn (m := 2048) (n := 1024) (φ := .bf16) (gradA 1024 (fn1 x5) (fn2 x4)) := by
  have h : Is (m := 2048) (n := 1024) (φ := .bf16) (val_main_v14 (F := Ideal) x4 x5) (gradA 1024 (fn1 x5) (fn2 x4)) := by
    unfold val_main_v14 val_main_v13 val_main_v10
    exact Is.cut bitsLt_bf16_f32 ((timesT _ (is_fn1 x5) (is_fn2 x4)).drop shapeCasts_S1x2048x1024_S2048x1024)
  exact h.eq

end Cert.MlaProjReferenceIdeal.Stages
-- ==== Proof.MlaUpRun.lean ====
module

public import proofs.«01_k».proof.Proof.Gen.MlaUpIdeal.Frame

/-! # The six calls of the attention layer's up projections run

    What the six result arrays hold when the program ends: their contents at the last boundary. -/

@[expose] public section

set_option maxRecDepth 16384

noncomputable section

namespace Cert.MlaUpIdeal.Run

open Cert.MlaUpIdeal Cert.MlaUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with its six result arrays at the last boundary's contents. -/
theorem results : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v12) = W7 m ρ c (Proc.devRef .tc main_v12)
      ∧ r.2.mem ((c.tc : Thread nD τ).loc main_v13) = W7 m ρ c (Proc.devRef .tc main_v13)
      ∧ r.2.mem ((c.tc : Thread nD τ).loc main_v14) = W7 m ρ c (Proc.devRef .tc main_v14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v9 (by decide)),
       h c _ (mem_uc main_v10 (by decide)),
       h c _ (mem_uc main_v11 (by decide)),
       h c _ (mem_uc main_v12 (by decide)),
       h c _ (mem_uc main_v13 (by decide)),
       h c _ (mem_uc main_v14 (by decide))⟩)

end Cert.MlaUpIdeal.Run
-- ==== Proof.MlaUpHost.lean ====
module

public import proofs.«01_k».proof.Proof.Gen.MlaUpIdeal.Frame
public import proofs.«01_k».proof.Proof.LinReal
public import Idealize.ShloMosaic.Lib.StableHlo.RunRead

/-! # What the host hands the six calls of the attention layer's up projections

    The lines before the first call: each array by rows and columns. -/

@[expose] public section

set_option maxRecDepth 16384

noncomputable section

namespace Cert.MlaUpIdeal.Result

open Cert.MlaUpIdeal Cert.MlaUpIdeal.Gen
open Idealize.ShloMosaic Idealize.ShloMosaic.TcCoe Idealize.ShloMosaic.StableHlo
open Cert.Lin

variable (m : (ℓ : Loc nD τ sig) → Buf (Elt Ideal) ℓ) (ρ : Dev nD → PrngReg) (c : Dev nD)

/-- The query up projection's input. -/
def x0 : FVec Ideal S1x2048x384 .f32 := m ((c : Thread nD τ).loc main_arg0)
/-- The query up projection's weight. -/
def x1 : FVec Ideal S384x2048 .f32 := m ((c : Thread nD τ).loc main_arg1)
/-- The query up projection's incoming gradient. -/
def x2 : FVec Ideal S1x2048x2048 .f32 := m ((c : Thread nD τ).loc main_arg2)
/-- The key and value up projection's input. -/
def x3 : FVec Ideal S1x2048x256 .f32 := m ((c : Thread nD τ).loc main_arg3)
/-- The key and value up projection's weight. -/
def x4 : FVec Ideal S256x2048 .f32 := m ((c : Thread nD τ).loc main_arg4)
/-- The key and value up projection's incoming gradient. -/
def x5 : FVec Ideal S1x2048x2048 .f32 := m ((c : Thread nD τ).loc main_arg5)

/-- The query up projection's input as the first call finds it. -/
theorem read0 : V1 m ρ c main_v1 = truncf .bf16 (shapeCast S2048x384 (x0 m c) shapeCasts_S1x2048x384_S2048x384) bitsLt_bf16_f32 := by
  unfold V1 W1
  after_reads_simp
  rfl
/-- The query up projection's weight as the first call finds it. -/
theorem read1 : V1 m ρ c main_v2 = truncf .bf16 (x1 m c) bitsLt_bf16_f32 := by
  unfold V1 W1
  after_reads_simp
  rfl
/-- The query up projection's incoming gradient as the first call finds it. -/
theorem read2 : V1 m ρ c main_v4 = truncf .bf16 (shapeCast S2048x2048 (x2 m c) shapeCasts_S1x2048x2048_S2048x2048) bitsLt_bf16_f32 := by
  unfold V1 W1
  after_reads_simp
  rfl
/-- The key and value up projection's input as the first call finds it. -/
theorem read3 : V1 m ρ c main_v6 = truncf .bf16 (shapeCast S2048x256 (x3 m c) shapeCasts_S1x2048x256_S2048x256) bitsLt_bf16_f32 := by
  unfold V1 W1
  after_reads_simp
  rfl
/-- The key and value up projection's weight as the first call finds it. -/
theorem read4 : V1 m ρ c main_v7 = truncf .bf16 (x4 m c) bitsLt_bf16_f32 := by
  unfold V1 W1
  after_reads_simp
  rfl
/-- The key and value up projection's incoming gradient as the first call finds it. -/
theorem read5 : V1 m ρ c main_v8 = shapeCast S2048x2048 (x5 m c) shapeCasts_S1x2048x2048_S2048x2048 := by
  unfold V1 W1
  after_reads_simp
  rfl

/-- The query up projection's input by rows and columns. -/
theorem in0 : V1 m ρ c main_v1 = ofFn (m := 2048) (n := 384) (φ := .bf16) (fn1 (x0 m c)) :=
  (read0 m ρ c).trans (Is.cut bitsLt_bf16_f32 ((is_fn1 (x0 m c)).drop shapeCasts_S1x2048x384_S2048x384)).eq
/-- The query up projection's weight by rows and columns. -/
theorem in1 : V1 m ρ c main_v2 = ofFn (m := 384) (n := 2048) (φ := .bf16) (fn2 (x1 m c)) :=
  (read1 m ρ c).trans (Is.cut bitsLt_bf16_f32 (is_fn2 (x1 m c))).eq
/-- The query up projection's incoming gradient by rows and columns. -/
theorem in2 : V1 m ρ c main_v4 = ofFn (m := 2048) (n := 2048) (φ := .bf16) (fn1 (x2 m c)) :=
  (read2 m ρ c).trans (Is.cut bitsLt_bf16_f32 ((is_fn1 (x2 m c)).drop shapeCasts_S1x2048x2048_S2048x2048)).eq
/-- The key and value up projection's input by rows and columns. -/
theorem in3 : V1 m ρ c main_v6 = ofFn (m := 2048) (n := 256) (φ := .bf16) (fn1 (x3 m c)) :=
  (read3 m ρ c).trans (Is.cut bitsLt_bf16_f32 ((is_fn1 (x3 m c)).drop shapeCasts_S1x2048x256_S2048x256)).eq
/-- The key and value up projection's weight by rows and columns. -/
theorem in4 : V1 m ρ c main_v7 = ofFn (m := 256) (n := 2048) (φ := .bf16) (fn2 (x4 m c)) :=
  (read4 m ρ c).trans (Is.cut bitsLt_bf16_f32 (is_fn2 (x4 m c))).eq
/-- The key and value up projection's incoming gradient by rows and columns. -/
theorem in5 : V1 m ρ c main_v8 = ofFn (m := 2048) (n := 2048) (φ := .f32) (fn1 (x5 m c)) :=
  (read5 m ρ c).trans ((is_fn1 (x5 m c)).drop shapeCasts_S1x2048x2048_S2048x2048).eq

end Cert.MlaUpIdeal.Result
-- ==== Proof.MlaUpRegion0.lean ====
module

public import proofs.«01_k».proof.Proof.Gen.MlaUpIdeal.Frame
public import proofs.«01_k».proof.Proof.LinReal
public import Idealize.ShloMosaic.Lib.Pipeline.ValueKit

/-! # The first call: the query up projection's output -/

@[expose] public section

set_option maxRecDepth 16384

noncomputable section

namespace Cert.MlaUpIdeal.Region0

open Cert.MlaUpIdeal Cert.MlaUpIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid0.N,
    (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) := by
  decide +kernel

/-- What the body stores, from the blocks it loads. -/
theorem pay {x0 : FVec Ideal S512x384 .bf16} {x1 : FVec Ideal S384x1024 .bf16} {a b : ℕ → ℕ → EReal}
    (h0 : Is (m := 512) (n := 384) (φ := .bf16) x0 a) (h1 : Is (m := 384) (n := 1024) (φ := .bf16) x1 b) :
    Is (m := 512) (n := 1024) (φ := .f32) (k0_pay1 (F := Ideal) x0 x1) (out 384 a b) :=
  nn _ _ (h0.same shapeCasts_S512x384_S512x384) (h1.same shapeCasts_S384x1024_S384x1024)

variable {V} {c} {f g : ℕ → ℕ → EReal}

/-- The first factor's block at a point of the grid. -/
theorem blk0 (hv : V c main_v1 = ofFn (m := 2048) (n := 384) (φ := .bf16) f) (t : Fin cfg0.N) :
    Is (m := 512) (n := 384) (φ := .bf16) (iblk0 V c 0 t) (fun r k => f (512 * (t.val / 2) + r) k) := fun r k => by
  obtain ⟨⟨i0, i1⟩, -⟩ := block_index t
  unfold iblk0
  rw [View.read_apply]
  show V c main_v1 _ = _
  rw [hv]
  show f (win0_0.index t 0 * 512 + 1 * r.val) (win0_0.index t 1 * 384 + 1 * k.val) = _
  rw [i0, i1]
  refine congrArg₂ f ?_ ?_ <;> omega

/-- The second factor's block at a point of the grid. -/
theorem blk1 (hv : V c main_v2 = ofFn (m := 384) (n := 2048) (φ := .bf16) g) (t : Fin cfg0.N) :
    Is (m := 384) (n := 1024) (φ := .bf16) (iblk0 V c 1 t) (fun k c => g k (1024 * (t.val % 2) + c)) := fun r k => by
  obtain ⟨-, ⟨i0, i1⟩, -⟩ := block_index t
  unfold iblk0
  rw [View.read_apply]
  show V c main_v2 _ = _
  rw [hv]
  show g (win0_1.index t 0 * 384 + 1 * r.val) (win0_1.index t 1 * 1024 + 1 * k.val) = _
  rw [i0, i1]
  refine congrArg₂ g ?_ ?_ <;> omega

/-- The query up projection's output. -/
theorem final (h0 : V c main_v1 = ofFn (m := 2048) (n := 384) (φ := .bf16) f)
    (h1 : V c main_v2 = ofFn (m := 384) (n := 2048) (φ := .bf16) g) :
    (dat0 V c).arrAt 2 cfg0.N = ofFn (m := 2048) (n := 2048) (φ := .f32) (out 384 f g) := by
  refine (dat0 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat0 V c).after 2 t = k0_pay1 (iblk0 V c 0 t) (iblk0 V c 1 t) := by
    rw [after0_2]
    unfold out0_2
    rw [View.ld_unit_zero (S := S512x384) (by decide), View.ld_unit_zero (S := S384x1024) (by decide)]
    exact View.canon_unit_zero (S := S512x1024) (by decide) _ _
  refine (congrFun e (ix2 r k)).trans ?_
  refine (pay (blk0 h0 t) (blk1 h1 t) r k).trans ?_
  show _ = out 384 f g (win0_2.index t 0 * 512 + 1 * r.val) (win0_2.index t 1 * 1024 + 1 * k.val)
  rw [i0, i1, show t.val / 2 * 512 + 1 * r.val = 512 * (t.val / 2) + r.val by omega,
    show t.val % 2 * 1024 + 1 * k.val = 1024 * (t.val % 2) + k.val by omega]
  rfl

end Cert.MlaUpIdeal.Region0
-- ==== Proof.MlaUpRegion1.lean ====
module

public import proofs.«01_k».proof.Proof.Gen.MlaUpIdeal.Frame
public import proofs.«01_k».proof.Proof.LinReal
public import Idealize.ShloMosaic.Lib.Pipeline.ValueKit

/-! # The second call: the query up projection's weight's gradient -/

@[expose] public section

set_option maxRecDepth 16384

noncomputable section

namespace Cert.MlaUpIdeal.Region1

open Cert.MlaUpIdeal Cert.MlaUpIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid1.N,
    (win1_0.index t 0 = 0 ∧ win1_0.index t 1 = 0)
    ∧ (win1_1.index t 0 = 0 ∧ win1_1.index t 1 = t.val)
    ∧ (win1_2.index t 0 = 0 ∧ win1_2.index t 1 = t.val) := by
  decide +kernel

/-- What the body stores, from the blocks it loads. -/
theorem pay {x0 : FVec Ideal S2048x384 .bf16} {x1 : FVec Ideal S2048x1024 .bf16} {a b : ℕ → ℕ → EReal}
    (h0 : Is (m := 2048) (n := 384) (φ := .bf16) x0 a) (h1 : Is (m := 2048) (n := 1024) (φ := .bf16) x1 b) :
    Is (m := 384) (n := 1024) (φ := .bf16) (k1_pay1 (F := Ideal) x0 x1) (gradW a b) :=
  (tn _ _ (h0.same shapeCasts_S2048x384_S2048x384) (h1.same shapeCasts_S2048x1024_S2048x1024)).cut bitsLt_bf16_f32

variable {V} {c} {f g : ℕ → ℕ → EReal}

/-- The first factor's block at a point of the grid. -/
theorem blk0 (hv : V c main_v1 = ofFn (m := 2048) (n := 384) (φ := .bf16) f) (t : Fin cfg1.N) :
    Is (m := 2048) (n := 384) (φ := .bf16) (iblk1 V c 0 t) (fun r k => f r (384 * 0 + k)) := fun r k => by
  obtain ⟨⟨i0, i1⟩, -⟩ := block_index t
  unfold iblk1
  rw [View.read_apply]
  show V c main_v1 _ = _
  rw [hv]
  show f (win1_0.index t 0 * 2048 + 1 * r.val) (win1_0.index t 1 * 384 + 1 * k.val) = _
  rw [i0, i1]
  refine congrArg₂ f ?_ ?_ <;> omega

/-- The second factor's block at a point of the grid. -/
theorem blk1 (hv : V c main_v4 = ofFn (m := 2048) (n := 2048) (φ := .bf16) g) (t : Fin cfg1.N) :
    Is (m := 2048) (n := 1024) (φ := .bf16) (iblk1 V c 1 t) (fun r c => g r (1024 * t.val + c)) := fun r k => by
  obtain ⟨-, ⟨i0, i1⟩, -⟩ := block_index t
  unfold iblk1
  rw [View.read_apply]
  show V c main_v4 _ = _
  rw [hv]
  show g (win1_1.index t 0 * 2048 + 1 * r.val) (win1_1.index t 1 * 1024 + 1 * k.val) = _
  rw [i0, i1]
  refine congrArg₂ g ?_ ?_ <;> omega

/-- The query up projection's weight's gradient. -/
theorem final (h0 : V c main_v1 = ofFn (m := 2048) (n := 384) (φ := .bf16) f)
    (h1 : V c main_v4 = ofFn (m := 2048) (n := 2048) (φ := .bf16) g) :
    (dat1 V c).arrAt 2 cfg1.N = ofFn (m := 384) (n := 2048) (φ := .bf16) (gradW f g) := by
  refine (dat1 V c).arrAt_eq_of_covers 2 _ (by decide +kernel) fun t hf y => ?_
  obtain ⟨-, -, ⟨i0, i1⟩⟩ := block_index t
  obtain ⟨r, k, rfl⟩ : ∃ (r : Fin 384) (k : Fin 1024), y = ix2 r k := ⟨_, _, eq_ix2 y⟩
  have e : (dat1 V c).after 2 t = k1_pay1 (iblk1 V c 0 t) (iblk1 V c 1 t) := by
    rw [after1_2]
    unfold out1_2
    rw [View.ld_unit_zero (S := S2048x384) (by decide), View.ld_unit_zero (S := S2048x1024) (by decide)]
    exact View.canon_unit_zero (S := S384x1024) (by decide) _ _
  refine (congrFun e (ix2 r k)).trans ?_
  refine (pay (blk0 h0 t) (blk1 h1 t) r k).trans ?_
  show _ = gradW f g (win1_2.index t 0 * 384 + 1 * r.val) (win1_2.index t 1 * 1024 + 1 * k.val)
  rw [i0, i1, show 0 * 384 + 1 * r.val = 384 * 0 + r.val by omega,
    show t.val * 1024 + 1 * k.val = 1024 * t.val + k.val by omega]
  rfl

end Cert.MlaUpIdeal.Region1
-- ==== Proof.MlaUpRegion2.lean ====
module

public import proofs.«01_k».proof.Proof.Gen.MlaUpIdeal.Frame
public import proofs.«01_k».proof.Proof.LinReal
public import Idealize.ShloMosaic.Lib.Pipeline.ValueKit

/-! # The third call: the query up projection's input's gradient -/

@[expose] public section

set_option maxRecDepth 16384

noncomputable section

namespace Cert.MlaUpIdeal.Region2

open Cert.MlaUpIdeal Cert.MlaUpIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid2.N,
    (win2_0.index t 0 = t.val ∧ win2_0.index t 1 = 0)
    ∧ (win2_1.index t 0 = 0 ∧ win2_1.index t 1 = 0)
    ∧ (win2_2.index t 0 = t.val ∧ win2_2.index t 1 = 0) := by
  decide +kernel

/-- What the body stores, from the blocks it loads. -/
theorem pay {x0 : FVec Ideal S512x2048 .bf16} {x1 : FVec Ideal S384x2048 .bf16} {a b : ℕ → ℕ → EReal}
    (h0 : Is (m := 512) (n := 2048) (φ := .bf16) x0 a) (h1 : Is (m := 384) (n := 2048) (φ := .bf16) x1 b) :
    Is (m := 512) (n := 384) (φ := .f32) (k2_pay1 (F := Ideal) x0 x1) (gradA 2048 a b) :=
  nt _ _ (h0.same shapeCasts_S512x2048_S512x2048) (h1.same shapeCasts_S384x2048_S384x2048)

variable {V} {c} {f g : ℕ → ℕ → EReal}

/-- The first factor's block at a point of the grid. -/
theorem blk0 (hv : V c main_v4 = ofFn (m := 2048) (n := 2048) (φ := .bf16) f) (t : Fin cfg2.N) :
    Is (m := 512) (n := 2048) (φ := .bf16) (iblk2 V c 0 t) (fun r c => f (512 * t.val + r) c) := fun r k => by
  obtain ⟨⟨i0, i1⟩, -⟩ := block_index t
  unfold iblk2
  rw [View.read_apply]
  show V c main_v4 _ = _
  rw [hv]
  show f (win2_0.index t 0 * 512 + 1 * r.val) (win2_0.index t 1 * 2048 + 1 * k.val) = _
  rw [i0, i1]
  refine congrArg₂ f ?_ ?_ <;> omega

/-- The second factor's block at a point of the grid. -/
theorem blk1 (hv : V c main_v2 = ofFn (m := 384) (n := 2048) (φ := .bf16) g) (t : Fin cfg2.N) :
    Is (m := 384) (n := 2048) (φ := .bf16) (iblk2 V c 1 t) (fun k c => g (384 * 0 + k) c) := fun r k => by
  obtain ⟨-, ⟨i0, i1⟩, -⟩ := block_index t
  unfold iblk2
  rw [View.read_apply]
  show V c main_v2 _ = _
  rw [hv]
  show g (win2_1.index t 0 * 384 + 1 * r.val) (win2_1.index t 1 * 2048 + 1 * k.val) = _
  rw [i0, i1]
  refine congrArg₂ g ?_ ?_ <;> omega

/-- The query up projection's input's gradient. -/
theorem final (h0 : V c main_v4 = ofFn (m := 2048) (n := 2048) (φ := .bf16) f)
    (h1 : V c main_v2 = ofFn (m := 384) (n := 2048) (φ := .bf16) g) :
    (dat2 V c).arrAt 2 cfg2.N = ofFn (m := 2048) (n := 384) (φ := .f32) (gradA 2048 f g) := by
  refine (dat2 V c).arrAt_eq_of_covers 2 _ (by decide +kernel) fun t hf y => ?_
  obtain ⟨-, -, ⟨i0, i1⟩⟩ := block_index t
  obtain ⟨r, k, rfl⟩ : ∃ (r : Fin 512) (k : Fin 384), y = ix2 r k := ⟨_, _, eq_ix2 y⟩
  have e : (dat2 V c).after 2 t = k2_pay1 (iblk2 V c 0 t) (iblk2 V c 1 t) := by
    rw [after2_2]
    unfold out2_2
    rw [View.ld_unit_zero (S := S512x2048) (by decide), View.ld_unit_zero (S := S384x2048) (by decide)]
    exact View.canon_unit_zero (S := S512x384) (by decide) _ _
  refine (congrFun e (ix2 r k)).trans ?_
  refine (pay (blk0 h0 t) (blk1 h1 t) r k).trans ?_
  show _ = gradA 2048 f g (win2_2.index t 0 * 512 + 1 * r.val) (win2_2.index t 1 * 384 + 1 * k.val)
  rw [i0, i1, show t.val * 512 + 1 * r.val = 512 * t.val + r.val by omega,
    show 0 * 384 + 1 * k.val = 384 * 0 + k.val by omega]
  rfl

end Cert.MlaUpIdeal.Region2
-- ==== Proof.MlaUpRegion3.lean ====
module

public import proofs.«01_k».proof.Proof.Gen.MlaUpIdeal.Frame
public import proofs.«01_k».proof.Proof.LinReal
public import Idealize.ShloMosaic.Lib.Pipeline.ValueKit

/-! # The fourth call: the key and value up projection's output -/

@[expose] public section

set_option maxRecDepth 16384

noncomputable section

namespace Cert.MlaUpIdeal.Region3

open Cert.MlaUpIdeal Cert.MlaUpIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid3.N,
    (win3_0.index t 0 = t.val / 2 ∧ win3_0.index t 1 = 0)
    ∧ (win3_1.index t 0 = 0 ∧ win3_1.index t 1 = t.val % 2)
    ∧ (win3_2.index t 0 = t.val / 2 ∧ win3_2.index t 1 = t.val % 2) := by
  decide +kernel

/-- What the body stores, from the blocks it loads. -/
theorem pay {x0 : FVec Ideal S512x256 .bf16} {x1 : FVec Ideal S256x1024 .bf16} {a b : ℕ → ℕ → EReal}
    (h0 : Is (m := 512) (n := 256) (φ := .bf16) x0 a) (h1 : Is (m := 256) (n := 1024) (φ := .bf16) x1 b) :
    Is (m := 512) (n := 1024) (φ := .bf16) (k3_pay1 (F := Ideal) x0 x1) (out 256 a b) :=
  (nn _ _ (h0.same shapeCasts_S512x256_S512x256) (h1.same shapeCasts_S256x1024_S256x1024)).cut bitsLt_bf16_f32

variable {V} {c} {f g : ℕ → ℕ → EReal}

/-- The first factor's block at a point of the grid. -/
theorem blk0 (hv : V c main_v6 = ofFn (m := 2048) (n := 256) (φ := .bf16) f) (t : Fin cfg3.N) :
    Is (m := 512) (n := 256) (φ := .bf16) (iblk3 V c 0 t) (fun r k => f (512 * (t.val / 2) + r) k) := fun r k => by
  obtain ⟨⟨i0, i1⟩, -⟩ := block_index t
  unfold iblk3
  rw [View.read_apply]
  show V c main_v6 _ = _
  rw [hv]
  show f (win3_0.index t 0 * 512 + 1 * r.val) (win3_0.index t 1 * 256 + 1 * k.val) = _
  rw [i0, i1]
  refine congrArg₂ f ?_ ?_ <;> omega

/-- The second factor's block at a point of the grid. -/
theorem blk1 (hv : V c main_v7 = ofFn (m := 256) (n := 2048) (φ := .bf16) g) (t : Fin cfg3.N) :
    Is (m := 256) (n := 1024) (φ := .bf16) (iblk3 V c 1 t) (fun k c => g k (1024 * (t.val % 2) + c)) := fun r k => by
  obtain ⟨-, ⟨i0, i1⟩, -⟩ := block_index t
  unfold iblk3
  rw [View.read_apply]
  show V c main_v7 _ = _
  rw [hv]
  show g (win3_1.index t 0 * 256 + 1 * r.val) (win3_1.index t 1 * 1024 + 1 * k.val) = _
  rw [i0, i1]
  refine congrArg₂ g ?_ ?_ <;> omega

/-- The key and value up projection's output. -/
theorem final (h0 : V c main_v6 = ofFn (m := 2048) (n := 256) (φ := .bf16) f)
    (h1 : V c main_v7 = ofFn (m := 256) (n := 2048) (φ := .bf16) g) :
    (dat3 V c).arrAt 2 cfg3.N = ofFn (m := 2048) (n := 2048) (φ := .bf16) (out 256 f g) := by
  refine (dat3 V c).arrAt_eq_of_covers 2 _ (by decide +kernel) fun t hf y => ?_
  obtain ⟨-, -, ⟨i0, i1⟩⟩ := block_index t
  obtain ⟨r, k, rfl⟩ : ∃ (r : Fin 512) (k : Fin 1024), y = ix2 r k := ⟨_, _, eq_ix2 y⟩
  have e : (dat3 V c).after 2 t = k3_pay1 (iblk3 V c 0 t) (iblk3 V c 1 t) := by
    rw [after3_2]
    unfold out3_2
    rw [View.ld_unit_zero (S := S512x256) (by decide), View.ld_unit_zero (S := S256x1024) (by decide)]
    exact View.canon_unit_zero (S := S512x1024) (by decide) _ _
  refine (congrFun e (ix2 r k)).trans ?_
  refine (pay (blk0 h0 t) (blk1 h1 t) r k).trans ?_
  show _ = out 256 f g (win3_2.index t 0 * 512 + 1 * r.val) (win3_2.index t 1 * 1024 + 1 * k.val)
  rw [i0, i1, show t.val / 2 * 512 + 1 * r.val = 512 * (t.val / 2) + r.val by omega,
    show t.val % 2 * 1024 + 1 * k.val = 1024 * (t.val % 2) + k.val by omega]
  rfl

end Cert.MlaUpIdeal.Region3
-- ==== Proof.MlaUpRegion4.lean ====
module

public import proofs.«01_k».proof.Proof.Gen.MlaUpIdeal.Frame
public import proofs.«01_k».proof.Proof.LinReal
public import Idealize.ShloMosaic.Lib.Pipeline.ValueKit

/-! # The fifth call: the key and value up projection's weight's gradient -/

@[expose] public section

set_option maxRecDepth 16384

noncomputable section

namespace Cert.MlaUpIdeal.Region4

open Cert.MlaUpIdeal Cert.MlaUpIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid4.N,
    (win4_0.index t 0 = 0 ∧ win4_0.index t 1 = 0)
    ∧ (win4_1.index t 0 = 0 ∧ win4_1.index t 1 = t.val)
    ∧ (win4_2.index t 0 = 0 ∧ win4_2.index t 1 = t.val) := by
  decide +kernel

/-- What the body stores, from the blocks it loads. -/
theorem pay {x0 : FVec Ideal S2048x256 .bf16} {x1 : FVec Ideal S2048x1024 .f32} {a b : ℕ → ℕ → EReal}
    (h0 : Is (m := 2048) (n := 256) (φ := .bf16) x0 a) (h1 : Is (m := 2048) (n := 1024) (φ := .f32) x1 b) :
    Is (m := 256) (n := 1024) (φ := .bf16) (k4_pay1 (F := Ideal) x0 x1) (gradW a b) :=
  (tn _ _ (h0.same shapeCasts_S2048x256_S2048x256) ((h1.same shapeCasts_S2048x1024_S2048x1024).cut bitsLt_bf16_f32)).cut bitsLt_bf16_f32

variable {V} {c} {f g : ℕ → ℕ → EReal}

/-- The first factor's block at a point of the grid. -/
theorem blk0 (hv : V c main_v6 = ofFn (m := 2048) (n := 256) (φ := .bf16) f) (t : Fin cfg4.N) :
    Is (m := 2048) (n := 256) (φ := .bf16) (iblk4 V c 0 t) (fun r k => f r (256 * 0 + k)) := fun r k => by
  obtain ⟨⟨i0, i1⟩, -⟩ := block_index t
  unfold iblk4
  rw [View.read_apply]
  show V c main_v6 _ = _
  rw [hv]
  show f (win4_0.index t 0 * 2048 + 1 * r.val) (win4_0.index t 1 * 256 + 1 * k.val) = _
  rw [i0, i1]
  refine congrArg₂ f ?_ ?_ <;> omega

/-- The second factor's block at a point of the grid. -/
theorem blk1 (hv : V c main_v8 = ofFn (m := 2048) (n := 2048) (φ := .f32) g) (t : Fin cfg4.N) :
    Is (m := 2048) (n := 1024) (φ := .f32) (iblk4 V c 1 t) (fun r c => g r (1024 * t.val + c)) := fun r k => by
  obtain ⟨-, ⟨i0, i1⟩, -⟩ := block_index t
  unfold iblk4
  rw [View.read_apply]
  show V c main_v8 _ = _
  rw [hv]
  show g (win4_1.index t 0 * 2048 + 1 * r.val) (win4_1.index t 1 * 1024 + 1 * k.val) = _
  rw [i0, i1]
  refine congrArg₂ g ?_ ?_ <;> omega

/-- The key and value up projection's weight's gradient. -/
theorem final (h0 : V c main_v6 = ofFn (m := 2048) (n := 256) (φ := .bf16) f)
    (h1 : V c main_v8 = ofFn (m := 2048) (n := 2048) (φ := .f32) g) :
    (dat4 V c).arrAt 2 cfg4.N = ofFn (m := 256) (n := 2048) (φ := .bf16) (gradW f g) := by
  refine (dat4 V c).arrAt_eq_of_covers 2 _ (by decide +kernel) fun t hf y => ?_
  obtain ⟨-, -, ⟨i0, i1⟩⟩ := block_index t
  obtain ⟨r, k, rfl⟩ : ∃ (r : Fin 256) (k : Fin 1024), y = ix2 r k := ⟨_, _, eq_ix2 y⟩
  have e : (dat4 V c).after 2 t = k4_pay1 (iblk4 V c 0 t) (iblk4 V c 1 t) := by
    rw [after4_2]
    unfold out4_2
    rw [View.ld_unit_zero (S := S2048x256) (by decide), View.ld_unit_zero (S := S2048x1024) (by decide)]
    exact View.canon_unit_zero (S := S256x1024) (by decide) _ _
  refine (congrFun e (ix2 r k)).trans ?_
  refine (pay (blk0 h0 t) (blk1 h1 t) r k).trans ?_
  show _ = gradW f g (win4_2.index t 0 * 256 + 1 * r.val) (win4_2.index t 1 * 1024 + 1 * k.val)
  rw [i0, i1, show 0 * 256 + 1 * r.val = 256 * 0 + r.val by omega,
    show t.val * 1024 + 1 * k.val = 1024 * t.val + k.val by omega]
  rfl

end Cert.MlaUpIdeal.Region4
-- ==== Proof.MlaUpRegion5.lean ====
module

public import proofs.«01_k».proof.Proof.Gen.MlaUpIdeal.Frame
public import proofs.«01_k».proof.Proof.LinReal
public import Idealize.ShloMosaic.Lib.Pipeline.ValueKit

/-! # The sixth call: the key and value up projection's input's gradient -/

@[expose] public section

set_option maxRecDepth 16384

noncomputable section

namespace Cert.MlaUpIdeal.Region5

open Cert.MlaUpIdeal Cert.MlaUpIdeal.Gen
open Idealize.ShloMosaic hiding ix2 eq_ix2 ix3 eq_ix3
open Idealize.ShloMosaic.TcCoe
open Idealize.SL.Sem
open Idealize.ShloMosaic.ValueIdx
open Idealize.ShloMosaic.Pipeline (Dat)
open Cert.Lin

variable (V : (c : Dev nD) → (b : Ref sig .tc) → Buf (Elt Ideal) ((c : Thread nD τ).loc b)) (c : Dev nD)

/-- The blocks at a point of the grid. -/
theorem block_index : ∀ t : Fin grid5.N,
    (win5_0.index t 0 = t.val ∧ win5_0.index t 1 = 0)
    ∧ (win5_1.index t 0 = 0 ∧ win5_1.index t 1 = 0)
    ∧ (win5_2.index t 0 = t.val ∧ win5_2.index t 1 = 0) := by
  decide +kernel

/-- What the body stores, from the blocks it loads. -/
theorem pay {x0 : FVec Ideal S512x2048 .f32} {x1 : FVec Ideal S256x2048 .bf16} {a b : ℕ → ℕ → EReal}
    (h0 : Is (m := 512) (n := 2048) (φ := .f32) x0 a) (h1 : Is (m := 256) (n := 2048) (φ := .bf16) x1 b) :
    Is (m := 512) (n := 256) (φ := .f32) (k5_pay1 (F := Ideal) x0 x1) (gradA 2048 a b) :=
  nt _ _ ((h0.same shapeCasts_S512x2048_S512x2048).cut bitsLt_bf16_f32) (h1.same shapeCasts_S256x2048_S256x2048)

variable {V} {c} {f g : ℕ → ℕ → EReal}

/-- The first factor's block at a point of the grid. -/
theorem blk0 (hv : V c main_v8 = ofFn (m := 2048) (n := 2048) (φ := .f32) f) (t : Fin cfg5.N) :
    Is (m := 512) (n := 2048) (φ := .f32) (iblk5 V c 0 t) (fun r c => f (512 * t.val + r) c) := fun r k => by
  obtain ⟨⟨i0, i1⟩, -⟩ := block_index t
  unfold iblk5
  rw [View.read_apply]
  show V c main_v8 _ = _
  rw [hv]
  show f (win5_0.index t 0 * 512 + 1 * r.val) (win5_0.index t 1 * 2048 + 1 * k.val) = _
  rw [i0, i1]
  refine congrArg₂ f ?_ ?_ <;> omega

/-- The second factor's block at a point of the grid. -/
theorem blk1 (hv : V c main_v7 = ofFn (m := 256) (n := 2048) (φ := .bf16) g) (t : Fin cfg5.N) :
    Is (m := 256) (n := 2048) (φ := .bf16) (iblk5 V c 1 t) (fun k c => g (256 * 0 + k) c) := fun r k => by
  obtain ⟨-, ⟨i0, i1⟩, -⟩ := block_index t
  unfold iblk5
  rw [View.read_apply]
  show V c main_v7 _ = _
  rw [hv]
  show g (win5_1.index t 0 * 256 + 1 * r.val) (win5_1.index t 1 * 2048 + 1 * k.val) = _
  rw [i0, i1]
  refine congrArg₂ g ?_ ?_ <;> omega

/-- The key and value up projection's input's gradient. -/
theorem final (h0 : V c main_v8 = ofFn (m := 2048) (n := 2048) (φ := .f32) f)
    (h1 : V c main_v7 = ofFn (m := 256) (n := 2048) (φ := .bf16) g) :
    (dat5 V c).arrAt 2 cfg5.N = ofFn (m := 2048) (n := 256) (φ := .f32) (gradA 2048 f g) := by
  refine (dat5 V c).arrAt_eq_of_covers 2 _ (by decide +kernel) fun t hf y => ?_
  obtain ⟨-, -, ⟨i0, i1⟩⟩ := block_index t
  obtain ⟨r, k, rfl⟩ : ∃ (r : Fin 512) (k : Fin 256), y = ix2 r k := ⟨_, _, eq_ix2 y⟩
  have e : (dat5 V c).after 2 t = k5_pay1 (iblk5 V c 0 t) (iblk5 V c 1 t) := by
    rw [after5_2]
    unfold out5_2
    rw [View.ld_unit_zero (S := S512x2048) (by decide), View.ld_unit_zero (S := S256x2048) (by decide)]
    exact View.canon_unit_zero (S := S512x256) (by decide) _ _
  refine (congrFun e (ix2 r k)).trans ?_
  refine (pay (blk0 h0 t) (blk1 h1 t) r k).trans ?_
  show _ = gradA 2048 f g (win5_2.index t 0 * 512 + 1 * r.val) (win5_2.index t 1 * 256 + 1 * k.val)
  rw [i0, i1, show t.val * 512 + 1 * r.val = 512 * t.val + r.val by omega,
    show 0 * 256 + 1 * k.val = 256 * 0 + k.val by omega]
  rfl

end Cert.MlaUpIdeal.Region5
-- ==== Proof.MlaUpResult.lean ====
module

public import proofs.«01_k».proof.Proof.MlaUpHost
public import proofs.«01_k».proof.Proof.MlaUpRegion0
public import proofs.«01_k».proof.Proof.MlaUpRegion1
public import proofs.«01_k».proof.Proof.MlaUpRegion2
public import proofs.«01_k».proof.Proof.MlaUpRegion3
public import proofs.«01_k».proof.Proof.MlaUpRegion4
public import proofs.«01_k».proof.Proof.MlaUpRegion5

/-! # The six calls of the attention layer's up projections in a row

    What each array holds after each call, from the contents the host lines leave: a call's output by its own theorem,
    every other array as the call found it. -/

@[expose] public section

set_option maxRecDepth 16384

noncomputable section

namespace Cert.MlaUpIdeal.Result

open Cert.MlaUpIdeal Cert.MlaUpIdeal.Gen
open Idealize.ShloMosaic Idealize.ShloMosaic.TcCoe
open Cert.Lin

variable (m : (ℓ : Loc nD τ sig) → Buf (Elt Ideal) ℓ) (ρ : Dev nD → PrngReg) (c : Dev nD)

/-! ## Arrays that a call does not write -/

/-- The first call does not write the array. -/
abbrev Kept0 (r : Ref sig .tc) : Prop := ∀ w : Fin cfg0.W, Pipeline.arrRef spec0 w = r → (cfg0.win w).isOut = false
/-- The second call does not write the array. -/
abbrev Kept1 (r : Ref sig .tc) : Prop := ∀ w : Fin cfg1.W, Pipeline.arrRef spec1 w = r → (cfg1.win w).isOut = false
/-- The third call does not write the array. -/
abbrev Kept2 (r : Ref sig .tc) : Prop := ∀ w : Fin cfg2.W, Pipeline.arrRef spec2 w = r → (cfg2.win w).isOut = false
/-- The fourth call does not write the array. -/
abbrev Kept3 (r : Ref sig .tc) : Prop := ∀ w : Fin cfg3.W, Pipeline.arrRef spec3 w = r → (cfg3.win w).isOut = false
/-- The fifth call does not write the array. -/
abbrev Kept4 (r : Ref sig .tc) : Prop := ∀ w : Fin cfg4.W, Pipeline.arrRef spec4 w = r → (cfg4.win w).isOut = false
/-- The sixth call does not write the array. -/
abbrev Kept5 (r : Ref sig .tc) : Prop := ∀ w : Fin cfg5.W, Pipeline.arrRef spec5 w = r → (cfg5.win w).isOut = false

variable (r : Ref sig .tc)

/-- An array that the first call does not write, after it. -/
theorem to2 (h0 : Kept0 r := by decide) : W2 m ρ c (Proc.devRef .tc r) = W1 m ρ c (Proc.devRef .tc r) :=
  W2_of m ρ c r h0
/-- An array that the first two calls do not write, after them. -/
theorem to3 (h0 : Kept0 r := by decide) (h1 : Kept1 r := by decide) : W3 m ρ c (Proc.devRef .tc r) = W1 m ρ c (Proc.devRef .tc r) :=
  (W3_of m ρ c r h1).trans (to2 m ρ c r h0)
/-- An array that the first three calls do not write, after them. -/
theorem to4 (h0 : Kept0 r := by decide) (h1 : Kept1 r := by decide) (h2 : Kept2 r := by decide) : W4 m ρ c (Proc.devRef .tc r) = W1 m ρ c (Proc.devRef .tc r) :=
  (W4_of m ρ c r h2).trans (to3 m ρ c r h0 h1)
/-- An array that the first four calls do not write, after them. -/
theorem to5 (h0 : Kept0 r := by decide) (h1 : Kept1 r := by decide) (h2 : Kept2 r := by decide) (h3 : Kept3 r := by decide) : W5 m ρ c (Proc.devRef .tc r) = W1 m ρ c (Proc.devRef .tc r) :=
  (W5_of m ρ c r h3).trans (to4 m ρ c r h0 h1 h2)
/-- An array that the first five calls do not write, after them. -/
theorem to6 (h0 : Kept0 r := by decide) (h1 : Kept1 r := by decide) (h2 : Kept2 r := by decide) (h3 : Kept3 r := by decide) (h4 : Kept4 r := by decide) : W6 m ρ c (Proc.devRef .tc r) = W1 m ρ c (Proc.devRef .tc r) :=
  (W6_of m ρ c r h4).trans (to5 m ρ c r h0 h1 h2 h3)
/-- An array that the sixth call does not write, after it. -/
theorem from6 (h5 : Kept5 r := by decide) : W7 m ρ c (Proc.devRef .tc r) = W6 m ρ c (Proc.devRef .tc r) :=
  W7_of m ρ c r h5
/-- An array that the calls after the fourth do not write, after the last. -/
theorem from5 (h4 : Kept4 r := by decide) (h5 : Kept5 r := by decide) : W7 m ρ c (Proc.devRef .tc r) = W5 m ρ c (Proc.devRef .tc r) :=
  (from6 m ρ c r h5).trans (W6_of m ρ c r h4)
/-- An array that the calls after the third do not write, after the last. -/
theorem from4 (h3 : Kept3 r := by decide) (h4 : Kept4 r := by decide) (h5 : Kept5 r := by decide) : W7 m ρ c (Proc.devRef .tc r) = W4 m ρ c (Proc.devRef .tc r) :=
  (from5 m ρ c r h4 h5).trans (W5_of m ρ c r h3)
/-- An array that the calls after the second do not write, after the last. -/
theorem from3 (h2 : Kept2 r := by decide) (h3 : Kept3 r := by decide) (h4 : Kept4 r := by decide) (h5 : Kept5 r := by decide) : W7 m ρ c (Proc.devRef .tc r) = W3 m ρ c (Proc.devRef .tc r) :=
  (from4 m ρ c r h3 h4 h5).trans (W4_of m ρ c r h2)
/-- An array that the calls after the first do not write, after the last. -/
theorem from2 (h1 : Kept1 r := by decide) (h2 : Kept2 r := by decide) (h3 : Kept3 r := by decide) (h4 : Kept4 r := by decide) (h5 : Kept5 r := by decide) : W7 m ρ c (Proc.devRef .tc r) = W2 m ρ c (Proc.devRef .tc r) :=
  (from3 m ρ c r h2 h3 h4 h5).trans (W3_of m ρ c r h1)

/-! ## The results -/

/-- After the first call: the query up projection's output. -/
theorem at2_r0 : W2 m ρ c (Proc.devRef .tc main_v9) = ofFn (m := 2048) (n := 2048) (φ := .f32) (out 384 (fn1 (x0 m c)) (fn2 (x1 m c))) :=
  (W2_arr m ρ c 2).trans (Region0.final (in0 m ρ c) (in1 m ρ c))
/-- After the second call: the query up projection's weight's gradient. -/
theorem at3_r1 : W3 m ρ c (Proc.devRef .tc main_v10) = ofFn (m := 384) (n := 2048) (φ := .bf16) (gradW (fn1 (x0 m c)) (fn1 (x2 m c))) :=
  (W3_arr m ρ c 2).trans (Region1.final ((to2 m ρ c main_v1).trans (in0 m ρ c)) ((to2 m ρ c main_v4).trans (in2 m ρ c)))
/-- After the third call: the query up projection's input's gradient. -/
theorem at4_r2 : W4 m ρ c (Proc.devRef .tc main_v11) = ofFn (m := 2048) (n := 384) (φ := .f32) (gradA 2048 (fn1 (x2 m c)) (fn2 (x1 m c))) :=
  (W4_arr m ρ c 2).trans (Region2.final ((to3 m ρ c main_v4).trans (in2 m ρ c)) ((to3 m ρ c main_v2).trans (in1 m ρ c)))
/-- After the fourth call: the key and value up projection's output. -/
theorem at5_r3 : W5 m ρ c (Proc.devRef .tc main_v12) = ofFn (m := 2048) (n := 2048) (φ := .bf16) (out 256 (fn1 (x3 m c)) (fn2 (x4 m c))) :=
  (W5_arr m ρ c 2).trans (Region3.final ((to4 m ρ c main_v6).trans (in3 m ρ c)) ((to4 m ρ c main_v7).trans (in4 m ρ c)))
/-- After the fifth call: the key and value up projection's weight's gradient. -/
theorem at6_r4 : W6 m ρ c (Proc.devRef .tc main_v13) = ofFn (m := 256) (n := 2048) (φ := .bf16) (gradW (fn1 (x3 m c)) (fn1 (x5 m c))) :=
  (W6_arr m ρ c 2).trans (Region4.final ((to5 m ρ c main_v6).trans (in3 m ρ c)) ((to5 m ρ c main_v8).trans (in5 m ρ c)))
/-- After the sixth call: the key and value up projection's input's gradient. -/
theorem at7_r5 : W7 m ρ c (Proc.devRef .tc main_v14) = ofFn (m := 2048) (n := 256) (φ := .f32) (gradA 2048 (fn1 (x5 m c)) (fn2 (x4 m c))) :=
  (W7_arr m ρ c 2).trans (Region5.final ((to6 m ρ c main_v8).trans (in5 m ρ c)) ((to6 m ρ c main_v7).trans (in4 m ρ c)))
/-- After the last call: the query up projection's output. -/
theorem at7_r0 : W7 m ρ c (Proc.devRef .tc main_v9) = ofFn (m := 2048) (n := 2048) (φ := .f32) (out 384 (fn1 (x0 m c)) (fn2 (x1 m c))) :=
  (from2 m ρ c main_v9).trans (at2_r0 m ρ c)
/-- After the last call: the query up projection's weight's gradient. -/
theorem at7_r1 : W7 m ρ c (Proc.devRef .tc main_v10) = ofFn (m := 384) (n := 2048) (φ := .bf16) (gradW (fn1 (x0 m c)) (fn1 (x2 m c))) :=
  (from3 m ρ c main_v10).trans (at3_r1 m ρ c)
/-- After the last call: the query up projection's input's gradient. -/
theorem at7_r2 : W7 m ρ c (Proc.devRef .tc main_v11) = ofFn (m := 2048) (n := 384) (φ := .f32) (gradA 2048 (fn1 (x2 m c)) (fn2 (x1 m c))) :=
  (from4 m ρ c main_v11).trans (at4_r2 m ρ c)
/-- After the last call: the key and value up projection's output. -/
theorem at7_r3 : W7 m ρ c (Proc.devRef .tc main_v12) = ofFn (m := 2048) (n := 2048) (φ := .bf16) (out 256 (fn1 (x3 m c)) (fn2 (x4 m c))) :=
  (from5 m ρ c main_v12).trans (at5_r3 m ρ c)
/-- After the last call: the key and value up projection's weight's gradient. -/
theorem at7_r4 : W7 m ρ c (Proc.devRef .tc main_v13) = ofFn (m := 256) (n := 2048) (φ := .bf16) (gradW (fn1 (x3 m c)) (fn1 (x5 m c))) :=
  (from6 m ρ c main_v13).trans (at6_r4 m ρ c)

end Cert.MlaUpIdeal.Result
-- ==== Proof.MlaUpReference.lean ====
module

public import proofs.«01_k».proof.Proof.LinReal
public import proofs.«01_k».proof.Proof.Gen.MlaUpReferenceIdeal.Read

/-! # The reference of the attention layer's up projections

    The two layers' plain formulation and its differentiation, as sums of products. -/

@[expose] public section

set_option maxRecDepth 16384

noncomputable section

namespace Cert.MlaUpReferenceIdeal.Stages

open Cert.MlaUpReferenceIdeal Cert.MlaUpReferenceIdeal.Gen Cert.MlaUpReferenceIdeal.Read
open Idealize.ShloMosaic Idealize.ShloMosaic.ValueIdx
open Cert.Lin

variable {x0 : FVec Ideal S1x2048x384 .f32} {x1 : FVec Ideal S384x2048 .f32} {x2 : FVec Ideal S1x2048x2048 .f32}
  {x3 : FVec Ideal S1x2048x256 .f32} {x4 : FVec Ideal S256x2048 .f32} {x5 : FVec Ideal S1x2048x2048 .f32}

/-- The query up projection's output. -/
theorem res0 : val_main_v4 (F := Ideal) x0 x1 = ofFn (m := 2048) (n := 2048) (φ := .f32) (out 384 (fn1 x0) (fn2 x1)) := by
  have h : Is (m := 2048) (n := 2048) (φ := .f32) (val_main_v4 (F := Ideal) x0 x1) (out 384 (fn1 x0) (fn2 x1)) := by
    unfold val_main_v4 val_main_v0
    exact (times _ (is_fn1 x0) (is_fn2 x1)).drop shapeCasts_S1x2048x2048_S2048x2048
  exact h.eq

/-- The query up projection's weight's gradient. -/
theorem res1 : val_main_v5 (F := Ideal) x0 x2 = ofFn (m := 384) (n := 2048) (φ := .bf16) (gradW (fn1 x0) (fn1 x2)) := by
  have h : Is (m := 384) (n := 2048) (φ := .bf16) (val_main_v5 (F := Ideal) x0 x2) (gradW (fn1 x0) (fn1 x2)) := by
    unfold val_main_v5 val_main_v2 val_main_v1
    exact Is.cut bitsLt_bf16_f32 (Is.exchanged transposes_S2048x384_S384x2048_1_0 (over_rows _ (is_fn1 x2) (is_fn1 x0)))
  exact h.eq

/-- The query up projection's input's gradient. -/
theorem res2 : val_main_v6 (F := Ideal) x1 x2 = ofFn (m := 2048) (n := 384) (φ := .f32) (gradA 2048 (fn1 x2) (fn2 x1)) := by
  have h : Is (m := 2048) (n := 384) (φ := .f32) (val_main_v6 (F := Ideal) x1 x2) (gradA 2048 (fn1 x2) (fn2 x1)) := by
    unfold val_main_v6 val_main_v3
    exact (timesT _ (is_fn1 x2) (is_fn2 x1)).drop shapeCasts_S1x2048x384_S2048x384
  exact h.eq

/-- The key and value up projection's output. -/
theorem res3 : val_main_v12 (F := Ideal) x3 x4 = ofFn (m := 2048) (n := 2048) (φ := .bf16) (out 256 (fn1 x3) (fn2 x4)) := by
  have h : Is (m := 2048) (n := 2048) (φ := .bf16) (val_main_v12 (F := Ideal) x3 x4) (out 256 (fn1 x3) (fn2 x4)) := by
    unfold val_main_v12 val_main_v11 val_main_v7
    exact Is.cut bitsLt_bf16_f32 ((times _ (is_fn1 x3) (is_fn2 x4)).drop shapeCasts_S1x2048x2048_S2048x2048)
  exact h.eq

/-- The key and value up projection's weight's gradient. -/
theorem res4 : val_main_v13 (F := Ideal) x3 x5 = ofFn (m := 256) (n := 2048) (φ := .bf16) (gradW (fn1 x3) (fn1 x5)) := by
  have h : Is (m := 256) (n := 2048) (φ := .bf16) (val_main_v13 (F := Ideal) x3 x5) (gradW (fn1 x3) (fn1 x5)) := by
    unfold val_main_v13 val_main_v9 val_main_v8
    exact Is.cut bitsLt_bf16_f32 (Is.exchanged transposes_S2048x256_S256x2048_1_0 (over_rows _ (is_fn1 x5) (is_fn1 x3)))
  exact h.eq

/-- The key and value up projection's input's gradient. -/
theorem res5 : val_main_v14 (F := Ideal) x4 x5 = ofFn (m := 2048) (n := 256) (φ := .f32) (gradA 2048 (fn1 x5) (fn2 x4)) := by
  have h : Is (m := 2048) (n := 256) (φ := .f32) (val_main_v14 (F := Ideal) x4 x5) (gradA 2048 (fn1 x5) (fn2 x4)) := by
    unfold val_main_v14 val_main_v10
    exact (timesT _ (is_fn1 x5) (is_fn2 x4)).drop shapeCasts_S1x2048x256_S2048x256
  exact h.eq

end Cert.MlaUpReferenceIdeal.Stages
-- ==== Proof.ConvReal.lean ====
module

public import proofs.«01_k».proof.Proof.FfnLayer
public import Idealize.ShloMosaic.Lib.WordCmp

/-! # The gradient of a short causal convolution over the reals

    Every column of a sequence is convolved with four weights, passed through `x ↦ x · sg x`, and the columns of the
    first two thirds are normalised in heads of 128.  `Conv` holds the sequence, the weights and the incoming gradient by
    row and column, and names the real functions its gradient is made of. -/

@[expose] public section

set_option maxRecDepth 16384

noncomputable section

namespace Cert.ConvMath

open Idealize.ShloMosaic Idealize.ShloMosaic.ValueIdx
open Cert.Attn (Rep coe_sum_fin)
open Cert.FfnMath
open scoped BigOperators
open Finset (range)

/-- The rows `k` later, zeros in front. -/
def lag (X : ℕ → ℕ → ℝ) (k t c : ℕ) : ℝ := if k ≤ t then X (t - k) c else 0
/-- The rows `k` earlier, zeros behind. -/
def lead (D : ℕ → ℕ → ℝ) (k t c : ℕ) : ℝ := if t + k < 2048 then D (t + k) c else 0

/-- No lag. -/
theorem lag_zero (X : ℕ → ℕ → ℝ) (t c : ℕ) : lag X 0 t c = X t c := if_pos (Nat.zero_le t)

/-- The small number added to a sum of squares. -/
def eps : ℝ := (Ideal.ofBits .f32 0x358637BD#32).toReal
/-- The factor of the first third's heads. -/
def scale : ℝ := (Ideal.ofBits .f32 0x3DB504F3#32).toReal

/-- The word of the small number. -/
theorem word_eps : Ideal.ofBits .f32 0x358637BD#32 = ((eps : ℝ) : EReal) := by
  unfold eps
  simp [Ideal.ofBits, Ideal.ieee, -EReal.coe_mul]
/-- The word of the scale. -/
theorem word_scale : Ideal.ofBits .f32 0x3DB504F3#32 = ((scale : ℝ) : EReal) := by
  unfold scale
  simp [Ideal.ofBits, Ideal.ieee, -EReal.coe_mul]
/-- The small number is positive. -/
theorem eps_pos : 0 < eps := by
  unfold eps
  simp [Ideal.ofBits, Ideal.ieee, -EReal.coe_mul]

/-- A sequence, its weights and the incoming gradient, by row and column. -/
structure Conv where
  X : ℕ → ℕ → ℝ
  W : ℕ → ℕ → ℝ
  Z : ℕ → ℕ → ℝ

namespace Conv
variable (P : Conv)
/-- The convolution. -/
def c (t d : ℕ) : ℝ := P.W 0 d * lag P.X 3 t d + P.W 1 d * lag P.X 2 t d + P.W 2 d * lag P.X 1 t d + P.W 3 d * P.X t d
/-- The convolution after its activation. -/
def y (t d : ℕ) : ℝ := P.c t d * sg (P.c t d)
/-- A head's sum of squares with the small number. -/
def q (t h : ℕ) : ℝ := ∑ e ∈ range 128, P.y t (128 * h + e) * P.y t (128 * h + e) + eps
/-- A head's product with the incoming gradient. -/
def p (t h : ℕ) : ℝ := ∑ e ∈ range 128, P.Z t (128 * h + e) * P.y t (128 * h + e)
/-- One over a head's norm. -/
def r (t h : ℕ) : ℝ := (Real.sqrt (P.q t h))⁻¹
/-- The gradient through a head's norm. -/
def gn (t d : ℕ) : ℝ := P.r t (d / 128) * P.Z t d - P.r t (d / 128) * P.r t (d / 128) * P.r t (d / 128) * P.y t d * P.p t (d / 128)
/-- The gradient of the activated convolution. -/
def dy (t d : ℕ) : ℝ := if d < 2048 then (if d < 1024 then scale else 1) * P.gn t d else P.Z t d
/-- The gradient of the convolution. -/
def dc (t d : ℕ) : ℝ := P.dy t d * (sg (P.c t d) * (1 + P.c t d * (1 - sg (P.c t d))))
/-- The gradient of the sequence. -/
def dx (t d : ℕ) : ℝ :=
  P.W 0 d * lead P.dc 3 t d + P.W 1 d * lead P.dc 2 t d + P.W 2 d * lead P.dc 1 t d + P.W 3 d * P.dc t d
/-- The gradient of the weights. -/
def dw (k d : ℕ) : ℝ := ∑ t ∈ range 2048, P.dc t d * lag P.X (3 - k) t d

/-- The sum of squares with it is positive. -/
theorem q_pos (t h : ℕ) : 0 < P.q t h :=
  add_pos_of_nonneg_of_pos (Finset.sum_nonneg fun _ _ => mul_self_nonneg _) eps_pos

/-- The cube of one over the norm. -/
theorem r_cube (t h : ℕ) : P.r t h / P.q t h = P.r t h * P.r t h * P.r t h := by
  have hs : P.r t h * P.r t h = (P.q t h)⁻¹ := by
    unfold r
    rw [← mul_inv, Real.mul_self_sqrt (P.q_pos t h).le]
  rw [hs, div_eq_mul_inv, mul_comm]
end Conv

/-! ## Operations on arrays of real functions -/

/-- One over the root of a positive real. -/
theorem rsqrt_pos {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 h.le), if_neg h.ne']

section
variable {m n : ℕ} {φ : FTy}

/-- Inverse roots of positive numbers. -/
theorem rep_rsqrt {A : FVec Ideal ⟨2, ![m, n]⟩ φ} {f : ℕ → ℕ → ℝ} (hA : Rep A f) (h : ∀ r c, 0 < f r c) :
    Rep (m := m) (n := n) (φ := φ) (rsqrt A) (fun r c => (Real.sqrt (f r c))⁻¹) := fun r c => by
  show Ideal.rsqrt (A (ix2 r c)) = _
  rw [hA, rsqrt_pos (h _ _)]

/-- One row repeated down the rows. -/
theorem rep_row (o : ℕ) (hs : Shape.Slices ⟨2, ![4, n]⟩ ![o, 0] ⟨2, ![1, n]⟩) (hb : Shape.Broadcasts ⟨2, ![1, n]⟩ ⟨2, ![m, n]⟩)
    (hn : n ≠ 1) (ho : o < 4) {A : FVec Ideal ⟨2, ![4, n]⟩ φ} {f : ℕ → ℕ → ℝ} (hA : Rep A f) :
    Rep (m := m) (n := n) (φ := φ) (broadcastTo ⟨2, ![m, n]⟩ (extractStridedSlice ⟨2, ![1, n]⟩ ![o, 0] A hs) hb) (fun _ c => f o c) :=
  fun r c => by
  rw [broadcastTo_apply _ hb (ix2 r c) (ix2 0 c)
    (fun a => by match a with
      | ⟨0, _⟩ => rfl
      | ⟨1, _⟩ => show c.val = if n = 1 then 0 else c.val; rw [if_neg hn]),
    extractStridedSlice_apply ![o, 0] A hs (ix2 0 c) (ix2 ⟨o, ho⟩ c)
    (fun a => by match a with
      | ⟨0, _⟩ => rfl
      | ⟨1, _⟩ => exact (Nat.zero_add _).symm)]
  exact hA _ _

/-- The sums down the columns, as a row. -/
theorem rep_colSum (h : Shape.Reduces ⟨2, ![m, n]⟩ [0] ⟨1, ![n]⟩) (hs : Shape.ShapeCasts ⟨1, ![n]⟩ ⟨2, ![1, n]⟩)
    (hφ : FKind.Formats .f32) (hz : (0x00000000#32 : BitVec 32) = FKind.add.neutral .f32 hφ)
    {A : FVec Ideal ⟨2, ![m, n]⟩ .f32} {f : ℕ → ℕ → ℝ} (hA : Rep A f) :
    Rep (m := 1) (n := n) (φ := .f32) (shapeCast ⟨2, ![1, n]⟩ (multiReduction (F := Ideal) .add [0] ⟨1, ![n]⟩ A 0x00000000#32 h hφ hz) hs)
      (fun _ c => ∑ k ∈ range m, f k c) := fun r c => by
  rw [shapeCast_apply _ hs (ix2 r c) (ix1 c) (by
    have : r.val = 0 := by omega
    rw [Shape.rowMajor_val_one, Shape.rowMajor_val_two]
    show c.val = r.val * n + c.val
    rw [this]
    omega)]
  rw [Ideal.multiReduction_add_single]
  show ∑ k : Fin m, A (h.lift (ix1 c) k) = _
  rw [← coe_sum_fin m (fun k => f k c.val)]
  refine Finset.sum_congr rfl fun k _ => ?_
  rw [← hA k c]
  congr 1
  funext a
  refine Fin.ext ?_
  match a with
  | ⟨0, _⟩ => rfl
  | ⟨1, _⟩ => rfl

/-- A choice by a bit that is known. -/
theorem select_of {α : Type} (p : Prop) [Decidable p] (a b : α) : Scalar.select (BitVec.ofBool (decide p)) a b = if p then a else b := by
  by_cases h : p <;> simp [Scalar.select, h]

/-- A rotated array at an index. -/
theorem rotated (k : BitVec 32) (h : Shape.Rotates ⟨2, ![2048, n]⟩ 0 none) {A : FVec Ideal ⟨2, ![2048, n]⟩ φ} {f : ℕ → ℕ → ℝ} (hA : Rep A f)
    (r : Fin 2048) (c : Fin n) :
    dynamicRotate 0 k none A h (ix2 r c) = ((f ((r.val + 2048 - k.toNat % 2048) % 2048) c.val : ℝ) : EReal) := by
  rw [← hA ⟨(r.val + 2048 - k.toNat % 2048) % 2048, Nat.mod_lt _ (by decide)⟩ c]
  show A _ = A _
  congr 1
  funext a
  refine Fin.ext ?_
  match a with
  | ⟨0, _⟩ => rfl
  | ⟨1, _⟩ => rfl

/-- The rows moved down by `k`. -/
theorem rep_lag (k : ℕ) (hk : k < 2048) (hi : Shape.Iotas ⟨2, ![2048, n]⟩ .tc 32 [0]) (h : Shape.Rotates ⟨2, ![2048, n]⟩ 0 none)
    {A : FVec Ideal ⟨2, ![2048, n]⟩ .f32} {f : ℕ → ℕ → ℝ} (hA : Rep A f) :
    Rep (m := 2048) (n := n) (φ := .f32)
      (select (cmpi .sge (iota .tc ⟨2, ![2048, n]⟩ 32 [0] hi) (broadcast ⟨2, ![2048, n]⟩ (BitVec.ofNat 32 k)))
        (dynamicRotate 0 (BitVec.ofNat 32 k) none A h) (broadcast ⟨2, ![2048, n]⟩ (Scalar.ofBits (F := Ideal) .f32 0x00000000#32)))
      (lag f k) := fun r c => by
  have hr := r.isLt
  have e : (BitVec.ofNat 32 k).toNat % 2048 = k := by rw [BitVec.toNat_ofNat]; omega
  show Scalar.select (IntOp.cmpi .sge (BitVec.ofNat 32 (0 * 2048 + r.val)) (BitVec.ofNat 32 k)) (dynamicRotate 0 (BitVec.ofNat 32 k) none A h (ix2 r c))
    (Ideal.ofBits .f32 0x00000000#32) = _
  rw [rotated _ h hA, e, Ideal.ofBits_zero_f32, WordCmp.cmpi_sge_ofNat (by omega) (by omega), select_of, Nat.zero_mul, Nat.zero_add]
  unfold lag
  by_cases hkr : k ≤ r.val
  · rw [if_pos hkr, if_pos hkr, show (r.val + 2048 - k) % 2048 = r.val - k by omega]
  · rw [if_neg hkr, if_neg hkr, EReal.coe_zero]

/-- The rows moved up by `k`, as a rotation by 2048 less. -/
theorem rep_lead (k j : ℕ) (hk : 0 < k) (hj : j + k = 2048) (hi : Shape.Iotas ⟨2, ![2048, n]⟩ .tc 32 [0]) (h : Shape.Rotates ⟨2, ![2048, n]⟩ 0 none)
    {A : FVec Ideal ⟨2, ![2048, n]⟩ .f32} {f : ℕ → ℕ → ℝ} (hA : Rep A f) :
    Rep (m := 2048) (n := n) (φ := .f32)
      (select (cmpi .slt (iota .tc ⟨2, ![2048, n]⟩ 32 [0] hi) (broadcast ⟨2, ![2048, n]⟩ (BitVec.ofNat 32 j)))
        (dynamicRotate 0 (BitVec.ofNat 32 j) none A h) (broadcast ⟨2, ![2048, n]⟩ (Scalar.ofBits (F := Ideal) .f32 0x00000000#32)))
      (lead f k) := fun r c => by
  have hr := r.isLt
  have e : (BitVec.ofNat 32 j).toNat % 2048 = j := by rw [BitVec.toNat_ofNat]; omega
  show Scalar.select (IntOp.cmpi .slt (BitVec.ofNat 32 (0 * 2048 + r.val)) (BitVec.ofNat 32 j)) (dynamicRotate 0 (BitVec.ofNat 32 j) none A h (ix2 r c))
    (Ideal.ofBits .f32 0x00000000#32) = _
  rw [rotated _ h hA, e, Ideal.ofBits_zero_f32, WordCmp.cmpi_slt_ofNat (by omega) (by omega), select_of, Nat.zero_mul, Nat.zero_add]
  unfold lead
  by_cases hkr : r.val < j
  · rw [if_pos hkr, if_pos (by omega), show (r.val + 2048 - j) % 2048 = r.val + k by omega]
  · rw [if_neg hkr, if_neg (by omega), EReal.coe_zero]
end

end Cert.ConvMath

end
-- ==== Proof.ConvBody.lean ====
module

public import proofs.«01_k».proof.Proof.ConvReal
public import proofs.«01_k».proof.Proof.Gen.GdnConvIdeal.Skeleton

/-! # The kernel's body over the reals

    The body at one block of 128 columns, from the block's part of the sequence, of the weights and of the incoming
    gradient.  Block `j` is head `j`. -/

@[expose] public section

set_option maxRecDepth 16384

noncomputable section

namespace Cert.GdnConvIdeal.Body

open Cert.GdnConvIdeal Cert.GdnConvIdeal.Gen
open Idealize.ShloMosaic Idealize.ShloMosaic.ValueIdx
open Cert.Attn (Rep)
open Cert.FfnMath Cert.ConvMath
open scoped BigOperators
open Finset (range)

/-- Block `j` of a function of row and column. -/
def blk (f : ℕ → ℕ → ℝ) (j t e : ℕ) : ℝ := f t (128 * j + e)

variable {P : Conv} {j : ℕ}

/-- A splat of the number one. -/
theorem one {m n : ℕ} : Rep (m := m) (n := n) (φ := .f32) (broadcast ⟨2, ![m, n]⟩ (Scalar.ofBits (F := Ideal) .f32 0x3F800000#32)) (fun _ _ => 1) :=
  Rep.splat _ 1 word_one
/-- A splat of the number zero. -/
theorem zero {m n : ℕ} : Rep (m := m) (n := n) (φ := .f32) (broadcast ⟨2, ![m, n]⟩ (Scalar.ofBits (F := Ideal) .f32 0x00000000#32)) (fun _ _ => 0) :=
  Rep.splat _ 0 (Ideal.ofBits_zero_f32.trans EReal.coe_zero.symm)

variable {x0 : FVec Ideal S2048x128 .f32} {x1 : FVec Ideal S4x128 .f32} {x2 : FVec Ideal S2048x128 .f32}

/-- The sequence, reshaped to itself. -/
theorem pay4 (h0 : Rep (m := 2048) (n := 128) (φ := .f32) x0 (blk P.X j)) :
    Rep (m := 2048) (n := 128) (φ := .f32) (k0_pay4 (F := Ideal) x0) (blk P.X j) := h0.same shapeCasts_S2048x128_S2048x128
/-- The weights, reshaped to themselves. -/
theorem pay5 (h1 : Rep (m := 4) (n := 128) (φ := .f32) x1 (blk P.W j)) :
    Rep (m := 4) (n := 128) (φ := .f32) (k0_pay5 (F := Ideal) x1) (blk P.W j) := h1.same shapeCasts_S4x128_S4x128
/-- The incoming gradient, reshaped to itself. -/
theorem pay6 (h2 : Rep (m := 2048) (n := 128) (φ := .f32) x2 (blk P.Z j)) :
    Rep (m := 2048) (n := 128) (φ := .f32) (k0_pay6 (F := Ideal) x2) (blk P.Z j) := h2.same shapeCasts_S2048x128_S2048x128

/-- The rows of a block moved down. -/
theorem down (k : ℕ) (hk : k < 2048) {A : FVec Ideal S2048x128 .f32} {f : ℕ → ℕ → ℝ} (hA : Rep (m := 2048) (n := 128) (φ := .f32) A (blk f j)) :
    Rep (m := 2048) (n := 128) (φ := .f32)
      (select (cmpi .sge (iota .tc S2048x128 32 [0] iota_S2048x128_d0_w32) (broadcast S2048x128 (BitVec.ofNat 32 k)))
        (dynamicRotate 0 (BitVec.ofNat 32 k) none A rotates_S2048x128_d0) (broadcast S2048x128 (Scalar.ofBits (F := Ideal) .f32 0x00000000#32)))
      (blk (lag f k) j) := rep_lag k hk iota_S2048x128_d0_w32 rotates_S2048x128_d0 hA

/-- The rows of a block moved up. -/
theorem up (k i : ℕ) (hk : 0 < k) (hi : i + k = 2048) {A : FVec Ideal S2048x128 .f32} {f : ℕ → ℕ → ℝ}
    (hA : Rep (m := 2048) (n := 128) (φ := .f32) A (blk f j)) :
    Rep (m := 2048) (n := 128) (φ := .f32)
      (select (cmpi .slt (iota .tc S2048x128 32 [0] iota_S2048x128_d0_w32) (broadcast S2048x128 (BitVec.ofNat 32 i)))
        (dynamicRotate 0 (BitVec.ofNat 32 i) none A rotates_S2048x128_d0) (broadcast S2048x128 (Scalar.ofBits (F := Ideal) .f32 0x00000000#32)))
      (blk (lead f k) j) := rep_lead k i hk hi iota_S2048x128_d0_w32 rotates_S2048x128_d0 hA

/-- A weight's row repeated. -/
theorem row (o : ℕ) (hs : Shape.Slices S4x128 ![o, 0] S1x128) (ho : o < 4) {A : FVec Ideal S4x128 .f32} {f : ℕ → ℕ → ℝ}
    (hA : Rep (m := 4) (n := 128) (φ := .f32) A (blk f j)) :
    Rep (m := 2048) (n := 128) (φ := .f32) (broadcastTo S2048x128 (extractStridedSlice S1x128 ![o, 0] A hs) broadcasts_S1x128_S2048x128)
      (fun _ e => f o (128 * j + e)) := rep_row o hs broadcasts_S1x128_S2048x128 (by decide) ho hA

/-- The convolution. -/
theorem pay7 (h0 : Rep (m := 2048) (n := 128) (φ := .f32) x0 (blk P.X j)) (h1 : Rep (m := 4) (n := 128) (φ := .f32) x1 (blk P.W j)) :
    Rep (m := 2048) (n := 128) (φ := .f32) (k0_pay7 (F := Ideal) x0 x1) (blk P.c j) :=
  ((((row 0 slices_S4x128_o0_0_S1x128 (by decide) (pay5 h1)).mul (down 3 (by decide) (pay4 h0))).add
    ((row 1 slices_S4x128_o1_0_S1x128 (by decide) (pay5 h1)).mul (down 2 (by decide) (pay4 h0)))).add
    ((row 2 slices_S4x128_o2_0_S1x128 (by decide) (pay5 h1)).mul (down 1 (by decide) (pay4 h0)))).add
    ((row 3 slices_S4x128_o3_0_S1x128 (by decide) (pay5 h1)).mul (pay4 h0))

/-- A number spread over a whole block by a scalar choice. -/
theorem scalar_select {α : Type} {s : Shape} (p : Prop) [Decidable p] (a b : s.Idx → α) (i : s.Idx) :
    (Scalar.select (BitVec.ofBool (decide p)) a b) i = if p then a i else b i := by
  rw [select_of]
  by_cases h : p
  · rw [if_pos h, if_pos h]
  · rw [if_neg h, if_neg h]

/-- A sum along the rows of a block, as a column repeated. -/
theorem head_sum {A : FVec Ideal S2048x128 .f32} {f : ℕ → ℕ → ℝ} (hA : Rep (m := 2048) (n := 128) (φ := .f32) A f) :
    Rep (m := 2048) (n := 1) (φ := .f32)
      (shapeCast S2048x1 (multiReduction (F := Ideal) .add [1] S2048 A 0x00000000#32 reduces_S2048x128_S2048 (.inl rfl) rfl) shapeCasts_S2048_S2048x1)
      (fun t _ => ∑ e ∈ range 128, f t e) := Rep.rowSum reduces_S2048x128_S2048 shapeCasts_S2048_S2048x1 (.inl rfl) rfl hA

/-- The gradient of the convolution. -/
theorem pay9 (hj : j < 24) (h2 : Rep (m := 2048) (n := 128) (φ := .f32) x2 (blk P.Z j)) {A : FVec Ideal S2048x128 .f32}
    (hA : Rep (m := 2048) (n := 128) (φ := .f32) A (blk P.c j)) :
    Rep (m := 2048) (n := 128) (φ := .f32)
      (k0_pay9 (F := Ideal) (BitVec.ofNat 32 j) x2 A (exp (subf (broadcast S2048x128 (Scalar.ofBits (F := Ideal) .f32 0x00000000#32)) A))
        (Scalar.ofBits .f32 0x3F800000#32)) (blk P.dc j) := by
  have hs := rep_sg hA
  have hy := hA.mul hs
  have hq := (head_sum (hy.mul hy)).add (Rep.splat (m := 2048) (n := 1) (φ := .f32) _ eps word_eps)
  have hr := rep_rsqrt hq (fun t _ => P.q_pos t j)
  have hp := head_sum (h2.mul hy)
  have bc : Shape.Broadcasts S2048x1 S2048x128 := broadcasts_S2048x1_S2048x128
  have hg := ((Rep.spread (m := 2048) (n := 128) bc (by decide) hr).mul h2).sub
    (((Rep.spread (m := 2048) (n := 128) bc (by decide) ((hr.mul hr).mul hr)).mul hy).mul (Rep.spread (m := 2048) (n := 128) bc (by decide) hp))
  have hd := hs.mul (one.add (hA.mul (one.sub hs)))
  have hm : Rep (m := 2048) (n := 128) (φ := .f32) (broadcast S2048x128 (Scalar.select (Scalar.cmpi .slt (BitVec.ofNat 32 j) 8#32)
      (Scalar.ofBits (F := Ideal) .f32 0x3DB504F3#32) (Scalar.ofBits (F := Ideal) .f32 0x3F800000#32))) (fun _ _ => if j < 8 then scale else 1) := by
    refine Rep.splat _ _ ?_
    rw [show Scalar.cmpi .slt (BitVec.ofNat 32 j) 8#32 = BitVec.ofBool (decide (j < 8)) from WordCmp.cmpi_slt_ofNat (by omega) (by omega), select_of]
    by_cases h : j < 8
    · rw [if_pos h, if_pos h]; exact word_scale
    · rw [if_neg h, if_neg h]; exact word_one
  refine Rep.congr (f := fun t e => (if j < 16 then (if j < 8 then scale else 1) * P.gn t (128 * j + e) else P.Z t (128 * j + e)) *
    (sg (P.c t (128 * j + e)) * (1 + P.c t (128 * j + e) * (1 - sg (P.c t (128 * j + e)))))) (Rep.mul (fun t e => ?_) hd) ?_
  · refine (congrFun (congrArg (fun b : BitVec 1 => Scalar.select b _ _)
      (show Scalar.cmpi .slt (BitVec.ofNat 32 j) 16#32 = BitVec.ofBool (decide (j < 16)) from WordCmp.cmpi_slt_ofNat (by omega) (by omega))) (ix2 t e)).trans ?_
    rw [scalar_select]
    have he := e.isLt
    by_cases h : j < 16
    · rw [if_pos h, if_pos h]
      refine (hm.mul hg t e).trans ?_
      unfold Conv.gn
      rw [show (128 * j + e.val) / 128 = j by omega]
      rfl
    · rw [if_neg h, if_neg h]
      exact h2 t e
  · intro t e _ he
    show _ = P.dy t (128 * j + e) * _
    unfold Conv.dy
    simp only [show (128 * j + e < 2048) = (j < 16) from propext ⟨by omega, by omega⟩,
      show (128 * j + e < 1024) = (j < 8) from propext ⟨by omega, by omega⟩]

variable {v3 : FVec Ideal S4x128 .f32} {v1 v77 : FVec Ideal S2048x128 .f32}

/-- The gradient of the sequence, from the gradient of the convolution. -/
theorem pay12 {v86 : FVec Ideal S2048x128 .f32} (h3 : Rep (m := 4) (n := 128) (φ := .f32) v3 (blk P.W j))
    (h : Rep (m := 2048) (n := 128) (φ := .f32) v77 (blk P.dc j))
    (h86 : Rep (m := 2048) (n := 128) (φ := .f32) v86 (fun t e => P.W 0 (128 * j + e) * lead P.dc 3 t (128 * j + e))) :
    Rep (m := 2048) (n := 128) (φ := .bf16)
      (k0_pay12 (F := Ideal) v3 v77 v86 (k0_pay11 v3) (iota .tc S2048x128 32 [0] iota_S2048x128_d0_w32)) (blk P.dx j) :=
  (((h86.add ((row 1 slices_S4x128_o1_0_S1x128 (by decide) h3).mul (up 2 2046 (by decide) (by decide) h))).add
    ((row 2 slices_S4x128_o2_0_S1x128 (by decide) h3).mul (up 1 2047 (by decide) (by decide) h))).add
    ((row 3 slices_S4x128_o3_0_S1x128 (by decide) h3).mul h)).cut bitsLt_bf16_f32

/-- The first summand of the gradient of the sequence. -/
theorem pay10 (hj : j < 24) (h3 : Rep (m := 4) (n := 128) (φ := .f32) v3 (blk P.W j))
    (h2 : Rep (m := 2048) (n := 128) (φ := .f32) x2 (blk P.Z j)) {A : FVec Ideal S2048x128 .f32}
    (hA : Rep (m := 2048) (n := 128) (φ := .f32) A (blk P.c j)) :
    Rep (m := 2048) (n := 128) (φ := .f32)
      (k0_pay10 (F := Ideal) (BitVec.ofNat 32 j) v3 x2 A (exp (subf (broadcast S2048x128 (Scalar.ofBits (F := Ideal) .f32 0x00000000#32)) A))
        (Scalar.ofBits .f32 0x3F800000#32)) (fun t e => P.W 0 (128 * j + e) * lead P.dc 3 t (128 * j + e)) :=
  (row 0 slices_S4x128_o0_0_S1x128 (by decide) h3).mul (up 3 2045 (by decide) (by decide) (pay9 hj h2 hA))

/-- A row of the gradient of the weights. -/
theorem weight_row (k : ℕ) {A : FVec Ideal S2048x128 .f32} (h : Rep (m := 2048) (n := 128) (φ := .f32) v77 (blk P.dc j))
    (hA : Rep (m := 2048) (n := 128) (φ := .f32) A (blk (lag P.X (3 - k)) j)) :
    Rep (m := 1) (n := 128) (φ := .f32)
      (shapeCast S1x128 (multiReduction (F := Ideal) .add [0] S128 (mulf v77 A) 0x00000000#32 reduces_S2048x128_S128 (.inl rfl) rfl) shapeCasts_S128_S1x128)
      (fun _ e => P.dw k (128 * j + e)) := rep_colSum reduces_S2048x128_S128 shapeCasts_S128_S1x128 (.inl rfl) rfl (h.mul hA)

variable (h1 : Rep (m := 2048) (n := 128) (φ := .f32) v1 (blk P.X j)) (h : Rep (m := 2048) (n := 128) (φ := .f32) v77 (blk P.dc j))
include h1 h

/-- The first weight's gradient. -/
theorem pay13 : Rep (m := 1) (n := 128) (φ := .f32) (k0_pay13 (F := Ideal) v1 v77) (fun _ e => P.dw 0 (128 * j + e)) :=
  weight_row 0 h (down 3 (by decide) h1)
/-- The second weight's gradient. -/
theorem pay1 : Rep (m := 1) (n := 128) (φ := .f32) (k0_pay1 (F := Ideal) (k0_pay14 v1 v77)) (fun _ e => P.dw 1 (128 * j + e)) :=
  weight_row 1 h (down 2 (by decide) h1)
/-- The third weight's gradient. -/
theorem pay2 : Rep (m := 1) (n := 128) (φ := .f32) (k0_pay2 (F := Ideal) v1 v77) (fun _ e => P.dw 2 (128 * j + e)) :=
  weight_row 2 h (down 1 (by decide) h1)
/-- The fourth weight's gradient. -/
theorem pay3 : Rep (m := 1) (n := 128) (φ := .f32) (k0_pay3 (F := Ideal) v1 v77) (fun _ e => P.dw 3 (128 * j + e)) :=
  weight_row 3 h (h1.congr fun t e _ _ => (lag_zero P.X t (128 * j + e)).symm)

end Cert.GdnConvIdeal.Body

end
-- ==== Proof.ConvHost.lean ====
module

public import proofs.«01_k».proof.Proof.ConvReal
public import proofs.«01_k».proof.Proof.AttnArgs
public import proofs.«01_k».proof.Proof.Gen.GdnConvIdeal.Frame
public import Idealize.ShloMosaic.Lib.StableHlo.RunRead
public import Idealize.ShloMosaic.Lib.Pointwise

/-! # What the call finds

    The sequence by row and column, the weights by tap and column, and the three incoming gradients side by side: columns
    0 to 1023 are the first's eight heads, the next 1024 the second's, the last 1024 the third's. -/

@[expose] public section

set_option maxRecDepth 16384

noncomputable section

namespace Cert.ConvMath

open Idealize.ShloMosaic
open Cert.Attn (Finite X4 at4)
open Cert.FfnMath

/-- Three functions of head, row and column, side by side. -/
def thirds (a b c : ℕ → ℕ → ℕ → ℝ) (t d : ℕ) : ℝ :=
  if d < 1024 then a (d / 128) t (d % 128) else if d < 2048 then b ((d - 1024) / 128) t ((d - 1024) % 128)
    else c ((d - 2048) / 128) t ((d - 2048) % 128)

/-- The real functions of five arrays. -/
def conv (x0 : FVec Ideal ⟨3, ![1, 2048, 4352]⟩ .f32) (x1 : FVec Ideal ⟨2, ![3072, 4]⟩ .f32) (x2 x3 x4 : X4 128) : Conv where
  X := re1 x0
  W := fun k d => re2 x1 d k
  Z := thirds (at4 x2) (at4 x3) (at4 x4)

/-- The five arrays hold real numbers only. -/
structure Reals (x0 : FVec Ideal ⟨3, ![1, 2048, 4352]⟩ .f32) (x1 : FVec Ideal ⟨2, ![3072, 4]⟩ .f32) (x2 x3 x4 : X4 128) : Prop where
  h0 : Finite x0
  h1 : Finite x1
  h2 : Finite x2
  h3 : Finite x3
  h4 : Finite x4

end Cert.ConvMath

namespace Cert.GdnConvIdeal.Result

open Cert.GdnConvIdeal Cert.GdnConvIdeal.Gen
open Idealize.ShloMosaic hiding ix1 ix2 ix3 ix4 eq_ix2
open Idealize.ShloMosaic.TcCoe Idealize.ShloMosaic.StableHlo Idealize.ShloMosaic.ValueIdx
open Cert.Attn (Finite Rep X4 at4 at4_in)
open Cert.FfnMath Cert.ConvMath

/-- Three arrays side by side, at an index. -/
theorem three {p n k : ℕ} {α : Type} (y2 y3 y4 : (⟨2, ![p, n]⟩ : Shape).Idx → α)
    (h : Shape.Concatenates [⟨2, ![p, n]⟩, ⟨2, ![p, n]⟩, ⟨2, ![p, n]⟩] ⟨2, ![p, k]⟩ 1) (hk : k = n + n + n) (t : Fin p) (d : Fin k) :
    concatenate ⟨2, ![p, k]⟩ 1 [⟨⟨2, ![p, n]⟩, y2⟩, ⟨⟨2, ![p, n]⟩, y3⟩, ⟨⟨2, ![p, n]⟩, y4⟩] h (ix2 t d)
      = if h1 : d.val < n then y2 (ix2 t ⟨d.val, h1⟩) else if h2 : d.val - n < n then y3 (ix2 t ⟨d.val - n, h2⟩)
        else y4 (ix2 t ⟨d.val - n - n, by have := d.isLt; omega⟩) := by
  refine (concatenate_cons_apply _ _ _ _ _ _ _).trans ((concatenateAt_cons _ _ _ _ _ _ _ _).trans ?_)
  by_cases h1 : d.val < n
  · rw [dif_pos h1]
    refine (dif_pos (show d.val < n from h1)).trans (congrArg y2 ?_)
    funext a
    match a with
    | ⟨0, _⟩ => rfl
    | ⟨1, _⟩ => rfl
  rw [dif_neg h1]
  refine (dif_neg (show ¬ d.val < n from h1)).trans ((concatenateAt_cons _ _ _ _ _ _ _ _).trans ?_)
  by_cases h2 : d.val - n < n
  · rw [dif_pos h2]
    refine (dif_pos (show d.val - n < n from h2)).trans (congrArg y3 ?_)
    funext a
    match a with
    | ⟨0, _⟩ => rfl
    | ⟨1, _⟩ => rfl
  rw [dif_neg h2]
  refine (dif_neg (show ¬ d.val - n < n from h2)).trans ((concatenateAt_singleton _ _ _ _ _ _).trans (congrArg y4 ?_))
  funext a
  match a with
  | ⟨0, _⟩ => rfl
  | ⟨1, _⟩ => rfl

variable (m : (ℓ : Loc nD τ sig) → Buf (Elt Ideal) ℓ) (c : Dev nD)

/-- The sequence. -/
def x0 : FVec Ideal S1x2048x4352 .f32 := m ((c : Thread nD τ).loc main_arg0)
/-- The weights. -/
def x1 : FVec Ideal S3072x4 .f32 := m ((c : Thread nD τ).loc main_arg1)
/-- The first third's incoming gradient. -/
def x2 : FVec Ideal S1x2048x8x128 .f32 := m ((c : Thread nD τ).loc main_arg2)
/-- The second third's incoming gradient. -/
def x3 : FVec Ideal S1x2048x8x128 .f32 := m ((c : Thread nD τ).loc main_arg3)
/-- The last third's incoming gradient. -/
def x4 : FVec Ideal S1x2048x8x128 .f32 := m ((c : Thread nD τ).loc main_arg4)

/-- The real functions of the program's arrays. -/
def cv : Conv := conv (x0 m c) (x1 m c) (x2 m c) (x3 m c) (x4 m c)

/-- The sequence as the call finds it. -/
theorem read0 : V m c main_v4 = shapeCast S2048x4352 (x0 m c) shapeCasts_S1x2048x4352_S2048x4352 := by
  unfold V
  after_reads_simp
  rfl
/-- The weights as the call finds them. -/
theorem read1 : V m c main_v5 = transpose S4x3072 [1, 0] (x1 m c) transposes_S3072x4_S4x3072_1_0 := by
  unfold V
  after_reads_simp
  rfl
/-- The incoming gradients as the call finds them. -/
theorem read2 : V m c main_v3 = concatenate S2048x3072 1 [⟨S2048x1024, shapeCast S2048x1024 (x2 m c) shapeCasts_S1x2048x8x128_S2048x1024⟩,
    ⟨S2048x1024, shapeCast S2048x1024 (x3 m c) shapeCasts_S1x2048x8x128_S2048x1024⟩,
    ⟨S2048x1024, shapeCast S2048x1024 (x4 m c) shapeCasts_S1x2048x8x128_S2048x1024⟩] concatenates_S2048x1024_S2048x1024_S2048x1024_S2048x3072_d1 := by
  unfold V
  after_reads_simp
  rfl

/-- Eight heads laid out as columns. -/
theorem heads {x : FVec Ideal S1x2048x8x128 .f32} (h : Finite x) :
    Rep (m := 2048) (n := 1024) (φ := .f32) (shapeCast S2048x1024 x shapeCasts_S1x2048x8x128_S2048x1024) (fun t d => at4 x (d / 128) t (d % 128)) :=
  fun r d => by
  have hd := d.isLt
  rw [shapeCast_apply x shapeCasts_S1x2048x8x128_S2048x1024 (ix2 r d) (ix4 0 r ⟨d.val / 128, by omega⟩ ⟨d.val % 128, by omega⟩) (by
    rw [Shape.rowMajor_val_two, Shape.rowMajor_val_four]
    show ((0 * 2048 + r.val) * 8 + d.val / 128) * 128 + d.val % 128 = r.val * 1024 + d.val
    omega)]
  exact at4_in h 0 r _ _

variable {m} {c} (h : Reals (x0 m c) (x1 m c) (x2 m c) (x3 m c) (x4 m c))
include h

/-- The call finds the sequence. -/
theorem in_x : V m c main_v4 = of2 (m := 2048) (n := 4352) (φ := .f32) (cv m c).X :=
  (read0 m c).trans (eq_of2 ((rep_re1 h.h0).drop shapeCasts_S1x2048x4352_S2048x4352))

/-- The call finds the weights by tap and column. -/
theorem in_w : V m c main_v5 = of2 (m := 4) (n := 3072) (φ := .f32) (cv m c).W :=
  (read1 m c).trans (eq_of2 fun k d => (transpose_apply [1, 0] (x1 m c) transposes_S3072x4_S4x3072_1_0 (ix2 k d) (ix2 d k)
    (fun b => match b with
      | ⟨0, _⟩ => rfl
      | ⟨1, _⟩ => rfl)).trans (rep_re2 h.h1 d k))

/-- The call finds the gradients side by side. -/
theorem in_z : V m c main_v3 = of2 (m := 2048) (n := 3072) (φ := .f32) (cv m c).Z := by
  refine (read2 m c).trans (eq_of2 fun t d => ?_)
  have hd := d.isLt
  have e2 := heads h.h2
  have e3 := heads h.h3
  have e4 := heads h.h4
  generalize shapeCast S2048x1024 (x2 m c) shapeCasts_S1x2048x8x128_S2048x1024 = y2 at e2 ⊢
  generalize shapeCast S2048x1024 (x3 m c) shapeCasts_S1x2048x8x128_S2048x1024 = y3 at e3 ⊢
  generalize shapeCast S2048x1024 (x4 m c) shapeCasts_S1x2048x8x128_S2048x1024 = y4 at e4 ⊢
  rw [three y2 y3 y4 concatenates_S2048x1024_S2048x1024_S2048x1024_S2048x3072_d1 rfl t d]
  show _ = ((thirds _ _ _ t.val d.val : ℝ) : EReal)
  unfold thirds
  by_cases h1 : d.val < 1024
  · rw [dif_pos h1, if_pos h1]
    exact e2 t ⟨d.val, h1⟩
  rw [dif_neg h1, if_neg h1]
  by_cases h2 : d.val - 1024 < 1024
  · rw [dif_pos h2, if_pos (by omega)]
    exact e3 t ⟨d.val - 1024, h2⟩
  rw [dif_neg h2, if_neg (by omega), e4]
  dsimp only
  rw [Nat.sub_sub]

end Cert.GdnConvIdeal.Result

end
-- ==== Proof.ConvRegion.lean ====
module

public import proofs.«01_k».proof.Proof.ConvBody
public import proofs.«01_k».proof.Proof.ConvHost
public import proofs.«01_k».proof.Proof.Gen.GdnConvIdeal.Value
public import Idealize.ShloMosaic.Lib.Pipeline.ValueKit
public import Idealize.ShloMosaic.Lib.Pipeline.CanonAppend

/-! # The call's results

    The grid's 24 points are the blocks of 128 columns. -/

@[expose] public section

set_option maxRecDepth 16384

noncomputable section

namespace Cert.GdnConvIdeal.Result

open Cert.GdnConvIdeal Cert.GdnConvIdeal.Gen
open Idealize.ShloMosaic hiding ix1 ix2 ix3 ix4 eq_ix2
open Idealize.ShloMosaic.TcCoe Idealize.ShloMosaic.ValueIdx
open Idealize.SL.Sem
open Idealize.ShloMosaic.Pipeline (Dat)
open Cert.Attn (Rep)
open Cert.FfnMath Cert.ConvMath Cert.GdnConvIdeal.Body

/-- The blocks at a point of the grid. -/
theorem block_index : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (grid0.coords t 0).val = t.val := by
  decide +kernel

variable {m : (ℓ : Loc nD τ sig) → Buf (Elt Ideal) ℓ} {c : Dev nD} {P : Conv}

/-- The sequence's block. -/
theorem blk0 (hv : V m c main_v4 = of2 (m := 2048) (n := 4352) (φ := .f32) P.X) (t : Fin cfg0.N) :
    Rep (m := 2048) (n := 128) (φ := .f32) (iblk m c 0 t) (blk P.X t.val) := fun r k => by
  obtain ⟨⟨i0, i1⟩, -⟩ := block_index t
  unfold iblk
  rw [View.read_apply]
  show V m c main_v4 _ = _
  rw [hv]
  show ((P.X (win0_0.index t 0 * 2048 + 1 * r.val) (win0_0.index t 1 * 128 + 1 * k.val) : ℝ) : EReal) = ((P.X r.val (128 * t.val + k.val) : ℝ) : EReal)
  rw [i0, i1]
  refine congrArg _ (congrArg₂ P.X ?_ ?_) <;> omega

/-- The weights' block. -/
theorem blk1 (hv : V m c main_v5 = of2 (m := 4) (n := 3072) (φ := .f32) P.W) (t : Fin cfg0.N) :
    Rep (m := 4) (n := 128) (φ := .f32) (iblk m c 1 t) (blk P.W t.val) := fun r k => by
  obtain ⟨-, ⟨i0, i1⟩, -⟩ := block_index t
  unfold iblk
  rw [View.read_apply]
  show V m c main_v5 _ = _
  rw [hv]
  show ((P.W (win0_1.index t 0 * 4 + 1 * r.val) (win0_1.index t 1 * 128 + 1 * k.val) : ℝ) : EReal) = ((P.W r.val (128 * t.val + k.val) : ℝ) : EReal)
  rw [i0, i1]
  refine congrArg _ (congrArg₂ P.W ?_ ?_) <;> omega

/-- The incoming gradient's block. -/
theorem blk2 (hv : V m c main_v3 = of2 (m := 2048) (n := 3072) (φ := .f32) P.Z) (t : Fin cfg0.N) :
    Rep (m := 2048) (n := 128) (φ := .f32) (iblk m c 2 t) (blk P.Z t.val) := fun r k => by
  obtain ⟨-, -, ⟨i0, i1⟩, -⟩ := block_index t
  unfold iblk
  rw [View.read_apply]
  show V m c main_v3 _ = _
  rw [hv]
  show ((P.Z (win0_2.index t 0 * 2048 + 1 * r.val) (win0_2.index t 1 * 128 + 1 * k.val) : ℝ) : EReal) = ((P.Z r.val (128 * t.val + k.val) : ℝ) : EReal)
  rw [i0, i1]
  refine congrArg _ (congrArg₂ P.Z ?_ ?_) <;> omega

section
variable {x0 : FVec Ideal S2048x128 .f32} {x1 : FVec Ideal S4x128 .f32} {x2 : FVec Ideal S2048x128 .f32} {i : grid0.Coords}

/-- The gradient of the convolution at a block. -/
theorem body_dc (h0 : Rep (m := 2048) (n := 128) (φ := .f32) x0 (blk P.X (i 0).val)) (h1 : Rep (m := 4) (n := 128) (φ := .f32) x1 (blk P.W (i 0).val))
    (h2 : Rep (m := 2048) (n := 128) (φ := .f32) x2 (blk P.Z (i 0).val)) :
    Rep (m := 2048) (n := 128) (φ := .f32) (k0_pay20 (F := Ideal) i x0 x1 x2) (blk P.dc (i 0).val) := by
  unfold k0_pay20 k0_pay17 k0_pay18 k0_pay19
  rw [View.ld_unit_zero (S := S2048x128) (by decide), View.ld_unit_zero (S := S4x128) (by decide), View.ld_unit_zero (S := S2048x128) (by decide)]
  exact pay9 (i 0).isLt (pay6 h2) (pay7 h0 h1)

/-- The sequence's gradient at a block. -/
theorem body_dx (h0 : Rep (m := 2048) (n := 128) (φ := .f32) x0 (blk P.X (i 0).val)) (h1 : Rep (m := 4) (n := 128) (φ := .f32) x1 (blk P.W (i 0).val))
    (h2 : Rep (m := 2048) (n := 128) (φ := .f32) x2 (blk P.Z (i 0).val)) :
    Rep (m := 2048) (n := 128) (φ := .bf16) (out0_3 (F := Ideal) i x0 x1 x2) (blk P.dx (i 0).val) := by
  have hd := body_dc h0 h1 h2
  unfold out0_3
  rw [View.canon_unit_zero (S := S2048x128) (by decide)]
  generalize k0_pay20 (F := Ideal) i x0 x1 x2 = d at hd ⊢
  unfold k0_pay16 k0_pay17 k0_pay18 k0_pay19
  rw [View.ld_unit_zero (S := S2048x128) (by decide), View.ld_unit_zero (S := S4x128) (by decide), View.ld_unit_zero (S := S2048x128) (by decide)]
  exact pay12 (pay5 h1) hd (pay10 (i 0).isLt (pay5 h1) (pay6 h2) (pay7 h0 h1))

/-- A row of the weights' gradient, stored at its place. -/
theorem dw_row {o j : ℕ} {f : ℕ → ℕ → ℝ} (inb : ∀ a, (![o, 0] : Fin 2 → Nat) a + S1x128.size a ≤ S4x128.size a) {A : FVec Ideal S1x128 .f32}
    (hA : Rep (m := 1) (n := 128) (φ := .f32) A (fun _ e => f o (128 * j + e))) (x : S1x128.Idx) :
    A x = ((f ((Rect.unit (s := S4x128) ![o, 0] S1x128.size inb).emb x 0).val
      (128 * j + ((Rect.unit (s := S4x128) ![o, 0] S1x128.size inb).emb x 1).val) : ℝ) : EReal) := by
  have h0 : (x 0).val < 1 := (x 0).isLt
  rw [at2 hA x]
  show ((f o (128 * j + (x 1).val) : ℝ) : EReal) = ((f (o + 1 * (x 0).val) (128 * j + (0 + 1 * (x 1).val)) : ℝ) : EReal)
  refine congrArg _ (congrArg₂ f ?_ ?_) <;> omega

/-- The weights' gradient at a block. -/
theorem body_dw (h0 : Rep (m := 2048) (n := 128) (φ := .f32) x0 (blk P.X (i 0).val)) (h1 : Rep (m := 4) (n := 128) (φ := .f32) x1 (blk P.W (i 0).val))
    (h2 : Rep (m := 2048) (n := 128) (φ := .f32) x2 (blk P.Z (i 0).val)) :
    Rep (m := 4) (n := 128) (φ := .f32) (out0_4 (F := Ideal) i x0 x1 x2) (blk P.dw (i 0).val) := by
  have hd := body_dc h0 h1 h2
  have hx := pay4 h0
  unfold out0_4
  generalize k0_pay20 (F := Ideal) i x0 x1 x2 = d at hd ⊢
  unfold k0_pay15
  rw [View.ld_unit_zero (S := S2048x128) (by decide)]
  generalize k0_pay4 (F := Ideal) x0 = a at hx ⊢
  have key := fun hp => View.canon_append_of_pieces (Val := Elt Ideal) (S := S4x128) (e := .f32)
    (fun i' => ((P.dw (i' 0).val (128 * (i 0).val + (i' 1).val) : ℝ) : EReal)) []
    [⟨r0_5, k0_pay3 (F := Ideal) a d⟩, ⟨r0_4, k0_pay2 (F := Ideal) a d⟩, ⟨r0_3, k0_pay1 (F := Ideal) (k0_pay14 a d)⟩, ⟨r0_2, k0_pay13 (F := Ideal) a d⟩] hp
  rw [List.append_nil] at key
  refine fun r k => key ?_ (ix2 r k) (cover0_4 _ _ _ _ _)
  intro p hp x
  simp only [List.mem_cons, List.not_mem_nil, or_false] at hp
  rcases hp with rfl | rfl | rfl | rfl
  · exact dw_row (o := 3) inb_S4x128_S1x128_3_0 (pay3 hx hd) x
  · exact dw_row (o := 2) inb_S4x128_S1x128_2_0 (pay2 hx hd) x
  · exact dw_row (o := 1) inb_S4x128_S1x128_1_0 (pay1 hx hd) x
  · exact dw_row (o := 0) inb_S4x128_S1x128_0_0 (pay13 hx hd) x
end

/-- The sequence's gradient. -/
theorem final3 (hx : V m c main_v4 = of2 (m := 2048) (n := 4352) (φ := .f32) P.X) (hw : V m c main_v5 = of2 (m := 4) (n := 3072) (φ := .f32) P.W)
    (hz : V m c main_v3 = of2 (m := 2048) (n := 3072) (φ := .f32) P.Z) :
    (dats m 0 c).arrAt 3 cfg0.N = of2 (m := 2048) (n := 3072) (φ := .bf16) P.dx := by
  refine (dats m 0 c).arrAt_eq_of_covers 3 _ (by decide +kernel) fun t hf y => ?_
  obtain ⟨-, -, -, ⟨i0, i1⟩, -, ic⟩ := block_index t
  obtain ⟨r, k, rfl⟩ : ∃ (r : Fin 2048) (k : Fin 128), y = ix2 r k := ⟨_, _, eq_ix2 y⟩
  refine (congrFun (after0_3 m c t) (ix2 r k)).trans ?_
  refine (body_dx (P := P) (by rw [ic]; exact blk0 hx t) (by rw [ic]; exact blk1 hw t) (by rw [ic]; exact blk2 hz t) r k).trans ?_
  show ((P.dx r.val (128 * (grid0.coords t 0).val + k.val) : ℝ) : EReal)
    = ((P.dx (win0_3.index t 0 * 2048 + 1 * r.val) (win0_3.index t 1 * 128 + 1 * k.val) : ℝ) : EReal)
  rw [i0, i1, ic]
  refine congrArg _ (congrArg₂ P.dx ?_ ?_) <;> omega

/-- The weights' gradient. -/
theorem final4 (hx : V m c main_v4 = of2 (m := 2048) (n := 4352) (φ := .f32) P.X) (hw : V m c main_v5 = of2 (m := 4) (n := 3072) (φ := .f32) P.W)
    (hz : V m c main_v3 = of2 (m := 2048) (n := 3072) (φ := .f32) P.Z) :
    (dats m 0 c).arrAt 4 cfg0.N = of2 (m := 4) (n := 3072) (φ := .f32) P.dw := by
  refine (dats m 0 c).arrAt_eq_of_covers 4 _ (by decide +kernel) fun t hf y => ?_
  obtain ⟨-, -, -, -, ⟨i0, i1⟩, ic⟩ := block_index t
  obtain ⟨r, k, rfl⟩ : ∃ (r : Fin 4) (k : Fin 128), y = ix2 r k := ⟨_, _, eq_ix2 y⟩
  refine (congrFun (after0_4 m c t) (ix2 r k)).trans ?_
  refine (body_dw (P := P) (by rw [ic]; exact blk0 hx t) (by rw [ic]; exact blk1 hw t) (by rw [ic]; exact blk2 hz t) r k).trans ?_
  show ((P.dw r.val (128 * (grid0.coords t 0).val + k.val) : ℝ) : EReal)
    = ((P.dw (win0_4.index t 0 * 4 + 1 * r.val) (win0_4.index t 1 * 128 + 1 * k.val) : ℝ) : EReal)
  rw [i0, i1, ic]
  refine congrArg _ (congrArg₂ P.dw ?_ ?_) <;> omega

end Cert.GdnConvIdeal.Result

end
-- ==== Proof.ConvOps.lean ====
module

public import proofs.«01_k».proof.Proof.ConvHost

/-! # Padding, sums over unit axes and heads -/

@[expose] public section

set_option maxRecDepth 16384

noncomputable section

namespace Cert.ConvMath

open Idealize.ShloMosaic hiding ix1 ix2 ix3 ix4 eq_ix2 eq_ix3 eq_ix4
open Idealize.ShloMosaic.ValueIdx
open Cert.Attn (Rep)
open Cert.FfnMath
open scoped BigOperators
open Finset (range)

variable {m n p k : ℕ}

/-- An array of heads that holds a real function of row, head and column. -/
def RepH (A : FVec Ideal ⟨4, ![1, m, p, n]⟩ .f32) (f : ℕ → ℕ → ℕ → ℝ) : Prop :=
  ∀ (r : Fin m) (h : Fin p) (c : Fin n), A (ix4 0 r h c) = ((f r.val h.val c.val : ℝ) : EReal)

/-- An entry of an array of heads that holds a real function. -/
theorem RepH.entry {A : FVec Ideal ⟨4, ![1, m, p, n]⟩ .f32} {f : ℕ → ℕ → ℕ → ℝ} (h : RepH A f) (i : (⟨4, ![1, m, p, n]⟩ : Shape).Idx) :
    A i = ((f (i 1).val (i 2).val (i 3).val : ℝ) : EReal) := by
  have e : i = ix4 0 (i 1) (i 2) (i 3) := by
    funext a
    match a with
    | ⟨0, _⟩ => exact Subsingleton.elim (α := Fin 1) _ _
    | ⟨1, _⟩ => rfl
    | ⟨2, _⟩ => rfl
    | ⟨3, _⟩ => rfl
  exact (congrArg A e).trans (h (i 1) (i 2) (i 3))

/-- Rows of the number zero in front and behind. -/
theorem pad_rows {N l u : ℕ} {v : (⟨0, ![]⟩ : Shape).Idx → EReal} (hv : ∀ i, v i = ((0 : ℝ) : EReal))
    (h : (⟨3, ![1, m, n]⟩ : Shape).Pads ![0, l, 0] ![0, u, 0] ![0, 0, 0] ⟨3, ![1, N, n]⟩) (hu : 0 < (⟨0, ![]⟩ : Shape).numel)
    {A : FVec Ideal ⟨3, ![1, m, n]⟩ .f32} {f : ℕ → ℕ → ℝ} (hA : Rep1 A f) :
    Rep1 (m := N) (n := n) (φ := .f32) (pad ⟨3, ![1, N, n]⟩ ![0, l, 0] ![0, u, 0] ![0, 0, 0] A v h hu)
      (fun t d => if l ≤ t ∧ t - l < m then f (t - l) d else 0) := fun t d => by
  unfold pad
  beta_reduce
  by_cases hc : l ≤ t.val ∧ t.val - l < m
  · rw [if_pos hc]
    refine (dif_pos (fun a => match a with
      | ⟨0, _⟩ => ⟨Nat.zero_le _, Nat.mod_one _, (Nat.div_one _).trans_lt Nat.one_pos⟩
      | ⟨1, _⟩ => ⟨hc.1, Nat.mod_one _, (Nat.div_one _).trans_lt hc.2⟩
      | ⟨2, _⟩ => ⟨Nat.zero_le _, Nat.mod_one _, (Nat.div_one _).trans_lt d.isLt⟩)).trans ?_
    refine (hA.entry _).trans ?_
    show ((f ((t.val - l) / 1) (d.val / 1) : ℝ) : EReal) = _
    rw [Nat.div_one, Nat.div_one]
  · rw [if_neg hc]
    exact (dif_neg (fun hh => hc ⟨(hh 1).1, (Nat.div_one _).symm.trans_lt (hh 1).2.2⟩)).trans (hv _)

/-- Columns of the number zero before and after. -/
theorem pad_cols {N l u : ℕ} {v : (⟨0, ![]⟩ : Shape).Idx → EReal} (hv : ∀ i, v i = ((0 : ℝ) : EReal))
    (h : (⟨3, ![1, m, n]⟩ : Shape).Pads ![0, 0, l] ![0, 0, u] ![0, 0, 0] ⟨3, ![1, m, N]⟩) (hu : 0 < (⟨0, ![]⟩ : Shape).numel)
    {A : FVec Ideal ⟨3, ![1, m, n]⟩ .f32} {f : ℕ → ℕ → ℝ} (hA : Rep1 A f) :
    Rep1 (m := m) (n := N) (φ := .f32) (pad ⟨3, ![1, m, N]⟩ ![0, 0, l] ![0, 0, u] ![0, 0, 0] A v h hu)
      (fun t d => if l ≤ d ∧ d - l < n then f t (d - l) else 0) := fun t d => by
  unfold pad
  beta_reduce
  by_cases hc : l ≤ d.val ∧ d.val - l < n
  · rw [if_pos hc]
    refine (dif_pos (fun a => match a with
      | ⟨0, _⟩ => ⟨Nat.zero_le _, Nat.mod_one _, (Nat.div_one _).trans_lt Nat.one_pos⟩
      | ⟨1, _⟩ => ⟨Nat.zero_le _, Nat.mod_one _, (Nat.div_one _).trans_lt t.isLt⟩
      | ⟨2, _⟩ => ⟨hc.1, Nat.mod_one _, (Nat.div_one _).trans_lt hc.2⟩)).trans ?_
    refine (hA.entry _).trans ?_
    show ((f (t.val / 1) ((d.val - l) / 1) : ℝ) : EReal) = _
    rw [Nat.div_one, Nat.div_one]
  · rw [if_neg hc]
    exact (dif_neg (fun hh => hc ⟨(hh 2).1, (Nat.div_one _).symm.trans_lt (hh 2).2.2⟩)).trans (hv _)

/-- One column among columns of the number zero. -/
theorem pad_col {N l u : ℕ} {v : (⟨0, ![]⟩ : Shape).Idx → EReal} (hv : ∀ i, v i = ((0 : ℝ) : EReal))
    (h : (⟨2, ![m, 1]⟩ : Shape).Pads ![0, l] ![0, u] ![0, 0] ⟨2, ![m, N]⟩) (hu : 0 < (⟨0, ![]⟩ : Shape).numel)
    {A : FVec Ideal ⟨2, ![m, 1]⟩ .f32} {f : ℕ → ℝ} (hA : Rep A (fun d _ => f d)) :
    Rep (m := m) (n := N) (φ := .f32) (pad ⟨2, ![m, N]⟩ ![0, l] ![0, u] ![0, 0] A v h hu) (fun d j => if j = l then f d else 0) := fun d j => by
  unfold pad
  beta_reduce
  by_cases hc : j.val = l
  · rw [if_pos hc]
    refine (dif_pos (fun a => match a with
      | ⟨0, _⟩ => ⟨Nat.zero_le _, Nat.mod_one _, (Nat.div_one _).trans_lt d.isLt⟩
      | ⟨1, _⟩ => ⟨hc.ge, Nat.mod_one _, (Nat.div_one _).trans_lt (show j.val - l < 1 by omega)⟩)).trans ?_
    refine (at2 hA _).trans ?_
    show ((f (d.val / 1) : ℝ) : EReal) = _
    rw [Nat.div_one]
  · rw [if_neg hc]
    exact (dif_neg (fun hh => hc (by
      have h1 : l ≤ j.val := (hh 1).1
      have h2 : j.val - l < 1 := (Nat.div_one _).symm.trans_lt (hh 1).2.2
      omega))).trans (hv _)

/-- A sum over two unit axes around two others is the entry. -/
theorem sum_outer (h : (⟨4, ![1, m, p, 1]⟩ : Shape).ReducesTo [0, 3] ⟨2, ![m, p]⟩) (A : FVec Ideal ⟨4, ![1, m, p, 1]⟩ .f32)
    (v : EReal) (r : Fin m) (c : Fin p) : Ideal.hostReduceAdd h A v (ix2 r c) = v + A (ix4 0 r c 0) := by
  have e : Finset.univ.filter (fun i => h.drop i = ix2 r c) = {ix4 0 r c 0} := by
    ext i
    simp only [Finset.mem_filter, Finset.mem_univ, true_and, Finset.mem_singleton]
    constructor
    · intro hh
      have h1 : (i 1).val = r.val := congrArg Fin.val (congrFun hh 0)
      have h2 : (i 2).val = c.val := congrArg Fin.val (congrFun hh 1)
      funext a
      match a with
      | ⟨0, _⟩ => exact Subsingleton.elim (α := Fin 1) _ _
      | ⟨1, _⟩ => exact Fin.ext h1
      | ⟨2, _⟩ => exact Fin.ext h2
      | ⟨3, _⟩ => exact Subsingleton.elim (α := Fin 1) _ _
    · rintro rfl
      funext b
      match b with
      | ⟨0, _⟩ => rfl
      | ⟨1, _⟩ => rfl
  unfold Ideal.hostReduceAdd
  rw [e, Finset.sum_singleton]

/-- A sum over two unit axes in front of another is the entry. -/
theorem sum_front (h : (⟨3, ![1, 1, n]⟩ : Shape).ReducesTo [0, 1] ⟨1, ![n]⟩) (A : FVec Ideal ⟨3, ![1, 1, n]⟩ .f32)
    (v : EReal) (c : Fin n) : Ideal.hostReduceAdd h A v (ix1 c) = v + A (ix3 0 0 c) := by
  have e : Finset.univ.filter (fun i => h.drop i = ix1 c) = {ix3 0 0 c} := by
    ext i
    simp only [Finset.mem_filter, Finset.mem_univ, true_and, Finset.mem_singleton]
    constructor
    · intro hh
      have h2 : (i 2).val = c.val := congrArg Fin.val (congrFun hh 0)
      funext a
      match a with
      | ⟨0, _⟩ => exact Subsingleton.elim (α := Fin 1) _ _
      | ⟨1, _⟩ => exact Subsingleton.elim (α := Fin 1) _ _
      | ⟨2, _⟩ => exact Fin.ext h2
    · rintro rfl
      funext b
      match b with
      | ⟨0, _⟩ => rfl
  unfold Ideal.hostReduceAdd
  rw [e, Finset.sum_singleton]

/-- Rows of the number zero in front of an array. -/
theorem front {N : ℕ} (h : Shape.Concatenates [(⟨3, ![1, k, n]⟩ : Shape), ⟨3, ![1, m, n]⟩] ⟨3, ![1, N, n]⟩ 1) (hN : N = k + m)
    {A : FVec Ideal ⟨3, ![1, k, n]⟩ .f32} {B : FVec Ideal ⟨3, ![1, m, n]⟩ .f32} {f : ℕ → ℕ → ℝ} (hA : Rep1 A (fun _ _ => 0)) (hB : Rep1 B f) :
    Rep1 (m := N) (n := n) (φ := .f32) (concatenate ⟨3, ![1, N, n]⟩ 1 [⟨⟨3, ![1, k, n]⟩, A⟩, ⟨⟨3, ![1, m, n]⟩, B⟩] h)
      (fun t d => if t < k then 0 else f (t - k) d) := fun t d => by
  by_cases hc : t.val < k
  · rw [concatenate_pair_apply_left 1 A B h (ix3 0 t d) rfl (ix3 0 ⟨t.val, hc⟩ d)
      (fun b => by match b with
        | ⟨0, _⟩ => rfl
        | ⟨1, _⟩ => rfl
        | ⟨2, _⟩ => rfl)]
    rw [hA]; simp only [if_pos hc]
  · have h2 := t.isLt
    rw [concatenate_pair_apply_right 1 A B h (ix3 0 t d) rfl rfl (ix3 0 ⟨t.val - k, by omega⟩ d)
      (fun b hb => by match b with
        | ⟨0, _⟩ => rfl
        | ⟨1, _⟩ => exact absurd rfl hb
        | ⟨2, _⟩ => rfl)
      (by show t.val - k + k = t.val; omega)]
    rw [hB]; simp only [if_neg hc]

/-- A window of the rows with three rows of zeros in front. -/
theorem window (X : ℕ → ℕ → ℝ) {o s t d : ℕ} (hs : s = o + t) (ho : o ≤ 3) : (if s < 3 then 0 else X (s - 3) d) = lag X (3 - o) t d := by
  unfold lag
  by_cases h : s < 3
  · rw [if_pos h, if_neg (by omega)]
  · rw [if_neg h, if_pos (by omega), show s - 3 = t - (3 - o) by omega]

/-- Minus one half. -/
theorem word_half : Ideal.ofBits .f32 0xBF000000#32 = ((-(1 / 2) : ℝ) : EReal) := by
  simp [Ideal.ofBits, Ideal.ieee, -EReal.coe_mul]
  norm_num

namespace Conv
variable (P : Conv)

/-- The gradient through a head's norm as the chain rule writes it. -/
theorem gn_eq (t h e : ℕ) (he : e < 128) :
    P.Z t (128 * h + e) * P.r t h + P.y t (128 * h + e) * (P.p t h * (-(1 / 2) * (P.r t h / P.q t h)))
      + P.p t h * (-(1 / 2) * (P.r t h / P.q t h)) * P.y t (128 * h + e) = P.gn t (128 * h + e) := by
  unfold gn
  rw [show (128 * h + e) / 128 = h by omega, r_cube]
  ring

/-- The same with the incoming gradient scaled. -/
theorem gn_scaled (t h e : ℕ) (he : e < 128) :
    P.Z t (128 * h + e) * scale * P.r t h + P.y t (128 * h + e) * (scale * P.p t h * (-(1 / 2) * (P.r t h / P.q t h)))
      + scale * P.p t h * (-(1 / 2) * (P.r t h / P.q t h)) * P.y t (128 * h + e) = scale * P.gn t (128 * h + e) := by
  rw [← gn_eq P t h e he]
  ring

/-- The gradient of the activated convolution by its three thirds. -/
theorem dy_eq (t d : ℕ) (hd : d < 3072) :
    (if 2048 ≤ d ∧ d - 2048 < 1024 then P.Z t (2048 + (d - 2048)) else 0)
      + (if 1024 ≤ d ∧ d - 1024 < 1024 then P.gn t (1024 + (d - 1024)) else 0)
      + (if 0 ≤ d ∧ d - 0 < 1024 then scale * P.gn t (d - 0) else 0) = P.dy t d := by
  unfold dy
  by_cases h1 : d < 1024
  · rw [if_neg (by omega), if_neg (by omega), if_pos (by omega), if_pos (by omega), if_pos h1, Nat.sub_zero]
    ring
  by_cases h2 : d < 2048
  · rw [if_neg (by omega), if_pos (by omega), if_neg (by omega), if_pos h2, if_neg h1, show 1024 + (d - 1024) = d by omega]
    ring
  · rw [if_pos (by omega), if_neg (by omega), if_neg (by omega), if_neg h2, show 2048 + (d - 2048) = d by omega]
    ring

/-- The gradient of the convolution as the chain rule writes it. -/
theorem dc_eq (t d : ℕ) : P.dy t d * sg (P.c t d) + P.c t d * P.dy t d * (sg (P.c t d) * (1 - sg (P.c t d))) = P.dc t d := by
  unfold dc
  ring

/-- The gradient of the sequence by its four padded parts. -/
theorem dx_eq (t d : ℕ) (ht : t < 2048) :
    (if 3 ≤ 3 + t ∧ 3 + t - 3 < 2048 then P.W 3 d * P.dc (3 + t - 3) d else 0)
      + (if 2 ≤ 3 + t ∧ 3 + t - 2 < 2048 then P.W 2 d * P.dc (3 + t - 2) d else 0)
      + (if 1 ≤ 3 + t ∧ 3 + t - 1 < 2048 then P.W 1 d * P.dc (3 + t - 1) d else 0)
      + (if 0 ≤ 3 + t ∧ 3 + t - 0 < 2048 then P.W 0 d * P.dc (3 + t - 0) d else 0) = P.dx t d := by
  have part (l : ℕ) (hl : l ≤ 3) (w : ℝ) :
      (if l ≤ 3 + t ∧ 3 + t - l < 2048 then w * P.dc (3 + t - l) d else 0) = w * lead P.dc (3 - l) t d := by
    unfold lead
    by_cases h : t + (3 - l) < 2048
    · rw [if_pos (by omega), if_pos h, show 3 + t - l = t + (3 - l) by omega]
    · rw [if_neg (by omega), if_neg h, mul_zero]
  rw [part 3 (by omega), part 2 (by omega), part 1 (by omega), part 0 (by omega)]
  unfold dx
  rw [show lead P.dc (3 - 3) t d = P.dc t d from if_pos ht]
  ring

/-- The gradient of the weights by its four columns. -/
theorem dw_eq (k d : ℕ) (hk : k < 4) :
    (if k = 3 then P.dw 3 d else 0) + (if k = 2 then P.dw 2 d else 0) + (if k = 1 then P.dw 1 d else 0) + (if k = 0 then P.dw 0 d else 0)
      = P.dw k d := by
  obtain rfl | rfl | rfl | rfl : k = 0 ∨ k = 1 ∨ k = 2 ∨ k = 3 := by omega
  all_goals simp
end Conv

end Cert.ConvMath

end
-- ==== Proof.ConvReference.lean ====
module

public import proofs.«01_k».proof.Proof.ConvOps
public import proofs.«01_k».proof.Proof.Gen.GdnConvReferenceIdeal.Read

/-! # The reference's convolution, its activation and its heads

    The stages of the plain formulation up to the gradient of the activated convolution, as real functions. -/

@[expose] public section

set_option maxRecDepth 16384

noncomputable section

namespace Cert.GdnConvReferenceIdeal.Stages

open Cert.GdnConvReferenceIdeal Cert.GdnConvReferenceIdeal.Gen Cert.GdnConvReferenceIdeal.Read
open Idealize.ShloMosaic hiding ix1 ix2 ix3 ix4 eq_ix2 eq_ix3 eq_ix4
open Idealize.ShloMosaic.ValueIdx
open Cert.Attn (Rep at4 at4_in coe_sum_fin div_coe_coe)
open Cert.FfnMath Cert.ConvMath
open scoped BigOperators
open Finset (range)

variable {x0 : FVec Ideal S1x2048x4352 .f32} {x1 : FVec Ideal S3072x4 .f32} {x2 x3 x4 : FVec Ideal S1x2048x8x128 .f32}

/-- The constant zero at an index. -/
theorem zero_at (i : S_.Idx) : (constant (F := Ideal) S_ .f32 0x00000000#32) i = ((0 : ℝ) : EReal) := Ideal.ofBits_zero_f32.trans EReal.coe_zero.symm

variable (R : Reals x0 x1 x2 x3 x4)
include R

/-- The first 3072 columns of the sequence. -/
theorem s0 : Rep1 (m := 2048) (n := 3072) (φ := .f32) (val_main_v0 (F := Ideal) x0) (conv x0 x1 x2 x3 x4).X := fun t d => by
  rw [val_main_v0_apply, (rep_re1 R.h0).entry]
  rfl

/-- Three rows of zeros in front of them. -/
theorem s2 : Rep1 (m := 2051) (n := 3072) (φ := .f32) (val_main_v2 (F := Ideal) x0) (fun t d => if t < 3 then 0 else (conv x0 x1 x2 x3 x4).X (t - 3) d) := by
  unfold val_main_v2
  refine front concatenates_S1x3x3072_S1x2048x3072_S1x2051x3072_d1 rfl (fun t d => ?_) (s0 R)
  rw [val_main_v1_apply]
  exact zero_at _

/-- The first window of the rows. -/
theorem s6 : Rep1 (m := 2048) (n := 3072) (φ := .f32) (val_main_v6 (F := Ideal) x0) (lag (conv x0 x1 x2 x3 x4).X 3) := fun t d => by
  rw [val_main_v6_apply, (s2 R).entry]
  exact congrArg _ (window (conv x0 x1 x2 x3 x4).X (o := 0) (s := t.val) (t := t.val) (d := d.val) (Nat.zero_add _).symm (by decide))

/-- The second window of the rows. -/
theorem s14 : Rep1 (m := 2048) (n := 3072) (φ := .f32) (val_main_v14 (F := Ideal) x0) (lag (conv x0 x1 x2 x3 x4).X 2) := fun t d => by
  rw [val_main_v14_apply, (s2 R).entry]
  exact congrArg _ (window (conv x0 x1 x2 x3 x4).X (o := 1) (s := 1 + t.val) (t := t.val) (d := d.val) rfl (by decide))

/-- The third window of the rows. -/
theorem s21 : Rep1 (m := 2048) (n := 3072) (φ := .f32) (val_main_v21 (F := Ideal) x0) (lag (conv x0 x1 x2 x3 x4).X 1) := fun t d => by
  rw [val_main_v21_apply, (s2 R).entry]
  exact congrArg _ (window (conv x0 x1 x2 x3 x4).X (o := 2) (s := 2 + t.val) (t := t.val) (d := d.val) rfl (by decide))

/-- The fourth window of the rows. -/
theorem s28 : Rep1 (m := 2048) (n := 3072) (φ := .f32) (val_main_v28 (F := Ideal) x0) (lag (conv x0 x1 x2 x3 x4).X 0) := fun t d => by
  rw [val_main_v28_apply, (s2 R).entry]
  exact congrArg _ (window (conv x0 x1 x2 x3 x4).X (o := 3) (s := 3 + t.val) (t := t.val) (d := d.val) rfl (by decide))

/-- The first weight of every column. -/
theorem s7 (i : S1x1x3072.Idx) : val_main_v7 (F := Ideal) x1 i = (((conv x0 x1 x2 x3 x4).W 0 (i 2).val : ℝ) : EReal) := by
  rw [val_main_v7_apply, val_main_v5_apply, val_main_v4_apply, at2 (rep_re2 R.h1)]
  show ((re2 x1 ((i 2).val / 1) 0 : ℝ) : EReal) = ((re2 x1 (i 2).val 0 : ℝ) : EReal)
  rw [Nat.div_one]

/-- The second weight of every column. -/
theorem s15 (i : S1x1x3072.Idx) : val_main_v15 (F := Ideal) x1 i = (((conv x0 x1 x2 x3 x4).W 1 (i 2).val : ℝ) : EReal) := by
  rw [val_main_v15_apply, val_main_v13_apply, val_main_v12_apply, at2 (rep_re2 R.h1)]
  show ((re2 x1 ((i 2).val / 1) 1 : ℝ) : EReal) = ((re2 x1 (i 2).val 1 : ℝ) : EReal)
  rw [Nat.div_one]

/-- The third weight of every column. -/
theorem s22 (i : S1x1x3072.Idx) : val_main_v22 (F := Ideal) x1 i = (((conv x0 x1 x2 x3 x4).W 2 (i 2).val : ℝ) : EReal) := by
  rw [val_main_v22_apply, val_main_v20_apply, val_main_v19_apply, at2 (rep_re2 R.h1)]
  show ((re2 x1 ((i 2).val / 1) 2 : ℝ) : EReal) = ((re2 x1 (i 2).val 2 : ℝ) : EReal)
  rw [Nat.div_one]

/-- The fourth weight of every column. -/
theorem s29 (i : S1x1x3072.Idx) : val_main_v29 (F := Ideal) x1 i = (((conv x0 x1 x2 x3 x4).W 3 (i 2).val : ℝ) : EReal) := by
  rw [val_main_v29_apply, val_main_v27_apply, val_main_v26_apply, at2 (rep_re2 R.h1)]
  show ((re2 x1 ((i 2).val / 1) 3 : ℝ) : EReal) = ((re2 x1 (i 2).val 3 : ℝ) : EReal)
  rw [Nat.div_one]

/-- The convolution. -/
theorem s32 : Rep1 (m := 2048) (n := 3072) (φ := .f32) (val_main_v32 (F := Ideal) x0 x1) (conv x0 x1 x2 x3 x4).c := fun t d => by
  rw [val_main_v32_apply, val_main_v25_apply, val_main_v18_apply, val_main_v11_apply, val_main_v10_apply, val_main_v9_apply, val_main_v17_apply,
    val_main_v24_apply, val_main_v31_apply, val_main_v8_apply, val_main_v16_apply, val_main_v23_apply, val_main_v30_apply, s7 R, s15 R, s22 R, s29 R,
    s6 R, s14 R, s21 R, s28 R]
  show Ideal.ofBits .f32 0x00000000#32 + _ * _ + _ * _ + _ * _ + _ * _ = _
  rw [Ideal.ofBits_zero_f32, zero_add]
  simp only [← EReal.coe_mul, ← EReal.coe_add]
  refine congrArg _ ?_
  unfold Conv.c
  rw [← lag_zero (conv x0 x1 x2 x3 x4).X t.val d.val]

/-- The logistic function of the convolution. -/
theorem s33_2 : Rep1 (m := 2048) (n := 3072) (φ := .f32) (val_main_v33_2 (F := Ideal) x0 x1) (fun t d => sg ((conv x0 x1 x2 x3 x4).c t d)) := fun t d => by
  rw [val_main_v33_2_apply, val_main_call0_v4_apply, val_main_call0_cst_0_apply, val_main_call0_v3_apply, val_main_call0_v2_apply, val_main_call0_cst_apply,
    val_main_call0_v1_apply, val_main_call0_v0_apply, s32 R]
  show Ideal.div (Ideal.ofBits .f32 0x3F800000#32) (Ideal.ofBits .f32 0x3F800000#32 + Ideal.exp (-(((conv x0 x1 x2 x3 x4).c t.val d.val : ℝ) : EReal))) = _
  rw [word_one, ← EReal.coe_neg, Ideal.exp_coe, ← EReal.coe_add, div_coe_coe (one_add_exp_ne _)]
  simp only [sg, zero_sub]

/-- The derivative's second factor. -/
theorem s33_1 : Rep1 (m := 2048) (n := 3072) (φ := .f32) (val_main_v33_1 (F := Ideal) x0 x1)
    (fun t d => sg ((conv x0 x1 x2 x3 x4).c t d) * (1 - sg ((conv x0 x1 x2 x3 x4).c t d))) := fun t d => by
  rw [val_main_v33_1_apply, val_main_call0_v7_apply, val_main_call0_v6_apply, val_main_call0_cst_1_apply, s33_2 R]
  show _ * (Ideal.ofBits .f32 0x3F800000#32 - _) = _
  rw [word_one, ← EReal.coe_sub, ← EReal.coe_mul]

/-- The activated convolution. -/
theorem s33_0 : Rep1 (m := 2048) (n := 3072) (φ := .f32) (val_main_v33_0 (F := Ideal) x0 x1) (conv x0 x1 x2 x3 x4).y := fun t d => by
  rw [val_main_v33_0_apply, s32 R, s33_2 R]
  exact (EReal.coe_mul _ _).symm

/-- The first third's heads of the activated convolution. -/
theorem s35 : RepH (m := 2048) (p := 8) (n := 128) (val_main_v35 (F := Ideal) x0 x1) (fun t h e => (conv x0 x1 x2 x3 x4).y t (128 * h + e)) := fun t h e => by
  rw [val_main_v35_apply, val_main_v34_apply, (s33_0 R).entry]
  show (((conv x0 x1 x2 x3 x4).y ((((0 * 2048 + t.val) * 8 + h.val) * 128 + e.val) / 1024 % 2048) ((((0 * 2048 + t.val) * 8 + h.val) * 128 + e.val) % 1024) : ℝ) : EReal)
    = (((conv x0 x1 x2 x3 x4).y t.val (128 * h.val + e.val) : ℝ) : EReal)
  refine congrArg _ (congrArg₂ (conv x0 x1 x2 x3 x4).y ?_ ?_) <;> omega

/-- Their sums of squares with the small number. -/
theorem s44 : RepH (m := 2048) (p := 8) (n := 1) (val_main_v44 (F := Ideal) x0 x1) (fun t h _ => (conv x0 x1 x2 x3 x4).q t h) := fun t h e => by
  rw [val_main_v44_apply, val_main_v42_apply, val_main_v41_apply, val_main_v43_apply]
  show (Ideal.ofBits .f32 0x00000000#32 + ∑ k : Fin 128, _) + Ideal.ofBits .f32 0x358637BD#32 = _
  rw [Ideal.ofBits_zero_f32, zero_add, word_eps]
  refine (congrArg (· + ((eps : ℝ) : EReal)) ((Finset.sum_congr rfl fun k _ => ?_).trans
    (coe_sum_fin 128 (fun e => (conv x0 x1 x2 x3 x4).y t.val (128 * h.val + e) * (conv x0 x1 x2 x3 x4).y t.val (128 * h.val + e))))).trans (EReal.coe_add _ _).symm
  rw [val_main_v40_apply, (s35 R).entry]
  exact (EReal.coe_mul _ _).symm

/-- One over their norms. -/
theorem s45 : RepH (m := 2048) (p := 8) (n := 1) (val_main_v45 (F := Ideal) x0 x1) (fun t h _ => (conv x0 x1 x2 x3 x4).r t h) := fun t h e => by
  rw [val_main_v45_apply, s44 R]
  exact rsqrt_pos ((conv x0 x1 x2 x3 x4).q_pos _ _)

/-- The derivative of one over the norm. -/
theorem s48 : RepH (m := 2048) (p := 8) (n := 1) (val_main_v48 (F := Ideal) x0 x1)
    (fun t h _ => -(1 / 2) * ((conv x0 x1 x2 x3 x4).r t h / (conv x0 x1 x2 x3 x4).q t h)) := fun t h e => by
  rw [val_main_v48_apply, val_main_v47_apply, val_main_v46_apply, s45 R, s44 R]
  show Ideal.ofBits .f32 0xBF000000#32 * Ideal.div _ _ = _
  rw [word_half, div_coe_coe ((conv x0 x1 x2 x3 x4).q_pos _ _).ne', ← EReal.coe_mul]

/-- The second third's heads of the activated convolution. -/
theorem s37 : RepH (m := 2048) (p := 8) (n := 128) (val_main_v37 (F := Ideal) x0 x1) (fun t h e => (conv x0 x1 x2 x3 x4).y t (128 * (8 + h) + e)) := fun t h e => by
  rw [val_main_v37_apply, val_main_v36_apply, (s33_0 R).entry]
  show (((conv x0 x1 x2 x3 x4).y ((((0 * 2048 + t.val) * 8 + h.val) * 128 + e.val) / 1024 % 2048) (1024 + (((0 * 2048 + t.val) * 8 + h.val) * 128 + e.val) % 1024) : ℝ) : EReal)
    = (((conv x0 x1 x2 x3 x4).y t.val (128 * (8 + h.val) + e.val) : ℝ) : EReal)
  refine congrArg _ (congrArg₂ (conv x0 x1 x2 x3 x4).y ?_ ?_) <;> omega

/-- Their sums of squares with the small number. -/
theorem s57 : RepH (m := 2048) (p := 8) (n := 1) (val_main_v57 (F := Ideal) x0 x1) (fun t h _ => (conv x0 x1 x2 x3 x4).q t (8 + h)) := fun t h e => by
  rw [val_main_v57_apply, val_main_v55_apply, val_main_v54_apply, val_main_v56_apply]
  show (Ideal.ofBits .f32 0x00000000#32 + ∑ k : Fin 128, _) + Ideal.ofBits .f32 0x358637BD#32 = _
  rw [Ideal.ofBits_zero_f32, zero_add, word_eps]
  refine (congrArg (· + ((eps : ℝ) : EReal)) ((Finset.sum_congr rfl fun k _ => ?_).trans
    (coe_sum_fin 128 (fun e => (conv x0 x1 x2 x3 x4).y t.val (128 * (8 + h.val) + e) * (conv x0 x1 x2 x3 x4).y t.val (128 * (8 + h.val) + e))))).trans (EReal.coe_add _ _).symm
  rw [val_main_v53_apply, (s37 R).entry]
  exact (EReal.coe_mul _ _).symm

/-- One over their norms. -/
theorem s58 : RepH (m := 2048) (p := 8) (n := 1) (val_main_v58 (F := Ideal) x0 x1) (fun t h _ => (conv x0 x1 x2 x3 x4).r t (8 + h)) := fun t h e => by
  rw [val_main_v58_apply, s57 R]
  exact rsqrt_pos ((conv x0 x1 x2 x3 x4).q_pos _ _)

/-- The derivative of one over the norm. -/
theorem s61 : RepH (m := 2048) (p := 8) (n := 1) (val_main_v61 (F := Ideal) x0 x1)
    (fun t h _ => -(1 / 2) * ((conv x0 x1 x2 x3 x4).r t (8 + h) / (conv x0 x1 x2 x3 x4).q t (8 + h))) := fun t h e => by
  rw [val_main_v61_apply, val_main_v60_apply, val_main_v59_apply, s58 R, s57 R]
  show Ideal.ofBits .f32 0xBF000000#32 * Ideal.div _ _ = _
  rw [word_half, div_coe_coe ((conv x0 x1 x2 x3 x4).q_pos _ _).ne', ← EReal.coe_mul]

omit R in
/-- The incoming gradient of the first third. -/
theorem z_first (t h e : ℕ) (hh : h < 8) (he : e < 128) : (conv x0 x1 x2 x3 x4).Z t (128 * h + e) = at4 x2 h t e := by
  show thirds (at4 x2) (at4 x3) (at4 x4) t (128 * h + e) = _
  unfold thirds
  rw [if_pos (by omega), show (128 * h + e) / 128 = h by omega, show (128 * h + e) % 128 = e by omega]

omit R in
/-- The incoming gradient of the second third. -/
theorem z_second (t h e : ℕ) (hh : h < 8) (he : e < 128) : (conv x0 x1 x2 x3 x4).Z t (128 * (8 + h) + e) = at4 x3 h t e := by
  show thirds (at4 x2) (at4 x3) (at4 x4) t (128 * (8 + h) + e) = _
  unfold thirds
  rw [if_neg (by omega), if_pos (by omega), show (128 * (8 + h) + e - 1024) / 128 = h by omega, show (128 * (8 + h) + e - 1024) % 128 = e by omega]

omit R in
/-- The incoming gradient of the last third. -/
theorem z_last (t d : ℕ) : (conv x0 x1 x2 x3 x4).Z t (2048 + d) = at4 x4 (d / 128) t (d % 128) := by
  show thirds (at4 x2) (at4 x3) (at4 x4) t (2048 + d) = _
  unfold thirds
  rw [if_neg (by omega), if_neg (by omega), Nat.add_sub_cancel_left]

/-- The incoming gradients' heads. -/
theorem sx2 : RepH (m := 2048) (p := 8) (n := 128) x2 (fun t h e => (conv x0 x1 x2 x3 x4).Z t (128 * h + e)) := fun t h e => by
  rw [at4_in R.h2 0 t h e]
  exact congrArg _ (z_first t.val h.val e.val h.isLt e.isLt).symm
/-- The keys' incoming gradient by head. -/
theorem sx3 : RepH (m := 2048) (p := 8) (n := 128) x3 (fun t h e => (conv x0 x1 x2 x3 x4).Z t (128 * (8 + h) + e)) := fun t h e => by
  rw [at4_in R.h3 0 t h e]
  exact congrArg _ (z_second t.val h.val e.val h.isLt e.isLt).symm
/-- The values' incoming gradient by head. -/
theorem sx4 : RepH (m := 2048) (p := 8) (n := 128) x4 (fun t h e => at4 x4 h t e) := fun t h e => at4_in R.h4 0 t h e

/-- The second third's product with its heads. -/
theorem s65 (i : S1x2048x8.Idx) : val_main_v65 (F := Ideal) x0 x1 x3 i = (((conv x0 x1 x2 x3 x4).p (i 1).val (8 + (i 2).val) : ℝ) : EReal) := by
  rw [val_main_v65_apply]
  show Ideal.ofBits .f32 0x00000000#32 + ∑ k : Fin 128, _ = _
  rw [Ideal.ofBits_zero_f32, zero_add]
  refine (Finset.sum_congr rfl fun k _ => ?_).trans (coe_sum_fin 128 (fun e =>
    (conv x0 x1 x2 x3 x4).Z (i 1).val (128 * (8 + (i 2).val) + e) * (conv x0 x1 x2 x3 x4).y (i 1).val (128 * (8 + (i 2).val) + e)))
  rw [val_main_v64_apply, (s37 R).entry, (sx3 R).entry]
  show _ * _ = _
  rw [← EReal.coe_mul, mul_comm]

/-- The second third's gradient through the sum of squares. -/
theorem s72 : RepH (m := 2048) (p := 8) (n := 128) (val_main_v72 (F := Ideal) x0 x1 x3)
    (fun t h _ => (conv x0 x1 x2 x3 x4).p t (8 + h) * (-(1 / 2) * ((conv x0 x1 x2 x3 x4).r t (8 + h) / (conv x0 x1 x2 x3 x4).q t (8 + h)))) := fun t h e => by
  rw [val_main_v72_apply, val_main_v71_apply]
  unfold val_main_v70
  rw [show idx_main_v71 (idx_main_v72 (ix4 0 t h e)) = ix2 t h from funext fun a => match a with
    | ⟨0, _⟩ => rfl
    | ⟨1, _⟩ => rfl]
  simp only [Host.reduceAdd, Ideal.hostReduceAdd_def]
  rw [sum_outer]
  rw [val_main_v69_apply, val_main_v66_apply, s65 R, s61 R]
  show Ideal.ofBits .f32 0x00000000#32 + _ * _ = _
  rw [Ideal.ofBits_zero_f32, zero_add, ← EReal.coe_mul]
  show (((conv x0 x1 x2 x3 x4).p ((((0 * 2048 + t.val) * 8 + h.val) * 1 + 0) / 8 % 2048) (8 + (((0 * 2048 + t.val) * 8 + h.val) * 1 + 0) % 8) * _ : ℝ) : EReal) = _
  rw [show (((0 * 2048 + t.val) * 8 + h.val) * 1 + 0) / 8 % 2048 = t.val by omega, show (((0 * 2048 + t.val) * 8 + h.val) * 1 + 0) % 8 = h.val by omega]

/-- The second third's gradient. -/
theorem s76 : RepH (m := 2048) (p := 8) (n := 128) (val_main_v76 (F := Ideal) x0 x1 x3) (fun t h e => (conv x0 x1 x2 x3 x4).gn t (128 * (8 + h) + e)) := fun t h e => by
  rw [val_main_v76_apply, val_main_v74_apply, val_main_v75_apply, val_main_v73_apply, val_main_v68_apply, val_main_v67_apply, s72 R, s37 R, sx3 R,
    (s58 R).entry]
  show _ * _ + _ * _ + _ * _ = _
  simp only [← EReal.coe_mul, ← EReal.coe_add]
  exact congrArg _ ((conv x0 x1 x2 x3 x4).gn_eq t.val (8 + h.val) e.val e.isLt)

/-- The first third's incoming gradient, scaled. -/
theorem s78 : RepH (m := 2048) (p := 8) (n := 128) (val_main_v78 (F := Ideal) x2) (fun t h e => (conv x0 x1 x2 x3 x4).Z t (128 * h + e) * scale) := fun t h e => by
  rw [val_main_v78_apply, val_main_v77_apply, sx2 R]
  show _ * Ideal.ofBits .f32 0x3DB504F3#32 = _
  rw [word_scale, ← EReal.coe_mul]

/-- The first third's product with its heads. -/
theorem s80 (i : S1x2048x8.Idx) : val_main_v80 (F := Ideal) x0 x1 x2 i = ((scale * (conv x0 x1 x2 x3 x4).p (i 1).val (i 2).val : ℝ) : EReal) := by
  rw [val_main_v80_apply]
  show Ideal.ofBits .f32 0x00000000#32 + ∑ k : Fin 128, _ = _
  rw [Ideal.ofBits_zero_f32, zero_add]
  refine ((Finset.sum_congr rfl fun k _ => ?_).trans (coe_sum_fin 128 (fun e =>
    scale * ((conv x0 x1 x2 x3 x4).Z (i 1).val (128 * (i 2).val + e) * (conv x0 x1 x2 x3 x4).y (i 1).val (128 * (i 2).val + e))))).trans (congrArg _ (Finset.mul_sum _ _ _).symm)
  rw [val_main_v79_apply, (s35 R).entry, (s78 R).entry]
  show _ * _ = _
  rw [← EReal.coe_mul]
  refine congrArg _ ?_
  show (conv x0 x1 x2 x3 x4).y (i 1).val (128 * (i 2).val + k.val) * ((conv x0 x1 x2 x3 x4).Z (i 1).val (128 * (i 2).val + k.val) * scale) = _
  ring

/-- The first third's gradient through the sum of squares. -/
theorem s87 : RepH (m := 2048) (p := 8) (n := 128) (val_main_v87 (F := Ideal) x0 x1 x2)
    (fun t h _ => scale * (conv x0 x1 x2 x3 x4).p t h * (-(1 / 2) * ((conv x0 x1 x2 x3 x4).r t h / (conv x0 x1 x2 x3 x4).q t h))) := fun t h e => by
  rw [val_main_v87_apply, val_main_v86_apply]
  unfold val_main_v85
  rw [show idx_main_v86 (idx_main_v87 (ix4 0 t h e)) = ix2 t h from funext fun a => match a with
    | ⟨0, _⟩ => rfl
    | ⟨1, _⟩ => rfl]
  simp only [Host.reduceAdd, Ideal.hostReduceAdd_def]
  rw [sum_outer]
  rw [val_main_v84_apply, val_main_v81_apply, s80 R, s48 R]
  show Ideal.ofBits .f32 0x00000000#32 + _ * _ = _
  rw [Ideal.ofBits_zero_f32, zero_add, ← EReal.coe_mul]
  show ((scale * (conv x0 x1 x2 x3 x4).p ((((0 * 2048 + t.val) * 8 + h.val) * 1 + 0) / 8 % 2048) ((((0 * 2048 + t.val) * 8 + h.val) * 1 + 0) % 8) * _ : ℝ) : EReal) = _
  rw [show (((0 * 2048 + t.val) * 8 + h.val) * 1 + 0) / 8 % 2048 = t.val by omega, show (((0 * 2048 + t.val) * 8 + h.val) * 1 + 0) % 8 = h.val by omega]

/-- The first third's gradient. -/
theorem s91 : RepH (m := 2048) (p := 8) (n := 128) (val_main_v91 (F := Ideal) x0 x1 x2) (fun t h e => scale * (conv x0 x1 x2 x3 x4).gn t (128 * h + e)) := fun t h e => by
  rw [val_main_v91_apply, val_main_v89_apply, val_main_v90_apply, val_main_v88_apply, val_main_v83_apply, val_main_v82_apply, s87 R, s35 R, s78 R,
    (s45 R).entry]
  show _ * _ + _ * _ + _ * _ = _
  simp only [← EReal.coe_mul, ← EReal.coe_add]
  exact congrArg _ ((conv x0 x1 x2 x3 x4).gn_scaled t.val h.val e.val e.isLt)

end Cert.GdnConvReferenceIdeal.Stages

end
-- ==== Proof.ConvGradient.lean ====
module

public import proofs.«01_k».proof.Proof.ConvReference

/-! # The reference's gradients -/

@[expose] public section

set_option maxRecDepth 16384

noncomputable section

namespace Cert.GdnConvReferenceIdeal.Stages

open Cert.GdnConvReferenceIdeal Cert.GdnConvReferenceIdeal.Gen Cert.GdnConvReferenceIdeal.Read
open Idealize.ShloMosaic hiding ix1 ix2 ix3 ix4 eq_ix2 eq_ix3 eq_ix4
open Idealize.ShloMosaic.ValueIdx
open Cert.Attn (Rep at4 coe_sum_fin)
open Cert.FfnMath Cert.ConvMath
open scoped BigOperators
open Finset (range)

variable {x0 : FVec Ideal S1x2048x4352 .f32} {x1 : FVec Ideal S3072x4 .f32} {x2 x3 x4 : FVec Ideal S1x2048x8x128 .f32}
variable (R : Reals x0 x1 x2 x3 x4)
include R

/-- The last third's incoming gradient by columns. -/
theorem s92 : Rep1 (m := 2048) (n := 1024) (φ := .f32) (val_main_v92 (F := Ideal) x4) (fun t d => (conv x0 x1 x2 x3 x4).Z t (2048 + d)) := fun t d => by
  rw [val_main_v92_apply, (sx4 R).entry]
  show ((at4 x4 (((0 * 2048 + t.val) * 1024 + d.val) / 128 % 8) (((0 * 2048 + t.val) * 1024 + d.val) / 1024 % 2048) (((0 * 2048 + t.val) * 1024 + d.val) % 128) : ℝ) : EReal) = _
  refine congrArg _ (Eq.trans ?_ (z_last t.val d.val).symm)
  rw [show ((0 * 2048 + t.val) * 1024 + d.val) / 128 % 8 = d.val / 128 by omega, show ((0 * 2048 + t.val) * 1024 + d.val) / 1024 % 2048 = t.val by omega,
    show ((0 * 2048 + t.val) * 1024 + d.val) % 128 = d.val % 128 by omega]

/-- The second third's gradient by columns. -/
theorem s94 : Rep1 (m := 2048) (n := 1024) (φ := .f32) (val_main_v94 (F := Ideal) x0 x1 x3) (fun t d => (conv x0 x1 x2 x3 x4).gn t (1024 + d)) := fun t d => by
  rw [val_main_v94_apply, (s76 R).entry]
  show (((conv x0 x1 x2 x3 x4).gn (((0 * 2048 + t.val) * 1024 + d.val) / 1024 % 2048)
    (128 * (8 + ((0 * 2048 + t.val) * 1024 + d.val) / 128 % 8) + ((0 * 2048 + t.val) * 1024 + d.val) % 128) : ℝ) : EReal) = (((conv x0 x1 x2 x3 x4).gn t.val (1024 + d.val) : ℝ) : EReal)
  refine congrArg _ (congrArg₂ (conv x0 x1 x2 x3 x4).gn ?_ ?_) <;> omega

/-- The first third's gradient by columns. -/
theorem s97 : Rep1 (m := 2048) (n := 1024) (φ := .f32) (val_main_v97 (F := Ideal) x0 x1 x2) (fun t d => scale * (conv x0 x1 x2 x3 x4).gn t d) := fun t d => by
  rw [val_main_v97_apply, (s91 R).entry]
  show ((scale * (conv x0 x1 x2 x3 x4).gn (((0 * 2048 + t.val) * 1024 + d.val) / 1024 % 2048)
    (128 * (((0 * 2048 + t.val) * 1024 + d.val) / 128 % 8) + ((0 * 2048 + t.val) * 1024 + d.val) % 128) : ℝ) : EReal) = ((scale * (conv x0 x1 x2 x3 x4).gn t.val d.val : ℝ) : EReal)
  refine congrArg _ (congrArg (scale * ·) (congrArg₂ (conv x0 x1 x2 x3 x4).gn ?_ ?_)) <;> omega

/-- The gradient of the activated convolution. -/
theorem s99 : Rep1 (m := 2048) (n := 3072) (φ := .f32) (val_main_v99 (F := Ideal) x0 x1 x2 x3 x4) (conv x0 x1 x2 x3 x4).dy := fun t d => by
  have e0 := pad_cols zero_at pads_S1x2048x1024_S1x2048x3072_000_000_204800 h_S_ (s92 R) t d
  have e1 := pad_cols zero_at pads_S1x2048x1024_S1x2048x3072_000_000_102410240 h_S_ (s94 R) t d
  have e2 := pad_cols zero_at pads_S1x2048x1024_S1x2048x3072_000_000_020480 h_S_ (s97 R) t d
  rw [val_main_v99_apply, val_main_v96_apply]
  refine (congrArg₂ (· + ·) (congrArg₂ (· + ·) e0 e1) e2).trans ?_
  dsimp only
  rw [← EReal.coe_add, ← EReal.coe_add]
  exact congrArg _ ((conv x0 x1 x2 x3 x4).dy_eq t.val d.val d.isLt)

/-- The gradient of the convolution. -/
theorem s100 : Rep1 (m := 2048) (n := 3072) (φ := .f32) (val_main_v100 (F := Ideal) x0 x1 x2 x3 x4) (conv x0 x1 x2 x3 x4).dc := fun t d => by
  rw [val_main_v100_apply, val_main_call1_v1_apply, val_main_call1_v2_apply, val_main_call1_v0_apply, s99 R, s33_2 R, s32 R, s33_1 R]
  show _ * _ + _ * _ * _ = _
  simp only [← EReal.coe_mul, ← EReal.coe_add]
  exact congrArg _ ((conv x0 x1 x2 x3 x4).dc_eq t.val d.val)

/-- The fourth weight times the gradient of the convolution. -/
theorem s102 : Rep1 (m := 2048) (n := 3072) (φ := .f32) (val_main_v102 (F := Ideal) x0 x1 x2 x3 x4) (fun t d => (conv x0 x1 x2 x3 x4).W 3 d * (conv x0 x1 x2 x3 x4).dc t d) := fun t d => by
  rw [val_main_v102_apply, val_main_v101_apply, s29 R, s100 R]
  exact (EReal.coe_mul _ _).symm

/-- The gradient of the fourth weight. -/
theorem s108 : Rep (m := 3072) (n := 1) (φ := .f32) (val_main_v108 (F := Ideal) x0 x1 x2 x3 x4) (fun d _ => (conv x0 x1 x2 x3 x4).dw 3 d) := fun d u => by
  rw [val_main_v108_apply]
  unfold val_main_v106
  rw [show idx_main_v108 (ix2 d u) = ix1 d from funext fun a => match a with
    | ⟨0, _⟩ => rfl]
  simp only [Host.reduceAdd, Ideal.hostReduceAdd_def]
  rw [sum_front, val_main_v105_apply, val_main_v104_apply]
  show Ideal.ofBits .f32 0x00000000#32 + (Ideal.ofBits .f32 0x00000000#32 + ∑ t : Fin 2048, _) = _
  rw [Ideal.ofBits_zero_f32, zero_add, zero_add]
  refine (Finset.sum_congr rfl fun t _ => ?_).trans (coe_sum_fin 2048 (fun t => (conv x0 x1 x2 x3 x4).dc t d.val * lag (conv x0 x1 x2 x3 x4).X 0 t d.val))
  rw [val_main_v103_apply, (s100 R).entry, (s28 R).entry]
  show _ * _ = _
  rw [← EReal.coe_mul]
  have hd := d.isLt
  show (((conv x0 x1 x2 x3 x4).dc t.val (((0 * 1 + 0) * 3072 + d.val) % 3072) * lag (conv x0 x1 x2 x3 x4).X 0 t.val (((0 * 1 + 0) * 3072 + d.val) % 3072) : ℝ) : EReal) = _
  rw [show ((0 * 1 + 0) * 3072 + d.val) % 3072 = d.val by omega]

/-- The third weight times the gradient of the convolution. -/
theorem s111 : Rep1 (m := 2048) (n := 3072) (φ := .f32) (val_main_v111 (F := Ideal) x0 x1 x2 x3 x4) (fun t d => (conv x0 x1 x2 x3 x4).W 2 d * (conv x0 x1 x2 x3 x4).dc t d) := fun t d => by
  rw [val_main_v111_apply, val_main_v110_apply, s22 R, s100 R]
  exact (EReal.coe_mul _ _).symm

/-- The gradient of the third weight. -/
theorem s118 : Rep (m := 3072) (n := 1) (φ := .f32) (val_main_v118 (F := Ideal) x0 x1 x2 x3 x4) (fun d _ => (conv x0 x1 x2 x3 x4).dw 2 d) := fun d u => by
  rw [val_main_v118_apply]
  unfold val_main_v115
  rw [show idx_main_v118 (ix2 d u) = ix1 d from funext fun a => match a with
    | ⟨0, _⟩ => rfl]
  simp only [Host.reduceAdd, Ideal.hostReduceAdd_def]
  rw [sum_front, val_main_v114_apply, val_main_v113_apply]
  show Ideal.ofBits .f32 0x00000000#32 + (Ideal.ofBits .f32 0x00000000#32 + ∑ t : Fin 2048, _) = _
  rw [Ideal.ofBits_zero_f32, zero_add, zero_add]
  refine (Finset.sum_congr rfl fun t _ => ?_).trans (coe_sum_fin 2048 (fun t => (conv x0 x1 x2 x3 x4).dc t d.val * lag (conv x0 x1 x2 x3 x4).X 1 t d.val))
  rw [val_main_v112_apply, (s100 R).entry, (s21 R).entry]
  show _ * _ = _
  rw [← EReal.coe_mul]
  have hd := d.isLt
  show (((conv x0 x1 x2 x3 x4).dc t.val (((0 * 1 + 0) * 3072 + d.val) % 3072) * lag (conv x0 x1 x2 x3 x4).X 1 t.val (((0 * 1 + 0) * 3072 + d.val) % 3072) : ℝ) : EReal) = _
  rw [show ((0 * 1 + 0) * 3072 + d.val) % 3072 = d.val by omega]

/-- The second weight times the gradient of the convolution. -/
theorem s122 : Rep1 (m := 2048) (n := 3072) (φ := .f32) (val_main_v122 (F := Ideal) x0 x1 x2 x3 x4) (fun t d => (conv x0 x1 x2 x3 x4).W 1 d * (conv x0 x1 x2 x3 x4).dc t d) := fun t d => by
  rw [val_main_v122_apply, val_main_v121_apply, s15 R, s100 R]
  exact (EReal.coe_mul _ _).symm

/-- The gradient of the second weight. -/
theorem s129 : Rep (m := 3072) (n := 1) (φ := .f32) (val_main_v129 (F := Ideal) x0 x1 x2 x3 x4) (fun d _ => (conv x0 x1 x2 x3 x4).dw 1 d) := fun d u => by
  rw [val_main_v129_apply]
  unfold val_main_v126
  rw [show idx_main_v129 (ix2 d u) = ix1 d from funext fun a => match a with
    | ⟨0, _⟩ => rfl]
  simp only [Host.reduceAdd, Ideal.hostReduceAdd_def]
  rw [sum_front, val_main_v125_apply, val_main_v124_apply]
  show Ideal.ofBits .f32 0x00000000#32 + (Ideal.ofBits .f32 0x00000000#32 + ∑ t : Fin 2048, _) = _
  rw [Ideal.ofBits_zero_f32, zero_add, zero_add]
  refine (Finset.sum_congr rfl fun t _ => ?_).trans (coe_sum_fin 2048 (fun t => (conv x0 x1 x2 x3 x4).dc t d.val * lag (conv x0 x1 x2 x3 x4).X 2 t d.val))
  rw [val_main_v123_apply, (s100 R).entry, (s14 R).entry]
  show _ * _ = _
  rw [← EReal.coe_mul]
  have hd := d.isLt
  show (((conv x0 x1 x2 x3 x4).dc t.val (((0 * 1 + 0) * 3072 + d.val) % 3072) * lag (conv x0 x1 x2 x3 x4).X 2 t.val (((0 * 1 + 0) * 3072 + d.val) % 3072) : ℝ) : EReal) = _
  rw [show ((0 * 1 + 0) * 3072 + d.val) % 3072 = d.val by omega]

/-- The first weight times the gradient of the convolution. -/
theorem s133 : Rep1 (m := 2048) (n := 3072) (φ := .f32) (val_main_v133 (F := Ideal) x0 x1 x2 x3 x4) (fun t d => (conv x0 x1 x2 x3 x4).W 0 d * (conv x0 x1 x2 x3 x4).dc t d) := fun t d => by
  rw [val_main_v133_apply, val_main_v132_apply, s7 R, s100 R]
  exact (EReal.coe_mul _ _).symm

/-- The gradient of the first weight. -/
theorem s140 : Rep (m := 3072) (n := 1) (φ := .f32) (val_main_v140 (F := Ideal) x0 x1 x2 x3 x4) (fun d _ => (conv x0 x1 x2 x3 x4).dw 0 d) := fun d u => by
  rw [val_main_v140_apply]
  unfold val_main_v137
  rw [show idx_main_v140 (ix2 d u) = ix1 d from funext fun a => match a with
    | ⟨0, _⟩ => rfl]
  simp only [Host.reduceAdd, Ideal.hostReduceAdd_def]
  rw [sum_front, val_main_v136_apply, val_main_v135_apply]
  show Ideal.ofBits .f32 0x00000000#32 + (Ideal.ofBits .f32 0x00000000#32 + ∑ t : Fin 2048, _) = _
  rw [Ideal.ofBits_zero_f32, zero_add, zero_add]
  refine (Finset.sum_congr rfl fun t _ => ?_).trans (coe_sum_fin 2048 (fun t => (conv x0 x1 x2 x3 x4).dc t d.val * lag (conv x0 x1 x2 x3 x4).X 3 t d.val))
  rw [val_main_v134_apply, (s100 R).entry, (s6 R).entry]
  show _ * _ = _
  rw [← EReal.coe_mul]
  have hd := d.isLt
  show (((conv x0 x1 x2 x3 x4).dc t.val (((0 * 1 + 0) * 3072 + d.val) % 3072) * lag (conv x0 x1 x2 x3 x4).X 3 t.val (((0 * 1 + 0) * 3072 + d.val) % 3072) : ℝ) : EReal) = _
  rw [show ((0 * 1 + 0) * 3072 + d.val) % 3072 = d.val by omega]

/-- The gradient of the sequence, as the reference returns it. -/
theorem out_dx : val_main_v146 (F := Ideal) x0 x1 x2 x3 x4 = of2 (m := 2048) (n := 3072) (φ := .bf16) (conv x0 x1 x2 x3 x4).dx := by
  refine eq_of2 fun t d => ?_
  have hb : 3 + t.val < 2051 := by have := t.isLt; omega
  have ht := t.isLt
  have hd := d.isLt
  have e0 := pad_rows zero_at pads_S1x2048x3072_S1x2051x3072_000_300_000 h_S_ (s102 R) ⟨3 + t.val, hb⟩ d
  have e1 := pad_rows zero_at pads_S1x2048x3072_S1x2051x3072_000_210_000 h_S_ (s111 R) ⟨3 + t.val, hb⟩ d
  have e2 := pad_rows zero_at pads_S1x2048x3072_S1x2051x3072_000_120_000 h_S_ (s122 R) ⟨3 + t.val, hb⟩ d
  have e3 := pad_rows zero_at pads_S1x2048x3072_S1x2051x3072_000_030_000 h_S_ (s133 R) ⟨3 + t.val, hb⟩ d
  refine Eq.trans (b := val_main_v145 (F := Ideal) x0 x1 x2 x3 x4 (ix2 t d)) rfl ?_
  rw [val_main_v145_apply, val_main_v144_apply, show idx_main_v144 (idx_main_v145 (ix2 t d)) = ix3 0 ⟨3 + t.val, hb⟩ d from funext fun a => match a with
    | ⟨0, _⟩ => rfl
    | ⟨1, _⟩ => Fin.ext (show 3 + (t.val * 3072 + d.val) / 3072 % 2048 = 3 + t.val by omega)
    | ⟨2, _⟩ => Fin.ext (show (t.val * 3072 + d.val) % 3072 = d.val by omega),
    val_main_v139_apply, val_main_v128_apply, val_main_v117_apply]
  refine (congrArg₂ (· + ·) (congrArg₂ (· + ·) (congrArg₂ (· + ·) e0 e1) e2) e3).trans ?_
  dsimp only
  simp only [← EReal.coe_add]
  exact congrArg _ ((conv x0 x1 x2 x3 x4).dx_eq t.val d.val ht)

/-- The gradient of the weights, as the reference returns it. -/
theorem out_dw : val_main_v147 (F := Ideal) x0 x1 x2 x3 x4 = of2 (m := 4) (n := 3072) (φ := .f32) (conv x0 x1 x2 x3 x4).dw := by
  refine eq_of2 fun k d => ?_
  have e0 := pad_col zero_at pads_S3072x1_S3072x4_000_300 h_S_ (s108 R) d k
  have e1 := pad_col zero_at pads_S3072x1_S3072x4_000_210 h_S_ (s118 R) d k
  have e2 := pad_col zero_at pads_S3072x1_S3072x4_000_120 h_S_ (s129 R) d k
  have e3 := pad_col zero_at pads_S3072x1_S3072x4_000_030 h_S_ (s140 R) d k
  rw [val_main_v147_apply, show idx_main_v147 (ix2 k d) = ix2 d k from funext fun a => match a with
    | ⟨0, _⟩ => rfl
    | ⟨1, _⟩ => rfl, val_main_v142_apply, val_main_v131_apply, val_main_v120_apply]
  refine (congrArg₂ (· + ·) (congrArg₂ (· + ·) (congrArg₂ (· + ·) e0 e1) e2) e3).trans ?_
  dsimp only
  simp only [← EReal.coe_add]
  exact congrArg _ ((conv x0 x1 x2 x3 x4).dw_eq k.val d.val k.isLt)

end Cert.GdnConvReferenceIdeal.Stages

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_finite_ffn
public import proofs.«01_k».proof.Proof.Gen.GdnProj
public import proofs.«01_k».proof.Proof.Gen.GdnProj.Frame
public import proofs.«01_k».proof.Proof.Gen.GdnProjIdeal
public import proofs.«01_k».proof.Proof.Gen.GdnProjIdeal.Frame
public import proofs.«01_k».proof.Proof.Gen.GdnProjReferenceIdeal
public import proofs.«01_k».proof.Proof.Gen.GdnProjReferenceIdeal.Run
public import proofs.«01_k».proof.Proof.Gen.GdnProjReferenceIdeal.Read
public import proofs.«01_k».proof.Proof.Gen.MlaProj
public import proofs.«01_k».proof.Proof.Gen.MlaProj.Frame
public import proofs.«01_k».proof.Proof.Gen.MlaProjIdeal
public import proofs.«01_k».proof.Proof.Gen.MlaProjIdeal.Frame
public import proofs.«01_k».proof.Proof.Gen.MlaProjReferenceIdeal
public import proofs.«01_k».proof.Proof.Gen.MlaProjReferenceIdeal.Run
public import proofs.«01_k».proof.Proof.Gen.MlaProjReferenceIdeal.Read
public import proofs.«01_k».proof.Proof.Gen.MlaUp
public import proofs.«01_k».proof.Proof.Gen.MlaUp.Frame
public import proofs.«01_k».proof.Proof.Gen.MlaUpIdeal
public import proofs.«01_k».proof.Proof.Gen.MlaUpIdeal.Frame
public import proofs.«01_k».proof.Proof.Gen.MlaUpReferenceIdeal
public import proofs.«01_k».proof.Proof.Gen.MlaUpReferenceIdeal.Run
public import proofs.«01_k».proof.Proof.Gen.MlaUpReferenceIdeal.Read
public import proofs.«01_k».proof.Proof.Gen.GdnConv
public import proofs.«01_k».proof.Proof.Gen.GdnConv.Frame
public import proofs.«01_k».proof.Proof.Gen.GdnConvIdeal
public import proofs.«01_k».proof.Proof.Gen.GdnConvIdeal.Frame
public import proofs.«01_k».proof.Proof.Gen.GdnConvIdeal.Value
public import proofs.«01_k».proof.Proof.Gen.GdnConvReferenceIdeal
public import proofs.«01_k».proof.Proof.Gen.GdnConvReferenceIdeal.Run
public import proofs.«01_k».proof.Proof.Gen.GdnConvReferenceIdeal.Read
public import proofs.«01_k».proof.Proof.Gen.Pre_finite_gdn_conv
public import Idealize.ShloMosaic.Adequacy
public import Idealize.ShloMosaic.Init
public import proofs.«01_k».proof.Proof.AttnFinal
public import proofs.«01_k».proof.Proof.AttnPre
public import proofs.«01_k».proof.Proof.AttnWords
public import proofs.«01_k».proof.Proof.FfnRun
public import proofs.«01_k».proof.Proof.FfnResult
public import proofs.«01_k».proof.Proof.FfnReference
public import proofs.«01_k».proof.Proof.GdnProjRun
public import proofs.«01_k».proof.Proof.GdnProjResult
public import proofs.«01_k».proof.Proof.GdnProjReference
public import proofs.«01_k».proof.Proof.MlaProjRun
public import proofs.«01_k».proof.Proof.MlaProjResult
public import proofs.«01_k».proof.Proof.MlaProjReference
public import proofs.«01_k».proof.Proof.MlaUpRun
public import proofs.«01_k».proof.Proof.MlaUpResult
public import proofs.«01_k».proof.Proof.MlaUpReference
public import proofs.«01_k».proof.Proof.ConvRegion
public import proofs.«01_k».proof.Proof.ConvGradient
public import Idealize.ShloMosaic.Lib.Quiescent

/-! # The certificate

    For the attention's backward call, for the six calls of the feed-forward layer, and for the eighteen calls of the
    projections of the delta layer and of the attention layer: the frames of the kernel, of its idealization and of the
    reference; what the idealization replaces; and the value: over the extended reals, the kernel's results are the
    reference's, for the first two with finite arguments and for the projections with any. -/

@[expose] public section

set_option maxRecDepth 16384

noncomputable section

namespace Cert.Proof

open Idealize.ShloMosaic Idealize.SL.Sem
open Idealize.ShloMosaic.TcCoe
open Cert.KernelIdeal.Attn (args dats)

attribute [local instance] Cert.Kernel.Gen.facts Cert.KernelIdeal.Gen.facts Cert.ReferenceIdeal.Gen.facts Cert.Pre_finite.Gen.facts
  Cert.Ffn.Gen.facts Cert.FfnIdeal.Gen.facts Cert.FfnReferenceIdeal.Gen.facts Cert.Pre_finite_ffn.Gen.facts
  Cert.GdnProj.Gen.facts Cert.GdnProjIdeal.Gen.facts Cert.GdnProjReferenceIdeal.Gen.facts
  Cert.MlaProj.Gen.facts Cert.MlaProjIdeal.Gen.facts Cert.MlaProjReferenceIdeal.Gen.facts
  Cert.MlaUp.Gen.facts Cert.MlaUpIdeal.Gen.facts Cert.MlaUpReferenceIdeal.Gen.facts
  Cert.GdnConv.Gen.facts Cert.GdnConvIdeal.Gen.facts Cert.GdnConvReferenceIdeal.Gen.facts Cert.Pre_finite_gdn_conv.Gen.facts

/-- The host reference leaves its arguments unchanged, and declares no semaphore. -/
theorem reference_frame : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

/-- The precondition says that the six arrays hold real numbers only. -/
theorem reals {m : (ℓ : Loc Cert.KernelIdeal.nD Cert.KernelIdeal.τ Cert.KernelIdeal.sig) → Buf (Elt Ideal) ℓ}
    (h : Cert.Pre_KernelIdeal_finite m) (c : Dev Cert.KernelIdeal.nD) : (args m c).Reals :=
  ⟨Cert.Attn.finite_of_ones _ (h c).1, Cert.Attn.finite_of_ones _ (h c).2.1, Cert.Attn.finite_of_ones _ (h c).2.2.1,
    Cert.Attn.finite_of_ones _ (h c).2.2.2.1, Cert.Attn.finite_of_ones _ (h c).2.2.2.2.1, Cert.Attn.finite_of_ones _ (h c).2.2.2.2.2⟩

/-- A function of six arguments takes equal ones to equal values. -/
theorem congr_six {A B C D E F R : Type} (f : A → B → C → D → E → F → R) {a a' : A} {b b' : B} {c c' : C} {d d' : D} {e e' : E} {x x' : F}
    (ha : a = a') (hb : b = b') (hc : c = c') (hd : d = d') (he : e = e') (hx : x = x') : f a b c d e x = f a' b' c' d' e' x' := by
  subst ha hb hc hd he hx; rfl
/-- A function of five arguments takes equal ones to equal values. -/
theorem congr_five {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he; rfl

set_option maxHeartbeats 4000000 in
/-- The kernel's five results are the reference's. -/
theorem values : Cert.algebraic_KernelIdeal_ReferenceIdeal_pre_finite := by
  intro m g m' g' hpre hargs
  refine ⟨fun c => (dats m 0 c).arrAt 7 Cert.KernelIdeal.cfg0.N, fun c => (dats m 0 c).arrAt 8 Cert.KernelIdeal.cfg0.N,
    fun c => (dats m 0 c).arrAt 9 Cert.KernelIdeal.cfg0.N, fun c => (dats m 0 c).arrAt 10 Cert.KernelIdeal.cfg0.N,
    fun c => (dats m 0 c).arrAt 11 Cert.KernelIdeal.cfg0.N, ?_, ?_⟩
  · refine (θ_run Cert.KernelIdeal.defs _ _).mono (fun r h c => ?_) (θ_run_and (Cert.KernelIdeal.Attn.run_main (F := Ideal) m g) (Cert.KernelIdeal.Attn.frame (F := Ideal) m g))
    exact ⟨(h.1 c).1 7, (h.1 c).1 8, (h.1 c).1 9, (h.1 c).1 10, (h.1 c).1 11, h.2.1 c⟩
  · refine (θ_run Cert.ReferenceIdeal.defs _ _).mono (fun r h c => ?_) (Cert.ReferenceIdeal.Value.run (F := Ideal) m' g')
    obtain ⟨a0, a1, a2, a3, a4, a5⟩ := hargs c
    have ha := reals hpre c
    obtain ⟨r0, r1, r2, r3, r4, rest⟩ := h c
    refine ⟨r0.trans ?_, r1.trans ?_, r2.trans ?_, r3.trans ?_, r4.trans ?_, rest⟩
    · exact (Cert.ReferenceIdeal.Read.val_main_v70_eq m' c).trans
        ((congr_six (Cert.ReferenceIdeal.Read.val_main_v70 (F := Ideal)) a0 a1 a2 a3 a4 a5).trans (Cert.KernelIdeal.Attn.final7 m c ha).symm)
    · exact (Cert.ReferenceIdeal.Read.val_main_v72_eq m' c).trans
        ((congr_six (Cert.ReferenceIdeal.Read.val_main_v72 (F := Ideal)) a0 a1 a2 a3 a4 a5).trans (Cert.KernelIdeal.Attn.final8 m c ha).symm)
    · exact (Cert.ReferenceIdeal.Read.val_main_v73_eq m' c).trans
        ((congr_six (Cert.ReferenceIdeal.Read.val_main_v73 (F := Ideal)) a0 a1 a2 a3 a4 a5).trans (Cert.KernelIdeal.Attn.final9 m c ha).symm)
    · exact (Cert.ReferenceIdeal.Read.val_main_v74_eq m' c).trans
        ((congr_five (Cert.ReferenceIdeal.Read.val_main_v74 (F := Ideal)) a0 a1 a2 a3 a5).trans (Cert.KernelIdeal.Attn.final10 m c ha).symm)
    · exact (Cert.ReferenceIdeal.Read.val_main_v76_eq m' c).trans
        ((congr_six (Cert.ReferenceIdeal.Read.val_main_v76 (F := Ideal)) a0 a1 a2 a3 a4 a5).trans (Cert.KernelIdeal.Attn.final11 m c ha).symm)

/-! ## The feed-forward layer -/

/-- The layer's host reference leaves its arguments unchanged, and declares no semaphore. -/
theorem ffn_reference_frame : Cert.quiescent_FfnReferenceIdeal := fun m g _ =>
  (θ_run Cert.FfnReferenceIdeal.defs _ _).mono
    (fun r h => ⟨fun c => (h c).2.2.2.2.2, sem_eq_zero_of_no_sems (by decide) r.2⟩)
    (Cert.FfnReferenceIdeal.Value.run (F := Ideal) m g)

/-- The precondition says that the layer's five arrays hold real numbers only. -/
theorem ffn_reals {m : (ℓ : Loc Cert.FfnIdeal.nD Cert.FfnIdeal.τ Cert.FfnIdeal.sig) → Buf (Elt Ideal) ℓ}
    (h : Cert.Pre_FfnIdeal_finite_ffn m) (c : Dev Cert.FfnIdeal.nD) : Cert.FfnIdeal.Result.Reals m c :=
  ⟨Cert.Attn.finite_of_ones _ (h c).1, Cert.Attn.finite_of_ones _ (h c).2.1, Cert.Attn.finite_of_ones _ (h c).2.2.1,
    Cert.Attn.finite_of_ones _ (h c).2.2.2.1, Cert.Attn.finite_of_ones _ (h c).2.2.2.2⟩

/-- A function of four arguments takes equal ones to equal values. -/
theorem congr_four {A B C D R : Type} (f : A → B → C → D → R) {a a' : A} {b b' : B} {c c' : C} {d d' : D}
    (ha : a = a') (hb : b = b') (hc : c = c') (hd : d = d') : f a b c d = f a' b' c' d' := by
  subst ha hb hc hd; rfl

set_option maxHeartbeats 4000000 in
/-- The layer's five results are the reference's. -/
theorem ffn_values : Cert.algebraic_FfnIdeal_FfnReferenceIdeal_pre_finite_ffn := by
  intro m g m' g' hpre hargs
  refine ⟨fun c => Cert.FfnIdeal.Gen.W7 m g c (Proc.devRef .tc Cert.FfnIdeal.main_v13), fun c => Cert.FfnIdeal.Gen.W7 m g c (Proc.devRef .tc Cert.FfnIdeal.main_v17),
    fun c => Cert.FfnIdeal.Gen.W7 m g c (Proc.devRef .tc Cert.FfnIdeal.main_v16_0), fun c => Cert.FfnIdeal.Gen.W7 m g c (Proc.devRef .tc Cert.FfnIdeal.main_v16_1),
    fun c => Cert.FfnIdeal.Gen.W7 m g c (Proc.devRef .tc Cert.FfnIdeal.main_v15), ?_, ?_⟩
  · refine (θ_run Cert.FfnIdeal.defs _ _).mono (fun r h c => ?_) (θ_run_and (Cert.FfnIdeal.Run.results (F := Ideal) m g) (Cert.FfnIdeal.Gen.frame (F := Ideal) m g))
    obtain ⟨r0, r1, r2, r3, r4⟩ := h.1 c
    exact ⟨r0, r1, r2, r3, r4, h.2.1 c⟩
  · refine (θ_run Cert.FfnReferenceIdeal.defs _ _).mono (fun r h c => ?_) (Cert.FfnReferenceIdeal.Value.run (F := Ideal) m' g')
    obtain ⟨a0, a1, a2, a3, a4⟩ := hargs c
    have ha := ffn_reals hpre c
    have hr : Cert.FfnReferenceIdeal.Stages.Reals (Cert.FfnIdeal.Result.x0 m c) (Cert.FfnIdeal.Result.x1 m c) (Cert.FfnIdeal.Result.x2 m c)
      (Cert.FfnIdeal.Result.x3 m c) (Cert.FfnIdeal.Result.x4 m c) := ⟨ha.h0, ha.h1, ha.h2, ha.h3, ha.h4⟩
    obtain ⟨r0, r1, r2, r3, r4, rest⟩ := h c
    refine ⟨r0.trans ?_, r1.trans ?_, r2.trans ?_, r3.trans ?_, r4.trans ?_, rest⟩
    · exact (Cert.FfnReferenceIdeal.Read.val_main_v18_eq _ _ _ _).trans ((congr_four (Cert.FfnReferenceIdeal.Read.val_main_v18 (F := Ideal)) a0 a1 a2 a3).trans
        ((Cert.FfnReferenceIdeal.Stages.out_y hr).trans (Cert.FfnIdeal.Result.at7_v13 g ha).symm))
    · exact (Cert.FfnReferenceIdeal.Read.val_main_v19_eq _ _ _ _ _).trans ((congr_five (Cert.FfnReferenceIdeal.Read.val_main_v19 (F := Ideal)) a0 a1 a2 a3 a4).trans
        ((Cert.FfnReferenceIdeal.Stages.out_dh hr).trans (Cert.FfnIdeal.Result.at7_v17 g ha).symm))
    · exact (Cert.FfnReferenceIdeal.Read.val_main_v22_eq _ _ _ _ _).trans ((congr_five (Cert.FfnReferenceIdeal.Read.val_main_v22 (F := Ideal)) a0 a1 a2 a3 a4).trans
        ((Cert.FfnReferenceIdeal.Stages.out_gate hr).trans (Cert.FfnIdeal.Result.at7_v16_0 g ha).symm))
    · exact (Cert.FfnReferenceIdeal.Read.val_main_v25_eq _ _ _ _).trans ((congr_four (Cert.FfnReferenceIdeal.Read.val_main_v25 (F := Ideal)) a0 a1 a3 a4).trans
        ((Cert.FfnReferenceIdeal.Stages.out_up hr).trans (Cert.FfnIdeal.Result.at7_v16_1 g ha).symm))
    · exact (Cert.FfnReferenceIdeal.Read.val_main_v27_eq _ _ _ _).trans ((congr_four (Cert.FfnReferenceIdeal.Read.val_main_v27 (F := Ideal)) a0 a1 a2 a4).trans
        ((Cert.FfnReferenceIdeal.Stages.out_down hr).trans (Cert.FfnIdeal.Result.at7_v15 g ha).symm))

/-! ## The projections -/

/-- A function of two arguments takes equal ones to equal values. -/
theorem congr_two {A B R : Type} (f : A → B → R) {a a' : A} {b b' : B} (ha : a = a') (hb : b = b') : f a b = f a' b' := by
  subst ha hb; rfl

/-- The host reference of the delta layer's projections leaves its arguments unchanged, and declares no semaphore. -/
theorem gdn_proj_reference_frame : Cert.quiescent_GdnProjReferenceIdeal := fun m g _ =>
  (θ_run Cert.GdnProjReferenceIdeal.defs _ _).mono
    (fun r h => ⟨fun c => (h c).2.2.2.2.2.2, sem_eq_zero_of_no_sems (by decide) r.2⟩)
    (Cert.GdnProjReferenceIdeal.Value.run (F := Ideal) m g)

set_option maxHeartbeats 4000000 in
/-- The six results of the delta layer's projections are the reference's. -/
theorem gdn_proj_values : Cert.algebraic_GdnProjIdeal_GdnProjReferenceIdeal := by
  intro m g m' g' _ hargs
  refine ⟨fun c => Cert.GdnProjIdeal.Gen.W7 m g c (Proc.devRef .tc Cert.GdnProjIdeal.main_v10),
    fun c => Cert.GdnProjIdeal.Gen.W7 m g c (Proc.devRef .tc Cert.GdnProjIdeal.main_v11),
    fun c => Cert.GdnProjIdeal.Gen.W7 m g c (Proc.devRef .tc Cert.GdnProjIdeal.main_v12),
    fun c => Cert.GdnProjIdeal.Gen.W7 m g c (Proc.devRef .tc Cert.GdnProjIdeal.main_v13),
    fun c => Cert.GdnProjIdeal.Gen.W7 m g c (Proc.devRef .tc Cert.GdnProjIdeal.main_v14),
    fun c => Cert.GdnProjIdeal.Gen.W7 m g c (Proc.devRef .tc Cert.GdnProjIdeal.main_v15), ?_, ?_⟩
  · refine (θ_run Cert.GdnProjIdeal.defs _ _).mono (fun r h c => ?_) (θ_run_and (Cert.GdnProjIdeal.Run.results (F := Ideal) m g) (Cert.GdnProjIdeal.Gen.frame (F := Ideal) m g))
    obtain ⟨r0, r1, r2, r3, r4, r5⟩ := h.1 c
    exact ⟨r0, r1, r2, r3, r4, r5, h.2.1 c⟩
  · refine (θ_run Cert.GdnProjReferenceIdeal.defs _ _).mono (fun r h c => ?_) (Cert.GdnProjReferenceIdeal.Value.run (F := Ideal) m' g')
    obtain ⟨a0, a1, a2, a3, a4, a5⟩ := hargs c
    obtain ⟨r0, r1, r2, r3, r4, r5, rest⟩ := h c
    refine ⟨r0.trans ?_, r1.trans ?_, r2.trans ?_, r3.trans ?_, r4.trans ?_, r5.trans ?_, rest⟩
    · exact (Cert.GdnProjReferenceIdeal.Read.val_main_v4_eq _ _).trans ((congr_two (Cert.GdnProjReferenceIdeal.Read.val_main_v4 (F := Ideal)) a0 a1).trans
        (Cert.GdnProjReferenceIdeal.Stages.res0.trans (Cert.GdnProjIdeal.Result.at7_r0 m g c).symm))
    · exact (Cert.GdnProjReferenceIdeal.Read.val_main_v5_eq _ _).trans ((congr_two (Cert.GdnProjReferenceIdeal.Read.val_main_v5 (F := Ideal)) a0 a2).trans
        (Cert.GdnProjReferenceIdeal.Stages.res1.trans (Cert.GdnProjIdeal.Result.at7_r1 m g c).symm))
    · exact (Cert.GdnProjReferenceIdeal.Read.val_main_v6_eq _ _).trans ((congr_two (Cert.GdnProjReferenceIdeal.Read.val_main_v6 (F := Ideal)) a1 a2).trans
        (Cert.GdnProjReferenceIdeal.Stages.res2.trans (Cert.GdnProjIdeal.Result.at7_r2 m g c).symm))
    · exact (Cert.GdnProjReferenceIdeal.Read.val_main_v11_eq _ _).trans ((congr_two (Cert.GdnProjReferenceIdeal.Read.val_main_v11 (F := Ideal)) a3 a4).trans
        (Cert.GdnProjReferenceIdeal.Stages.res3.trans (Cert.GdnProjIdeal.Result.at7_r3 m g c).symm))
    · exact (Cert.GdnProjReferenceIdeal.Read.val_main_v12_eq _ _).trans ((congr_two (Cert.GdnProjReferenceIdeal.Read.val_main_v12 (F := Ideal)) a3 a5).trans
        (Cert.GdnProjReferenceIdeal.Stages.res4.trans (Cert.GdnProjIdeal.Result.at7_r4 m g c).symm))
    · exact (Cert.GdnProjReferenceIdeal.Read.val_main_v13_eq _ _).trans ((congr_two (Cert.GdnProjReferenceIdeal.Read.val_main_v13 (F := Ideal)) a4 a5).trans
        (Cert.GdnProjReferenceIdeal.Stages.res5.trans (Cert.GdnProjIdeal.Result.at7_r5 m g c).symm))

/-- The host reference of the attention layer's projections leaves its arguments unchanged, and declares no semaphore. -/
theorem mla_proj_reference_frame : Cert.quiescent_MlaProjReferenceIdeal := fun m g _ =>
  (θ_run Cert.MlaProjReferenceIdeal.defs _ _).mono
    (fun r h => ⟨fun c => (h c).2.2.2.2.2.2, sem_eq_zero_of_no_sems (by decide) r.2⟩)
    (Cert.MlaProjReferenceIdeal.Value.run (F := Ideal) m g)

set_option maxHeartbeats 4000000 in
/-- The six results of the attention layer's projections are the reference's. -/
theorem mla_proj_values : Cert.algebraic_MlaProjIdeal_MlaProjReferenceIdeal := by
  intro m g m' g' _ hargs
  refine ⟨fun c => Cert.MlaProjIdeal.Gen.W7 m g c (Proc.devRef .tc Cert.MlaProjIdeal.main_v10),
    fun c => Cert.MlaProjIdeal.Gen.W7 m g c (Proc.devRef .tc Cert.MlaProjIdeal.main_v11),
    fun c => Cert.MlaProjIdeal.Gen.W7 m g c (Proc.devRef .tc Cert.MlaProjIdeal.main_v12),
    fun c => Cert.MlaProjIdeal.Gen.W7 m g c (Proc.devRef .tc Cert.MlaProjIdeal.main_v13),
    fun c => Cert.MlaProjIdeal.Gen.W7 m g c (Proc.devRef .tc Cert.MlaProjIdeal.main_v14),
    fun c => Cert.MlaProjIdeal.Gen.W7 m g c (Proc.devRef .tc Cert.MlaProjIdeal.main_v15), ?_, ?_⟩
  · refine (θ_run Cert.MlaProjIdeal.defs _ _).mono (fun r h c => ?_) (θ_run_and (Cert.MlaProjIdeal.Run.results (F := Ideal) m g) (Cert.MlaProjIdeal.Gen.frame (F := Ideal) m g))
    obtain ⟨r0, r1, r2, r3, r4, r5⟩ := h.1 c
    exact ⟨r0, r1, r2, r3, r4, r5, h.2.1 c⟩
  · refine (θ_run Cert.MlaProjReferenceIdeal.defs _ _).mono (fun r h c => ?_) (Cert.MlaProjReferenceIdeal.Value.run (F := Ideal) m' g')
    obtain ⟨a0, a1, a2, a3, a4, a5⟩ := hargs c
    obtain ⟨r0, r1, r2, r3, r4, r5, rest⟩ := h c
    refine ⟨r0.trans ?_, r1.trans ?_, r2.trans ?_, r3.trans ?_, r4.trans ?_, r5.trans ?_, rest⟩
    · exact (Cert.MlaProjReferenceIdeal.Read.val_main_v4_eq _ _).trans ((congr_two (Cert.MlaProjReferenceIdeal.Read.val_main_v4 (F := Ideal)) a0 a1).trans
        (Cert.MlaProjReferenceIdeal.Stages.res0.trans (Cert.MlaProjIdeal.Result.at7_r0 m g c).symm))
    · exact (Cert.MlaProjReferenceIdeal.Read.val_main_v5_eq _ _).trans ((congr_two (Cert.MlaProjReferenceIdeal.Read.val_main_v5 (F := Ideal)) a0 a2).trans
        (Cert.MlaProjReferenceIdeal.Stages.res1.trans (Cert.MlaProjIdeal.Result.at7_r1 m g c).symm))
    · exact (Cert.MlaProjReferenceIdeal.Read.val_main_v6_eq _ _).trans ((congr_two (Cert.MlaProjReferenceIdeal.Read.val_main_v6 (F := Ideal)) a1 a2).trans
        (Cert.MlaProjReferenceIdeal.Stages.res2.trans (Cert.MlaProjIdeal.Result.at7_r2 m g c).symm))
    · exact (Cert.MlaProjReferenceIdeal.Read.val_main_v11_eq _ _).trans ((congr_two (Cert.MlaProjReferenceIdeal.Read.val_main_v11 (F := Ideal)) a3 a4).trans
        (Cert.MlaProjReferenceIdeal.Stages.res3.trans (Cert.MlaProjIdeal.Result.at7_r3 m g c).symm))
    · exact (Cert.MlaProjReferenceIdeal.Read.val_main_v12_eq _ _).trans ((congr_two (Cert.MlaProjReferenceIdeal.Read.val_main_v12 (F := Ideal)) a3 a5).trans
        (Cert.MlaProjReferenceIdeal.Stages.res4.trans (Cert.MlaProjIdeal.Result.at7_r4 m g c).symm))
    · exact (Cert.MlaProjReferenceIdeal.Read.val_main_v14_eq _ _).trans ((congr_two (Cert.MlaProjReferenceIdeal.Read.val_main_v14 (F := Ideal)) a4 a5).trans
        (Cert.MlaProjReferenceIdeal.Stages.res5.trans (Cert.MlaProjIdeal.Result.at7_r5 m g c).symm))

/-- The host reference of the attention layer's up projections leaves its arguments unchanged, and declares no semaphore. -/
theorem mla_up_reference_frame : Cert.quiescent_MlaUpReferenceIdeal := fun m g _ =>
  (θ_run Cert.MlaUpReferenceIdeal.defs _ _).mono
    (fun r h => ⟨fun c => (h c).2.2.2.2.2.2, sem_eq_zero_of_no_sems (by decide) r.2⟩)
    (Cert.MlaUpReferenceIdeal.Value.run (F := Ideal) m g)

set_option maxHeartbeats 4000000 in
/-- The six results of the attention layer's up projections are the reference's. -/
theorem mla_up_values : Cert.algebraic_MlaUpIdeal_MlaUpReferenceIdeal := by
  intro m g m' g' _ hargs
  refine ⟨fun c => Cert.MlaUpIdeal.Gen.W7 m g c (Proc.devRef .tc Cert.MlaUpIdeal.main_v9),
    fun c => Cert.MlaUpIdeal.Gen.W7 m g c (Proc.devRef .tc Cert.MlaUpIdeal.main_v10),
    fun c => Cert.MlaUpIdeal.Gen.W7 m g c (Proc.devRef .tc Cert.MlaUpIdeal.main_v11),
    fun c => Cert.MlaUpIdeal.Gen.W7 m g c (Proc.devRef .tc Cert.MlaUpIdeal.main_v12),
    fun c => Cert.MlaUpIdeal.Gen.W7 m g c (Proc.devRef .tc Cert.MlaUpIdeal.main_v13),
    fun c => Cert.MlaUpIdeal.Gen.W7 m g c (Proc.devRef .tc Cert.MlaUpIdeal.main_v14), ?_, ?_⟩
  · refine (θ_run Cert.MlaUpIdeal.defs _ _).mono (fun r h c => ?_) (θ_run_and (Cert.MlaUpIdeal.Run.results (F := Ideal) m g) (Cert.MlaUpIdeal.Gen.frame (F := Ideal) m g))
    obtain ⟨r0, r1, r2, r3, r4, r5⟩ := h.1 c
    exact ⟨r0, r1, r2, r3, r4, r5, h.2.1 c⟩
  · refine (θ_run Cert.MlaUpReferenceIdeal.defs _ _).mono (fun r h c => ?_) (Cert.MlaUpReferenceIdeal.Value.run (F := Ideal) m' g')
    obtain ⟨a0, a1, a2, a3, a4, a5⟩ := hargs c
    obtain ⟨r0, r1, r2, r3, r4, r5, rest⟩ := h c
    refine ⟨r0.trans ?_, r1.trans ?_, r2.trans ?_, r3.trans ?_, r4.trans ?_, r5.trans ?_, rest⟩
    · exact (Cert.MlaUpReferenceIdeal.Read.val_main_v4_eq _ _).trans ((congr_two (Cert.MlaUpReferenceIdeal.Read.val_main_v4 (F := Ideal)) a0 a1).trans
        (Cert.MlaUpReferenceIdeal.Stages.res0.trans (Cert.MlaUpIdeal.Result.at7_r0 m g c).symm))
    · exact (Cert.MlaUpReferenceIdeal.Read.val_main_v5_eq _ _).trans ((congr_two (Cert.MlaUpReferenceIdeal.Read.val_main_v5 (F := Ideal)) a0 a2).trans
        (Cert.MlaUpReferenceIdeal.Stages.res1.trans (Cert.MlaUpIdeal.Result.at7_r1 m g c).symm))
    · exact (Cert.MlaUpReferenceIdeal.Read.val_main_v6_eq _ _).trans ((congr_two (Cert.MlaUpReferenceIdeal.Read.val_main_v6 (F := Ideal)) a1 a2).trans
        (Cert.MlaUpReferenceIdeal.Stages.res2.trans (Cert.MlaUpIdeal.Result.at7_r2 m g c).symm))
    · exact (Cert.MlaUpReferenceIdeal.Read.val_main_v12_eq _ _).trans ((congr_two (Cert.MlaUpReferenceIdeal.Read.val_main_v12 (F := Ideal)) a3 a4).trans
        (Cert.MlaUpReferenceIdeal.Stages.res3.trans (Cert.MlaUpIdeal.Result.at7_r3 m g c).symm))
    · exact (Cert.MlaUpReferenceIdeal.Read.val_main_v13_eq _ _).trans ((congr_two (Cert.MlaUpReferenceIdeal.Read.val_main_v13 (F := Ideal)) a3 a5).trans
        (Cert.MlaUpReferenceIdeal.Stages.res4.trans (Cert.MlaUpIdeal.Result.at7_r4 m g c).symm))
    · exact (Cert.MlaUpReferenceIdeal.Read.val_main_v14_eq _ _).trans ((congr_two (Cert.MlaUpReferenceIdeal.Read.val_main_v14 (F := Ideal)) a4 a5).trans
        (Cert.MlaUpReferenceIdeal.Stages.res5.trans (Cert.MlaUpIdeal.Result.at7_r5 m g c).symm))

/-! ## The delta layer's convolution -/

/-- The convolution's host reference leaves its arguments unchanged, and declares no semaphore. -/
theorem gdn_conv_reference_frame : Cert.quiescent_GdnConvReferenceIdeal := fun m g _ =>
  (θ_run Cert.GdnConvReferenceIdeal.defs _ _).mono
    (fun r h => ⟨fun c => (h c).2.2, sem_eq_zero_of_no_sems (by decide) r.2⟩)
    (Cert.GdnConvReferenceIdeal.Value.run (F := Ideal) m g)

section
open Cert.GdnConvIdeal.Result

/-- The precondition says that the convolution's five arrays hold real numbers only. -/
theorem gdn_conv_reals {m : (ℓ : Loc Cert.GdnConvIdeal.nD Cert.GdnConvIdeal.τ Cert.GdnConvIdeal.sig) → Buf (Elt Ideal) ℓ}
    (h : Cert.Pre_GdnConvIdeal_finite_gdn_conv m) (c : Dev Cert.GdnConvIdeal.nD) : Cert.ConvMath.Reals (x0 m c) (x1 m c) (x2 m c) (x3 m c) (x4 m c) :=
  ⟨Cert.Attn.finite_of_ones _ (h c).1, Cert.Attn.finite_of_ones _ (h c).2.1, Cert.Attn.finite_of_ones _ (h c).2.2.1,
    Cert.Attn.finite_of_ones _ (h c).2.2.2.1, Cert.Attn.finite_of_ones _ (h c).2.2.2.2⟩

set_option maxHeartbeats 4000000 in
/-- The convolution's two gradients are the reference's. -/
theorem gdn_conv_values : Cert.algebraic_GdnConvIdeal_GdnConvReferenceIdeal_pre_finite_gdn_conv := by
  intro m g m' g' hpre hargs
  refine ⟨fun c => (Cert.GdnConvIdeal.Gen.dats m 0 c).arrAt 3 Cert.GdnConvIdeal.cfg0.N,
    fun c => (Cert.GdnConvIdeal.Gen.dats m 0 c).arrAt 4 Cert.GdnConvIdeal.cfg0.N, ?_, ?_⟩
  · exact Cert.GdnConvIdeal.Value.run_blocks (F := Ideal) m g
  · refine (θ_run Cert.GdnConvReferenceIdeal.defs _ _).mono (fun r h c => ?_) (Cert.GdnConvReferenceIdeal.Value.run (F := Ideal) m' g')
    obtain ⟨a0, a1, a2, a3, a4⟩ := hargs c
    have ha := gdn_conv_reals hpre c
    obtain ⟨r0, r1, rest⟩ := h c
    refine ⟨r0.trans ?_, r1.trans ?_, rest⟩
    · exact (Cert.GdnConvReferenceIdeal.Read.val_main_v146_eq _).trans ((congr_five (Cert.GdnConvReferenceIdeal.Read.val_main_v146 (F := Ideal)) a0 a1 a2 a3 a4).trans
        ((Cert.GdnConvReferenceIdeal.Stages.out_dx ha).trans (final3 (in_x ha) (in_w ha) (in_z ha)).symm))
    · exact (Cert.GdnConvReferenceIdeal.Read.val_main_v147_eq _).trans ((congr_five (Cert.GdnConvReferenceIdeal.Read.val_main_v147 (F := Ideal)) a0 a1 a2 a3 a4).trans
        ((Cert.GdnConvReferenceIdeal.Stages.out_dw ha).trans (final4 (in_x ha) (in_w ha) (in_z ha)).symm))

end

/-- The certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.GdnProj.Gen.facts, Cert.GdnProjIdeal.Gen.facts, Cert.GdnProjReferenceIdeal.Gen.facts,
  Cert.MlaProj.Gen.facts, Cert.MlaProjIdeal.Gen.facts, Cert.MlaProjReferenceIdeal.Gen.facts,
  Cert.MlaUp.Gen.facts, Cert.MlaUpIdeal.Gen.facts, Cert.MlaUpReferenceIdeal.Gen.facts,
  Cert.GdnConv.Gen.facts, Cert.GdnConvIdeal.Gen.facts, Cert.GdnConvReferenceIdeal.Gen.facts,
  Cert.Pre_finite.Gen.facts, Cert.Pre_finite_ffn.Gen.facts, Cert.Pre_finite_gdn_conv.Gen.facts,
  Cert.Attn.kernel_frame,
  fun m ρ _ => Cert.KernelIdeal.Attn.frame m ρ,
  fun m ρ _ => Cert.KernelIdeal.Attn.frame m ρ,
  reference_frame,
  fun m ρ _ => reference_frame m ρ trivial,
  fun m ρ _ => Cert.Ffn.Gen.frame m ρ,
  fun m ρ _ => Cert.FfnIdeal.Gen.frame m ρ,
  fun m ρ _ => Cert.FfnIdeal.Gen.frame m ρ,
  ffn_reference_frame,
  fun m ρ _ => ffn_reference_frame m ρ trivial,
  fun m ρ _ => Cert.GdnProj.Gen.frame m ρ,
  fun m ρ _ => Cert.GdnProjIdeal.Gen.frame m ρ,
  gdn_proj_reference_frame,
  fun m ρ _ => Cert.MlaProj.Gen.frame m ρ,
  fun m ρ _ => Cert.MlaProjIdeal.Gen.frame m ρ,
  mla_proj_reference_frame,
  fun m ρ _ => Cert.MlaUp.Gen.frame m ρ,
  fun m ρ _ => Cert.MlaUpIdeal.Gen.frame m ρ,
  mla_up_reference_frame,
  fun m ρ _ => Cert.GdnConv.Gen.frame m ρ,
  fun m ρ _ => Cert.GdnConvIdeal.Gen.frame m ρ,
  fun m ρ _ => Cert.GdnConvIdeal.Gen.frame m ρ,
  gdn_conv_reference_frame,
  fun m ρ _ => gdn_conv_reference_frame m ρ trivial,
  IdealRules.named_const.statement Cert.KernelIdeal.κ "mask" .f32 0xF149F2CA#32 ⊥ rfl,
  values,
  trivial,
  ffn_values,
  trivial,
  gdn_proj_values,
  trivial,
  mla_proj_values,
  trivial,
  mla_up_values,
  trivial, gdn_conv_values⟩

end Cert.Proof

end
